-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5))) = (fun _ => 1#1)

def Pre_InpKernel (m : (ℓ : Loc Cert.InpKernel.nD Cert.InpKernel.τ Cert.InpKernel.sig) → Buf (Elt Bits) ℓ) : Prop :=
  True

def Pre_InpKernelIdeal (m : (ℓ : Loc Cert.InpKernelIdeal.nD Cert.InpKernelIdeal.τ Cert.InpKernelIdeal.sig) → Buf (Elt Ideal) ℓ) : Prop :=
  True

def Pre_InpKernelIdeal_inp_finite [hPre_inp_finite : Cert.Pre_inp_finite.Facts] (m : (ℓ : Loc Cert.InpKernelIdeal.nD Cert.InpKernelIdeal.τ Cert.InpKernelIdeal.sig) → Buf (Elt Ideal) ℓ) : Prop :=
  ∀ c : Dev Cert.InpKernelIdeal.nD,
    (Cert.Pre_inp_finite.fn (F := Ideal) (m ((c.tc : Thread Cert.InpKernelIdeal.nD Cert.InpKernelIdeal.τ).loc Cert.InpKernelIdeal.main_arg0)) (m ((c.tc : Thread Cert.InpKernelIdeal.nD Cert.InpKernelIdeal.τ).loc Cert.InpKernelIdeal.main_arg1)) (m ((c.tc : Thread Cert.InpKernelIdeal.nD Cert.InpKernelIdeal.τ).loc Cert.InpKernelIdeal.main_arg2)) (m ((c.tc : Thread Cert.InpKernelIdeal.nD Cert.InpKernelIdeal.τ).loc Cert.InpKernelIdeal.main_arg3)) (m ((c.tc : Thread Cert.InpKernelIdeal.nD Cert.InpKernelIdeal.τ).loc Cert.InpKernelIdeal.main_arg4)) (m ((c.tc : Thread Cert.InpKernelIdeal.nD Cert.InpKernelIdeal.τ).loc Cert.InpKernelIdeal.main_arg5))) = (fun _ => 1#1)

def Pre_InpReferenceIdeal (m : (ℓ : Loc Cert.InpReferenceIdeal.nD Cert.InpReferenceIdeal.τ Cert.InpReferenceIdeal.sig) → Buf (Elt Ideal) ℓ) : Prop :=
  True

def Pre_InpReferenceIdeal_inp_finite [hPre_inp_finite : Cert.Pre_inp_finite.Facts] (m : (ℓ : Loc Cert.InpReferenceIdeal.nD Cert.InpReferenceIdeal.τ Cert.InpReferenceIdeal.sig) → Buf (Elt Ideal) ℓ) : Prop :=
  ∀ c : Dev Cert.InpReferenceIdeal.nD,
    (Cert.Pre_inp_finite.fn (F := Ideal) (m ((c.tc : Thread Cert.InpReferenceIdeal.nD Cert.InpReferenceIdeal.τ).loc Cert.InpReferenceIdeal.main_arg0)) (m ((c.tc : Thread Cert.InpReferenceIdeal.nD Cert.InpReferenceIdeal.τ).loc Cert.InpReferenceIdeal.main_arg1)) (m ((c.tc : Thread Cert.InpReferenceIdeal.nD Cert.InpReferenceIdeal.τ).loc Cert.InpReferenceIdeal.main_arg2)) (m ((c.tc : Thread Cert.InpReferenceIdeal.nD Cert.InpReferenceIdeal.τ).loc Cert.InpReferenceIdeal.main_arg3)) (m ((c.tc : Thread Cert.InpReferenceIdeal.nD Cert.InpReferenceIdeal.τ).loc Cert.InpReferenceIdeal.main_arg4)) (m ((c.tc : Thread Cert.InpReferenceIdeal.nD Cert.InpReferenceIdeal.τ).loc Cert.InpReferenceIdeal.main_arg5))) = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixKernelIdeal_mix_finite [hPre_mix_finite : Cert.Pre_mix_finite.Facts] (m : (ℓ : Loc Cert.MixKernelIdeal.nD Cert.MixKernelIdeal.τ Cert.MixKernelIdeal.sig) → Buf (Elt Ideal) ℓ) : Prop :=
  ∀ c : Dev Cert.MixKernelIdeal.nD,
    (Cert.Pre_mix_finite.fn (F := Ideal) (m ((c.tc : Thread Cert.MixKernelIdeal.nD Cert.MixKernelIdeal.τ).loc Cert.MixKernelIdeal.main_arg0)) (m ((c.tc : Thread Cert.MixKernelIdeal.nD Cert.MixKernelIdeal.τ).loc Cert.MixKernelIdeal.main_arg1)) (m ((c.tc : Thread Cert.MixKernelIdeal.nD Cert.MixKernelIdeal.τ).loc Cert.MixKernelIdeal.main_arg2)) (m ((c.tc : Thread Cert.MixKernelIdeal.nD Cert.MixKernelIdeal.τ).loc Cert.MixKernelIdeal.main_arg3)) (m ((c.tc : Thread Cert.MixKernelIdeal.nD Cert.MixKernelIdeal.τ).loc Cert.MixKernelIdeal.main_arg4)) (m ((c.tc : Thread Cert.MixKernelIdeal.nD Cert.MixKernelIdeal.τ).loc Cert.MixKernelIdeal.main_arg5)) (m ((c.tc : Thread Cert.MixKernelIdeal.nD Cert.MixKernelIdeal.τ).loc Cert.MixKernelIdeal.main_arg6))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_mix_finite [hPre_mix_finite : Cert.Pre_mix_finite.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_mix_finite.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6))) = (fun _ => 1#1)

def Pre_FwdKernel (m : (ℓ : Loc Cert.FwdKernel.nD Cert.FwdKernel.τ Cert.FwdKernel.sig) → Buf (Elt Bits) ℓ) : Prop :=
  True

def Pre_FwdKernelIdeal (m : (ℓ : Loc Cert.FwdKernelIdeal.nD Cert.FwdKernelIdeal.τ Cert.FwdKernelIdeal.sig) → Buf (Elt Ideal) ℓ) : Prop :=
  True

def Pre_FwdKernelIdeal_fwd_finite [hPre_fwd_finite : Cert.Pre_fwd_finite.Facts] (m : (ℓ : Loc Cert.FwdKernelIdeal.nD Cert.FwdKernelIdeal.τ Cert.FwdKernelIdeal.sig) → Buf (Elt Ideal) ℓ) : Prop :=
  ∀ c : Dev Cert.FwdKernelIdeal.nD,
    (Cert.Pre_fwd_finite.fn (F := Ideal) (m ((c.tc : Thread Cert.FwdKernelIdeal.nD Cert.FwdKernelIdeal.τ).loc Cert.FwdKernelIdeal.main_arg0)) (m ((c.tc : Thread Cert.FwdKernelIdeal.nD Cert.FwdKernelIdeal.τ).loc Cert.FwdKernelIdeal.main_arg1)) (m ((c.tc : Thread Cert.FwdKernelIdeal.nD Cert.FwdKernelIdeal.τ).loc Cert.FwdKernelIdeal.main_arg2)) (m ((c.tc : Thread Cert.FwdKernelIdeal.nD Cert.FwdKernelIdeal.τ).loc Cert.FwdKernelIdeal.main_arg3)) (m ((c.tc : Thread Cert.FwdKernelIdeal.nD Cert.FwdKernelIdeal.τ).loc Cert.FwdKernelIdeal.main_arg4)) (m ((c.tc : Thread Cert.FwdKernelIdeal.nD Cert.FwdKernelIdeal.τ).loc Cert.FwdKernelIdeal.main_arg5))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_fwd_finite [hPre_fwd_finite : Cert.Pre_fwd_finite.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_fwd_finite.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2)) (m ((c.tc : Thread Cert.FwdReferenceIdeal.nD Cert.FwdReferenceIdeal.τ).loc Cert.FwdReferenceIdeal.main_arg3)) (m ((c.tc : Thread Cert.FwdReferenceIdeal.nD Cert.FwdReferenceIdeal.τ).loc Cert.FwdReferenceIdeal.main_arg4)) (m ((c.tc : Thread Cert.FwdReferenceIdeal.nD Cert.FwdReferenceIdeal.τ).loc Cert.FwdReferenceIdeal.main_arg5))) = (fun _ => 1#1)

def Pre_CotKernel (m : (ℓ : Loc Cert.CotKernel.nD Cert.CotKernel.τ Cert.CotKernel.sig) → Buf (Elt Bits) ℓ) : Prop :=
  True

def Pre_CotKernelIdeal (m : (ℓ : Loc Cert.CotKernelIdeal.nD Cert.CotKernelIdeal.τ Cert.CotKernelIdeal.sig) → Buf (Elt Ideal) ℓ) : Prop :=
  True

def Pre_CotReferenceIdeal (m : (ℓ : Loc Cert.CotReferenceIdeal.nD Cert.CotReferenceIdeal.τ Cert.CotReferenceIdeal.sig) → Buf (Elt Ideal) ℓ) : Prop :=
  True

def Pre_WgtKernel (m : (ℓ : Loc Cert.WgtKernel.nD Cert.WgtKernel.τ Cert.WgtKernel.sig) → Buf (Elt Bits) ℓ) : Prop :=
  True

def Pre_WgtKernelIdeal (m : (ℓ : Loc Cert.WgtKernelIdeal.nD Cert.WgtKernelIdeal.τ Cert.WgtKernelIdeal.sig) → Buf (Elt Ideal) ℓ) : Prop :=
  True

def Pre_WgtReferenceIdeal (m : (ℓ : Loc Cert.WgtReferenceIdeal.nD Cert.WgtReferenceIdeal.τ Cert.WgtReferenceIdeal.sig) → Buf (Elt Ideal) ℓ) : Prop :=
  True

def Pre_OddKernel (m : (ℓ : Loc Cert.OddKernel.nD Cert.OddKernel.τ Cert.OddKernel.sig) → Buf (Elt Bits) ℓ) : Prop :=
  True

def Pre_OddKernelIdeal (m : (ℓ : Loc Cert.OddKernelIdeal.nD Cert.OddKernelIdeal.τ Cert.OddKernelIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def Pre_RowsKernel (m : (ℓ : Loc Cert.RowsKernel.nD Cert.RowsKernel.τ Cert.RowsKernel.sig) → Buf (Elt Bits) ℓ) : Prop :=
  True

def Pre_RowsKernelIdeal (m : (ℓ : Loc Cert.RowsKernelIdeal.nD Cert.RowsKernelIdeal.τ Cert.RowsKernelIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_AdaKernel (m : (ℓ : Loc Cert.AdaKernel.nD Cert.AdaKernel.τ Cert.AdaKernel.sig) → Buf (Elt Bits) ℓ) : Prop :=
  True

def Pre_AdaKernelIdeal (m : (ℓ : Loc Cert.AdaKernelIdeal.nD Cert.AdaKernelIdeal.τ Cert.AdaKernelIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def Pre_ModKernel (m : (ℓ : Loc Cert.ModKernel.nD Cert.ModKernel.τ Cert.ModKernel.sig) → Buf (Elt Bits) ℓ) : Prop :=
  True

def Pre_ModKernelIdeal (m : (ℓ : Loc Cert.ModKernelIdeal.nD Cert.ModKernelIdeal.τ Cert.ModKernelIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5))
      ∧ r.2.sem = fun _ => 0)

def quiescent_InpKernel [hInpKernel : Cert.InpKernel.Facts] : Prop :=
  ∀ (m : (ℓ : Loc Cert.InpKernel.nD Cert.InpKernel.τ Cert.InpKernel.sig) → Buf (Elt Bits) ℓ) (g : Dev Cert.InpKernel.nD → PrngReg), Pre_InpKernel m →
    θ_run (Cert.InpKernel.defs (F := Bits)) (onTc (τ := Cert.InpKernel.τ) (Cert.InpKernel.main (F := Bits))) ⟨m, fun _ => 0, g⟩ (fun r => (∀ c : Dev Cert.InpKernel.nD,
      r.2.mem ((c.tc : Thread Cert.InpKernel.nD Cert.InpKernel.τ).loc Cert.InpKernel.main_arg0) = m ((c.tc : Thread Cert.InpKernel.nD Cert.InpKernel.τ).loc Cert.InpKernel.main_arg0)
      ∧ r.2.mem ((c.tc : Thread Cert.InpKernel.nD Cert.InpKernel.τ).loc Cert.InpKernel.main_arg1) = m ((c.tc : Thread Cert.InpKernel.nD Cert.InpKernel.τ).loc Cert.InpKernel.main_arg1)
      ∧ r.2.mem ((c.tc : Thread Cert.InpKernel.nD Cert.InpKernel.τ).loc Cert.InpKernel.main_arg2) = m ((c.tc : Thread Cert.InpKernel.nD Cert.InpKernel.τ).loc Cert.InpKernel.main_arg2)
      ∧ r.2.mem ((c.tc : Thread Cert.InpKernel.nD Cert.InpKernel.τ).loc Cert.InpKernel.main_arg3) = m ((c.tc : Thread Cert.InpKernel.nD Cert.InpKernel.τ).loc Cert.InpKernel.main_arg3)
      ∧ r.2.mem ((c.tc : Thread Cert.InpKernel.nD Cert.InpKernel.τ).loc Cert.InpKernel.main_arg4) = m ((c.tc : Thread Cert.InpKernel.nD Cert.InpKernel.τ).loc Cert.InpKernel.main_arg4)
      ∧ r.2.mem ((c.tc : Thread Cert.InpKernel.nD Cert.InpKernel.τ).loc Cert.InpKernel.main_arg5) = m ((c.tc : Thread Cert.InpKernel.nD Cert.InpKernel.τ).loc Cert.InpKernel.main_arg5))
      ∧ r.2.sem = fun _ => 0)

def quiescent_InpKernelIdeal [hInpKernelIdeal : Cert.InpKernelIdeal.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
      ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
      ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
      ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4)
      ∧ r.2.mem ((c.tc : Thread Cert.InpKernelIdeal.nD Cert.InpKernelIdeal.τ).loc Cert.InpKernelIdeal.main_arg5) = m ((c.tc : Thread Cert.InpKernelIdeal.nD Cert.InpKernelIdeal.τ).loc Cert.InpKernelIdeal.main_arg5))
      ∧ r.2.sem = fun _ => 0)

def quiescent_InpKernelIdeal_pre_inp_finite [hInpKernelIdeal : Cert.InpKernelIdeal.Facts] [hPre_inp_finite : Cert.Pre_inp_finite.Facts] : Prop :=
  ∀ (m : (ℓ : Loc Cert.InpKernelIdeal.nD Cert.InpKernelIdeal.τ Cert.InpKernelIdeal.sig) → Buf (Elt Ideal) ℓ) (g : Dev Cert.InpKernelIdeal.nD → PrngReg), Pre_InpKernelIdeal_inp_finite m →
    θ_run (Cert.InpKernelIdeal.defs (F := Ideal)) (onTc (τ := Cert.InpKernelIdeal.τ) (Cert.InpKernelIdeal.main (F := Ideal))) ⟨m, fun _ => 0, g⟩ (fun r => (∀ c : Dev Cert.InpKernelIdeal.nD,
      r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
      ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
      ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
      ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
      ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4)
      ∧ r.2.mem ((c.tc : Thread Cert.InpKernelIdeal.nD Cert.InpKernelIdeal.τ).loc Cert.InpKernelIdeal.main_arg5) = m ((c.tc : Thread Cert.InpKernelIdeal.nD Cert.InpKernelIdeal.τ).loc Cert.InpKernelIdeal.main_arg5))
      ∧ r.2.sem = fun _ => 0)

def quiescent_InpReferenceIdeal [hInpReferenceIdeal : Cert.InpReferenceIdeal.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2)
      ∧ r.2.mem ((c.tc : Thread Cert.InpReferenceIdeal.nD Cert.InpReferenceIdeal.τ).loc Cert.InpReferenceIdeal.main_arg3) = m ((c.tc : Thread Cert.InpReferenceIdeal.nD Cert.InpReferenceIdeal.τ).loc Cert.InpReferenceIdeal.main_arg3)
      ∧ r.2.mem ((c.tc : Thread Cert.InpReferenceIdeal.nD Cert.InpReferenceIdeal.τ).loc Cert.InpReferenceIdeal.main_arg4) = m ((c.tc : Thread Cert.InpReferenceIdeal.nD Cert.InpReferenceIdeal.τ).loc Cert.InpReferenceIdeal.main_arg4)
      ∧ r.2.mem ((c.tc : Thread Cert.InpReferenceIdeal.nD Cert.InpReferenceIdeal.τ).loc Cert.InpReferenceIdeal.main_arg5) = m ((c.tc : Thread Cert.InpReferenceIdeal.nD Cert.InpReferenceIdeal.τ).loc Cert.InpReferenceIdeal.main_arg5))
      ∧ r.2.sem = fun _ => 0)

def quiescent_InpReferenceIdeal_pre_inp_finite [hInpReferenceIdeal : Cert.InpReferenceIdeal.Facts] [hPre_inp_finite : Cert.Pre_inp_finite.Facts] : Prop :=
  ∀ (m : (ℓ : Loc Cert.InpReferenceIdeal.nD Cert.InpReferenceIdeal.τ Cert.InpReferenceIdeal.sig) → Buf (Elt Ideal) ℓ) (g : Dev Cert.InpReferenceIdeal.nD → PrngReg), Pre_InpReferenceIdeal_inp_finite m →
    θ_run (Cert.InpReferenceIdeal.defs (F := Ideal)) (onTc (τ := Cert.InpReferenceIdeal.τ) (Cert.InpReferenceIdeal.main (F := Ideal))) ⟨m, fun _ => 0, g⟩ (fun r => (∀ c : Dev Cert.InpReferenceIdeal.nD,
      r.2.mem ((c.tc : Thread Cert.InpReferenceIdeal.nD Cert.InpReferenceIdeal.τ).loc Cert.InpReferenceIdeal.main_arg0) = m ((c.tc : Thread Cert.InpReferenceIdeal.nD Cert.InpReferenceIdeal.τ).loc Cert.InpReferenceIdeal.main_arg0)
      ∧ r.2.mem ((c.tc : Thread Cert.InpReferenceIdeal.nD Cert.InpReferenceIdeal.τ).loc Cert.InpReferenceIdeal.main_arg1) = m ((c.tc : Thread Cert.InpReferenceIdeal.nD Cert.InpReferenceIdeal.τ).loc Cert.InpReferenceIdeal.main_arg1)
      ∧ r.2.mem ((c.tc : Thread Cert.InpReferenceIdeal.nD Cert.InpReferenceIdeal.τ).loc Cert.InpReferenceIdeal.main_arg2) = m ((c.tc : Thread Cert.InpReferenceIdeal.nD Cert.InpReferenceIdeal.τ).loc Cert.InpReferenceIdeal.main_arg2)
      ∧ r.2.mem ((c.tc : Thread Cert.InpReferenceIdeal.nD Cert.InpReferenceIdeal.τ).loc Cert.InpReferenceIdeal.main_arg3) = m ((c.tc : Thread Cert.InpReferenceIdeal.nD Cert.InpReferenceIdeal.τ).loc Cert.InpReferenceIdeal.main_arg3)
      ∧ r.2.mem ((c.tc : Thread Cert.InpReferenceIdeal.nD Cert.InpReferenceIdeal.τ).loc Cert.InpReferenceIdeal.main_arg4) = m ((c.tc : Thread Cert.InpReferenceIdeal.nD Cert.InpReferenceIdeal.τ).loc Cert.InpReferenceIdeal.main_arg4)
      ∧ r.2.mem ((c.tc : Thread Cert.InpReferenceIdeal.nD Cert.InpReferenceIdeal.τ).loc Cert.InpReferenceIdeal.main_arg5) = m ((c.tc : Thread Cert.InpReferenceIdeal.nD Cert.InpReferenceIdeal.τ).loc Cert.InpReferenceIdeal.main_arg5))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ r.2.sem = fun _ => 0)

def quiescent_MixKernelIdeal_pre_mix_finite [hMixKernelIdeal : Cert.MixKernelIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal_mix_finite m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_MixReferenceIdeal_pre_mix_finite [hMixReferenceIdeal : Cert.MixReferenceIdeal.Facts] [hPre_mix_finite : Cert.Pre_mix_finite.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_mix_finite m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_FwdKernel [hFwdKernel : Cert.FwdKernel.Facts] : Prop :=
  ∀ (m : (ℓ : Loc Cert.FwdKernel.nD Cert.FwdKernel.τ Cert.FwdKernel.sig) → Buf (Elt Bits) ℓ) (g : Dev Cert.FwdKernel.nD → PrngReg), Pre_FwdKernel m →
    θ_run (Cert.FwdKernel.defs (F := Bits)) (onTc (τ := Cert.FwdKernel.τ) (Cert.FwdKernel.main (F := Bits))) ⟨m, fun _ => 0, g⟩ (fun r => (∀ c : Dev Cert.FwdKernel.nD,
      r.2.mem ((c.tc : Thread Cert.FwdKernel.nD Cert.FwdKernel.τ).loc Cert.FwdKernel.main_arg0) = m ((c.tc : Thread Cert.FwdKernel.nD Cert.FwdKernel.τ).loc Cert.FwdKernel.main_arg0)
      ∧ r.2.mem ((c.tc : Thread Cert.FwdKernel.nD Cert.FwdKernel.τ).loc Cert.FwdKernel.main_arg1) = m ((c.tc : Thread Cert.FwdKernel.nD Cert.FwdKernel.τ).loc Cert.FwdKernel.main_arg1)
      ∧ r.2.mem ((c.tc : Thread Cert.FwdKernel.nD Cert.FwdKernel.τ).loc Cert.FwdKernel.main_arg2) = m ((c.tc : Thread Cert.FwdKernel.nD Cert.FwdKernel.τ).loc Cert.FwdKernel.main_arg2)
      ∧ r.2.mem ((c.tc : Thread Cert.FwdKernel.nD Cert.FwdKernel.τ).loc Cert.FwdKernel.main_arg3) = m ((c.tc : Thread Cert.FwdKernel.nD Cert.FwdKernel.τ).loc Cert.FwdKernel.main_arg3)
      ∧ r.2.mem ((c.tc : Thread Cert.FwdKernel.nD Cert.FwdKernel.τ).loc Cert.FwdKernel.main_arg4) = m ((c.tc : Thread Cert.FwdKernel.nD Cert.FwdKernel.τ).loc Cert.FwdKernel.main_arg4)
      ∧ r.2.mem ((c.tc : Thread Cert.FwdKernel.nD Cert.FwdKernel.τ).loc Cert.FwdKernel.main_arg5) = m ((c.tc : Thread Cert.FwdKernel.nD Cert.FwdKernel.τ).loc Cert.FwdKernel.main_arg5))
      ∧ r.2.sem = fun _ => 0)

def quiescent_FwdKernelIdeal [hFwdKernelIdeal : Cert.FwdKernelIdeal.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5))
      ∧ r.2.sem = fun _ => 0)

def quiescent_FwdKernelIdeal_pre_fwd_finite [hFwdKernelIdeal : Cert.FwdKernelIdeal.Facts] [hPre_fwd_finite : Cert.Pre_fwd_finite.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg), Pre_FwdKernelIdeal_fwd_finite m →
    θ_run (Cert.FwdKernelIdeal.defs (F := Ideal)) (onTc (τ := Cert.FwdKernelIdeal.τ) (Cert.FwdKernelIdeal.main (F := Ideal))) ⟨m, fun _ => 0, g⟩ (fun r => (∀ c : Dev Cert.FwdKernelIdeal.nD,
      r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
      ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
      ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
      ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
      ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
      ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5))
      ∧ r.2.sem = fun _ => 0)

def quiescent_FwdReferenceIdeal_pre_fwd_finite [hFwdReferenceIdeal : Cert.FwdReferenceIdeal.Facts] [hPre_fwd_finite : Cert.Pre_fwd_finite.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_fwd_finite m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2)
      ∧ r.2.mem ((c.tc : Thread Cert.FwdReferenceIdeal.nD Cert.FwdReferenceIdeal.τ).loc Cert.FwdReferenceIdeal.main_arg3) = m ((c.tc : Thread Cert.FwdReferenceIdeal.nD Cert.FwdReferenceIdeal.τ).loc Cert.FwdReferenceIdeal.main_arg3)
      ∧ r.2.mem ((c.tc : Thread Cert.FwdReferenceIdeal.nD Cert.FwdReferenceIdeal.τ).loc Cert.FwdReferenceIdeal.main_arg4) = m ((c.tc : Thread Cert.FwdReferenceIdeal.nD Cert.FwdReferenceIdeal.τ).loc Cert.FwdReferenceIdeal.main_arg4)
      ∧ r.2.mem ((c.tc : Thread Cert.FwdReferenceIdeal.nD Cert.FwdReferenceIdeal.τ).loc Cert.FwdReferenceIdeal.main_arg5) = m ((c.tc : Thread Cert.FwdReferenceIdeal.nD Cert.FwdReferenceIdeal.τ).loc Cert.FwdReferenceIdeal.main_arg5))
      ∧ r.2.sem = fun _ => 0)

def quiescent_CotKernel [hCotKernel : Cert.CotKernel.Facts] : Prop :=
  ∀ (m : (ℓ : Loc Cert.CotKernel.nD Cert.CotKernel.τ Cert.CotKernel.sig) → Buf (Elt Bits) ℓ) (g : Dev Cert.CotKernel.nD → PrngReg), Pre_CotKernel m →
    θ_run (Cert.CotKernel.defs (F := Bits)) (onTc (τ := Cert.CotKernel.τ) (Cert.CotKernel.main (F := Bits))) ⟨m, fun _ => 0, g⟩ (fun r => (∀ c : Dev Cert.CotKernel.nD,
      r.2.mem ((c.tc : Thread Cert.CotKernel.nD Cert.CotKernel.τ).loc Cert.CotKernel.main_arg0) = m ((c.tc : Thread Cert.CotKernel.nD Cert.CotKernel.τ).loc Cert.CotKernel.main_arg0)
      ∧ r.2.mem ((c.tc : Thread Cert.CotKernel.nD Cert.CotKernel.τ).loc Cert.CotKernel.main_arg1) = m ((c.tc : Thread Cert.CotKernel.nD Cert.CotKernel.τ).loc Cert.CotKernel.main_arg1))
      ∧ r.2.sem = fun _ => 0)

def quiescent_CotKernelIdeal [hCotKernelIdeal : Cert.CotKernelIdeal.Facts] : Prop :=
  ∀ (m : (ℓ : Loc Cert.CotKernelIdeal.nD Cert.CotKernelIdeal.τ Cert.CotKernelIdeal.sig) → Buf (Elt Ideal) ℓ) (g : Dev Cert.CotKernelIdeal.nD → PrngReg), Pre_CotKernelIdeal m →
    θ_run (Cert.CotKernelIdeal.defs (F := Ideal)) (onTc (τ := Cert.CotKernelIdeal.τ) (Cert.CotKernelIdeal.main (F := Ideal))) ⟨m, fun _ => 0, g⟩ (fun r => (∀ c : Dev Cert.CotKernelIdeal.nD,
      r.2.mem ((c.tc : Thread Cert.CotKernelIdeal.nD Cert.CotKernelIdeal.τ).loc Cert.CotKernelIdeal.main_arg0) = m ((c.tc : Thread Cert.CotKernelIdeal.nD Cert.CotKernelIdeal.τ).loc Cert.CotKernelIdeal.main_arg0)
      ∧ r.2.mem ((c.tc : Thread Cert.CotKernelIdeal.nD Cert.CotKernelIdeal.τ).loc Cert.CotKernelIdeal.main_arg1) = m ((c.tc : Thread Cert.CotKernelIdeal.nD Cert.CotKernelIdeal.τ).loc Cert.CotKernelIdeal.main_arg1))
      ∧ r.2.sem = fun _ => 0)

def quiescent_CotReferenceIdeal [hCotReferenceIdeal : Cert.CotReferenceIdeal.Facts] : Prop :=
  ∀ (m : (ℓ : Loc Cert.CotReferenceIdeal.nD Cert.CotReferenceIdeal.τ Cert.CotReferenceIdeal.sig) → Buf (Elt Ideal) ℓ) (g : Dev Cert.CotReferenceIdeal.nD → PrngReg), Pre_CotReferenceIdeal m →
    θ_run (Cert.CotReferenceIdeal.defs (F := Ideal)) (onTc (τ := Cert.CotReferenceIdeal.τ) (Cert.CotReferenceIdeal.main (F := Ideal))) ⟨m, fun _ => 0, g⟩ (fun r => (∀ c : Dev Cert.CotReferenceIdeal.nD,
      r.2.mem ((c.tc : Thread Cert.CotReferenceIdeal.nD Cert.CotReferenceIdeal.τ).loc Cert.CotReferenceIdeal.main_arg0) = m ((c.tc : Thread Cert.CotReferenceIdeal.nD Cert.CotReferenceIdeal.τ).loc Cert.CotReferenceIdeal.main_arg0)
      ∧ r.2.mem ((c.tc : Thread Cert.CotReferenceIdeal.nD Cert.CotReferenceIdeal.τ).loc Cert.CotReferenceIdeal.main_arg1) = m ((c.tc : Thread Cert.CotReferenceIdeal.nD Cert.CotReferenceIdeal.τ).loc Cert.CotReferenceIdeal.main_arg1))
      ∧ r.2.sem = fun _ => 0)

def quiescent_WgtKernel [hWgtKernel : Cert.WgtKernel.Facts] : Prop :=
  ∀ (m : (ℓ : Loc Cert.WgtKernel.nD Cert.WgtKernel.τ Cert.WgtKernel.sig) → Buf (Elt Bits) ℓ) (g : Dev Cert.WgtKernel.nD → PrngReg), Pre_WgtKernel m →
    θ_run (Cert.WgtKernel.defs (F := Bits)) (onTc (τ := Cert.WgtKernel.τ) (Cert.WgtKernel.main (F := Bits))) ⟨m, fun _ => 0, g⟩ (fun r => (∀ c : Dev Cert.WgtKernel.nD,
      r.2.mem ((c.tc : Thread Cert.WgtKernel.nD Cert.WgtKernel.τ).loc Cert.WgtKernel.main_arg0) = m ((c.tc : Thread Cert.WgtKernel.nD Cert.WgtKernel.τ).loc Cert.WgtKernel.main_arg0)
      ∧ r.2.mem ((c.tc : Thread Cert.WgtKernel.nD Cert.WgtKernel.τ).loc Cert.WgtKernel.main_arg1) = m ((c.tc : Thread Cert.WgtKernel.nD Cert.WgtKernel.τ).loc Cert.WgtKernel.main_arg1))
      ∧ r.2.sem = fun _ => 0)

def quiescent_WgtKernelIdeal [hWgtKernelIdeal : Cert.WgtKernelIdeal.Facts] : Prop :=
  ∀ (m : (ℓ : Loc Cert.WgtKernelIdeal.nD Cert.WgtKernelIdeal.τ Cert.WgtKernelIdeal.sig) → Buf (Elt Ideal) ℓ) (g : Dev Cert.WgtKernelIdeal.nD → PrngReg), Pre_WgtKernelIdeal m →
    θ_run (Cert.WgtKernelIdeal.defs (F := Ideal)) (onTc (τ := Cert.WgtKernelIdeal.τ) (Cert.WgtKernelIdeal.main (F := Ideal))) ⟨m, fun _ => 0, g⟩ (fun r => (∀ c : Dev Cert.WgtKernelIdeal.nD,
      r.2.mem ((c.tc : Thread Cert.WgtKernelIdeal.nD Cert.WgtKernelIdeal.τ).loc Cert.WgtKernelIdeal.main_arg0) = m ((c.tc : Thread Cert.WgtKernelIdeal.nD Cert.WgtKernelIdeal.τ).loc Cert.WgtKernelIdeal.main_arg0)
      ∧ r.2.mem ((c.tc : Thread Cert.WgtKernelIdeal.nD Cert.WgtKernelIdeal.τ).loc Cert.WgtKernelIdeal.main_arg1) = m ((c.tc : Thread Cert.WgtKernelIdeal.nD Cert.WgtKernelIdeal.τ).loc Cert.WgtKernelIdeal.main_arg1))
      ∧ r.2.sem = fun _ => 0)

def quiescent_WgtReferenceIdeal [hWgtReferenceIdeal : Cert.WgtReferenceIdeal.Facts] : Prop :=
  ∀ (m : (ℓ : Loc Cert.WgtReferenceIdeal.nD Cert.WgtReferenceIdeal.τ Cert.WgtReferenceIdeal.sig) → Buf (Elt Ideal) ℓ) (g : Dev Cert.WgtReferenceIdeal.nD → PrngReg), Pre_WgtReferenceIdeal m →
    θ_run (Cert.WgtReferenceIdeal.defs (F := Ideal)) (onTc (τ := Cert.WgtReferenceIdeal.τ) (Cert.WgtReferenceIdeal.main (F := Ideal))) ⟨m, fun _ => 0, g⟩ (fun r => (∀ c : Dev Cert.WgtReferenceIdeal.nD,
      r.2.mem ((c.tc : Thread Cert.WgtReferenceIdeal.nD Cert.WgtReferenceIdeal.τ).loc Cert.WgtReferenceIdeal.main_arg0) = m ((c.tc : Thread Cert.WgtReferenceIdeal.nD Cert.WgtReferenceIdeal.τ).loc Cert.WgtReferenceIdeal.main_arg0)
      ∧ r.2.mem ((c.tc : Thread Cert.WgtReferenceIdeal.nD Cert.WgtReferenceIdeal.τ).loc Cert.WgtReferenceIdeal.main_arg1) = m ((c.tc : Thread Cert.WgtReferenceIdeal.nD Cert.WgtReferenceIdeal.τ).loc Cert.WgtReferenceIdeal.main_arg1))
      ∧ r.2.sem = fun _ => 0)

def quiescent_OddKernel [hOddKernel : Cert.OddKernel.Facts] : Prop :=
  ∀ (m : (ℓ : Loc Cert.OddKernel.nD Cert.OddKernel.τ Cert.OddKernel.sig) → Buf (Elt Bits) ℓ) (g : Dev Cert.OddKernel.nD → PrngReg), Pre_OddKernel m →
    θ_run (Cert.OddKernel.defs (F := Bits)) (onTc (τ := Cert.OddKernel.τ) (Cert.OddKernel.main (F := Bits))) ⟨m, fun _ => 0, g⟩ (fun r => (∀ c : Dev Cert.OddKernel.nD,
      r.2.mem ((c.tc : Thread Cert.OddKernel.nD Cert.OddKernel.τ).loc Cert.OddKernel.main_arg0) = m ((c.tc : Thread Cert.OddKernel.nD Cert.OddKernel.τ).loc Cert.OddKernel.main_arg0)
      ∧ r.2.mem ((c.tc : Thread Cert.OddKernel.nD Cert.OddKernel.τ).loc Cert.OddKernel.main_arg1) = m ((c.tc : Thread Cert.OddKernel.nD Cert.OddKernel.τ).loc Cert.OddKernel.main_arg1)
      ∧ r.2.mem ((c.tc : Thread Cert.OddKernel.nD Cert.OddKernel.τ).loc Cert.OddKernel.main_arg2) = m ((c.tc : Thread Cert.OddKernel.nD Cert.OddKernel.τ).loc Cert.OddKernel.main_arg2))
      ∧ r.2.sem = fun _ => 0)

def quiescent_OddKernelIdeal [hOddKernelIdeal : Cert.OddKernelIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg), Pre_OddKernelIdeal m →
    θ_run (Cert.OddKernelIdeal.defs (F := Ideal)) (onTc (τ := Cert.OddKernelIdeal.τ) (Cert.OddKernelIdeal.main (F := Ideal))) ⟨m, fun _ => 0, g⟩ (fun r => (∀ c : Dev Cert.OddKernelIdeal.nD,
      r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
      ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
      ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2))
      ∧ r.2.sem = fun _ => 0)

def quiescent_RowsKernel [hRowsKernel : Cert.RowsKernel.Facts] : Prop :=
  ∀ (m : (ℓ : Loc Cert.RowsKernel.nD Cert.RowsKernel.τ Cert.RowsKernel.sig) → Buf (Elt Bits) ℓ) (g : Dev Cert.RowsKernel.nD → PrngReg), Pre_RowsKernel m →
    θ_run (Cert.RowsKernel.defs (F := Bits)) (onTc (τ := Cert.RowsKernel.τ) (Cert.RowsKernel.main (F := Bits))) ⟨m, fun _ => 0, g⟩ (fun r => (∀ c : Dev Cert.RowsKernel.nD,
      r.2.mem ((c.tc : Thread Cert.RowsKernel.nD Cert.RowsKernel.τ).loc Cert.RowsKernel.main_arg0) = m ((c.tc : Thread Cert.RowsKernel.nD Cert.RowsKernel.τ).loc Cert.RowsKernel.main_arg0)
      ∧ r.2.mem ((c.tc : Thread Cert.RowsKernel.nD Cert.RowsKernel.τ).loc Cert.RowsKernel.main_arg1) = m ((c.tc : Thread Cert.RowsKernel.nD Cert.RowsKernel.τ).loc Cert.RowsKernel.main_arg1)
      ∧ r.2.mem ((c.tc : Thread Cert.RowsKernel.nD Cert.RowsKernel.τ).loc Cert.RowsKernel.main_arg2) = m ((c.tc : Thread Cert.RowsKernel.nD Cert.RowsKernel.τ).loc Cert.RowsKernel.main_arg2)
      ∧ r.2.mem ((c.tc : Thread Cert.RowsKernel.nD Cert.RowsKernel.τ).loc Cert.RowsKernel.main_arg3) = m ((c.tc : Thread Cert.RowsKernel.nD Cert.RowsKernel.τ).loc Cert.RowsKernel.main_arg3))
      ∧ r.2.sem = fun _ => 0)

def quiescent_RowsKernelIdeal [hRowsKernelIdeal : Cert.RowsKernelIdeal.Facts] : Prop :=
  ∀ (m : (ℓ : Loc Cert.RowsKernelIdeal.nD Cert.RowsKernelIdeal.τ Cert.RowsKernelIdeal.sig) → Buf (Elt Ideal) ℓ) (g : Dev Cert.RowsKernelIdeal.nD → PrngReg), Pre_RowsKernelIdeal m →
    θ_run (Cert.RowsKernelIdeal.defs (F := Ideal)) (onTc (τ := Cert.RowsKernelIdeal.τ) (Cert.RowsKernelIdeal.main (F := Ideal))) ⟨m, fun _ => 0, g⟩ (fun r => (∀ c : Dev Cert.RowsKernelIdeal.nD,
      r.2.mem ((c.tc : Thread Cert.RowsKernelIdeal.nD Cert.RowsKernelIdeal.τ).loc Cert.RowsKernelIdeal.main_arg0) = m ((c.tc : Thread Cert.RowsKernelIdeal.nD Cert.RowsKernelIdeal.τ).loc Cert.RowsKernelIdeal.main_arg0)
      ∧ r.2.mem ((c.tc : Thread Cert.RowsKernelIdeal.nD Cert.RowsKernelIdeal.τ).loc Cert.RowsKernelIdeal.main_arg1) = m ((c.tc : Thread Cert.RowsKernelIdeal.nD Cert.RowsKernelIdeal.τ).loc Cert.RowsKernelIdeal.main_arg1)
      ∧ r.2.mem ((c.tc : Thread Cert.RowsKernelIdeal.nD Cert.RowsKernelIdeal.τ).loc Cert.RowsKernelIdeal.main_arg2) = m ((c.tc : Thread Cert.RowsKernelIdeal.nD Cert.RowsKernelIdeal.τ).loc Cert.RowsKernelIdeal.main_arg2)
      ∧ r.2.mem ((c.tc : Thread Cert.RowsKernelIdeal.nD Cert.RowsKernelIdeal.τ).loc Cert.RowsKernelIdeal.main_arg3) = m ((c.tc : Thread Cert.RowsKernelIdeal.nD Cert.RowsKernelIdeal.τ).loc Cert.RowsKernelIdeal.main_arg3))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2)
      ∧ r.2.mem ((c.tc : Thread Cert.RowsReferenceIdeal.nD Cert.RowsReferenceIdeal.τ).loc Cert.RowsReferenceIdeal.main_arg3) = m ((c.tc : Thread Cert.RowsReferenceIdeal.nD Cert.RowsReferenceIdeal.τ).loc Cert.RowsReferenceIdeal.main_arg3))
      ∧ r.2.sem = fun _ => 0)

def quiescent_AdaKernel [hAdaKernel : Cert.AdaKernel.Facts] : Prop :=
  ∀ (m : (ℓ : Loc Cert.AdaKernel.nD Cert.AdaKernel.τ Cert.AdaKernel.sig) → Buf (Elt Bits) ℓ) (g : Dev Cert.AdaKernel.nD → PrngReg), Pre_AdaKernel m →
    θ_run (Cert.AdaKernel.defs (F := Bits)) (onTc (τ := Cert.AdaKernel.τ) (Cert.AdaKernel.main (F := Bits))) ⟨m, fun _ => 0, g⟩ (fun r => (∀ c : Dev Cert.AdaKernel.nD,
      r.2.mem ((c.tc : Thread Cert.AdaKernel.nD Cert.AdaKernel.τ).loc Cert.AdaKernel.main_arg0) = m ((c.tc : Thread Cert.AdaKernel.nD Cert.AdaKernel.τ).loc Cert.AdaKernel.main_arg0)
      ∧ r.2.mem ((c.tc : Thread Cert.AdaKernel.nD Cert.AdaKernel.τ).loc Cert.AdaKernel.main_arg1) = m ((c.tc : Thread Cert.AdaKernel.nD Cert.AdaKernel.τ).loc Cert.AdaKernel.main_arg1)
      ∧ r.2.mem ((c.tc : Thread Cert.AdaKernel.nD Cert.AdaKernel.τ).loc Cert.AdaKernel.main_arg2) = m ((c.tc : Thread Cert.AdaKernel.nD Cert.AdaKernel.τ).loc Cert.AdaKernel.main_arg2)
      ∧ r.2.mem ((c.tc : Thread Cert.AdaKernel.nD Cert.AdaKernel.τ).loc Cert.AdaKernel.main_arg3) = m ((c.tc : Thread Cert.AdaKernel.nD Cert.AdaKernel.τ).loc Cert.AdaKernel.main_arg3)
      ∧ r.2.mem ((c.tc : Thread Cert.AdaKernel.nD Cert.AdaKernel.τ).loc Cert.AdaKernel.main_arg4) = m ((c.tc : Thread Cert.AdaKernel.nD Cert.AdaKernel.τ).loc Cert.AdaKernel.main_arg4))
      ∧ r.2.sem = fun _ => 0)

def quiescent_AdaKernelIdeal [hAdaKernelIdeal : Cert.AdaKernelIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg), Pre_AdaKernelIdeal m →
    θ_run (Cert.AdaKernelIdeal.defs (F := Ideal)) (onTc (τ := Cert.AdaKernelIdeal.τ) (Cert.AdaKernelIdeal.main (F := Ideal))) ⟨m, fun _ => 0, g⟩ (fun r => (∀ c : Dev Cert.AdaKernelIdeal.nD,
      r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
      ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
      ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
      ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
      ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3)
      ∧ r.2.mem ((c.tc : Thread Cert.AdaReferenceIdeal.nD Cert.AdaReferenceIdeal.τ).loc Cert.AdaReferenceIdeal.main_arg4) = m ((c.tc : Thread Cert.AdaReferenceIdeal.nD Cert.AdaReferenceIdeal.τ).loc Cert.AdaReferenceIdeal.main_arg4))
      ∧ r.2.sem = fun _ => 0)

def quiescent_ModKernel [hModKernel : Cert.ModKernel.Facts] : Prop :=
  ∀ (m : (ℓ : Loc Cert.ModKernel.nD Cert.ModKernel.τ Cert.ModKernel.sig) → Buf (Elt Bits) ℓ) (g : Dev Cert.ModKernel.nD → PrngReg), Pre_ModKernel m →
    θ_run (Cert.ModKernel.defs (F := Bits)) (onTc (τ := Cert.ModKernel.τ) (Cert.ModKernel.main (F := Bits))) ⟨m, fun _ => 0, g⟩ (fun r => (∀ c : Dev Cert.ModKernel.nD,
      r.2.mem ((c.tc : Thread Cert.ModKernel.nD Cert.ModKernel.τ).loc Cert.ModKernel.main_arg0) = m ((c.tc : Thread Cert.ModKernel.nD Cert.ModKernel.τ).loc Cert.ModKernel.main_arg0)
      ∧ r.2.mem ((c.tc : Thread Cert.ModKernel.nD Cert.ModKernel.τ).loc Cert.ModKernel.main_arg1) = m ((c.tc : Thread Cert.ModKernel.nD Cert.ModKernel.τ).loc Cert.ModKernel.main_arg1)
      ∧ r.2.mem ((c.tc : Thread Cert.ModKernel.nD Cert.ModKernel.τ).loc Cert.ModKernel.main_arg2) = m ((c.tc : Thread Cert.ModKernel.nD Cert.ModKernel.τ).loc Cert.ModKernel.main_arg2)
      ∧ r.2.mem ((c.tc : Thread Cert.ModKernel.nD Cert.ModKernel.τ).loc Cert.ModKernel.main_arg3) = m ((c.tc : Thread Cert.ModKernel.nD Cert.ModKernel.τ).loc Cert.ModKernel.main_arg3)
      ∧ r.2.mem ((c.tc : Thread Cert.ModKernel.nD Cert.ModKernel.τ).loc Cert.ModKernel.main_arg4) = m ((c.tc : Thread Cert.ModKernel.nD Cert.ModKernel.τ).loc Cert.ModKernel.main_arg4)
      ∧ r.2.mem ((c.tc : Thread Cert.ModKernel.nD Cert.ModKernel.τ).loc Cert.ModKernel.main_arg5) = m ((c.tc : Thread Cert.ModKernel.nD Cert.ModKernel.τ).loc Cert.ModKernel.main_arg5))
      ∧ r.2.sem = fun _ => 0)

def quiescent_ModKernelIdeal [hModKernelIdeal : Cert.ModKernelIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg), Pre_ModKernelIdeal m →
    θ_run (Cert.ModKernelIdeal.defs (F := Ideal)) (onTc (τ := Cert.ModKernelIdeal.τ) (Cert.ModKernelIdeal.main (F := Ideal))) ⟨m, fun _ => 0, g⟩ (fun r => (∀ c : Dev Cert.ModKernelIdeal.nD,
      r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
      ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
      ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
      ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3)
      ∧ r.2.mem ((c.tc : Thread Cert.ModKernelIdeal.nD Cert.ModKernelIdeal.τ).loc Cert.ModKernelIdeal.main_arg4) = m ((c.tc : Thread Cert.ModKernelIdeal.nD Cert.ModKernelIdeal.τ).loc Cert.ModKernelIdeal.main_arg4)
      ∧ r.2.mem ((c.tc : Thread Cert.ModKernelIdeal.nD Cert.ModKernelIdeal.τ).loc Cert.ModKernelIdeal.main_arg5) = m ((c.tc : Thread Cert.ModKernelIdeal.nD Cert.ModKernelIdeal.τ).loc Cert.ModKernelIdeal.main_arg5))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3)
      ∧ r.2.mem ((c.tc : Thread Cert.ModReferenceIdeal.nD Cert.ModReferenceIdeal.τ).loc Cert.ModReferenceIdeal.main_arg4) = m ((c.tc : Thread Cert.ModReferenceIdeal.nD Cert.ModReferenceIdeal.τ).loc Cert.ModReferenceIdeal.main_arg4)
      ∧ r.2.mem ((c.tc : Thread Cert.ModReferenceIdeal.nD Cert.ModReferenceIdeal.τ).loc Cert.ModReferenceIdeal.main_arg5) = m ((c.tc : Thread Cert.ModReferenceIdeal.nD Cert.ModReferenceIdeal.τ).loc Cert.ModReferenceIdeal.main_arg5))
      ∧ r.2.sem = fun _ => 0)

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)) →
    ∃ (v0 : (c : Dev Cert.LossKernelIdeal.nD) → Buf (Elt Ideal) ((c.tc : Thread Cert.LossKernelIdeal.nD Cert.LossKernelIdeal.τ).loc Cert.LossKernelIdeal.main_v5_0)) (v1 : (c : Dev Cert.LossKernelIdeal.nD) → Buf (Elt Ideal) ((c.tc : Thread Cert.LossKernelIdeal.nD Cert.LossKernelIdeal.τ).loc Cert.LossKernelIdeal.main_v5_1)) (v2 : (c : Dev Cert.LossKernelIdeal.nD) → Buf (Elt Ideal) ((c.tc : Thread Cert.LossKernelIdeal.nD Cert.LossKernelIdeal.τ).loc Cert.LossKernelIdeal.main_v5_2)) (v3 : (c : Dev Cert.LossKernelIdeal.nD) → Buf (Elt Ideal) ((c.tc : Thread Cert.LossKernelIdeal.nD Cert.LossKernelIdeal.τ).loc Cert.LossKernelIdeal.main_v5_3)) (v4 : (c : Dev Cert.LossKernelIdeal.nD) → Buf (Elt Ideal) ((c.tc : Thread Cert.LossKernelIdeal.nD Cert.LossKernelIdeal.τ).loc Cert.LossKernelIdeal.main_v5_4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v5_0) = v0 c
          ∧ r.2.mem ((c.tc : Thread Cert.LossKernelIdeal.nD Cert.LossKernelIdeal.τ).loc Cert.LossKernelIdeal.main_v5_1) = v1 c
          ∧ r.2.mem ((c.tc : Thread Cert.LossKernelIdeal.nD Cert.LossKernelIdeal.τ).loc Cert.LossKernelIdeal.main_v5_2) = v2 c
          ∧ r.2.mem ((c.tc : Thread Cert.LossKernelIdeal.nD Cert.LossKernelIdeal.τ).loc Cert.LossKernelIdeal.main_v5_3) = v3 c
          ∧ r.2.mem ((c.tc : Thread Cert.LossKernelIdeal.nD Cert.LossKernelIdeal.τ).loc Cert.LossKernelIdeal.main_v5_4) = v4 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v70) = v0 c
          ∧ r.2.mem ((c.tc : Thread Cert.LossReferenceIdeal.nD Cert.LossReferenceIdeal.τ).loc Cert.LossReferenceIdeal.main_v72) = v1 c
          ∧ r.2.mem ((c.tc : Thread Cert.LossReferenceIdeal.nD Cert.LossReferenceIdeal.τ).loc Cert.LossReferenceIdeal.main_v73) = v2 c
          ∧ r.2.mem ((c.tc : Thread Cert.LossReferenceIdeal.nD Cert.LossReferenceIdeal.τ).loc Cert.LossReferenceIdeal.main_v69) = v3 c
          ∧ r.2.mem ((c.tc : Thread Cert.LossReferenceIdeal.nD Cert.LossReferenceIdeal.τ).loc Cert.LossReferenceIdeal.main_v74) = v4 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5))

def preserves_InpKernel_InpKernelIdeal : Prop :=
  True

def algebraic_InpKernelIdeal_InpReferenceIdeal_pre_inp_finite [hInpKernelIdeal : Cert.InpKernelIdeal.Facts] [hInpReferenceIdeal : Cert.InpReferenceIdeal.Facts] [hPre_inp_finite : Cert.Pre_inp_finite.Facts] : Prop :=
  ∀ (m : (ℓ : Loc Cert.InpKernelIdeal.nD Cert.InpKernelIdeal.τ Cert.InpKernelIdeal.sig) → Buf (Elt Ideal) ℓ) (g : Dev Cert.InpKernelIdeal.nD → PrngReg)
    (m' : (ℓ : Loc Cert.InpReferenceIdeal.nD Cert.InpReferenceIdeal.τ Cert.InpReferenceIdeal.sig) → Buf (Elt Ideal) ℓ) (g' : Dev Cert.InpReferenceIdeal.nD → PrngReg), Pre_InpKernelIdeal_inp_finite m →
    (∀ c : Dev Cert.InpKernelIdeal.nD,
      m' ((c.tc : Thread Cert.InpReferenceIdeal.nD Cert.InpReferenceIdeal.τ).loc Cert.InpReferenceIdeal.main_arg0) = m ((c.tc : Thread Cert.InpKernelIdeal.nD Cert.InpKernelIdeal.τ).loc Cert.InpKernelIdeal.main_arg0)
      ∧ m' ((c.tc : Thread Cert.InpReferenceIdeal.nD Cert.InpReferenceIdeal.τ).loc Cert.InpReferenceIdeal.main_arg1) = m ((c.tc : Thread Cert.InpKernelIdeal.nD Cert.InpKernelIdeal.τ).loc Cert.InpKernelIdeal.main_arg1)
      ∧ m' ((c.tc : Thread Cert.InpReferenceIdeal.nD Cert.InpReferenceIdeal.τ).loc Cert.InpReferenceIdeal.main_arg2) = m ((c.tc : Thread Cert.InpKernelIdeal.nD Cert.InpKernelIdeal.τ).loc Cert.InpKernelIdeal.main_arg2)
      ∧ m' ((c.tc : Thread Cert.InpReferenceIdeal.nD Cert.InpReferenceIdeal.τ).loc Cert.InpReferenceIdeal.main_arg3) = m ((c.tc : Thread Cert.InpKernelIdeal.nD Cert.InpKernelIdeal.τ).loc Cert.InpKernelIdeal.main_arg3)
      ∧ m' ((c.tc : Thread Cert.InpReferenceIdeal.nD Cert.InpReferenceIdeal.τ).loc Cert.InpReferenceIdeal.main_arg4) = m ((c.tc : Thread Cert.InpKernelIdeal.nD Cert.InpKernelIdeal.τ).loc Cert.InpKernelIdeal.main_arg4)
      ∧ m' ((c.tc : Thread Cert.InpReferenceIdeal.nD Cert.InpReferenceIdeal.τ).loc Cert.InpReferenceIdeal.main_arg5) = m ((c.tc : Thread Cert.InpKernelIdeal.nD Cert.InpKernelIdeal.τ).loc Cert.InpKernelIdeal.main_arg5)) →
    ∃ (v0 : (c : Dev Cert.InpKernelIdeal.nD) → Buf (Elt Ideal) ((c.tc : Thread Cert.InpKernelIdeal.nD Cert.InpKernelIdeal.τ).loc Cert.InpKernelIdeal.main_v4_0)) (v1 : (c : Dev Cert.InpKernelIdeal.nD) → Buf (Elt Ideal) ((c.tc : Thread Cert.InpKernelIdeal.nD Cert.InpKernelIdeal.τ).loc Cert.InpKernelIdeal.main_v4_1)) (v2 : (c : Dev Cert.InpKernelIdeal.nD) → Buf (Elt Ideal) ((c.tc : Thread Cert.InpKernelIdeal.nD Cert.InpKernelIdeal.τ).loc Cert.InpKernelIdeal.main_v4_2)) (v3 : (c : Dev Cert.InpKernelIdeal.nD) → Buf (Elt Ideal) ((c.tc : Thread Cert.InpKernelIdeal.nD Cert.InpKernelIdeal.τ).loc Cert.InpKernelIdeal.main_v4_3)),
      θ_run (Cert.InpKernelIdeal.defs (F := Ideal)) (onTc (τ := Cert.InpKernelIdeal.τ) (Cert.InpKernelIdeal.main (F := Ideal))) ⟨m, fun _ => 0, g⟩ (fun r => ∀ c : Dev Cert.InpKernelIdeal.nD,
          r.2.mem ((c.tc : Thread Cert.InpKernelIdeal.nD Cert.InpKernelIdeal.τ).loc Cert.InpKernelIdeal.main_v4_0) = v0 c
          ∧ r.2.mem ((c.tc : Thread Cert.InpKernelIdeal.nD Cert.InpKernelIdeal.τ).loc Cert.InpKernelIdeal.main_v4_1) = v1 c
          ∧ r.2.mem ((c.tc : Thread Cert.InpKernelIdeal.nD Cert.InpKernelIdeal.τ).loc Cert.InpKernelIdeal.main_v4_2) = v2 c
          ∧ r.2.mem ((c.tc : Thread Cert.InpKernelIdeal.nD Cert.InpKernelIdeal.τ).loc Cert.InpKernelIdeal.main_v4_3) = v3 c
          ∧ r.2.mem ((c.tc : Thread Cert.InpKernelIdeal.nD Cert.InpKernelIdeal.τ).loc Cert.InpKernelIdeal.main_arg0) = m ((c.tc : Thread Cert.InpKernelIdeal.nD Cert.InpKernelIdeal.τ).loc Cert.InpKernelIdeal.main_arg0)
          ∧ r.2.mem ((c.tc : Thread Cert.InpKernelIdeal.nD Cert.InpKernelIdeal.τ).loc Cert.InpKernelIdeal.main_arg1) = m ((c.tc : Thread Cert.InpKernelIdeal.nD Cert.InpKernelIdeal.τ).loc Cert.InpKernelIdeal.main_arg1)
          ∧ r.2.mem ((c.tc : Thread Cert.InpKernelIdeal.nD Cert.InpKernelIdeal.τ).loc Cert.InpKernelIdeal.main_arg2) = m ((c.tc : Thread Cert.InpKernelIdeal.nD Cert.InpKernelIdeal.τ).loc Cert.InpKernelIdeal.main_arg2)
          ∧ r.2.mem ((c.tc : Thread Cert.InpKernelIdeal.nD Cert.InpKernelIdeal.τ).loc Cert.InpKernelIdeal.main_arg3) = m ((c.tc : Thread Cert.InpKernelIdeal.nD Cert.InpKernelIdeal.τ).loc Cert.InpKernelIdeal.main_arg3)
          ∧ r.2.mem ((c.tc : Thread Cert.InpKernelIdeal.nD Cert.InpKernelIdeal.τ).loc Cert.InpKernelIdeal.main_arg4) = m ((c.tc : Thread Cert.InpKernelIdeal.nD Cert.InpKernelIdeal.τ).loc Cert.InpKernelIdeal.main_arg4)
          ∧ r.2.mem ((c.tc : Thread Cert.InpKernelIdeal.nD Cert.InpKernelIdeal.τ).loc Cert.InpKernelIdeal.main_arg5) = m ((c.tc : Thread Cert.InpKernelIdeal.nD Cert.InpKernelIdeal.τ).loc Cert.InpKernelIdeal.main_arg5))
      ∧ θ_run (Cert.InpReferenceIdeal.defs (F := Ideal)) (onTc (τ := Cert.InpReferenceIdeal.τ) (Cert.InpReferenceIdeal.main (F := Ideal))) ⟨m', fun _ => 0, g'⟩ (fun r => ∀ c : Dev Cert.InpReferenceIdeal.nD,
          r.2.mem ((c.tc : Thread Cert.InpReferenceIdeal.nD Cert.InpReferenceIdeal.τ).loc Cert.InpReferenceIdeal.main_v68) = v0 c
          ∧ r.2.mem ((c.tc : Thread Cert.InpReferenceIdeal.nD Cert.InpReferenceIdeal.τ).loc Cert.InpReferenceIdeal.main_v37) = v1 c
          ∧ r.2.mem ((c.tc : Thread Cert.InpReferenceIdeal.nD Cert.InpReferenceIdeal.τ).loc Cert.InpReferenceIdeal.main_v44) = v2 c
          ∧ r.2.mem ((c.tc : Thread Cert.InpReferenceIdeal.nD Cert.InpReferenceIdeal.τ).loc Cert.InpReferenceIdeal.main_v67) = v3 c
          ∧ r.2.mem ((c.tc : Thread Cert.InpReferenceIdeal.nD Cert.InpReferenceIdeal.τ).loc Cert.InpReferenceIdeal.main_arg0) = m' ((c.tc : Thread Cert.InpReferenceIdeal.nD Cert.InpReferenceIdeal.τ).loc Cert.InpReferenceIdeal.main_arg0)
          ∧ r.2.mem ((c.tc : Thread Cert.InpReferenceIdeal.nD Cert.InpReferenceIdeal.τ).loc Cert.InpReferenceIdeal.main_arg1) = m' ((c.tc : Thread Cert.InpReferenceIdeal.nD Cert.InpReferenceIdeal.τ).loc Cert.InpReferenceIdeal.main_arg1)
          ∧ r.2.mem ((c.tc : Thread Cert.InpReferenceIdeal.nD Cert.InpReferenceIdeal.τ).loc Cert.InpReferenceIdeal.main_arg2) = m' ((c.tc : Thread Cert.InpReferenceIdeal.nD Cert.InpReferenceIdeal.τ).loc Cert.InpReferenceIdeal.main_arg2)
          ∧ r.2.mem ((c.tc : Thread Cert.InpReferenceIdeal.nD Cert.InpReferenceIdeal.τ).loc Cert.InpReferenceIdeal.main_arg3) = m' ((c.tc : Thread Cert.InpReferenceIdeal.nD Cert.InpReferenceIdeal.τ).loc Cert.InpReferenceIdeal.main_arg3)
          ∧ r.2.mem ((c.tc : Thread Cert.InpReferenceIdeal.nD Cert.InpReferenceIdeal.τ).loc Cert.InpReferenceIdeal.main_arg4) = m' ((c.tc : Thread Cert.InpReferenceIdeal.nD Cert.InpReferenceIdeal.τ).loc Cert.InpReferenceIdeal.main_arg4)
          ∧ r.2.mem ((c.tc : Thread Cert.InpReferenceIdeal.nD Cert.InpReferenceIdeal.τ).loc Cert.InpReferenceIdeal.main_arg5) = m' ((c.tc : Thread Cert.InpReferenceIdeal.nD Cert.InpReferenceIdeal.τ).loc Cert.InpReferenceIdeal.main_arg5))

def preserves_MixKernel_MixKernelIdeal : Prop :=
  True

def algebraic_MixKernelIdeal_MixReferenceIdeal_pre_mix_finite [hMixKernelIdeal : Cert.MixKernelIdeal.Facts] [hMixReferenceIdeal : Cert.MixReferenceIdeal.Facts] [hPre_mix_finite : Cert.Pre_mix_finite.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal_mix_finite m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)) →
    ∃ (v0 : (c : Dev Cert.MixKernelIdeal.nD) → Buf (Elt Ideal) ((c.tc : Thread Cert.MixKernelIdeal.nD Cert.MixKernelIdeal.τ).loc Cert.MixKernelIdeal.main_v76_0)) (v1 : (c : Dev Cert.MixKernelIdeal.nD) → Buf (Elt Ideal) ((c.tc : Thread Cert.MixKernelIdeal.nD Cert.MixKernelIdeal.τ).loc Cert.MixKernelIdeal.main_v76_1)) (v2 : (c : Dev Cert.MixKernelIdeal.nD) → Buf (Elt Ideal) ((c.tc : Thread Cert.MixKernelIdeal.nD Cert.MixKernelIdeal.τ).loc Cert.MixKernelIdeal.main_v76_2)) (v3 : (c : Dev Cert.MixKernelIdeal.nD) → Buf (Elt Ideal) ((c.tc : Thread Cert.MixKernelIdeal.nD Cert.MixKernelIdeal.τ).loc Cert.MixKernelIdeal.main_v76_3)) (v4 : (c : Dev Cert.MixKernelIdeal.nD) → Buf (Elt Ideal) ((c.tc : Thread Cert.MixKernelIdeal.nD Cert.MixKernelIdeal.τ).loc Cert.MixKernelIdeal.main_v76_4)) (v5 : (c : Dev Cert.MixKernelIdeal.nD) → Buf (Elt Ideal) ((c.tc : Thread Cert.MixKernelIdeal.nD Cert.MixKernelIdeal.τ).loc Cert.MixKernelIdeal.main_v76_5)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v76_0) = v0 c
          ∧ r.2.mem ((c.tc : Thread Cert.MixKernelIdeal.nD Cert.MixKernelIdeal.τ).loc Cert.MixKernelIdeal.main_v76_1) = v1 c
          ∧ r.2.mem ((c.tc : Thread Cert.MixKernelIdeal.nD Cert.MixKernelIdeal.τ).loc Cert.MixKernelIdeal.main_v76_2) = v2 c
          ∧ r.2.mem ((c.tc : Thread Cert.MixKernelIdeal.nD Cert.MixKernelIdeal.τ).loc Cert.MixKernelIdeal.main_v76_3) = v3 c
          ∧ r.2.mem ((c.tc : Thread Cert.MixKernelIdeal.nD Cert.MixKernelIdeal.τ).loc Cert.MixKernelIdeal.main_v76_4) = v4 c
          ∧ r.2.mem ((c.tc : Thread Cert.MixKernelIdeal.nD Cert.MixKernelIdeal.τ).loc Cert.MixKernelIdeal.main_v76_5) = v5 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v262) = v0 c
          ∧ r.2.mem ((c.tc : Thread Cert.MixReferenceIdeal.nD Cert.MixReferenceIdeal.τ).loc Cert.MixReferenceIdeal.main_v256) = v1 c
          ∧ r.2.mem ((c.tc : Thread Cert.MixReferenceIdeal.nD Cert.MixReferenceIdeal.τ).loc Cert.MixReferenceIdeal.main_v204) = v2 c
          ∧ r.2.mem ((c.tc : Thread Cert.MixReferenceIdeal.nD Cert.MixReferenceIdeal.τ).loc Cert.MixReferenceIdeal.main_v203) = v3 c
          ∧ r.2.mem ((c.tc : Thread Cert.MixReferenceIdeal.nD Cert.MixReferenceIdeal.τ).loc Cert.MixReferenceIdeal.main_v263) = v4 c
          ∧ r.2.mem ((c.tc : Thread Cert.MixReferenceIdeal.nD Cert.MixReferenceIdeal.τ).loc Cert.MixReferenceIdeal.main_v264) = v5 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_FwdKernel_FwdKernelIdeal : Prop :=
  True

def algebraic_FwdKernelIdeal_FwdReferenceIdeal_pre_fwd_finite [hFwdKernelIdeal : Cert.FwdKernelIdeal.Facts] [hFwdReferenceIdeal : Cert.FwdReferenceIdeal.Facts] [hPre_fwd_finite : Cert.Pre_fwd_finite.Facts] : Prop :=
  ∀ (m : (ℓ : Loc Cert.FwdKernelIdeal.nD Cert.FwdKernelIdeal.τ Cert.FwdKernelIdeal.sig) → Buf (Elt Ideal) ℓ) (g : Dev Cert.FwdKernelIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdKernelIdeal_fwd_finite m →
    (∀ c : Dev Cert.FwdKernelIdeal.nD,
      m' ((c.tc : Thread Cert.FwdReferenceIdeal.nD Cert.FwdReferenceIdeal.τ).loc Cert.FwdReferenceIdeal.main_arg0) = m ((c.tc : Thread Cert.FwdKernelIdeal.nD Cert.FwdKernelIdeal.τ).loc Cert.FwdKernelIdeal.main_arg0)
      ∧ m' ((c.tc : Thread Cert.FwdReferenceIdeal.nD Cert.FwdReferenceIdeal.τ).loc Cert.FwdReferenceIdeal.main_arg1) = m ((c.tc : Thread Cert.FwdKernelIdeal.nD Cert.FwdKernelIdeal.τ).loc Cert.FwdKernelIdeal.main_arg1)
      ∧ m' ((c.tc : Thread Cert.FwdReferenceIdeal.nD Cert.FwdReferenceIdeal.τ).loc Cert.FwdReferenceIdeal.main_arg2) = m ((c.tc : Thread Cert.FwdKernelIdeal.nD Cert.FwdKernelIdeal.τ).loc Cert.FwdKernelIdeal.main_arg2)
      ∧ m' ((c.tc : Thread Cert.FwdReferenceIdeal.nD Cert.FwdReferenceIdeal.τ).loc Cert.FwdReferenceIdeal.main_arg3) = m ((c.tc : Thread Cert.FwdKernelIdeal.nD Cert.FwdKernelIdeal.τ).loc Cert.FwdKernelIdeal.main_arg3)
      ∧ m' ((c.tc : Thread Cert.FwdReferenceIdeal.nD Cert.FwdReferenceIdeal.τ).loc Cert.FwdReferenceIdeal.main_arg4) = m ((c.tc : Thread Cert.FwdKernelIdeal.nD Cert.FwdKernelIdeal.τ).loc Cert.FwdKernelIdeal.main_arg4)
      ∧ m' ((c.tc : Thread Cert.FwdReferenceIdeal.nD Cert.FwdReferenceIdeal.τ).loc Cert.FwdReferenceIdeal.main_arg5) = m ((c.tc : Thread Cert.FwdKernelIdeal.nD Cert.FwdKernelIdeal.τ).loc Cert.FwdKernelIdeal.main_arg5)) →
    ∃ (v0 : (c : Dev Cert.FwdKernelIdeal.nD) → Buf (Elt Ideal) ((c.tc : Thread Cert.FwdKernelIdeal.nD Cert.FwdKernelIdeal.τ).loc Cert.FwdKernelIdeal.main_v3_0)) (v1 : (c : Dev Cert.FwdKernelIdeal.nD) → Buf (Elt Ideal) ((c.tc : Thread Cert.FwdKernelIdeal.nD Cert.FwdKernelIdeal.τ).loc Cert.FwdKernelIdeal.main_v3_1)),
      θ_run (Cert.FwdKernelIdeal.defs (F := Ideal)) (onTc (τ := Cert.FwdKernelIdeal.τ) (Cert.FwdKernelIdeal.main (F := Ideal))) ⟨m, fun _ => 0, g⟩ (fun r => ∀ c : Dev Cert.FwdKernelIdeal.nD,
          r.2.mem ((c.tc : Thread Cert.FwdKernelIdeal.nD Cert.FwdKernelIdeal.τ).loc Cert.FwdKernelIdeal.main_v3_0) = v0 c
          ∧ r.2.mem ((c.tc : Thread Cert.FwdKernelIdeal.nD Cert.FwdKernelIdeal.τ).loc Cert.FwdKernelIdeal.main_v3_1) = v1 c
          ∧ r.2.mem ((c.tc : Thread Cert.FwdKernelIdeal.nD Cert.FwdKernelIdeal.τ).loc Cert.FwdKernelIdeal.main_arg0) = m ((c.tc : Thread Cert.FwdKernelIdeal.nD Cert.FwdKernelIdeal.τ).loc Cert.FwdKernelIdeal.main_arg0)
          ∧ r.2.mem ((c.tc : Thread Cert.FwdKernelIdeal.nD Cert.FwdKernelIdeal.τ).loc Cert.FwdKernelIdeal.main_arg1) = m ((c.tc : Thread Cert.FwdKernelIdeal.nD Cert.FwdKernelIdeal.τ).loc Cert.FwdKernelIdeal.main_arg1)
          ∧ r.2.mem ((c.tc : Thread Cert.FwdKernelIdeal.nD Cert.FwdKernelIdeal.τ).loc Cert.FwdKernelIdeal.main_arg2) = m ((c.tc : Thread Cert.FwdKernelIdeal.nD Cert.FwdKernelIdeal.τ).loc Cert.FwdKernelIdeal.main_arg2)
          ∧ r.2.mem ((c.tc : Thread Cert.FwdKernelIdeal.nD Cert.FwdKernelIdeal.τ).loc Cert.FwdKernelIdeal.main_arg3) = m ((c.tc : Thread Cert.FwdKernelIdeal.nD Cert.FwdKernelIdeal.τ).loc Cert.FwdKernelIdeal.main_arg3)
          ∧ r.2.mem ((c.tc : Thread Cert.FwdKernelIdeal.nD Cert.FwdKernelIdeal.τ).loc Cert.FwdKernelIdeal.main_arg4) = m ((c.tc : Thread Cert.FwdKernelIdeal.nD Cert.FwdKernelIdeal.τ).loc Cert.FwdKernelIdeal.main_arg4)
          ∧ r.2.mem ((c.tc : Thread Cert.FwdKernelIdeal.nD Cert.FwdKernelIdeal.τ).loc Cert.FwdKernelIdeal.main_arg5) = m ((c.tc : Thread Cert.FwdKernelIdeal.nD Cert.FwdKernelIdeal.τ).loc Cert.FwdKernelIdeal.main_arg5))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v123) = v0 c
          ∧ r.2.mem ((c.tc : Thread Cert.FwdReferenceIdeal.nD Cert.FwdReferenceIdeal.τ).loc Cert.FwdReferenceIdeal.main_v196) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2)
          ∧ r.2.mem ((c.tc : Thread Cert.FwdReferenceIdeal.nD Cert.FwdReferenceIdeal.τ).loc Cert.FwdReferenceIdeal.main_arg3) = m' ((c.tc : Thread Cert.FwdReferenceIdeal.nD Cert.FwdReferenceIdeal.τ).loc Cert.FwdReferenceIdeal.main_arg3)
          ∧ r.2.mem ((c.tc : Thread Cert.FwdReferenceIdeal.nD Cert.FwdReferenceIdeal.τ).loc Cert.FwdReferenceIdeal.main_arg4) = m' ((c.tc : Thread Cert.FwdReferenceIdeal.nD Cert.FwdReferenceIdeal.τ).loc Cert.FwdReferenceIdeal.main_arg4)
          ∧ r.2.mem ((c.tc : Thread Cert.FwdReferenceIdeal.nD Cert.FwdReferenceIdeal.τ).loc Cert.FwdReferenceIdeal.main_arg5) = m' ((c.tc : Thread Cert.FwdReferenceIdeal.nD Cert.FwdReferenceIdeal.τ).loc Cert.FwdReferenceIdeal.main_arg5))

def preserves_CotKernel_CotKernelIdeal : Prop :=
  True

def algebraic_CotKernelIdeal_CotReferenceIdeal [hCotKernelIdeal : Cert.CotKernelIdeal.Facts] [hCotReferenceIdeal : Cert.CotReferenceIdeal.Facts] : Prop :=
  ∀ (m : (ℓ : Loc Cert.CotKernelIdeal.nD Cert.CotKernelIdeal.τ Cert.CotKernelIdeal.sig) → Buf (Elt Ideal) ℓ) (g : Dev Cert.CotKernelIdeal.nD → PrngReg)
    (m' : (ℓ : Loc Cert.CotReferenceIdeal.nD Cert.CotReferenceIdeal.τ Cert.CotReferenceIdeal.sig) → Buf (Elt Ideal) ℓ) (g' : Dev Cert.CotReferenceIdeal.nD → PrngReg), Pre_CotKernelIdeal m →
    (∀ c : Dev Cert.CotKernelIdeal.nD,
      m' ((c.tc : Thread Cert.CotReferenceIdeal.nD Cert.CotReferenceIdeal.τ).loc Cert.CotReferenceIdeal.main_arg0) = m ((c.tc : Thread Cert.CotKernelIdeal.nD Cert.CotKernelIdeal.τ).loc Cert.CotKernelIdeal.main_arg0)
      ∧ m' ((c.tc : Thread Cert.CotReferenceIdeal.nD Cert.CotReferenceIdeal.τ).loc Cert.CotReferenceIdeal.main_arg1) = m ((c.tc : Thread Cert.CotKernelIdeal.nD Cert.CotKernelIdeal.τ).loc Cert.CotKernelIdeal.main_arg1)) →
    ∃ (v0 : (c : Dev Cert.CotKernelIdeal.nD) → Buf (Elt Ideal) ((c.tc : Thread Cert.CotKernelIdeal.nD Cert.CotKernelIdeal.τ).loc Cert.CotKernelIdeal.main_v3)),
      θ_run (Cert.CotKernelIdeal.defs (F := Ideal)) (onTc (τ := Cert.CotKernelIdeal.τ) (Cert.CotKernelIdeal.main (F := Ideal))) ⟨m, fun _ => 0, g⟩ (fun r => ∀ c : Dev Cert.CotKernelIdeal.nD,
          r.2.mem ((c.tc : Thread Cert.CotKernelIdeal.nD Cert.CotKernelIdeal.τ).loc Cert.CotKernelIdeal.main_v3) = v0 c
          ∧ r.2.mem ((c.tc : Thread Cert.CotKernelIdeal.nD Cert.CotKernelIdeal.τ).loc Cert.CotKernelIdeal.main_arg0) = m ((c.tc : Thread Cert.CotKernelIdeal.nD Cert.CotKernelIdeal.τ).loc Cert.CotKernelIdeal.main_arg0)
          ∧ r.2.mem ((c.tc : Thread Cert.CotKernelIdeal.nD Cert.CotKernelIdeal.τ).loc Cert.CotKernelIdeal.main_arg1) = m ((c.tc : Thread Cert.CotKernelIdeal.nD Cert.CotKernelIdeal.τ).loc Cert.CotKernelIdeal.main_arg1))
      ∧ θ_run (Cert.CotReferenceIdeal.defs (F := Ideal)) (onTc (τ := Cert.CotReferenceIdeal.τ) (Cert.CotReferenceIdeal.main (F := Ideal))) ⟨m', fun _ => 0, g'⟩ (fun r => ∀ c : Dev Cert.CotReferenceIdeal.nD,
          r.2.mem ((c.tc : Thread Cert.CotReferenceIdeal.nD Cert.CotReferenceIdeal.τ).loc Cert.CotReferenceIdeal.main_v4) = v0 c
          ∧ r.2.mem ((c.tc : Thread Cert.CotReferenceIdeal.nD Cert.CotReferenceIdeal.τ).loc Cert.CotReferenceIdeal.main_arg0) = m' ((c.tc : Thread Cert.CotReferenceIdeal.nD Cert.CotReferenceIdeal.τ).loc Cert.CotReferenceIdeal.main_arg0)
          ∧ r.2.mem ((c.tc : Thread Cert.CotReferenceIdeal.nD Cert.CotReferenceIdeal.τ).loc Cert.CotReferenceIdeal.main_arg1) = m' ((c.tc : Thread Cert.CotReferenceIdeal.nD Cert.CotReferenceIdeal.τ).loc Cert.CotReferenceIdeal.main_arg1))

def preserves_WgtKernel_WgtKernelIdeal : Prop :=
  True

def algebraic_WgtKernelIdeal_WgtReferenceIdeal [hWgtKernelIdeal : Cert.WgtKernelIdeal.Facts] [hWgtReferenceIdeal : Cert.WgtReferenceIdeal.Facts] : Prop :=
  ∀ (m : (ℓ : Loc Cert.WgtKernelIdeal.nD Cert.WgtKernelIdeal.τ Cert.WgtKernelIdeal.sig) → Buf (Elt Ideal) ℓ) (g : Dev Cert.WgtKernelIdeal.nD → PrngReg)
    (m' : (ℓ : Loc Cert.WgtReferenceIdeal.nD Cert.WgtReferenceIdeal.τ Cert.WgtReferenceIdeal.sig) → Buf (Elt Ideal) ℓ) (g' : Dev Cert.WgtReferenceIdeal.nD → PrngReg), Pre_WgtKernelIdeal m →
    (∀ c : Dev Cert.WgtKernelIdeal.nD,
      m' ((c.tc : Thread Cert.WgtReferenceIdeal.nD Cert.WgtReferenceIdeal.τ).loc Cert.WgtReferenceIdeal.main_arg0) = m ((c.tc : Thread Cert.WgtKernelIdeal.nD Cert.WgtKernelIdeal.τ).loc Cert.WgtKernelIdeal.main_arg0)
      ∧ m' ((c.tc : Thread Cert.WgtReferenceIdeal.nD Cert.WgtReferenceIdeal.τ).loc Cert.WgtReferenceIdeal.main_arg1) = m ((c.tc : Thread Cert.WgtKernelIdeal.nD Cert.WgtKernelIdeal.τ).loc Cert.WgtKernelIdeal.main_arg1)) →
    ∃ (v0 : (c : Dev Cert.WgtKernelIdeal.nD) → Buf (Elt Ideal) ((c.tc : Thread Cert.WgtKernelIdeal.nD Cert.WgtKernelIdeal.τ).loc Cert.WgtKernelIdeal.main_v0)),
      θ_run (Cert.WgtKernelIdeal.defs (F := Ideal)) (onTc (τ := Cert.WgtKernelIdeal.τ) (Cert.WgtKernelIdeal.main (F := Ideal))) ⟨m, fun _ => 0, g⟩ (fun r => ∀ c : Dev Cert.WgtKernelIdeal.nD,
          r.2.mem ((c.tc : Thread Cert.WgtKernelIdeal.nD Cert.WgtKernelIdeal.τ).loc Cert.WgtKernelIdeal.main_v0) = v0 c
          ∧ r.2.mem ((c.tc : Thread Cert.WgtKernelIdeal.nD Cert.WgtKernelIdeal.τ).loc Cert.WgtKernelIdeal.main_arg0) = m ((c.tc : Thread Cert.WgtKernelIdeal.nD Cert.WgtKernelIdeal.τ).loc Cert.WgtKernelIdeal.main_arg0)
          ∧ r.2.mem ((c.tc : Thread Cert.WgtKernelIdeal.nD Cert.WgtKernelIdeal.τ).loc Cert.WgtKernelIdeal.main_arg1) = m ((c.tc : Thread Cert.WgtKernelIdeal.nD Cert.WgtKernelIdeal.τ).loc Cert.WgtKernelIdeal.main_arg1))
      ∧ θ_run (Cert.WgtReferenceIdeal.defs (F := Ideal)) (onTc (τ := Cert.WgtReferenceIdeal.τ) (Cert.WgtReferenceIdeal.main (F := Ideal))) ⟨m', fun _ => 0, g'⟩ (fun r => ∀ c : Dev Cert.WgtReferenceIdeal.nD,
          r.2.mem ((c.tc : Thread Cert.WgtReferenceIdeal.nD Cert.WgtReferenceIdeal.τ).loc Cert.WgtReferenceIdeal.main_v9) = v0 c
          ∧ r.2.mem ((c.tc : Thread Cert.WgtReferenceIdeal.nD Cert.WgtReferenceIdeal.τ).loc Cert.WgtReferenceIdeal.main_arg0) = m' ((c.tc : Thread Cert.WgtReferenceIdeal.nD Cert.WgtReferenceIdeal.τ).loc Cert.WgtReferenceIdeal.main_arg0)
          ∧ r.2.mem ((c.tc : Thread Cert.WgtReferenceIdeal.nD Cert.WgtReferenceIdeal.τ).loc Cert.WgtReferenceIdeal.main_arg1) = m' ((c.tc : Thread Cert.WgtReferenceIdeal.nD Cert.WgtReferenceIdeal.τ).loc Cert.WgtReferenceIdeal.main_arg1))

def preserves_OddKernel_OddKernelIdeal : Prop :=
  True

def algebraic_OddKernelIdeal_OddReferenceIdeal [hOddKernelIdeal : Cert.OddKernelIdeal.Facts] [hOddReferenceIdeal : Cert.OddReferenceIdeal.Facts] : Prop :=
  ∀ (m : (ℓ : Loc Cert.OddKernelIdeal.nD Cert.OddKernelIdeal.τ Cert.OddKernelIdeal.sig) → Buf (Elt Ideal) ℓ) (g : Dev Cert.OddKernelIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddKernelIdeal m →
    (∀ c : Dev Cert.OddKernelIdeal.nD,
      m' ((c.tc : Thread Cert.OddReferenceIdeal.nD Cert.OddReferenceIdeal.τ).loc Cert.OddReferenceIdeal.main_arg0) = m ((c.tc : Thread Cert.OddKernelIdeal.nD Cert.OddKernelIdeal.τ).loc Cert.OddKernelIdeal.main_arg0)
      ∧ m' ((c.tc : Thread Cert.OddReferenceIdeal.nD Cert.OddReferenceIdeal.τ).loc Cert.OddReferenceIdeal.main_arg1) = m ((c.tc : Thread Cert.OddKernelIdeal.nD Cert.OddKernelIdeal.τ).loc Cert.OddKernelIdeal.main_arg1)
      ∧ m' ((c.tc : Thread Cert.OddReferenceIdeal.nD Cert.OddReferenceIdeal.τ).loc Cert.OddReferenceIdeal.main_arg2) = m ((c.tc : Thread Cert.OddKernelIdeal.nD Cert.OddKernelIdeal.τ).loc Cert.OddKernelIdeal.main_arg2)) →
    ∃ (v0 : (c : Dev Cert.OddKernelIdeal.nD) → Buf (Elt Ideal) ((c.tc : Thread Cert.OddKernelIdeal.nD Cert.OddKernelIdeal.τ).loc Cert.OddKernelIdeal.main_v4)),
      θ_run (Cert.OddKernelIdeal.defs (F := Ideal)) (onTc (τ := Cert.OddKernelIdeal.τ) (Cert.OddKernelIdeal.main (F := Ideal))) ⟨m, fun _ => 0, g⟩ (fun r => ∀ c : Dev Cert.OddKernelIdeal.nD,
          r.2.mem ((c.tc : Thread Cert.OddKernelIdeal.nD Cert.OddKernelIdeal.τ).loc Cert.OddKernelIdeal.main_v4) = v0 c
          ∧ r.2.mem ((c.tc : Thread Cert.OddKernelIdeal.nD Cert.OddKernelIdeal.τ).loc Cert.OddKernelIdeal.main_arg0) = m ((c.tc : Thread Cert.OddKernelIdeal.nD Cert.OddKernelIdeal.τ).loc Cert.OddKernelIdeal.main_arg0)
          ∧ r.2.mem ((c.tc : Thread Cert.OddKernelIdeal.nD Cert.OddKernelIdeal.τ).loc Cert.OddKernelIdeal.main_arg1) = m ((c.tc : Thread Cert.OddKernelIdeal.nD Cert.OddKernelIdeal.τ).loc Cert.OddKernelIdeal.main_arg1)
          ∧ r.2.mem ((c.tc : Thread Cert.OddKernelIdeal.nD Cert.OddKernelIdeal.τ).loc Cert.OddKernelIdeal.main_arg2) = m ((c.tc : Thread Cert.OddKernelIdeal.nD Cert.OddKernelIdeal.τ).loc Cert.OddKernelIdeal.main_arg2))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v12) = v0 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2))

def preserves_RowsKernel_RowsKernelIdeal : Prop :=
  True

def algebraic_RowsKernelIdeal_RowsReferenceIdeal [hRowsKernelIdeal : Cert.RowsKernelIdeal.Facts] [hRowsReferenceIdeal : Cert.RowsReferenceIdeal.Facts] : Prop :=
  ∀ (m : (ℓ : Loc Cert.RowsKernelIdeal.nD Cert.RowsKernelIdeal.τ Cert.RowsKernelIdeal.sig) → Buf (Elt Ideal) ℓ) (g : Dev Cert.RowsKernelIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsKernelIdeal m →
    (∀ c : Dev Cert.RowsKernelIdeal.nD,
      m' ((c.tc : Thread Cert.RowsReferenceIdeal.nD Cert.RowsReferenceIdeal.τ).loc Cert.RowsReferenceIdeal.main_arg0) = m ((c.tc : Thread Cert.RowsKernelIdeal.nD Cert.RowsKernelIdeal.τ).loc Cert.RowsKernelIdeal.main_arg0)
      ∧ m' ((c.tc : Thread Cert.RowsReferenceIdeal.nD Cert.RowsReferenceIdeal.τ).loc Cert.RowsReferenceIdeal.main_arg1) = m ((c.tc : Thread Cert.RowsKernelIdeal.nD Cert.RowsKernelIdeal.τ).loc Cert.RowsKernelIdeal.main_arg1)
      ∧ m' ((c.tc : Thread Cert.RowsReferenceIdeal.nD Cert.RowsReferenceIdeal.τ).loc Cert.RowsReferenceIdeal.main_arg2) = m ((c.tc : Thread Cert.RowsKernelIdeal.nD Cert.RowsKernelIdeal.τ).loc Cert.RowsKernelIdeal.main_arg2)
      ∧ m' ((c.tc : Thread Cert.RowsReferenceIdeal.nD Cert.RowsReferenceIdeal.τ).loc Cert.RowsReferenceIdeal.main_arg3) = m ((c.tc : Thread Cert.RowsKernelIdeal.nD Cert.RowsKernelIdeal.τ).loc Cert.RowsKernelIdeal.main_arg3)) →
    ∃ (v0 : (c : Dev Cert.RowsKernelIdeal.nD) → Buf (Elt Ideal) ((c.tc : Thread Cert.RowsKernelIdeal.nD Cert.RowsKernelIdeal.τ).loc Cert.RowsKernelIdeal.main_v4_0)) (v1 : (c : Dev Cert.RowsKernelIdeal.nD) → Buf (Elt Ideal) ((c.tc : Thread Cert.RowsKernelIdeal.nD Cert.RowsKernelIdeal.τ).loc Cert.RowsKernelIdeal.main_v4_1)) (v2 : (c : Dev Cert.RowsKernelIdeal.nD) → Buf (Elt Ideal) ((c.tc : Thread Cert.RowsKernelIdeal.nD Cert.RowsKernelIdeal.τ).loc Cert.RowsKernelIdeal.main_v4_2)) (v3 : (c : Dev Cert.RowsKernelIdeal.nD) → Buf (Elt Ideal) ((c.tc : Thread Cert.RowsKernelIdeal.nD Cert.RowsKernelIdeal.τ).loc Cert.RowsKernelIdeal.main_v4_3)),
      θ_run (Cert.RowsKernelIdeal.defs (F := Ideal)) (onTc (τ := Cert.RowsKernelIdeal.τ) (Cert.RowsKernelIdeal.main (F := Ideal))) ⟨m, fun _ => 0, g⟩ (fun r => ∀ c : Dev Cert.RowsKernelIdeal.nD,
          r.2.mem ((c.tc : Thread Cert.RowsKernelIdeal.nD Cert.RowsKernelIdeal.τ).loc Cert.RowsKernelIdeal.main_v4_0) = v0 c
          ∧ r.2.mem ((c.tc : Thread Cert.RowsKernelIdeal.nD Cert.RowsKernelIdeal.τ).loc Cert.RowsKernelIdeal.main_v4_1) = v1 c
          ∧ r.2.mem ((c.tc : Thread Cert.RowsKernelIdeal.nD Cert.RowsKernelIdeal.τ).loc Cert.RowsKernelIdeal.main_v4_2) = v2 c
          ∧ r.2.mem ((c.tc : Thread Cert.RowsKernelIdeal.nD Cert.RowsKernelIdeal.τ).loc Cert.RowsKernelIdeal.main_v4_3) = v3 c
          ∧ r.2.mem ((c.tc : Thread Cert.RowsKernelIdeal.nD Cert.RowsKernelIdeal.τ).loc Cert.RowsKernelIdeal.main_arg0) = m ((c.tc : Thread Cert.RowsKernelIdeal.nD Cert.RowsKernelIdeal.τ).loc Cert.RowsKernelIdeal.main_arg0)
          ∧ r.2.mem ((c.tc : Thread Cert.RowsKernelIdeal.nD Cert.RowsKernelIdeal.τ).loc Cert.RowsKernelIdeal.main_arg1) = m ((c.tc : Thread Cert.RowsKernelIdeal.nD Cert.RowsKernelIdeal.τ).loc Cert.RowsKernelIdeal.main_arg1)
          ∧ r.2.mem ((c.tc : Thread Cert.RowsKernelIdeal.nD Cert.RowsKernelIdeal.τ).loc Cert.RowsKernelIdeal.main_arg2) = m ((c.tc : Thread Cert.RowsKernelIdeal.nD Cert.RowsKernelIdeal.τ).loc Cert.RowsKernelIdeal.main_arg2)
          ∧ r.2.mem ((c.tc : Thread Cert.RowsKernelIdeal.nD Cert.RowsKernelIdeal.τ).loc Cert.RowsKernelIdeal.main_arg3) = m ((c.tc : Thread Cert.RowsKernelIdeal.nD Cert.RowsKernelIdeal.τ).loc Cert.RowsKernelIdeal.main_arg3))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_arg1) = v0 c
          ∧ r.2.mem ((c.tc : Thread Cert.RowsReferenceIdeal.nD Cert.RowsReferenceIdeal.τ).loc Cert.RowsReferenceIdeal.main_v25) = v1 c
          ∧ r.2.mem ((c.tc : Thread Cert.RowsReferenceIdeal.nD Cert.RowsReferenceIdeal.τ).loc Cert.RowsReferenceIdeal.main_v26) = v2 c
          ∧ r.2.mem ((c.tc : Thread Cert.RowsReferenceIdeal.nD Cert.RowsReferenceIdeal.τ).loc Cert.RowsReferenceIdeal.main_v27) = v3 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2)
          ∧ r.2.mem ((c.tc : Thread Cert.RowsReferenceIdeal.nD Cert.RowsReferenceIdeal.τ).loc Cert.RowsReferenceIdeal.main_arg3) = m' ((c.tc : Thread Cert.RowsReferenceIdeal.nD Cert.RowsReferenceIdeal.τ).loc Cert.RowsReferenceIdeal.main_arg3))

def preserves_AdaKernel_AdaKernelIdeal : Prop :=
  True

def algebraic_AdaKernelIdeal_AdaReferenceIdeal [hAdaKernelIdeal : Cert.AdaKernelIdeal.Facts] [hAdaReferenceIdeal : Cert.AdaReferenceIdeal.Facts] : Prop :=
  ∀ (m : (ℓ : Loc Cert.AdaKernelIdeal.nD Cert.AdaKernelIdeal.τ Cert.AdaKernelIdeal.sig) → Buf (Elt Ideal) ℓ) (g : Dev Cert.AdaKernelIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaKernelIdeal m →
    (∀ c : Dev Cert.AdaKernelIdeal.nD,
      m' ((c.tc : Thread Cert.AdaReferenceIdeal.nD Cert.AdaReferenceIdeal.τ).loc Cert.AdaReferenceIdeal.main_arg0) = m ((c.tc : Thread Cert.AdaKernelIdeal.nD Cert.AdaKernelIdeal.τ).loc Cert.AdaKernelIdeal.main_arg0)
      ∧ m' ((c.tc : Thread Cert.AdaReferenceIdeal.nD Cert.AdaReferenceIdeal.τ).loc Cert.AdaReferenceIdeal.main_arg1) = m ((c.tc : Thread Cert.AdaKernelIdeal.nD Cert.AdaKernelIdeal.τ).loc Cert.AdaKernelIdeal.main_arg1)
      ∧ m' ((c.tc : Thread Cert.AdaReferenceIdeal.nD Cert.AdaReferenceIdeal.τ).loc Cert.AdaReferenceIdeal.main_arg2) = m ((c.tc : Thread Cert.AdaKernelIdeal.nD Cert.AdaKernelIdeal.τ).loc Cert.AdaKernelIdeal.main_arg2)
      ∧ m' ((c.tc : Thread Cert.AdaReferenceIdeal.nD Cert.AdaReferenceIdeal.τ).loc Cert.AdaReferenceIdeal.main_arg3) = m ((c.tc : Thread Cert.AdaKernelIdeal.nD Cert.AdaKernelIdeal.τ).loc Cert.AdaKernelIdeal.main_arg3)
      ∧ m' ((c.tc : Thread Cert.AdaReferenceIdeal.nD Cert.AdaReferenceIdeal.τ).loc Cert.AdaReferenceIdeal.main_arg4) = m ((c.tc : Thread Cert.AdaKernelIdeal.nD Cert.AdaKernelIdeal.τ).loc Cert.AdaKernelIdeal.main_arg4)) →
    ∃ (v0 : (c : Dev Cert.AdaKernelIdeal.nD) → Buf (Elt Ideal) ((c.tc : Thread Cert.AdaKernelIdeal.nD Cert.AdaKernelIdeal.τ).loc Cert.AdaKernelIdeal.main_v4_0)) (v1 : (c : Dev Cert.AdaKernelIdeal.nD) → Buf (Elt Ideal) ((c.tc : Thread Cert.AdaKernelIdeal.nD Cert.AdaKernelIdeal.τ).loc Cert.AdaKernelIdeal.main_v4_1)) (v2 : (c : Dev Cert.AdaKernelIdeal.nD) → Buf (Elt Ideal) ((c.tc : Thread Cert.AdaKernelIdeal.nD Cert.AdaKernelIdeal.τ).loc Cert.AdaKernelIdeal.main_v4_2)) (v3 : (c : Dev Cert.AdaKernelIdeal.nD) → Buf (Elt Ideal) ((c.tc : Thread Cert.AdaKernelIdeal.nD Cert.AdaKernelIdeal.τ).loc Cert.AdaKernelIdeal.main_v4_3)),
      θ_run (Cert.AdaKernelIdeal.defs (F := Ideal)) (onTc (τ := Cert.AdaKernelIdeal.τ) (Cert.AdaKernelIdeal.main (F := Ideal))) ⟨m, fun _ => 0, g⟩ (fun r => ∀ c : Dev Cert.AdaKernelIdeal.nD,
          r.2.mem ((c.tc : Thread Cert.AdaKernelIdeal.nD Cert.AdaKernelIdeal.τ).loc Cert.AdaKernelIdeal.main_v4_0) = v0 c
          ∧ r.2.mem ((c.tc : Thread Cert.AdaKernelIdeal.nD Cert.AdaKernelIdeal.τ).loc Cert.AdaKernelIdeal.main_v4_1) = v1 c
          ∧ r.2.mem ((c.tc : Thread Cert.AdaKernelIdeal.nD Cert.AdaKernelIdeal.τ).loc Cert.AdaKernelIdeal.main_v4_2) = v2 c
          ∧ r.2.mem ((c.tc : Thread Cert.AdaKernelIdeal.nD Cert.AdaKernelIdeal.τ).loc Cert.AdaKernelIdeal.main_v4_3) = v3 c
          ∧ r.2.mem ((c.tc : Thread Cert.AdaKernelIdeal.nD Cert.AdaKernelIdeal.τ).loc Cert.AdaKernelIdeal.main_arg0) = m ((c.tc : Thread Cert.AdaKernelIdeal.nD Cert.AdaKernelIdeal.τ).loc Cert.AdaKernelIdeal.main_arg0)
          ∧ r.2.mem ((c.tc : Thread Cert.AdaKernelIdeal.nD Cert.AdaKernelIdeal.τ).loc Cert.AdaKernelIdeal.main_arg1) = m ((c.tc : Thread Cert.AdaKernelIdeal.nD Cert.AdaKernelIdeal.τ).loc Cert.AdaKernelIdeal.main_arg1)
          ∧ r.2.mem ((c.tc : Thread Cert.AdaKernelIdeal.nD Cert.AdaKernelIdeal.τ).loc Cert.AdaKernelIdeal.main_arg2) = m ((c.tc : Thread Cert.AdaKernelIdeal.nD Cert.AdaKernelIdeal.τ).loc Cert.AdaKernelIdeal.main_arg2)
          ∧ r.2.mem ((c.tc : Thread Cert.AdaKernelIdeal.nD Cert.AdaKernelIdeal.τ).loc Cert.AdaKernelIdeal.main_arg3) = m ((c.tc : Thread Cert.AdaKernelIdeal.nD Cert.AdaKernelIdeal.τ).loc Cert.AdaKernelIdeal.main_arg3)
          ∧ r.2.mem ((c.tc : Thread Cert.AdaKernelIdeal.nD Cert.AdaKernelIdeal.τ).loc Cert.AdaKernelIdeal.main_arg4) = m ((c.tc : Thread Cert.AdaKernelIdeal.nD Cert.AdaKernelIdeal.τ).loc Cert.AdaKernelIdeal.main_arg4))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v30) = v0 c
          ∧ r.2.mem ((c.tc : Thread Cert.AdaReferenceIdeal.nD Cert.AdaReferenceIdeal.τ).loc Cert.AdaReferenceIdeal.main_v31) = v1 c
          ∧ r.2.mem ((c.tc : Thread Cert.AdaReferenceIdeal.nD Cert.AdaReferenceIdeal.τ).loc Cert.AdaReferenceIdeal.main_v32) = v2 c
          ∧ r.2.mem ((c.tc : Thread Cert.AdaReferenceIdeal.nD Cert.AdaReferenceIdeal.τ).loc Cert.AdaReferenceIdeal.main_v33) = v3 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3)
          ∧ r.2.mem ((c.tc : Thread Cert.AdaReferenceIdeal.nD Cert.AdaReferenceIdeal.τ).loc Cert.AdaReferenceIdeal.main_arg4) = m' ((c.tc : Thread Cert.AdaReferenceIdeal.nD Cert.AdaReferenceIdeal.τ).loc Cert.AdaReferenceIdeal.main_arg4))

def preserves_ModKernel_ModKernelIdeal : Prop :=
  True

def algebraic_ModKernelIdeal_ModReferenceIdeal [hModKernelIdeal : Cert.ModKernelIdeal.Facts] [hModReferenceIdeal : Cert.ModReferenceIdeal.Facts] : Prop :=
  ∀ (m : (ℓ : Loc Cert.ModKernelIdeal.nD Cert.ModKernelIdeal.τ Cert.ModKernelIdeal.sig) → Buf (Elt Ideal) ℓ) (g : Dev Cert.ModKernelIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModKernelIdeal m →
    (∀ c : Dev Cert.ModKernelIdeal.nD,
      m' ((c.tc : Thread Cert.ModReferenceIdeal.nD Cert.ModReferenceIdeal.τ).loc Cert.ModReferenceIdeal.main_arg0) = m ((c.tc : Thread Cert.ModKernelIdeal.nD Cert.ModKernelIdeal.τ).loc Cert.ModKernelIdeal.main_arg0)
      ∧ m' ((c.tc : Thread Cert.ModReferenceIdeal.nD Cert.ModReferenceIdeal.τ).loc Cert.ModReferenceIdeal.main_arg1) = m ((c.tc : Thread Cert.ModKernelIdeal.nD Cert.ModKernelIdeal.τ).loc Cert.ModKernelIdeal.main_arg1)
      ∧ m' ((c.tc : Thread Cert.ModReferenceIdeal.nD Cert.ModReferenceIdeal.τ).loc Cert.ModReferenceIdeal.main_arg2) = m ((c.tc : Thread Cert.ModKernelIdeal.nD Cert.ModKernelIdeal.τ).loc Cert.ModKernelIdeal.main_arg2)
      ∧ m' ((c.tc : Thread Cert.ModReferenceIdeal.nD Cert.ModReferenceIdeal.τ).loc Cert.ModReferenceIdeal.main_arg3) = m ((c.tc : Thread Cert.ModKernelIdeal.nD Cert.ModKernelIdeal.τ).loc Cert.ModKernelIdeal.main_arg3)
      ∧ m' ((c.tc : Thread Cert.ModReferenceIdeal.nD Cert.ModReferenceIdeal.τ).loc Cert.ModReferenceIdeal.main_arg4) = m ((c.tc : Thread Cert.ModKernelIdeal.nD Cert.ModKernelIdeal.τ).loc Cert.ModKernelIdeal.main_arg4)
      ∧ m' ((c.tc : Thread Cert.ModReferenceIdeal.nD Cert.ModReferenceIdeal.τ).loc Cert.ModReferenceIdeal.main_arg5) = m ((c.tc : Thread Cert.ModKernelIdeal.nD Cert.ModKernelIdeal.τ).loc Cert.ModKernelIdeal.main_arg5)) →
    ∃ (v0 : (c : Dev Cert.ModKernelIdeal.nD) → Buf (Elt Ideal) ((c.tc : Thread Cert.ModKernelIdeal.nD Cert.ModKernelIdeal.τ).loc Cert.ModKernelIdeal.main_v11_1)) (v1 : (c : Dev Cert.ModKernelIdeal.nD) → Buf (Elt Ideal) ((c.tc : Thread Cert.ModKernelIdeal.nD Cert.ModKernelIdeal.τ).loc Cert.ModKernelIdeal.main_v11_2)) (v2 : (c : Dev Cert.ModKernelIdeal.nD) → Buf (Elt Ideal) ((c.tc : Thread Cert.ModKernelIdeal.nD Cert.ModKernelIdeal.τ).loc Cert.ModKernelIdeal.main_v11_3)) (v3 : (c : Dev Cert.ModKernelIdeal.nD) → Buf (Elt Ideal) ((c.tc : Thread Cert.ModKernelIdeal.nD Cert.ModKernelIdeal.τ).loc Cert.ModKernelIdeal.main_v13)),
      θ_run (Cert.ModKernelIdeal.defs (F := Ideal)) (onTc (τ := Cert.ModKernelIdeal.τ) (Cert.ModKernelIdeal.main (F := Ideal))) ⟨m, fun _ => 0, g⟩ (fun r => ∀ c : Dev Cert.ModKernelIdeal.nD,
          r.2.mem ((c.tc : Thread Cert.ModKernelIdeal.nD Cert.ModKernelIdeal.τ).loc Cert.ModKernelIdeal.main_v11_1) = v0 c
          ∧ r.2.mem ((c.tc : Thread Cert.ModKernelIdeal.nD Cert.ModKernelIdeal.τ).loc Cert.ModKernelIdeal.main_v11_2) = v1 c
          ∧ r.2.mem ((c.tc : Thread Cert.ModKernelIdeal.nD Cert.ModKernelIdeal.τ).loc Cert.ModKernelIdeal.main_v11_3) = v2 c
          ∧ r.2.mem ((c.tc : Thread Cert.ModKernelIdeal.nD Cert.ModKernelIdeal.τ).loc Cert.ModKernelIdeal.main_v13) = v3 c
          ∧ r.2.mem ((c.tc : Thread Cert.ModKernelIdeal.nD Cert.ModKernelIdeal.τ).loc Cert.ModKernelIdeal.main_arg0) = m ((c.tc : Thread Cert.ModKernelIdeal.nD Cert.ModKernelIdeal.τ).loc Cert.ModKernelIdeal.main_arg0)
          ∧ r.2.mem ((c.tc : Thread Cert.ModKernelIdeal.nD Cert.ModKernelIdeal.τ).loc Cert.ModKernelIdeal.main_arg1) = m ((c.tc : Thread Cert.ModKernelIdeal.nD Cert.ModKernelIdeal.τ).loc Cert.ModKernelIdeal.main_arg1)
          ∧ r.2.mem ((c.tc : Thread Cert.ModKernelIdeal.nD Cert.ModKernelIdeal.τ).loc Cert.ModKernelIdeal.main_arg2) = m ((c.tc : Thread Cert.ModKernelIdeal.nD Cert.ModKernelIdeal.τ).loc Cert.ModKernelIdeal.main_arg2)
          ∧ r.2.mem ((c.tc : Thread Cert.ModKernelIdeal.nD Cert.ModKernelIdeal.τ).loc Cert.ModKernelIdeal.main_arg3) = m ((c.tc : Thread Cert.ModKernelIdeal.nD Cert.ModKernelIdeal.τ).loc Cert.ModKernelIdeal.main_arg3)
          ∧ r.2.mem ((c.tc : Thread Cert.ModKernelIdeal.nD Cert.ModKernelIdeal.τ).loc Cert.ModKernelIdeal.main_arg4) = m ((c.tc : Thread Cert.ModKernelIdeal.nD Cert.ModKernelIdeal.τ).loc Cert.ModKernelIdeal.main_arg4)
          ∧ r.2.mem ((c.tc : Thread Cert.ModKernelIdeal.nD Cert.ModKernelIdeal.τ).loc Cert.ModKernelIdeal.main_arg5) = m ((c.tc : Thread Cert.ModKernelIdeal.nD Cert.ModKernelIdeal.τ).loc Cert.ModKernelIdeal.main_arg5))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v7) = v0 c
          ∧ r.2.mem ((c.tc : Thread Cert.ModReferenceIdeal.nD Cert.ModReferenceIdeal.τ).loc Cert.ModReferenceIdeal.main_v0) = v1 c
          ∧ r.2.mem ((c.tc : Thread Cert.ModReferenceIdeal.nD Cert.ModReferenceIdeal.τ).loc Cert.ModReferenceIdeal.main_v33) = v2 c
          ∧ r.2.mem ((c.tc : Thread Cert.ModReferenceIdeal.nD Cert.ModReferenceIdeal.τ).loc Cert.ModReferenceIdeal.main_v35) = v3 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3)
          ∧ r.2.mem ((c.tc : Thread Cert.ModReferenceIdeal.nD Cert.ModReferenceIdeal.τ).loc Cert.ModReferenceIdeal.main_arg4) = m' ((c.tc : Thread Cert.ModReferenceIdeal.nD Cert.ModReferenceIdeal.τ).loc Cert.ModReferenceIdeal.main_arg4)
          ∧ r.2.mem ((c.tc : Thread Cert.ModReferenceIdeal.nD Cert.ModReferenceIdeal.τ).loc Cert.ModReferenceIdeal.main_arg5) = m' ((c.tc : Thread Cert.ModReferenceIdeal.nD Cert.ModReferenceIdeal.τ).loc Cert.ModReferenceIdeal.main_arg5))

def Claim : Prop :=
  ∃ (hLossKernel : Cert.LossKernel.Facts) (hLossKernelIdeal : Cert.LossKernelIdeal.Facts) (hLossReferenceIdeal : Cert.LossReferenceIdeal.Facts) (hInpKernel : Cert.InpKernel.Facts) (hInpKernelIdeal : Cert.InpKernelIdeal.Facts) (hInpReferenceIdeal : Cert.InpReferenceIdeal.Facts) (hMixKernel : Cert.MixKernel.Facts) (hMixKernelIdeal : Cert.MixKernelIdeal.Facts) (hMixReferenceIdeal : Cert.MixReferenceIdeal.Facts) (hFwdKernel : Cert.FwdKernel.Facts) (hFwdKernelIdeal : Cert.FwdKernelIdeal.Facts) (hFwdReferenceIdeal : Cert.FwdReferenceIdeal.Facts) (hCotKernel : Cert.CotKernel.Facts) (hCotKernelIdeal : Cert.CotKernelIdeal.Facts) (hCotReferenceIdeal : Cert.CotReferenceIdeal.Facts) (hWgtKernel : Cert.WgtKernel.Facts) (hWgtKernelIdeal : Cert.WgtKernelIdeal.Facts) (hWgtReferenceIdeal : Cert.WgtReferenceIdeal.Facts) (hOddKernel : Cert.OddKernel.Facts) (hOddKernelIdeal : Cert.OddKernelIdeal.Facts) (hOddReferenceIdeal : Cert.OddReferenceIdeal.Facts) (hRowsKernel : Cert.RowsKernel.Facts) (hRowsKernelIdeal : Cert.RowsKernelIdeal.Facts) (hRowsReferenceIdeal : Cert.RowsReferenceIdeal.Facts) (hAdaKernel : Cert.AdaKernel.Facts) (hAdaKernelIdeal : Cert.AdaKernelIdeal.Facts) (hAdaReferenceIdeal : Cert.AdaReferenceIdeal.Facts) (hModKernel : Cert.ModKernel.Facts) (hModKernelIdeal : Cert.ModKernelIdeal.Facts) (hModReferenceIdeal : Cert.ModReferenceIdeal.Facts) (hPre_loss_finite : Cert.Pre_loss_finite.Facts) (hPre_inp_finite : Cert.Pre_inp_finite.Facts) (hPre_mix_finite : Cert.Pre_mix_finite.Facts) (hPre_fwd_finite : Cert.Pre_fwd_finite.Facts),
    quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_InpKernel (hInpKernel := hInpKernel)
    ∧ quiescent_InpKernelIdeal (hInpKernelIdeal := hInpKernelIdeal)
    ∧ quiescent_InpKernelIdeal_pre_inp_finite (hInpKernelIdeal := hInpKernelIdeal) (hPre_inp_finite := hPre_inp_finite)
    ∧ quiescent_InpReferenceIdeal (hInpReferenceIdeal := hInpReferenceIdeal)
    ∧ quiescent_InpReferenceIdeal_pre_inp_finite (hInpReferenceIdeal := hInpReferenceIdeal) (hPre_inp_finite := hPre_inp_finite)
    ∧ quiescent_MixKernel (hMixKernel := hMixKernel)
    ∧ quiescent_MixKernelIdeal (hMixKernelIdeal := hMixKernelIdeal)
    ∧ quiescent_MixKernelIdeal_pre_mix_finite (hMixKernelIdeal := hMixKernelIdeal) (hPre_mix_finite := hPre_mix_finite)
    ∧ quiescent_MixReferenceIdeal (hMixReferenceIdeal := hMixReferenceIdeal)
    ∧ quiescent_MixReferenceIdeal_pre_mix_finite (hMixReferenceIdeal := hMixReferenceIdeal) (hPre_mix_finite := hPre_mix_finite)
    ∧ quiescent_FwdKernel (hFwdKernel := hFwdKernel)
    ∧ quiescent_FwdKernelIdeal (hFwdKernelIdeal := hFwdKernelIdeal)
    ∧ quiescent_FwdKernelIdeal_pre_fwd_finite (hFwdKernelIdeal := hFwdKernelIdeal) (hPre_fwd_finite := hPre_fwd_finite)
    ∧ quiescent_FwdReferenceIdeal (hFwdReferenceIdeal := hFwdReferenceIdeal)
    ∧ quiescent_FwdReferenceIdeal_pre_fwd_finite (hFwdReferenceIdeal := hFwdReferenceIdeal) (hPre_fwd_finite := hPre_fwd_finite)
    ∧ quiescent_CotKernel (hCotKernel := hCotKernel)
    ∧ quiescent_CotKernelIdeal (hCotKernelIdeal := hCotKernelIdeal)
    ∧ quiescent_CotReferenceIdeal (hCotReferenceIdeal := hCotReferenceIdeal)
    ∧ quiescent_WgtKernel (hWgtKernel := hWgtKernel)
    ∧ quiescent_WgtKernelIdeal (hWgtKernelIdeal := hWgtKernelIdeal)
    ∧ quiescent_WgtReferenceIdeal (hWgtReferenceIdeal := hWgtReferenceIdeal)
    ∧ quiescent_OddKernel (hOddKernel := hOddKernel)
    ∧ quiescent_OddKernelIdeal (hOddKernelIdeal := hOddKernelIdeal)
    ∧ quiescent_OddReferenceIdeal (hOddReferenceIdeal := hOddReferenceIdeal)
    ∧ quiescent_RowsKernel (hRowsKernel := hRowsKernel)
    ∧ quiescent_RowsKernelIdeal (hRowsKernelIdeal := hRowsKernelIdeal)
    ∧ quiescent_RowsReferenceIdeal (hRowsReferenceIdeal := hRowsReferenceIdeal)
    ∧ quiescent_AdaKernel (hAdaKernel := hAdaKernel)
    ∧ quiescent_AdaKernelIdeal (hAdaKernelIdeal := hAdaKernelIdeal)
    ∧ quiescent_AdaReferenceIdeal (hAdaReferenceIdeal := hAdaReferenceIdeal)
    ∧ quiescent_ModKernel (hModKernel := hModKernel)
    ∧ quiescent_ModKernelIdeal (hModKernelIdeal := hModKernelIdeal)
    ∧ quiescent_ModReferenceIdeal (hModReferenceIdeal := hModReferenceIdeal)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_InpKernel_InpKernelIdeal
    ∧ algebraic_InpKernelIdeal_InpReferenceIdeal_pre_inp_finite (hInpKernelIdeal := hInpKernelIdeal) (hInpReferenceIdeal := hInpReferenceIdeal) (hPre_inp_finite := hPre_inp_finite)
    ∧ preserves_MixKernel_MixKernelIdeal
    ∧ algebraic_MixKernelIdeal_MixReferenceIdeal_pre_mix_finite (hMixKernelIdeal := hMixKernelIdeal) (hMixReferenceIdeal := hMixReferenceIdeal) (hPre_mix_finite := hPre_mix_finite)
    ∧ preserves_FwdKernel_FwdKernelIdeal
    ∧ algebraic_FwdKernelIdeal_FwdReferenceIdeal_pre_fwd_finite (hFwdKernelIdeal := hFwdKernelIdeal) (hFwdReferenceIdeal := hFwdReferenceIdeal) (hPre_fwd_finite := hPre_fwd_finite)
    ∧ preserves_CotKernel_CotKernelIdeal
    ∧ algebraic_CotKernelIdeal_CotReferenceIdeal (hCotKernelIdeal := hCotKernelIdeal) (hCotReferenceIdeal := hCotReferenceIdeal)
    ∧ preserves_WgtKernel_WgtKernelIdeal
    ∧ algebraic_WgtKernelIdeal_WgtReferenceIdeal (hWgtKernelIdeal := hWgtKernelIdeal) (hWgtReferenceIdeal := hWgtReferenceIdeal)
    ∧ preserves_OddKernel_OddKernelIdeal
    ∧ algebraic_OddKernelIdeal_OddReferenceIdeal (hOddKernelIdeal := hOddKernelIdeal) (hOddReferenceIdeal := hOddReferenceIdeal)
    ∧ preserves_RowsKernel_RowsKernelIdeal
    ∧ algebraic_RowsKernelIdeal_RowsReferenceIdeal (hRowsKernelIdeal := hRowsKernelIdeal) (hRowsReferenceIdeal := hRowsReferenceIdeal)
    ∧ preserves_AdaKernel_AdaKernelIdeal
    ∧ algebraic_AdaKernelIdeal_AdaReferenceIdeal (hAdaKernelIdeal := hAdaKernelIdeal) (hAdaReferenceIdeal := hAdaReferenceIdeal)
    ∧ preserves_ModKernel_ModKernelIdeal
    ∧ algebraic_ModKernelIdeal_ModReferenceIdeal (hModKernelIdeal := hModKernelIdeal) (hModReferenceIdeal := hModReferenceIdeal)
-- ==== Pre_fwd_finite.lean ====
abbrev S2048x5376 : Shape := ⟨2, ![2048, 5376]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S2048x5376 : S_.BroadcastsInDim S2048x5376 (![] : Fin 0 → Fin S2048x5376.rank)
  reducesTo_S2048x5376_S_d0_1 : S2048x5376.ReducesTo [0, 1] S_
  h_S_ : 0 < S_.numel
  bcast_S_S1x16 : S_.BroadcastsInDim S1x16 (![] : Fin 0 → Fin S1x16.rank)
  reducesTo_S1x16_S_d0_1 : S1x16.ReducesTo [0, 1] S_
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_

variable [Facts]

def fn_part1 {F : FTy → Type} [FloatOps F] (main_arg4 : FVec F S1x8x128x128 .f32) (main_v3 : IVec S_ 1) (main_v7 : IVec S_ 1) (main_v11 : IVec S_ 1) (main_v15 : IVec S_ 1) : IVec S_ 1 :=
  let main_v16 : FVec F S1x8x128x128 .f32 := Host.absf main_arg4
  let main_cst_6 : FVec F S_ .f32 := constant S_ .f32 0x7F800000#32
  let main_v17 : FVec F S1x8x128x128 .f32 := broadcastInDim S1x8x128x128 ![] bcast_S_S1x8x128x128 main_cst_6
  let main_v18 : IVec S1x8x128x128 1 := cmpf .olt main_v16 main_v17
  let main_c_7 : IVec S_ 1 := constantI S_ 1 1#1
  let main_v19 : IVec S_ 1 := (fun x v => Host.reduce IntOp.andi x v reducesTo_S1x8x128x128_S_d0_1_2_3 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S2048x5376 .f32) (main_arg1 : FVec F S1x16 .f32) (main_arg2 : FVec F S1x1024 .f32) (main_arg3 : FVec F S1x1024 .f32) (main_arg4 : FVec F S1x8x128x128 .f32) (main_arg5 : FVec F S1x8x128 .f32) : IVec S_ 1 :=
  let main_v0 : FVec F S2048x5376 .f32 := Host.absf main_arg0
  let main_cst : FVec F S_ .f32 := constant S_ .f32 0x7F800000#32
  let main_v1 : FVec F S2048x5376 .f32 := broadcastInDim S2048x5376 ![] bcast_S_S2048x5376 main_cst
  let main_v2 : IVec S2048x5376 1 := cmpf .olt main_v0 main_v1
  let main_c : IVec S_ 1 := constantI S_ 1 1#1
  let main_v3 : IVec S_ 1 := (fun x v => Host.reduce IntOp.andi x v reducesTo_S2048x5376_S_d0_1 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_v3 main_v7 main_v11 main_v15
-- ==== Pre_inp_finite.lean ====
abbrev S2048x5376 : Shape := ⟨2, ![2048, 5376]⟩
abbrev S1x2048x5376 : Shape := ⟨3, ![1, 2048, 5376]⟩
abbrev S1x2048x2048 : Shape := ⟨3, ![1, 2048, 2048]⟩
abbrev S2048x2048 : Shape := ⟨2, ![2048, 2048]⟩
abbrev S1x2048 : Shape := ⟨2, ![1, 2048]⟩
abbrev S1x6144 : Shape := ⟨2, ![1, 6144]⟩
abbrev S_ : Shape := ⟨0, ![]⟩

class Facts : Prop where
  slices_S1x6144_S1x2048_0_2048 : S1x6144.Slices ![0, 2048] S1x2048
  bcast_S_S2048x5376 : S_.BroadcastsInDim S2048x5376 (![] : Fin 0 → Fin S2048x5376.rank)
  reducesTo_S2048x5376_S_d0_1 : S2048x5376.ReducesTo [0, 1] S_
  h_S_ : 0 < S_.numel
  bcast_S_S1x2048x5376 : S_.BroadcastsInDim S1x2048x5376 (![] : Fin 0 → Fin S1x2048x5376.rank)
  reducesTo_S1x2048x5376_S_d0_1_2 : S1x2048x5376.ReducesTo [0, 1, 2] S_
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v0 : FVec F S1x2048 .f32) (main_v4 : IVec S_ 1) (main_v8 : IVec S_ 1) (main_v12 : IVec S_ 1) (main_v15 : IVec S1x2048 1) (main_c_5 : IVec S_ 1) : IVec S_ 1 :=
  let main_v16 : IVec S_ 1 := (fun x v => Host.reduce IntOp.andi x v reducesTo_S1x2048_S_d0_1 h_S_) main_v15 main_c_5
  let main_v17 : FVec F S1x2048 .f32 := Host.absf main_v0
  let main_cst_6 : FVec F S_ .f32 := constant S_ .f32 0x7F800000#32
  let main_v18 : FVec F S1x2048 .f32 := broadcastInDim S1x2048 ![] bcast_S_S1x2048 main_cst_6
  let main_v19 : IVec S1x2048 1 := cmpf .olt main_v17 main_v18
  let main_c_7 : IVec S_ 1 := constantI S_ 1 1#1
  let main_v20 : IVec S_ 1 := (fun x v => Host.reduce IntOp.andi x v reducesTo_S1x2048_S_d0_1 h_S_) main_v19 main_c_7
  let main_v21 : IVec S_ 1 := andi main_v4 main_v8
  let main_v22 : IVec S_ 1 := andi main_v21 main_v12
  let main_v23 : IVec S_ 1 := andi main_v22 main_v16
  let main_v24 : IVec S_ 1 := andi main_v23 main_v20
  main_v24

def fn {F : FTy → Type} [FloatOps F] (main_arg0 : FVec F S2048x5376 .bf16) (main_arg1 : FVec F S1x2048x5376 .f32) (main_arg2 : FVec F S1x2048x2048 .f32) (main_arg3 : FVec F S2048x2048 .f32) (main_arg4 : FVec F S1x2048 .f32) (main_arg5 : FVec F S1x6144 .f32) : IVec S_ 1 :=
  let main_v0 : FVec F S1x2048 .f32 := (extractStridedSlice S1x2048 ![0, 2048] · slices_S1x6144_S1x2048_0_2048) main_arg5
  let main_v1 : FVec F S2048x5376 .bf16 := Host.absf main_arg0
  let main_cst : FVec F S_ .bf16 := constant S_ .bf16 0x7F80#16
  let main_v2 : FVec F S2048x5376 .bf16 := broadcastInDim S2048x5376 ![] bcast_S_S2048x5376 main_cst
  let main_v3 : IVec S2048x5376 1 := cmpf .olt main_v1 main_v2
  let main_c : IVec S_ 1 := constantI S_ 1 1#1
  let main_v4 : IVec S_ 1 := (fun x v => Host.reduce IntOp.andi x v reducesTo_S2048x5376_S_d0_1 h_S_) main_v3 main_c
  let main_v5 : FVec F S1x2048x5376 .f32 := Host.absf main_arg1
  let main_cst_0 : FVec F S_ .f32 := constant S_ .f32 0x7F800000#32
  let main_v6 : FVec F S1x2048x5376 .f32 := broadcastInDim S1x2048x5376 ![] bcast_S_S1x2048x5376 main_cst_0
  let main_v7 : IVec S1x2048x5376 1 := cmpf .olt main_v5 main_v6
  let main_c_1 : IVec S_ 1 := constantI S_ 1 1#1
  let main_v8 : IVec S_ 1 := (fun x v => Host.reduce IntOp.andi x v reducesTo_S1x2048x5376_S_d0_1_2 h_S_) main_v7 main_c_1
  let main_v9 : FVec F S1x2048x2048 .f32 := Host.absf main_arg2
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  let main_c_3 : IVec S_ 1 := constantI S_ 1 1#1
  let main_v12 : IVec S_ 1 := (fun x v => Host.reduce IntOp.andi x v reducesTo_S1x2048x2048_S_d0_1_2 h_S_) main_v11 main_c_3
  let main_v13 : FVec F S1x2048 .f32 := Host.absf main_arg4
  let main_cst_4 : FVec F S_ .f32 := constant S_ .f32 0x7F800000#32
  let main_v14 : FVec F S1x2048 .f32 := broadcastInDim S1x2048 ![] bcast_S_S1x2048 main_cst_4
  let main_v15 : IVec S1x2048 1 := cmpf .olt main_v13 main_v14
  let main_c_5 : IVec S_ 1 := constantI S_ 1 1#1
  fn_part1 (F := F) main_v0 main_v4 main_v8 main_v12 main_v15 main_c_5
-- ==== Pre_loss_finite.lean ====
abbrev S2048x2048 : Shape := ⟨2, ![2048, 2048]⟩
abbrev S1x2048x2048 : Shape := ⟨3, ![1, 2048, 2048]⟩
abbrev S1x6144 : Shape := ⟨2, ![1, 6144]⟩
abbrev S2048 : Shape := ⟨1, ![2048]⟩
abbrev S1x2048 : Shape := ⟨2, ![1, 2048]⟩
abbrev S_ : Shape := ⟨0, ![]⟩

class Facts : Prop where
  slices_S1x6144_S1x2048_0_4096 : S1x6144.Slices ![0, 4096] S1x2048
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg5 : FVec F S2048 .f32) (main_v0 : FVec F S1x2048 .f32) (main_v4 : IVec S_ 1) (main_v8 : IVec S_ 1) (main_v12 : IVec S_ 1) (main_v15 : IVec S1x2048x2048 1) (main_c_5 : IVec S_ 1) : IVec S_ 1 :=
  let main_v16 : IVec S_ 1 := (fun x v => Host.reduce IntOp.andi x v reducesTo_S1x2048x2048_S_d0_1_2 h_S_) main_v15 main_c_5
  let main_v17 : FVec F S1x2048 .f32 := Host.absf main_v0
  let main_cst_6 : FVec F S_ .f32 := constant S_ .f32 0x7F800000#32
  let main_v18 : FVec F S1x2048 .f32 := broadcastInDim S1x2048 ![] bcast_S_S1x2048 main_cst_6
  let main_v19 : IVec S1x2048 1 := cmpf .olt main_v17 main_v18
  let main_c_7 : IVec S_ 1 := constantI S_ 1 1#1
  let main_v20 : IVec S_ 1 := (fun x v => Host.reduce IntOp.andi x v reducesTo_S1x2048_S_d0_1 h_S_) main_v19 main_c_7
  let main_v21 : FVec F S2048 .f32 := Host.absf main_arg5
  let main_cst_8 : FVec F S_ .f32 := constant S_ .f32 0x7F800000#32
  let main_v22 : FVec F S2048 .f32 := broadcastInDim S2048 ![] bcast_S_S2048 main_cst_8
  let main_v23 : IVec S2048 1 := cmpf .olt main_v21 main_v22
  let main_c_9 : IVec S_ 1 := constantI S_ 1 1#1
  let main_v24 : IVec S_ 1 := (fun x v => Host.reduce IntOp.andi x v reducesTo_S2048_S_d0 h_S_) main_v23 main_c_9
  let main_v25 : IVec S_ 1 := andi main_v4 main_v8
  let main_v26 : IVec S_ 1 := andi main_v25 main_v12
  let main_v27 : IVec S_ 1 := andi main_v26 main_v16
  let main_v28 : IVec S_ 1 := andi main_v27 main_v20
  let main_v29 : IVec S_ 1 := andi main_v28 main_v24
  main_v29

def fn {F : FTy → Type} [FloatOps F] (main_arg0 : FVec F S2048x2048 .bf16) (main_arg1 : FVec F S1x2048x2048 .f32) (main_arg2 : FVec F S1x2048x2048 .f32) (main_arg3 : FVec F S1x2048x2048 .f32) (main_arg4 : FVec F S1x6144 .f32) (main_arg5 : FVec F S2048 .f32) : IVec S_ 1 :=
  let main_v0 : FVec F S1x2048 .f32 := (extractStridedSlice S1x2048 ![0, 4096] · slices_S1x6144_S1x2048_0_4096) main_arg4
  let main_v1 : FVec F S2048x2048 .bf16 := Host.absf main_arg0
  let main_cst : FVec F S_ .bf16 := constant S_ .bf16 0x7F80#16
  let main_v2 : FVec F S2048x2048 .bf16 := broadcastInDim S2048x2048 ![] bcast_S_S2048x2048 main_cst
  let main_v3 : IVec S2048x2048 1 := cmpf .olt main_v1 main_v2
  let main_c : IVec S_ 1 := constantI S_ 1 1#1
  let main_v4 : IVec S_ 1 := (fun x v => Host.reduce IntOp.andi x v reducesTo_S2048x2048_S_d0_1 h_S_) main_v3 main_c
  let main_v5 : FVec F S1x2048x2048 .f32 := Host.absf main_arg1
  let main_cst_0 : FVec F S_ .f32 := constant S_ .f32 0x7F800000#32
  let main_v6 : FVec F S1x2048x2048 .f32 := broadcastInDim S1x2048x2048 ![] bcast_S_S1x2048x2048 main_cst_0
  let main_v7 : IVec S1x2048x2048 1 := cmpf .olt main_v5 main_v6
  let main_c_1 : IVec S_ 1 := constantI S_ 1 1#1
  let main_v8 : IVec S_ 1 := (fun x v => Host.reduce IntOp.andi x v reducesTo_S1x2048x2048_S_d0_1_2 h_S_) main_v7 main_c_1
  let main_v9 : FVec F S1x2048x2048 .f32 := Host.absf main_arg2
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  let main_c_3 : IVec S_ 1 := constantI S_ 1 1#1
  let main_v12 : IVec S_ 1 := (fun x v => Host.reduce IntOp.andi x v reducesTo_S1x2048x2048_S_d0_1_2 h_S_) main_v11 main_c_3
  let main_v13 : FVec F S1x2048x2048 .f32 := Host.absf main_arg3
  let main_cst_4 : FVec F S_ .f32 := constant S_ .f32 0x7F800000#32
  let main_v14 : FVec F S1x2048x2048 .f32 := broadcastInDim S1x2048x2048 ![] bcast_S_S1x2048x2048 main_cst_4
  let main_v15 : IVec S1x2048x2048 1 := cmpf .olt main_v13 main_v14
  let main_c_5 : IVec S_ 1 := constantI S_ 1 1#1
  fn_part1 (F := F) main_arg5 main_v0 main_v4 main_v8 main_v12 main_v15 main_c_5
-- ==== Pre_mix_finite.lean ====
abbrev S2048x5376 : Shape := ⟨2, ![2048, 5376]⟩
abbrev S2048x2048 : Shape := ⟨2, ![2048, 2048]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S_ : Shape := ⟨0, ![]⟩

class Facts : Prop where
  bcast_S_S2048x5376 : S_.BroadcastsInDim S2048x5376 (![] : Fin 0 → Fin S2048x5376.rank)
  reducesTo_S2048x5376_S_d0_1 : S2048x5376.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x16 : S_.BroadcastsInDim S1x16 (![] : Fin 0 → Fin S1x16.rank)
  reducesTo_S1x16_S_d0_1 : S1x16.ReducesTo [0, 1] S_
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_

variable [Facts]

def fn_part1 {F : FTy → Type} [FloatOps F] (main_arg4 : FVec F S1x1024 .f32) (main_arg5 : FVec F S1x8x128x128 .f32) (main_arg6 : FVec F S1x8x128 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : FVec F S1x8x128x128 .f32 := Host.absf main_arg5
  let main_cst_8 : FVec F S_ .f32 := constant S_ .f32 0x7F800000#32
  let main_v21 : FVec F S1x8x128x128 .f32 := broadcastInDim S1x8x128x128 ![] bcast_S_S1x8x128x128 main_cst_8
  let main_v22 : IVec S1x8x128x128 1 := cmpf .olt main_v20 main_v21
  let main_c_9 : IVec S_ 1 := constantI S_ 1 1#1
  let main_v23 : IVec S_ 1 := (fun x v => Host.reduce IntOp.andi x v reducesTo_S1x8x128x128_S_d0_1_2_3 h_S_) main_v22 main_c_9
  let main_v24 : FVec F S1x8x128 .f32 := Host.absf main_arg6
  let main_cst_10 : FVec F S_ .f32 := constant S_ .f32 0x7F800000#32
  let main_v25 : FVec F S1x8x128 .f32 := broadcastInDim S1x8x128 ![] bcast_S_S1x8x128 main_cst_10
  let main_v26 : IVec S1x8x128 1 := cmpf .olt main_v24 main_v25
  let main_c_11 : IVec S_ 1 := constantI S_ 1 1#1
  let main_v27 : IVec S_ 1 := (fun x v => Host.reduce IntOp.andi x v reducesTo_S1x8x128_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2048x5376 .f32) (main_arg1 : FVec F S2048x2048 .f32) (main_arg2 : FVec F S1x16 .f32) (main_arg3 : FVec F S1x1024 .f32) (main_arg4 : FVec F S1x1024 .f32) (main_arg5 : FVec F S1x8x128x128 .f32) (main_arg6 : FVec F S1x8x128 .f32) : IVec S_ 1 :=
  let main_v0 : FVec F S2048x5376 .f32 := Host.absf main_arg0
  let main_cst : FVec F S_ .f32 := constant S_ .f32 0x7F800000#32
  let main_v1 : FVec F S2048x5376 .f32 := broadcastInDim S2048x5376 ![] bcast_S_S2048x5376 main_cst
  let main_v2 : IVec S2048x5376 1 := cmpf .olt main_v0 main_v1
  let main_c : IVec S_ 1 := constantI S_ 1 1#1
  let main_v3 : IVec S_ 1 := (fun x v => Host.reduce IntOp.andi x v reducesTo_S2048x5376_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : FVec F S1x16 .f32 := Host.absf main_arg2
  let main_cst_2 : FVec F S_ .f32 := constant S_ .f32 0x7F800000#32
  let main_v9 : FVec F S1x16 .f32 := broadcastInDim S1x16 ![] bcast_S_S1x16 main_cst_2
  let main_v10 : IVec S1x16 1 := cmpf .olt main_v8 main_v9
  let main_c_3 : IVec S_ 1 := constantI S_ 1 1#1
  let main_v11 : IVec S_ 1 := (fun x v => Host.reduce IntOp.andi x v reducesTo_S1x16_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_v3 main_v7 main_v11 main_v15
-- ==== LossKernel.lean ====
abbrev S2048x2048 : Shape := ⟨2, ![2048, 2048]⟩
abbrev S1x2048x2048 : Shape := ⟨3, ![1, 2048, 2048]⟩
abbrev S1x6144 : Shape := ⟨2, ![1, 6144]⟩
abbrev S2048 : Shape := ⟨1, ![2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩

abbrev nBuf : Space → Nat
  | .hbm => 16
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S1x6144, .f32⟩
  | .hbm, ⟨5, _⟩ => ⟨S2048, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .f32⟩
  | .hbm, ⟨10, _⟩ => ⟨S1x2048, .f32⟩
  | .hbm, ⟨11, _⟩ => ⟨S2048x2048, .f32⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S1x1, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x6144, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S1x2048, .f32⟩
  | .local _ .vmem, ⟨14, _⟩ => ⟨S1x2048, .f32⟩
  | .local _ .vmem, ⟨15, _⟩ => ⟨S1x1, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossReferenceIdeal.lean ====
abbrev S2048x2048 : Shape := ⟨2, ![2048, 2048]⟩
abbrev S1x2048x2048 : Shape := ⟨3, ![1, 2048, 2048]⟩
abbrev S1x6144 : Shape := ⟨2, ![1, 6144]⟩
abbrev S2048 : Shape := ⟨1, ![2048]⟩
abbrev S1x2048 : Shape := ⟨2, ![1, 2048]⟩
abbrev S1x1x2048 : Shape := ⟨3, ![1, 1, 2048]⟩
abbrev S_ : Shape := ⟨0, ![]⟩
abbrev S1x2048x1 : Shape := ⟨3, ![1, 2048, 1]⟩
abbrev S1x1 : Shape := ⟨2, ![1, 1]⟩

abbrev nBuf : Space → Nat
  | .hbm => 100
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .f32⟩
  | .hbm, ⟨2, _⟩ => ⟨S1x2048x2048, .f32⟩
  | .hbm, ⟨3, _⟩ => ⟨S1x2048x2048, .f32⟩
  | .hbm, ⟨4, _⟩ => ⟨S1x6144, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S1x1x2048, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S1x2048x2048, .f32⟩
  | .hbm, ⟨18, _⟩ => ⟨S_, .f32⟩
  | .hbm, ⟨19, _⟩ => ⟨S1x2048, .f32⟩
  | .hbm, ⟨20, _⟩ => ⟨S1x2048x1, .f32⟩
  | .hbm, ⟨21, _⟩ => ⟨S_, .f32⟩
  | .hbm, ⟨22, _⟩ => ⟨S1x2048x1, .f32⟩
  | .hbm, ⟨23, _⟩ => ⟨S1x2048x1, .f32⟩
  | .hbm, ⟨24, _⟩ => ⟨S_, .f32⟩
  | .hbm, ⟨25, _⟩ => ⟨S1x2048x1, .f32⟩
  | .hbm, ⟨26, _⟩ => ⟨S1x2048x1, .f32⟩
  | .hbm, ⟨27, _⟩ => ⟨S1x2048x1, .f32⟩
  | .hbm, ⟨28, _⟩ => ⟨S1x2048x1, .f32⟩
  | .hbm, ⟨29, _⟩ => ⟨S_, .f32⟩
  | .hbm, ⟨30, _⟩ => ⟨S1x2048x1, .f32⟩
  | .hbm, ⟨31, _⟩ => ⟨S1x2048x1, .f32⟩
  | .hbm, ⟨32, _⟩ => ⟨S1x2048x2048, .f32⟩
  | .hbm, ⟨33, _⟩ => ⟨S1x2048x2048, .f32⟩
  | .hbm, ⟨34, _⟩ => ⟨S1x1x2048, .f32⟩
  | .hbm, ⟨35, _⟩ => ⟨S1x2048x2048, .f32⟩
  | .hbm, ⟨36, _⟩ => ⟨S1x2048x2048, .f32⟩
  | .hbm, ⟨37, _⟩ => ⟨S1x2048x2048, .f32⟩
  | .hbm, ⟨38, _⟩ => ⟨S1x2048x2048, .f32⟩
  | .hbm, ⟨39, _⟩ => ⟨S_, .f32⟩
  | .hbm, ⟨40, _⟩ => ⟨S1x2048x2048, .f32⟩
  | .hbm, ⟨41, _⟩ => ⟨S1x2048x2048, .f32⟩
  | .hbm, ⟨42, _⟩ => ⟨S_, .f32⟩
  | .hbm, ⟨43, _⟩ => ⟨S1x2048, .f32⟩
  | .hbm, ⟨44, _⟩ => ⟨S_, .f32⟩
  | .hbm, ⟨45, _⟩ => ⟨S1x2048, .f32⟩
  | .hbm, ⟨46, _⟩ => ⟨S1x2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1x2048, .f32⟩
  | .hbm, ⟨55, _⟩ => ⟨S_, .f32⟩
  | .hbm, ⟨56, _⟩ => ⟨S1x2048, .f32⟩
  | .hbm, ⟨57, _⟩ => ⟨S1x2048, .f32⟩
  | .hbm, ⟨58, _⟩ => ⟨S1x2048x2048, .f32⟩
  | .hbm, ⟨59, _⟩ => ⟨S1x2048x2048, .f32⟩
  | .hbm, ⟨60, _⟩ => ⟨S1x2048x2048, .f32⟩
  | .hbm, ⟨61, _⟩ => ⟨S_, .f32⟩
  | .hbm, ⟨62, _⟩ => ⟨S1x2048, .f32⟩
  | .hbm, ⟨63, _⟩ => ⟨S1x1x2048, .f32⟩
  | .hbm, ⟨64, _⟩ => ⟨S1x2048x2048, .f32⟩
  | .hbm, ⟨65, _⟩ => ⟨S1x2048x2048, .f32⟩
  | .hbm, ⟨66, _⟩ => ⟨S_, .f32⟩
  | .hbm, ⟨67, _⟩ => ⟨S2048, .f32⟩
  | .hbm, ⟨68, _⟩ => ⟨S1x2048x2048, .f32⟩
  | .hbm, ⟨69, _⟩ => ⟨S_, .f32⟩
  | .hbm, ⟨70, _⟩ => ⟨S1x2048, .f32⟩
  | .hbm, ⟨71, _⟩ => ⟨S1x2048x1, .f32⟩
  | .hbm, ⟨72, _⟩ => ⟨S1x2048x2048, .f32⟩
  | .hbm, ⟨73, _⟩ => ⟨S1x2048x2048, .f32⟩
  | .hbm, ⟨74, _⟩ => ⟨S1x2048x1, .f32⟩
  | .hbm, ⟨75, _⟩ => ⟨S_, .f32⟩
  | .hbm, ⟨76, _⟩ => ⟨S1x2048x1, .f32⟩
  | .hbm, ⟨77, _⟩ => ⟨S1x2048x1, .f32⟩
  | .hbm, ⟨78, _⟩ => ⟨S_, .f32⟩
  | .hbm, ⟨79, _⟩ => ⟨S2048, .f32⟩
  | .hbm, ⟨80, _⟩ => ⟨S1x2048, .f32⟩
  | .hbm, ⟨81, _⟩ => ⟨S1x2048x2048, .f32⟩
  | .hbm, ⟨82, _⟩ => ⟨S1x2048x2048, .f32⟩
  | .hbm, ⟨83, _⟩ => ⟨S1x2048x2048, .f32⟩
  | .hbm, ⟨84, _⟩ => ⟨S1x2048x2048, .f32⟩
  | .hbm, ⟨85, _⟩ => ⟨S1x2048x2048, .f32⟩
  | .hbm, ⟨86, _⟩ => ⟨S1x2048x2048, .f32⟩
  | .hbm, ⟨87, _⟩ => ⟨S1x2048x2048, .f32⟩
  | .hbm, ⟨88, _⟩ => ⟨S1x2048x2048, .f32⟩
  | .hbm, ⟨89, _⟩ => ⟨S_, .f32⟩
  | .hbm, ⟨90, _⟩ => ⟨S1x2048, .f32⟩
  | .hbm, ⟨91, _⟩ => ⟨S1x1x2048, .f32⟩
  | .hbm, ⟨92, _⟩ => ⟨S_, .f32⟩
  | .hbm, ⟨93, _⟩ => ⟨S2048, .f32⟩
  | .hbm, ⟨94, _⟩ => ⟨S1x2048, .f32⟩
  | .hbm, ⟨95, _⟩ => ⟨S2048x2048, .f32⟩
  | .hbm, ⟨96, _⟩ => ⟨S2048x2048, .f32⟩
  | .hbm, ⟨97, _⟩ => ⟨S2048x2048, .bf16⟩
  | .hbm, ⟨98, _⟩ => ⟨S1x2048, .f32⟩
  | .hbm, ⟨99, _⟩ => ⟨S1x1, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_cst_8 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_cst_13 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_14 : Ref sig .tc := ⟨.hbm, 75, rfl⟩
abbrev main_v54 : Ref sig .tc := ⟨.hbm, 76, rfl⟩
abbrev main_v55 : Ref sig .tc := ⟨.hbm, 77, rfl⟩
abbrev main_cst_15 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_16 : Ref sig .tc := ⟨.hbm, 89, rfl⟩
abbrev main_v66 : Ref sig .tc := ⟨.hbm, 90, rfl⟩
abbrev main_v67 : Ref sig .tc := ⟨.hbm, 91, rfl⟩
abbrev main_cst_17 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩

abbrev nD : Nat := 1
abbrev τ : Topo := Topo.v7x

variable {F : FTy → Type} [FloatOps F]
-- ==== InpKernel.lean ====
abbrev S2048x5376 : Shape := ⟨2, ![2048, 5376]⟩
abbrev S1x2048x5376 : Shape := ⟨3, ![1, 2048, 5376]⟩
abbrev S1x2048x2048 : Shape := ⟨3, ![1, 2048, 2048]⟩
abbrev S2048x2048 : Shape := ⟨2, ![2048, 2048]⟩
abbrev S1x2048 : Shape := ⟨2, ![1, 2048]⟩
abbrev S1x6144 : Shape := ⟨2, ![1, 6144]⟩
abbrev S5376x2048 : Shape := ⟨2, ![5376, 2048]⟩
abbrev S256x5376 : Shape := ⟨2, ![256, 5376]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 14
  | .smem => 0
  | _ => 0

abbrev bufTy : (tb : Table) → Fin (tcTables nBuf tb) → BufTy
  | .hbm, ⟨0, _⟩ => ⟨S2048x5376, .bf16⟩
  | .hbm, ⟨1, _⟩ => ⟨S1x2048x5376, .f32⟩
  | .hbm, ⟨2, _⟩ => ⟨S1x2048x2048, .f32⟩
  | .hbm, ⟨3, _⟩ => ⟨S2048x2048, .f32⟩
  | .hbm, ⟨4, _⟩ => ⟨S1x2048, .f32⟩
  | .hbm, ⟨5, _⟩ => ⟨S1x6144, .f32⟩
  | .hbm, ⟨6, _⟩ => ⟨S2048x5376, .f32⟩
  | .hbm, ⟨7, _⟩ => ⟨S5376x2048, .f32⟩
  | .hbm, ⟨8, _⟩ => ⟨S5376x2048, .bf16⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x5376, .bf16⟩
  | .local _ .vmem, ⟨1, _⟩ => ⟨S256x5376, .bf16⟩
  | .local _ .vmem, ⟨2, _⟩ => ⟨S5376x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x6144, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S2048x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5376x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InpReferenceIdeal.lean ====
abbrev S2048x5376 : Shape := ⟨2, ![2048, 5376]⟩
abbrev S1x2048x5376 : Shape := ⟨3, ![1, 2048, 5376]⟩
abbrev S1x2048x2048 : Shape := ⟨3, ![1, 2048, 2048]⟩
abbrev S2048x2048 : Shape := ⟨2, ![2048, 2048]⟩
abbrev S1x2048 : Shape := ⟨2, ![1, 2048]⟩
abbrev S1x6144 : Shape := ⟨2, ![1, 6144]⟩
abbrev S2048 : Shape := ⟨1, ![2048]⟩
abbrev S_ : Shape := ⟨0, ![]⟩
abbrev S1x2048x1 : Shape := ⟨3, ![1, 2048, 1]⟩
abbrev S1x1x2048 : Shape := ⟨3, ![1, 1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S2048x5376, .bf16⟩
  | .hbm, ⟨1, _⟩ => ⟨S1x2048x5376, .f32⟩
  | .hbm, ⟨2, _⟩ => ⟨S1x2048x2048, .f32⟩
  | .hbm, ⟨3, _⟩ => ⟨S2048x2048, .f32⟩
  | .hbm, ⟨4, _⟩ => ⟨S1x2048, .f32⟩
  | .hbm, ⟨5, _⟩ => ⟨S1x6144, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S2048, .f32⟩
  | .hbm, ⟨10, _⟩ => ⟨S1x2048x2048, .f32⟩
  | .hbm, ⟨11, _⟩ => ⟨S_, .f32⟩
  | .hbm, ⟨12, _⟩ => ⟨S1x2048, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S_, .f32⟩
  | .hbm, ⟨18, _⟩ => ⟨S1x2048x1, .f32⟩
  | .hbm, ⟨19, _⟩ => ⟨S1x2048x1, .f32⟩
  | .hbm, ⟨20, _⟩ => ⟨S1x2048x1, .f32⟩
  | .hbm, ⟨21, _⟩ => ⟨S1x2048x1, .f32⟩
  | .hbm, ⟨22, _⟩ => ⟨S_, .f32⟩
  | .hbm, ⟨23, _⟩ => ⟨S1x2048x1, .f32⟩
  | .hbm, ⟨24, _⟩ => ⟨S1x2048x1, .f32⟩
  | .hbm, ⟨25, _⟩ => ⟨S1x2048x2048, .f32⟩
  | .hbm, ⟨26, _⟩ => ⟨S1x2048x2048, .f32⟩
  | .hbm, ⟨27, _⟩ => ⟨S1x1x2048, .f32⟩
  | .hbm, ⟨28, _⟩ => ⟨S1x2048x2048, .f32⟩
  | .hbm, ⟨29, _⟩ => ⟨S1x2048x2048, .f32⟩
  | .hbm, ⟨30, _⟩ => ⟨S1x1x2048, .f32⟩
  | .hbm, ⟨31, _⟩ => ⟨S_, .f32⟩
  | .hbm, ⟨32, _⟩ => ⟨S1x1x2048, .f32⟩
  | .hbm, ⟨33, _⟩ => ⟨S1x1x2048, .f32⟩
  | .hbm, ⟨34, _⟩ => ⟨S1x2048x2048, .f32⟩
  | .hbm, ⟨35, _⟩ => ⟨S1x2048x2048, .f32⟩
  | .hbm, ⟨36, _⟩ => ⟨S1x1x2048, .f32⟩
  | .hbm, ⟨37, _⟩ => ⟨S1x2048x2048, .f32⟩
  | .hbm, ⟨38, _⟩ => ⟨S1x2048x2048, .f32⟩
  | .hbm, ⟨39, _⟩ => ⟨S2048x5376, .f32⟩
  | .hbm, ⟨40, _⟩ => ⟨S1x2048x5376, .f32⟩
  | .hbm, ⟨41, _⟩ => ⟨S2048x5376, .f32⟩
  | .hbm, ⟨42, _⟩ => ⟨S1x2048x5376, .f32⟩
  | .hbm, ⟨43, _⟩ => ⟨S1x2048x2048, .f32⟩
  | .hbm, ⟨44, _⟩ => ⟨S1x2048x2048, .f32⟩
  | .hbm, ⟨45, _⟩ => ⟨S_, .f32⟩
  | .hbm, ⟨46, _⟩ => ⟨S1x2048, .f32⟩
  | .hbm, ⟨47, _⟩ => ⟨S1x1x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x2048, .f32⟩
  | .hbm, ⟨52, _⟩ => ⟨S_, .f32⟩
  | .hbm, ⟨53, _⟩ => ⟨S1x2048, .f32⟩
  | .hbm, ⟨54, _⟩ => ⟨S1x1x2048, .f32⟩
  | .hbm, ⟨55, _⟩ => ⟨S1x2048x2048, .f32⟩
  | .hbm, ⟨56, _⟩ => ⟨S1x2048x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S1x2048x2048, .f32⟩
  | .hbm, ⟨61, _⟩ => ⟨S_, .f32⟩
  | .hbm, ⟨62, _⟩ => ⟨S1x2048, .f32⟩
  | .hbm, ⟨63, _⟩ => ⟨S1x1x2048, .f32⟩
  | .hbm, ⟨64, _⟩ => ⟨S1x2048x2048, .f32⟩
  | .hbm, ⟨65, _⟩ => ⟨S1x2048x2048, .f32⟩
  | .hbm, ⟨66, _⟩ => ⟨S_, .f32⟩
  | .hbm, ⟨67, _⟩ => ⟨S2048, .f32⟩
  | .hbm, ⟨68, _⟩ => ⟨S1x2048x2048, .f32⟩
  | .hbm, ⟨69, _⟩ => ⟨S_, .f32⟩
  | .hbm, ⟨70, _⟩ => ⟨S1x2048, .f32⟩
  | .hbm, ⟨71, _⟩ => ⟨S1x2048x1, .f32⟩
  | .hbm, ⟨72, _⟩ => ⟨S1x2048x2048, .f32⟩
  | .hbm, ⟨73, _⟩ => ⟨S1x2048x2048, .f32⟩
  | .hbm, ⟨74, _⟩ => ⟨S1x2048x2048, .f32⟩
  | .hbm, ⟨75, _⟩ => ⟨S1x2048x1, .f32⟩
  | .hbm, ⟨76, _⟩ => ⟨S_, .f32⟩
  | .hbm, ⟨77, _⟩ => ⟨S1x2048x1, .f32⟩
  | .hbm, ⟨78, _⟩ => ⟨S1x2048x1, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S1x2048x2048, .f32⟩
  | .hbm, ⟨83, _⟩ => ⟨S1x2048x2048, .f32⟩
  | .hbm, ⟨84, _⟩ => ⟨S1x2048x2048, .f32⟩
  | .hbm, ⟨85, _⟩ => ⟨S1x2048x2048, .f32⟩
  | .hbm, ⟨86, _⟩ => ⟨S1x2048x2048, .f32⟩
  | .hbm, ⟨87, _⟩ => ⟨S1x2048, .f32⟩
  | .hbm, ⟨88, _⟩ => ⟨S2048x2048, .f32⟩
  | _, _ => ⟨S2048x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩

abbrev nD : Nat := 1
abbrev τ : Topo := Topo.v7x

variable {F : FTy → Type} [FloatOps F]
-- ==== MixKernel.lean ====
abbrev S2048x5376 : Shape := ⟨2, ![2048, 5376]⟩
abbrev S2048x2048 : Shape := ⟨2, ![2048, 2048]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x5376 : Shape := ⟨3, ![1, 2048, 5376]⟩
abbrev S1x2048x1280 : Shape := ⟨3, ![1, 2048, 1280]⟩
abbrev S1x2048x1024 : Shape := ⟨3, ![1, 2048, 1024]⟩
abbrev S1x2048x128 : Shape := ⟨3, ![1, 2048, 128]⟩
abbrev S1x2048x16x64 : Shape := ⟨4, ![1, 2048, 16, 64]⟩
abbrev S1x2048x2x64 : Shape := ⟨4, ![1, 2048, 2, 64]⟩
abbrev S16 : Shape := ⟨1, ![16]⟩
abbrev S1x16x128x2x8x64 : Shape := ⟨6, ![1, 16, 128, 2, 8, 64]⟩
abbrev S1x16x128x2x64 : Shape := ⟨5, ![1, 16, 128, 2, 64]⟩
abbrev S_ : Shape := ⟨0, ![]⟩
abbrev S1x1x128x2x64 : Shape := ⟨5, ![1, 1, 128, 2, 64]⟩
abbrev S1x15x128x2x64 : Shape := ⟨5, ![1, 15, 128, 2, 64]⟩
abbrev S1x16x256x2x64 : Shape := ⟨5, ![1, 16, 256, 2, 64]⟩
abbrev S1x16x2x256x128x8 : Shape := ⟨6, ![1, 16, 2, 256, 128, 8]⟩
abbrev S1x16x2x8x128x256 : Shape := ⟨6, ![1, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S1x16x2x8x128x1 : Shape := ⟨6, ![1, 16, 2, 8, 128, 1]⟩
abbrev S1x16x2x8x128x257 : Shape := ⟨6, ![1, 16, 2, 8, 128, 257]⟩
abbrev S1x16x2x8x128 : Shape := ⟨5, ![1, 16, 2, 8, 128]⟩
abbrev S1x16x2x64x8x128 : Shape := ⟨6, ![1, 16, 2, 64, 8, 128]⟩
abbrev S2048x1024 : Shape := ⟨2, ![2048, 1024]⟩
abbrev S8x128x128 : Shape := ⟨3, ![8, 128, 128]⟩
abbrev S8x128 : Shape := ⟨2, ![8, 128]⟩
abbrev S128x8 : Shape := ⟨2, ![128, 8]⟩
abbrev S128x5376 : Shape := ⟨2, ![128, 5376]⟩
abbrev S128x2048 : Shape := ⟨2, ![128, 2048]⟩
abbrev S128x1024 : Shape := ⟨2, ![128, 1024]⟩
abbrev S256x256 : Shape := ⟨2, ![256, 256]⟩
abbrev S1x128 : Shape := ⟨2, ![1, 128]⟩
abbrev S128x128 : Shape := ⟨2, ![128, 128]⟩
abbrev S128x4096 : Shape := ⟨2, ![128, 4096]⟩
abbrev S256x1024 : Shape := ⟨2, ![256, 1024]⟩
abbrev S256x128 : Shape := ⟨2, ![256, 128]⟩
abbrev S256x64 : Shape := ⟨2, ![256, 64]⟩
abbrev S128x64 : Shape := ⟨2, ![128, 64]⟩
abbrev S1024x64 : Shape := ⟨2, ![1024, 64]⟩
abbrev S1x1 : Shape := ⟨2, ![1, 1]⟩
abbrev S1024 : Shape := ⟨1, ![1024]⟩
abbrev S64x1024 : Shape := ⟨2, ![64, 1024]⟩
abbrev S1 : Shape := ⟨1, ![1]⟩
abbrev S64x128 : Shape := ⟨2, ![64, 128]⟩
abbrev S1x128x128 : Shape := ⟨3, ![1, 128, 128]⟩

abbrev nBuf : Space → Nat
  | .hbm => 103
  | .vmem => 25
  | .smem => 0
  | _ => 0

abbrev bufTy : (tb : Table) → Fin (tcTables nBuf tb) → BufTy
  | .hbm, ⟨0, _⟩ => ⟨S2048x5376, .f32⟩
  | .hbm, ⟨1, _⟩ => ⟨S2048x2048, .f32⟩
  | .hbm, ⟨2, _⟩ => ⟨S1x16, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x2048x5376, .f32⟩
  | .hbm, ⟨8, _⟩ => ⟨S1x2048x1280, .f32⟩
  | .hbm, ⟨9, _⟩ => ⟨S1x2048x1024, .f32⟩
  | .hbm, ⟨10, _⟩ => ⟨S1x2048x128, .f32⟩
  | .hbm, ⟨11, _⟩ => ⟨S1x2048x128, .f32⟩
  | .hbm, ⟨12, _⟩ => ⟨S1x2048x16x64, .f32⟩
  | .hbm, ⟨13, _⟩ => ⟨S1x2048x2x64, .f32⟩
  | .hbm, ⟨14, _⟩ => ⟨S1x2048x2x64, .f32⟩
  | .hbm, ⟨15, _⟩ => ⟨S16, .f32⟩
  | .hbm, ⟨16, _⟩ => ⟨S1x16x128x2x8x64, .f32⟩
  | .hbm, ⟨17, _⟩ => ⟨S1x16x128x2x64, .f32⟩
  | .hbm, ⟨18, _⟩ => ⟨S1x16x128x2x64, .f32⟩
  | .hbm, ⟨19, _⟩ => ⟨S_, .f32⟩
  | .hbm, ⟨20, _⟩ => ⟨S1x1x128x2x64, .f32⟩
  | .hbm, ⟨21, _⟩ => ⟨S1x15x128x2x64, .f32⟩
  | .hbm, ⟨22, _⟩ => ⟨S1x16x128x2x64, .f32⟩
  | .hbm, ⟨23, _⟩ => ⟨S1x16x256x2x64, .f32⟩
  | .hbm, ⟨24, _⟩ => ⟨S1x15x128x2x64, .f32⟩
  | .hbm, ⟨25, _⟩ => ⟨S1x16x128x2x64, .f32⟩
  | .hbm, ⟨26, _⟩ => ⟨S1x16x256x2x64, .f32⟩
  | .hbm, ⟨27, _⟩ => ⟨S1x16x2x256x128x8, .f32⟩
  | .hbm, ⟨28, _⟩ => ⟨S1x16x2x8x128x256, .f32⟩
  | .hbm, ⟨29, _⟩ => ⟨S_, .f32⟩
  | .hbm, ⟨30, _⟩ => ⟨S1x16x2x8x128x256, .f32⟩
  | .hbm, ⟨31, _⟩ => ⟨S1x16x2x8x128x256, .f32⟩
  | .hbm, ⟨32, _⟩ => ⟨S128, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S256, .i32⟩
  | .hbm, ⟨38, _⟩ => ⟨S1x256, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i1⟩
  | .hbm, ⟨49, _⟩ => ⟨S16, .i32⟩
  | .hbm, ⟨50, _⟩ => ⟨S_, .i32⟩
  | .hbm, ⟨51, _⟩ => ⟨S16, .i32⟩
  | .hbm, ⟨52, _⟩ => ⟨S16, .i1⟩
  | .hbm, ⟨53, _⟩ => ⟨S16x1x1, .i1⟩
  | .hbm, ⟨54, _⟩ => ⟨S_, .i32⟩
  | .hbm, ⟨55, _⟩ => ⟨S1x256, .i32⟩
  | .hbm, ⟨56, _⟩ => ⟨S1x256, .i1⟩
  | .hbm, ⟨57, _⟩ => ⟨S1x1x256, .i1⟩
  | .hbm, ⟨58, _⟩ => ⟨S16x1x256, .i1⟩
  | .hbm, ⟨59, _⟩ => ⟨S16x1x256, .i1⟩
  | .hbm, ⟨60, _⟩ => ⟨S16x1x256, .i1⟩
  | .hbm, ⟨61, _⟩ => ⟨S1x128x256, .i1⟩
  | .hbm, ⟨62, _⟩ => ⟨S16x128x256, .i1⟩
  | .hbm, ⟨63, _⟩ => ⟨S16x128x256, .i1⟩
  | .hbm, ⟨64, _⟩ => ⟨S16x128x256, .i1⟩
  | .hbm, ⟨65, _⟩ => ⟨S1x16x1x1x128x256, .i1⟩
  | .hbm, ⟨66, _⟩ => ⟨S_, .f32⟩
  | .hbm, ⟨67, _⟩ => ⟨S_, .f32⟩
  | .hbm, ⟨68, _⟩ => ⟨S1x16x2x8x128x256, .i1⟩
  | .hbm, ⟨69, _⟩ => ⟨S1x16x2x8x128x256, .f32⟩
  | .hbm, ⟨70, _⟩ => ⟨S1x16x2x8x128x256, .f32⟩
  | .hbm, ⟨71, _⟩ => ⟨S2x8, .f32⟩
  | .hbm, ⟨72, _⟩ => ⟨S1x1x2x8x1x1, .f32⟩
  | .hbm, ⟨73, _⟩ => ⟨S1x16x2x8x128x1, .f32⟩
  | .hbm, ⟨74, _⟩ => ⟨S1x16x2x8x128x257, .f32⟩
  | .hbm, ⟨75, _⟩ => ⟨S_, .f32⟩
  | .hbm, ⟨76, _⟩ => ⟨S1x16x2x8x128, .f32⟩
  | .hbm, ⟨77, _⟩ => ⟨S_, .f32⟩
  | .hbm, ⟨78, _⟩ => ⟨S1x16x2x8x128, .f32⟩
  | .hbm, ⟨79, _⟩ => ⟨S1x16x2x8x128, .f32⟩
  | .hbm, ⟨80, _⟩ => ⟨S1x16x2x8x128x1, .f32⟩
  | .hbm, ⟨81, _⟩ => ⟨S1x16x2x8x128x257, .f32⟩
  | .hbm, ⟨82, _⟩ => ⟨S1x16x2x8x128x257, .f32⟩
  | .hbm, ⟨83, _⟩ => ⟨S1x16x2x8x128x257, .f32⟩
  | .hbm, ⟨84, _⟩ => ⟨S_, .f32⟩
  | .hbm, ⟨85, _⟩ => ⟨S1x16x2x8x128, .f32⟩
  | .hbm, ⟨86, _⟩ => ⟨S1x16x2x8x128x1, .f32⟩
  | .hbm, ⟨87, _⟩ => ⟨S1x16x2x8x128x257, .f32⟩
  | .hbm, ⟨88, _⟩ => ⟨S1x16x2x8x128x257, .f32⟩
  | .hbm, ⟨89, _⟩ => ⟨S1x16x2x8x128x256, .f32⟩
  | .hbm, ⟨90, _⟩ => ⟨S1x16x2x64x8x128, .f32⟩
  | .hbm, ⟨91, _⟩ => ⟨S1x16x128x2x8x64, .f32⟩
  | .hbm, ⟨92, _⟩ => ⟨S1x2048x1024, .f32⟩
  | .hbm, ⟨93, _⟩ => ⟨S2048x1024, .f32⟩
  | .hbm, ⟨94, _⟩ => ⟨S8x128x128, .f32⟩
  | .hbm, ⟨95, _⟩ => ⟨S8x128, .f32⟩
  | .hbm, ⟨96, _⟩ => ⟨S128x8, .f32⟩
  | .hbm, ⟨97, _⟩ => ⟨S2048x5376, .bf16⟩
  | .hbm, ⟨98, _⟩ => ⟨S1x16, .f32⟩
  | .hbm, ⟨99, _⟩ => ⟨S1x1024, .f32⟩
  | .hbm, ⟨100, _⟩ => ⟨S1x1024, .f32⟩
  | .hbm, ⟨101, _⟩ => ⟨S8x128x128, .f32⟩
  | .hbm, ⟨102, _⟩ => ⟨S8x128, .f32⟩
  | .local _ .vmem, ⟨0, _⟩ => ⟨S128x5376, .f32⟩
  | .local _ .vmem, ⟨1, _⟩ => ⟨S128x5376, .f32⟩
  | .local _ .vmem, ⟨2, _⟩ => ⟨S128x256, .f32⟩
  | .local _ .vmem, ⟨3, _⟩ => ⟨S128x256, .f32⟩
  | .local _ .vmem, ⟨4, _⟩ => ⟨S128x2048, .f32⟩
  | .local _ .vmem, ⟨5, _⟩ => ⟨S128x2048, .f32⟩
  | .local _ .vmem, ⟨6, _⟩ => ⟨S128x1024, .f32⟩
  | .local _ .vmem, ⟨7, _⟩ => ⟨S128x1024, .f32⟩
  | .local _ .vmem, ⟨8, _⟩ => ⟨S1x16, .f32⟩
  | .local _ .vmem, ⟨9, _⟩ => ⟨S1x1024, .f32⟩
  | .local _ .vmem, ⟨10, _⟩ => ⟨S1x1024, .f32⟩
  | .local _ .vmem, ⟨11, _⟩ => ⟨S8x128x128, .f32⟩
  | .local _ .vmem, ⟨12, _⟩ => ⟨S128x8, .f32⟩
  | .local _ .vmem, ⟨13, _⟩ => ⟨S128x5376, .bf16⟩
  | .local _ .vmem, ⟨14, _⟩ => ⟨S128x5376, .bf16⟩
  | .local _ .vmem, ⟨15, _⟩ => ⟨S1x16, .f32⟩
  | .local _ .vmem, ⟨16, _⟩ => ⟨S1x1024, .f32⟩
  | .local _ .vmem, ⟨17, _⟩ => ⟨S1x1024, .f32⟩
  | .local _ .vmem, ⟨18, _⟩ => ⟨S8x128x128, .f32⟩
  | .local _ .vmem, ⟨19, _⟩ => ⟨S8x128, .f32⟩
  | .local _ .vmem, ⟨20, _⟩ => ⟨S128x5376, .bf16⟩
  | .local _ .vmem, ⟨21, _⟩ => ⟨S256x256, .f32⟩
  | .local _ .vmem, ⟨22, _⟩ => ⟨S128x256, .f32⟩
  | .local _ .vmem, ⟨23, _⟩ => ⟨S1x128, .f32⟩
  | .local _ .vmem, ⟨24, _⟩ => ⟨S128x128, .f32⟩
  | _, _ => ⟨S2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_1 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_6 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76_0 : Ref sig .tc := ⟨.hbm, 97, rfl⟩
abbrev main_v76_1 : Ref sig .tc := ⟨.hbm, 98, rfl⟩
abbrev main_v76_2 : Ref sig .tc := ⟨.hbm, 99, rfl⟩
abbrev main_v76_3 : Ref sig .tc := ⟨.hbm, 100, rfl⟩
abbrev main_v76_4 : Ref sig .tc := ⟨.hbm, 101, rfl⟩
abbrev main_v76_5 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19

abbrev nD : Nat := 1
abbrev τ : Topo := Topo.v7x

variable {F : FTy → Type} [FloatOps F]

abbrev grid0 : Pipeline.Grid := ⟨1, ![17], ![false]⟩

def k0_cond4 (i : grid0.Coords) : BitVec 1 :=
  let arg0 : BitVec 32 := BitVec.ofNat 32 (i 0).val
  let c16_i32_18 : BitVec 32 := 16#32
  let v22 : BitVec 1 := Scalar.cmpi .eq arg0 c16_i32_18
  let v23 : BitVec 32 := Scalar.extui v22
  let c0_i32_19 : BitVec 32 := 0#32
  let v24 : BitVec 1 := Scalar.cmpi .ne v23 c0_i32_19
  v24

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c16_i32_8 : BitVec 32 := 16#32
  let v10 : BitVec 1 := Scalar.cmpi .slt arg0 c16_i32_8
  let v11 : BitVec 32 := Scalar.extui v10
  let c0_i32_9 : BitVec 32 := 0#32
  let v12 : BitVec 1 := Scalar.cmpi .ne v11 c0_i32_9
  v12

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x5376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x5376 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixReferenceIdeal.lean ====
abbrev S2048x5376 : Shape := ⟨2, ![2048, 5376]⟩
abbrev S2048x2048 : Shape := ⟨2, ![2048, 2048]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x5376 : Shape := ⟨3, ![1, 2048, 5376]⟩
abbrev S1x2048x1024 : Shape := ⟨3, ![1, 2048, 1024]⟩
abbrev S1x2048x128 : Shape := ⟨3, ![1, 2048, 128]⟩
abbrev S1x2048x16x64 : Shape := ⟨4, ![1, 2048, 16, 64]⟩
abbrev S1x2048x2x64 : Shape := ⟨4, ![1, 2048, 2, 64]⟩
abbrev S16 : Shape := ⟨1, ![16]⟩
abbrev S1x16x128x2x8x64 : Shape := ⟨6, ![1, 16, 128, 2, 8, 64]⟩
abbrev S1x16x128x2x64 : Shape := ⟨5, ![1, 16, 128, 2, 64]⟩
abbrev S_ : Shape := ⟨0, ![]⟩
abbrev S1x1x128x2x64 : Shape := ⟨5, ![1, 1, 128, 2, 64]⟩
abbrev S1x15x128x2x64 : Shape := ⟨5, ![1, 15, 128, 2, 64]⟩
abbrev S1x16x256x2x64 : Shape := ⟨5, ![1, 16, 256, 2, 64]⟩
abbrev S1x16x2x256x128x8 : Shape := ⟨6, ![1, 16, 2, 256, 128, 8]⟩
abbrev S1x16x2x8x128x256 : Shape := ⟨6, ![1, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S1x16x2x8x128x1 : Shape := ⟨6, ![1, 16, 2, 8, 128, 1]⟩
abbrev S1x16x2x8x128x257 : Shape := ⟨6, ![1, 16, 2, 8, 128, 257]⟩
abbrev S1x16x2x8x128 : Shape := ⟨5, ![1, 16, 2, 8, 128]⟩
abbrev S1x16x2x64x8x128 : Shape := ⟨6, ![1, 16, 2, 64, 8, 128]⟩
abbrev S1024 : Shape := ⟨1, ![1024]⟩
abbrev S8x128x128 : Shape := ⟨3, ![8, 128, 128]⟩
abbrev S8x128 : Shape := ⟨2, ![8, 128]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x2048x2048 : Shape := ⟨3, ![1, 2048, 2048]⟩
abbrev S1x128x8 : Shape := ⟨3, ![1, 128, 8]⟩
abbrev S2048 : Shape := ⟨1, ![2048]⟩
abbrev S1x16x2x64x256 : Shape := ⟨5, ![1, 16, 2, 64, 256]⟩
abbrev S16x2x8x128 : Shape := ⟨4, ![16, 2, 8, 128]⟩
abbrev S1x16x2x128x8x64 : Shape := ⟨6, ![1, 16, 2, 128, 8, 64]⟩
abbrev S1x16x2x256x64 : Shape := ⟨5, ![1, 16, 2, 256, 64]⟩

abbrev nBuf : Space → Nat
  | .hbm => 366
  | .vmem => 0
  | .smem => 0
  | _ => 0

abbrev hbmTy0_0 (i : Nat) : BufTy := match i % 128 with
  | 0 => ⟨S2048x5376, .f32⟩
  | 1 => ⟨S2048x2048, .f32⟩
  | 2 => ⟨S1x16, .f32⟩
  | 3 => ⟨S1x1024, .f32⟩
  | 4 => ⟨S1x1024, .f32⟩
  | 5 => ⟨S1x8x128x128, .f32⟩
  | 6 => ⟨S1x8x128, .f32⟩
  | 7 => ⟨S1x2048x5376, .f32⟩
  | 8 => ⟨S1x2048x1024, .f32⟩
  | 9 => ⟨S1x2048x128, .f32⟩
  | 10 => ⟨S1x2048x128, .f32⟩
  | 11 => ⟨S1x2048x1024, .f32⟩
  | 12 => ⟨S1x2048x1024, .f32⟩
  | 13 => ⟨S1x2048x1024, .f32⟩
  | 14 => ⟨S1x2048x1024, .f32⟩
  | 15 => ⟨S1x2048x16x64, .f32⟩
  | 16 => ⟨S1x2048x2x64, .f32⟩
  | 17 => ⟨S1x2048x2x64, .f32⟩
  | 18 => ⟨S16, .f32⟩
  | 19 => ⟨S1x16x128x2x8x64, .f32⟩
  | 20 => ⟨S1x16x128x2x64, .f32⟩
  | 21 => ⟨S1x16x128x2x64, .f32⟩
  | 22 => ⟨S_, .f32⟩
  | 23 => ⟨S1x1x128x2x64, .f32⟩
  | 24 => ⟨S1x15x128x2x64, .f32⟩
  | 25 => ⟨S1x16x128x2x64, .f32⟩
  | 26 => ⟨S_, .f32⟩
  | 27 => ⟨S1x1x128x2x64, .f32⟩
  | 28 => ⟨S1x16x256x2x64, .f32⟩
  | 29 => ⟨S1x15x128x2x64, .f32⟩
  | 30 => ⟨S1x16x128x2x64, .f32⟩
  | 31 => ⟨S_, .f32⟩
  | 32 => ⟨S1x1x128x2x64, .f32⟩
  | 33 => ⟨S1x16x256x2x64, .f32⟩
  | 34 => ⟨S1x16x2x256x128x8, .f32⟩
  | 35 => ⟨S1x16x2x8x128x256, .f32⟩
  | 36 => ⟨S_, .f32⟩
  | 37 => ⟨S1x16x2x8x128x256, .f32⟩
  | 38 => ⟨S1x16x2x8x128x256, .f32⟩
  | 39 => ⟨S128, .i32⟩
  | 40 => ⟨S128x1, .i32⟩
  | 41 => ⟨S_, .i32⟩
  | 42 => ⟨S128x1, .i32⟩
  | 43 => ⟨S128x1, .i32⟩
  | 44 => ⟨S256, .i32⟩
  | 45 => ⟨S1x256, .i32⟩
  | 46 => ⟨S128x256, .i32⟩
  | 47 => ⟨S128x256, .i32⟩
  | 48 => ⟨S128x256, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i1⟩
  | 55 => ⟨S128x256, .i1⟩
  | 56 => ⟨S16, .i32⟩
  | 57 => ⟨S_, .i32⟩
  | 58 => ⟨S16, .i32⟩
  | 59 => ⟨S16, .i1⟩
  | 60 => ⟨S16x1x1, .i1⟩
  | 61 => ⟨S_, .i32⟩
  | 62 => ⟨S1x256, .i32⟩
  | 63 => ⟨S1x256, .i1⟩
  | 64 => ⟨S1x1x256, .i1⟩
  | 65 => ⟨S16x1x256, .i1⟩
  | 66 => ⟨S16x1x256, .i1⟩
  | 67 => ⟨S16x1x256, .i1⟩
  | 68 => ⟨S1x128x256, .i1⟩
  | 69 => ⟨S16x128x256, .i1⟩
  | 70 => ⟨S16x128x256, .i1⟩
  | 71 => ⟨S16x128x256, .i1⟩
  | 72 => ⟨S1x16x1x1x128x256, .i1⟩
  | 73 => ⟨S_, .f32⟩
  | 74 => ⟨S_, .f32⟩
  | 75 => ⟨S1x16x2x8x128x256, .i1⟩
  | 76 => ⟨S1x16x2x8x128x256, .f32⟩
  | 77 => ⟨S1x16x2x8x128x256, .f32⟩
  | 78 => ⟨S_, .f32⟩
  | 79 => ⟨S1x16x2x8x128x256, .f32⟩
  | 80 => ⟨S2x8, .f32⟩
  | 81 => ⟨S1x1x2x8x1x1, .f32⟩
  | 82 => ⟨S1x16x2x8x128x1, .f32⟩
  | 83 => ⟨S1x16x2x8x128x257, .f32⟩
  | 84 => ⟨S_, .f32⟩
  | 85 => ⟨S1x16x2x8x128, .f32⟩
  | 86 => ⟨S1x16x2x8x128x1, .f32⟩
  | 87 => ⟨S1x16x2x8x128x257, .f32⟩
  | 88 => ⟨S1x16x2x8x128x257, .i1⟩
  | 89 => ⟨S1x16x2x8x128x257, .f32⟩
  | 90 => ⟨S_, .f32⟩
  | 91 => ⟨S1x16x2x8x128, .f32⟩
  | 92 => ⟨S_, .f32⟩
  | 93 => ⟨S1x16x2x8x128, .f32⟩
  | 94 => ⟨S1x16x2x8x128, .f32⟩
  | 95 => ⟨S_, .f32⟩
  | 96 => ⟨S1x16x2x8x128, .f32⟩
  | 97 => ⟨S1x16x2x8x128, .i1⟩
  | 98 => ⟨S_, .f32⟩
  | 99 => ⟨S1x16x2x8x128, .f32⟩
  | 100 => ⟨S1x16x2x8x128, .i1⟩
  | 101 => ⟨S_, .f32⟩
  | 102 => ⟨S1x16x2x8x128, .f32⟩
  | 103 => ⟨S_, .f32⟩
  | 104 => ⟨S1x16x2x8x128, .f32⟩
  | 105 => ⟨S_, .f32⟩
  | 106 => ⟨S1x16x2x8x128, .f32⟩
  | 107 => ⟨S1x16x2x8x128, .f32⟩
  | 108 => ⟨S1x16x2x8x128, .f32⟩
  | 109 => ⟨S1x16x2x8x128x1, .f32⟩
  | 110 => ⟨S1x16x2x8x128x257, .f32⟩
  | 111 => ⟨S1x16x2x8x128x257, .f32⟩
  | 112 => ⟨S1x16x2x8x128x257, .f32⟩
  | 113 => ⟨S_, .f32⟩
  | 114 => ⟨S1x16x2x8x128, .f32⟩
  | 115 => ⟨S1x16x2x8x128x1, .f32⟩
  | 116 => ⟨S1x16x2x8x128x257, .f32⟩
  | 117 => ⟨S1x16x2x8x128x257, .f32⟩
  | 118 => ⟨S1x16x2x8x128x1, .f32⟩
  | 119 => ⟨S_, .f32⟩
  | 120 => ⟨S1x16x2x8x128x1, .f32⟩
  | 121 => ⟨S1x16x2x8x128x1, .f32⟩
  | 122 => ⟨S1x16x2x8x128x256, .f32⟩
  | 123 => ⟨S1x16x2x64x8x128, .f32⟩
  | 124 => ⟨S1x16x128x2x8x64, .f32⟩
  | 125 => ⟨S1x2048x1024, .f32⟩
  | 126 => ⟨S1x2048x1024, .f32⟩
  | 127 => ⟨S1x2048x1024, .f32⟩
  | _ => ⟨S2048x5376, .f32⟩

abbrev hbmTy0_1 (i : Nat) : BufTy := match i % 128 with
  | 0 => ⟨S_, .f32⟩
  | 1 => ⟨S1x2048x1024, .f32⟩
  | 2 => ⟨S1x2048x1024, .f32⟩
  | 3 => ⟨S_, .f32⟩
  | 4 => ⟨S1x2048x1024, .f32⟩
  | 5 => ⟨S1x2048x1024, .f32⟩
  | 6 => ⟨S_, .f32⟩
  | 7 => ⟨S1x2048x1024, .f32⟩
  | 8 => ⟨S1x2048x1024, .f32⟩
  | 9 => ⟨S1x2048x1024, .f32⟩
  | 10 => ⟨S1x2048x1024, .f32⟩
  | 11 => ⟨S1x2048x1024, .f32⟩
  | 12 => ⟨S1024, .f32⟩
  | 13 => ⟨S1024, .f32⟩
  | 14 => ⟨S8x128x128, .f32⟩
  | 15 => ⟨S8x128, .f32⟩
  | 16 => ⟨S_, .f32⟩
  | 17 => ⟨S1x2048, .f32⟩
  | 18 => ⟨S1x2048x1, .f32⟩
  | 19 => ⟨S_, .f32⟩
  | 20 => ⟨S1x2048x1, .f32⟩
  | 21 => ⟨S1x2048x1, .f32⟩
  | 22 => ⟨S1x2048x1024, .f32⟩
  | 23 => ⟨S1x2048x1024, .f32⟩
  | 24 => ⟨S1x2048x1024, .f32⟩
  | 25 => ⟨S_, .f32⟩
  | 26 => ⟨S1x2048x1024, .f32⟩
  | 27 => ⟨S1x2048x1024, .f32⟩
  | 28 => ⟨S_, .f32⟩
  | 29 => ⟨S1x2048, .f32⟩
  | 30 => ⟨S1x2048x1, .f32⟩
  | 31 => ⟨S_, .f32⟩
  | 32 => ⟨S1x2048x1, .f32⟩
  | 33 => ⟨S1x2048x1, .f32⟩
  | 34 => ⟨S1x2048x1024, .f32⟩
  | 35 => ⟨S1x2048x1024, .f32⟩
  | 36 => ⟨S_, .f32⟩
  | 37 => ⟨S1x2048x1, .f32⟩
  | 38 => ⟨S1x2048x1, .f32⟩
  | 39 => ⟨S1x2048x1, .f32⟩
  | 40 => ⟨S1x2048x1, .f32⟩
  | 41 => ⟨S_, .f32⟩
  | 42 => ⟨S1x2048x1, .f32⟩
  | 43 => ⟨S1x2048x1, .f32⟩
  | 44 => ⟨S1x2048x1024, .f32⟩
  | 45 => ⟨S1x2048x1024, .f32⟩
  | 46 => ⟨S1x1x1024, .f32⟩
  | 47 => ⟨S1x2048x1024, .f32⟩
  | 48 => ⟨S1x2048x1024, .f32⟩
  | 49 => ⟨S1x1x1024, .f32⟩
  | 50 => ⟨S1x2048x1024, .f32⟩
  | 51 => ⟨S1x2048x1024, .f32⟩
  | 52 => ⟨S1x16x128x8x128, .f32⟩
  | 53 => ⟨S_, .f32⟩
  | 54 => ⟨S128x128, .f32⟩
  | 55 => ⟨S128x128, .i32⟩
  | 56 => ⟨S_, .i32⟩
  | 57 => ⟨S128x128, .i32⟩
  | 58 => ⟨S128x128, .i32⟩
  | 59 => ⟨S128x128, .i32⟩
  | 60 => ⟨S128x128, .i1⟩
  | 61 => ⟨S_, .f32⟩
  | 62 => ⟨S128x128, .f32⟩
  | 63 => ⟨S128x128, .f32⟩
  | 64 => ⟨S1x128x128, .f32⟩
  | 65 => ⟨S8x128x128, .f32⟩
  | 66 => ⟨S8x128x128, .f32⟩
  | 67 => ⟨S8x1x16x128x128, .f32⟩
  | 68 => ⟨S1x16x128x8x128, .f32⟩
  | 69 => ⟨S128x8, .f32⟩
  | 70 => ⟨S1x1x128x8x1, .f32⟩
  | 71 => ⟨S1x16x128x8x128, .f32⟩
  | 72 => ⟨S1x16x128x8x128, .f32⟩
  | 73 => ⟨S1x2048x1024, .f32⟩
  | 74 => ⟨S1x2048x1024, .f32⟩
  | 75 => ⟨S1x2048x1024, .f32⟩
  | 76 => ⟨S1x2048x1024, .f32⟩
  | 77 => ⟨S_, .f32⟩
  | 78 => ⟨S1x2048x1024, .f32⟩
  | 79 => ⟨S1x2048x1024, .f32⟩
  | 80 => ⟨S_, .f32⟩
  | 81 => ⟨S1x2048x1024, .f32⟩
  | 82 => ⟨S1x2048x1024, .f32⟩
  | 83 => ⟨S_, .f32⟩
  | 84 => ⟨S1x2048x1024, .f32⟩
  | 85 => ⟨S1x2048x1024, .f32⟩
  | 86 => ⟨S1x2048x1024, .f32⟩
  | 87 => ⟨S1x2048x1024, .f32⟩
  | 88 => ⟨S1x2048x1024, .f32⟩
  | 89 => ⟨S1x2048x2048, .f32⟩
  | 90 => ⟨S1x2048x2048, .f32⟩
  | 91 => ⟨S1x2048x1024, .f32⟩
  | 92 => ⟨S1x2048x1024, .f32⟩
  | 93 => ⟨S1x2048x1024, .f32⟩
  | 94 => ⟨S1x2048x1024, .f32⟩
  | 95 => ⟨S1x2048x1024, .f32⟩
  | 96 => ⟨S1x2048x1024, .f32⟩
  | 97 => ⟨S1x2048x1024, .f32⟩
  | 98 => ⟨S1x2048x1024, .f32⟩
  | 99 => ⟨S1x2048x1024, .f32⟩
  | 100 => ⟨S1x2048x1024, .f32⟩
  | 101 => ⟨S1x16x128x8x128, .f32⟩
  | 102 => ⟨S_, .f32⟩
  | 103 => ⟨S1x128x8, .f32⟩
  | 104 => ⟨S1x1x128x8x1, .f32⟩
  | 105 => ⟨S_, .f32⟩
  | 106 => ⟨S128x8, .f32⟩
  | 107 => ⟨S8x128, .f32⟩
  | 108 => ⟨S8x1x16x128x128, .f32⟩
  | 109 => ⟨S8x128x128, .f32⟩
  | 110 => ⟨S8x1x16x128x128, .f32⟩
  | 111 => ⟨S1x16x128x8x128, .f32⟩
  | 112 => ⟨S8x128x128, .f32⟩
  | 113 => ⟨S8x128x128, .f32⟩
  | 114 => ⟨S1x2048x1024, .f32⟩
  | 115 => ⟨S_, .f32⟩
  | 116 => ⟨S1x1024, .f32⟩
  | 117 => ⟨S1x1x1024, .f32⟩
  | 118 => ⟨S_, .f32⟩
  | 119 => ⟨S1024, .f32⟩
  | 120 => ⟨S1x2048x1024, .f32⟩
  | 121 => ⟨S_, .f32⟩
  | 122 => ⟨S1x1024, .f32⟩
  | 123 => ⟨S1x1x1024, .f32⟩
  | 124 => ⟨S1x2048x1024, .f32⟩
  | 125 => ⟨S1x2048x1024, .f32⟩
  | 126 => ⟨S_, .f32⟩
  | 127 => ⟨S1024, .f32⟩
  | _ => ⟨S2048x5376, .f32⟩

abbrev hbmTy0_2 (i : Nat) : BufTy := match i % 128 with
  | 0 => ⟨S1x2048x1024, .f32⟩
  | 1 => ⟨S_, .f32⟩
  | 2 => ⟨S1x2048, .f32⟩
  | 3 => ⟨S1x2048x1, .f32⟩
  | 4 => ⟨S1x2048x1024, .f32⟩
  | 5 => ⟨S1x2048x1024, .f32⟩
  | 6 => ⟨S1x2048x1, .f32⟩
  | 7 => ⟨S1x2048x1024, .f32⟩
  | 8 => ⟨S_, .f32⟩
  | 9 => ⟨S1x2048, .f32⟩
  | 10 => ⟨S1x2048x1, .f32⟩
  | 11 => ⟨S_, .f32⟩
  | 12 => ⟨S1x2048x1, .f32⟩
  | 13 => ⟨S1x2048x1, .f32⟩
  | 14 => ⟨S_, .f32⟩
  | 15 => ⟨S2048, .f32⟩
  | 16 => ⟨S1x2048, .f32⟩
  | 17 => ⟨S1x2048x1024, .f32⟩
  | 18 => ⟨S1x2048x1024, .f32⟩
  | 19 => ⟨S1x2048x1024, .f32⟩
  | 20 => ⟨S_, .f32⟩
  | 21 => ⟨S1x2048, .f32⟩
  | 22 => ⟨S1x2048x1, .f32⟩
  | 23 => ⟨S1x2048x1024, .f32⟩
  | 24 => ⟨S1x2048x1, .f32⟩
  | 25 => ⟨S_, .f32⟩
  | 26 => ⟨S1x2048x1, .f32⟩
  | 27 => ⟨S1x2048x1, .f32⟩
  | 28 => ⟨S_, .f32⟩
  | 29 => ⟨S2048, .f32⟩
  | 30 => ⟨S1x2048, .f32⟩
  | 31 => ⟨S1x2048x1024, .f32⟩
  | 32 => ⟨S1x2048x1024, .f32⟩
  | 33 => ⟨S1x8x128, .f32⟩
  | 34 => ⟨S1x8x128x128, .f32⟩
  | 35 => ⟨S1x1024, .f32⟩
  | 36 => ⟨S1x1024, .f32⟩
  | 37 => ⟨S1x2048x1024, .f32⟩
  | 38 => ⟨S1x2048x1024, .f32⟩
  | 39 => ⟨S1x2048x1024, .f32⟩
  | 40 => ⟨S1x2048x1024, .f32⟩
  | 41 => ⟨S1x2048x1024, .f32⟩
  | 42 => ⟨S1x2048x1024, .f32⟩
  | 43 => ⟨S1x16x128x2x8x64, .f32⟩
  | 44 => ⟨S1x16x2x64x8x128, .f32⟩
  | 45 => ⟨S1x16x2x8x128x256, .f32⟩
  | 46 => ⟨S1x16x2x64x256, .f32⟩
  | 47 => ⟨S1x16x256x2x64, .f32⟩
  | 48 => ⟨S_, .f32⟩
  | 49 => ⟨S1x16x2x8x128x257, .f32⟩
  | 50 => ⟨S1x16x2x8x128x257, .f32⟩
  | 51 => ⟨S1x16x2x8x128x257, .f32⟩
  | 52 => ⟨S1x16x2x8x128x257, .f32⟩
  | 53 => ⟨S_, .f32⟩
  | 54 => ⟨S1x16x2x8x128, .f32⟩
  | 55 => ⟨S1x16x2x8x128x1, .f32⟩
  | 56 => ⟨S1x16x2x8x128x1, .f32⟩
  | 57 => ⟨S1x16x2x8x128x257, .f32⟩
  | 58 => ⟨S1x16x2x8x128x257, .f32⟩
  | 59 => ⟨S_, .f32⟩
  | 60 => ⟨S16x2x8x128, .f32⟩
  | 61 => ⟨S1x16x2x8x128, .f32⟩
  | 62 => ⟨S1x16x2x8x128x257, .f32⟩
  | 63 => ⟨S1x16x2x8x128x257, .f32⟩
  | 64 => ⟨S1x16x2x8x128x257, .f32⟩
  | 65 => ⟨S1x16x2x8x128x256, .f32⟩
  | 66 => ⟨S1x16x2x8x128x1, .f32⟩
  | 67 => ⟨S_, .f32⟩
  | 68 => ⟨S2x8, .f32⟩
  | 69 => ⟨S1x1x2x8x1x1, .f32⟩
  | 70 => ⟨S_, .f32⟩
  | 71 => ⟨S2x8, .f32⟩
  | 72 => ⟨S16, .f32⟩
  | 73 => ⟨S_, .f32⟩
  | 74 => ⟨S1x16x2x8x128x256, .f32⟩
  | 75 => ⟨S1x16x2x8x128x256, .f32⟩
  | 76 => ⟨S_, .f32⟩
  | 77 => ⟨S1x16x2x8x128x256, .f32⟩
  | 78 => ⟨S1x16x2x8x128x256, .f32⟩
  | 79 => ⟨S1x16x2x256x128x8, .f32⟩
  | 80 => ⟨S1x16x2x128x8x64, .f32⟩
  | 81 => ⟨S1x16x128x2x8x64, .f32⟩
  | 82 => ⟨S1x16x2x256x64, .f32⟩
  | 83 => ⟨S1x16x256x2x64, .f32⟩
  | 84 => ⟨S1x16x128x2x64, .f32⟩
  | 85 => ⟨S1x16x128x2x64, .f32⟩
  | 86 => ⟨S1x1x128x2x64, .f32⟩
  | 87 => ⟨S1x15x128x2x64, .f32⟩
  | 88 => ⟨S_, .f32⟩
  | 89 => ⟨S1x16x128x2x64, .f32⟩
  | 90 => ⟨S1x16x128x2x64, .f32⟩
  | 91 => ⟨S1x16x128x2x64, .f32⟩
  | 92 => ⟨S1x16x128x2x64, .f32⟩
  | 93 => ⟨S1x1x128x2x64, .f32⟩
  | 94 => ⟨S1x15x128x2x64, .f32⟩
  | 95 => ⟨S_, .f32⟩
  | 96 => ⟨S1x16x128x2x64, .f32⟩
  | 97 => ⟨S1x16x128x2x64, .f32⟩
  | 98 => ⟨S1x2048x2x64, .f32⟩
  | 99 => ⟨S1x2048x2x64, .f32⟩
  | 100 => ⟨S1x2048x16x64, .f32⟩
  | 101 => ⟨S1x16, .f32⟩
  | 102 => ⟨S1x2048x128, .f32⟩
  | 103 => ⟨S1x2048x128, .f32⟩
  | 104 => ⟨S1x2048x1024, .f32⟩
  | 105 => ⟨S1x2048x5376, .f32⟩
  | 106 => ⟨S2048x5376, .f32⟩
  | 107 => ⟨S2048x5376, .bf16⟩
  | 108 => ⟨S8x128x128, .f32⟩
  | 109 => ⟨S8x128, .f32⟩
  | _ => ⟨S2048x5376, .f32⟩

abbrev hbmTy (i : Nat) : BufTy := match i / 128 with
  | 0 => hbmTy0_0 i
  | 1 => hbmTy0_1 i
  | 2 => hbmTy0_2 i
  | _ => ⟨S2048x5376, .f32⟩

abbrev bufTy : (tb : Table) → Fin (tcTables nBuf tb) → BufTy
  | .hbm, ⟨i, _⟩ => hbmTy i
  | _, _ => ⟨S2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_3 : Ref sig .tc := ⟨.hbm, 49, rfl⟩
abbrev main_v37 : Ref sig .tc := ⟨.hbm, 50, rfl⟩
abbrev main_v38 : Ref sig .tc := ⟨.hbm, 51, rfl⟩
abbrev main_c_4 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_call0_v0 : Ref sig .tc := ⟨.hbm, 74, rfl⟩
abbrev main_v57_1 : Ref sig .tc := ⟨.hbm, 75, rfl⟩
abbrev main_call0_v2 : Ref sig .tc := ⟨.hbm, 76, rfl⟩
abbrev main_v57_0 : Ref sig .tc := ⟨.hbm, 77, rfl⟩
abbrev main_call0_cst : Ref sig .tc := ⟨.hbm, 78, rfl⟩
abbrev main_v57_2 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_8 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_9 : Ref sig .tc := ⟨.hbm, 90, rfl⟩
abbrev main_v67 : Ref sig .tc := ⟨.hbm, 91, rfl⟩
abbrev main_cst_10 : Ref sig .tc := ⟨.hbm, 92, rfl⟩
abbrev main_v68 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_cst_15 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_16 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_call1_v0 : Ref sig .tc := ⟨.hbm, 126, rfl⟩
abbrev main_call1_v1 : Ref sig .tc := ⟨.hbm, 127, rfl⟩
abbrev main_call1_cst : Ref sig .tc := ⟨.hbm, 128, rfl⟩
abbrev main_call1_v2 : Ref sig .tc := ⟨.hbm, 129, rfl⟩
abbrev main_call1_v3 : Ref sig .tc := ⟨.hbm, 130, rfl⟩
abbrev main_call1_cst_0 : Ref sig .tc := ⟨.hbm, 131, rfl⟩
abbrev main_call1_v4 : Ref sig .tc := ⟨.hbm, 132, rfl⟩
abbrev main_v94_2 : Ref sig .tc := ⟨.hbm, 133, rfl⟩
abbrev main_call1_cst_1 : Ref sig .tc := ⟨.hbm, 134, rfl⟩
abbrev main_call1_v6 : Ref sig .tc := ⟨.hbm, 135, rfl⟩
abbrev main_call1_v7 : Ref sig .tc := ⟨.hbm, 136, rfl⟩
abbrev main_v94_1 : Ref sig .tc := ⟨.hbm, 137, rfl⟩
abbrev main_v94_0 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_18 : Ref sig .tc := ⟨.hbm, 144, rfl⟩
abbrev main_v100 : Ref sig .tc := ⟨.hbm, 145, rfl⟩
abbrev main_v101 : Ref sig .tc := ⟨.hbm, 146, rfl⟩
abbrev main_cst_19 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_20 : Ref sig .tc := ⟨.hbm, 153, rfl⟩
abbrev main_v107 : Ref sig .tc := ⟨.hbm, 154, rfl⟩
abbrev main_v108 : Ref sig .tc := ⟨.hbm, 155, rfl⟩
abbrev main_cst_21 : Ref sig .tc := ⟨.hbm, 156, rfl⟩
abbrev main_v109 : Ref sig .tc := ⟨.hbm, 157, rfl⟩
abbrev main_v110 : Ref sig .tc := ⟨.hbm, 158, rfl⟩
abbrev main_cst_22 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_23 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_24 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_cst_25 : Ref sig .tc := ⟨.hbm, 181, rfl⟩
abbrev main_v130 : Ref sig .tc := ⟨.hbm, 182, rfl⟩
abbrev main_call2_v0 : Ref sig .tc := ⟨.hbm, 183, rfl⟩
abbrev main_call2_c : Ref sig .tc := ⟨.hbm, 184, rfl⟩
abbrev main_call2_v1 : Ref sig .tc := ⟨.hbm, 185, rfl⟩
abbrev main_call2_v2 : Ref sig .tc := ⟨.hbm, 186, rfl⟩
abbrev main_call2_v3 : Ref sig .tc := ⟨.hbm, 187, rfl⟩
abbrev main_call2_v4 : Ref sig .tc := ⟨.hbm, 188, rfl⟩
abbrev main_call2_cst : Ref sig .tc := ⟨.hbm, 189, rfl⟩
abbrev main_call2_v5 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_call3_v0 : Ref sig .tc := ⟨.hbm, 203, rfl⟩
abbrev main_call3_v1 : Ref sig .tc := ⟨.hbm, 204, rfl⟩
abbrev main_call3_cst : Ref sig .tc := ⟨.hbm, 205, rfl⟩
abbrev main_call3_v2 : Ref sig .tc := ⟨.hbm, 206, rfl⟩
abbrev main_call3_v3 : Ref sig .tc := ⟨.hbm, 207, rfl⟩
abbrev main_call3_cst_0 : Ref sig .tc := ⟨.hbm, 208, rfl⟩
abbrev main_call3_v4 : Ref sig .tc := ⟨.hbm, 209, rfl⟩
abbrev main_v143_2 : Ref sig .tc := ⟨.hbm, 210, rfl⟩
abbrev main_call3_cst_1 : Ref sig .tc := ⟨.hbm, 211, rfl⟩
abbrev main_call3_v6 : Ref sig .tc := ⟨.hbm, 212, rfl⟩
abbrev main_call3_v7 : Ref sig .tc := ⟨.hbm, 213, rfl⟩
abbrev main_v143_1 : Ref sig .tc := ⟨.hbm, 214, rfl⟩
abbrev main_v143_0 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_call4_v0 : Ref sig .tc := ⟨.hbm, 223, rfl⟩
abbrev main_call4_v1 : Ref sig .tc := ⟨.hbm, 224, rfl⟩
abbrev main_call4_v2 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_cst_26 : Ref sig .tc := ⟨.hbm, 230, rfl⟩
abbrev main_v155 : Ref sig .tc := ⟨.hbm, 231, rfl⟩
abbrev main_v156 : Ref sig .tc := ⟨.hbm, 232, rfl⟩
abbrev main_cst_27 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_cst_28 : Ref sig .tc := ⟨.hbm, 243, rfl⟩
abbrev main_v166 : Ref sig .tc := ⟨.hbm, 244, rfl⟩
abbrev main_v167 : Ref sig .tc := ⟨.hbm, 245, rfl⟩
abbrev main_cst_29 : Ref sig .tc := ⟨.hbm, 246, rfl⟩
abbrev main_v168 : Ref sig .tc := ⟨.hbm, 247, rfl⟩
abbrev main_v169 : Ref sig .tc := ⟨.hbm, 248, rfl⟩
abbrev main_cst_30 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_cst_31 : Ref sig .tc := ⟨.hbm, 254, rfl⟩
abbrev main_v174 : Ref sig .tc := ⟨.hbm, 255, rfl⟩
abbrev main_v175 : Ref sig .tc := ⟨.hbm, 256, rfl⟩
abbrev main_cst_32 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_cst_33 : Ref sig .tc := ⟨.hbm, 264, rfl⟩
abbrev main_v182 : Ref sig .tc := ⟨.hbm, 265, rfl⟩
abbrev main_v183 : Ref sig .tc := ⟨.hbm, 266, rfl⟩
abbrev main_cst_34 : Ref sig .tc := ⟨.hbm, 267, rfl⟩
abbrev main_v184 : Ref sig .tc := ⟨.hbm, 268, rfl⟩
abbrev main_v185 : Ref sig .tc := ⟨.hbm, 269, rfl⟩
abbrev main_cst_35 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_cst_36 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_cst_37 : Ref sig .tc := ⟨.hbm, 281, rfl⟩
abbrev main_v195 : Ref sig .tc := ⟨.hbm, 282, rfl⟩
abbrev main_v196 : Ref sig .tc := ⟨.hbm, 283, rfl⟩
abbrev main_cst_38 : Ref sig .tc := ⟨.hbm, 284, rfl⟩
abbrev main_v197 : Ref sig .tc := ⟨.hbm, 285, rfl⟩
abbrev main_v198 : Ref sig .tc := ⟨.hbm, 286, rfl⟩
abbrev main_v199 : Ref sig .tc := ⟨.hbm, 287, rfl⟩
abbrev main_v200 : Ref sig .tc := ⟨.hbm, 288, rfl⟩
abbrev main_v201 : Ref sig .tc := ⟨.hbm, 289, rfl⟩
abbrev main_v202 : Ref sig .tc := ⟨.hbm, 290, rfl⟩
abbrev main_v203 : Ref sig .tc := ⟨.hbm, 291, rfl⟩
abbrev main_v204 : Ref sig .tc := ⟨.hbm, 292, rfl⟩
abbrev main_v205 : Ref sig .tc := ⟨.hbm, 293, rfl⟩
abbrev main_v206 : Ref sig .tc := ⟨.hbm, 294, rfl⟩
abbrev main_call5_v0 : Ref sig .tc := ⟨.hbm, 295, rfl⟩
abbrev main_call5_v1 : Ref sig .tc := ⟨.hbm, 296, rfl⟩
abbrev main_call5_v2 : Ref sig .tc := ⟨.hbm, 297, rfl⟩
abbrev main_v207 : Ref sig .tc := ⟨.hbm, 298, rfl⟩
abbrev main_v208 : Ref sig .tc := ⟨.hbm, 299, rfl⟩
abbrev main_v209 : Ref sig .tc := ⟨.hbm, 300, rfl⟩
abbrev main_v210 : Ref sig .tc := ⟨.hbm, 301, rfl⟩
abbrev main_v211 : Ref sig .tc := ⟨.hbm, 302, rfl⟩
abbrev main_v212 : Ref sig .tc := ⟨.hbm, 303, rfl⟩
abbrev main_cst_39 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_cst_40 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_v220 : Ref sig .tc := ⟨.hbm, 313, rfl⟩
abbrev main_v221 : Ref sig .tc := ⟨.hbm, 314, rfl⟩
abbrev main_cst_41 : Ref sig .tc := ⟨.hbm, 315, rfl⟩
abbrev main_v222 : Ref sig .tc := ⟨.hbm, 316, rfl⟩
abbrev main_v223 : Ref sig .tc := ⟨.hbm, 317, rfl⟩
abbrev main_v224 : Ref sig .tc := ⟨.hbm, 318, rfl⟩
abbrev main_v225 : Ref sig .tc := ⟨.hbm, 319, rfl⟩
abbrev main_v226 : Ref sig .tc := ⟨.hbm, 320, rfl⟩
abbrev main_v227 : Ref sig .tc := ⟨.hbm, 321, rfl⟩
abbrev main_v228 : Ref sig .tc := ⟨.hbm, 322, rfl⟩
abbrev main_cst_42 : Ref sig .tc := ⟨.hbm, 323, rfl⟩
abbrev main_v229 : Ref sig .tc := ⟨.hbm, 324, rfl⟩
abbrev main_v230 : Ref sig .tc := ⟨.hbm, 325, rfl⟩
abbrev main_cst_43 : Ref sig .tc := ⟨.hbm, 326, rfl⟩
abbrev main_v231 : Ref sig .tc := ⟨.hbm, 327, rfl⟩
abbrev main_v232 : Ref sig .tc := ⟨.hbm, 328, rfl⟩
abbrev main_call6_cst : Ref sig .tc := ⟨.hbm, 329, rfl⟩
abbrev main_call6_v0 : Ref sig .tc := ⟨.hbm, 330, rfl⟩
abbrev main_v233 : Ref sig .tc := ⟨.hbm, 331, rfl⟩
abbrev main_cst_44 : Ref sig .tc := ⟨.hbm, 332, rfl⟩
abbrev main_v234 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_v238 : Ref sig .tc := ⟨.hbm, 337, rfl⟩
abbrev main_v239 : Ref sig .tc := ⟨.hbm, 338, rfl⟩
abbrev main_v240 : Ref sig .tc := ⟨.hbm, 339, rfl⟩
abbrev main_v241 : Ref sig .tc := ⟨.hbm, 340, rfl⟩
abbrev main_v242 : Ref sig .tc := ⟨.hbm, 341, rfl⟩
abbrev main_v243 : Ref sig .tc := ⟨.hbm, 342, rfl⟩
abbrev main_v244 : Ref sig .tc := ⟨.hbm, 343, rfl⟩
abbrev main_cst_45 : Ref sig .tc := ⟨.hbm, 344, rfl⟩
abbrev main_v245 : Ref sig .tc := ⟨.hbm, 345, rfl⟩
abbrev main_v246 : Ref sig .tc := ⟨.hbm, 346, rfl⟩
abbrev main_v247 : Ref sig .tc := ⟨.hbm, 347, rfl⟩
abbrev main_v248 : Ref sig .tc := ⟨.hbm, 348, rfl⟩
abbrev main_v249 : Ref sig .tc := ⟨.hbm, 349, rfl⟩
abbrev main_v250 : Ref sig .tc := ⟨.hbm, 350, rfl⟩
abbrev main_cst_46 : Ref sig .tc := ⟨.hbm, 351, rfl⟩
abbrev main_v251 : Ref sig .tc := ⟨.hbm, 352, rfl⟩
abbrev main_v252 : Ref sig .tc := ⟨.hbm, 353, rfl⟩
abbrev main_v253 : Ref sig .tc := ⟨.hbm, 354, rfl⟩
abbrev main_v254 : Ref sig .tc := ⟨.hbm, 355, rfl⟩
abbrev main_v255 : Ref sig .tc := ⟨.hbm, 356, rfl⟩
abbrev main_v256 : Ref sig .tc := ⟨.hbm, 357, rfl⟩
abbrev main_v257 : Ref sig .tc := ⟨.hbm, 358, rfl⟩
abbrev main_v258 : Ref sig .tc := ⟨.hbm, 359, rfl⟩
abbrev main_v259 : Ref sig .tc := ⟨.hbm, 360, rfl⟩
abbrev main_v260 : Ref sig .tc := ⟨.hbm, 361, rfl⟩
abbrev main_v261 : Ref sig .tc := ⟨.hbm, 362, rfl⟩
abbrev main_v262 : Ref sig .tc := ⟨.hbm, 363, rfl⟩
abbrev main_v263 : Ref sig .tc := ⟨.hbm, 364, rfl⟩
abbrev main_v264 : Ref sig .tc := ⟨.hbm, 365, rfl⟩

abbrev nD : Nat := 1
abbrev τ : Topo := Topo.v7x

variable {F : FTy → Type} [FloatOps F]
-- ==== FwdKernel.lean ====
abbrev S2048x5376 : Shape := ⟨2, ![2048, 5376]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S128x8 : Shape := ⟨2, ![128, 8]⟩
abbrev S2048x2048 : Shape := ⟨2, ![2048, 2048]⟩
abbrev S2048x1024 : Shape := ⟨2, ![2048, 1024]⟩
abbrev S128x5376 : Shape := ⟨2, ![128, 5376]⟩
abbrev S128x256 : Shape := ⟨2, ![128, 256]⟩
abbrev S128x2048 : Shape := ⟨2, ![128, 2048]⟩
abbrev S128x1024 : Shape := ⟨2, ![128, 1024]⟩
abbrev S256x1024 : Shape := ⟨2, ![256, 1024]⟩
abbrev S128x128 : Shape := ⟨2, ![128, 128]⟩
abbrev S256x128 : Shape := ⟨2, ![256, 128]⟩
abbrev S128x64 : Shape := ⟨2, ![128, 64]⟩
abbrev S1024x64 : Shape := ⟨2, ![1024, 64]⟩
abbrev S256x64 : Shape := ⟨2, ![256, 64]⟩
abbrev S1x1 : Shape := ⟨2, ![1, 1]⟩
abbrev S1x128 : Shape := ⟨2, ![1, 128]⟩
abbrev S1024 : Shape := ⟨1, ![1024]⟩
abbrev S64x1024 : Shape := ⟨2, ![64, 1024]⟩
abbrev S64x128 : Shape := ⟨2, ![64, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 11
  | .vmem => 13
  | .smem => 0
  | _ => 0

abbrev bufTy : (tb : Table) → Fin (tcTables nBuf tb) → BufTy
  | .hbm, ⟨0, _⟩ => ⟨S2048x5376, .f32⟩
  | .hbm, ⟨1, _⟩ => ⟨S1x16, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S8x128x128, .f32⟩
  | .hbm, ⟨7, _⟩ => ⟨S8x128, .f32⟩
  | .hbm, ⟨8, _⟩ => ⟨S128x8, .f32⟩
  | .hbm, ⟨9, _⟩ => ⟨S2048x2048, .bf16⟩
  | .hbm, ⟨10, _⟩ => ⟨S2048x1024, .f32⟩
  | .local _ .vmem, ⟨0, _⟩ => ⟨S128x5376, .f32⟩
  | .local _ .vmem, ⟨1, _⟩ => ⟨S128x5376, .f32⟩
  | .local _ .vmem, ⟨2, _⟩ => ⟨S128x256, .f32⟩
  | .local _ .vmem, ⟨3, _⟩ => ⟨S128x256, .f32⟩
  | .local _ .vmem, ⟨4, _⟩ => ⟨S1x16, .f32⟩
  | .local _ .vmem, ⟨5, _⟩ => ⟨S1x1024, .f32⟩
  | .local _ .vmem, ⟨6, _⟩ => ⟨S1x1024, .f32⟩
  | .local _ .vmem, ⟨7, _⟩ => ⟨S8x128x128, .f32⟩
  | .local _ .vmem, ⟨8, _⟩ => ⟨S128x8, .f32⟩
  | .local _ .vmem, ⟨9, _⟩ => ⟨S128x2048, .bf16⟩
  | .local _ .vmem, ⟨10, _⟩ => ⟨S128x2048, .bf16⟩
  | .local _ .vmem, ⟨11, _⟩ => ⟨S128x1024, .f32⟩
  | .local _ .vmem, ⟨12, _⟩ => ⟨S128x1024, .f32⟩
  | _, _ => ⟨S2048x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x5376 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdReferenceIdeal.lean ====
abbrev S2048x5376 : Shape := ⟨2, ![2048, 5376]⟩
abbrev S1x16 : Shape := ⟨2, ![1, 16]⟩
abbrev S1x1024 : Shape := ⟨2, ![1, 1024]⟩
abbrev S1x8x128x128 : Shape := ⟨4, ![1, 8, 128, 128]⟩
abbrev S1x8x128 : Shape := ⟨3, ![1, 8, 128]⟩
abbrev S1x2048x5376 : Shape := ⟨3, ![1, 2048, 5376]⟩
abbrev S1x2048x1024 : Shape := ⟨3, ![1, 2048, 1024]⟩
abbrev S1x2048x128 : Shape := ⟨3, ![1, 2048, 128]⟩
abbrev S1x2048x16x64 : Shape := ⟨4, ![1, 2048, 16, 64]⟩
abbrev S1x2048x2x64 : Shape := ⟨4, ![1, 2048, 2, 64]⟩
abbrev S16 : Shape := ⟨1, ![16]⟩
abbrev S1x16x128x2x8x64 : Shape := ⟨6, ![1, 16, 128, 2, 8, 64]⟩
abbrev S1x16x128x2x64 : Shape := ⟨5, ![1, 16, 128, 2, 64]⟩
abbrev S_ : Shape := ⟨0, ![]⟩
abbrev S1x1x128x2x64 : Shape := ⟨5, ![1, 1, 128, 2, 64]⟩
abbrev S1x15x128x2x64 : Shape := ⟨5, ![1, 15, 128, 2, 64]⟩
abbrev S1x16x256x2x64 : Shape := ⟨5, ![1, 16, 256, 2, 64]⟩
abbrev S1x16x2x256x128x8 : Shape := ⟨6, ![1, 16, 2, 256, 128, 8]⟩
abbrev S1x16x2x8x128x256 : Shape := ⟨6, ![1, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S1x16x2x8x128x1 : Shape := ⟨6, ![1, 16, 2, 8, 128, 1]⟩
abbrev S1x16x2x8x128x257 : Shape := ⟨6, ![1, 16, 2, 8, 128, 257]⟩
abbrev S1x16x2x8x128 : Shape := ⟨5, ![1, 16, 2, 8, 128]⟩
abbrev S1x16x2x64x8x128 : Shape := ⟨6, ![1, 16, 2, 64, 8, 128]⟩
abbrev S1024 : Shape := ⟨1, ![1024]⟩
abbrev S8x128x128 : Shape := ⟨3, ![8, 128, 128]⟩
abbrev S8x128 : Shape := ⟨2, ![8, 128]⟩
abbrev S1x2048 : Shape := ⟨2, ![1, 2048]⟩
abbrev S1x2048x1 : Shape := ⟨3, ![1, 2048, 1]⟩
abbrev S1x1x1024 : Shape := ⟨3, ![1, 1, 1024]⟩
abbrev S1x16x128x8x128 : Shape := ⟨5, ![1, 16, 128, 8, 128]⟩
abbrev S128x128 : Shape := ⟨2, ![128, 128]⟩
abbrev S1x128x128 : Shape := ⟨3, ![1, 128, 128]⟩
abbrev S8x1x16x128x128 : Shape := ⟨5, ![8, 1, 16, 128, 128]⟩
abbrev S128x8 : Shape := ⟨2, ![128, 8]⟩
abbrev S1x1x128x8x1 : Shape := ⟨5, ![1, 1, 128, 8, 1]⟩
abbrev S1x2048x2048 : Shape := ⟨3, ![1, 2048, 2048]⟩
abbrev S2048x2048 : Shape := ⟨2, ![2048, 2048]⟩
abbrev S1x2048x1280 : Shape := ⟨3, ![1, 2048, 1280]⟩
abbrev S2048x1024 : Shape := ⟨2, ![2048, 1024]⟩

abbrev nBuf : Space → Nat
  | .hbm => 261
  | .vmem => 0
  | .smem => 0
  | _ => 0

abbrev hbmTy0_0 (i : Nat) : BufTy := match i % 128 with
  | 0 => ⟨S2048x5376, .f32⟩
  | 1 => ⟨S1x16, .f32⟩
  | 2 => ⟨S1x1024, .f32⟩
  | 3 => ⟨S1x1024, .f32⟩
  | 4 => ⟨S1x8x128x128, .f32⟩
  | 5 => ⟨S1x8x128, .f32⟩
  | 6 => ⟨S1x2048x5376, .f32⟩
  | 7 => ⟨S1x2048x1024, .f32⟩
  | 8 => ⟨S1x2048x128, .f32⟩
  | 9 => ⟨S1x2048x128, .f32⟩
  | 10 => ⟨S1x2048x1024, .f32⟩
  | 11 => ⟨S1x2048x1024, .f32⟩
  | 12 => ⟨S1x2048x1024, .f32⟩
  | 13 => ⟨S1x2048x1024, .f32⟩
  | 14 => ⟨S1x2048x16x64, .f32⟩
  | 15 => ⟨S1x2048x2x64, .f32⟩
  | 16 => ⟨S1x2048x2x64, .f32⟩
  | 17 => ⟨S16, .f32⟩
  | 18 => ⟨S1x16x128x2x8x64, .f32⟩
  | 19 => ⟨S1x16x128x2x64, .f32⟩
  | 20 => ⟨S1x16x128x2x64, .f32⟩
  | 21 => ⟨S_, .f32⟩
  | 22 => ⟨S1x1x128x2x64, .f32⟩
  | 23 => ⟨S1x15x128x2x64, .f32⟩
  | 24 => ⟨S1x16x128x2x64, .f32⟩
  | 25 => ⟨S1x16x256x2x64, .f32⟩
  | 26 => ⟨S1x15x128x2x64, .f32⟩
  | 27 => ⟨S1x16x128x2x64, .f32⟩
  | 28 => ⟨S1x16x256x2x64, .f32⟩
  | 29 => ⟨S1x16x2x256x128x8, .f32⟩
  | 30 => ⟨S1x16x2x8x128x256, .f32⟩
  | 31 => ⟨S_, .f32⟩
  | 32 => ⟨S1x16x2x8x128x256, .f32⟩
  | 33 => ⟨S1x16x2x8x128x256, .f32⟩
  | 34 => ⟨S128, .i32⟩
  | 35 => ⟨S128x1, .i32⟩
  | 36 => ⟨S_, .i32⟩
  | 37 => ⟨S128x1, .i32⟩
  | 38 => ⟨S128x1, .i32⟩
  | 39 => ⟨S256, .i32⟩
  | 40 => ⟨S1x256, .i32⟩
  | 41 => ⟨S128x256, .i32⟩
  | 42 => ⟨S128x256, .i32⟩
  | 43 => ⟨S128x256, .i32⟩
  | 44 => ⟨S_, .i32⟩
  | 45 => ⟨S128x256, .i32⟩
  | 46 => ⟨S128x256, .i1⟩
  | 47 => ⟨S_, .i32⟩
  | 48 => ⟨S128x256, .i32⟩
  | 49 => ⟨S128x256, .i1⟩
  | 50 => ⟨S128x256, .i1⟩
  | 51 => ⟨S16, .i32⟩
  | 52 => ⟨S_, .i32⟩
  | 53 => ⟨S16, .i32⟩
  | 54 => ⟨S16, .i1⟩
  | 55 => ⟨S16x1x1, .i1⟩
  | 56 => ⟨S_, .i32⟩
  | 57 => ⟨S1x256, .i32⟩
  | 58 => ⟨S1x256, .i1⟩
  | 59 => ⟨S1x1x256, .i1⟩
  | 60 => ⟨S16x1x256, .i1⟩
  | 61 => ⟨S16x1x256, .i1⟩
  | 62 => ⟨S16x1x256, .i1⟩
  | 63 => ⟨S1x128x256, .i1⟩
  | 64 => ⟨S16x128x256, .i1⟩
  | 65 => ⟨S16x128x256, .i1⟩
  | 66 => ⟨S16x128x256, .i1⟩
  | 67 => ⟨S1x16x1x1x128x256, .i1⟩
  | 68 => ⟨S_, .f32⟩
  | 69 => ⟨S_, .f32⟩
  | 70 => ⟨S1x16x2x8x128x256, .i1⟩
  | 71 => ⟨S1x16x2x8x128x256, .f32⟩
  | 72 => ⟨S1x16x2x8x128x256, .f32⟩
  | 73 => ⟨S2x8, .f32⟩
  | 74 => ⟨S1x1x2x8x1x1, .f32⟩
  | 75 => ⟨S1x16x2x8x128x1, .f32⟩
  | 76 => ⟨S1x16x2x8x128x257, .f32⟩
  | 77 => ⟨S_, .f32⟩
  | 78 => ⟨S1x16x2x8x128, .f32⟩
  | 79 => ⟨S_, .f32⟩
  | 80 => ⟨S1x16x2x8x128, .f32⟩
  | 81 => ⟨S1x16x2x8x128, .f32⟩
  | 82 => ⟨S1x16x2x8x128x1, .f32⟩
  | 83 => ⟨S1x16x2x8x128x257, .f32⟩
  | 84 => ⟨S1x16x2x8x128x257, .f32⟩
  | 85 => ⟨S1x16x2x8x128x257, .f32⟩
  | 86 => ⟨S_, .f32⟩
  | 87 => ⟨S1x16x2x8x128, .f32⟩
  | 88 => ⟨S1x16x2x8x128x1, .f32⟩
  | 89 => ⟨S1x16x2x8x128x257, .f32⟩
  | 90 => ⟨S1x16x2x8x128x257, .f32⟩
  | 91 => ⟨S1x16x2x8x128x256, .f32⟩
  | 92 => ⟨S1x16x2x64x8x128, .f32⟩
  | 93 => ⟨S1x16x128x2x8x64, .f32⟩
  | 94 => ⟨S1x2048x1024, .f32⟩
  | 95 => ⟨S1x2048x1024, .f32⟩
  | 96 => ⟨S1x2048x1024, .f32⟩
  | 97 => ⟨S_, .f32⟩
  | 98 => ⟨S1x2048x1024, .f32⟩
  | 99 => ⟨S1x2048x1024, .f32⟩
  | 100 => ⟨S_, .f32⟩
  | 101 => ⟨S1x2048x1024, .f32⟩
  | 102 => ⟨S1x2048x1024, .f32⟩
  | 103 => ⟨S1x2048x1024, .f32⟩
  | 104 => ⟨S1x2048x1024, .f32⟩
  | 105 => ⟨S1024, .f32⟩
  | 106 => ⟨S1024, .f32⟩
  | 107 => ⟨S8x128x128, .f32⟩
  | 108 => ⟨S8x128, .f32⟩
  | 109 => ⟨S_, .f32⟩
  | 110 => ⟨S1x2048, .f32⟩
  | 111 => ⟨S1x2048x1, .f32⟩
  | 112 => ⟨S_, .f32⟩
  | 113 => ⟨S1x2048x1, .f32⟩
  | 114 => ⟨S1x2048x1, .f32⟩
  | 115 => ⟨S1x2048x1024, .f32⟩
  | 116 => ⟨S1x2048x1024, .f32⟩
  | 117 => ⟨S1x2048x1024, .f32⟩
  | 118 => ⟨S_, .f32⟩
  | 119 => ⟨S1x2048, .f32⟩
  | 120 => ⟨S1x2048x1, .f32⟩
  | 121 => ⟨S_, .f32⟩
  | 122 => ⟨S1x2048x1, .f32⟩
  | 123 => ⟨S1x2048x1, .f32⟩
  | 124 => ⟨S1x2048x1024, .f32⟩
  | 125 => ⟨S1x2048x1024, .f32⟩
  | 126 => ⟨S_, .f32⟩
  | 127 => ⟨S1x2048x1, .f32⟩
  | _ => ⟨S2048x5376, .f32⟩

abbrev hbmTy0_1 (i : Nat) : BufTy := match i % 128 with
  | 0 => ⟨S1x2048x1, .f32⟩
  | 1 => ⟨S1x2048x1, .f32⟩
  | 2 => ⟨S1x2048x1024, .f32⟩
  | 3 => ⟨S1x2048x1024, .f32⟩
  | 4 => ⟨S1x1x1024, .f32⟩
  | 5 => ⟨S1x2048x1024, .f32⟩
  | 6 => ⟨S1x2048x1024, .f32⟩
  | 7 => ⟨S1x1x1024, .f32⟩
  | 8 => ⟨S1x2048x1024, .f32⟩
  | 9 => ⟨S1x2048x1024, .f32⟩
  | 10 => ⟨S1x16x128x8x128, .f32⟩
  | 11 => ⟨S_, .f32⟩
  | 12 => ⟨S128x128, .f32⟩
  | 13 => ⟨S128x128, .i32⟩
  | 14 => ⟨S_, .i32⟩
  | 15 => ⟨S128x128, .i32⟩
  | 16 => ⟨S128x128, .i32⟩
  | 17 => ⟨S128x128, .i32⟩
  | 18 => ⟨S128x128, .i1⟩
  | 19 => ⟨S_, .f32⟩
  | 20 => ⟨S128x128, .f32⟩
  | 21 => ⟨S128x128, .f32⟩
  | 22 => ⟨S1x128x128, .f32⟩
  | 23 => ⟨S8x128x128, .f32⟩
  | 24 => ⟨S8x128x128, .f32⟩
  | 25 => ⟨S8x1x16x128x128, .f32⟩
  | 26 => ⟨S1x16x128x8x128, .f32⟩
  | 27 => ⟨S128x8, .f32⟩
  | 28 => ⟨S1x1x128x8x1, .f32⟩
  | 29 => ⟨S1x16x128x8x128, .f32⟩
  | 30 => ⟨S1x16x128x8x128, .f32⟩
  | 31 => ⟨S1x2048x1024, .f32⟩
  | 32 => ⟨S1x2048x1024, .f32⟩
  | 33 => ⟨S1x2048x1024, .f32⟩
  | 34 => ⟨S1x2048x1024, .f32⟩
  | 35 => ⟨S_, .f32⟩
  | 36 => ⟨S1x2048x1024, .f32⟩
  | 37 => ⟨S1x2048x1024, .f32⟩
  | 38 => ⟨S_, .f32⟩
  | 39 => ⟨S1x2048x1024, .f32⟩
  | 40 => ⟨S1x2048x1024, .f32⟩
  | 41 => ⟨S1x2048x1024, .f32⟩
  | 42 => ⟨S1x2048x1024, .f32⟩
  | 43 => ⟨S1x2048x2048, .f32⟩
  | 44 => ⟨S2048x2048, .f32⟩
  | 45 => ⟨S2048x2048, .bf16⟩
  | 46 => ⟨S1x2048x5376, .f32⟩
  | 47 => ⟨S1x2048x1280, .f32⟩
  | 48 => ⟨S1x2048x1024, .f32⟩
  | 49 => ⟨S1x2048x128, .f32⟩
  | 50 => ⟨S1x2048x128, .f32⟩
  | 51 => ⟨S1x2048x16x64, .f32⟩
  | 52 => ⟨S1x2048x2x64, .f32⟩
  | 53 => ⟨S1x2048x2x64, .f32⟩
  | 54 => ⟨S16, .f32⟩
  | 55 => ⟨S1x16x128x2x8x64, .f32⟩
  | 56 => ⟨S1x16x128x2x64, .f32⟩
  | 57 => ⟨S1x16x128x2x64, .f32⟩
  | 58 => ⟨S_, .f32⟩
  | 59 => ⟨S1x1x128x2x64, .f32⟩
  | 60 => ⟨S1x15x128x2x64, .f32⟩
  | 61 => ⟨S1x16x128x2x64, .f32⟩
  | 62 => ⟨S1x16x256x2x64, .f32⟩
  | 63 => ⟨S1x15x128x2x64, .f32⟩
  | 64 => ⟨S1x16x128x2x64, .f32⟩
  | 65 => ⟨S1x16x256x2x64, .f32⟩
  | 66 => ⟨S1x16x2x256x128x8, .f32⟩
  | 67 => ⟨S1x16x2x8x128x256, .f32⟩
  | 68 => ⟨S_, .f32⟩
  | 69 => ⟨S1x16x2x8x128x256, .f32⟩
  | 70 => ⟨S1x16x2x8x128x256, .f32⟩
  | 71 => ⟨S128, .i32⟩
  | 72 => ⟨S128x1, .i32⟩
  | 73 => ⟨S_, .i32⟩
  | 74 => ⟨S128x1, .i32⟩
  | 75 => ⟨S128x1, .i32⟩
  | 76 => ⟨S256, .i32⟩
  | 77 => ⟨S1x256, .i32⟩
  | 78 => ⟨S128x256, .i32⟩
  | 79 => ⟨S128x256, .i32⟩
  | 80 => ⟨S128x256, .i32⟩
  | 81 => ⟨S_, .i32⟩
  | 82 => ⟨S128x256, .i32⟩
  | 83 => ⟨S128x256, .i1⟩
  | 84 => ⟨S_, .i32⟩
  | 85 => ⟨S128x256, .i32⟩
  | 86 => ⟨S128x256, .i1⟩
  | 87 => ⟨S128x256, .i1⟩
  | 88 => ⟨S16, .i32⟩
  | 89 => ⟨S_, .i32⟩
  | 90 => ⟨S16, .i32⟩
  | 91 => ⟨S16, .i1⟩
  | 92 => ⟨S16x1x1, .i1⟩
  | 93 => ⟨S_, .i32⟩
  | 94 => ⟨S1x256, .i32⟩
  | 95 => ⟨S1x256, .i1⟩
  | 96 => ⟨S1x1x256, .i1⟩
  | 97 => ⟨S16x1x256, .i1⟩
  | 98 => ⟨S16x1x256, .i1⟩
  | 99 => ⟨S16x1x256, .i1⟩
  | 100 => ⟨S1x128x256, .i1⟩
  | 101 => ⟨S16x128x256, .i1⟩
  | 102 => ⟨S16x128x256, .i1⟩
  | 103 => ⟨S16x128x256, .i1⟩
  | 104 => ⟨S1x16x1x1x128x256, .i1⟩
  | 105 => ⟨S_, .f32⟩
  | 106 => ⟨S_, .f32⟩
  | 107 => ⟨S1x16x2x8x128x256, .i1⟩
  | 108 => ⟨S1x16x2x8x128x256, .f32⟩
  | 109 => ⟨S1x16x2x8x128x256, .f32⟩
  | 110 => ⟨S2x8, .f32⟩
  | 111 => ⟨S1x1x2x8x1x1, .f32⟩
  | 112 => ⟨S1x16x2x8x128x1, .f32⟩
  | 113 => ⟨S1x16x2x8x128x257, .f32⟩
  | 114 => ⟨S_, .f32⟩
  | 115 => ⟨S1x16x2x8x128, .f32⟩
  | 116 => ⟨S_, .f32⟩
  | 117 => ⟨S1x16x2x8x128, .f32⟩
  | 118 => ⟨S1x16x2x8x128, .f32⟩
  | 119 => ⟨S1x16x2x8x128x1, .f32⟩
  | 120 => ⟨S1x16x2x8x128x257, .f32⟩
  | 121 => ⟨S1x16x2x8x128x257, .f32⟩
  | 122 => ⟨S1x16x2x8x128x257, .f32⟩
  | 123 => ⟨S_, .f32⟩
  | 124 => ⟨S1x16x2x8x128, .f32⟩
  | 125 => ⟨S1x16x2x8x128x1, .f32⟩
  | 126 => ⟨S1x16x2x8x128x257, .f32⟩
  | 127 => ⟨S1x16x2x8x128x257, .f32⟩
  | _ => ⟨S2048x5376, .f32⟩

abbrev hbmTy0_2 (i : Nat) : BufTy := match i % 128 with
  | 0 => ⟨S1x16x2x8x128x256, .f32⟩
  | 1 => ⟨S1x16x2x64x8x128, .f32⟩
  | 2 => ⟨S1x16x128x2x8x64, .f32⟩
  | 3 => ⟨S1x2048x1024, .f32⟩
  | 4 => ⟨S2048x1024, .f32⟩
  | _ => ⟨S2048x5376, .f32⟩

abbrev hbmTy (i : Nat) : BufTy := match i / 128 with
  | 0 => hbmTy0_0 i
  | 1 => hbmTy0_1 i
  | 2 => hbmTy0_2 i
  | _ => ⟨S2048x5376, .f32⟩

abbrev bufTy : (tb : Table) → Fin (tcTables nBuf tb) → BufTy
  | .hbm, ⟨i, _⟩ => hbmTy i
  | _, _ => ⟨S2048x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_c_1 : Ref sig .tc := ⟨.hbm, 44, rfl⟩
abbrev main_v35 : Ref sig .tc := ⟨.hbm, 45, rfl⟩
abbrev main_v36 : Ref sig .tc := ⟨.hbm, 46, rfl⟩
abbrev main_c_2 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_4 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_5 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_6 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_8 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_9 : Ref sig .tc := ⟨.hbm, 109, rfl⟩
abbrev main_v81 : Ref sig .tc := ⟨.hbm, 110, rfl⟩
abbrev main_v82 : Ref sig .tc := ⟨.hbm, 111, rfl⟩
abbrev main_cst_10 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_11 : Ref sig .tc := ⟨.hbm, 118, rfl⟩
abbrev main_v88 : Ref sig .tc := ⟨.hbm, 119, rfl⟩
abbrev main_v89 : Ref sig .tc := ⟨.hbm, 120, rfl⟩
abbrev main_cst_12 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_13 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_14 : Ref sig .tc := ⟨.hbm, 139, rfl⟩
abbrev main_v106 : Ref sig .tc := ⟨.hbm, 140, rfl⟩
abbrev main_call2_v0 : Ref sig .tc := ⟨.hbm, 141, rfl⟩
abbrev main_call2_c : Ref sig .tc := ⟨.hbm, 142, rfl⟩
abbrev main_call2_v1 : Ref sig .tc := ⟨.hbm, 143, rfl⟩
abbrev main_call2_v2 : Ref sig .tc := ⟨.hbm, 144, rfl⟩
abbrev main_call2_v3 : Ref sig .tc := ⟨.hbm, 145, rfl⟩
abbrev main_call2_v4 : Ref sig .tc := ⟨.hbm, 146, rfl⟩
abbrev main_call2_cst : Ref sig .tc := ⟨.hbm, 147, rfl⟩
abbrev main_call2_v5 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_call3_v0 : Ref sig .tc := ⟨.hbm, 161, rfl⟩
abbrev main_call3_v1 : Ref sig .tc := ⟨.hbm, 162, rfl⟩
abbrev main_call3_cst : Ref sig .tc := ⟨.hbm, 163, rfl⟩
abbrev main_call3_v2 : Ref sig .tc := ⟨.hbm, 164, rfl⟩
abbrev main_call3_v3 : Ref sig .tc := ⟨.hbm, 165, rfl⟩
abbrev main_call3_cst_0 : Ref sig .tc := ⟨.hbm, 166, rfl⟩
abbrev main_call3_v4 : Ref sig .tc := ⟨.hbm, 167, rfl⟩
abbrev main_call3_v5 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_cst_15 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_16 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_c_17 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_c_18 : Ref sig .tc := ⟨.hbm, 209, rfl⟩
abbrev main_v156 : Ref sig .tc := ⟨.hbm, 210, rfl⟩
abbrev main_v157 : Ref sig .tc := ⟨.hbm, 211, rfl⟩
abbrev main_c_19 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_c_20 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_c_21 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_cst_22 : Ref sig .tc := ⟨.hbm, 233, rfl⟩
abbrev main_call4_v0 : Ref sig .tc := ⟨.hbm, 234, rfl⟩
abbrev main_call4_v1 : Ref sig .tc := ⟨.hbm, 235, rfl⟩
abbrev main_call4_v2 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_cst_23 : Ref sig .tc := ⟨.hbm, 242, rfl⟩
abbrev main_v181 : Ref sig .tc := ⟨.hbm, 243, rfl⟩
abbrev main_cst_24 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_cst_25 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩

abbrev nD : Nat := 1
abbrev τ : Topo := Topo.v7x

variable {F : FTy → Type} [FloatOps F]
-- ==== CotKernel.lean ====
abbrev S2048x2048 : Shape := ⟨2, ![2048, 2048]⟩
abbrev S1x2048x2048 : Shape := ⟨3, ![1, 2048, 2048]⟩
abbrev S_ : Shape := ⟨0, ![]⟩
abbrev S8x128 : Shape := ⟨2, ![8, 128]⟩
abbrev S256x2048 : Shape := ⟨2, ![256, 2048]⟩

abbrev nBuf : Space → Nat
  | .hbm => 7
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .f32⟩
  | .hbm, ⟨2, _⟩ => ⟨S2048x2048, .f32⟩
  | .hbm, ⟨3, _⟩ => ⟨S2048x2048, .bf16⟩
  | .hbm, ⟨4, _⟩ => ⟨S_, .f32⟩
  | .hbm, ⟨5, _⟩ => ⟨S8x128, .f32⟩
  | .hbm, ⟨6, _⟩ => ⟨S2048x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CotReferenceIdeal.lean ====
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WgtKernel.lean ====
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== WgtReferenceIdeal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== OddKernel.lean ====
abbrev S2048x2048 : Shape := ⟨2, ![2048, 2048]⟩
abbrev S1x2048x5376 : Shape := ⟨3, ![1, 2048, 5376]⟩
abbrev S2048x5376 : Shape := ⟨2, ![2048, 5376]⟩
abbrev S5376x2048 : Shape := ⟨2, ![5376, 2048]⟩
abbrev S_ : Shape := ⟨0, ![]⟩
abbrev S8x128 : Shape := ⟨2, ![8, 128]⟩
abbrev S1024x2048 : Shape := ⟨2, ![1024, 2048]⟩
abbrev S768x2048 : Shape := ⟨2, ![768, 2048]⟩
abbrev S1024x768 : Shape := ⟨2, ![1024, 768]⟩

abbrev nBuf : Space → Nat
  | .hbm => 9
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x5376, .f32⟩
  | .hbm, ⟨2, _⟩ => ⟨S2048x5376, .f32⟩
  | .hbm, ⟨3, _⟩ => ⟨S2048x5376, .f32⟩
  | .hbm, ⟨4, _⟩ => ⟨S5376x2048, .f32⟩
  | .hbm, ⟨5, _⟩ => ⟨S5376x2048, .bf16⟩
  | .hbm, ⟨6, _⟩ => ⟨S_, .f32⟩
  | .hbm, ⟨7, _⟩ => ⟨S8x128, .f32⟩
  | .hbm, ⟨8, _⟩ => ⟨S2048x5376, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddReferenceIdeal.lean ====
abbrev S2048x2048 : Shape := ⟨2, ![2048, 2048]⟩
abbrev S1x2048x5376 : Shape := ⟨3, ![1, 2048, 5376]⟩
abbrev S2048x5376 : Shape := ⟨2, ![2048, 5376]⟩
abbrev S7 : Shape := ⟨1, ![7]⟩
abbrev S_ : Shape := ⟨0, ![]⟩
abbrev S1x7x1 : Shape := ⟨3, ![1, 7, 1]⟩
abbrev S2048x7x768 : Shape := ⟨3, ![2048, 7, 768]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x5376, .f32⟩
  | .hbm, ⟨2, _⟩ => ⟨S2048x5376, .f32⟩
  | .hbm, ⟨3, _⟩ => ⟨S7, .i32⟩
  | .hbm, ⟨4, _⟩ => ⟨S_, .i32⟩
  | .hbm, ⟨5, _⟩ => ⟨S7, .i32⟩
  | .hbm, ⟨6, _⟩ => ⟨S7, .i32⟩
  | .hbm, ⟨7, _⟩ => ⟨S_, .i32⟩
  | .hbm, ⟨8, _⟩ => ⟨S7, .i32⟩
  | .hbm, ⟨9, _⟩ => ⟨S7, .i1⟩
  | .hbm, ⟨10, _⟩ => ⟨S1x7x1, .i1⟩
  | .hbm, ⟨11, _⟩ => ⟨S2048x2048, .f32⟩
  | .hbm, ⟨12, _⟩ => ⟨S2048x5376, .f32⟩
  | .hbm, ⟨13, _⟩ => ⟨S2048x5376, .f32⟩
  | .hbm, ⟨14, _⟩ => ⟨S2048x7x768, .f32⟩
  | .hbm, ⟨15, _⟩ => ⟨S2048x7x768, .f32⟩
  | .hbm, ⟨16, _⟩ => ⟨S2048x7x768, .i1⟩
  | .hbm, ⟨17, _⟩ => ⟨S2048x7x768, .f32⟩
  | .hbm, ⟨18, _⟩ => ⟨S2048x5376, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== RowsKernel.lean ====
abbrev S1x512x2048 : Shape := ⟨3, ![1, 512, 2048]⟩
abbrev S512x2048 : Shape := ⟨2, ![512, 2048]⟩
abbrev S_ : Shape := ⟨0, ![]⟩
abbrev S8x128 : Shape := ⟨2, ![8, 128]⟩
abbrev S256x2048 : Shape := ⟨2, ![256, 2048]⟩

abbrev nBuf : Space → Nat
  | .hbm => 13
  | .vmem => 16
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S8x128, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RowsReferenceIdeal.lean ====
abbrev S1x512x2048 : Shape := ⟨3, ![1, 512, 2048]⟩
abbrev S512x2048 : Shape := ⟨2, ![512, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S512x2048, .f32⟩
  | .hbm, ⟨2, _⟩ => ⟨S1x512x2048, .f32⟩
  | .hbm, ⟨3, _⟩ => ⟨S1x512x2048, .f32⟩
  | .hbm, ⟨4, _⟩ => ⟨S1x512x2048, .f32⟩
  | .hbm, ⟨5, _⟩ => ⟨S_, .f32⟩
  | .hbm, ⟨6, _⟩ => ⟨S1x512x2048, .f32⟩
  | .hbm, ⟨7, _⟩ => ⟨S1x512x2048, .f32⟩
  | .hbm, ⟨8, _⟩ => ⟨S_, .f32⟩
  | .hbm, ⟨9, _⟩ => ⟨S1x512x2048, .f32⟩
  | .hbm, ⟨10, _⟩ => ⟨S1x512x2048, .f32⟩
  | .hbm, ⟨11, _⟩ => ⟨S1x512x2048, .f32⟩
  | .hbm, ⟨12, _⟩ => ⟨S_, .f32⟩
  | .hbm, ⟨13, _⟩ => ⟨S1x512x2048, .f32⟩
  | .hbm, ⟨14, _⟩ => ⟨S1x512x2048, .f32⟩
  | .hbm, ⟨15, _⟩ => ⟨S1x512x2048, .f32⟩
  | .hbm, ⟨16, _⟩ => ⟨S_, .f32⟩
  | .hbm, ⟨17, _⟩ => ⟨S1x512x2048, .f32⟩
  | .hbm, ⟨18, _⟩ => ⟨S1x512x2048, .f32⟩
  | .hbm, ⟨19, _⟩ => ⟨S1x512x2048, .f32⟩
  | .hbm, ⟨20, _⟩ => ⟨S_, .f32⟩
  | .hbm, ⟨21, _⟩ => ⟨S1x512x2048, .f32⟩
  | .hbm, ⟨22, _⟩ => ⟨S1x512x2048, .f32⟩
  | .hbm, ⟨23, _⟩ => ⟨S_, .f32⟩
  | .hbm, ⟨24, _⟩ => ⟨S1x512x2048, .f32⟩
  | .hbm, ⟨25, _⟩ => ⟨S1x512x2048, .f32⟩
  | .hbm, ⟨26, _⟩ => ⟨S1x512x2048, .f32⟩
  | .hbm, ⟨27, _⟩ => ⟨S_, .f32⟩
  | .hbm, ⟨28, _⟩ => ⟨S1x512x2048, .f32⟩
  | .hbm, ⟨29, _⟩ => ⟨S1x512x2048, .f32⟩
  | .hbm, ⟨30, _⟩ => ⟨S1x512x2048, .f32⟩
  | .hbm, ⟨31, _⟩ => ⟨S_, .f32⟩
  | .hbm, ⟨32, _⟩ => ⟨S1x512x2048, .f32⟩
  | .hbm, ⟨33, _⟩ => ⟨S1x512x2048, .f32⟩
  | .hbm, ⟨34, _⟩ => ⟨S1x512x2048, .f32⟩
  | .hbm, ⟨35, _⟩ => ⟨S_, .f32⟩
  | .hbm, ⟨36, _⟩ => ⟨S1x512x2048, .f32⟩
  | .hbm, ⟨37, _⟩ => ⟨S1x512x2048, .f32⟩
  | .hbm, ⟨38, _⟩ => ⟨S512x2048, .f32⟩
  | .hbm, ⟨39, _⟩ => ⟨S512x2048, .f32⟩
  | .hbm, ⟨40, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== AdaKernel.lean ====
abbrev S8x2048 : Shape := ⟨2, ![8, 2048]⟩
abbrev S8x1536 : Shape := ⟨2, ![8, 1536]⟩
abbrev S1x2048x1536 : Shape := ⟨3, ![1, 2048, 1536]⟩
abbrev S_ : Shape := ⟨0, ![]⟩
abbrev S2048x1536 : Shape := ⟨2, ![2048, 1536]⟩
abbrev S8x256 : Shape := ⟨2, ![8, 256]⟩
abbrev S256x1536 : Shape := ⟨2, ![256, 1536]⟩

abbrev nBuf : Space → Nat
  | .hbm => 21
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S2048x1536, .f32⟩
  | .hbm, ⟨15, _⟩ => ⟨S2048x1536, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S2048x1536, .f32⟩
  | .hbm, ⟨20, _⟩ => ⟨S2048x1536, .f32⟩
  | .local _ .vmem, ⟨0, _⟩ => ⟨S8x256, .f32⟩
  | .local _ .vmem, ⟨1, _⟩ => ⟨S8x256, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdaReferenceIdeal.lean ====
abbrev S8x2048 : Shape := ⟨2, ![8, 2048]⟩
abbrev S8x1536 : Shape := ⟨2, ![8, 1536]⟩
abbrev S1x2048x1536 : Shape := ⟨3, ![1, 2048, 1536]⟩
abbrev S_ : Shape := ⟨0, ![]⟩
abbrev S2048x1536 : Shape := ⟨2, ![2048, 1536]⟩
abbrev S1536x2048 : Shape := ⟨2, ![1536, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x1536, .f32⟩
  | .hbm, ⟨2, _⟩ => ⟨S1x2048x1536, .f32⟩
  | .hbm, ⟨3, _⟩ => ⟨S1x2048x1536, .f32⟩
  | .hbm, ⟨4, _⟩ => ⟨S1x2048x1536, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S2048x1536, .f32⟩
  | .hbm, ⟨15, _⟩ => ⟨S8x1536, .f32⟩
  | .hbm, ⟨16, _⟩ => ⟨S1536x2048, .f32⟩
  | .hbm, ⟨17, _⟩ => ⟨S2048x1536, .f32⟩
  | .hbm, ⟨18, _⟩ => ⟨S1x2048x1536, .f32⟩
  | .hbm, ⟨19, _⟩ => ⟨S_, .f32⟩
  | .hbm, ⟨20, _⟩ => ⟨S1x2048x1536, .f32⟩
  | .hbm, ⟨21, _⟩ => ⟨S1x2048x1536, .f32⟩
  | .hbm, ⟨22, _⟩ => ⟨S_, .f32⟩
  | .hbm, ⟨23, _⟩ => ⟨S1x2048x1536, .f32⟩
  | .hbm, ⟨24, _⟩ => ⟨S1x2048x1536, .f32⟩
  | .hbm, ⟨25, _⟩ => ⟨S1x2048x1536, .f32⟩
  | .hbm, ⟨26, _⟩ => ⟨S_, .f32⟩
  | .hbm, ⟨27, _⟩ => ⟨S1x2048x1536, .f32⟩
  | .hbm, ⟨28, _⟩ => ⟨S1x2048x1536, .f32⟩
  | .hbm, ⟨29, _⟩ => ⟨S1x2048x1536, .f32⟩
  | .hbm, ⟨30, _⟩ => ⟨S_, .f32⟩
  | .hbm, ⟨31, _⟩ => ⟨S1x2048x1536, .f32⟩
  | .hbm, ⟨32, _⟩ => ⟨S1x2048x1536, .f32⟩
  | .hbm, ⟨33, _⟩ => ⟨S1x2048x1536, .f32⟩
  | .hbm, ⟨34, _⟩ => ⟨S_, .f32⟩
  | .hbm, ⟨35, _⟩ => ⟨S1x2048x1536, .f32⟩
  | .hbm, ⟨36, _⟩ => ⟨S1x2048x1536, .f32⟩
  | .hbm, ⟨37, _⟩ => ⟨S_, .f32⟩
  | .hbm, ⟨38, _⟩ => ⟨S1x2048x1536, .f32⟩
  | .hbm, ⟨39, _⟩ => ⟨S1x2048x1536, .f32⟩
  | .hbm, ⟨40, _⟩ => ⟨S1x2048x1536, .f32⟩
  | .hbm, ⟨41, _⟩ => ⟨S_, .f32⟩
  | .hbm, ⟨42, _⟩ => ⟨S1x2048x1536, .f32⟩
  | .hbm, ⟨43, _⟩ => ⟨S1x2048x1536, .f32⟩
  | .hbm, ⟨44, _⟩ => ⟨S1x2048x1536, .f32⟩
  | .hbm, ⟨45, _⟩ => ⟨S_, .f32⟩
  | .hbm, ⟨46, _⟩ => ⟨S1x2048x1536, .f32⟩
  | .hbm, ⟨47, _⟩ => ⟨S1x2048x1536, .f32⟩
  | .hbm, ⟨48, _⟩ => ⟨S1x2048x1536, .f32⟩
  | .hbm, ⟨49, _⟩ => ⟨S_, .f32⟩
  | .hbm, ⟨50, _⟩ => ⟨S1x2048x1536, .f32⟩
  | .hbm, ⟨51, _⟩ => ⟨S1x2048x1536, .f32⟩
  | .hbm, ⟨52, _⟩ => ⟨S2048x1536, .f32⟩
  | .hbm, ⟨53, _⟩ => ⟨S2048x1536, .f32⟩
  | .hbm, ⟨54, _⟩ => ⟨S2048x1536, .f32⟩
  | .hbm, ⟨55, _⟩ => ⟨S2048x1536, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== ModKernel.lean ====
abbrev S2048x2048 : Shape := ⟨2, ![2048, 2048]⟩
abbrev S8x2048 : Shape := ⟨2, ![8, 2048]⟩
abbrev S1x2048 : Shape := ⟨2, ![1, 2048]⟩
abbrev S1x2048x6144 : Shape := ⟨3, ![1, 2048, 6144]⟩
abbrev S1x6144 : Shape := ⟨2, ![1, 6144]⟩
abbrev S1x2048x5376 : Shape := ⟨3, ![1, 2048, 5376]⟩
abbrev S_ : Shape := ⟨0, ![]⟩
abbrev S2048x6144 : Shape := ⟨2, ![2048, 6144]⟩
abbrev S4x1x1536 : Shape := ⟨3, ![4, 1, 1536]⟩
abbrev S2048x5376 : Shape := ⟨2, ![2048, 5376]⟩
abbrev S5376x2048 : Shape := ⟨2, ![5376, 2048]⟩
abbrev S8x1x2048 : Shape := ⟨3, ![8, 1, 2048]⟩
abbrev S1x2048x1536 : Shape := ⟨3, ![1, 2048, 1536]⟩
abbrev S2048x1536 : Shape := ⟨2, ![2048, 1536]⟩
abbrev S8x1x1536 : Shape := ⟨3, ![8, 1, 1536]⟩
abbrev S2x256x2048 : Shape := ⟨3, ![2, 256, 2048]⟩
abbrev S768x2048 : Shape := ⟨2, ![768, 2048]⟩
abbrev S2x512x768 : Shape := ⟨3, ![2, 512, 768]⟩
abbrev S2 : Shape := ⟨1, ![2]⟩
abbrev S1 : Shape := ⟨1, ![1]⟩
abbrev S1x256x2048 : Shape := ⟨3, ![1, 256, 2048]⟩
abbrev S256x2048 : Shape := ⟨2, ![256, 2048]⟩
abbrev S1x1x2048 : Shape := ⟨3, ![1, 1, 2048]⟩
abbrev S8x1536 : Shape := ⟨2, ![8, 1536]⟩
abbrev S8x256 : Shape := ⟨2, ![8, 256]⟩
abbrev S256x1536 : Shape := ⟨2, ![256, 1536]⟩
abbrev S1x1536 : Shape := ⟨2, ![1, 1536]⟩
abbrev S1x1x1536 : Shape := ⟨3, ![1, 1, 1536]⟩
abbrev S256 : Shape := ⟨1, ![256]⟩
abbrev S256x1 : Shape := ⟨2, ![256, 1]⟩
abbrev S512x2048 : Shape := ⟨2, ![512, 2048]⟩
abbrev S512x768 : Shape := ⟨2, ![512, 768]⟩
abbrev S1x512x768 : Shape := ⟨3, ![1, 512, 768]⟩
abbrev S2048x7x768 : Shape := ⟨3, ![2048, 7, 768]⟩
abbrev S2048x4x768 : Shape := ⟨3, ![2048, 4, 768]⟩

abbrev nBuf : Space → Nat
  | .hbm => 32
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S8x2048, .f32⟩
  | .hbm, ⟨2, _⟩ => ⟨S1x2048, .f32⟩
  | .hbm, ⟨3, _⟩ => ⟨S1x2048x6144, .f32⟩
  | .hbm, ⟨4, _⟩ => ⟨S1x6144, .f32⟩
  | .hbm, ⟨5, _⟩ => ⟨S1x2048x5376, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S_, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S2048x6144, .f32⟩
  | .hbm, ⟨17, _⟩ => ⟨S1x6144, .f32⟩
  | .hbm, ⟨18, _⟩ => ⟨S4x1x1536, .f32⟩
  | .hbm, ⟨19, _⟩ => ⟨S2048x5376, .f32⟩
  | .hbm, ⟨20, _⟩ => ⟨S5376x2048, .f32⟩
  | .hbm, ⟨21, _⟩ => ⟨S5376x2048, .bf16⟩
  | .hbm, ⟨22, _⟩ => ⟨S8x1x2048, .f32⟩
  | .hbm, ⟨23, _⟩ => ⟨S1x2048x1536, .f32⟩
  | .hbm, ⟨24, _⟩ => ⟨S2048x1536, .f32⟩
  | .hbm, ⟨25, _⟩ => ⟨S5376x2048, .bf16⟩
  | .hbm, ⟨26, _⟩ => ⟨S1x6144, .f32⟩
  | .hbm, ⟨27, _⟩ => ⟨S8x2048, .f32⟩
  | .hbm, ⟨28, _⟩ => ⟨S2048x2048, .bf16⟩
  | .hbm, ⟨29, _⟩ => ⟨S2048x5376, .f32⟩
  | .hbm, ⟨30, _⟩ => ⟨S2048x7x768, .f32⟩
  | .hbm, ⟨31, _⟩ => ⟨S2048x4x768, .f32⟩
  | .local _ .vmem, ⟨0, _⟩ => ⟨S8x1x2048, .f32⟩
  | .local _ .vmem, ⟨1, _⟩ => ⟨S4x1x1536, .f32⟩
  | .local _ .vmem, ⟨2, _⟩ => ⟨S1x6144, .f32⟩
  | .local _ .vmem, ⟨3, _⟩ => ⟨S1x2048, .f32⟩
  | .local _ .vmem, ⟨4, _⟩ => ⟨S1x6144, .f32⟩
  | .local _ .vmem, ⟨5, _⟩ => ⟨S8x2048, .f32⟩
  | .local _ .vmem, ⟨6, _⟩ => ⟨S2048x1536, .f32⟩
  | .local _ .vmem, ⟨7, _⟩ => ⟨S8x1x2048, .f32⟩
  | .local _ .vmem, ⟨8, _⟩ => ⟨S8x1x1536, .f32⟩
  | .local _ .vmem, ⟨9, _⟩ => ⟨S4x1x1536, .f32⟩
  | .local _ .vmem, ⟨10, _⟩ => ⟨S2048x2048, .bf16⟩
  | .local _ .vmem, ⟨11, _⟩ => ⟨S2x256x2048, .f32⟩
  | .local _ .vmem, ⟨12, _⟩ => ⟨S768x2048, .bf16⟩
  | .local _ .vmem, ⟨13, _⟩ => ⟨S2x512x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v12 : Ref sig .tc := ⟨.hbm, 30, rfl⟩
abbrev main_v13 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_mult1 : BitVec 32 :=
  let c0_i32_339 : BitVec 32 := 0#32
  c0_i32_339
def k0_mult2 : BitVec 32 :=
  let c3072_i32 : BitVec 32 := 3072#32
  c3072_i32
def k0_mult3 : BitVec 32 :=
  let c1536_i32_488 : BitVec 32 := 1536#32
  c1536_i32_488
def k0_mult4 : BitVec 32 :=
  let c4608_i32 : BitVec 32 := 4608#32
  c4608_i32
abbrev stage0_0 : Fin 1 → Memref sig .tc .vmem S8x1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ModReferenceIdeal.lean ====
abbrev S2048x2048 : Shape := ⟨2, ![2048, 2048]⟩
abbrev S8x2048 : Shape := ⟨2, ![8, 2048]⟩
abbrev S1x2048 : Shape := ⟨2, ![1, 2048]⟩
abbrev S1x2048x6144 : Shape := ⟨3, ![1, 2048, 6144]⟩
abbrev S1x6144 : Shape := ⟨2, ![1, 6144]⟩
abbrev S1x2048x5376 : Shape := ⟨3, ![1, 2048, 5376]⟩
abbrev S_ : Shape := ⟨0, ![]⟩
abbrev S2048x6144 : Shape := ⟨2, ![2048, 6144]⟩
abbrev S8x6144 : Shape := ⟨2, ![8, 6144]⟩
abbrev S6144 : Shape := ⟨1, ![6144]⟩
abbrev S2048 : Shape := ⟨1, ![2048]⟩
abbrev S2048x1 : Shape := ⟨2, ![2048, 1]⟩
abbrev S2048x5376 : Shape := ⟨2, ![2048, 5376]⟩
abbrev S2048x7x768 : Shape := ⟨3, ![2048, 7, 768]⟩
abbrev S2048x4x768 : Shape := ⟨3, ![2048, 4, 768]⟩

abbrev nBuf : Space → Nat
  | .hbm => 54
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8x2048, .f32⟩
  | .hbm, ⟨2, _⟩ => ⟨S1x2048, .f32⟩
  | .hbm, ⟨3, _⟩ => ⟨S1x2048x6144, .f32⟩
  | .hbm, ⟨4, _⟩ => ⟨S1x6144, .f32⟩
  | .hbm, ⟨5, _⟩ => ⟨S1x2048x5376, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S_, .f32⟩
  | .hbm, ⟨12, _⟩ => ⟨S8x2048, .f32⟩
  | .hbm, ⟨13, _⟩ => ⟨S8x2048, .f32⟩
  | .hbm, ⟨14, _⟩ => ⟨S8x2048, .f32⟩
  | .hbm, ⟨15, _⟩ => ⟨S2048x6144, .f32⟩
  | .hbm, ⟨16, _⟩ => ⟨S8x6144, .f32⟩
  | .hbm, ⟨17, _⟩ => ⟨S6144, .f32⟩
  | .hbm, ⟨18, _⟩ => ⟨S1x6144, .f32⟩
  | .hbm, ⟨19, _⟩ => ⟨S8x6144, .f32⟩
  | .hbm, ⟨20, _⟩ => ⟨S8x6144, .f32⟩
  | .hbm, ⟨21, _⟩ => ⟨S1x6144, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x2048, .f32⟩
  | .hbm, ⟨38, _⟩ => ⟨S2048x2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S1x2048, .f32⟩
  | .hbm, ⟨44, _⟩ => ⟨S1x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x5376, .f32⟩
  | .hbm, ⟨50, _⟩ => ⟨S2048x5376, .f32⟩
  | .hbm, ⟨51, _⟩ => ⟨S2048x2048, .bf16⟩
  | .hbm, ⟨52, _⟩ => ⟨S2048x7x768, .f32⟩
  | .hbm, ⟨53, _⟩ => ⟨S2048x4x768, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩

abbrev nD : Nat := 1
abbrev τ : Topo := Topo.v7x

variable {F : FTy → Type} [FloatOps F]
-- ==== Proof.Reals.lean ====
/- Extended reals that are real numbers: how the exact operations act on them. -/
module

public import Idealize.ShloMosaic.PureOps.Ideal
public import Idealize.ShloMosaic.Lib.Pointwise

@[expose] public section

noncomputable section

namespace Cert.Reals

open Idealize.ShloMosaic
open scoped BigOperators

/-- A sum of reals, taken in the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient by a real that is not zero. -/
theorem coe_div (a b : ℝ) (hb : b ≠ 0) : Ideal.div (a : EReal) (b : EReal) = ((a / b : ℝ) : EReal) := by
  unfold Ideal.div
  rw [if_neg (by simpa using hb), ← EReal.coe_inv, ← EReal.coe_mul, div_eq_mul_inv]

/-- The reciprocal square root of a positive real. -/
theorem coe_rsqrt (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr ha.le), if_neg ha.ne']

/-- An exponential of a real. -/
theorem coe_exp (a : ℝ) : Ideal.exp (a : EReal) = ((Real.exp a : ℝ) : EReal) := rfl

/-- A 32-bit pattern whose exponent `e` is neither all zeros nor all ones denotes a real number. -/
theorem ieee_normal (b : BitVec 32) (neg : Bool) (e f : ℕ) (hn : (b.extractLsb' 31 1 == 1#1) = neg)
    (he : (b.extractLsb' 23 8).toNat = e) (hf : (b.extractLsb' 0 23).toNat = f) (h1 : e ≠ 255) (h0 : e ≠ 0) :
    Ideal.ofBits .f32 b = (((if neg then -1 else 1) * ((2 ^ 23 + f : ℕ) : ℝ) * (2 : ℝ) ^ ((e : ℤ) - 127 - 23) : ℝ) : EReal) := by
  subst hn he hf
  show Ideal.ieee 8 23 b = _
  unfold Ideal.ieee
  dsimp only
  rw [if_neg (show ¬ (b.extractLsb' 23 8).toNat = 2 ^ 8 - 1 from h1), if_neg h0]
  norm_num

/-- The small number added to a mean of squares. -/
def eps : ℝ := 8796093 * 2 ^ (-43 : ℤ)

theorem eps_pos : 0 < eps := by unfold eps; positivity

theorem bits_eps : Ideal.ofBits .f32 897988541#32 = (eps : EReal) := by
  simp [Ideal.ofBits, Ideal.ieee, eps]

theorem bits_2048 : Ideal.ofBits .f32 1157627904#32 = ((2048 : ℝ) : EReal) := by
  rw [ieee_normal _ false 138 0 (by decide) (by decide) (by decide) (by decide) (by decide)]
  refine congrArg (fun r : ℝ => (r : EReal)) ?_
  norm_num

theorem bits_inv2048 : Ideal.ofBits .f32 973078528#32 = ((1 / 2048 : ℝ) : EReal) := by
  rw [ieee_normal _ false 116 0 (by decide) (by decide) (by decide) (by decide) (by decide)]
  refine congrArg (fun r : ℝ => (r : EReal)) ?_
  norm_num

theorem bits_half : Ideal.ofBits .f32 1056964608#32 = ((1 / 2 : ℝ) : EReal) := by
  rw [ieee_normal _ false 126 0 (by decide) (by decide) (by decide) (by decide) (by decide)]
  refine congrArg (fun r : ℝ => (r : EReal)) ?_
  norm_num

theorem bits_neg_half : Ideal.ofBits .f32 3204448256#32 = ((-(1 / 2) : ℝ) : EReal) := by
  rw [ieee_normal _ true 126 0 (by decide) (by decide) (by decide) (by decide) (by decide)]
  refine congrArg (fun r : ℝ => (r : EReal)) ?_
  norm_num

theorem bits_one : Ideal.ofBits .f32 1065353216#32 = ((1 : ℝ) : EReal) := by
  rw [ieee_normal _ false 127 0 (by decide) (by decide) (by decide) (by decide) (by decide)]
  refine congrArg (fun r : ℝ => (r : EReal)) ?_
  norm_num

theorem bits_two : Ideal.ofBits .f32 1073741824#32 = ((2 : ℝ) : EReal) := by
  rw [ieee_normal _ false 128 0 (by decide) (by decide) (by decide) (by decide) (by decide)]
  refine congrArg (fun r : ℝ => (r : EReal)) ?_
  norm_num

theorem bits_zero : Ideal.ofBits .f32 0#32 = ((0 : ℝ) : EReal) := by
  simp [Ideal.ofBits, Ideal.ieee]

/-- A value below plus infinity in absolute value is a real number. -/
theorem exists_coe (x : EReal) (h : max x (-x) < ⊤) : ∃ r : ℝ, x = (r : EReal) := by
  induction x with
  | bot => simp at h
  | top => simp at h
  | coe r => exact ⟨r, rfl⟩

/-- A host sum whose index `j` is met by exactly one operand index `k`. -/
theorem hostReduceAdd_of_one {s t : Shape} {axes : List (Fin s.rank)} (h : s.ReducesTo axes t) (x : s.Idx → EReal) (init : EReal) (j : t.Idx)
    (k : s.Idx) (hk : ∀ i, h.drop i = j ↔ i = k) : Ideal.hostReduceAdd h x init j = init + x k := by
  unfold Ideal.hostReduceAdd
  rw [Finset.filter_congr fun i _ => hk i, Finset.filter_eq' Finset.univ k, if_pos (Finset.mem_univ k), Finset.sum_singleton]

/-- A host sum over the outer two of three axes, both of size one. -/
theorem hostReduceAdd_11n {n : Nat} (h : (⟨3, ![1, 1, n]⟩ : Shape).ReducesTo [0, 1] ⟨1, ![n]⟩)
    (x : (⟨3, ![1, 1, n]⟩ : Shape).Idx → EReal) (init : EReal) (j : (⟨1, ![n]⟩ : Shape).Idx) :
    Ideal.hostReduceAdd h x init j = init + x (ix3 0 0 (j 0)) := by
  refine hostReduceAdd_of_one h x init j _ fun i => ⟨fun e => ?_, fun e => ?_⟩
  · subst e
    funext a
    match a with
    | ⟨0, _⟩ => exact Subsingleton.elim (α := Fin 1) _ _
    | ⟨1, _⟩ => exact Subsingleton.elim (α := Fin 1) _ _
    | ⟨2, _⟩ => rfl
  · subst e
    funext a
    match a with
    | ⟨0, _⟩ => rfl

/-- A host sum over the first and the last of three axes, both of size one. -/
theorem hostReduceAdd_1n1 {n : Nat} (h : (⟨3, ![1, n, 1]⟩ : Shape).ReducesTo [0, 2] ⟨1, ![n]⟩)
    (x : (⟨3, ![1, n, 1]⟩ : Shape).Idx → EReal) (init : EReal) (j : (⟨1, ![n]⟩ : Shape).Idx) :
    Ideal.hostReduceAdd h x init j = init + x (ix3 0 (j 0) 0) := by
  refine hostReduceAdd_of_one h x init j _ fun i => ⟨fun e => ?_, fun e => ?_⟩
  · subst e
    funext a
    match a with
    | ⟨0, _⟩ => exact Subsingleton.elim (α := Fin 1) _ _
    | ⟨1, _⟩ => rfl
    | ⟨2, _⟩ => exact Subsingleton.elim (α := Fin 1) _ _
  · subst e
    funext a
    match a with
    | ⟨0, _⟩ => rfl

end Cert.Reals

end
-- ==== Proof.Finite.lean ====
/- A precondition's test that every element of an array is finite, read back: the array is one of reals. -/
module

public import proofs.«01_k».proof.Proof.Reals
public import Idealize.ShloMosaic.Lib.ReduceAll

@[expose] public section

noncomputable section

namespace Cert.Finite

open Idealize.ShloMosaic

/-- Infinity's bit patterns. -/
theorem bits_inf : Ideal.ofBits .f32 0x7F800000#32 = ⊤ := by simp [Ideal.ofBits, Ideal.ieee]
theorem bits_inf16 : Ideal.ofBits .bf16 0x7F80#16 = ⊤ := by simp [Ideal.ofBits, Ideal.ieee]

/-- An array of which every element passed "its absolute value is below plus infinity" holds reals. -/
theorem exists_reals {s u : Shape} {φ : FTy} {axes : List (Fin s.rank)} (x : FVec Ideal s φ) (b : BitVec φ.bits)
    (hb : Ideal.ofBits φ b = ⊤) (h0 : (⟨0, ![]⟩ : Shape).BroadcastsInDim s ![]) (init : u.Idx → BitVec 1)
    (h : s.ReducesTo axes ⟨0, ![]⟩) (hu : 0 < u.numel) (j : (⟨0, ![]⟩ : Shape).Idx)
    (e : Host.reduce IntOp.andi (cmpf .olt (Host.absf x) (broadcastInDim s ![] h0 (constant ⟨0, ![]⟩ φ b))) init h hu j = 1#1) :
    ∀ i, ∃ r : ℝ, x i = (r : EReal) := by
  intro i
  haveI : Subsingleton (⟨0, ![]⟩ : Shape).Idx := ⟨fun a b => funext fun k => k.elim0⟩
  have h1 := Host.reduce_andi_all _ init h hu j e i
  have h2 : Ideal.cmp .olt (max (x i : EReal) (-(x i : EReal))) (Ideal.ofBits φ b) = 1#1 := h1
  rw [hb] at h2
  refine Reals.exists_coe _ ?_
  by_contra hn
  unfold Ideal.cmp at h2
  simp [hn] at h2

end Cert.Finite

end
-- ==== Proof.RmsRow.lean ====
/- One row through RMS normalisation, its gain, the squared error against a target, and the gradients of these. -/
module

public import proofs.«01_k».proof.Proof.Reals

@[expose] public section

noncomputable section

namespace Cert.RmsRow

open scoped BigOperators

/-- The mean of the squares of a row, plus the small number. -/
def ms (x : Fin 2048 → ℝ) : ℝ := (∑ j, x j * x j) / 2048 + Reals.eps

/-- The reciprocal root of the mean square. -/
def r (x : Fin 2048 → ℝ) : ℝ := (Real.sqrt (ms x))⁻¹

/-- The gradient of `x ↦ x · r x` along `u`, at lane `j`. -/
def back (x u : Fin 2048 → ℝ) (j : Fin 2048) : ℝ :=
  r x * u j - x j * r x * (r x * r x * ((∑ k, u k * x k) / 2048))

theorem ms_pos (x : Fin 2048 → ℝ) : 0 < ms x :=
  add_pos_of_nonneg_of_pos (div_nonneg (Finset.sum_nonneg fun j _ => mul_self_nonneg _) (by norm_num)) Reals.eps_pos

theorem ms_ne (x : Fin 2048 → ℝ) : ms x ≠ 0 := (ms_pos x).ne'

/-- The reciprocal root over the mean square is the root's cube. -/
theorem r_div_ms (x : Fin 2048 → ℝ) : r x / ms x = r x * r x * r x := by
  have h : Real.sqrt (ms x) * Real.sqrt (ms x) = ms x := Real.mul_self_sqrt (ms_pos x).le
  have h0 : Real.sqrt (ms x) ≠ 0 := (Real.sqrt_pos.mpr (ms_pos x)).ne'
  unfold r
  rw [← h]
  simp only [Real.sqrt_mul_self (Real.sqrt_nonneg _)]
  field_simp

/-- The gradient as the reverse rule writes it: the product rule's two equal halves of the square, each through
    the reciprocal root's own derivative. -/
theorem back_eq (x u : Fin 2048 → ℝ) (j : Fin 2048) :
    u j * r x + x j * ((∑ k, x k * u k) * (-(1 / 2) * (r x / ms x)) / 2048)
      + (∑ k, x k * u k) * (-(1 / 2) * (r x / ms x)) / 2048 * x j = back x u j := by
  have hs : (∑ k, u k * x k) = ∑ k, x k * u k := Finset.sum_congr rfl fun k _ => mul_comm _ _
  rw [back, hs, r_div_ms]
  ring

end Cert.RmsRow

end
-- ==== Proof.LossSpec.lean ====
/- The gated residual, its RMS normalisation and the squared error, row by row, in the reals, with their gradients. -/
module

public import proofs.«01_k».proof.Proof.RmsRow

@[expose] public section

noncomputable section

namespace Cert.LossSpec

open scoped BigOperators

variable (C W X T : Fin 2048 → Fin 2048 → ℝ) (g f : Fin 2048 → ℝ)

/-- The output projection. -/
def y (i j : Fin 2048) : ℝ := ∑ k, C i k * W k j

/-- The residual plus the gated projection. -/
def x1 (i j : Fin 2048) : ℝ := X i j + g j * y C W i j

/-- The normalised row times the gain, less the target. -/
def err (i j : Fin 2048) : ℝ := x1 C W X g i j * RmsRow.r (x1 C W X g i) * f j - T i j

/-- The loss's gradient along the normalised row times the gain. -/
def dout (i j : Fin 2048) : ℝ := err C W X T g f i j * (1 / 2048)

/-- The gradient along the residual. -/
def dx (i j : Fin 2048) : ℝ := RmsRow.back (x1 C W X g i) (fun k => dout C W X T g f i k * f k) j

/-- The gradient along the gain, one row's part. -/
def dgain (i j : Fin 2048) : ℝ := dout C W X T g f i j * (x1 C W X g i j * RmsRow.r (x1 C W X g i))

/-- The loss, one row's part. -/
def loss (i : Fin 2048) : ℝ := (∑ j, err C W X T g f i j * err C W X T g f i j) / 2048

open Idealize.ShloMosaic in
/-- The arguments are these reals; of the modulation only its last third is read. -/
structure Args (C W X T : Fin 2048 → Fin 2048 → ℝ) (g f : Fin 2048 → ℝ)
    (x0 : FVec Ideal ⟨2, ![2048, 2048]⟩ .bf16) (x1 x2 x3 : FVec Ideal ⟨3, ![1, 2048, 2048]⟩ .f32) (x4 : FVec Ideal ⟨2, ![1, 6144]⟩ .f32) (x5 : FVec Ideal ⟨1, ![2048]⟩ .f32) : Prop where
  h0 : ∀ i j, x0 (ix2 i j) = (C i j : EReal)
  h1 : ∀ i j, x1 (ix3 0 i j) = (W i j : EReal)
  h2 : ∀ i j, x2 (ix3 0 i j) = (X i j : EReal)
  h3 : ∀ i j, x3 (ix3 0 i j) = (T i j : EReal)
  h4 : ∀ j : Fin 2048, x4 (ix2 0 ⟨4096 + j, by omega⟩) = (g j : EReal)
  h5 : ∀ j, x5 (ix1 j) = (f j : EReal)

end Cert.LossSpec

end
-- ==== Proof.LossRef.lean ====
/- What the reference of the loss call computes on real arguments. -/
module

public import proofs.«01_k».proof.Proof.Gen.LossReferenceIdeal.Read
public import proofs.«01_k».proof.Proof.LossSpec
public import Idealize.ShloMosaic.Lib.Pointwise

@[expose] public section

set_option maxRecDepth 16384

noncomputable section

namespace Cert.LossRef

open Cert.LossReferenceIdeal Cert.LossReferenceIdeal.Gen Cert.LossReferenceIdeal.Read Idealize.ShloMosaic Idealize.ShloMosaic.TcCoe Idealize.SL.Sem
open Cert.Reals Cert.LossSpec

variable {C W X T : Fin 2048 → Fin 2048 → ℝ} {g f : Fin 2048 → ℝ}
variable {x0 : FVec Ideal S2048x2048 .bf16} {x1 x2 x3 : FVec Ideal S1x2048x2048 .f32} {x4 : FVec Ideal S1x6144 .f32} {x5 : FVec Ideal S2048 .f32}

variable (H : Args C W X T g f x0 x1 x2 x3 x4 x5)
include H

theorem v6 (i j : Fin 2048) : val_main_v6 (F := Ideal) x0 x1 (ix3 0 i j) = (y C W i j : EReal) := by
  pointwise [val_main_v6, val_main_v4, val_main_v3, val_main_v5]
  simp only [H.h0, H.h1, ← EReal.coe_mul, coe_sum]
  rfl

theorem v10 (i j : Fin 2048) : val_main_v10 (F := Ideal) x0 x1 x2 x4 (ix3 0 i j) = (LossSpec.x1 C W X g i j : EReal) := by
  pointwise [val_main_v10, val_main_v9, val_main_v8, val_main_v7, val_main_v2]
  simp only [H.h2, H.h4, v6 H, ← EReal.coe_mul, ← EReal.coe_add]
  rfl

theorem v17 (i : Fin 2048) : val_main_v17 (F := Ideal) x0 x1 x2 x4 (ix3 0 i 0) = (RmsRow.ms (LossSpec.x1 C W X g i) : EReal) := by
  pointwise [val_main_v17, val_main_v16, val_main_v15, val_main_v14, val_main_v13, val_main_v12, val_main_v11, val_main_cst, val_main_cst_0, val_main_cst_1]
  simp only [v10 H, bits_2048, bits_eps, ← EReal.coe_mul, coe_sum]
  rw [coe_div _ _ (by norm_num), ← EReal.coe_add]
  rfl

theorem v18 (i : Fin 2048) : val_main_v18 (F := Ideal) x0 x1 x2 x4 (ix3 0 i 0) = (RmsRow.r (LossSpec.x1 C W X g i) : EReal) := by
  pointwise [val_main_v18]
  rw [v17 H, coe_rsqrt _ (RmsRow.ms_pos _)]
  rfl

theorem v21 (i : Fin 2048) : val_main_v21 (F := Ideal) x0 x1 x2 x4 (ix3 0 i 0)
    = ((-(1 / 2) * (RmsRow.r (LossSpec.x1 C W X g i) / RmsRow.ms (LossSpec.x1 C W X g i)) : ℝ) : EReal) := by
  pointwise [val_main_v21, val_main_v20, val_main_v19, val_main_cst_2]
  rw [v17 H, v18 H, coe_div _ _ (RmsRow.ms_ne _), bits_neg_half, ← EReal.coe_mul]

theorem v23 (i j : Fin 2048) : val_main_v23 (F := Ideal) x0 x1 x2 x4 (ix3 0 i j)
    = ((LossSpec.x1 C W X g i j * RmsRow.r (LossSpec.x1 C W X g i) : ℝ) : EReal) := by
  pointwise [val_main_v23, val_main_v22]
  rw [v10 H, v18 H, ← EReal.coe_mul]

theorem v27 (i j : Fin 2048) : val_main_v27 (F := Ideal) x0 x1 x2 x3 x4 x5 (ix3 0 i j) = (err C W X T g f i j : EReal) := by
  pointwise [val_main_v27, val_main_v26, val_main_v25, val_main_v24]
  rw [v23 H, H.h5, H.h3, ← EReal.coe_mul, ← EReal.coe_sub]
  rfl

theorem v41 (i j : Fin 2048) : val_main_v41 (F := Ideal) x0 x1 x2 x3 x4 x5 (ix3 0 i j) = (dout C W X T g f i j : EReal) := by
  pointwise [val_main_v41, val_main_v40, val_main_v39, val_main_v38, val_main_v37, val_main_v36, val_main_cst_8, val_main_cst_9, val_main_cst_10, val_main_v30, val_main_v29, val_main_cst_3]
  rw [v27 H, bits_half, bits_2048, bits_two, coe_div _ _ (by norm_num), ← EReal.coe_mul, ← EReal.coe_mul]
  congr 1
  rw [dout]
  ring

theorem v46 (i j : Fin 2048) : val_main_v46 (F := Ideal) x0 x1 x2 x3 x4 x5 (ix3 0 i j) = ((dout C W X T g f i j * f j : ℝ) : EReal) := by
  pointwise [val_main_v46, val_main_v45, val_main_v24]
  rw [v41 H, H.h5, ← EReal.coe_mul]

theorem v57 (i : Fin 2048) : val_main_v57 (F := Ideal) x0 x1 x2 x3 x4 x5 (ix2 0 i)
    = (((∑ k, LossSpec.x1 C W X g i k * (dout C W X T g f i k * f k))
        * (-(1 / 2) * (RmsRow.r (LossSpec.x1 C W X g i) / RmsRow.ms (LossSpec.x1 C W X g i))) / 2048 : ℝ) : EReal) := by
  pointwise [val_main_v57, val_main_v56, val_main_v55, val_main_v54, val_main_v53, val_main_v50, val_main_v49, val_main_v48, val_main_cst_13, val_main_cst_14, val_main_cst_15, hostReduceAdd_1n1]
  simp only [v10 H, v46 H, ← EReal.coe_mul, coe_sum]
  rw [v21 H, ← EReal.coe_mul, bits_2048, coe_div _ _ (by norm_num)]

theorem v62 (i j : Fin 2048) : val_main_v62 (F := Ideal) x0 x1 x2 x3 x4 x5 (ix3 0 i j) = (dx C W X T g f i j : EReal) := by
  pointwise [val_main_v62, val_main_v61, val_main_v60, val_main_v59, val_main_v58, val_main_v52, val_main_v51]
  simp only [v10 H, v46 H, v18 H, v57 H, ← EReal.coe_mul, ← EReal.coe_add]
  rw [RmsRow.back_eq _ (fun k => dout C W X T g f i k * f k)]
  rfl

theorem v70 (i j : Fin 2048) : val_main_v70 (F := Ideal) x0 x1 x2 x3 x4 x5 (ix2 i j) = (dx C W X T g f i j : EReal) := by
  pointwise [val_main_v70]
  exact v62 H i j

theorem v72 (i j : Fin 2048) : val_main_v72 (F := Ideal) x0 x1 x2 x3 x4 x5 (ix2 i j) = ((g j * dx C W X T g f i j : ℝ) : EReal) := by
  pointwise [val_main_v72, val_main_v71, val_main_v64, val_main_v63, val_main_v7, val_main_v2]
  rw [v62 H, H.h4, ← EReal.coe_mul]

theorem v73 (j : Fin 2048) : val_main_v73 (F := Ideal) x0 x1 x2 x3 x4 x5 (ix2 0 j) = ((∑ i, dgain C W X T g f i j : ℝ) : EReal) := by
  pointwise [val_main_v73, val_main_v47, val_main_v44, val_main_v43, val_main_v42, val_main_cst_11, val_main_cst_12, hostReduceAdd_11n]
  simp only [v41 H, v23 H, ← EReal.coe_mul, coe_sum]
  congr 1
  exact Finset.sum_congr rfl fun i _ => mul_comm _ _

theorem v69 (j : Fin 2048) : val_main_v69 (F := Ideal) x0 x1 x2 x3 x4 x5 (ix2 0 j) = ((∑ i, dx C W X T g f i j * y C W i j : ℝ) : EReal) := by
  pointwise [val_main_v69, val_main_v68, val_main_v67, val_main_v66, val_main_v65, val_main_cst_16, val_main_cst_17, hostReduceAdd_11n]
  simp only [v62 H, v6 H, ← EReal.coe_mul, coe_sum]

theorem v74 : val_main_v74 (F := Ideal) x0 x1 x2 x3 x4 x5 (ix2 0 0) = ((1 / 2 * ∑ i, loss C W X T g f i : ℝ) : EReal) := by
  pointwise [val_main_v74, val_main_v35, val_main_v34, val_main_v33, val_main_v32, val_main_v31, val_main_v28, val_main_cst_4, val_main_cst_5, val_main_cst_6, val_main_cst_7]
  simp only [Fin.sum_univ_one, v27 H, bits_2048, bits_half, ← EReal.coe_mul, coe_sum]
  simp only [coe_div _ 2048 (by norm_num), ← EReal.coe_mul, coe_sum]
  rfl

end Cert.LossRef

end
-- ==== Proof.LossKernel.lean ====
/- What the kernel of the loss call leaves in its result arrays, on real arguments. -/
module

public import proofs.«01_k».proof.Proof.Gen.LossKernelIdeal.Frame
public import proofs.«01_k».proof.Proof.LossSpec
public import Idealize.ShloMosaic.Lib.Pipeline.ValueKit
public import Idealize.ShloMosaic.Lib.Pointwise

@[expose] public section

set_option maxRecDepth 16384

noncomputable section

namespace Cert.LossKernelRun

open Cert.LossKernelIdeal Cert.LossKernelIdeal.Gen Idealize.ShloMosaic Idealize.ShloMosaic.TcCoe Idealize.SL.Sem
open Idealize.ShloMosaic.Pipeline (Dat)
open Cert.Reals Cert.LossSpec

section Block

variable {C W X T : Fin 2048 → Fin 2048 → ℝ} {g f : Fin 2048 → ℝ} {ρ : Fin 256 → Fin 2048}
variable {v3 v4 : Vec Ideal S1x2048 .f32} {v6 : Vec Ideal S256x2048 .bf16} {v7 : Vec Ideal S2048x2048 .bf16} {v10 v27 : Vec Ideal S256x2048 .f32}

/-- The blocks one grid point reads are these reals, its rows being the rows `ρ`. -/
structure Blk (C W X T : Fin 2048 → Fin 2048 → ℝ) (g f : Fin 2048 → ℝ) (ρ : Fin 256 → Fin 2048)
    (v3 v4 : Vec Ideal S1x2048 .f32) (v6 : Vec Ideal S256x2048 .bf16) (v7 : Vec Ideal S2048x2048 .bf16) (v10 v27 : Vec Ideal S256x2048 .f32) : Prop where
  h3 : ∀ j : Fin 2048, v3 (ix2 (0 : Fin 1) j) = (g j : EReal)
  h4 : ∀ j : Fin 2048, v4 (ix2 (0 : Fin 1) j) = (f j : EReal)
  h6 : ∀ (i : Fin 256) (k : Fin 2048), v6 (ix2 i k) = (C (ρ i) k : EReal)
  h7 : ∀ k j : Fin 2048, v7 (ix2 k j) = (W k j : EReal)
  h10 : ∀ (i : Fin 256) (j : Fin 2048), v10 (ix2 i j) = (X (ρ i) j : EReal)
  h27 : ∀ (i : Fin 256) (j : Fin 2048), v27 (ix2 i j) = (T (ρ i) j : EReal)

variable (H : Blk C W X T g f ρ v3 v4 v6 v7 v10 v27)
include H

theorem pay6 (i : Fin 256) (j : Fin 2048) : k0_pay6 (F := Ideal) v6 v7 (ix2 i j) = (y C W (ρ i) j : EReal) := by
  pointwise [k0_pay6]
  simp only [H.h6, H.h7, ← EReal.coe_mul, coe_sum]
  rfl

theorem pay7 (i : Fin 256) (j : Fin 2048) : k0_pay7 (F := Ideal) v3 v6 v7 v10 (ix2 i j) = (x1 C W X g (ρ i) j : EReal) := by
  pointwise [k0_pay7]
  simp only [H.h10, H.h3, pay6 H, ← EReal.coe_mul, ← EReal.coe_add]
  rfl

theorem pay8 (i : Fin 256) : k0_pay8 (F := Ideal) v3 v6 v7 v10 (ix2 i 0) = (RmsRow.r (x1 C W X g (ρ i)) : EReal) := by
  pointwise [k0_pay8]
  simp only [pay7 H, bits_2048, bits_eps, ← EReal.coe_mul, coe_sum]
  rw [coe_div _ _ (by norm_num), ← EReal.coe_add]
  exact coe_rsqrt _ (RmsRow.ms_pos _)

theorem pay9 (i : Fin 256) (j : Fin 2048) : k0_pay9 (F := Ideal) v3 v6 v7 v10 (ix2 i j)
    = ((x1 C W X g (ρ i) j * RmsRow.r (x1 C W X g (ρ i)) : ℝ) : EReal) := by
  pointwise [k0_pay9]
  rw [pay7 H, pay8 H, ← EReal.coe_mul]

theorem pay10 (i : Fin 256) (j : Fin 2048) : k0_pay10 (F := Ideal) v3 v4 v6 v7 v10 v27 (ix2 i j) = (err C W X T g f (ρ i) j : EReal) := by
  pointwise [k0_pay10, k0_pay5]
  rw [pay9 H, H.h4, H.h27, ← EReal.coe_mul, ← EReal.coe_sub]
  rfl

theorem pay11 (i : Fin 256) (j : Fin 2048) : k0_pay11 (F := Ideal) v3 v4 v6 v7 v10 v27 (ix2 i j) = (dout C W X T g f (ρ i) j : EReal) := by
  pointwise [k0_pay11]
  rw [pay10 H, bits_inv2048, ← EReal.coe_mul]
  rfl

theorem pay12 (i : Fin 256) (j : Fin 2048) : k0_pay12 (F := Ideal) v3 v4 v6 v7 v10 v27 (ix2 i j) = ((dout C W X T g f (ρ i) j * f j : ℝ) : EReal) := by
  pointwise [k0_pay12, k0_pay5]
  rw [pay11 H, H.h4, ← EReal.coe_mul]

theorem pay16 (i : Fin 256) (j : Fin 2048) :
    k0_pay16 (F := Ideal) (k0_pay9 v3 v6 v7 v10) (k0_pay13 v3 v4 v6 v7 v10 v27) (k0_pay14 v3 v6 v7 v10) (k0_pay15 v3 v4 v6 v7 v10 v27) (ix2 i j)
      = (dx C W X T g f (ρ i) j : EReal) := by
  pointwise [k0_pay16, k0_pay13, k0_pay14, k0_pay15]
  simp only [pay8 H, pay12 H, pay9 H, pay7 H, bits_2048, ← EReal.coe_mul, coe_sum]
  rw [coe_div _ _ (by norm_num), ← EReal.coe_mul, ← EReal.coe_mul, ← EReal.coe_sub]
  rfl

theorem pay17 (i : Fin 256) (j : Fin 2048) :
    k0_pay17 (F := Ideal) v3 (k0_pay9 v3 v6 v7 v10) (k0_pay13 v3 v4 v6 v7 v10 v27) (k0_pay14 v3 v6 v7 v10) (k0_pay15 v3 v4 v6 v7 v10 v27) (ix2 i j)
      = ((g j * dx C W X T g f (ρ i) j : ℝ) : EReal) := by
  pointwise [k0_pay17]
  rw [pay16 H, H.h3, ← EReal.coe_mul]

theorem pay18 (v51 : Vec Ideal S1x2048 .f32) (j : Fin 2048) :
    k0_pay18 (F := Ideal) (k0_pay9 v3 v6 v7 v10) (k0_pay11 v3 v4 v6 v7 v10 v27) v51 (ix2 0 j)
      = v51 (ix2 0 j) + ((∑ i, dgain C W X T g f (ρ i) j : ℝ) : EReal) := by
  pointwise [k0_pay18]
  simp only [pay9 H, pay11 H, ← EReal.coe_mul, coe_sum]
  rfl

theorem pay19 (v58 : Vec Ideal S1x2048 .f32) (j : Fin 2048) :
    k0_pay19 (F := Ideal) (k0_pay6 v6 v7) (k0_pay9 v3 v6 v7 v10) (k0_pay13 v3 v4 v6 v7 v10 v27) (k0_pay14 v3 v6 v7 v10) (k0_pay15 v3 v4 v6 v7 v10 v27) v58 (ix2 0 j)
      = v58 (ix2 0 j) + ((∑ i, dx C W X T g f (ρ i) j * y C W (ρ i) j : ℝ) : EReal) := by
  pointwise [k0_pay19]
  simp only [pay16 H, pay6 H, ← EReal.coe_mul, coe_sum]

theorem pay1 (v65 : Vec Ideal S1x1 .f32) :
    k0_pay1 (F := Ideal) (k0_pay20 v65) (k0_pay21 (k0_pay10 v3 v4 v6 v7 v10 v27)) (ix2 0 0)
      = v65 (ix2 0 0) + ((∑ i, 1 / 2 * loss C W X T g f (ρ i) : ℝ) : EReal) := by
  pointwise [k0_pay1, k0_pay20, k0_pay21]
  simp only [pay10 H, bits_2048, bits_half, ← EReal.coe_mul, coe_sum]
  simp only [coe_div _ 2048 (by norm_num), ← EReal.coe_mul, coe_sum, Finset.mul_sum]
  rfl

end Block

variable (m : (ℓ : Loc nD τ sig) → Buf (Elt Ideal) ℓ) (c : Dev nD)
variable {C W X T : Fin 2048 → Fin 2048 → ℝ} {g f : Fin 2048 → ℝ}

/-- The row of the arrays that row `i` of point `t`'s blocks is. -/
def row (t : Fin cfg0.N) (i : Fin 256) : Fin 2048 := ⟨t.val * 256 + i.val, by have h : t.val < 8 := t.isLt; omega⟩

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] ∧ win0_10.index t = ![0, 0] :=
  (by decide +kernel : ∀ t : Fin grid0.N, _)

/-- The arguments of the run are these reals. -/
abbrev Reads (C W X T : Fin 2048 → Fin 2048 → ℝ) (g f : Fin 2048 → ℝ) : Prop :=
  Args C W X T g f (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable {m c} (H : Reads m c C W X T g f)
include H

/-- What a grid point's blocks hold. -/
theorem blk (t : Fin cfg0.N) : Blk C W X T g f (row t)
    (View.ld (iblk m c 4 t) (Rect.unit ![0, 4096] ![1, 2048] inb_S1x6144_S1x2048_0_4096)) (iblk m c 5 t)
    (iblk m c 0 t) (iblk m c 1 t) (iblk m c 2 t) (iblk m c 3 t) where
  h3 j := by rw [← H.h4]; pointwise []; blk_point [iblk, V, idx t]
  h4 j := by rw [← H.h5]; blk_point [iblk, V, idx t]
  h6 i k := by rw [← H.h0, row]; blk_point [iblk, V, idx t]
  h7 k j := by rw [← H.h1]; blk_point [iblk, V, idx t]
  h10 i j := by rw [← H.h2, row]; blk_point [iblk, V, idx t]
  h27 i j := by rw [← H.h3, row]; blk_point [iblk, V, idx t]

theorem out6 (t : Fin cfg0.N) (y : S256x2048.Idx) :
    (outsAt0 m c t.val t.isLt).1 y = (dx C W X T g f (row t (y 0)) (y 1) : EReal) := by
  rw [eq_ix2 y]
  by_cases h : t.val % 8 = 0
  · rw [outsAt0_A m c t h]; frame_out; exact pay16 (blk H t) _ _
  · rw [outsAt0_B m c t h]; frame_out; exact pay16 (blk H t) _ _

theorem out7 (t : Fin cfg0.N) (y : S256x2048.Idx) :
    (outsAt0 m c t.val t.isLt).2.1 y = ((g (y 1) * dx C W X T g f (row t (y 0)) (y 1) : ℝ) : EReal) := by
  rw [eq_ix2 y]
  by_cases h : t.val % 8 = 0
  · rw [outsAt0_A m c t h]; frame_out; exact pay17 (blk H t) _ _
  · rw [outsAt0_B m c t h]; frame_out; exact pay17 (blk H t) _ _

theorem final6 : (dats m 0 c).arrAt 6 cfg0.N = fun x => (dx C W X T g f (x 0) (x 1) : EReal) := by
  refine (dats m 0 c).arrAt_eq_of_covers 6 _ (by decide +kernel) fun t _ y => ?_
  blk_simp
  have e : (win0_6.blk t).view.emb y = ix2 (row t (y 0)) (y 1) := by blk_ext [idx t, row]
  rw [after0_6, out6 H, e]
  rfl

theorem final7 : (dats m 0 c).arrAt 7 cfg0.N = fun x => ((g (x 1) * dx C W X T g f (x 0) (x 1) : ℝ) : EReal) := by
  refine (dats m 0 c).arrAt_eq_of_covers 7 _ (by decide +kernel) fun t _ y => ?_
  blk_simp
  have e : (win0_7.blk t).view.emb y = ix2 (row t (y 0)) (y 1) := by blk_ext [idx t, row]
  rw [after0_7, out7 H, e]
  rfl

omit H in
/-- The points' shares of a sum over the rows make up the sum. -/
theorem sum_rows (q : Fin 2048 → ℝ) : ∑ t : Fin cfg0.N, ((∑ i, q (row t i) : ℝ) : EReal) = ((∑ i, q i : ℝ) : EReal) := by
  rw [coe_sum]
  congr 1
  exact Fin.sum_mul_add_congr (S := 8) (n := 256) (fun s k hl => rfl)

omit H in
theorem row_ix (y : S1x2048.Idx) : y = ix2 0 (y 1) :=
  (eq_ix2 y).trans (congrArg (ix2 · (y 1)) (Subsingleton.elim (α := Fin 1) _ _))

omit H in
theorem one_ix (y : S1x1.Idx) : y = ix2 0 0 :=
  (eq_ix2 y).trans (congrArg₂ ix2 (Subsingleton.elim (α := Fin 1) _ _) (Subsingleton.elim (α := Fin 1) _ _))

theorem step8_A (t : Fin cfg0.N) (h : t.val % 8 = 0) (y : S1x2048.Idx) :
    (outsAt0 m c t.val t.isLt).2.2.1 y = (fun _ => 0) y + ((∑ i, dgain C W X T g f (row t i) (y 1) : ℝ) : EReal) := by
  rw [outsAt0_A m c t h]; frame_out
  rw [row_ix y]
  refine (pay18 (blk H t) _ _).trans ?_
  congr 1
  exact by pointwise [k0_pay2]

theorem step8_B (t : Fin cfg0.N) (h : ¬ t.val % 8 = 0) (y : S1x2048.Idx) :
    (outsAt0 m c t.val t.isLt).2.2.1 y
      = (outsAt0 m c (t.val - 1) (Nat.lt_of_le_of_lt (Nat.sub_le _ _) t.isLt)).2.2.1 y + ((∑ i, dgain C W X T g f (row t i) (y 1) : ℝ) : EReal) := by
  rw [outsAt0_B m c t h]; frame_out
  rw [row_ix y]
  exact pay18 (blk H t) _ _

theorem final8 : (dats m 0 c).arrAt 8 cfg0.N = fun x => ((∑ i, dgain C W X T g f (i) (x 1) : ℝ) : EReal) := by
  refine (dats m 0 c).arrAt_eq_of_after_last 8 t0_7 (by decide +kernel) _ fun y => ?_
  blk_simp
  rw [after0_8, Pipeline.eq_sum_fin_of_reset_step_apply_last (fun n h => (outsAt0 m c n h).2.2.1) 8 (fun _ => 0) _ (step8_A H) (step8_B H)
    (le_of_eq N_0) t0_7 rfl _, zero_add]
  exact sum_rows (fun i => dgain C W X T g f i (y 1))

theorem step9_A (t : Fin cfg0.N) (h : t.val % 8 = 0) (y : S1x2048.Idx) :
    (outsAt0 m c t.val t.isLt).2.2.2.1 y = (fun _ => 0) y + ((∑ i, dx C W X T g f (row t i) (y 1) * LossSpec.y C W (row t i) (y 1) : ℝ) : EReal) := by
  rw [outsAt0_A m c t h]; frame_out
  rw [row_ix y]
  refine (pay19 (blk H t) _ _).trans ?_
  congr 1
  exact by pointwise [k0_pay3]

theorem step9_B (t : Fin cfg0.N) (h : ¬ t.val % 8 = 0) (y : S1x2048.Idx) :
    (outsAt0 m c t.val t.isLt).2.2.2.1 y
      = (outsAt0 m c (t.val - 1) (Nat.lt_of_le_of_lt (Nat.sub_le _ _) t.isLt)).2.2.2.1 y + ((∑ i, dx C W X T g f (row t i) (y 1) * LossSpec.y C W (row t i) (y 1) : ℝ) : EReal) := by
  rw [outsAt0_B m c t h]; frame_out
  rw [row_ix y]
  exact pay19 (blk H t) _ _

theorem final9 : (dats m 0 c).arrAt 9 cfg0.N = fun x => ((∑ i, dx C W X T g f (i) (x 1) * LossSpec.y C W (i) (x 1) : ℝ) : EReal) := by
  refine (dats m 0 c).arrAt_eq_of_after_last 9 t0_7 (by decide +kernel) _ fun y => ?_
  blk_simp
  rw [after0_9, Pipeline.eq_sum_fin_of_reset_step_apply_last (fun n h => (outsAt0 m c n h).2.2.2.1) 8 (fun _ => 0) _ (step9_A H) (step9_B H)
    (le_of_eq N_0) t0_7 rfl _, zero_add]
  exact sum_rows (fun i => dx C W X T g f i (y 1) * LossSpec.y C W i (y 1))

theorem step10_A (t : Fin cfg0.N) (h : t.val % 8 = 0) (y : S1x1.Idx) :
    (outsAt0 m c t.val t.isLt).2.2.2.2 y = (fun _ => 0) y + ((∑ i, 1 / 2 * loss C W X T g f (row t i) : ℝ) : EReal) := by
  rw [outsAt0_A m c t h]; frame_out
  rw [one_ix y]
  refine (pay1 (blk H t) _ ).trans ?_
  congr 1
  exact by pointwise [k0_pay4]

theorem step10_B (t : Fin cfg0.N) (h : ¬ t.val % 8 = 0) (y : S1x1.Idx) :
    (outsAt0 m c t.val t.isLt).2.2.2.2 y
      = (outsAt0 m c (t.val - 1) (Nat.lt_of_le_of_lt (Nat.sub_le _ _) t.isLt)).2.2.2.2 y + ((∑ i, 1 / 2 * loss C W X T g f (row t i) : ℝ) : EReal) := by
  rw [outsAt0_B m c t h]; frame_out
  rw [one_ix y]
  exact pay1 (blk H t) _

theorem final10 : (dats m 0 c).arrAt 10 cfg0.N = fun x => ((∑ i, 1 / 2 * loss C W X T g f (i) : ℝ) : EReal) := by
  refine (dats m 0 c).arrAt_eq_of_after_last 10 t0_7 (by decide +kernel) _ fun y => ?_
  blk_simp
  rw [after0_10, Pipeline.eq_sum_fin_of_reset_step_apply_last (fun n h => (outsAt0 m c n h).2.2.2.2) 8 (fun _ => 0) _ (step10_A H) (step10_B H)
    (le_of_eq N_0) t0_7 rfl _, zero_add]
  exact sum_rows (fun i => 1 / 2 * loss C W X T g f i)

end Cert.LossKernelRun

end
-- ==== Proof.LossClaim.lean ====
/- The kernel of the loss call leaves what its reference computes. -/
module

public import proofs.«01_k».proof.Defs
public import proofs.«01_k».proof.Proof.Gen.LossReferenceIdeal.Run
public import proofs.«01_k».proof.Proof.Gen.Pre_loss_finite
public import proofs.«01_k».proof.Proof.Finite
public import proofs.«01_k».proof.Proof.LossRef
public import proofs.«01_k».proof.Proof.LossKernel
public import Idealize.ShloMosaic.Lib.Claim

@[expose] public section

set_option maxRecDepth 16384

noncomputable section

namespace Cert.LossClaim

open Idealize.ShloMosaic Idealize.ShloMosaic.TcCoe Idealize.SL.Sem

/-- Arguments that pass the finiteness test are reals. -/
theorem args (x0 : FVec Ideal ⟨2, ![2048, 2048]⟩ .bf16) (x1 x2 x3 : FVec Ideal ⟨3, ![1, 2048, 2048]⟩ .f32)
    (x4 : FVec Ideal ⟨2, ![1, 6144]⟩ .f32) (x5 : FVec Ideal ⟨1, ![2048]⟩ .f32)
    (h : Cert.Pre_loss_finite.fn (F := Ideal) x0 x1 x2 x3 x4 x5 = fun _ => 1#1) :
    ∃ C W X T g f, LossSpec.Args C W X T g f x0 x1 x2 x3 x4 x5 := by
  have h := congrFun h ix0
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  choose C hC using Finite.exists_reals x0 _ Finite.bits_inf16 _ _ _ _ _ h0
  choose W hW using Finite.exists_reals x1 _ Finite.bits_inf _ _ _ _ _ h1
  choose X hX using Finite.exists_reals x2 _ Finite.bits_inf _ _ _ _ _ h2
  choose T hT using Finite.exists_reals x3 _ Finite.bits_inf _ _ _ _ _ h3
  choose g hg using Finite.exists_reals _ _ Finite.bits_inf _ _ _ _ _ h4
  choose f hf using Finite.exists_reals x5 _ Finite.bits_inf _ _ _ _ _ h5
  refine ⟨fun i j => C (ix2 i j), fun i j => W (ix3 0 i j), fun i j => X (ix3 0 i j), fun i j => T (ix3 0 i j), fun j => g (ix2 0 j), fun j => f (ix1 j),
    fun i j => hC _, fun i j => hW _, fun i j => hX _, fun i j => hT _, fun j => ?_, fun j => hf _⟩
  rw [← hg]
  pointwise []

set_option maxHeartbeats 3200000 in
theorem algebraic : Cert.algebraic_LossKernelIdeal_LossReferenceIdeal_pre_loss_finite := by
  pair_intro
  · run_from Cert.LossKernelIdeal.Gen.run_main m g
  · run_from Cert.LossReferenceIdeal.Value.run m' g'
    all_goals
      obtain ⟨e0, e1, e2, e3, e4, e5⟩ := hagree c
      obtain ⟨C, W, X, T, g, f, H⟩ := args _ _ _ _ _ _ (hpre c)
    · rw [LossReferenceIdeal.Read.val_main_v70_eq, e0, e1, e2, e3, e4, e5]
      refine Eq.trans (funext fun x => ?_) (LossKernelRun.final6 H).symm
      exact (congrArg _ (eq_ix2 x)).trans (LossRef.v70 H _ _)
    · rw [LossReferenceIdeal.Read.val_main_v72_eq, e0, e1, e2, e3, e4, e5]
      refine Eq.trans (funext fun x => ?_) (LossKernelRun.final7 H).symm
      exact (congrArg _ (eq_ix2 x)).trans (LossRef.v72 H _ _)
    · rw [LossReferenceIdeal.Read.val_main_v73_eq, e0, e1, e2, e3, e4, e5]
      refine Eq.trans (funext fun x => ?_) (LossKernelRun.final8 H).symm
      exact (congrArg _ (LossKernelRun.row_ix x)).trans (LossRef.v73 H _)
    · rw [LossReferenceIdeal.Read.val_main_v69_eq, e0, e1, e2, e3, e4, e5]
      refine Eq.trans (funext fun x => ?_) (LossKernelRun.final9 H).symm
      exact (congrArg _ (LossKernelRun.row_ix x)).trans (LossRef.v69 H _)
    · rw [LossReferenceIdeal.Read.val_main_v74_eq, e0, e1, e2, e3, e4, e5]
      refine Eq.trans (funext fun x => ?_) (LossKernelRun.final10 H).symm
      refine (congrArg _ (LossKernelRun.one_ix x)).trans ((LossRef.v74 H).trans ?_)
      rw [Finset.mul_sum]

end Cert.LossClaim

end
-- ==== Proof.InpSpec.lean ====
/- The gradient of the input projection and of the modulated RMS normalisation before it, row by row, in the reals. -/
module

public import proofs.«01_k».proof.Proof.RmsRow

@[expose] public section

noncomputable section

namespace Cert.InpSpec

open scoped BigOperators

variable (Z W : Fin 2048 → Fin 5376 → ℝ) (X : Fin 2048 → Fin 2048 → ℝ) (n s : Fin 2048 → ℝ)

/-- The gradient along the projection's input, which is also the shift's. -/
def dh (i j : Fin 2048) : ℝ := ∑ k, Z i k * W j k

/-- The gradient along the modulation's input. -/
def dn (i j : Fin 2048) : ℝ := dh Z W i j * (1 + s j)

/-- The gradient along the residual, the projection's part. -/
def dx (i j : Fin 2048) : ℝ := RmsRow.back (X i) (fun k => dn Z W s i k * n k) j

/-- The scale's gradient, one row's part. -/
def dscale (i j : Fin 2048) : ℝ := dh Z W i j * (X i j * RmsRow.r (X i) * n j)

/-- The gain's gradient, one row's part. -/
def dgain (i j : Fin 2048) : ℝ := dn Z W s i j * (X i j * RmsRow.r (X i))

open Idealize.ShloMosaic in
/-- The arguments are these reals; of the modulation only its second third is read, and the gradient `D` from the
    later layers may be any. -/
structure Args (Z W : Fin 2048 → Fin 5376 → ℝ) (X : Fin 2048 → Fin 2048 → ℝ) (D : Fin 2048 → Fin 2048 → EReal) (n s : Fin 2048 → ℝ)
    (x0 : FVec Ideal ⟨2, ![2048, 5376]⟩ .bf16) (x1 : FVec Ideal ⟨3, ![1, 2048, 5376]⟩ .f32) (x2 : FVec Ideal ⟨3, ![1, 2048, 2048]⟩ .f32)
    (x3 : FVec Ideal ⟨2, ![2048, 2048]⟩ .f32) (x4 : FVec Ideal ⟨2, ![1, 2048]⟩ .f32) (x5 : FVec Ideal ⟨2, ![1, 6144]⟩ .f32) : Prop where
  h0 : ∀ i k, x0 (ix2 i k) = (Z i k : EReal)
  h1 : ∀ j k, x1 (ix3 0 j k) = (W j k : EReal)
  h2 : ∀ i j, x2 (ix3 0 i j) = (X i j : EReal)
  h3 : ∀ i j, x3 (ix2 i j) = D i j
  h4 : ∀ j, x4 (ix2 0 j) = (n j : EReal)
  h5 : ∀ j : Fin 2048, x5 (ix2 0 ⟨2048 + j, by omega⟩) = (s j : EReal)

end Cert.InpSpec

end
-- ==== Proof.InpRef.lean ====
/- What the reference of the input projection's gradient computes on real arguments. -/
module

public import proofs.«01_k».proof.Proof.Gen.InpReferenceIdeal.Read
public import proofs.«01_k».proof.Proof.InpSpec
public import Idealize.ShloMosaic.Lib.Pointwise

@[expose] public section

set_option maxRecDepth 16384

noncomputable section

namespace Cert.InpRef

open Cert.InpReferenceIdeal Cert.InpReferenceIdeal.Gen Cert.InpReferenceIdeal.Read Idealize.ShloMosaic Idealize.ShloMosaic.TcCoe Idealize.SL.Sem
open Cert.Reals Cert.InpSpec

variable {Z W : Fin 2048 → Fin 5376 → ℝ} {X : Fin 2048 → Fin 2048 → ℝ} {D : Fin 2048 → Fin 2048 → EReal} {n s : Fin 2048 → ℝ}
variable {x0 : FVec Ideal S2048x5376 .bf16} {x1 : FVec Ideal S1x2048x5376 .f32} {x2 : FVec Ideal S1x2048x2048 .f32}
variable {x3 : FVec Ideal S2048x2048 .f32} {x4 : FVec Ideal S1x2048 .f32} {x5 : FVec Ideal S1x6144 .f32}
variable (H : Args Z W X D n s x0 x1 x2 x3 x4 x5)
include H

theorem v10 (i : Fin 2048) : val_main_v10 (F := Ideal) x2 (ix3 0 i 0) = (RmsRow.ms (X i) : EReal) := by
  pointwise [val_main_v10, val_main_v9, val_main_v8, val_main_v7, val_main_v6, val_main_v5, val_main_v4, val_main_cst, val_main_cst_0, val_main_cst_1]
  simp only [H.h2, bits_2048, bits_eps, ← EReal.coe_mul, coe_sum]
  rw [coe_div _ _ (by norm_num), ← EReal.coe_add]
  rfl

theorem v11 (i : Fin 2048) : val_main_v11 (F := Ideal) x2 (ix3 0 i 0) = (RmsRow.r (X i) : EReal) := by
  pointwise [val_main_v11]
  rw [v10 H, coe_rsqrt _ (RmsRow.ms_pos _)]
  rfl

theorem v14 (i : Fin 2048) : val_main_v14 (F := Ideal) x2 (ix3 0 i 0) = ((-(1 / 2) * (RmsRow.r (X i) / RmsRow.ms (X i)) : ℝ) : EReal) := by
  pointwise [val_main_v14, val_main_v13, val_main_v12, val_main_cst_2]
  rw [v10 H, v11 H, coe_div _ _ (RmsRow.ms_ne _), bits_neg_half, ← EReal.coe_mul]

theorem v16 (i j : Fin 2048) : val_main_v16 (F := Ideal) x2 (ix3 0 i j) = ((X i j * RmsRow.r (X i) : ℝ) : EReal) := by
  pointwise [val_main_v16, val_main_v15]
  rw [H.h2, v11 H, ← EReal.coe_mul]

theorem v33 (i j : Fin 2048) : val_main_v33 (F := Ideal) x0 x1 (ix3 0 i j) = (dh Z W i j : EReal) := by
  pointwise [val_main_v33, val_main_v31, val_main_v30, val_main_v28]
  simp only [H.h0, H.h1, ← EReal.coe_mul, coe_sum]
  rfl

theorem v42 (i j : Fin 2048) : val_main_v42 (F := Ideal) x0 x1 x5 (ix3 0 i j) = (dn Z W s i j : EReal) := by
  pointwise [val_main_v42, val_main_v41, val_main_v22, val_main_v21, val_main_v20, val_main_v1, val_main_cst_3]
  simp only [v33 H, H.h5, bits_one, ← EReal.coe_mul, ← EReal.coe_add]
  rfl

theorem v49 (i j : Fin 2048) : val_main_v49 (F := Ideal) x0 x1 x4 x5 (ix3 0 i j) = ((dn Z W s i j * n j : ℝ) : EReal) := by
  pointwise [val_main_v49, val_main_v48, val_main_v17, val_main_v3]
  rw [v42 H, H.h4, ← EReal.coe_mul]

theorem v61 (i : Fin 2048) : val_main_v61 (F := Ideal) x0 x1 x2 x4 x5 (ix2 0 i)
    = (((∑ k, X i k * (dn Z W s i k * n k)) * (-(1 / 2) * (RmsRow.r (X i) / RmsRow.ms (X i))) / 2048 : ℝ) : EReal) := by
  pointwise [val_main_v61, val_main_v60, val_main_v59, val_main_v58, val_main_v57, val_main_v53, val_main_v52, val_main_v51, val_main_cst_10, val_main_cst_11, val_main_cst_12, hostReduceAdd_1n1]
  simp only [H.h2, v49 H, ← EReal.coe_mul, coe_sum]
  rw [v14 H, ← EReal.coe_mul, bits_2048, coe_div _ _ (by norm_num)]

theorem v68 (i j : Fin 2048) : val_main_v68 (F := Ideal) x0 x1 x2 x3 x4 x5 (ix2 i j) = D i j + (dx Z W X n s i j : EReal) := by
  pointwise [val_main_v68, val_main_v66, val_main_v65, val_main_v64, val_main_v63, val_main_v62, val_main_v56, val_main_v55, val_main_v54, val_main_v32]
  simp only [H.h2, H.h3, v49 H, v11 H, v61 H, ← EReal.coe_mul, add_assoc, ← EReal.coe_add]
  rw [dx, ← RmsRow.back_eq _ (fun k => dn Z W s i k * n k)]
  simp only [add_assoc]

theorem v37 (j : Fin 2048) : val_main_v37 (F := Ideal) x0 x1 (ix2 0 j) = ((∑ i, dh Z W i j : ℝ) : EReal) := by
  pointwise [val_main_v37, val_main_v36, val_main_v35, val_main_v34, val_main_cst_4, val_main_cst_5, hostReduceAdd_11n]
  simp only [v33 H, coe_sum]

theorem v44 (j : Fin 2048) : val_main_v44 (F := Ideal) x0 x1 x2 x4 (ix2 0 j) = ((∑ i, dscale Z W X n i j : ℝ) : EReal) := by
  pointwise [val_main_v44, val_main_v43, val_main_v40, val_main_v39, val_main_v38, val_main_v19, val_main_v18, val_main_v17, val_main_v3, val_main_cst_6, val_main_cst_7, hostReduceAdd_11n]
  simp only [v33 H, v16 H, H.h4, ← EReal.coe_mul, coe_sum]
  congr 1
  exact Finset.sum_congr rfl fun i _ => mul_comm _ _

theorem v67 (j : Fin 2048) : val_main_v67 (F := Ideal) x0 x1 x2 x5 (ix2 0 j) = ((∑ i, dgain Z W X s i j : ℝ) : EReal) := by
  pointwise [val_main_v67, val_main_v50, val_main_v47, val_main_v46, val_main_v45, val_main_cst_8, val_main_cst_9, hostReduceAdd_11n]
  simp only [v16 H, v42 H, ← EReal.coe_mul, coe_sum]
  congr 1
  exact Finset.sum_congr rfl fun i _ => mul_comm _ _

end Cert.InpRef

end
-- ==== Proof.InpKernel.lean ====
/- What the kernel of the input projection's gradient leaves in its result arrays, on real arguments. -/
module

public import proofs.«01_k».proof.Proof.Gen.InpKernelIdeal.Frame
public import proofs.«01_k».proof.Proof.InpSpec
public import Idealize.ShloMosaic.Lib.Pipeline.ValueKit
public import Idealize.ShloMosaic.Lib.Pointwise

@[expose] public section

set_option maxRecDepth 16384

noncomputable section

namespace Cert.InpKernelRun

open Cert.InpKernelIdeal Cert.InpKernelIdeal.Gen Idealize.ShloMosaic Idealize.ShloMosaic.TcCoe Idealize.SL.Sem
open Idealize.ShloMosaic.Pipeline (Dat)
open Cert.Reals Cert.InpSpec

section Block

variable {Z W : Fin 2048 → Fin 5376 → ℝ} {X : Fin 2048 → Fin 2048 → ℝ} {D : Fin 2048 → Fin 2048 → EReal} {n s : Fin 2048 → ℝ} {ρ : Fin 256 → Fin 2048}
variable {v3 : Vec Ideal S256x5376 .bf16} {v4 : Vec Ideal S5376x2048 .bf16} {v7 v49 : Vec Ideal S256x2048 .f32} {v9 v35 : Vec Ideal S1x2048 .f32}

/-- The blocks one grid point reads are these reals, its rows being the rows `ρ`. -/
structure Blk (Z W : Fin 2048 → Fin 5376 → ℝ) (X : Fin 2048 → Fin 2048 → ℝ) (D : Fin 2048 → Fin 2048 → EReal) (n s : Fin 2048 → ℝ)
    (ρ : Fin 256 → Fin 2048) (v3 : Vec Ideal S256x5376 .bf16) (v4 : Vec Ideal S5376x2048 .bf16) (v7 v49 : Vec Ideal S256x2048 .f32)
    (v9 v35 : Vec Ideal S1x2048 .f32) : Prop where
  h3 : ∀ (i : Fin 256) (k : Fin 5376), v3 (ix2 i k) = (Z (ρ i) k : EReal)
  h4 : ∀ (k : Fin 5376) (j : Fin 2048), v4 (ix2 k j) = (W j k : EReal)
  h7 : ∀ (i : Fin 256) (j : Fin 2048), v7 (ix2 i j) = (X (ρ i) j : EReal)
  h49 : ∀ (i : Fin 256) (j : Fin 2048), v49 (ix2 i j) = D (ρ i) j
  h9 : ∀ j : Fin 2048, v9 (ix2 (0 : Fin 1) j) = (n j : EReal)
  h35 : ∀ j : Fin 2048, v35 (ix2 (0 : Fin 1) j) = (s j : EReal)

variable (H : Blk Z W X D n s ρ v3 v4 v7 v49 v9 v35)
include H

theorem pay7 (i : Fin 256) (j : Fin 2048) : k0_pay7 (F := Ideal) v3 v4 (ix2 i j) = (dh Z W (ρ i) j : EReal) := by
  pointwise [k0_pay7]
  simp only [H.h3, H.h4, ← EReal.coe_mul, coe_sum]
  rfl

theorem pay8 (i : Fin 256) (j : Fin 2048) : k0_pay8 (F := Ideal) v7 (ix2 i j) = (X (ρ i) j : EReal) := by
  pointwise [k0_pay8]
  exact H.h7 i j

theorem pay9 (i : Fin 256) : k0_pay9 (F := Ideal) v7 (ix2 i 0) = (RmsRow.r (X (ρ i)) : EReal) := by
  pointwise [k0_pay9]
  simp only [pay8 H, bits_2048, bits_eps, ← EReal.coe_mul, coe_sum]
  rw [coe_div _ _ (by norm_num), ← EReal.coe_add]
  exact coe_rsqrt _ (RmsRow.ms_pos _)

theorem pay10 (i : Fin 256) (j : Fin 2048) : k0_pay10 (F := Ideal) v7 (ix2 i j) = ((X (ρ i) j * RmsRow.r (X (ρ i)) : ℝ) : EReal) := by
  pointwise [k0_pay10]
  rw [pay8 H, pay9 H, ← EReal.coe_mul]

theorem pay1 (i : Fin 256) (j : Fin 2048) : k0_pay1 (F := Ideal) (k0_pay7 v3 v4) v35 (ix2 i j) = (dn Z W s (ρ i) j : EReal) := by
  pointwise [k0_pay1]
  rw [pay7 H, H.h35, ← EReal.coe_one, ← EReal.coe_add, ← EReal.coe_mul]
  rfl

theorem pay3 (i : Fin 256) (j : Fin 2048) :
    k0_pay3 (F := Ideal) (k0_pay7 v3 v4) (k0_pay8 v7) v9 (k0_pay9 v7) (k0_pay10 v7) v35 v49 (ix2 i j)
      = D (ρ i) j + (dx Z W X n s (ρ i) j : EReal) := by
  pointwise [k0_pay3]
  simp only [pay1 H, pay8 H, pay9 H, pay10 H, H.h9, H.h49, bits_2048, ← EReal.coe_mul, coe_sum]
  rw [coe_div _ _ (by norm_num), ← EReal.coe_mul, ← EReal.coe_mul, sub_eq_add_neg, add_assoc, ← EReal.coe_neg, ← EReal.coe_add, ← sub_eq_add_neg]
  rfl

theorem pay11 (v20 : Vec Ideal S1x2048 .f32) (j : Fin 2048) :
    k0_pay11 (F := Ideal) v3 v4 v20 (ix2 0 j) = v20 (ix2 0 j) + ((∑ i, dh Z W (ρ i) j : ℝ) : EReal) := by
  pointwise [k0_pay11]
  simp only [pay7 H, coe_sum]

theorem pay12 (v26 : Vec Ideal S1x2048 .f32) (j : Fin 2048) :
    k0_pay12 (F := Ideal) v3 v4 v7 v9 v26 (ix2 0 j) = v26 (ix2 0 j) + ((∑ i, dscale Z W X n (ρ i) j : ℝ) : EReal) := by
  pointwise [k0_pay12]
  simp only [pay7 H, pay10 H, H.h9, ← EReal.coe_mul, coe_sum]
  rfl

theorem pay2 (v40 : Vec Ideal S1x2048 .f32) (j : Fin 2048) :
    k0_pay2 (F := Ideal) (k0_pay7 v3 v4) (k0_pay10 v7) v35 v40 (ix2 0 j) = v40 (ix2 0 j) + ((∑ i, dgain Z W X s (ρ i) j : ℝ) : EReal) := by
  pointwise [k0_pay2]
  simp only [pay1 H, pay10 H, ← EReal.coe_mul, coe_sum]
  rfl

end Block

variable (m : (ℓ : Loc nD τ sig) → Buf (Elt Ideal) ℓ) (c : Dev nD)
variable {Z W : Fin 2048 → Fin 5376 → ℝ} {X : Fin 2048 → Fin 2048 → ℝ} {D : Fin 2048 → Fin 2048 → EReal} {n s : Fin 2048 → ℝ}

/-- The row of the arrays that row `i` of point `t`'s blocks is. -/
def row (t : Fin cfg0.N) (i : Fin 256) : Fin 2048 := ⟨t.val * 256 + i.val, by have h : t.val < 8 := t.isLt; omega⟩

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![0, 0] :=
  (by decide +kernel : ∀ t : Fin grid0.N, _)

/-- The arguments of the run are these reals. -/
abbrev Reads (Z W : Fin 2048 → Fin 5376 → ℝ) (X : Fin 2048 → Fin 2048 → ℝ) (D : Fin 2048 → Fin 2048 → EReal) (n s : Fin 2048 → ℝ) : Prop :=
  Args Z W X D n s (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable {m c} (H : Reads m c Z W X D n s)
include H

/-- What a grid point's blocks hold. -/
theorem blk (t : Fin cfg0.N) : Blk Z W X D n s (row t) (iblk m c 0 t) (iblk m c 1 t) (iblk m c 2 t) (iblk m c 3 t) (iblk m c 4 t)
    (View.ld (iblk m c 5 t) (Rect.unit ![0, 2048] ![1, 2048] inb_S1x6144_S1x2048_0_2048)) where
  h3 i k := by rw [← H.h0, row]; blk_point [iblk, V, idx t]
  h4 k j := by rw [← H.h1]; blk_point [iblk, V, idx t]
  h7 i j := by rw [← H.h2, row]; blk_point [iblk, V, idx t]
  h49 i j := by rw [← H.h3, row]; blk_point [iblk, V, idx t]
  h9 j := by rw [← H.h4]; blk_point [iblk, V, idx t]
  h35 j := by rw [← H.h5]; pointwise []; blk_point [iblk, V, idx t]

theorem out6 (t : Fin cfg0.N) (y : S256x2048.Idx) :
    (outsAt0 m c t.val t.isLt).1 y = D (row t (y 0)) (y 1) + (dx Z W X n s (row t (y 0)) (y 1) : EReal) := by
  rw [eq_ix2 y]
  by_cases h : t.val % 8 = 0
  · rw [outsAt0_A m c t h]; frame_out; exact pay3 (blk H t) _ _
  · rw [outsAt0_B m c t h]; frame_out; exact pay3 (blk H t) _ _

theorem final6 : (dats m 0 c).arrAt 6 cfg0.N = fun x => D (x 0) (x 1) + (dx Z W X n s (x 0) (x 1) : EReal) := by
  refine (dats m 0 c).arrAt_eq_of_covers 6 _ (by decide +kernel) fun t _ y => ?_
  blk_simp
  have e : (win0_6.blk t).view.emb y = ix2 (row t (y 0)) (y 1) := by blk_ext [idx t, row]
  rw [after0_6, out6 H, e]
  rfl

omit H in
/-- The points' shares of a sum over the rows make up the sum. -/
theorem sum_rows (q : Fin 2048 → ℝ) : ∑ t : Fin cfg0.N, ((∑ i, q (row t i) : ℝ) : EReal) = ((∑ i, q i : ℝ) : EReal) := by
  rw [coe_sum]
  congr 1
  exact Fin.sum_mul_add_congr (S := 8) (n := 256) (fun s k hl => rfl)

omit H in
theorem row_ix (y : S1x2048.Idx) : y = ix2 0 (y 1) :=
  (eq_ix2 y).trans (congrArg (ix2 · (y 1)) (Subsingleton.elim (α := Fin 1) _ _))

theorem step7_A (t : Fin cfg0.N) (h : t.val % 8 = 0) (y : S1x2048.Idx) :
    (outsAt0 m c t.val t.isLt).2.1 y = (fun _ => 0) y + ((∑ i, dh Z W (row t i) (y 1) : ℝ) : EReal) := by
  rw [outsAt0_A m c t h]; frame_out
  rw [row_ix y]
  refine (pay11 (blk H t) _ _).trans ?_
  congr 1
  pointwise [k0_pay4]

theorem step7_B (t : Fin cfg0.N) (h : ¬ t.val % 8 = 0) (y : S1x2048.Idx) :
    (outsAt0 m c t.val t.isLt).2.1 y
      = (outsAt0 m c (t.val - 1) (Nat.lt_of_le_of_lt (Nat.sub_le _ _) t.isLt)).2.1 y + ((∑ i, dh Z W (row t i) (y 1) : ℝ) : EReal) := by
  rw [outsAt0_B m c t h]; frame_out
  rw [row_ix y]
  exact pay11 (blk H t) _ _

theorem final7 : (dats m 0 c).arrAt 7 cfg0.N = fun x => ((∑ i, dh Z W i (x 1) : ℝ) : EReal) := by
  refine (dats m 0 c).arrAt_eq_of_after_last 7 t0_7 (by decide +kernel) _ fun y => ?_
  blk_simp
  rw [after0_7, Pipeline.eq_sum_fin_of_reset_step_apply_last (fun n h => (outsAt0 m c n h).2.1) 8 (fun _ => 0) _ (step7_A H) (step7_B H)
    (le_of_eq N_0) t0_7 rfl _, zero_add]
  exact sum_rows (fun i => dh Z W i (y 1))

theorem step8_A (t : Fin cfg0.N) (h : t.val % 8 = 0) (y : S1x2048.Idx) :
    (outsAt0 m c t.val t.isLt).2.2.1 y = (fun _ => 0) y + ((∑ i, dscale Z W X n (row t i) (y 1) : ℝ) : EReal) := by
  rw [outsAt0_A m c t h]; frame_out
  rw [row_ix y]
  refine (pay12 (blk H t) _ _).trans ?_
  congr 1
  pointwise [k0_pay5]

theorem step8_B (t : Fin cfg0.N) (h : ¬ t.val % 8 = 0) (y : S1x2048.Idx) :
    (outsAt0 m c t.val t.isLt).2.2.1 y
      = (outsAt0 m c (t.val - 1) (Nat.lt_of_le_of_lt (Nat.sub_le _ _) t.isLt)).2.2.1 y + ((∑ i, dscale Z W X n (row t i) (y 1) : ℝ) : EReal) := by
  rw [outsAt0_B m c t h]; frame_out
  rw [row_ix y]
  exact pay12 (blk H t) _ _

theorem final8 : (dats m 0 c).arrAt 8 cfg0.N = fun x => ((∑ i, dscale Z W X n i (x 1) : ℝ) : EReal) := by
  refine (dats m 0 c).arrAt_eq_of_after_last 8 t0_7 (by decide +kernel) _ fun y => ?_
  blk_simp
  rw [after0_8, Pipeline.eq_sum_fin_of_reset_step_apply_last (fun n h => (outsAt0 m c n h).2.2.1) 8 (fun _ => 0) _ (step8_A H) (step8_B H)
    (le_of_eq N_0) t0_7 rfl _, zero_add]
  exact sum_rows (fun i => dscale Z W X n i (y 1))

theorem step9_A (t : Fin cfg0.N) (h : t.val % 8 = 0) (y : S1x2048.Idx) :
    (outsAt0 m c t.val t.isLt).2.2.2 y = (fun _ => 0) y + ((∑ i, dgain Z W X s (row t i) (y 1) : ℝ) : EReal) := by
  rw [outsAt0_A m c t h]; frame_out
  rw [row_ix y]
  refine (pay2 (blk H t) _ _).trans ?_
  congr 1
  pointwise [k0_pay6]

theorem step9_B (t : Fin cfg0.N) (h : ¬ t.val % 8 = 0) (y : S1x2048.Idx) :
    (outsAt0 m c t.val t.isLt).2.2.2 y
      = (outsAt0 m c (t.val - 1) (Nat.lt_of_le_of_lt (Nat.sub_le _ _) t.isLt)).2.2.2 y + ((∑ i, dgain Z W X s (row t i) (y 1) : ℝ) : EReal) := by
  rw [outsAt0_B m c t h]; frame_out
  rw [row_ix y]
  exact pay2 (blk H t) _ _

theorem final9 : (dats m 0 c).arrAt 9 cfg0.N = fun x => ((∑ i, dgain Z W X s i (x 1) : ℝ) : EReal) := by
  refine (dats m 0 c).arrAt_eq_of_after_last 9 t0_7 (by decide +kernel) _ fun y => ?_
  blk_simp
  rw [after0_9, Pipeline.eq_sum_fin_of_reset_step_apply_last (fun n h => (outsAt0 m c n h).2.2.2) 8 (fun _ => 0) _ (step9_A H) (step9_B H)
    (le_of_eq N_0) t0_7 rfl _, zero_add]
  exact sum_rows (fun i => dgain Z W X s i (y 1))

end Cert.InpKernelRun

end
-- ==== Proof.InpClaim.lean ====
/- The kernel of the input projection's gradient leaves what its reference computes. -/
module

public import proofs.«01_k».proof.Defs
public import proofs.«01_k».proof.Proof.Gen.InpReferenceIdeal.Run
public import proofs.«01_k».proof.Proof.Gen.Pre_inp_finite
public import proofs.«01_k».proof.Proof.Finite
public import proofs.«01_k».proof.Proof.InpRef
public import proofs.«01_k».proof.Proof.InpKernel
public import Idealize.ShloMosaic.Lib.Claim

@[expose] public section

set_option maxRecDepth 16384

noncomputable section

namespace Cert.InpClaim

open Idealize.ShloMosaic Idealize.ShloMosaic.TcCoe Idealize.SL.Sem

/-- Arguments that pass the finiteness test are reals. -/
theorem args (x0 : FVec Ideal ⟨2, ![2048, 5376]⟩ .bf16) (x1 : FVec Ideal ⟨3, ![1, 2048, 5376]⟩ .f32) (x2 : FVec Ideal ⟨3, ![1, 2048, 2048]⟩ .f32)
    (x3 : FVec Ideal ⟨2, ![2048, 2048]⟩ .f32) (x4 : FVec Ideal ⟨2, ![1, 2048]⟩ .f32) (x5 : FVec Ideal ⟨2, ![1, 6144]⟩ .f32)
    (h : Cert.Pre_inp_finite.fn (F := Ideal) x0 x1 x2 x3 x4 x5 = fun _ => 1#1) :
    ∃ Z W X D n s, InpSpec.Args Z W X D n s x0 x1 x2 x3 x4 x5 := by
  have h := congrFun h ix0
  obtain ⟨h, h5⟩ := IntOp.andi_eq_one.1 h
  obtain ⟨h, h4⟩ := IntOp.andi_eq_one.1 h
  obtain ⟨h, h2⟩ := IntOp.andi_eq_one.1 h
  obtain ⟨h0, h1⟩ := IntOp.andi_eq_one.1 h
  choose Z hZ using Finite.exists_reals x0 _ Finite.bits_inf16 _ _ _ _ _ h0
  choose W hW using Finite.exists_reals x1 _ Finite.bits_inf _ _ _ _ _ h1
  choose X hX using Finite.exists_reals x2 _ Finite.bits_inf _ _ _ _ _ h2
  choose n hn using Finite.exists_reals x4 _ Finite.bits_inf _ _ _ _ _ h4
  choose s hs using Finite.exists_reals _ _ Finite.bits_inf _ _ _ _ _ h5
  refine ⟨fun i j => Z (ix2 i j), fun i j => W (ix3 0 i j), fun i j => X (ix3 0 i j), fun i j => x3 (ix2 i j), fun j => n (ix2 0 j), fun j => s (ix2 0 j),
    fun i j => hZ _, fun i j => hW _, fun i j => hX _, fun i j => rfl, fun j => hn _, fun j => ?_⟩
  rw [← hs]
  pointwise []

set_option maxHeartbeats 3200000 in
theorem algebraic : Cert.algebraic_InpKernelIdeal_InpReferenceIdeal_pre_inp_finite := by
  pair_intro
  · run_from Cert.InpKernelIdeal.Gen.run_main m g
  · run_from Cert.InpReferenceIdeal.Value.run m' g'
    all_goals
      obtain ⟨e0, e1, e2, e3, e4, e5⟩ := hagree c
      obtain ⟨Z, W, X, D, n, s, H⟩ := args _ _ _ _ _ _ (hpre c)
    · rw [InpReferenceIdeal.Read.val_main_v68_eq, e0, e1, e2, e3, e4, e5]
      refine Eq.trans (funext fun x => ?_) (InpKernelRun.final6 H).symm
      exact (congrArg _ (eq_ix2 x)).trans (InpRef.v68 H _ _)
    · rw [InpReferenceIdeal.Read.val_main_v37_eq]
      refine Eq.trans (funext fun x => ?_) (InpKernelRun.final7 H).symm
      exact (congrArg _ (InpKernelRun.row_ix x)).trans (InpRef.v37 H _)
    · rw [InpReferenceIdeal.Read.val_main_v44_eq]
      refine Eq.trans (funext fun x => ?_) (InpKernelRun.final8 H).symm
      exact (congrArg _ (InpKernelRun.row_ix x)).trans (InpRef.v44 H _)
    · rw [InpReferenceIdeal.Read.val_main_v67_eq]
      refine Eq.trans (funext fun x => ?_) (InpKernelRun.final9 H).symm
      exact (congrArg _ (InpKernelRun.row_ix x)).trans (InpRef.v67 H _)

end Cert.InpClaim

end
-- ==== Proof.Attn.lean ====
/- One query of the windowed attention with a sink: its softmax over 256 keys and the sink, and the gradients through it. -/
module

public import proofs.«01_k».proof.Proof.Reals

@[expose] public section

noncomputable section

namespace Cert.Attn

open Idealize.ShloMosaic
open Cert.Reals
open scoped BigOperators

/-- The logistic function. -/
def sig (x : ℝ) : ℝ := (1 + Real.exp (-x))⁻¹

/-- The gate `x ↦ x · sig x`. -/
def silu (x : ℝ) : ℝ := x * sig x

/-- The gate's derivative. -/
def dsilu (x : ℝ) : ℝ := sig x * (1 + x * (1 - sig x))

theorem coe_logistic (x : ℝ) : Ideal.logistic (x : EReal) = (sig x : EReal) := Ideal.logistic_coe x

theorem one_add_exp_ne (x : ℝ) : 1 + Real.exp (-x) ≠ 0 := (add_pos one_pos (Real.exp_pos _)).ne'

theorem inv_eq_sig (x : ℝ) : 1 / (1 + Real.exp (-x)) = sig x := one_div _

section Query

variable (K V : Fin 256 → Fin 64 → ℝ) (q u : Fin 64 → ℝ) (σ : ℝ) (M : Fin 256 → Bool)

/-- The score of key `s`, for a query that is scaled already. -/
def sc (s : Fin 256) : ℝ := ∑ d, K s d * q d

/-- The exponential of a visible key's score. -/
def wt (s : Fin 256) : ℝ := if M s then Real.exp (sc K q s) else 0

/-- The sum of the exponentials, the sink's among them. -/
def tot : ℝ := (∑ s, wt K q M s) + Real.exp σ

/-- The probability of key `s`. -/
def pr (s : Fin 256) : ℝ := wt K q M s / tot K q σ M

/-- The probability of the sink. -/
def prs : ℝ := Real.exp σ / tot K q σ M

/-- The attention's output in lane `d`. -/
def out (d : Fin 64) : ℝ := ∑ s, V s d * pr K q σ M s

/-- The gradient of the probability of key `s`, `u` being the output's gradient. -/
def dp (s : Fin 256) : ℝ := ∑ d, V s d * u d

/-- The probabilities' gradients, averaged. -/
def del : ℝ := ∑ s, pr K q σ M s * dp V u s

/-- The gradient of the score of key `s`. -/
def ds (s : Fin 256) : ℝ := pr K q σ M s * (dp V u s - del K V q u σ M)

/-- The gradient of the sink. -/
def dsk : ℝ := -(prs K q σ M * del K V q u σ M)

theorem wt_nonneg (s : Fin 256) : 0 ≤ wt K q M s := by
  unfold wt
  split
  · exact (Real.exp_pos _).le
  · exact le_rfl

theorem tot_pos : 0 < tot K q σ M :=
  add_pos_of_nonneg_of_pos (Finset.sum_nonneg fun s _ => wt_nonneg K q M s) (Real.exp_pos _)

theorem tot_ne : tot K q σ M ≠ 0 := (tot_pos K q σ M).ne'

variable {K q M} in
theorem wt_of_not {s : Fin 256} (h : M s = false) : wt K q M s = 0 := by simp [wt, h]

variable {K q σ M} in
theorem pr_of_not {s : Fin 256} (h : M s = false) : pr K q σ M s = 0 := by simp [pr, wt_of_not h]

variable {K V q u σ M} in
theorem ds_of_not {s : Fin 256} (h : M s = false) : ds K V q u σ M s = 0 := by simp [ds, pr_of_not h]

/-! ## The softmax, shifted by the greatest score -/

variable (m : ℝ)

/-- A score as the programs write it: minus infinity where the key is not visible. -/
def msc (s : Fin 256) : EReal := if M s then (sc K q s : EReal) else ⊥

variable {K q M} in
theorem msc_ne_top (s : Fin 256) : msc K q M s ≠ ⊤ := by
  unfold msc
  split
  · exact EReal.coe_ne_top _
  · exact bot_ne_top

/-- A visible key's exponential, shifted. -/
theorem exp_msc (s : Fin 256) : Ideal.exp (msc K q M s - (m : EReal)) = ((wt K q M s * Real.exp (-m) : ℝ) : EReal) := by
  unfold msc wt
  split
  · rw [← EReal.coe_sub, coe_exp, sub_eq_add_neg, Real.exp_add]
  · rw [EReal.bot_sub, zero_mul]
    rfl

theorem exp_sub : Ideal.exp ((σ : EReal) - (m : EReal)) = ((Real.exp σ * Real.exp (-m) : ℝ) : EReal) := by
  rw [← EReal.coe_sub, coe_exp, sub_eq_add_neg, Real.exp_add]

/-- The shifted exponentials' sum. -/
theorem sum_shift : (∑ s, wt K q M s * Real.exp (-m)) + Real.exp σ * Real.exp (-m) = tot K q σ M * Real.exp (-m) := by
  rw [← Finset.sum_mul, ← add_mul]
  rfl

theorem shift_ne : tot K q σ M * Real.exp (-m) ≠ 0 := mul_ne_zero (tot_ne K q σ M) (Real.exp_pos _).ne'

theorem pr_shift (s : Fin 256) : wt K q M s * Real.exp (-m) / (tot K q σ M * Real.exp (-m)) = pr K q σ M s :=
  mul_div_mul_right _ _ (Real.exp_pos _).ne'

theorem prs_shift : Real.exp σ * Real.exp (-m) / (tot K q σ M * Real.exp (-m)) = prs K q σ M :=
  mul_div_mul_right _ _ (Real.exp_pos _).ne'

end Query

/-- The logistic function as a quotient. -/
theorem div_exp (x : ℝ) : Ideal.div 1 (1 + Ideal.exp (-(x : EReal))) = (sig x : EReal) := by
  rw [← EReal.coe_neg, coe_exp, ← EReal.coe_one, ← EReal.coe_add, coe_div _ _ (one_add_exp_ne x), inv_eq_sig]

theorem dsilu_form (a x : ℝ) : a * sig x + x * a * (sig x * (1 - sig x)) = a * dsilu x := by
  unfold dsilu
  ring

/-- A running maximum of values below plus infinity is below plus infinity. -/
theorem fold_max_ne_top {n : ℕ} (f : Fin n → EReal) (h : ∀ s, f s ≠ ⊤) : Finset.univ.fold max ⊥ f ≠ ⊤ :=
  ne_of_lt ((Finset.fold_max_lt _).mpr ⟨bot_lt_top, fun s _ => lt_of_le_of_ne le_top (h s)⟩)

/-- A maximum with a real is real. -/
theorem max_real {x : EReal} (h : x ≠ ⊤) (r : ℝ) : ((max x (r : EReal)).toReal : EReal) = max x (r : EReal) := by
  refine EReal.coe_toReal ?_ ?_
  · exact ne_of_lt (max_lt (lt_of_le_of_ne le_top h) (EReal.coe_lt_top r))
  · exact ne_of_gt (lt_of_lt_of_le (EReal.bot_lt_coe r) (le_max_right _ _))

/-- A running maximum of values below plus infinity, one of them a real, is real. -/
theorem fold_real {n : ℕ} (f : Fin n → EReal) (h : ∀ s, f s ≠ ⊤) (k : Fin n) (hk : f k ≠ ⊥) :
    ((Finset.univ.fold max ⊥ f).toReal : EReal) = Finset.univ.fold max ⊥ f := by
  refine EReal.coe_toReal (fold_max_ne_top f h) ?_
  refine ne_of_gt (lt_of_lt_of_le (bot_lt_iff_ne_bot.mpr hk) ?_)
  exact (Finset.le_fold_max _).mpr (Or.inr ⟨k, Finset.mem_univ k, le_rfl⟩)

theorem bits_bot : Ideal.ofBits .f32 4286578688#32 = (⊥ : EReal) := by
  simp [Ideal.ofBits, Ideal.ieee]

theorem bits_1024 : Ideal.ofBits .f32 1149239296#32 = ((1024 : ℝ) : EReal) := by
  rw [ieee_normal _ false 137 0 (by decide) (by decide) (by decide) (by decide) (by decide)]
  refine congrArg (fun r : ℝ => (r : EReal)) ?_
  norm_num

theorem bits_eighth : Ideal.ofBits .f32 1040187392#32 = ((1 / 8 : ℝ) : EReal) := by
  rw [ieee_normal _ false 124 0 (by decide) (by decide) (by decide) (by decide) (by decide)]
  refine congrArg (fun r : ℝ => (r : EReal)) ?_
  norm_num

end Cert.Attn

end
-- ==== Proof.LnRow.lean ====
/- The normalisation of one row by its mean and variance, and the gradient through it. -/
module

public import proofs.«01_k».proof.Proof.Reals

@[expose] public section

noncomputable section

namespace Cert.LnRow

open scoped BigOperators

/-- The mean of a row. -/
def mean (x : Fin 1024 → ℝ) : ℝ := (∑ j, x j) / 1024

/-- The variance of a row, plus the small number. -/
def vr (x : Fin 1024 → ℝ) : ℝ := (∑ j, (x j - mean x) * (x j - mean x)) / 1024 + Reals.eps

/-- The reciprocal root of the variance. -/
def r (x : Fin 1024 → ℝ) : ℝ := (Real.sqrt (vr x))⁻¹

/-- The normalised row. -/
def hat (x : Fin 1024 → ℝ) (j : Fin 1024) : ℝ := (x j - mean x) * r x

/-- The gradient of `x ↦ hat x` along `a`, at lane `j`. -/
def back (x a : Fin 1024 → ℝ) (j : Fin 1024) : ℝ :=
  r x * (a j - (∑ k, a k) / 1024 - hat x j * ((∑ k, a k * hat x k) / 1024))

theorem vr_pos (x : Fin 1024 → ℝ) : 0 < vr x :=
  add_pos_of_nonneg_of_pos (div_nonneg (Finset.sum_nonneg fun j _ => mul_self_nonneg _) (by norm_num)) Reals.eps_pos

theorem vr_ne (x : Fin 1024 → ℝ) : vr x ≠ 0 := (vr_pos x).ne'

/-- The reciprocal root over the variance is the root's cube. -/
theorem r_div_vr (x : Fin 1024 → ℝ) : r x / vr x = r x * r x * r x := by
  have h : Real.sqrt (vr x) * Real.sqrt (vr x) = vr x := Real.mul_self_sqrt (vr_pos x).le
  have h0 : Real.sqrt (vr x) ≠ 0 := (Real.sqrt_pos.mpr (vr_pos x)).ne'
  unfold r
  rw [← h]
  simp only [Real.sqrt_mul_self (Real.sqrt_nonneg _)]
  field_simp

/-- The deviations from the mean have sum zero. -/
theorem sum_dev (x : Fin 1024 → ℝ) : ∑ j, (x j - mean x) = 0 := by
  rw [Finset.sum_sub_distrib, Finset.sum_const, Finset.card_univ, Fintype.card_fin, mean, nsmul_eq_mul]
  push_cast
  ring

/-- The gradient through the variance alone, as the reverse rule writes it. -/
def thru (x a : Fin 1024 → ℝ) : ℝ := (∑ k, (x k - mean x) * a k) * (-(1 / 2) * (r x / vr x)) / 1024

/-- The gradient as the reverse rule writes it: through the deviations, through the variance, and through the mean. -/
theorem back_eq (x a : Fin 1024 → ℝ) (j : Fin 1024) :
    a j * r x + thru x a * (2 * (x j - mean x))
      + ((∑ k, -(a k * r x)) + ∑ k, -(thru x a * (2 * (x k - mean x)))) / 1024 = back x a j := by
  have h1 : ∑ k, -(a k * r x) = -((∑ k, a k) * r x) := by rw [Finset.sum_neg_distrib, Finset.sum_mul]
  have h2 : ∑ k, -(thru x a * (2 * (x k - mean x))) = 0 := by
    rw [Finset.sum_neg_distrib, ← Finset.mul_sum, ← Finset.mul_sum, sum_dev]
    simp
  have h3 : ∑ k, a k * hat x k = (∑ k, (x k - mean x) * a k) * r x := by
    rw [Finset.sum_mul]
    exact Finset.sum_congr rfl fun k _ => by rw [hat]; ring
  rw [h1, h2, back, h3, hat, thru, r_div_vr]
  ring

end Cert.LnRow

end
-- ==== Proof.MixSpec.lean ====
/- The mixer over the reals: the windowed attention and the spatial gating, and the gradients through them. -/
module

public import proofs.«01_k».proof.Proof.Attn
public import proofs.«01_k».proof.Proof.LnRow

@[expose] public section

noncomputable section

namespace Cert.MixSpec

open Cert.Attn Idealize.ShloMosaic
open scoped BigOperators

/-- Row `r` of block `n`. -/
def tok (n : Fin 16) (r : Fin 128) : Fin 2048 := ⟨128 * n.val + r.val, by omega⟩

/-- A row's block. -/
def blk (t : Fin 2048) : Fin 16 := ⟨t.val / 128, by omega⟩

/-- A row's place in its block. -/
def row (t : Fin 2048) : Fin 128 := ⟨t.val % 128, by omega⟩

@[simp] theorem blk_tok (n : Fin 16) (r : Fin 128) : blk (tok n r) = n := Fin.ext (by simp only [blk, tok]; omega)

@[simp] theorem row_tok (n : Fin 16) (r : Fin 128) : row (tok n r) = r := Fin.ext (by simp only [row, tok]; omega)

@[simp] theorem tok_blk_row (t : Fin 2048) : tok (blk t) (row t) = t := Fin.ext (by simp only [blk, row, tok]; omega)

/-- The row that key `s` of block `n` lies in: the block before the own one, then the own one. -/
def keyTok (n : Fin 16) (s : Fin 256) : Fin 2048 :=
  if h : s.val < 128 then ⟨128 * (n.val - 1) + s.val, by omega⟩ else ⟨128 * n.val + (s.val - 128), by omega⟩

/-- The keys that query `r` of block `n` sees. -/
def vis (n : Fin 16) (r : Fin 128) (s : Fin 256) : Bool :=
  decide (r.val < s.val ∧ s.val ≤ r.val + 128 ∧ (128 ≤ s.val ∨ 0 < n.val))

/-- Lane `c` of the part that begins at `o`. -/
def lane (o : ℕ) (c : Fin 1024) (h : o ≤ 4352 := by omega) : Fin 5376 := ⟨o + c.val, by omega⟩

/-- Lane `d` of query head `g` of key head `h`. -/
def hd (h : Fin 2) (g : Fin 8) (d : Fin 64) : Fin 1024 := ⟨512 * h.val + 64 * g.val + d.val, by omega⟩

/-- Lane `d` of key head `h`, in the part that begins at `o`. -/
def kvLane (o : ℕ) (h : Fin 2) (d : Fin 64) (ho : o ≤ 5248 := by omega) : Fin 5376 := ⟨o + (64 * h.val + d.val), by omega⟩

/-- Query head `g` of key head `h`. -/
def qhead (h : Fin 2) (g : Fin 8) : Fin 16 := ⟨8 * h.val + g.val, by omega⟩

/-- A lane's group. -/
def grp (c : Fin 1024) : Fin 8 := ⟨c.val / 128, by omega⟩

/-- Lane `c` of group `g`. -/
def gl (g : Fin 8) (c : Fin 128) : Fin 1024 := ⟨128 * g.val + c.val, by omega⟩

@[simp] theorem grp_gl (g : Fin 8) (c : Fin 128) : grp (gl g c) = g := Fin.ext (by simp only [grp, gl]; omega)

/-- A lane's place in its group. -/
def sub (c : Fin 1024) : Fin 128 := ⟨c.val % 128, by omega⟩

@[simp] theorem sub_gl (g : Fin 8) (c : Fin 128) : sub (gl g c) = c := Fin.ext (by simp only [sub, gl]; omega)

@[simp] theorem gl_grp_sub (c : Fin 1024) : gl (grp c) (sub c) = c := Fin.ext (by simp only [sub, grp, gl]; omega)

/-! ## Indices as the arrays' reshapes write them -/

theorem mk_tok (n : Fin 16) (r : Fin 128) (h : n.val * 128 + r.val < 2048) : (⟨n.val * 128 + r.val, h⟩ : Fin 2048) = tok n r :=
  Fin.ext (by simp only [tok]; omega)

theorem mk_gl (g : Fin 8) (c : Fin 128) (h : g.val * 128 + c.val < 1024) : (⟨g.val * 128 + c.val, h⟩ : Fin 1024) = gl g c :=
  Fin.ext (by simp only [gl]; omega)

theorem mk_blk (t : Fin 2048) (h : t.val / 128 < 16) : (⟨t.val / 128, h⟩ : Fin 16) = blk t := rfl

theorem mk_row (t : Fin 2048) (h : t.val % 128 < 128) : (⟨t.val % 128, h⟩ : Fin 128) = row t := rfl

theorem mk_grp (c : Fin 1024) (h : c.val / 128 < 8) : (⟨c.val / 128, h⟩ : Fin 8) = grp c := rfl

theorem mk_sub (c : Fin 1024) (h : c.val % 128 < 128) : (⟨c.val % 128, h⟩ : Fin 128) = sub c := rfl

theorem mk_hd (h : Fin 2) (g : Fin 8) (d : Fin 64) (hh : h.val * 512 + g.val * 64 + d.val < 1024) :
    (⟨h.val * 512 + g.val * 64 + d.val, hh⟩ : Fin 1024) = hd h g d := Fin.ext (by simp only [hd]; omega)

/-- A sum over the rows, block by block. -/
theorem sum_tok {M : Type} [AddCommMonoid M] (f : Fin 2048 → M) : ∑ t, f t = ∑ n, ∑ r, f (tok n r) := by
  refine Eq.trans (Eq.symm ?_) (Fintype.sum_prod_type fun p : Fin 16 × Fin 128 => f (tok p.1 p.2))
  exact Fintype.sum_equiv ⟨fun p => tok p.1 p.2, fun t => (blk t, row t), fun p => by simp, fun t => by simp⟩ _ _ fun p => rfl

/-- What the mixer reads, over the reals: the projected rows, the gradient of its result, the sinks, the normalisation's scale and shift,
    and the gating's weights and shifts. -/
structure Data where
  Z : Fin 2048 → Fin 5376 → ℝ
  D : Fin 2048 → Fin 2048 → ℝ
  sk : Fin 16 → ℝ
  lg : Fin 1024 → ℝ
  lb : Fin 1024 → ℝ
  w : Fin 8 → Fin 128 → Fin 128 → ℝ
  b : Fin 8 → Fin 128 → ℝ

variable (I : Data)

variable {I} in
theorem coe_Z {a b : Fin 2048} {c d : Fin 5376} (h : a.val = b.val) (h' : c.val = d.val) : (I.Z a c : EReal) = (I.Z b d : EReal) := by
  rw [Fin.ext h, Fin.ext h']

variable {I} in
theorem coe_D {a b c d : Fin 2048} (h : a.val = b.val) (h' : c.val = d.val) : (I.D a c : EReal) = (I.D b d : EReal) := by
  rw [Fin.ext h, Fin.ext h']

/-! ## The attention -/

def keys (n : Fin 16) (h : Fin 2) (s : Fin 256) (d : Fin 64) : ℝ := I.Z (keyTok n s) (kvLane 1024 h d)

def vals (n : Fin 16) (h : Fin 2) (s : Fin 256) (d : Fin 64) : ℝ := I.Z (keyTok n s) (kvLane 1152 h d)

/-- A query, scaled. -/
def qry (n : Fin 16) (h : Fin 2) (g : Fin 8) (r : Fin 128) (d : Fin 64) : ℝ := I.Z (tok n r) (lane 0 (hd h g d)) * (1 / 8)

/-- The attention's gate. -/
def ga (t : Fin 2048) (c : Fin 1024) : ℝ := I.Z t (lane 1280 c)

/-- The gradient of the attention's output. -/
def dout (n : Fin 16) (h : Fin 2) (g : Fin 8) (r : Fin 128) (d : Fin 64) : ℝ :=
  I.D (tok n r) ⟨(hd h g d).val, by omega⟩ * silu (ga I (tok n r) (hd h g d))

def probs (n : Fin 16) (h : Fin 2) (g : Fin 8) (r : Fin 128) : Fin 256 → ℝ :=
  pr (keys I n h) (qry I n h g r) (I.sk (qhead h g)) (vis n r)

def att (n : Fin 16) (h : Fin 2) (g : Fin 8) (r : Fin 128) : Fin 64 → ℝ :=
  out (keys I n h) (vals I n h) (qry I n h g r) (I.sk (qhead h g)) (vis n r)

/-- The gradient of the scores. -/
def dsc (n : Fin 16) (h : Fin 2) (g : Fin 8) (r : Fin 128) : Fin 256 → ℝ :=
  ds (keys I n h) (vals I n h) (qry I n h g r) (dout I n h g r) (I.sk (qhead h g)) (vis n r)

/-- The gradient of the sink, one query's part. -/
def dsn (n : Fin 16) (h : Fin 2) (g : Fin 8) (r : Fin 128) : ℝ :=
  dsk (keys I n h) (vals I n h) (qry I n h g r) (dout I n h g r) (I.sk (qhead h g)) (vis n r)

def dq (n : Fin 16) (h : Fin 2) (g : Fin 8) (r : Fin 128) (d : Fin 64) : ℝ := (∑ s, keys I n h s d * dsc I n h g r s) * (1 / 8)

/-- What block `n` adds to the gradients of its 256 keys. -/
def dkp (n : Fin 16) (h : Fin 2) (s : Fin 256) (d : Fin 64) : ℝ := ∑ g, ∑ r, dsc I n h g r s * qry I n h g r d

/-- What block `n` adds to the gradients of its 256 values. -/
def dvp (n : Fin 16) (h : Fin 2) (s : Fin 256) (d : Fin 64) : ℝ := ∑ g, ∑ r, probs I n h g r s * dout I n h g r d

/-- A key's gradient: what its own block adds, and what the next one does. -/
def ofNext (f : Fin 16 → Fin 256 → ℝ) (n : Fin 16) (r : Fin 128) : ℝ :=
  f n ⟨128 + r.val, by omega⟩ + if h : n.val + 1 < 16 then f ⟨n.val + 1, h⟩ ⟨r.val, by omega⟩ else 0

def dk (n : Fin 16) (h : Fin 2) (r : Fin 128) (d : Fin 64) : ℝ := ofNext (fun n s => dkp I n h s d) n r

def dv (n : Fin 16) (h : Fin 2) (r : Fin 128) (d : Fin 64) : ℝ := ofNext (fun n s => dvp I n h s d) n r

def dga (n : Fin 16) (h : Fin 2) (g : Fin 8) (r : Fin 128) (d : Fin 64) : ℝ :=
  I.D (tok n r) ⟨(hd h g d).val, by omega⟩ * att I n h g r d * dsilu (ga I (tok n r) (hd h g d))

def dsink (h : Fin 2) (g : Fin 8) : ℝ := ∑ n, ∑ r, dsn I n h g r

/-! ## The gating -/

def uu (t : Fin 2048) (c : Fin 1024) : ℝ := I.Z t (lane 2304 c)

def vs (t : Fin 2048) (c : Fin 1024) : ℝ := I.Z t (lane 3328 c)

def gs (t : Fin 2048) (c : Fin 1024) : ℝ := I.Z t (lane 4352 c)

/-- The gradient of the gated branch. -/
def dc (t : Fin 2048) (c : Fin 1024) : ℝ := I.D t ⟨1024 + c.val, by omega⟩

/-- The normalised rows, scaled and shifted. -/
def vn (t : Fin 2048) (c : Fin 1024) : ℝ := LnRow.hat (vs I t) c * I.lg c + I.lb c

/-- The weights on and below the diagonal. -/
def tw (g : Fin 8) (i k : Fin 128) : ℝ := if k.val ≤ i.val then I.w g i k else 0

def mixed (t : Fin 2048) (c : Fin 1024) : ℝ := (∑ k, tw I (grp c) (row t) k * vn I (tok (blk t) k) c) + I.b (grp c) (row t)

def dgated (t : Fin 2048) (c : Fin 1024) : ℝ := dc I t c * silu (gs I t c)

def dmixed (t : Fin 2048) (c : Fin 1024) : ℝ := dgated I t c * uu I t c

def dvn (t : Fin 2048) (c : Fin 1024) : ℝ := ∑ i, tw I (grp c) i (row t) * dmixed I (tok (blk t) i) c

def du (t : Fin 2048) (c : Fin 1024) : ℝ := dgated I t c * mixed I t c

def dgs (t : Fin 2048) (c : Fin 1024) : ℝ := dc I t c * (uu I t c * mixed I t c) * dsilu (gs I t c)

def dvs (t : Fin 2048) (c : Fin 1024) : ℝ := LnRow.back (vs I t) (fun k => dvn I t k * I.lg k) c

def dlg (c : Fin 1024) : ℝ := ∑ n, ∑ r, dvn I (tok n r) c * LnRow.hat (vs I (tok n r)) c

def dlb (c : Fin 1024) : ℝ := ∑ n, ∑ r, dvn I (tok n r) c

/-- What block `n` adds to the gradient of the gating's weights. -/
def dwp (n : Fin 16) (g : Fin 8) (i k : Fin 128) : ℝ := if k.val ≤ i.val then ∑ c, dmixed I (tok n i) (gl g c) * vn I (tok n k) (gl g c) else 0

def dw (g : Fin 8) (i k : Fin 128) : ℝ := ∑ n, dwp I n g i k

def db (g : Fin 8) (i : Fin 128) : ℝ := ∑ n, ∑ c, dmixed I (tok n i) (gl g c)

/-! ## The results -/

/-- The mixer's result: the gated attention, then the gated branch. -/
def cat (t : Fin 2048) (c : Fin 2048) : ℝ :=
  if h : c.val < 1024 then
    att I (blk t) ⟨c.val / 512, by omega⟩ ⟨c.val / 64 % 8, by omega⟩ (row t) ⟨c.val % 64, by omega⟩ * silu (ga I t ⟨c.val, h⟩)
  else uu I t ⟨c.val - 1024, by omega⟩ * mixed I t ⟨c.val - 1024, by omega⟩ * silu (gs I t ⟨c.val - 1024, by omega⟩)

/-- The gradient of the mixer's input: queries, keys, values, the attention's gate, and the gated branch's three parts. -/
def dz (t : Fin 2048) (c : Fin 5376) : ℝ :=
  if h : c.val < 1024 then dq I (blk t) ⟨c.val / 512, by omega⟩ ⟨c.val / 64 % 8, by omega⟩ (row t) ⟨c.val % 64, by omega⟩
  else if h : c.val - 1024 < 128 then dk I (blk t) ⟨(c.val - 1024) / 64, by omega⟩ (row t) ⟨(c.val - 1024) % 64, by omega⟩
  else if h : c.val - 1024 - 128 < 128 then
    dv I (blk t) ⟨(c.val - 1024 - 128) / 64, by omega⟩ (row t) ⟨(c.val - 1024 - 128) % 64, by omega⟩
  else if h : c.val - 1024 - 128 - 128 < 1024 then
    dga I (blk t) ⟨(c.val - 1024 - 128 - 128) / 512, by omega⟩ ⟨(c.val - 1024 - 128 - 128) / 64 % 8, by omega⟩ (row t)
      ⟨(c.val - 1024 - 128 - 128) % 64, by omega⟩
  else if h : c.val - 1024 - 128 - 128 - 1024 < 1024 then du I t ⟨c.val - 1024 - 128 - 128 - 1024, h⟩
  else if h : c.val - 1024 - 128 - 128 - 1024 - 1024 < 1024 then dvs I t ⟨c.val - 1024 - 128 - 128 - 1024 - 1024, h⟩
  else dgs I t ⟨c.val - 1024 - 128 - 128 - 1024 - 1024 - 1024, by omega⟩

/-- The arrays of the mixer's forward call are these reals. -/
structure Args (x0 : FVec Ideal ⟨2, ![2048, 5376]⟩ .f32) (x2 : FVec Ideal ⟨2, ![1, 16]⟩ .f32) (x3 x4 : FVec Ideal ⟨2, ![1, 1024]⟩ .f32)
    (x5 : FVec Ideal ⟨4, ![1, 8, 128, 128]⟩ .f32) (x6 : FVec Ideal ⟨3, ![1, 8, 128]⟩ .f32) : Prop where
  h0 : ∀ t c, x0 (ix2 t c) = (I.Z t c : EReal)
  h2 : ∀ h, x2 (ix2 0 h) = (I.sk h : EReal)
  h3 : ∀ c, x3 (ix2 0 c) = (I.lg c : EReal)
  h4 : ∀ c, x4 (ix2 0 c) = (I.lb c : EReal)
  h5 : ∀ g i k, x5 (ix4 0 g i k) = (I.w g i k : EReal)
  h6 : ∀ g i, x6 (ix3 0 g i) = (I.b g i : EReal)

/-- The gradient that the backward call reads is these reals. -/
def ArgD (x1 : FVec Ideal ⟨2, ![2048, 2048]⟩ .f32) : Prop := ∀ t c, x1 (ix2 t c) = (I.D t c : EReal)

end Cert.MixSpec

end
-- ==== Proof.Words.lean ====
/- Which keys a query sees, and which weights the gating keeps, as comparisons of index words. -/
module

public import proofs.«01_k».proof.Proof.MixSpec
public import Idealize.ShloMosaic.Lib.WordCmp

@[expose] public section

noncomputable section

namespace Cert.Words

open Idealize.ShloMosaic Idealize.ShloMosaic.WordCmp Cert.MixSpec

theorem andi_ofBool (a b : Bool) : IntOp.andi (BitVec.ofBool a) (BitVec.ofBool b) = BitVec.ofBool (a && b) := by
  cases a <;> cases b <;> rfl

theorem ori_ofBool (a b : Bool) : IntOp.ori (BitVec.ofBool a) (BitVec.ofBool b) = BitVec.ofBool (a || b) := by
  cases a <;> cases b <;> rfl

theorem select_ofBool {α : Type} (b : Bool) (x y : α) : Scalar.select (BitVec.ofBool b) x y = if b then x else y := by
  cases b <;> rfl

theorem addi_ofNat (a b : ℕ) : IntOp.addi (BitVec.ofNat 32 a) (BitVec.ofNat 32 b) = BitVec.ofNat 32 (a + b) := (BitVec.ofNat_add ..).symm

/-- The low seven bits of an index word. -/
theorem low (a : ℕ) (ha : a < 2 ^ 31) : IntOp.andi (BitVec.ofNat 32 a) 127#32 = BitVec.ofNat 32 (a % 128) := by
  apply BitVec.eq_of_toNat_eq
  unfold IntOp.andi
  rw [BitVec.toNat_and, BitVec.toNat_ofNat, BitVec.toNat_ofNat, BitVec.toNat_ofNat, Nat.mod_eq_of_lt (by omega : a < 2 ^ 32),
    show 127 % 2 ^ 32 = 2 ^ 7 - 1 from rfl, Nat.and_two_pow_sub_one_eq_mod]
  omega

/-- A small difference of words, as an integer. -/
theorem toInt_sub (a b : ℕ) (ha : a < 1024) (hb : b < 1024) :
    (IntOp.subi (BitVec.ofNat 32 a) (BitVec.ofNat 32 b)).toInt = (a : ℤ) - b := by
  unfold IntOp.subi
  rw [BitVec.toInt_sub, BitVec.toInt_ofNat', BitVec.toInt_ofNat']
  simp only [Int.bmod_def]
  omega

/-- The band on the differences of words: the key lies after the query's row less a block, and not after the row. -/
theorem band (r : Fin 128) (s : Fin 256) :
    IntOp.andi (IntOp.cmpi .sge (IntOp.subi (IntOp.addi (BitVec.ofNat 32 r.val) 128#32) (BitVec.ofNat 32 s.val)) 0#32)
      (IntOp.cmpi .slt (IntOp.subi (IntOp.addi (BitVec.ofNat 32 r.val) 128#32) (BitVec.ofNat 32 s.val)) 128#32)
      = BitVec.ofBool (decide (r.val < s.val ∧ s.val ≤ r.val + 128)) := by
  rw [addi_ofNat, cmpi_sge_eq, cmpi_slt_eq, toInt_sub (r.val + 128) s.val (by omega) (by omega), andi_ofBool, ← Bool.decide_and]
  refine congrArg _ (decide_eq_decide.mpr ?_)
  rw [show (0#32).toInt = 0 from rfl, show (128#32).toInt = 128 from rfl]
  omega

/-- The band on the words: keys by the rows of all query heads. -/
theorem band' (s : Fin 256) (a : ℕ) (ha : a < 1024) :
    IntOp.andi (IntOp.cmpi .sgt (BitVec.ofNat 32 s.val) (IntOp.andi (BitVec.ofNat 32 a) 127#32))
      (IntOp.cmpi .sle (BitVec.ofNat 32 s.val) (IntOp.addi (IntOp.andi (BitVec.ofNat 32 a) 127#32) 128#32))
      = BitVec.ofBool (decide (a % 128 < s.val ∧ s.val ≤ a % 128 + 128)) := by
  rw [low a (by omega), addi_ofNat, cmpi_sgt_ofNat (by omega) (by omega), cmpi_sle_ofNat (by omega) (by omega), andi_ofBool, ← Bool.decide_and]

/-- The keys that are there: before the first block there are none. -/
theorem there (n : ℕ) (hn : n < 128) (s : Fin 256) :
    IntOp.ori (IntOp.cmpi .sgt (BitVec.ofNat 32 n) 0#32) (IntOp.cmpi .sge (BitVec.ofNat 32 s.val) 128#32)
      = BitVec.ofBool (decide (128 ≤ s.val ∨ 0 < n)) := by
  rw [cmpi_sgt_ofNat (b := 0) (by omega) (by omega), cmpi_sge_ofNat (by omega) (by omega), ori_ofBool, ← Bool.decide_or]
  exact congrArg _ (decide_eq_decide.mpr or_comm)

theorem vis_eq (n : Fin 16) (r : Fin 128) (s : Fin 256) :
    (decide (r.val < s.val ∧ s.val ≤ r.val + 128) && decide (128 ≤ s.val ∨ 0 < n.val)) = vis n r s := by
  unfold vis
  rw [← Bool.decide_and]
  exact decide_eq_decide.mpr and_assoc

end Cert.Words

end
-- ==== Proof.HostSum.lean ====
/- Host reductions over several axes, as sums over the axes that vary. -/
module

public import proofs.«01_k».proof.Proof.Reals

@[expose] public section

noncomputable section

namespace Cert.HostSum

open Idealize.ShloMosaic
open scoped BigOperators

/-- The operand indices that a result index meets, named by `e`. -/
theorem filter_eq {s t : Shape} {axes : List (Fin s.rank)} (h : s.ReducesTo axes t) (j : t.Idx) {κ : Type} [Fintype κ] (e : κ ↪ s.Idx)
    (hk : ∀ i, h.drop i = j ↔ ∃ k, e k = i) [DecidablePred fun i => h.drop i = j] :
    (Finset.univ.filter fun i => h.drop i = j) = Finset.univ.map e := by
  ext i
  simp only [Finset.mem_filter, Finset.mem_univ, true_and, Finset.mem_map]
  exact hk i

/-- A host sum, over the names of the operand indices that a result index meets. -/
theorem sum_of {s t : Shape} {axes : List (Fin s.rank)} (h : s.ReducesTo axes t) (x : s.Idx → EReal) (init : EReal) (j : t.Idx)
    {κ : Type} [Fintype κ] (e : κ ↪ s.Idx) (hk : ∀ i, h.drop i = j ↔ ∃ k, e k = i) :
    Ideal.hostReduceAdd h x init j = init + ∑ k, x (e k) := by
  unfold Ideal.hostReduceAdd
  rw [filter_eq h j e hk, Finset.sum_map]

section Rank6

variable {n0 n1 n2 n3 n4 n5 : Nat}

/-- The indices along the last of six axes. -/
def last6 (a : Fin n0) (b : Fin n1) (c : Fin n2) (d : Fin n3) (e : Fin n4) : Fin n5 ↪ (⟨6, ![n0, n1, n2, n3, n4, n5]⟩ : Shape).Idx :=
  ⟨fun k => ix6 a b c d e k, fun _ _ h => congrFun h 5⟩

theorem drop_last6 (h : (⟨6, ![n0, n1, n2, n3, n4, n5]⟩ : Shape).ReducesTo [5] ⟨5, ![n0, n1, n2, n3, n4]⟩)
    (a : Fin n0) (b : Fin n1) (c : Fin n2) (d : Fin n3) (e : Fin n4) (i) : h.drop i = ix5 a b c d e ↔ ∃ k, last6 (n5 := n5) a b c d e k = i := by
  refine ⟨fun E => ⟨i 5, ?_⟩, ?_⟩
  · funext x
    match x with
    | ⟨0, _⟩ => exact (congrFun E 0).symm
    | ⟨1, _⟩ => exact (congrFun E 1).symm
    | ⟨2, _⟩ => exact (congrFun E 2).symm
    | ⟨3, _⟩ => exact (congrFun E 3).symm
    | ⟨4, _⟩ => exact (congrFun E 4).symm
    | ⟨5, _⟩ => rfl
  · rintro ⟨k, rfl⟩
    funext x
    match x with
    | ⟨0, _⟩ => rfl
    | ⟨1, _⟩ => rfl
    | ⟨2, _⟩ => rfl
    | ⟨3, _⟩ => rfl
    | ⟨4, _⟩ => rfl

theorem sum_last6 (h : (⟨6, ![n0, n1, n2, n3, n4, n5]⟩ : Shape).ReducesTo [5] ⟨5, ![n0, n1, n2, n3, n4]⟩)
    (x : (⟨6, ![n0, n1, n2, n3, n4, n5]⟩ : Shape).Idx → EReal) (init : EReal)
    (a : Fin n0) (b : Fin n1) (c : Fin n2) (d : Fin n3) (e : Fin n4) :
    Ideal.hostReduceAdd h x init (ix5 a b c d e) = init + ∑ k, x (ix6 a b c d e k) :=
  sum_of h x init _ _ (drop_last6 h a b c d e)

/-- A host maximum along the last of six axes. -/
theorem max_last6 (h : (⟨6, ![n0, n1, n2, n3, n4, n5]⟩ : Shape).ReducesTo [5] ⟨5, ![n0, n1, n2, n3, n4]⟩)
    (x : (⟨6, ![n0, n1, n2, n3, n4, n5]⟩ : Shape).Idx → EReal) (init : EReal)
    (a : Fin n0) (b : Fin n1) (c : Fin n2) (d : Fin n3) (e : Fin n4) [DecidablePred fun i => h.drop i = ix5 a b c d e] :
    Finset.fold max init x (Finset.univ.filter fun i => h.drop i = ix5 a b c d e) = Finset.univ.fold max init fun k => x (ix6 a b c d e k) := by
  rw [filter_eq h _ _ (drop_last6 h a b c d e), Finset.fold_map]
  rfl

/-- A host sum over the first and the last of six axes, both of size one. -/
theorem sum_ends6 (h : (⟨6, ![1, n1, n2, n3, n4, 1]⟩ : Shape).ReducesTo [0, 5] ⟨4, ![n1, n2, n3, n4]⟩)
    (x : (⟨6, ![1, n1, n2, n3, n4, 1]⟩ : Shape).Idx → EReal) (init : EReal) (j : (⟨4, ![n1, n2, n3, n4]⟩ : Shape).Idx) :
    Ideal.hostReduceAdd h x init j = init + x (ix6 0 (j 0) (j 1) (j 2) (j 3) 0) := by
  refine Reals.hostReduceAdd_of_one h x init j _ fun i => ⟨fun e => ?_, fun e => ?_⟩
  · subst e
    funext a
    match a with
    | ⟨0, _⟩ => exact Subsingleton.elim (α := Fin 1) _ _
    | ⟨1, _⟩ => rfl
    | ⟨2, _⟩ => rfl
    | ⟨3, _⟩ => rfl
    | ⟨4, _⟩ => rfl
    | ⟨5, _⟩ => exact Subsingleton.elim (α := Fin 1) _ _
  · subst e
    funext a
    match a with
    | ⟨0, _⟩ => rfl
    | ⟨1, _⟩ => rfl
    | ⟨2, _⟩ => rfl
    | ⟨3, _⟩ => rfl

/-- The indices whose third and fourth coordinates are given, of six axes whose outer ones have size one. -/
def mid6 (c : Fin n2) (d : Fin n3) : (Fin n1 × Fin n4) ↪ (⟨6, ![1, n1, n2, n3, n4, 1]⟩ : Shape).Idx :=
  ⟨fun k => ix6 0 k.1 c d k.2 0, fun _ _ h => Prod.ext (congrFun h 1) (congrFun h 4)⟩

/-- A host sum over all of six axes but the two in the middle. -/
theorem sum_mid6 (h : (⟨6, ![1, n1, n2, n3, n4, 1]⟩ : Shape).ReducesTo [0, 1, 4, 5] ⟨2, ![n2, n3]⟩)
    (x : (⟨6, ![1, n1, n2, n3, n4, 1]⟩ : Shape).Idx → EReal) (init : EReal) (c : Fin n2) (d : Fin n3) :
    Ideal.hostReduceAdd h x init (ix2 c d) = init + ∑ k, ∑ l, x (ix6 0 k c d l 0) := by
  rw [sum_of h x init _ (mid6 c d) fun i => ⟨fun E => ⟨(i 1, i 4), ?_⟩, ?_⟩, Fintype.sum_prod_type]
  · rfl
  · funext x
    match x with
    | ⟨0, _⟩ => exact Subsingleton.elim (α := Fin 1) _ _
    | ⟨1, _⟩ => rfl
    | ⟨2, _⟩ => exact (congrFun E 0).symm
    | ⟨3, _⟩ => exact (congrFun E 1).symm
    | ⟨4, _⟩ => rfl
    | ⟨5, _⟩ => exact Subsingleton.elim (α := Fin 1) _ _
  · rintro ⟨k, rfl⟩
    funext x
    match x with
    | ⟨0, _⟩ => rfl
    | ⟨1, _⟩ => rfl

end Rank6

section Rank5

variable {n0 n1 n2 n3 n4 : Nat}

/-- The indices that vary in the second and the last of five axes. -/
def two5 (c : Fin n2) (d : Fin n3) : (Fin n1 × Fin n4) ↪ (⟨5, ![1, n1, n2, n3, n4]⟩ : Shape).Idx :=
  ⟨fun k => ix5 0 k.1 c d k.2, fun _ _ h => Prod.ext (congrFun h 1) (congrFun h 4)⟩

/-- A host sum over the second and the last of five axes. -/
theorem sum_two5 (h : (⟨5, ![1, n1, n2, n3, n4]⟩ : Shape).ReducesTo [1, 4] ⟨3, ![1, n2, n3]⟩)
    (x : (⟨5, ![1, n1, n2, n3, n4]⟩ : Shape).Idx → EReal) (init : EReal) (c : Fin n2) (d : Fin n3) :
    Ideal.hostReduceAdd h x init (ix3 0 c d) = init + ∑ k, ∑ l, x (ix5 0 k c d l) := by
  rw [sum_of h x init _ (two5 c d) fun i => ⟨fun E => ⟨(i 1, i 4), ?_⟩, ?_⟩, Fintype.sum_prod_type]
  · rfl
  · funext x
    match x with
    | ⟨0, _⟩ => exact Subsingleton.elim (α := Fin 1) _ _
    | ⟨1, _⟩ => rfl
    | ⟨2, _⟩ => exact (congrFun E 1).symm
    | ⟨3, _⟩ => exact (congrFun E 2).symm
    | ⟨4, _⟩ => rfl
  · rintro ⟨k, rfl⟩
    funext x
    match x with
    | ⟨0, _⟩ => exact Subsingleton.elim (α := Fin 1) _ _
    | ⟨1, _⟩ => rfl
    | ⟨2, _⟩ => rfl

/-- A host sum over the first two and the last of five axes, all of size one. -/
theorem sum_ends5 (h : (⟨5, ![1, 1, n2, n3, 1]⟩ : Shape).ReducesTo [0, 1, 4] ⟨2, ![n2, n3]⟩)
    (x : (⟨5, ![1, 1, n2, n3, 1]⟩ : Shape).Idx → EReal) (init : EReal) (j : (⟨2, ![n2, n3]⟩ : Shape).Idx) :
    Ideal.hostReduceAdd h x init j = init + x (ix5 0 0 (j 0) (j 1) 0) := by
  refine Reals.hostReduceAdd_of_one h x init j _ fun i => ⟨fun e => ?_, fun e => ?_⟩
  · subst e
    funext a
    match a with
    | ⟨0, _⟩ => exact Subsingleton.elim (α := Fin 1) _ _
    | ⟨1, _⟩ => exact Subsingleton.elim (α := Fin 1) _ _
    | ⟨2, _⟩ => rfl
    | ⟨3, _⟩ => rfl
    | ⟨4, _⟩ => exact Subsingleton.elim (α := Fin 1) _ _
  · subst e
    funext a
    match a with
    | ⟨0, _⟩ => rfl
    | ⟨1, _⟩ => rfl

end Rank5

end Cert.HostSum

end
-- ==== Proof.MixRef.lean ====
/- What the mixer's reference computes on real arguments: the attention, forward. -/
module

public import proofs.«01_k».proof.Proof.Gen.MixReferenceIdeal.Read
public import proofs.«01_k».proof.Proof.Words
public import proofs.«01_k».proof.Proof.HostSum
public import Idealize.ShloMosaic.Lib.Pointwise

@[expose] public section

set_option maxRecDepth 16384

noncomputable section

namespace Cert.MixRef

open Cert.MixReferenceIdeal Cert.MixReferenceIdeal.Gen Cert.MixReferenceIdeal.Read Idealize.ShloMosaic Idealize.ShloMosaic.TcCoe Idealize.SL.Sem
open Cert.Reals Cert.Words Cert.MixSpec Cert.Attn

variable {I : Data}
variable {x0 : FVec Ideal S2048x5376 .f32} {x2 : FVec Ideal S1x16 .f32} {x3 x4 : FVec Ideal S1x1024 .f32} {x5 : FVec Ideal S1x8x128x128 .f32} {x6 : FVec Ideal S1x8x128 .f32}

/-- The reference's rows of keys and values: there are none before the first block. -/
def kv0 (I : Data) (o : ℕ) (ho : o ≤ 5248) (n : Fin 16) (s : Fin 256) (h : Fin 2) (d : Fin 64) : ℝ :=
  if 128 ≤ s.val ∨ 0 < n.val then I.Z (keyTok n s) (kvLane o h d ho) else 0

theorem kv0_none (I : Data) (o : ℕ) (ho : o ≤ 5248) (n : Fin 16) (s : Fin 256) (h : Fin 2) (d : Fin 64) (hs : s.val < 128) (hn : n.val < 1) :
    kv0 I o ho n s h d = 0 := if_neg (by omega)

theorem kv0_before (I : Data) (o : ℕ) (ho : o ≤ 5248) (n : Fin 16) (s : Fin 256) (h : Fin 2) (d : Fin 64) (a : Fin 2048) (c : Fin 5376)
    (hs : s.val < 128) (hn : ¬ n.val < 1) (ha : a.val = (n.val - 1) * 128 + s.val) (hc : c.val = o + (h.val * 64 + d.val)) :
    kv0 I o ho n s h d = I.Z a c := by
  unfold kv0
  rw [if_pos (by omega), show keyTok n s = a from Fin.ext (by rw [ha, keyTok, dif_pos hs]; dsimp only; omega),
    show kvLane o h d ho = c from Fin.ext (by rw [hc]; dsimp only [kvLane]; omega)]

theorem kv0_own (I : Data) (o : ℕ) (ho : o ≤ 5248) (n : Fin 16) (s : Fin 256) (h : Fin 2) (d : Fin 64) (a : Fin 2048) (c : Fin 5376)
    (hs : ¬ s.val < 128) (ha : a.val = n.val * 128 + (s.val - 128)) (hc : c.val = o + (h.val * 64 + d.val)) :
    kv0 I o ho n s h d = I.Z a c := by
  unfold kv0
  rw [if_pos (by omega), show keyTok n s = a from Fin.ext (by rw [ha, keyTok, dif_neg hs]; dsimp only; omega),
    show kvLane o h d ho = c from Fin.ext (by rw [hc]; dsimp only [kvLane]; omega)]

theorem maximumf_bot (m : EReal) : FloatOps.maximumf (F := Ideal) (φ := .f32) ⊥ m = m := max_eq_right bot_le

variable (H : Args I x0 x2 x3 x4 x5 x6)
include H

theorem v12 (n : Fin 16) (r : Fin 128) (h : Fin 2) (g : Fin 8) (d : Fin 64) :
    val_main_v12 (F := Ideal) x0 (ix6 0 n r h g d) = (I.Z (tok n r) (lane 0 (hd h g d)) : EReal) := by
  pointwise [val_main_v12, val_main_v8, val_main_v1, val_main_v0]
  rw [H.h0]
  exact coe_Z (by simp only [tok]; omega) (by simp only [lane, hd]; omega)

theorem v19 (n : Fin 16) (s : Fin 256) (h : Fin 2) (d : Fin 64) :
    val_main_v19 (F := Ideal) x0 (ix5 0 n s h d) = (kv0 I 1024 (by omega) n s h d : EReal) := by
  pointwise [val_main_v19, val_main_v17, val_main_v16, val_main_v15, val_main_cst, val_main_v13, val_main_v9, val_main_v2, val_main_v0]
  simp only [H.h0, bits_zero]
  by_cases hs : s.val < 128
  · rw [dif_pos hs]
    by_cases hn : n.val < 1
    · rw [dif_pos hn]
      exact EReal.coe_zero.symm.trans (congrArg Real.toEReal (kv0_none I _ _ n s h d hs hn).symm)
    · rw [dif_neg hn]
      exact congrArg _ (kv0_before I _ _ n s h d _ _ (by omega) hn rfl rfl).symm
  · rw [dif_neg hs]
    exact congrArg _ (kv0_own I _ _ n s h d _ _ (by omega) rfl rfl).symm

theorem v23 (n : Fin 16) (s : Fin 256) (h : Fin 2) (d : Fin 64) :
    val_main_v23 (F := Ideal) x0 (ix5 0 n s h d) = (kv0 I 1152 (by omega) n s h d : EReal) := by
  pointwise [val_main_v23, val_main_v21, val_main_v20, val_main_v15, val_main_cst, val_main_v14, val_main_v10, val_main_v3, val_main_v0]
  simp only [H.h0, bits_zero]
  by_cases hs : s.val < 128
  · rw [dif_pos hs]
    by_cases hn : n.val < 1
    · rw [dif_pos hn]
      exact EReal.coe_zero.symm.trans (congrArg Real.toEReal (kv0_none I _ _ n s h d hs hn).symm)
    · rw [dif_neg hn]
      exact congrArg _ (kv0_before I _ _ n s h d _ _ (by omega) hn rfl rfl).symm
  · rw [dif_neg hs]
    exact congrArg _ (kv0_own I _ _ n s h d _ _ (by omega) rfl rfl).symm

theorem v27 (n : Fin 16) (h : Fin 2) (g : Fin 8) (r : Fin 128) (s : Fin 256) :
    val_main_v27 (F := Ideal) x0 (ix6 0 n h g r s)
      = (((∑ d, kv0 I 1024 (by omega) n s h d * I.Z (tok n r) (lane 0 (hd h g d))) * (1 / 8) : ℝ) : EReal) := by
  pointwise [val_main_v27, val_main_v26, val_main_cst_2, val_main_v25, val_main_v24]
  simp only [v19 H, v12 H, ← EReal.coe_mul, coe_sum, bits_eighth]

/-- A visible key's score. -/
theorem score (n : Fin 16) (h : Fin 2) (g : Fin 8) (r : Fin 128) (s : Fin 256) (hv : vis n r s = true) :
    (∑ d, kv0 I 1024 (by omega) n s h d * I.Z (tok n r) (lane 0 (hd h g d))) * (1 / 8) = sc (keys I n h) (qry I n h g r) s := by
  have hs : 128 ≤ s.val ∨ 0 < n.val := (of_decide_eq_true hv).2.2
  simp only [kv0, if_pos hs]
  unfold sc keys qry
  rw [Finset.sum_mul]
  exact Finset.sum_congr rfl fun d _ => mul_assoc _ _ _

theorem v57 (n : Fin 16) (h : Fin 2) (g : Fin 8) (r : Fin 128) (s : Fin 256) :
    val_main_v57_0 (F := Ideal) x0 (ix6 0 n h g r s) = msc (keys I n h) (qry I n h g r) (vis n r) s := by
  pointwise [val_main_v57_0, val_main_call0_v2, val_main_v57_1, val_main_v56, val_main_v55, val_main_v54, val_main_v53, val_main_v52,
    val_main_v51, val_main_v50, val_main_v49, val_main_v48, val_main_v47, val_main_v46, val_main_c_6, val_main_v45, val_main_v44,
    val_main_v43, val_main_c_5, val_main_v42, val_main_v41, val_main_v40, val_main_v39, val_main_c_4, val_main_v38, val_main_v37,
    val_main_c_3, val_main_v36, val_main_v35, val_main_v34, val_main_v33, val_main_v32, val_main_v31, val_main_v30, val_main_v29,
    val_main_v28, val_main_c, val_main_call0_v0, val_main_cst_7]
  rw [band, there n.val (by omega) s, andi_ofBool, vis_eq, select_ofBool, v27 H]
  unfold msc
  split
  · next hv => rw [score H n h g r s hv]
  · exact bits_bot

/-- Key `s`'s score, or the sink's. -/
def msk (I : Data) (n : Fin 16) (h : Fin 2) (g : Fin 8) (r : Fin 128) (s : Fin 257) : EReal :=
  if hs : s.val < 256 then msc (keys I n h) (qry I n h g r) (vis n r) ⟨s.val, hs⟩ else (I.sk (qhead h g) : EReal)

theorem v61 (n : Fin 16) (h : Fin 2) (g : Fin 8) (r : Fin 128) (s : Fin 257) :
    val_main_v61 (F := Ideal) x0 x2 (ix6 0 n h g r s) = msk I n h g r s := by
  pointwise [val_main_v61, val_main_v60, val_main_v59, val_main_v58, val_main_v11]
  simp only [v57 H, H.h2]
  unfold msk
  split_ifs
  · rfl
  · exact congrArg _ (congrArg I.sk (Fin.ext (by simp only [qhead]; omega)))

/-- The maximum that the reference takes off the scores. -/
def mx (I : Data) (n : Fin 16) (h : Fin 2) (g : Fin 8) (r : Fin 128) : ℝ := (Finset.univ.fold max ⊥ (msk I n h g r)).toReal

omit H in
theorem mx_eq (n : Fin 16) (h : Fin 2) (g : Fin 8) (r : Fin 128) : Finset.univ.fold max ⊥ (msk I n h g r) = (mx I n h g r : EReal) := by
  refine (fold_real _ (fun s => ?_) ⟨256, by omega⟩ ?_).symm
  · unfold msk
    split
    · exact msc_ne_top _
    · exact EReal.coe_ne_top _
  · rw [show msk I n h g r ⟨256, by omega⟩ = _ from dif_neg (Nat.lt_irrefl 256)]
    exact EReal.coe_ne_bot _

theorem v62 (n : Fin 16) (h : Fin 2) (g : Fin 8) (r : Fin 128) :
    val_main_v62 (F := Ideal) x0 x2 (ix5 0 n h g r) = (mx I n h g r : EReal) := by
  pointwise [val_main_v62]
  rw [HostSum.max_last6]
  simp only [v61 H]
  exact (congrArg (fun b => Finset.univ.fold max b (msk I n h g r)) bits_bot).trans (mx_eq n h g r)

theorem v69 (n : Fin 16) (h : Fin 2) (g : Fin 8) (r : Fin 128) :
    val_main_v69 (F := Ideal) x0 x2 (ix5 0 n h g r) = (mx I n h g r : EReal) := by
  have e := v62 H n h g r
  generalize (mx I n h g r : EReal) = m at e ⊢
  have c (j) : val_main_cst_10 (F := Ideal) j = ⊥ := bits_bot
  rw [val_main_v69_apply, val_main_v68_apply, c, e]
  exact maximumf_bot m

/-- Key `s`'s weight, shifted by the maximum, or the sink's. -/
def wtk (I : Data) (n : Fin 16) (h : Fin 2) (g : Fin 8) (r : Fin 128) (s : Fin 257) : ℝ :=
  (if hs : s.val < 256 then wt (keys I n h) (qry I n h g r) (vis n r) ⟨s.val, hs⟩ else Real.exp (I.sk (qhead h g))) * Real.exp (-mx I n h g r)

theorem v82 (n : Fin 16) (h : Fin 2) (g : Fin 8) (r : Fin 128) (s : Fin 257) :
    val_main_v82 (F := Ideal) x0 x2 (ix6 0 n h g r s) = (wtk I n h g r s : EReal) := by
  pointwise [val_main_v82, val_main_v81, val_main_v80, val_main_v79]
  rw [v61 H, v69 H]
  unfold msk wtk
  split
  · exact exp_msc _ _ _ _ _
  · exact exp_sub _ _

omit H in
theorem sum_wtk (n : Fin 16) (h : Fin 2) (g : Fin 8) (r : Fin 128) :
    ∑ s, wtk I n h g r s = tot (keys I n h) (qry I n h g r) (I.sk (qhead h g)) (vis n r) * Real.exp (-mx I n h g r) := by
  rw [Fin.sum_univ_castSucc, ← sum_shift]
  refine congrArg₂ (· + ·) (Finset.sum_congr rfl fun s _ => ?_) ?_
  · exact congrArg (· * _) (dif_pos s.isLt)
  · exact congrArg (· * _) (dif_neg (Nat.lt_irrefl 256))

theorem v83 (n : Fin 16) (h : Fin 2) (g : Fin 8) (r : Fin 128) :
    val_main_v83 (F := Ideal) x0 x2 (ix5 0 n h g r)
      = ((tot (keys I n h) (qry I n h g r) (I.sk (qhead h g)) (vis n r) * Real.exp (-mx I n h g r) : ℝ) : EReal) := by
  pointwise [val_main_v83]
  rw [HostSum.sum_last6]
  simp only [v82 H, coe_sum, sum_wtk]
  exact (congrArg (· + _) bits_zero).trans (zero_add _)

theorem v90 (n : Fin 16) (h : Fin 2) (g : Fin 8) (r : Fin 128) (s : Fin 256) :
    val_main_v90 (F := Ideal) x0 x2 (ix6 0 n h g r s) = (probs I n h g r s : EReal) := by
  pointwise [val_main_v90, val_main_v86, val_main_v85, val_main_v84]
  rw [v82 H, v83 H, coe_div _ _ (shift_ne _ _ _ _ _)]
  refine congrArg _ (Eq.trans ?_ (pr_shift _ _ _ _ (mx I n h g r) s))
  unfold wtk
  rw [dif_pos s.isLt]

theorem v93 (n : Fin 16) (h : Fin 2) (g : Fin 8) (r : Fin 128) (d : Fin 64) :
    val_main_v93 (F := Ideal) x0 x2 (ix3 0 (tok n r) (hd h g d)) = (att I n h g r d : EReal) := by
  have e : val_main_v93 (F := Ideal) x0 x2 (ix3 0 (tok n r) (hd h g d)) = val_main_v91 (F := Ideal) x0 x2 (ix6 0 n h d g r) := by
    pointwise [val_main_v93, val_main_v92]
    refine congrArg _ (congr (congr (congr (congr (congrArg (ix6 0) ?_) ?_) ?_) ?_) ?_)
    all_goals exact Fin.ext (by dsimp only [tok, hd]; omega)
  rw [e]
  pointwise [val_main_v91]
  simp only [v23 H, v90 H, ← EReal.coe_mul, coe_sum]
  refine congrArg _ (show _ = ∑ s, vals I n h s d * probs I n h g r s from Finset.sum_congr rfl fun s _ => ?_)
  by_cases hs : 128 ≤ s.val ∨ 0 < n.val
  · rw [kv0, if_pos hs]
    rfl
  · rw [show probs I n h g r s = 0 from pr_of_not (decide_eq_false fun e => hs e.2.2), mul_zero, mul_zero]

end Cert.MixRef

end
-- ==== Proof.MixGate.lean ====
/- What the mixer's reference computes on real arguments: the gating, forward. -/
module

public import proofs.«01_k».proof.Proof.MixRef

@[expose] public section

set_option maxRecDepth 16384

noncomputable section

namespace Cert.MixRef

open Cert.MixReferenceIdeal Cert.MixReferenceIdeal.Gen Cert.MixReferenceIdeal.Read Idealize.ShloMosaic Idealize.ShloMosaic.TcCoe Idealize.SL.Sem
open Cert.Reals Cert.Words Cert.MixSpec Cert.Attn

variable {I : Data}
variable {x0 : FVec Ideal S2048x5376 .f32} {x2 : FVec Ideal S1x16 .f32} {x3 x4 : FVec Ideal S1x1024 .f32} {x5 : FVec Ideal S1x8x128x128 .f32} {x6 : FVec Ideal S1x8x128 .f32}

variable (H : Args I x0 x2 x3 x4 x5 x6)
include H

theorem v4 (t : Fin 2048) (c : Fin 1024) : val_main_v4 (F := Ideal) x0 (ix3 0 t c) = (ga I t c : EReal) := by
  pointwise [val_main_v4, val_main_v0]
  exact H.h0 _ _

theorem v5 (t : Fin 2048) (c : Fin 1024) : val_main_v5 (F := Ideal) x0 (ix3 0 t c) = (uu I t c : EReal) := by
  pointwise [val_main_v5, val_main_v0]
  exact H.h0 _ _

theorem v6 (t : Fin 2048) (c : Fin 1024) : val_main_v6 (F := Ideal) x0 (ix3 0 t c) = (vs I t c : EReal) := by
  pointwise [val_main_v6, val_main_v0]
  exact H.h0 _ _

theorem v7 (t : Fin 2048) (c : Fin 1024) : val_main_v7 (F := Ideal) x0 (ix3 0 t c) = (gs I t c : EReal) := by
  pointwise [val_main_v7, val_main_v0]
  exact H.h0 _ _

theorem v94_2 (t : Fin 2048) (c : Fin 1024) : val_main_v94_2 (F := Ideal) x0 (ix3 0 t c) = (sig (ga I t c) : EReal) := by
  pointwise [val_main_v94_2, val_main_call1_v4, val_main_call1_cst_0, val_main_call1_v3, val_main_call1_v2, val_main_call1_cst,
    val_main_call1_v1, val_main_call1_v0]
  rw [v4 H, div_exp]

theorem v94_0 (t : Fin 2048) (c : Fin 1024) : val_main_v94_0 (F := Ideal) x0 (ix3 0 t c) = (silu (ga I t c) : EReal) := by
  pointwise [val_main_v94_0]
  rw [v4 H, v94_2 H, ← EReal.coe_mul]
  rfl

theorem v94_1 (t : Fin 2048) (c : Fin 1024) :
    val_main_v94_1 (F := Ideal) x0 (ix3 0 t c) = ((sig (ga I t c) * (1 - sig (ga I t c)) : ℝ) : EReal) := by
  pointwise [val_main_v94_1, val_main_call1_v7, val_main_call1_v6, val_main_call1_cst_1]
  rw [v94_2 H, ← EReal.coe_one, ← EReal.coe_sub, ← EReal.coe_mul]

theorem v143_2 (t : Fin 2048) (c : Fin 1024) : val_main_v143_2 (F := Ideal) x0 (ix3 0 t c) = (sig (gs I t c) : EReal) := by
  pointwise [val_main_v143_2, val_main_call3_v4, val_main_call3_cst_0, val_main_call3_v3, val_main_call3_v2, val_main_call3_cst,
    val_main_call3_v1, val_main_call3_v0]
  rw [v7 H, div_exp]

theorem v143_0 (t : Fin 2048) (c : Fin 1024) : val_main_v143_0 (F := Ideal) x0 (ix3 0 t c) = (silu (gs I t c) : EReal) := by
  pointwise [val_main_v143_0]
  rw [v7 H, v143_2 H, ← EReal.coe_mul]
  rfl

theorem v143_1 (t : Fin 2048) (c : Fin 1024) :
    val_main_v143_1 (F := Ideal) x0 (ix3 0 t c) = ((sig (gs I t c) * (1 - sig (gs I t c)) : ℝ) : EReal) := by
  pointwise [val_main_v143_1, val_main_call3_v7, val_main_call3_v6, val_main_call3_cst_1]
  rw [v143_2 H, ← EReal.coe_one, ← EReal.coe_sub, ← EReal.coe_mul]

theorem v103 (t : Fin 2048) : val_main_v103 (F := Ideal) x0 (ix3 0 t 0) = (LnRow.mean (vs I t) : EReal) := by
  pointwise [val_main_v103, val_main_v102, val_main_cst_19, val_main_v101, val_main_v100, val_main_cst_18]
  simp only [v6 H, coe_sum, bits_1024]
  rw [coe_div _ _ (by norm_num)]
  rfl

theorem v105 (t : Fin 2048) (c : Fin 1024) : val_main_v105 (F := Ideal) x0 (ix3 0 t c) = ((vs I t c - LnRow.mean (vs I t) : ℝ) : EReal) := by
  pointwise [val_main_v105, val_main_v104]
  rw [v6 H, v103 H, ← EReal.coe_sub]

theorem v114 (t : Fin 2048) (c : Fin 1024) : val_main_v114 (F := Ideal) x0 (ix3 0 t c) = ((vs I t c - LnRow.mean (vs I t) : ℝ) : EReal) := by
  pointwise [val_main_v114, val_main_v113]
  rw [v6 H, v103 H, ← EReal.coe_sub]

theorem v116 (t : Fin 2048) : val_main_v116 (F := Ideal) x0 (ix3 0 t 0) = (LnRow.vr (vs I t) : EReal) := by
  pointwise [val_main_v116, val_main_v115, val_main_cst_23, val_main_v112, val_main_v111, val_main_cst_22, val_main_v110, val_main_v109,
    val_main_cst_21, val_main_v106]
  simp only [v105 H, ← EReal.coe_mul, coe_sum, bits_1024, bits_eps]
  rw [coe_div _ _ (by norm_num), ← EReal.coe_add]
  rfl

theorem v117 (t : Fin 2048) : val_main_v117 (F := Ideal) x0 (ix3 0 t 0) = (LnRow.r (vs I t) : EReal) := by
  pointwise [val_main_v117]
  rw [v116 H, coe_rsqrt _ (LnRow.vr_pos _)]
  rfl

theorem v122 (t : Fin 2048) (c : Fin 1024) : val_main_v122 (F := Ideal) x0 (ix3 0 t c) = (LnRow.hat (vs I t) c : EReal) := by
  pointwise [val_main_v122, val_main_v121]
  rw [v114 H, v117 H, ← EReal.coe_mul]
  rfl

theorem v128 (t : Fin 2048) (c : Fin 1024) : val_main_v128 (F := Ideal) x0 x3 x4 (ix3 0 t c) = (vn I t c : EReal) := by
  pointwise [val_main_v128, val_main_v127, val_main_v126, val_main_v97, val_main_v125, val_main_v124, val_main_v123, val_main_v96]
  rw [v122 H, H.h3, H.h4, ← EReal.coe_mul, ← EReal.coe_add]
  rfl

theorem v129 (n : Fin 16) (r : Fin 128) (g : Fin 8) (c : Fin 128) :
    val_main_v129 (F := Ideal) x0 x3 x4 (ix5 0 n r g c) = (vn I (tok n r) (gl g c) : EReal) := by
  pointwise [val_main_v129]
  rw [v128 H, mk_tok, mk_gl]

omit H in
/-- The weights that are kept. -/
theorem kept (i k : Fin 128) (a : EReal) :
    Scalar.select (IntOp.cmpi .sge (IntOp.addi (BitVec.ofNat 32 i.val) 0#32) (BitVec.ofNat 32 k.val)) a 0 = if k.val ≤ i.val then a else 0 := by
  rw [addi_ofNat i.val 0, WordCmp.cmpi_sge_ofNat (by omega) (by omega), select_ofBool]
  exact if_congr decide_eq_true_iff rfl rfl

theorem v134 (g : Fin 8) (i k : Fin 128) : val_main_v134 (F := Ideal) x5 (ix3 g i k) = (tw I g i k : EReal) := by
  pointwise [val_main_v134, val_main_v133, val_main_v132, val_main_v131, val_main_call2_v4, val_main_call2_v3, val_main_call2_v2,
    val_main_call2_v1, val_main_call2_v0, val_main_call2_c, val_main_call2_cst, val_main_v130, val_main_cst_25, val_main_call2_v5, val_main_v98]
  rw [kept, H.h5]
  unfold tw
  split <;> rfl

theorem v135 (g : Fin 8) (n : Fin 16) (c : Fin 128) (i : Fin 128) :
    val_main_v135 (F := Ideal) x0 x3 x4 x5 (ix5 g 0 n c i) = ((∑ k, tw I g i k * vn I (tok n k) (gl g c) : ℝ) : EReal) := by
  pointwise [val_main_v135]
  simp only [v129 H, v134 H, ← EReal.coe_mul, coe_sum]
  exact congrArg _ (Finset.sum_congr rfl fun k _ => mul_comm _ _)

theorem v140 (n : Fin 16) (i : Fin 128) (g : Fin 8) (c : Fin 128) :
    val_main_v140 (F := Ideal) x0 x3 x4 x5 x6 (ix5 0 n i g c) = (mixed I (tok n i) (gl g c) : EReal) := by
  pointwise [val_main_v140, val_main_v139, val_main_v138, val_main_v137, val_main_v136, val_main_v99]
  rw [v135 H, H.h6, ← EReal.coe_add, mixed, grp_gl, row_tok, blk_tok]

theorem v141 (t : Fin 2048) (c : Fin 1024) : val_main_v141 (F := Ideal) x0 x3 x4 x5 x6 (ix3 0 t c) = (mixed I t c : EReal) := by
  pointwise [val_main_v141]
  rw [mk_blk, mk_row, mk_grp, mk_sub, v140 H, tok_blk_row, gl_grp_sub]

theorem v142 (t : Fin 2048) (c : Fin 1024) :
    val_main_v142 (F := Ideal) x0 x3 x4 x5 x6 (ix3 0 t c) = ((uu I t c * mixed I t c : ℝ) : EReal) := by
  pointwise [val_main_v142]
  rw [v5 H, v141 H, ← EReal.coe_mul]

theorem v145 (t c : Fin 2048) : val_main_v145 (F := Ideal) x0 x2 x3 x4 x5 x6 (ix3 0 t c) = (cat I t c : EReal) := by
  by_cases hc : c.val < 1024
  · have e := v93 H (blk t) ⟨c.val / 512, by omega⟩ ⟨c.val / 64 % 8, by omega⟩ (row t) ⟨c.val % 64, by omega⟩
    rw [tok_blk_row, show hd _ _ _ = (⟨c.val, hc⟩ : Fin 1024) from Fin.ext (by dsimp only [hd]; omega)] at e
    pointwise [val_main_v145, val_main_v144, val_main_v95]
    rw [dif_pos hc, e, v94_0 H, ← EReal.coe_mul, cat, dif_pos hc]
  · pointwise [val_main_v145, val_main_v144, val_main_v95]
    rw [dif_neg hc, v142 H, v143_0 H, ← EReal.coe_mul, cat, dif_neg hc]

end Cert.MixRef

end
-- ==== Proof.FwdSpec.lean ====
/- What the forward call of the mixer computes. The shifts of its gating may be any extended real: they are only added and multiplied. -/
module

public import proofs.«01_k».proof.Proof.MixSpec

@[expose] public section

noncomputable section

namespace Cert.FwdSpec

open Idealize.ShloMosaic Cert.Reals Cert.MixSpec Cert.Attn

variable (I : Data) (β : Fin 8 → Fin 128 → EReal)

/-- The gating's sum over a block's rows, without its shift. -/
def total (t : Fin 2048) (c : Fin 1024) : ℝ := ∑ k, tw I (grp c) (row t) k * vn I (tok (blk t) k) c

/-- The output of the mixer: the gated attention, then the gated mixture of rows. -/
def cat (t : Fin 2048) (c : Fin 2048) : EReal :=
  if h : c.val < 1024 then
    ((att I (blk t) ⟨c.val / 512, by omega⟩ ⟨c.val / 64 % 8, by omega⟩ (row t) ⟨c.val % 64, by omega⟩ * silu (ga I t ⟨c.val, h⟩) : ℝ) : EReal)
  else (uu I t ⟨c.val - 1024, by omega⟩ : EReal) * ((total I t ⟨c.val - 1024, by omega⟩ : EReal) + β (grp ⟨c.val - 1024, by omega⟩) (row t))
    * (silu (gs I t ⟨c.val - 1024, by omega⟩) : EReal)

/-- The arguments are these numbers. -/
structure Args (x0 : FVec Ideal ⟨2, ![2048, 5376]⟩ .f32) (x1 : FVec Ideal ⟨2, ![1, 16]⟩ .f32) (x2 x3 : FVec Ideal ⟨2, ![1, 1024]⟩ .f32)
    (x4 : FVec Ideal ⟨4, ![1, 8, 128, 128]⟩ .f32) (x5 : FVec Ideal ⟨3, ![1, 8, 128]⟩ .f32) : Prop where
  base : MixSpec.Args I x0 x1 x2 x3 x4 fun _ => 0
  hb : ∀ g i, x5 (ix3 0 g i) = β g i

end Cert.FwdSpec

end
-- ==== Proof.FwdRef.lean ====
/- What the mixer's forward reference computes on real arguments: its stages are those of the gradient's reference. -/
module

public import proofs.«01_k».proof.Proof.MixGate
public import proofs.«01_k».proof.Proof.FwdSpec
public import proofs.«01_k».proof.Proof.Gen.FwdReferenceIdeal.Read

@[expose] public section

set_option maxRecDepth 16384

noncomputable section

namespace Cert.FwdRef

open Cert.FwdReferenceIdeal Cert.FwdReferenceIdeal.Gen Idealize.ShloMosaic Idealize.ShloMosaic.TcCoe Idealize.SL.Sem

variable (x0 : FVec Ideal S2048x5376 .f32) (x1 : FVec Ideal S1x16 .f32) (x2 x3 : FVec Ideal S1x1024 .f32) (x4 : FVec Ideal S1x8x128x128 .f32) (x5 : FVec Ideal S1x8x128 .f32)

theorem keys_eq : Cert.FwdReferenceIdeal.Read.val_main_v18 (F := Ideal) x0 = Cert.MixReferenceIdeal.Read.val_main_v19 (F := Ideal) x0 := rfl

theorem vals_eq : Cert.FwdReferenceIdeal.Read.val_main_v21 (F := Ideal) x0 = Cert.MixReferenceIdeal.Read.val_main_v23 (F := Ideal) x0 := rfl

theorem scores_eq : Cert.FwdReferenceIdeal.Read.val_main_v25 (F := Ideal) x0 = Cert.MixReferenceIdeal.Read.val_main_v27 (F := Ideal) x0 := rfl

theorem masked_eq : Cert.FwdReferenceIdeal.Read.val_main_v55 (F := Ideal) x0 = Cert.MixReferenceIdeal.Read.val_main_v57_0 (F := Ideal) x0 := rfl

theorem all_eq : Cert.FwdReferenceIdeal.Read.val_main_v59 (F := Ideal) x0 x1 = Cert.MixReferenceIdeal.Read.val_main_v61 (F := Ideal) x0 x1 := rfl

theorem exp_eq : Cert.FwdReferenceIdeal.Read.val_main_v66 (F := Ideal) x0 x1 = Cert.MixReferenceIdeal.Read.val_main_v82 (F := Ideal) x0 x1 := rfl

theorem probs_eq : Cert.FwdReferenceIdeal.Read.val_main_v71 (F := Ideal) x0 x1 = Cert.MixReferenceIdeal.Read.val_main_v90 (F := Ideal) x0 x1 := rfl

theorem att_eq : Cert.FwdReferenceIdeal.Read.val_main_v74 (F := Ideal) x0 x1 = Cert.MixReferenceIdeal.Read.val_main_v93 (F := Ideal) x0 x1 := rfl

theorem left_eq : Cert.FwdReferenceIdeal.Read.val_main_v76 (F := Ideal) x0 x1 = Cert.MixReferenceIdeal.Read.val_main_v95 (F := Ideal) x0 x1 := rfl

theorem hat_eq : Cert.FwdReferenceIdeal.Read.val_main_v98 (F := Ideal) x0 = Cert.MixReferenceIdeal.Read.val_main_v122 (F := Ideal) x0 := rfl

theorem vn_eq : Cert.FwdReferenceIdeal.Read.val_main_v104 (F := Ideal) x0 x2 x3 = Cert.MixReferenceIdeal.Read.val_main_v128 (F := Ideal) x0 x2 x3 := rfl

theorem low_eq : Cert.FwdReferenceIdeal.Read.val_main_v110 (F := Ideal) x4 = Cert.MixReferenceIdeal.Read.val_main_v134 (F := Ideal) x4 := rfl

theorem dot_eq : Cert.FwdReferenceIdeal.Read.val_main_v111 (F := Ideal) x0 x2 x3 x4 = Cert.MixReferenceIdeal.Read.val_main_v135 (F := Ideal) x0 x2 x3 x4 := by
  unfold Cert.FwdReferenceIdeal.Read.val_main_v111 Cert.MixReferenceIdeal.Read.val_main_v135 Cert.FwdReferenceIdeal.Read.val_main_v105 Cert.MixReferenceIdeal.Read.val_main_v129
  rw [vn_eq, low_eq]
  rfl

theorem bias_eq : Cert.FwdReferenceIdeal.Read.val_main_v115 (F := Ideal) x5 = Cert.MixReferenceIdeal.Read.val_main_v139 (F := Ideal) x5 := rfl

theorem mixed_eq : Cert.FwdReferenceIdeal.Read.val_main_v117 (F := Ideal) x0 x2 x3 x4 x5 = Cert.MixReferenceIdeal.Read.val_main_v141 (F := Ideal) x0 x2 x3 x4 x5 := by
  unfold Cert.FwdReferenceIdeal.Read.val_main_v117 Cert.FwdReferenceIdeal.Read.val_main_v116 Cert.FwdReferenceIdeal.Read.val_main_v112 Cert.MixReferenceIdeal.Read.val_main_v141 Cert.MixReferenceIdeal.Read.val_main_v140 Cert.MixReferenceIdeal.Read.val_main_v136
  rw [dot_eq, bias_eq]

theorem gate_eq : Cert.FwdReferenceIdeal.Read.val_main_v119 (F := Ideal) x0 = Cert.MixReferenceIdeal.Read.val_main_v143_0 (F := Ideal) x0 := rfl

theorem right_eq : Cert.FwdReferenceIdeal.Read.val_main_v120 (F := Ideal) x0 x2 x3 x4 x5 = Cert.MixReferenceIdeal.Read.val_main_v144 (F := Ideal) x0 x2 x3 x4 x5 := by
  unfold Cert.FwdReferenceIdeal.Read.val_main_v120 Cert.FwdReferenceIdeal.Read.val_main_v118 Cert.MixReferenceIdeal.Read.val_main_v144 Cert.MixReferenceIdeal.Read.val_main_v142
  rw [mixed_eq, gate_eq]
  rfl

theorem cat_eq : Cert.FwdReferenceIdeal.Read.val_main_v121 (F := Ideal) x0 x1 x2 x3 x4 x5 = Cert.MixReferenceIdeal.Read.val_main_v145 (F := Ideal) x0 x1 x2 x3 x4 x5 := by
  unfold Cert.FwdReferenceIdeal.Read.val_main_v121 Cert.MixReferenceIdeal.Read.val_main_v145
  rw [left_eq, right_eq]

theorem q_eq : Cert.FwdReferenceIdeal.Read.val_main_v126 (F := Ideal) x0 = Cert.FwdReferenceIdeal.Read.val_main_v1 (F := Ideal) x0 := by
  funext i
  rw [Cert.FwdReferenceIdeal.Read.val_main_v126_apply, Cert.FwdReferenceIdeal.Read.val_main_v125_apply, Cert.FwdReferenceIdeal.Read.val_main_v1_apply]
  refine congrArg (Cert.FwdReferenceIdeal.Read.val_main_v0 (F := Ideal) x0) (funext fun p => ?_)
  match p with
  | ⟨0, _⟩ => exact Fin.ext (by simp)
  | ⟨1, _⟩ => exact Fin.ext (by simp)
  | ⟨2, _⟩ => exact Fin.ext (by simp)

theorem k_eq : Cert.FwdReferenceIdeal.Read.val_main_v127 (F := Ideal) x0 = Cert.FwdReferenceIdeal.Read.val_main_v2 (F := Ideal) x0 := by
  funext i
  rw [Cert.FwdReferenceIdeal.Read.val_main_v127_apply, Cert.FwdReferenceIdeal.Read.val_main_v125_apply, Cert.FwdReferenceIdeal.Read.val_main_v2_apply]
  refine congrArg (Cert.FwdReferenceIdeal.Read.val_main_v0 (F := Ideal) x0) (funext fun p => ?_)
  match p with
  | ⟨0, _⟩ => exact Fin.ext (by simp)
  | ⟨1, _⟩ => exact Fin.ext (by simp)
  | ⟨2, _⟩ => exact Fin.ext (by simp)

theorem v_eq : Cert.FwdReferenceIdeal.Read.val_main_v128 (F := Ideal) x0 = Cert.FwdReferenceIdeal.Read.val_main_v3 (F := Ideal) x0 := by
  funext i
  rw [Cert.FwdReferenceIdeal.Read.val_main_v128_apply, Cert.FwdReferenceIdeal.Read.val_main_v125_apply, Cert.FwdReferenceIdeal.Read.val_main_v3_apply]
  refine congrArg (Cert.FwdReferenceIdeal.Read.val_main_v0 (F := Ideal) x0) (funext fun p => ?_)
  match p with
  | ⟨0, _⟩ => exact Fin.ext (by simp)
  | ⟨1, _⟩ => exact Fin.ext (by simp)
  | ⟨2, _⟩ => exact Fin.ext (by simp)

theorem q2_eq : Cert.FwdReferenceIdeal.Read.val_main_v133 (F := Ideal) x0 = Cert.FwdReferenceIdeal.Read.val_main_v12 (F := Ideal) x0 := by
  unfold Cert.FwdReferenceIdeal.Read.val_main_v133 Cert.FwdReferenceIdeal.Read.val_main_v129 Cert.FwdReferenceIdeal.Read.val_main_v12 Cert.FwdReferenceIdeal.Read.val_main_v8
  rw [q_eq]

theorem k2_eq : Cert.FwdReferenceIdeal.Read.val_main_v134 (F := Ideal) x0 = Cert.FwdReferenceIdeal.Read.val_main_v13 (F := Ideal) x0 := by
  unfold Cert.FwdReferenceIdeal.Read.val_main_v134 Cert.FwdReferenceIdeal.Read.val_main_v130 Cert.FwdReferenceIdeal.Read.val_main_v13 Cert.FwdReferenceIdeal.Read.val_main_v9
  rw [k_eq]

theorem v2_eq : Cert.FwdReferenceIdeal.Read.val_main_v135 (F := Ideal) x0 = Cert.FwdReferenceIdeal.Read.val_main_v14 (F := Ideal) x0 := by
  unfold Cert.FwdReferenceIdeal.Read.val_main_v135 Cert.FwdReferenceIdeal.Read.val_main_v131 Cert.FwdReferenceIdeal.Read.val_main_v14 Cert.FwdReferenceIdeal.Read.val_main_v10
  rw [v_eq]

theorem keys2_eq : Cert.FwdReferenceIdeal.Read.val_main_v139 (F := Ideal) x0 = Cert.FwdReferenceIdeal.Read.val_main_v18 (F := Ideal) x0 := by
  unfold Cert.FwdReferenceIdeal.Read.val_main_v139 Cert.FwdReferenceIdeal.Read.val_main_v138 Cert.FwdReferenceIdeal.Read.val_main_v137 Cert.FwdReferenceIdeal.Read.val_main_v18 Cert.FwdReferenceIdeal.Read.val_main_v17 Cert.FwdReferenceIdeal.Read.val_main_v16
  rw [k2_eq]
  rfl

theorem vals2_eq : Cert.FwdReferenceIdeal.Read.val_main_v142 (F := Ideal) x0 = Cert.FwdReferenceIdeal.Read.val_main_v21 (F := Ideal) x0 := by
  unfold Cert.FwdReferenceIdeal.Read.val_main_v142 Cert.FwdReferenceIdeal.Read.val_main_v141 Cert.FwdReferenceIdeal.Read.val_main_v140 Cert.FwdReferenceIdeal.Read.val_main_v21 Cert.FwdReferenceIdeal.Read.val_main_v20 Cert.FwdReferenceIdeal.Read.val_main_v19
  rw [v2_eq]
  rfl

theorem scores2_eq : Cert.FwdReferenceIdeal.Read.val_main_v146 (F := Ideal) x0 = Cert.FwdReferenceIdeal.Read.val_main_v25 (F := Ideal) x0 := by
  unfold Cert.FwdReferenceIdeal.Read.val_main_v146 Cert.FwdReferenceIdeal.Read.val_main_v144 Cert.FwdReferenceIdeal.Read.val_main_v143 Cert.FwdReferenceIdeal.Read.val_main_v25 Cert.FwdReferenceIdeal.Read.val_main_v23 Cert.FwdReferenceIdeal.Read.val_main_v22
  rw [keys2_eq, q2_eq]
  rfl

theorem mask2_eq : Cert.FwdReferenceIdeal.Read.val_main_call4_v1 (F := Ideal) = Cert.FwdReferenceIdeal.Read.val_main_call0_v1 (F := Ideal) := rfl

theorem masked2_eq : Cert.FwdReferenceIdeal.Read.val_main_v176 (F := Ideal) x0 = Cert.FwdReferenceIdeal.Read.val_main_v55 (F := Ideal) x0 := by
  unfold Cert.FwdReferenceIdeal.Read.val_main_v176 Cert.FwdReferenceIdeal.Read.val_main_v55
  rw [scores2_eq, mask2_eq]
  rfl

theorem all2_eq : Cert.FwdReferenceIdeal.Read.val_main_v180 (F := Ideal) x0 x1 = Cert.FwdReferenceIdeal.Read.val_main_v59 (F := Ideal) x0 x1 := by
  unfold Cert.FwdReferenceIdeal.Read.val_main_v180 Cert.FwdReferenceIdeal.Read.val_main_v59
  rw [masked2_eq]
  rfl

theorem max2_eq : Cert.FwdReferenceIdeal.Read.val_main_v183 (F := Ideal) x0 x1 = Cert.FwdReferenceIdeal.Read.val_main_v62 (F := Ideal) x0 x1 := by
  unfold Cert.FwdReferenceIdeal.Read.val_main_v183 Cert.FwdReferenceIdeal.Read.val_main_v181 Cert.FwdReferenceIdeal.Read.val_main_v62 Cert.FwdReferenceIdeal.Read.val_main_v60
  rw [all2_eq]
  rfl

theorem exp2_eq : Cert.FwdReferenceIdeal.Read.val_main_v187 (F := Ideal) x0 x1 = Cert.FwdReferenceIdeal.Read.val_main_v66 (F := Ideal) x0 x1 := by
  unfold Cert.FwdReferenceIdeal.Read.val_main_v187 Cert.FwdReferenceIdeal.Read.val_main_v186 Cert.FwdReferenceIdeal.Read.val_main_v185 Cert.FwdReferenceIdeal.Read.val_main_v184 Cert.FwdReferenceIdeal.Read.val_main_v66 Cert.FwdReferenceIdeal.Read.val_main_v65 Cert.FwdReferenceIdeal.Read.val_main_v64 Cert.FwdReferenceIdeal.Read.val_main_v63
  rw [all2_eq, max2_eq]

theorem probs2_eq : Cert.FwdReferenceIdeal.Read.val_main_v192 (F := Ideal) x0 x1 = Cert.FwdReferenceIdeal.Read.val_main_v71 (F := Ideal) x0 x1 := by
  unfold Cert.FwdReferenceIdeal.Read.val_main_v192 Cert.FwdReferenceIdeal.Read.val_main_v191 Cert.FwdReferenceIdeal.Read.val_main_v190 Cert.FwdReferenceIdeal.Read.val_main_v189 Cert.FwdReferenceIdeal.Read.val_main_v188 Cert.FwdReferenceIdeal.Read.val_main_v71 Cert.FwdReferenceIdeal.Read.val_main_v70 Cert.FwdReferenceIdeal.Read.val_main_v69 Cert.FwdReferenceIdeal.Read.val_main_v68 Cert.FwdReferenceIdeal.Read.val_main_v67
  rw [exp2_eq]
  rfl

theorem out_eq : Cert.FwdReferenceIdeal.Read.val_main_v195 (F := Ideal) x0 x1 = Cert.FwdReferenceIdeal.Read.val_main_v74 (F := Ideal) x0 x1 := by
  unfold Cert.FwdReferenceIdeal.Read.val_main_v195 Cert.FwdReferenceIdeal.Read.val_main_v194 Cert.FwdReferenceIdeal.Read.val_main_v193 Cert.FwdReferenceIdeal.Read.val_main_v74 Cert.FwdReferenceIdeal.Read.val_main_v73 Cert.FwdReferenceIdeal.Read.val_main_v72
  rw [vals2_eq, probs2_eq]

variable {x0 x1 x2 x3 x4 x5}
variable {I : MixSpec.Data} {β : Fin 8 → Fin 128 → EReal} (H : FwdSpec.Args I β x0 x1 x2 x3 x4 x5)
include H

open Cert.MixReferenceIdeal.Read in
theorem mixed (t : Fin 2048) (c : Fin 1024) :
    val_main_v141 (F := Ideal) x0 x2 x3 x4 x5 (ix3 0 t c) = (FwdSpec.total I t c : EReal) + β (MixSpec.grp c) (MixSpec.row t) := by
  pointwise [val_main_v141, val_main_v140, val_main_v139, val_main_v138, val_main_v137, val_main_v136, val_main_v99]
  rw [MixSpec.mk_blk, MixSpec.mk_row, MixSpec.mk_grp, MixSpec.mk_sub, MixRef.v135 H.base, H.hb, MixSpec.gl_grp_sub]
  rfl

open Cert.MixReferenceIdeal.Read in
theorem cat (t c : Fin 2048) : val_main_v145 (F := Ideal) x0 x1 x2 x3 x4 x5 (ix3 0 t c) = FwdSpec.cat I β t c := by
  by_cases hc : c.val < 1024
  · have e := MixRef.v93 H.base (MixSpec.blk t) ⟨c.val / 512, by omega⟩ ⟨c.val / 64 % 8, by omega⟩ (MixSpec.row t) ⟨c.val % 64, by omega⟩
    rw [MixSpec.tok_blk_row, show MixSpec.hd _ _ _ = (⟨c.val, hc⟩ : Fin 1024) from Fin.ext (by dsimp only [MixSpec.hd]; omega)] at e
    pointwise [val_main_v145, val_main_v144, val_main_v95]
    rw [dif_pos hc, e, MixRef.v94_0 H.base, ← EReal.coe_mul, FwdSpec.cat, dif_pos hc]
  · pointwise [val_main_v145, val_main_v144, val_main_v95, val_main_v142]
    rw [dif_neg hc, MixRef.v5 H.base, mixed H, MixRef.v143_0 H.base, FwdSpec.cat, dif_neg hc]

theorem v123 (t c : Fin 2048) : Cert.FwdReferenceIdeal.Read.val_main_v123 (F := Ideal) x0 x1 x2 x3 x4 x5 (ix2 t c) = FwdSpec.cat I β t c := by
  refine Eq.trans ?_ (cat H t c)
  rw [← cat_eq]
  pointwise [Cert.FwdReferenceIdeal.Read.val_main_v123, Cert.FwdReferenceIdeal.Read.val_main_v122]

theorem v196 (n : Fin 16) (r : Fin 128) (h : Fin 2) (g : Fin 8) (d : Fin 64) :
    Cert.FwdReferenceIdeal.Read.val_main_v196 (F := Ideal) x0 x1 (ix2 (MixSpec.tok n r) (MixSpec.hd h g d)) = (MixSpec.att I n h g r d : EReal) := by
  refine Eq.trans ?_ (MixRef.v93 H.base n h g r d)
  rw [← att_eq, ← out_eq]
  pointwise [Cert.FwdReferenceIdeal.Read.val_main_v196]

end Cert.FwdRef

end
-- ==== Proof.Tiles.lean ====
/- Eight tiles side by side, and one query of the attention as the kernels write it. -/
module

public import proofs.«01_k».proof.Proof.Words

@[expose] public section

noncomputable section

namespace Cert.Tiles

open Idealize.ShloMosaic
open Cert.Reals Cert.MixSpec Cert.Attn
open scoped BigOperators

/-- Eight tiles of 128, one after the other. -/
theorem ladder {α : Type} (f : Fin 8 → Fin 128 → α) (x : Fin 1024) :
    (if h : x.val < 128 then f 0 ⟨x.val, h⟩
      else if h : x.val - 128 < 128 then f 1 ⟨x.val - 128, h⟩
      else if h : x.val - 128 - 128 < 128 then f 2 ⟨x.val - 128 - 128, h⟩
      else if h : x.val - 128 - 128 - 128 < 128 then f 3 ⟨x.val - 128 - 128 - 128, h⟩
      else if h : x.val - 128 - 128 - 128 - 128 < 128 then f 4 ⟨x.val - 128 - 128 - 128 - 128, h⟩
      else if h : x.val - 128 - 128 - 128 - 128 - 128 < 128 then f 5 ⟨x.val - 128 - 128 - 128 - 128 - 128, h⟩
      else if h : x.val - 128 - 128 - 128 - 128 - 128 - 128 < 128 then f 6 ⟨x.val - 128 - 128 - 128 - 128 - 128 - 128, h⟩
      else f 7 ⟨x.val - 128 - 128 - 128 - 128 - 128 - 128 - 128, by omega⟩) = f (grp x) (sub x) := by
  split_ifs <;> refine congrArg₂ f (Fin.ext ?_) (Fin.ext ?_) <;> simp only [grp, sub, Fin.isValue] <;>
    first | omega | (change _ = x.val / 128; norm_num; omega)

/-- Eight groups of lanes, each read where it lies. -/
theorem wide {α : Type} (f : Fin 8 → Fin 1024 → α) (c : Fin 1024) :
    (if h : c.val < 128 then f 0 c
      else if h : c.val - 128 < 128 then f 1 ⟨128 + (c.val - 128), by omega⟩
      else if h : c.val - 128 - 128 < 128 then f 2 ⟨256 + (c.val - 128 - 128), by omega⟩
      else if h : c.val - 128 - 128 - 128 < 128 then f 3 ⟨384 + (c.val - 128 - 128 - 128), by omega⟩
      else if h : c.val - 128 - 128 - 128 - 128 < 128 then f 4 ⟨512 + (c.val - 128 - 128 - 128 - 128), by omega⟩
      else if h : c.val - 128 - 128 - 128 - 128 - 128 < 128 then f 5 ⟨640 + (c.val - 128 - 128 - 128 - 128 - 128), by omega⟩
      else if h : c.val - 128 - 128 - 128 - 128 - 128 - 128 < 128 then f 6 ⟨768 + (c.val - 128 - 128 - 128 - 128 - 128 - 128), by omega⟩
      else f 7 ⟨896 + (c.val - 128 - 128 - 128 - 128 - 128 - 128 - 128), by omega⟩) = f (grp c) c := by
  split_ifs <;> refine congrArg₂ f (Fin.ext ?_) (Fin.ext ?_) <;> simp only [grp, Fin.isValue] <;>
    first | omega | (change _ = c.val / 128; norm_num; omega)

section Query

variable (K V : Fin 256 → Fin 64 → ℝ) (q : Fin 64 → ℝ) (σ : ℝ) (M : Fin 256 → Bool)

/-- The greatest of the scores and the sink. -/
def mx : EReal := max (Finset.univ.fold max ⊥ (msc K q M)) (σ : EReal)

theorem mx_real : ((mx K q σ M).toReal : EReal) = mx K q σ M :=
  max_real (fold_max_ne_top _ fun s => msc_ne_top s) σ

/-- A key's exponential. -/
theorem ex_eq (s : Fin 256) : Ideal.exp (msc K q M s - mx K q σ M) = ((wt K q M s * Real.exp (-(mx K q σ M).toReal) : ℝ) : EReal) := by
  rw [← mx_real, exp_msc]
  rfl

/-- The sink's exponential. -/
theorem exs_eq : Ideal.exp ((σ : EReal) - mx K q σ M) = ((Real.exp σ * Real.exp (-(mx K q σ M).toReal) : ℝ) : EReal) := by
  rw [← mx_real, exp_sub]
  rfl

/-- The reciprocal of the exponentials' sum. -/
theorem inv_eq : Ideal.div 1 ((∑ s, Ideal.exp (msc K q M s - mx K q σ M)) + Ideal.exp ((σ : EReal) - mx K q σ M))
    = ((1 / (tot K q σ M * Real.exp (-(mx K q σ M).toReal)) : ℝ) : EReal) := by
  simp only [ex_eq, exs_eq, coe_sum]
  rw [← EReal.coe_add, sum_shift, ← EReal.coe_one, coe_div _ _ (shift_ne _ _ _ _ _)]

/-- A key's probability. -/
theorem pr_eq (s : Fin 256) :
    Ideal.exp (msc K q M s - mx K q σ M)
        * Ideal.div 1 ((∑ s, Ideal.exp (msc K q M s - mx K q σ M)) + Ideal.exp ((σ : EReal) - mx K q σ M))
      = (pr K q σ M s : EReal) := by
  rw [inv_eq, ex_eq, ← EReal.coe_mul, mul_one_div, pr_shift]

/-- The sink's probability. -/
theorem prs_eq :
    Ideal.exp ((σ : EReal) - mx K q σ M)
        * Ideal.div 1 ((∑ s, Ideal.exp (msc K q M s - mx K q σ M)) + Ideal.exp ((σ : EReal) - mx K q σ M))
      = (prs K q σ M : EReal) := by
  rw [inv_eq, exs_eq, ← EReal.coe_mul, mul_one_div, prs_shift]

end Query

end Cert.Tiles

end
-- ==== Proof.FwdKernel.lean ====
/- What the kernel of the mixer leaves in its result arrays, on real arguments. -/
module

public import proofs.«01_k».proof.Proof.Gen.FwdKernelIdeal.Frame
public import proofs.«01_k».proof.Proof.Tiles
public import proofs.«01_k».proof.Proof.FwdSpec
public import Idealize.ShloMosaic.Lib.Pipeline.ValueKit
public import Idealize.ShloMosaic.Lib.Pointwise
public import Idealize.ShloMosaic.Lib.VecWindow

@[expose] public section

set_option maxRecDepth 16384

noncomputable section

namespace Cert.FwdKernelRun

open Cert.FwdKernelIdeal Cert.FwdKernelIdeal.Gen Idealize.ShloMosaic Idealize.ShloMosaic.TcCoe Idealize.SL.Sem
open Idealize.ShloMosaic.Pipeline (Dat)
open Cert.Reals Cert.MixSpec Cert.Attn Cert.Tiles
open Cert.FwdSpec (total)

section Half

variable {K V : Fin 256 → Fin 64 → ℝ} {q : Fin 8 → Fin 128 → Fin 64 → ℝ} {σ : Fin 8 → ℝ} {M : Fin 128 → Fin 256 → Bool}
variable {v14 : IVec S256x1024 1} {k v : FVec Ideal S256x128 .bf16} {Q : Fin 8 → Vec Ideal S128x64 .f32} {w : Fin 8 → Vec Ideal S1x1 .f32}

/-- What the attention of one key head reads: the visible keys, its keys and values in the first lanes, its eight query heads, their sinks. -/
structure Half (K V : Fin 256 → Fin 64 → ℝ) (q : Fin 8 → Fin 128 → Fin 64 → ℝ) (σ : Fin 8 → ℝ) (M : Fin 128 → Fin 256 → Bool)
    (v14 : IVec S256x1024 1) (k v : FVec Ideal S256x128 .bf16) (Q : Fin 8 → Vec Ideal S128x64 .f32) (w : Fin 8 → Vec Ideal S1x1 .f32) : Prop where
  hM : ∀ s x, v14 (ix2 s x) = BitVec.ofBool (M (sub x) s)
  hK : ∀ (s : Fin 256) (d : Fin 64), k (ix2 s ⟨d.val, by omega⟩) = (K s d : EReal)
  hV : ∀ (s : Fin 256) (d : Fin 64), v (ix2 s ⟨d.val, by omega⟩) = (V s d : EReal)
  hQ : ∀ g r d, Q g (ix2 r d) = (q g r d : EReal)
  hw : ∀ g, w g (ix2 0 0) = (σ g : EReal)

variable (H : Half K V q σ M v14 k v Q w)
include H

theorem stack (x : Fin 1024) (d : Fin 64) :
    k0_pay19 (F := Ideal) (Q 0) (Q 1) (Q 2) (Q 3) (Q 4) (Q 5) (Q 6) (Q 7) (ix2 x d) = (q (grp x) (sub x) d : EReal) := by
  pointwise [k0_pay19]
  exact (ladder (fun g r => Q g (ix2 r d)) x).trans (H.hQ _ _ d)

theorem pay5 (x : Fin 1024) :
    k0_pay5 (F := Ideal) (w 0) (w 1) (w 2) (w 3) (w 4) (w 5) (w 6) (w 7) (ix2 0 x) = (σ (grp x) : EReal) := by
  pointwise [k0_pay5]
  exact (ladder (fun g _ => w g (ix2 0 0)) x).trans (H.hw _)

theorem pay6 (s : Fin 256) (x : Fin 1024) :
    k0_pay6 (F := Ideal) v14 k (Q 0) (Q 1) (Q 2) (Q 3) (Q 4) (Q 5) (Q 6) (Q 7) (ix2 s x)
      = msc K (fun d => q (grp x) (sub x) d * (1 / 8)) (M (sub x)) s := by
  pointwise [k0_pay6]
  rw [H.hM, Words.select_ofBool, bits_bot, bits_eighth]
  refine congrArg (fun y => if M (sub x) s then y else ⊥) ?_
  refine (congrArg (· * _) (Finset.sum_congr rfl fun d _ => congrArg₂ (· * ·) (H.hK s d)
    ((ladder (fun g r => Q g (ix2 r d)) x).trans (H.hQ _ _ d)))).trans ?_
  simp only [← EReal.coe_mul, coe_sum]
  refine congrArg Real.toEReal ?_
  rw [Finset.sum_mul]
  exact Finset.sum_congr rfl fun d _ => mul_assoc _ _ _

theorem pay7 (x : Fin 1024) :
    k0_pay7 (F := Ideal) v14 k (Q 0) (Q 1) (Q 2) (Q 3) (Q 4) (Q 5) (Q 6) (Q 7) (w 0) (w 1) (w 2) (w 3) (w 4) (w 5) (w 6) (w 7) (ix2 0 x)
      = mx K (fun d => q (grp x) (sub x) d * (1 / 8)) (σ (grp x)) (M (sub x)) := by
  unfold k0_pay7
  dsimp only
  have e6 := fun s => pay6 H s x
  have e5 := pay5 H x
  generalize k0_pay6 (F := Ideal) v14 k (Q 0) (Q 1) (Q 2) (Q 3) (Q 4) (Q 5) (Q 6) (Q 7) = E at e6 ⊢
  generalize k0_pay5 (F := Ideal) (w 0) (w 1) (w 2) (w 3) (w 4) (w 5) (w 6) (w 7) = S at e5 ⊢
  refine congrArg₂ max (Eq.trans ?_ (congrArg (Finset.univ.fold max ⊥) (funext e6))) e5
  generalize hR : Finset.univ.fold max ⊥ (fun s => E (ix2 s x)) = R
  pointwise []
  rw [bits_bot]
  exact hR

theorem pay9 (d : Fin 64) (x : Fin 1024) {v61 : FVec Ideal S1x1024 .f32} {v66 : FVec Ideal S256x1024 .f32} {v69 : FVec Ideal S1x1024 .f32}
    {v70 : FVec Ideal S256x1024 .f32} (h61 : ∀ x, v61 (ix2 0 x) = (σ (grp x) : EReal))
    (h66 : ∀ s x, v66 (ix2 s x) = msc K (fun d => q (grp x) (sub x) d * (1 / 8)) (M (sub x)) s)
    (h69 : ∀ x, v69 (ix2 0 x) = mx K (fun d => q (grp x) (sub x) d * (1 / 8)) (σ (grp x)) (M (sub x)))
    (h70 : ∀ s x, v70 (ix2 s x) = mx K (fun d => q (grp x) (sub x) d * (1 / 8)) (σ (grp x)) (M (sub x))) :
    k0_pay9 (F := Ideal) v v61 v66 v69 v70 (ix2 d x)
      = (out K V (fun d => q (grp x) (sub x) d * (1 / 8)) (σ (grp x)) (M (sub x)) d : EReal) := by
  pointwise [k0_pay9]
  simp only [h61, h66, h69, h70, H.hV, pr_eq, ← EReal.coe_mul, coe_sum]
  rfl

omit H in
/-- The array with its two halves of lanes exchanged. -/
def turn (a : FVec Ideal S256x128 .bf16) : FVec Ideal S256x128 .bf16 := fun i => a (ix2 (i 0) ⟨(i 1 + 64) % 128, by omega⟩)

omit H in
theorem slice_turn (a : FVec Ideal S256x128 .bf16) :
    extractStridedSlice S256x64 ![0, 64] a slices_S256x128_o0_64_S256x64 = extractStridedSlice S256x64 ![0, 0] (turn a) slices_S256x128_o0_0_S256x64 := by
  funext i
  rw [eq_ix2 i]
  pointwise []
  unfold turn
  refine congrArg a (congrArg (ix2 _) (Fin.ext ?_))
  have h : (i 1).val < 64 := (i 1).isLt
  show 64 + (i 1).val = ((i 1).val + 64) % 128
  omega

omit H in
/-- The second key head's output is the first one's, on the exchanged halves. -/
theorem second : k0_pay26 (F := Ideal) v14 v (k0_pay19 (Q 0) (Q 1) (Q 2) (Q 3) (Q 4) (Q 5) (Q 6) (Q 7)) (k0_pay20 k)
      (k0_pay21 (w 0)) (k0_pay22 (w 1)) (k0_pay23 (w 2)) (k0_pay24 (w 3)) (k0_pay25 (w 4)) (w 5) (w 6) (w 7)
    = k0_pay9 (F := Ideal) (turn v) (k0_pay5 (w 0) (w 1) (w 2) (w 3) (w 4) (w 5) (w 6) (w 7))
      (k0_pay6 v14 (turn k) (Q 0) (Q 1) (Q 2) (Q 3) (Q 4) (Q 5) (Q 6) (Q 7))
      (k0_pay7 v14 (turn k) (Q 0) (Q 1) (Q 2) (Q 3) (Q 4) (Q 5) (Q 6) (Q 7) (w 0) (w 1) (w 2) (w 3) (w 4) (w 5) (w 6) (w 7))
      (k0_pay8 v14 (turn k) (Q 0) (Q 1) (Q 2) (Q 3) (Q 4) (Q 5) (Q 6) (Q 7) (w 0) (w 1) (w 2) (w 3) (w 4) (w 5) (w 6) (w 7)) := by
  unfold k0_pay26 k0_pay20 k0_pay19 k0_pay21 k0_pay22 k0_pay23 k0_pay24 k0_pay25 k0_pay9 k0_pay8 k0_pay7 k0_pay6 k0_pay5
  dsimp only
  rw [slice_turn, slice_turn]

theorem pay8 (s : Fin 256) (x : Fin 1024) :
    k0_pay8 (F := Ideal) v14 k (Q 0) (Q 1) (Q 2) (Q 3) (Q 4) (Q 5) (Q 6) (Q 7) (w 0) (w 1) (w 2) (w 3) (w 4) (w 5) (w 6) (w 7) (ix2 s x)
      = mx K (fun d => q (grp x) (sub x) d * (1 / 8)) (σ (grp x)) (M (sub x)) := by
  refine Eq.trans ?_ (pay7 H x)
  unfold k0_pay8
  generalize k0_pay7 (F := Ideal) v14 k (Q 0) (Q 1) (Q 2) (Q 3) (Q 4) (Q 5) (Q 6) (Q 7) (w 0) (w 1) (w 2) (w 3) (w 4) (w 5) (w 6) (w 7) = a
  pointwise []

omit H in
/-- The output of one key head's attention, a column for each row of each query head. -/
def ot (v14 : IVec S256x1024 1) (k v : FVec Ideal S256x128 .bf16) (Q : Fin 8 → Vec Ideal S128x64 .f32) (w : Fin 8 → Vec Ideal S1x1 .f32) :
    FVec Ideal S64x1024 .f32 :=
  k0_pay9 (F := Ideal) v (k0_pay5 (w 0) (w 1) (w 2) (w 3) (w 4) (w 5) (w 6) (w 7))
      (k0_pay6 v14 k (Q 0) (Q 1) (Q 2) (Q 3) (Q 4) (Q 5) (Q 6) (Q 7))
      (k0_pay7 v14 k (Q 0) (Q 1) (Q 2) (Q 3) (Q 4) (Q 5) (Q 6) (Q 7) (w 0) (w 1) (w 2) (w 3) (w 4) (w 5) (w 6) (w 7))
      (k0_pay8 v14 k (Q 0) (Q 1) (Q 2) (Q 3) (Q 4) (Q 5) (Q 6) (Q 7) (w 0) (w 1) (w 2) (w 3) (w 4) (w 5) (w 6) (w 7))

theorem ot_at (d : Fin 64) (x : Fin 1024) :
    ot v14 k v Q w (ix2 d x) = (out K V (fun d => q (grp x) (sub x) d * (1 / 8)) (σ (grp x)) (M (sub x)) d : EReal) :=
  pay9 H d x (pay5 H) (pay6 H) (pay7 H) (pay8 H)

omit H in
theorem second' (v14 : IVec S256x1024 1) (k v : FVec Ideal S256x128 .bf16) (Q : Fin 8 → Vec Ideal S128x64 .f32) (w : Fin 8 → Vec Ideal S1x1 .f32) :
    k0_pay26 v14 v (k0_pay19 (Q 0) (Q 1) (Q 2) (Q 3) (Q 4) (Q 5) (Q 6) (Q 7)) (k0_pay20 k)
      (k0_pay21 (w 0)) (k0_pay22 (w 1)) (k0_pay23 (w 2)) (k0_pay24 (w 3)) (k0_pay25 (w 4)) (w 5) (w 6) (w 7) = ot v14 (turn k) (turn v) Q w :=
  second

end Half

section Gate

variable {I : Data} {n : Fin 16} {x y : Vec Ideal S128x1024 .f32} {lg lb : Vec Ideal S1x1024 .f32} {w : Fin 8 → Vec Ideal S1x128x128 .f32}
variable {b : Fin 8 → Vec Ideal S128x1 .f32} {β : Fin 8 → Fin 128 → EReal}

/-- What the gating of one block reads: its rows, the normalisation's scale and shift, the weights and the shifts. -/
structure Gate (I : Data) (β : Fin 8 → Fin 128 → EReal) (n : Fin 16) (x : Vec Ideal S128x1024 .f32) (lg lb : Vec Ideal S1x1024 .f32)
    (w : Fin 8 → Vec Ideal S1x128x128 .f32) (b : Fin 8 → Vec Ideal S128x1 .f32) : Prop where
  hx : ∀ r c, x (ix2 r c) = (vs I (tok n r) c : EReal)
  hg : ∀ c, lg (ix2 0 c) = (I.lg c : EReal)
  hb : ∀ c, lb (ix2 0 c) = (I.lb c : EReal)
  hw : ∀ g i k, w g (ix3 0 i k) = (I.w g i k : EReal)
  hs : ∀ g i, b g (ix2 i 0) = β g i

variable (H : Gate I β n x lg lb w b)
include H

theorem pay36 (r : Fin 128) (c : Fin 1024) : k0_pay36 (F := Ideal) x (ix2 r c) = ((vs I (tok n r) c - LnRow.mean (vs I (tok n r)) : ℝ) : EReal) := by
  pointwise [k0_pay36]
  simp only [H.hx, coe_sum, bits_1024]
  rw [coe_div _ _ (by norm_num), ← EReal.coe_sub]
  rfl

theorem pay38 (r : Fin 128) (c : Fin 1024) :
    k0_pay38 (F := Ideal) (k0_pay36 x) (k0_pay37 x) lg lb (ix2 r c) = (vn I (tok n r) c : EReal) := by
  pointwise [k0_pay38, k0_pay37]
  simp only [pay36 H, H.hg, H.hb, ← EReal.coe_mul, coe_sum, bits_1024, bits_eps]
  rw [coe_div _ _ (by norm_num), ← EReal.coe_add]
  refine (congrArg (fun y => _ * y * _ + _) (coe_rsqrt _ (LnRow.vr_pos (vs I (tok n r))))).trans ?_
  rw [← EReal.coe_mul, ← EReal.coe_mul, ← EReal.coe_add]
  rfl

theorem pay39 (g : Fin 8) (i k : Fin 128) : k0_pay39 (F := Ideal) k0_pay2 (w g) (ix2 i k) = (tw I g i k : EReal) := by
  pointwise [k0_pay39, k0_pay2]
  rw [H.hw, WordCmp.cmpi_sge_ofNat (by omega) (by omega), Words.select_ofBool]
  unfold tw
  by_cases h : k.val ≤ i.val
  · rw [if_pos h, if_pos (decide_eq_true h)]
  · rw [if_neg h, if_neg (by simpa using h)]
    rfl

theorem pay50 (u gs : Vec Ideal S128x1024 .f32) (r : Fin 128) (c : Fin 1024) {V : FVec Ideal S128x1024 .bf16}
    (hV : ∀ r c, V (ix2 r c) = (vn I (tok n r) c : EReal)) {T : Fin 8 → FVec Ideal S128x128 .bf16} (hT : ∀ g i k, T g (ix2 i k) = (tw I g i k : EReal))
    (hu : ∀ r c, u (ix2 r c) = (uu I (tok n r) c : EReal)) (hgs : ∀ r c, gs (ix2 r c) = (MixSpec.gs I (tok n r) c : EReal)) :
    k0_pay50 (F := Ideal) V (T 3) (T 4) (T 5) (T 6) (T 7) (k0_pay47 V (T 0) (b 0)) (k0_pay48 V (T 1) (b 1)) (k0_pay49 V (T 2) (b 2))
        (b 3) (b 4) (b 5) (b 6) (b 7) gs u (ix2 r c)
      = (uu I (tok n r) c : EReal) * ((total I (tok n r) c : EReal) + β (grp c) r) * (silu (MixSpec.gs I (tok n r) c) : EReal) := by
  have e : (∑ x, T (grp c) (ix2 r x) * V (ix2 x c)) + b (grp c) (ix2 r 0) = (total I (tok n r) c : EReal) + β (grp c) r := by
    simp only [hV, hT, H.hs, ← EReal.coe_mul, coe_sum]
    rw [total, row_tok, blk_tok]
  pointwise [k0_pay50, k0_pay47, k0_pay48, k0_pay49]
  refine (congrArg (fun y => u (ix2 r c) * y * _) ((wide (fun g k => (∑ x, T g (ix2 r x) * V (ix2 x k)) + b g (ix2 r 0)) c).trans e)).trans ?_
  rw [hu, hgs, coe_logistic, ← EReal.coe_mul]
  rfl

end Gate

variable (m : (ℓ : Loc nD τ sig) → Buf (Elt Ideal) ℓ) (c : Dev nD) {I : Data} {β : Fin 8 → Fin 128 → EReal}

/-- The block of rows that point `t` computes. -/
def pt (t : Fin cfg0.N) : Fin 16 := ⟨t.val, t.isLt⟩

theorem idx : ∀ t : Fin cfg0.N, win0_0.index t = ![t.val, 0] ∧ win0_1.index t = ![t.val - 1, 4] ∧ win0_2.index t = ![0, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] :=
  (by decide +kernel : ∀ t : Fin grid0.N, _)

theorem coord : ∀ t : Fin cfg0.N, (grid0.coords t 0).val = t.val := (by decide +kernel : ∀ t : Fin grid0.N, _)

/-- The arguments of the run are these reals. -/
abbrev Reads (I : Data) (β : Fin 8 → Fin 128 → EReal) : Prop :=
  FwdSpec.Args I β (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable {m c} (H : Reads m c I β)
include H

theorem z_at (t : Fin cfg0.N) (r : Fin 128) (l : Fin 5376) : iblk m c 0 t (ix2 r l) = (I.Z (tok (pt t) r) l : EReal) := by
  rw [← H.base.h0, tok, pt]; blk_point [iblk, V, idx t]

theorem p_at (t : Fin cfg0.N) (r : Fin 128) (l : Fin 256) :
    iblk m c 1 t (ix2 r l) = (I.Z ⟨128 * (t.val - 1) + r.val, by have h : t.val < 16 := t.isLt; omega⟩ ⟨1024 + l.val, by omega⟩ : EReal) := by
  rw [← H.base.h0]; blk_point [iblk, V, idx t]

theorem sk_at (t : Fin cfg0.N) (h : Fin 16) : iblk m c 2 t (ix2 0 h) = (I.sk h : EReal) := by
  rw [← H.base.h2]; blk_point [iblk, V, idx t]

theorem lg_at (t : Fin cfg0.N) (l : Fin 1024) : iblk m c 3 t (ix2 0 l) = (I.lg l : EReal) := by
  rw [← H.base.h3]; blk_point [iblk, V, idx t]

theorem lb_at (t : Fin cfg0.N) (l : Fin 1024) : iblk m c 4 t (ix2 0 l) = (I.lb l : EReal) := by
  rw [← H.base.h4]; blk_point [iblk, V, idx t]

theorem w_at (t : Fin cfg0.N) (g : Fin 8) (i k : Fin 128) : iblk m c 5 t (ix3 g i k) = (I.w g i k : EReal) := by
  rw [← H.base.h5]; blk_point [iblk, V, idx t]

theorem b_at (t : Fin cfg0.N) (i : Fin 128) (g : Fin 8) : iblk m c 6 t (ix2 i g) = β g i := by
  rw [← H.hb]; blk_point [iblk, V, idx t]

omit H in
/-- The lanes of query head `g` of key head `h`. -/
def qt (B : Vec Ideal S128x5376 .f32) (h : Fin 2) (g : Fin 8) : Vec Ideal S128x64 .f32 :=
  View.ld B (Rect.unit ![0, 512 * h.val + 64 * g.val] S128x64.size fun a => by
    match a with
    | ⟨0, _⟩ => exact Nat.le_refl 128
    | ⟨1, _⟩ => show 512 * h.val + 64 * g.val + 64 ≤ 5376; omega)

omit H in
/-- The sink of query head `g` of key head `h`. -/
def sk (B : Vec Ideal S1x16 .f32) (h : Fin 2) (g : Fin 8) : Vec Ideal S1x1 .f32 :=
  View.ld B (Rect.unit ![0, 8 * h.val + g.val] S1x1.size fun a => by
    match a with
    | ⟨0, _⟩ => exact Nat.le_refl 1
    | ⟨1, _⟩ => show 8 * h.val + g.val + 1 ≤ 16; omega)

omit H in
/-- The keys of a block: the block before, then the own one. -/
abbrev ke (P : Vec Ideal S128x256 .f32) (B : Vec Ideal S128x5376 .f32) : FVec Ideal S256x128 .bf16 :=
  k0_pay3 (F := Ideal) (View.ld P (Rect.unit ![0, 0] S128x128.size inb_S128x256_S128x128_0_0))
    (View.ld B (Rect.unit ![0, 1024] S128x128.size inb_S128x5376_S128x128_0_1024))

omit H in
/-- The values of a block: the block before, then the own one. -/
abbrev va (P : Vec Ideal S128x256 .f32) (B : Vec Ideal S128x5376 .f32) : FVec Ideal S256x128 .bf16 :=
  k0_pay4 (F := Ideal) (View.ld P (Rect.unit ![0, 128] S128x128.size inb_S128x256_S128x128_0_128))
    (View.ld B (Rect.unit ![0, 1152] S128x128.size inb_S128x5376_S128x128_0_1152))

theorem qt_at (t : Fin cfg0.N) (h : Fin 2) (g : Fin 8) (r : Fin 128) (d : Fin 64) :
    qt (iblk m c 0 t) h g (ix2 r d) = (I.Z (tok (pt t) r) (lane 0 (hd h g d)) : EReal) := by
  rw [← z_at H]
  pointwise [qt]
  exact congrArg _ (congrArg (ix2 r) (Fin.ext (by dsimp only [lane, hd]; omega)))

theorem skt_at (t : Fin cfg0.N) (h : Fin 2) (g : Fin 8) : sk (iblk m c 2 t) h g (ix2 0 0) = (I.sk (qhead h g) : EReal) := by
  rw [← sk_at H t]
  pointwise [sk]
  rfl

theorem ke_at (t : Fin cfg0.N) (s : Fin 256) (l : Fin 128) :
    ke (iblk m c 1 t) (iblk m c 0 t) (ix2 s l) = (I.Z (keyTok (pt t) s) ⟨1024 + l.val, by omega⟩ : EReal) := by
  by_cases hs : s.val < 128
  · pointwise [k0_pay3]
    rw [dif_pos hs]
    refine (p_at H t _ _).trans (coe_Z ?_ ?_)
    all_goals first | rfl | (dsimp only [keyTok, tok, pt]; first | rw [dif_pos hs] | rw [dif_neg hs])
  · pointwise [k0_pay3]
    rw [dif_neg hs]
    refine (z_at H t _ _).trans (coe_Z ?_ ?_)
    all_goals first | rfl | (dsimp only [keyTok, tok, pt]; first | rw [dif_pos hs] | rw [dif_neg hs])

theorem va_at (t : Fin cfg0.N) (s : Fin 256) (l : Fin 128) :
    va (iblk m c 1 t) (iblk m c 0 t) (ix2 s l) = (I.Z (keyTok (pt t) s) ⟨1152 + l.val, by omega⟩ : EReal) := by
  by_cases hs : s.val < 128
  · pointwise [k0_pay4]
    rw [dif_pos hs]
    refine (p_at H t _ _).trans (coe_Z ?_ ?_)
    all_goals first | rfl | (dsimp only [keyTok, tok, pt]; first | rw [dif_pos hs] | rw [dif_neg hs]) | (dsimp only; omega)
  · pointwise [k0_pay4]
    rw [dif_neg hs]
    refine (z_at H t _ _).trans (coe_Z ?_ ?_)
    all_goals first | rfl | (dsimp only [keyTok, tok, pt]; first | rw [dif_pos hs] | rw [dif_neg hs]) | (dsimp only; omega)

omit H in
theorem mask_at (t : Fin cfg0.N) (s : Fin 256) (x : Fin 1024) :
    k0_pay1 (grid0.coords t) (ix2 s x) = BitVec.ofBool (vis (pt t) (sub x) s) := by
  pointwise [k0_pay1]
  have e : IntOp.ori (IntOp.cmpi .sge (BitVec.ofNat 32 s.val) 128#32) (Scalar.cmpi .sgt (BitVec.ofNat 32 t.val) 0#32) = _ :=
    (BitVec.or_comm _ _).trans (Words.there t.val (by have h : t.val < 16 := t.isLt; omega) s)
  rw [Words.band' s x.val (by omega), coord, e, Words.andi_ofBool]
  exact congrArg _ (Words.vis_eq (pt t) (sub x) s)

/-- What the first key head reads. -/
theorem half0 (t : Fin cfg0.N) : Half (keys I (pt t) 0) (vals I (pt t) 0) (fun g r d => I.Z (tok (pt t) r) (lane 0 (hd 0 g d)))
    (fun g => I.sk (qhead 0 g)) (vis (pt t)) (k0_pay1 (grid0.coords t)) (ke (iblk m c 1 t) (iblk m c 0 t)) (va (iblk m c 1 t) (iblk m c 0 t))
    (qt (iblk m c 0 t) 0) (sk (iblk m c 2 t) 0) where
  hM := mask_at t
  hK s d := (ke_at H t s _).trans (coe_Z rfl (by dsimp only [kvLane]; simp))
  hV s d := (va_at H t s _).trans (coe_Z rfl (by dsimp only [kvLane]; simp))
  hQ g r d := qt_at H t 0 g r d
  hw g := skt_at H t 0 g

/-- What the second key head reads. -/
theorem half1 (t : Fin cfg0.N) : Half (keys I (pt t) 1) (vals I (pt t) 1) (fun g r d => I.Z (tok (pt t) r) (lane 0 (hd 1 g d)))
    (fun g => I.sk (qhead 1 g)) (vis (pt t)) (k0_pay1 (grid0.coords t)) (turn (ke (iblk m c 1 t) (iblk m c 0 t)))
    (turn (va (iblk m c 1 t) (iblk m c 0 t))) (qt (iblk m c 0 t) 1) (sk (iblk m c 2 t) 1) where
  hM := mask_at t
  hK s d := (ke_at H t s _).trans (coe_Z rfl (by dsimp only [kvLane, ix2]; show 1024 + (d.val + 64) % 128 = 1024 + (64 * 1 + d.val); omega))
  hV s d := (va_at H t s _).trans (coe_Z rfl (by dsimp only [kvLane, ix2]; show 1152 + (d.val + 64) % 128 = 1152 + (64 * 1 + d.val); omega))
  hQ g r d := qt_at H t 1 g r d
  hw g := skt_at H t 1 g

set_option maxHeartbeats 800000 in
theorem point8 (t : Fin cfg0.N) (y : S128x1024.Idx) : (outsAt0 m c t).2 y
    = if (y 1 : ℕ) < 512 then ot (k0_pay1 (grid0.coords t)) (ke (iblk m c 1 t) (iblk m c 0 t)) (va (iblk m c 1 t) (iblk m c 0 t)) (qt (iblk m c 0 t) 0)
        (sk (iblk m c 2 t) 0) (ix2 ⟨(y 1 : ℕ) % 64, by omega⟩ ⟨128 * ((y 1 : ℕ) / 64 % 8) + (y 0 : ℕ), by have h : (y 0 : ℕ) < 128 := (y 0).isLt; omega⟩)
      else ot (k0_pay1 (grid0.coords t)) (turn (ke (iblk m c 1 t) (iblk m c 0 t))) (turn (va (iblk m c 1 t) (iblk m c 0 t))) (qt (iblk m c 0 t) 1)
        (sk (iblk m c 2 t) 1) (ix2 ⟨(y 1 : ℕ) % 64, by omega⟩ ⟨128 * ((y 1 : ℕ) / 64 % 8) + (y 0 : ℕ), by have h : (y 0 : ℕ) < 128 := (y 0).isLt; omega⟩) := by
  obtain_idx i : S64x1024 := [(y 1 : ℕ) % 64, 128 * ((y 1 : ℕ) / 64 % 8) + (y 0 : ℕ)] with hi
  rw [show (ix2 ⟨(y 1 : ℕ) % 64, by omega⟩ ⟨128 * ((y 1 : ℕ) / 64 % 8) + (y 0 : ℕ), by have h : (y 0 : ℕ) < 128 := (y 0).isLt; omega⟩ : S64x1024.Idx) = i from by
    exact (congrArg₂ ix2 (Fin.ext hi0.symm) (Fin.ext hi1.symm)).trans (eq_ix2 i).symm]
  rw [← second' (k0_pay1 (grid0.coords t)) (ke (iblk m c 1 t) (iblk m c 0 t)) (va (iblk m c 1 t) (iblk m c 0 t)) (qt (iblk m c 0 t) 1) (sk (iblk m c 2 t) 1)]
  generalize e0 : ot (k0_pay1 (grid0.coords t)) _ _ (qt (iblk m c 0 t) 0) _ = O0
  generalize e1 : k0_pay26 (F := Ideal) _ _ _ _ _ _ _ _ _ _ _ _ = O1
  unfold outsAt0
  dsimp only
  frame_out
  canon_tiles x h
  all_goals
    first
    | rw [if_pos (by omega)]
      dsimp only [k0_pay10, k0_pay11, k0_pay12, k0_pay13, k0_pay14, k0_pay15, k0_pay16, k0_pay17, k0_pay18]
      generalize e : k0_pay9 (F := Ideal) _ _ _ _ _ = O
      obtain rfl : O0 = O := e0.symm.trans e
    | rw [if_neg (by omega)]
      dsimp only [k0_pay27, k0_pay28, k0_pay29, k0_pay30, k0_pay31, k0_pay32, k0_pay33, k0_pay34]
      generalize e : k0_pay26 (F := Ideal) _ _ _ _ _ _ _ _ _ _ _ _ = O
      obtain rfl : O1 = O := e1.symm.trans e
    pointwise []
    blk_ext

/-- The attention's output, as the second result holds it. -/
theorem out8 (t : Fin cfg0.N) (r : Fin 128) (h : Fin 2) (g : Fin 8) (d : Fin 64) :
    (outsAt0 m c t).2 (ix2 r (hd h g d)) = (att I (pt t) h g r d : EReal) := by
  have e1 : (⟨(hd h g d).val % 64, by omega⟩ : Fin 64) = d := Fin.ext (by dsimp only [hd]; omega)
  have e2 : (⟨128 * ((hd h g d).val / 64 % 8) + r.val, by omega⟩ : Fin 1024) = gl g r := Fin.ext (by dsimp only [hd, gl]; omega)
  rw [point8 H]
  fin_cases h
  · rw [if_pos (by show (hd 0 g d).val < 512; dsimp only [hd]; omega)]
    refine (congrArg _ (congrArg₂ ix2 e1 e2)).trans ((ot_at (half0 H t) d (gl g r)).trans ?_)
    rw [grp_gl, sub_gl]
    rfl
  · rw [if_neg (by show ¬ (hd 1 g d).val < 512; dsimp only [hd]; omega)]
    refine (congrArg _ (congrArg₂ ix2 e1 e2)).trans ((ot_at (half1 H t) d (gl g r)).trans ?_)
    rw [grp_gl, sub_gl]
    rfl

omit H in
/-- The weights of group `g`. -/
def wt' (B : Vec Ideal S8x128x128 .f32) (g : Fin 8) : Vec Ideal S1x128x128 .f32 :=
  View.ld B (Rect.unit ![g.val, 0, 0] S1x128x128.size fun a => by
    match a with
    | ⟨0, _⟩ => show g.val + 1 ≤ 8; omega
    | ⟨1, _⟩ => exact Nat.le_refl 128
    | ⟨2, _⟩ => exact Nat.le_refl 128)

omit H in
/-- The shifts of group `g`. -/
def bt (B : Vec Ideal S128x8 .f32) (g : Fin 8) : Vec Ideal S128x1 .f32 :=
  View.ld B (Rect.unit ![0, g.val] S128x1.size fun a => by
    match a with
    | ⟨0, _⟩ => exact Nat.le_refl 128
    | ⟨1, _⟩ => show g.val + 1 ≤ 8; omega)

omit H in
/-- The 1024 lanes that begin at `o`. -/
abbrev part (B : Vec Ideal S128x5376 .f32) (o : ℕ) (h : ∀ a, ![0, o] a + S128x1024.size a ≤ S128x5376.size a) : Vec Ideal S128x1024 .f32 :=
  View.ld B (Rect.unit ![0, o] S128x1024.size h)

theorem part_at (t : Fin cfg0.N) (o : ℕ) (ho : o ≤ 4352) (h : ∀ a, ![0, o] a + S128x1024.size a ≤ S128x5376.size a) (r : Fin 128) (l : Fin 1024) :
    part (iblk m c 0 t) o h (ix2 r l) = (I.Z (tok (pt t) r) (lane o l) : EReal) := by
  rw [← z_at H]
  pointwise [part]
  rfl

theorem gate (t : Fin cfg0.N) : Gate I β (pt t) (part (iblk m c 0 t) 3328 inb_S128x5376_S128x1024_0_3328) (iblk m c 3 t) (iblk m c 4 t)
    (wt' (iblk m c 5 t)) (bt (iblk m c 6 t)) where
  hx r l := part_at H t 3328 (by omega) _ r l
  hg l := lg_at H t l
  hb l := lb_at H t l
  hw g i k := by
    rw [← w_at H]
    pointwise [wt']
    rfl
  hs g i := by
    rw [← b_at H]
    pointwise [bt]
    rfl

omit H in
theorem cat_left (n : Fin 16) (r : Fin 128) (h : Fin 2) (g : Fin 8) (d : Fin 64) :
    FwdSpec.cat I β (tok n r) ⟨(hd h g d).val, by omega⟩ = ((att I n h g r d * silu (ga I (tok n r) (hd h g d)) : ℝ) : EReal) := by
  unfold FwdSpec.cat
  rw [dif_pos (hd h g d).isLt, blk_tok, row_tok]
  refine congrArg (fun y : ℝ => ((y * _ : ℝ) : EReal)) ?_
  rw [show (⟨(hd h g d).val / 512, by omega⟩ : Fin 2) = h from Fin.ext (by dsimp only [hd]; omega),
    show (⟨(hd h g d).val / 64 % 8, by omega⟩ : Fin 8) = g from Fin.ext (by dsimp only [hd]; omega),
    show (⟨(hd h g d).val % 64, by omega⟩ : Fin 64) = d from Fin.ext (by dsimp only [hd]; omega)]

omit H in
theorem cat_right (n : Fin 16) (r : Fin 128) (l : Fin 1024) :
    FwdSpec.cat I β (tok n r) ⟨1024 + l.val, by omega⟩
      = (uu I (tok n r) l : EReal) * ((total I (tok n r) l : EReal) + β (grp l) r) * (silu (MixSpec.gs I (tok n r) l) : EReal) := by
  unfold FwdSpec.cat
  rw [dif_neg (by simp), row_tok]
  rw [show (⟨(⟨1024 + l.val, by omega⟩ : Fin 2048).val - 1024, by dsimp only; omega⟩ : Fin 1024) = l from Fin.ext (by dsimp only; omega)]

omit H in
theorem ex_hd (l : Fin 1024) : ∃ h g d, l = hd h g d :=
  ⟨⟨l.val / 512, by omega⟩, ⟨l.val / 64 % 8, by omega⟩, ⟨l.val % 64, by omega⟩, Fin.ext (by dsimp only [hd]; omega)⟩

omit H in
theorem pay35 (a b : Vec Ideal S128x1024 .f32) (i : S128x1024.Idx) {x y : ℝ} (ha : a i = (x : EReal)) (hb : b i = (y : EReal)) :
    k0_pay35 (F := Ideal) a b i = ((y * silu x : ℝ) : EReal) := by
  rw [eq_ix2 i]
  pointwise [k0_pay35]
  rw [ha, hb, coe_logistic, ← EReal.coe_mul, ← EReal.coe_mul]
  rfl

set_option maxHeartbeats 800000 in
/-- The gated output, as the first result holds it. -/
theorem out7 (t : Fin cfg0.N) (y : S128x2048.Idx) : (outsAt0 m c t).1 y = FwdSpec.cat I β (tok (pt t) (y 0)) (y 1) := by
  have hR := out8 H t
  have hP := gate H t
  generalize hO : (outsAt0 m c t).2 = O at hR
  unfold outsAt0
  dsimp only
  frame_out
  canon_tiles x h
  case piece0 =>
    rw [show y 0 = x 0 from Fin.ext h0, show y 1 = (⟨1024 + (x 1 : ℕ), by omega⟩ : Fin 2048) from Fin.ext h1]
    refine Eq.trans ?_ (cat_right (I := I) (β := β) (pt t) (x 0) (x 1)).symm
    rw [eq_ix2 x]
    exact pay50 hP _ _ (x 0) (x 1) (pay38 hP) (T := fun g => k0_pay39 (F := Ideal) k0_pay2 (wt' (iblk m c 5 t) g)) (pay39 hP)
      (part_at H t 2304 (by omega) _) (part_at H t 4352 (by omega) _)
  case piece1 =>
    rw [View.readCov_eq_canon']
    generalize hG : View.canon (Val := Elt Ideal) (s := S128x1024) (e := .f32) _ = G
    obtain rfl : O = G := by
      rw [← hG, ← hO]
      unfold outsAt0
      dsimp only
      frame_out
    obtain ⟨h, g, d, e⟩ := ex_hd (x 1)
    rw [show y 0 = x 0 from Fin.ext h0, show y 1 = (⟨(hd h g d).val, by omega⟩ : Fin 2048) from Fin.ext (h1.trans (congrArg Fin.val e))]
    refine Eq.trans ?_ (cat_left (I := I) (β := β) (pt t) (x 0) h g d).symm
    rw [eq_ix2 x, e]
    refine pay35 _ _ _ (part_at H t 1280 (by omega) _ _ _) (Eq.trans (congrArg O ?_) (hR (x 0) h g d))
    exact Rect.emb_unit_full _ _

omit H in
/-- The attention's output in row `t`. -/
def row8 (I : Data) (t : Fin 2048) (l : Fin 1024) : ℝ :=
  att I (blk t) ⟨l.val / 512, by omega⟩ ⟨l.val / 64 % 8, by omega⟩ (row t) ⟨l.val % 64, by omega⟩

omit H in
theorem row8_hd (n : Fin 16) (r : Fin 128) (h : Fin 2) (g : Fin 8) (d : Fin 64) : row8 I (tok n r) (hd h g d) = att I n h g r d := by
  unfold row8
  rw [blk_tok, row_tok]
  rw [show (⟨(hd h g d).val / 512, by omega⟩ : Fin 2) = h from Fin.ext (by dsimp only [hd]; omega),
    show (⟨(hd h g d).val / 64 % 8, by omega⟩ : Fin 8) = g from Fin.ext (by dsimp only [hd]; omega),
    show (⟨(hd h g d).val % 64, by omega⟩ : Fin 64) = d from Fin.ext (by dsimp only [hd]; omega)]

theorem final8 : (dats m 0 c).arrAt 8 cfg0.N = fun x => (row8 I (x 0) (x 1) : EReal) := by
  refine (dats m 0 c).arrAt_eq_of_covers 8 _ (by decide +kernel) fun t _ y => ?_
  blk_simp
  have e : (win0_8.blk t).view.emb y = ix2 (tok (pt t) (y 0)) (y 1) := by blk_ext [idx t, tok, pt]
  rw [after0_8, e, eq_ix2 y]
  obtain ⟨h, g, d, e'⟩ := ex_hd (y 1)
  refine Eq.trans ?_ (congrArg Real.toEReal (((congrArg (row8 I (tok (pt t) (y 0))) e').trans (row8_hd _ _ h g d)).symm))
  exact (congrArg (fun l => (outsAt0 m c t).2 (ix2 (y 0) l)) e').trans (out8 H t (y 0) h g d)

theorem final7 : (dats m 0 c).arrAt 7 cfg0.N = fun x => FwdSpec.cat I β (x 0) (x 1) := by
  refine (dats m 0 c).arrAt_eq_of_covers 7 _ (by decide +kernel) fun t _ y => ?_
  blk_simp
  have e : (win0_7.blk t).view.emb y = ix2 (tok (pt t) (y 0)) (y 1) := by blk_ext [idx t, tok, pt]
  rw [after0_7, out7 H, e]
  rfl

end Cert.FwdKernelRun

end
-- ==== Proof.FwdClaim.lean ====
/- The mixer's forward kernel leaves what its reference computes. -/
module

public import proofs.«01_k».proof.Defs
public import proofs.«01_k».proof.Proof.Gen.FwdReferenceIdeal.Run
public import proofs.«01_k».proof.Proof.Gen.Pre_fwd_finite
public import proofs.«01_k».proof.Proof.Finite
public import proofs.«01_k».proof.Proof.FwdRef
public import proofs.«01_k».proof.Proof.FwdKernel
public import Idealize.ShloMosaic.Lib.Claim

@[expose] public section

set_option maxRecDepth 16384

noncomputable section

namespace Cert.FwdClaim

open Idealize.ShloMosaic Idealize.ShloMosaic.TcCoe Idealize.SL.Sem

/-- Arguments that pass the finiteness test are reals; the shifts are what they are. -/
theorem args (x0 : FVec Ideal ⟨2, ![2048, 5376]⟩ .f32) (x1 : FVec Ideal ⟨2, ![1, 16]⟩ .f32) (x2 x3 : FVec Ideal ⟨2, ![1, 1024]⟩ .f32)
    (x4 : FVec Ideal ⟨4, ![1, 8, 128, 128]⟩ .f32) (x5 : FVec Ideal ⟨3, ![1, 8, 128]⟩ .f32)
    (h : Cert.Pre_fwd_finite.fn (F := Ideal) x0 x1 x2 x3 x4 x5 = fun _ => 1#1) :
    ∃ I β, FwdSpec.Args I β x0 x1 x2 x3 x4 x5 := by
  have h := congrFun h ix0
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  choose z hz using Finite.exists_reals x0 _ Finite.bits_inf _ _ _ _ _ h0
  choose s hs using Finite.exists_reals x1 _ Finite.bits_inf _ _ _ _ _ h1
  choose n hn using Finite.exists_reals x2 _ Finite.bits_inf _ _ _ _ _ h2
  choose b hb using Finite.exists_reals x3 _ Finite.bits_inf _ _ _ _ _ h3
  choose w hw using Finite.exists_reals x4 _ Finite.bits_inf _ _ _ _ _ h4
  exact ⟨⟨fun t c => z (ix2 t c), fun _ _ => 0, fun k => s (ix2 0 k), fun c => n (ix2 0 c), fun c => b (ix2 0 c), fun g i k => w (ix4 0 g i k), fun _ _ => 0⟩,
    fun g i => x5 (ix3 0 g i),
    ⟨fun t c => hz _, fun k => hs _, fun c => hn _, fun c => hb _, fun g i k => hw _, fun _ _ => EReal.coe_zero.symm⟩, fun _ _ => rfl⟩

theorem out {x0 : FVec Ideal ⟨2, ![2048, 5376]⟩ .f32} {x1 : FVec Ideal ⟨2, ![1, 16]⟩ .f32} {x2 x3 : FVec Ideal ⟨2, ![1, 1024]⟩ .f32}
    {x4 : FVec Ideal ⟨4, ![1, 8, 128, 128]⟩ .f32} {x5 : FVec Ideal ⟨3, ![1, 8, 128]⟩ .f32} {I : MixSpec.Data} {β : Fin 8 → Fin 128 → EReal}
    (H : FwdSpec.Args I β x0 x1 x2 x3 x4 x5) (t : Fin 2048) (l : Fin 1024) :
    Cert.FwdReferenceIdeal.Read.val_main_v196 (F := Ideal) x0 x1 (ix2 t l) = (FwdKernelRun.row8 I t l : EReal) := by
  obtain ⟨h, g, d, rfl⟩ := FwdKernelRun.ex_hd l
  have l := FwdRef.v196 H (MixSpec.blk t) (MixSpec.row t) h g d
  have r := FwdKernelRun.row8_hd (I := I) (MixSpec.blk t) (MixSpec.row t) h g d
  rw [MixSpec.tok_blk_row] at l r
  exact l.trans (congrArg Real.toEReal r.symm)

set_option maxHeartbeats 3200000 in
theorem algebraic : Cert.algebraic_FwdKernelIdeal_FwdReferenceIdeal_pre_fwd_finite := by
  pair_intro
  · run_from Cert.FwdKernelIdeal.Gen.run_main m g
  · run_from Cert.FwdReferenceIdeal.Value.run m' g'
    all_goals
      obtain ⟨e0, e1, e2, e3, e4, e5⟩ := hagree c
      obtain ⟨I, β, H⟩ := args _ _ _ _ _ _ (hpre c)
      have H' := H
      rw [← e0, ← e1, ← e2, ← e3, ← e4, ← e5] at H'
    · rw [FwdReferenceIdeal.Read.val_main_v123_eq]
      refine Eq.trans (funext fun x => ?_) (FwdKernelRun.final7 H).symm
      exact (congrArg _ (eq_ix2 x)).trans (FwdRef.v123 H' _ _)
    · rw [FwdReferenceIdeal.Read.val_main_v196_eq]
      refine Eq.trans (funext fun x => ?_) (FwdKernelRun.final8 H).symm
      exact (congrArg _ (eq_ix2 x)).trans (out H' _ _)

end Cert.FwdClaim

end
-- ==== Proof.MixBack.lean ====
/- What the mixer's reference computes on real arguments: the gradient through the gating. -/
module

public import proofs.«01_k».proof.Proof.MixGate

@[expose] public section

set_option maxRecDepth 16384

noncomputable section

namespace Cert.MixRef

open Cert.MixReferenceIdeal Cert.MixReferenceIdeal.Gen Cert.MixReferenceIdeal.Read Idealize.ShloMosaic Idealize.ShloMosaic.TcCoe Idealize.SL.Sem
open Cert.Reals Cert.Words Cert.MixSpec Cert.Attn

variable {I : Data}
variable {x1 : FVec Ideal S2048x2048 .f32}
variable {x0 : FVec Ideal S2048x5376 .f32} {x2 : FVec Ideal S1x16 .f32} {x3 x4 : FVec Ideal S1x1024 .f32} {x5 : FVec Ideal S1x8x128x128 .f32} {x6 : FVec Ideal S1x8x128 .f32}

variable (H : Args I x0 x2 x3 x4 x5 x6)
variable (D : ArgD I x1)
include H D

/-! ## The gates -/

omit H in
theorem v147 (t : Fin 2048) (c : Fin 1024) : val_main_v147 (F := Ideal) x1 (ix3 0 t c) = (I.D t ⟨c.val, by omega⟩ : EReal) := by
  pointwise [val_main_v147, val_main_v146]
  exact D _ _

omit H in
theorem v148 (t : Fin 2048) (c : Fin 1024) : val_main_v148 (F := Ideal) x1 (ix3 0 t c) = (dc I t c : EReal) := by
  pointwise [val_main_v148, val_main_v146]
  exact D _ _

theorem v149 (t : Fin 2048) (c : Fin 1024) :
    val_main_v149 (F := Ideal) x0 x1 x3 x4 x5 x6 (ix3 0 t c) = ((uu I t c * mixed I t c * dc I t c : ℝ) : EReal) := by
  pointwise [val_main_v149]
  rw [v142 H, v148 D, ← EReal.coe_mul]

theorem v150 (t : Fin 2048) (c : Fin 1024) : val_main_v150 (F := Ideal) x0 x1 (ix3 0 t c) = (dgated I t c : EReal) := by
  pointwise [val_main_v150]
  rw [v143_0 H, v148 D, ← EReal.coe_mul]
  rfl

theorem v151 (t : Fin 2048) (c : Fin 1024) : val_main_v151 (F := Ideal) x0 x1 x3 x4 x5 x6 (ix3 0 t c) = (dgs I t c : EReal) := by
  pointwise [val_main_v151, val_main_call4_v1, val_main_call4_v2, val_main_call4_v0]
  rw [v149 H D, v143_2 H, v143_1 H, v7 H, ← EReal.coe_mul, ← EReal.coe_mul, ← EReal.coe_mul, ← EReal.coe_add, dsilu_form, dgs, mul_comm (dc I t c)]

theorem v152 (t : Fin 2048) (c : Fin 1024) : val_main_v152 (F := Ideal) x0 x1 (ix3 0 t c) = (dmixed I t c : EReal) := by
  pointwise [val_main_v152]
  rw [v5 H, v150 H D, ← EReal.coe_mul, mul_comm]
  rfl

theorem v153 (t : Fin 2048) (c : Fin 1024) : val_main_v153 (F := Ideal) x0 x1 x3 x4 x5 x6 (ix3 0 t c) = (du I t c : EReal) := by
  pointwise [val_main_v153]
  rw [v150 H D, v141 H, ← EReal.coe_mul]
  rfl

/-! ## The mixing of the rows -/

theorem v154 (n : Fin 16) (i : Fin 128) (g : Fin 8) (c : Fin 128) :
    val_main_v154 (F := Ideal) x0 x1 (ix5 0 n i g c) = (dmixed I (tok n i) (gl g c) : EReal) := by
  pointwise [val_main_v154]
  rw [mk_tok, mk_gl, v152 H D]

theorem v155 (i : Fin 128) (g : Fin 8) : val_main_v155 (F := Ideal) x0 x1 (ix3 0 i g) = (db I g i : EReal) := by
  pointwise [val_main_v155]
  rw [HostSum.sum_two5]
  simp only [v154 H D, coe_sum]
  exact (congrArg (· + _) bits_zero).trans (zero_add _)

theorem v264 (g : Fin 8) (i : Fin 128) : val_main_v264 (F := Ideal) x0 x1 (ix2 g i) = (db I g i : EReal) := by
  pointwise [val_main_v264, val_main_v201, val_main_v158, val_main_v157]
  rw [HostSum.sum_ends5]
  pointwise [val_main_v156]
  rw [v155 H D]
  exact (congrArg (· + _) bits_zero).trans (zero_add _)

theorem v159 (g : Fin 8) (n : Fin 16) (c i : Fin 128) :
    val_main_v159 (F := Ideal) x0 x1 (ix5 g 0 n c i) = (dmixed I (tok n i) (gl g c) : EReal) := by
  pointwise [val_main_v159]
  exact v154 H D _ _ _ _

omit H D in
/-- The contraction of the blocks' products, by block and lane. -/
def mixIdx : Fin 16 × Fin 128 ≃ dot_S8x1x16x128x128_S1x16x128x8x128_S8x128x128_123_014_4_2_0_3.contr.Idx where
  toFun k p := match p with
    | ⟨0, _⟩ => (0 : Fin 1)
    | ⟨1, _⟩ => k.1
    | ⟨2, _⟩ => k.2
  invFun i := (i ⟨1, by decide⟩, i ⟨2, by decide⟩)
  left_inv _ := rfl
  right_inv i := by
    funext p
    match p with
    | ⟨0, _⟩ => exact (Subsingleton.elim (α := Fin 1) _ _)
    | ⟨1, _⟩ => rfl
    | ⟨2, _⟩ => rfl

theorem v160 (g : Fin 8) (i k : Fin 128) :
    val_main_v160 (F := Ideal) x0 x1 x3 x4 (ix3 g i k) = ((∑ n, ∑ c, dmixed I (tok n i) (gl g c) * vn I (tok n k) (gl g c) : ℝ) : EReal) := by
  pointwise [val_main_v160]
  unfold Ideal.matmul
  rw [zero_add, ← Equiv.sum_comp mixIdx, Fintype.sum_prod_type]
  have el (n : Fin 16) (c : Fin 128) : DotDims.lhsIdx dot_S8x1x16x128x128_S1x16x128x8x128_S8x128x128_123_014_4_2_0_3 (ix3 g i k) (mixIdx (n, c)) = ix5 g 0 n c i := by
    funext p
    match p with
    | ⟨0, _⟩ => rfl
    | ⟨1, _⟩ => rfl
    | ⟨2, _⟩ => rfl
    | ⟨3, _⟩ => rfl
    | ⟨4, _⟩ => rfl
  have er (n : Fin 16) (c : Fin 128) : DotDims.rhsIdx dot_S8x1x16x128x128_S1x16x128x8x128_S8x128x128_123_014_4_2_0_3 (ix3 g i k) (mixIdx (n, c)) = ix5 0 n k g c := by
    funext p
    match p with
    | ⟨0, _⟩ => rfl
    | ⟨1, _⟩ => rfl
    | ⟨2, _⟩ => rfl
    | ⟨3, _⟩ => rfl
    | ⟨4, _⟩ => rfl
  simp only [el, er, v159 H D, v129 H, ← EReal.coe_mul, coe_sum]

theorem v263 (g : Fin 8) (i k : Fin 128) : val_main_v263 (F := Ideal) x0 x1 x3 x4 (ix3 g i k) = (dw I g i k : EReal) := by
  pointwise [val_main_v263, val_main_v202, val_main_v164, val_main_v163, val_main_v132, val_main_v131, val_main_call2_v4, val_main_call2_v3, val_main_call2_v2,
    val_main_call2_v1, val_main_call2_v0, val_main_call2_c, val_main_call2_cst, val_main_v130, val_main_cst_25, val_main_call2_v5]
  rw [kept, v160 H D]
  unfold dw dwp
  split
  · rfl
  · exact EReal.coe_zero.symm.trans (congrArg Real.toEReal Finset.sum_const_zero.symm)

theorem v161 (g : Fin 8) (n : Fin 16) (c k : Fin 128) :
    val_main_v161 (F := Ideal) x0 x1 x5 (ix5 g 0 n c k) = (dvn I (tok n k) (gl g c) : EReal) := by
  pointwise [val_main_v161]
  simp only [v159 H D, v134 H, ← EReal.coe_mul, coe_sum, dvn, grp_gl, row_tok, blk_tok]
  exact congrArg _ (Finset.sum_congr rfl fun k _ => mul_comm _ _)

theorem v165 (t : Fin 2048) (c : Fin 1024) : val_main_v165 (F := Ideal) x0 x1 x5 (ix3 0 t c) = (dvn I t c : EReal) := by
  pointwise [val_main_v165, val_main_v162]
  rw [mk_blk, mk_row, mk_grp, mk_sub, v161 H D, tok_blk_row, gl_grp_sub]

/-! ## The normalisation -/

theorem v203 (c : Fin 1024) : val_main_v203 (F := Ideal) x0 x1 x5 (ix2 0 c) = (dlb I c : EReal) := by
  pointwise [val_main_v203, val_main_v168, val_main_v167, val_main_v166, val_main_cst_28, val_main_cst_29, hostReduceAdd_11n]
  simp only [v165 H D, coe_sum, sum_tok]
  rfl

theorem v169 (t : Fin 2048) (c : Fin 1024) :
    val_main_v169 (F := Ideal) x0 x1 x5 (ix3 0 t c) = ((dvn I t c * LnRow.hat (vs I t) c : ℝ) : EReal) := by
  pointwise [val_main_v169]
  rw [v122 H, v165 H D, ← EReal.coe_mul, mul_comm]

theorem v204 (c : Fin 1024) : val_main_v204 (F := Ideal) x0 x1 x5 (ix2 0 c) = (dlg I c : EReal) := by
  pointwise [val_main_v204, val_main_v174, val_main_v171, val_main_v170, val_main_cst_30, val_main_cst_31, hostReduceAdd_11n]
  simp only [v169 H D, coe_sum, sum_tok]
  rfl

theorem v173 (t : Fin 2048) (c : Fin 1024) :
    val_main_v173 (F := Ideal) x0 x1 x3 x5 (ix3 0 t c) = ((dvn I t c * I.lg c : ℝ) : EReal) := by
  pointwise [val_main_v173, val_main_v172, val_main_v123, val_main_v96]
  rw [v165 H D, H.h3, ← EReal.coe_mul]

omit D in
theorem v120 (t : Fin 2048) : val_main_v120 (F := Ideal) x0 (ix3 0 t 0) = ((-(1 / 2) * (LnRow.r (vs I t) / LnRow.vr (vs I t)) : ℝ) : EReal) := by
  pointwise [val_main_v120, val_main_v119, val_main_cst_24, val_main_v118]
  rw [v117 H, v116 H, coe_div _ _ (LnRow.vr_ne _), bits_neg_half, ← EReal.coe_mul]

theorem v185 (t : Fin 2048) :
    val_main_v185 (F := Ideal) x0 x1 x3 x5 (ix3 0 t 0) = (LnRow.thru (vs I t) (fun k => dvn I t k * I.lg k) : EReal) := by
  pointwise [val_main_v185, val_main_v184, val_main_cst_34, val_main_v180, val_main_v177, val_main_v176, val_main_cst_32, val_main_v175]
  simp only [v114 H, v173 H D, ← EReal.coe_mul, coe_sum, v120 H, bits_1024]
  rw [coe_div _ _ (by norm_num)]
  rfl

theorem v179 (t : Fin 2048) (c : Fin 1024) :
    val_main_v179 (F := Ideal) x0 x1 x3 x5 (ix3 0 t c) = ((dvn I t c * I.lg c * LnRow.r (vs I t) : ℝ) : EReal) := by
  pointwise [val_main_v179, val_main_v178]
  rw [v173 H D, v117 H, ← EReal.coe_mul]

theorem v188 (t : Fin 2048) (c : Fin 1024) :
    val_main_v188 (F := Ideal) x0 x1 x3 x5 (ix3 0 t c) = (LnRow.thru (vs I t) (fun k => dvn I t k * I.lg k) : EReal) := by
  pointwise [val_main_v188, val_main_v187, val_main_v186]
  rw [hostReduceAdd_1n1]
  exact ((congrArg (· + _) bits_zero).trans (zero_add _)).trans (v185 H D t)

theorem v189 (t : Fin 2048) (c : Fin 1024) :
    val_main_v189 (F := Ideal) x0 x1 x3 x5 (ix3 0 t c)
      = ((LnRow.thru (vs I t) (fun k => dvn I t k * I.lg k) * (2 * (vs I t c - LnRow.mean (vs I t))) : ℝ) : EReal) := by
  pointwise [val_main_v189, val_main_v108, val_main_v107, val_main_cst_20]
  rw [v188 H D, v105 H, bits_two, ← EReal.coe_mul, ← EReal.coe_mul]

theorem v196 (t : Fin 2048) :
    val_main_v196 (F := Ideal) x0 x1 x3 x5 (ix3 0 t 0)
      = ((((∑ k, -(dvn I t k * I.lg k * LnRow.r (vs I t)))
          + ∑ k, -(LnRow.thru (vs I t) (fun k => dvn I t k * I.lg k) * (2 * (vs I t k - LnRow.mean (vs I t))))) / 1024 : ℝ) : EReal) := by
  pointwise [val_main_v196, val_main_v195, val_main_cst_37, val_main_v194, val_main_v183, val_main_v182, val_main_cst_33, val_main_v181,
    val_main_v192, val_main_v191, val_main_cst_36, val_main_v190]
  simp only [v179 H D, v189 H D, ← EReal.coe_neg, coe_sum, ← EReal.coe_add, bits_1024]
  rw [coe_div _ _ (by norm_num)]

theorem v200 (t : Fin 2048) (c : Fin 1024) :
    val_main_v200 (F := Ideal) x0 x1 x3 x5 (ix3 0 t c) = (dvs I t c : EReal) := by
  pointwise [val_main_v200, val_main_v199, val_main_v198, val_main_v193, val_main_v197]
  rw [hostReduceAdd_1n1, v179 H D, v189 H D, ← EReal.coe_add]
  refine (congrArg (_ + ·) (((congrArg (· + _) bits_zero).trans (zero_add _)).trans (v196 H D t))).trans ?_
  rw [← EReal.coe_add]
  exact congrArg Real.toEReal (LnRow.back_eq (vs I t) (fun k => dvn I t k * I.lg k) c)

end Cert.MixRef

end
-- ==== Proof.MixBackAttn.lean ====
/- What the mixer's reference computes on real arguments: the gradient through the attention. -/
module

public import proofs.«01_k».proof.Proof.MixBack

@[expose] public section

set_option maxRecDepth 16384

noncomputable section

namespace Cert.MixRef

open Cert.MixReferenceIdeal Cert.MixReferenceIdeal.Gen Cert.MixReferenceIdeal.Read Idealize.ShloMosaic Idealize.ShloMosaic.TcCoe Idealize.SL.Sem
open Cert.Reals Cert.Words Cert.MixSpec Cert.Attn

variable {I : Data}
variable {x1 : FVec Ideal S2048x2048 .f32}
variable {x0 : FVec Ideal S2048x5376 .f32} {x2 : FVec Ideal S1x16 .f32} {x3 x4 : FVec Ideal S1x1024 .f32} {x5 : FVec Ideal S1x8x128x128 .f32} {x6 : FVec Ideal S1x8x128 .f32}

variable (H : Args I x0 x2 x3 x4 x5 x6)
variable (D : ArgD I x1)
include H D

/-! ## Keys that no query sees -/

omit H D in
theorem pr_kv (o : ℕ) (ho : o ≤ 5248) (n : Fin 16) (h h' : Fin 2) (g : Fin 8) (r : Fin 128) (s : Fin 256) (d : Fin 64) :
    probs I n h' g r s * kv0 I o ho n s h d = probs I n h' g r s * I.Z (keyTok n s) (kvLane o h d ho) := by
  by_cases hs : 128 ≤ s.val ∨ 0 < n.val
  · rw [kv0, if_pos hs]
  · rw [show probs I n h' g r s = 0 from pr_of_not (decide_eq_false fun e => hs e.2.2), zero_mul, zero_mul]

omit H D in
theorem ds_kv (o : ℕ) (ho : o ≤ 5248) (n : Fin 16) (h h' : Fin 2) (g : Fin 8) (r : Fin 128) (s : Fin 256) (d : Fin 64) :
    dsc I n h' g r s * kv0 I o ho n s h d = dsc I n h' g r s * I.Z (keyTok n s) (kvLane o h d ho) := by
  by_cases hs : 128 ≤ s.val ∨ 0 < n.val
  · rw [kv0, if_pos hs]
  · rw [show dsc I n h' g r s = 0 from ds_of_not (decide_eq_false fun e => hs e.2.2), zero_mul, zero_mul]

/-! ## The output's gradient -/

theorem v207 (n : Fin 16) (h : Fin 2) (g : Fin 8) (r : Fin 128) (d : Fin 64) :
    val_main_v207 (F := Ideal) x0 x1 x2 (ix3 0 (tok n r) (hd h g d)) = (dga I n h g r d : EReal) := by
  pointwise [val_main_v207, val_main_call5_v1, val_main_call5_v2, val_main_call5_v0, val_main_v205]
  rw [v93 H, v147 D, v94_2 H, v94_1 H, v4 H, ← EReal.coe_mul, ← EReal.coe_mul, ← EReal.coe_mul, ← EReal.coe_mul, ← EReal.coe_add, dsilu_form, dga,
    mul_comm (att I n h g r d)]

theorem v209 (n : Fin 16) (h : Fin 2) (d : Fin 64) (g : Fin 8) (r : Fin 128) :
    val_main_v209 (F := Ideal) x0 x1 (ix6 0 n h d g r) = (dout I n h g r d : EReal) := by
  pointwise [val_main_v209, val_main_v208, val_main_v206]
  rw [mk_tok, mk_hd, v147 D, v94_0 H, ← EReal.coe_mul]
  rfl

theorem v211 (n : Fin 16) (h : Fin 2) (d : Fin 64) (s : Fin 256) :
    val_main_v211 (F := Ideal) x0 x1 x2 (ix5 0 n h d s) = (dvp I n h s d : EReal) := by
  pointwise [val_main_v211]
  simp only [v209 H D, v90 H, ← EReal.coe_mul, coe_sum]
  exact congrArg _ (Finset.sum_congr rfl fun g _ => Finset.sum_congr rfl fun r _ => mul_comm _ _)

/-! ## The softmax, backwards -/

/-- The gradient of key `s`'s probability as the reference has it, and none of the sink's. -/
def pd (I : Data) (n : Fin 16) (h : Fin 2) (g : Fin 8) (r : Fin 128) (s : Fin 257) : ℝ :=
  if hs : s.val < 256 then ∑ d, dout I n h g r d * kv0 I 1152 (by omega) n ⟨s.val, hs⟩ h d else 0

/-- The shifted exponentials' sum. -/
def zz (I : Data) (n : Fin 16) (h : Fin 2) (g : Fin 8) (r : Fin 128) : ℝ :=
  tot (keys I n h) (qry I n h g r) (I.sk (qhead h g)) (vis n r) * Real.exp (-mx I n h g r)

omit H D in
theorem zz_ne (n : Fin 16) (h : Fin 2) (g : Fin 8) (r : Fin 128) : zz I n h g r ≠ 0 := shift_ne _ _ _ _ _

omit H D in
theorem pr_pd (n : Fin 16) (h : Fin 2) (g : Fin 8) (r : Fin 128) (s : Fin 256) :
    probs I n h g r s * pd I n h g r s.castSucc = probs I n h g r s * dp (vals I n h) (dout I n h g r) s := by
  rw [pd, dif_pos (show s.castSucc.val < 256 from s.isLt), dp, Finset.mul_sum, Finset.mul_sum]
  refine Finset.sum_congr rfl fun d _ => ?_
  rw [mul_comm (dout I n h g r d), ← mul_assoc, mul_comm (vals I n h s d), mul_comm (dout I n h g r d), ← mul_assoc]
  exact congrArg (· * _) (pr_kv 1152 (by omega) n h h g r s d)

omit H D in
theorem wtk_div (n : Fin 16) (h : Fin 2) (g : Fin 8) (r : Fin 128) (s : Fin 256) : wtk I n h g r s.castSucc / zz I n h g r = probs I n h g r s := by
  rw [wtk, dif_pos (show s.castSucc.val < 256 from s.isLt)]
  exact pr_shift _ _ _ _ _ _

omit H D in
theorem wtk_div_last (n : Fin 16) (h : Fin 2) (g : Fin 8) (r : Fin 128) :
    wtk I n h g r (Fin.last 256) / zz I n h g r = prs (keys I n h) (qry I n h g r) (I.sk (qhead h g)) (vis n r) := by
  rw [wtk, dif_neg (show ¬ (Fin.last 256).val < 256 from Nat.lt_irrefl 256)]
  exact prs_shift _ _ _ _ _

omit H D in
theorem sum_pd (n : Fin 16) (h : Fin 2) (g : Fin 8) (r : Fin 128) :
    ∑ s, pd I n h g r s * (1 / (zz I n h g r * zz I n h g r)) * wtk I n h g r s
      = del (keys I n h) (vals I n h) (qry I n h g r) (dout I n h g r) (I.sk (qhead h g)) (vis n r) / zz I n h g r := by
  rw [Fin.sum_univ_castSucc, show pd I n h g r (Fin.last 256) = 0 from dif_neg (Nat.lt_irrefl 256), zero_mul, zero_mul, add_zero, del,
    Finset.sum_div]
  refine Finset.sum_congr rfl fun s _ => ?_
  rw [show pr _ _ _ _ s * _ = probs I n h g r s * _ from rfl, ← pr_pd, ← wtk_div]
  field_simp

theorem v210 (n : Fin 16) (h : Fin 2) (g : Fin 8) (r : Fin 128) (s : Fin 256) :
    val_main_v210 (F := Ideal) x0 x1 (ix6 0 n h g r s) = (pd I n h g r s.castSucc : EReal) := by
  pointwise [val_main_v210]
  simp only [v209 H D, v23 H, ← EReal.coe_mul, coe_sum]
  rw [pd, dif_pos (show s.castSucc.val < 256 from s.isLt)]
  rfl

theorem v213 (n : Fin 16) (h : Fin 2) (g : Fin 8) (r : Fin 128) (s : Fin 257) :
    val_main_v213 (F := Ideal) x0 x1 (ix6 0 n h g r s) = (pd I n h g r s : EReal) := by
  by_cases hs : s.val < 256
  · have e := v210 H D n h g r ⟨s.val, hs⟩
    rw [show Fin.castSucc ⟨s.val, hs⟩ = s from rfl] at e
    pointwise [val_main_v213, val_main_cst_39]
    rw [dif_pos hs]
    exact e
  · pointwise [val_main_v213, val_main_cst_39]
    rw [dif_neg hs, pd, dif_neg hs]
    rfl

omit D in
theorem v89 (n : Fin 16) (h : Fin 2) (g : Fin 8) (r : Fin 128) :
    val_main_v89 (F := Ideal) x0 x2 (ix6 0 n h g r 0) = ((1 / (zz I n h g r * zz I n h g r) : ℝ) : EReal) := by
  pointwise [val_main_v89, val_main_v88, val_main_cst_17, val_main_v87, val_main_v84]
  rw [v83 H]
  change Ideal.div 1 ((zz I n h g r : EReal) * (zz I n h g r : EReal)) = _
  rw [← EReal.coe_mul, ← EReal.coe_one, coe_div _ _ (mul_ne_zero (zz_ne n h g r) (zz_ne n h g r))]

theorem v217 (n : Fin 16) (h : Fin 2) (g : Fin 8) (r : Fin 128) :
    val_main_v217 (F := Ideal) x0 x1 x2 (ix5 0 n h g r)
      = ((del (keys I n h) (vals I n h) (qry I n h g r) (dout I n h g r) (I.sk (qhead h g)) (vis n r) / zz I n h g r : ℝ) : EReal) := by
  pointwise [val_main_v217]
  rw [HostSum.sum_last6]
  pointwise [val_main_v216, val_main_v215, val_main_v214]
  simp only [v213 H D, v89 H, v82 H, ← EReal.coe_mul, coe_sum, sum_pd]
  exact (congrArg (· + _) bits_zero).trans (zero_add _)

theorem v226 (n : Fin 16) (h : Fin 2) (g : Fin 8) (r : Fin 128) (s : Fin 257) :
    val_main_v226 (F := Ideal) x0 x1 x2 (ix6 0 n h g r s)
      = (((pd I n h g r s / zz I n h g r
          + -(del (keys I n h) (vals I n h) (qry I n h g r) (dout I n h g r) (I.sk (qhead h g)) (vis n r) / zz I n h g r)) * wtk I n h g r s : ℝ) : EReal) := by
  have e : val_main_v222 (F := Ideal) x0 x1 x2 (ix4 n h g r)
      = ((-(del (keys I n h) (vals I n h) (qry I n h g r) (dout I n h g r) (I.sk (qhead h g)) (vis n r) / zz I n h g r) : ℝ) : EReal) := by
    pointwise [val_main_v222]
    rw [HostSum.sum_ends6]
    pointwise [val_main_v219, val_main_v218]
    refine (congrArg (_ + ·) ?_).trans ((congrArg (· + _) bits_zero).trans (zero_add _))
    exact (congrArg Neg.neg (v217 H D n h g r)).trans (EReal.coe_neg _).symm
  pointwise [val_main_v226, val_main_v225, val_main_v224, val_main_v223, val_main_v221, val_main_v220, val_main_v84]
  rw [e, v213 H D, v83 H, v82 H, coe_div _ _ (shift_ne _ _ _ _ _), ← EReal.coe_add, ← EReal.coe_mul]
  rfl

theorem v227 (n : Fin 16) (h : Fin 2) (g : Fin 8) (r : Fin 128) (s : Fin 256) :
    val_main_v227 (F := Ideal) x0 x1 x2 (ix6 0 n h g r s) = (dsc I n h g r s : EReal) := by
  have e := v226 H D n h g r s.castSucc
  pointwise [val_main_v227]
  refine Eq.trans e (congrArg Real.toEReal ?_)
  rw [dsc, ds, mul_sub, show pr _ _ _ _ s * dp _ _ s = probs I n h g r s * dp _ _ s from rfl, ← pr_pd, show pr _ _ _ _ s = probs I n h g r s from rfl,
    ← wtk_div]
  ring

theorem v228 (n : Fin 16) (h : Fin 2) (g : Fin 8) (r : Fin 128) :
    val_main_v228 (F := Ideal) x0 x1 x2 (ix6 0 n h g r 0) = (dsn I n h g r : EReal) := by
  have e := v226 H D n h g r (Fin.last 256)
  pointwise [val_main_v228]
  refine Eq.trans e (congrArg Real.toEReal ?_)
  rw [show pd I n h g r (Fin.last 256) = 0 from dif_neg (Nat.lt_irrefl 256), dsn, dsk, ← wtk_div_last]
  ring

/-! ## The sinks -/

theorem v229 (h : Fin 2) (g : Fin 8) : val_main_v229 (F := Ideal) x0 x1 x2 (ix2 h g) = (dsink I h g : EReal) := by
  pointwise [val_main_v229]
  rw [HostSum.sum_mid6]
  simp only [v228 H D, coe_sum]
  exact (congrArg (· + _) bits_zero).trans (zero_add _)

theorem v256 (c : Fin 16) :
    val_main_v256 (F := Ideal) x0 x1 x2 (ix2 0 c) = (dsink I ⟨c.val / 8, by omega⟩ ⟨c.val % 8, by omega⟩ : EReal) := by
  pointwise [val_main_v256, val_main_v232, val_main_v231]
  rw [HostSum.sum_mid6, Fin.sum_univ_one, Fin.sum_univ_one]
  pointwise [val_main_v230]
  rw [v229 H D]
  exact (congrArg (· + _) bits_zero).trans (zero_add _)

/-! ## Queries, keys and values -/

theorem v235 (n : Fin 16) (h : Fin 2) (g : Fin 8) (r : Fin 128) (s : Fin 256) :
    val_main_v235 (F := Ideal) x0 x1 x2 (ix6 0 n h g r s) = ((dsc I n h g r s * (1 / 8) : ℝ) : EReal) := by
  pointwise [val_main_v235, val_main_v234, val_main_cst_44, val_main_v233,
    val_main_v57_1, val_main_v56, val_main_v55, val_main_v54, val_main_v53, val_main_v52,
    val_main_v51, val_main_v50, val_main_v49, val_main_v48, val_main_v47, val_main_v46, val_main_c_6, val_main_v45, val_main_v44,
    val_main_v43, val_main_c_5, val_main_v42, val_main_v41, val_main_v40, val_main_v39, val_main_c_4, val_main_v38, val_main_v37,
    val_main_c_3, val_main_v36, val_main_v35, val_main_v34, val_main_v33, val_main_v32, val_main_v31, val_main_v30, val_main_v29,
    val_main_v28, val_main_c, val_main_call6_v0, val_main_call6_cst]
  rw [band, there n.val (by omega) s, andi_ofBool, vis_eq, select_ofBool, v227 H D, bits_eighth]
  split
  · rw [← EReal.coe_mul]
  · next hv => rw [show dsc I n h g r s = 0 from ds_of_not (Bool.eq_false_of_not_eq_true hv)]; simp

theorem v237 (n : Fin 16) (h : Fin 2) (r : Fin 128) (g : Fin 8) (d : Fin 64) :
    val_main_v237 (F := Ideal) x0 x1 x2 (ix6 0 n h r g d) = (dq I n h g r d : EReal) := by
  pointwise [val_main_v237, val_main_v236]
  simp only [v235 H D, v19 H, ← EReal.coe_mul, coe_sum]
  refine congrArg Real.toEReal ?_
  rw [dq, Finset.sum_mul]
  refine Finset.sum_congr rfl fun s _ => ?_
  rw [mul_right_comm, ds_kv, mul_comm (dsc I n h g r s)]
  rfl

theorem v239 (n : Fin 16) (h : Fin 2) (s : Fin 256) (d : Fin 64) :
    val_main_v239 (F := Ideal) x0 x1 x2 (ix5 0 n h s d) = (dkp I n h s d : EReal) := by
  pointwise [val_main_v239, val_main_v236]
  simp only [v235 H D, v12 H, ← EReal.coe_mul, coe_sum]
  refine congrArg Real.toEReal (Finset.sum_comm.trans ?_)
  refine Finset.sum_congr rfl fun g _ => Finset.sum_congr rfl fun r _ => ?_
  rw [qry, mul_assoc, mul_comm (1 / 8 : ℝ)]

omit H D in
theorem next_pos (f : Fin 16 → Fin 256 → ℝ) (n : Fin 16) (r : Fin 128) (hn : n.val < 15) :
    ofNext f n r = f n ⟨128 + r.val, by omega⟩ + f ⟨1 + n.val, by omega⟩ ⟨r.val, by omega⟩ := by
  rw [ofNext, dif_pos (show n.val + 1 < 16 by omega)]
  exact congrArg (fun a => _ + f a _) (Fin.ext (Nat.add_comm _ _))

omit H D in
theorem next_neg (f : Fin 16 → Fin 256 → ℝ) (n : Fin 16) (r : Fin 128) (hn : ¬ n.val < 15) :
    ofNext f n r = f n ⟨128 + r.val, by omega⟩ := by
  rw [ofNext, dif_neg (show ¬ n.val + 1 < 16 by omega), add_zero]

set_option maxHeartbeats 800000 in
theorem v246 (n : Fin 16) (r : Fin 128) (h : Fin 2) (d : Fin 64) :
    val_main_v246 (F := Ideal) x0 x1 x2 (ix5 0 n r h d) = (dv I n h r d : EReal) := by
  pointwise [val_main_v246, val_main_v245, val_main_v244, val_main_v242, val_main_v241, val_main_v212, val_main_cst_45]
  refine (congrArg (· + _) (v211 H D n h d ⟨128 + r.val, by omega⟩)).trans ?_
  by_cases hn : n.val < 15
  · refine (congrArg (_ + ·) ((dif_pos hn).trans (v211 H D ⟨1 + n.val, by omega⟩ h d ⟨r.val, by omega⟩))).trans ?_
    exact (EReal.coe_add _ _).symm.trans (congrArg Real.toEReal (next_pos (fun n s => dvp I n h s d) n r hn).symm)
  · refine (congrArg (_ + ·) (dif_neg hn)).trans ((add_zero _).trans ?_)
    exact congrArg Real.toEReal (next_neg (fun n s => dvp I n h s d) n r hn).symm

set_option maxHeartbeats 800000 in
theorem v252 (n : Fin 16) (r : Fin 128) (h : Fin 2) (d : Fin 64) :
    val_main_v252 (F := Ideal) x0 x1 x2 (ix5 0 n r h d) = (dk I n h r d : EReal) := by
  pointwise [val_main_v252, val_main_v251, val_main_v250, val_main_v248, val_main_v247, val_main_v240, val_main_cst_46]
  refine (congrArg (· + _) (v239 H D n h ⟨128 + r.val, by omega⟩ d)).trans ?_
  by_cases hn : n.val < 15
  · refine (congrArg (_ + ·) ((dif_pos hn).trans (v239 H D ⟨1 + n.val, by omega⟩ h ⟨r.val, by omega⟩ d))).trans ?_
    exact (EReal.coe_add _ _).symm.trans (congrArg Real.toEReal (next_pos (fun n s => dkp I n h s d) n r hn).symm)
  · refine (congrArg (_ + ·) (dif_neg hn)).trans ((add_zero _).trans ?_)
    exact congrArg Real.toEReal (next_neg (fun n s => dkp I n h s d) n r hn).symm

theorem v259 (n : Fin 16) (h : Fin 2) (g : Fin 8) (r : Fin 128) (d : Fin 64) :
    val_main_v259 (F := Ideal) x0 x1 x2 (ix3 0 (tok n r) (hd h g d)) = (dq I n h g r d : EReal) := by
  have e : val_main_v259 (F := Ideal) x0 x1 x2 (ix3 0 (tok n r) (hd h g d)) = val_main_v237 (F := Ideal) x0 x1 x2 (ix6 0 n h r g d) := by
    pointwise [val_main_v259, val_main_v255, val_main_v238]
    refine congrArg _ (congr (congr (congr (congr (congrArg (ix6 0) ?_) ?_) ?_) ?_) ?_)
    all_goals exact Fin.ext (by dsimp only [tok, hd]; omega)
  rw [e, v237 H D]

theorem v258 (n : Fin 16) (r : Fin 128) (c : Fin 128) :
    val_main_v258 (F := Ideal) x0 x1 x2 (ix3 0 (tok n r) c) = (dk I n ⟨c.val / 64, by omega⟩ r ⟨c.val % 64, by omega⟩ : EReal) := by
  have e : val_main_v258 (F := Ideal) x0 x1 x2 (ix3 0 (tok n r) c)
      = val_main_v252 (F := Ideal) x0 x1 x2 (ix5 0 n r ⟨c.val / 64, by omega⟩ ⟨c.val % 64, by omega⟩) := by
    pointwise [val_main_v258, val_main_v254]
    rw [mk_blk, mk_row, blk_tok, row_tok]
  rw [e, v252 H D]

theorem v257 (n : Fin 16) (r : Fin 128) (c : Fin 128) :
    val_main_v257 (F := Ideal) x0 x1 x2 (ix3 0 (tok n r) c) = (dv I n ⟨c.val / 64, by omega⟩ r ⟨c.val % 64, by omega⟩ : EReal) := by
  have e : val_main_v257 (F := Ideal) x0 x1 x2 (ix3 0 (tok n r) c)
      = val_main_v246 (F := Ideal) x0 x1 x2 (ix5 0 n r ⟨c.val / 64, by omega⟩ ⟨c.val % 64, by omega⟩) := by
    pointwise [val_main_v257, val_main_v253]
    rw [mk_blk, mk_row, blk_tok, row_tok]
  rw [e, v246 H D]

omit H D in
theorem hd_div (c : Fin 1024) : hd ⟨c.val / 512, by omega⟩ ⟨c.val / 64 % 8, by omega⟩ ⟨c.val % 64, by omega⟩ = c :=
  Fin.ext (by dsimp only [hd]; omega)

theorem v260 (t : Fin 2048) (c : Fin 5376) :
    val_main_v260 (F := Ideal) x0 x1 x2 x3 x4 x5 x6 (ix3 0 t c) = (dz I t c : EReal) := by
  have e1 (c : Fin 1024) := v259 H D (blk t) ⟨c.val / 512, by omega⟩ ⟨c.val / 64 % 8, by omega⟩ (row t) ⟨c.val % 64, by omega⟩
  have e2 := v258 H D (blk t) (row t)
  have e3 := v257 H D (blk t) (row t)
  have e4 (c : Fin 1024) := v207 H D (blk t) ⟨c.val / 512, by omega⟩ ⟨c.val / 64 % 8, by omega⟩ (row t) ⟨c.val % 64, by omega⟩
  simp only [tok_blk_row, hd_div] at e1 e2 e3 e4
  pointwise [val_main_v260]
  unfold dz
  by_cases h1 : c.val < 1024
  · rw [dif_pos h1, dif_pos h1, e1]
  rw [dif_neg h1, dif_neg h1]
  by_cases h2 : c.val - 1024 < 128
  · rw [dif_pos h2, dif_pos h2, e2]
  rw [dif_neg h2, dif_neg h2]
  by_cases h3 : c.val - 1024 - 128 < 128
  · rw [dif_pos h3, dif_pos h3, e3]
  rw [dif_neg h3, dif_neg h3]
  by_cases h4 : c.val - 1024 - 128 - 128 < 1024
  · rw [dif_pos h4, dif_pos h4, e4]
  rw [dif_neg h4, dif_neg h4]
  by_cases h5 : c.val - 1024 - 128 - 128 - 1024 < 1024
  · rw [dif_pos h5, dif_pos h5, v153 H D]
  rw [dif_neg h5, dif_neg h5]
  by_cases h6 : c.val - 1024 - 128 - 128 - 1024 - 1024 < 1024
  · rw [dif_pos h6, dif_pos h6, v200 H D]
  · rw [dif_neg h6, dif_neg h6, v151 H D]

theorem v262 (t : Fin 2048) (c : Fin 5376) :
    val_main_v262 (F := Ideal) x0 x1 x2 x3 x4 x5 x6 (ix2 t c) = (dz I t c : EReal) := by
  have e := v260 H D t c
  pointwise [val_main_v262, val_main_v261]
  exact e

end Cert.MixRef

end
-- ==== Proof.Over.lean ====
/- What a list of stores leaves in a buffer whose contents were known. -/
module

public import Idealize.ShloMosaic.Lib.Pipeline.FrameBody

@[expose] public section

noncomputable section

namespace Cert.Over

open Idealize.ShloMosaic Idealize.ShloMosaic.View

variable {sig : RefSig} {κ : Kind} {sp : Space} {s : Shape} {e : EltTy} {Val : EltTy → Type}

/-- The contents `x` with the stores `L` made over them, the last store first in the list. -/
def over (x : s.Idx → Val e) : List (Piece Val s e) → s.Idx → Val e
  | [] => x
  | p :: L => p.1.overlay (over x L) p.2

theorem over_nil (x : s.Idx → Val e) : over x ([] : List (Piece Val s e)) = x := rfl

theorem over_cons (x : s.Idx → Val e) (p : Piece Val s e) (L : List (Piece Val s e)) :
    over x (p :: L) = p.1.overlay (over x L) p.2 := rfl

/-- Under the last store it is what was stored; -/
theorem over_cons_emb (x : s.Idx → Val e) (r : Rect s) (w : r.shape.Idx → Val e) (L : List (Piece Val s e)) (y : r.shape.Idx) :
    over x (⟨r, w⟩ :: L) (r.emb y) = w y := r.overlay_emb _ _ y

/-- off it, what the earlier stores left. -/
theorem over_cons_of_not_mem (x : s.Idx → Val e) (p : Piece Val s e) (L : List (Piece Val s e)) {y : s.Idx} (h : y ∉ p.1.set) :
    over x (p :: L) y = over x L y := p.1.overlay_of_not_mem _ _ h

/-- A buffer read after the stores `L` reads them over what it read before. -/
theorem read_writes_over (v : View sig κ sp s e) (f : v.ty.Contents Val) (L : List (Piece Val s e)) :
    v.read Val (v.writes Val f L) = over (v.read Val f) L := by
  induction L with
  | nil => rfl
  | cons p L ih =>
    funext y
    by_cases hy : y ∈ p.1.set
    · obtain ⟨r, w⟩ := p
      obtain ⟨x, rfl⟩ : ∃ x, r.emb x = y := r.exists_idx_of_mem hy
      rw [read_writes_cons_emb, over_cons_emb]
    · have hy' : y ∉ Finset.univ.map p.1.emb := by rwa [Rect.map_emb_univ]
      rw [writes_cons, read_slice_write_of_not_mem p.1 _ _ _ hy', over_cons_of_not_mem _ p L hy, ih]

theorem read_writes {m : Memref sig κ sp s e} (h : m.IsWhole) (x : s.Idx → Val e) (L : List (Piece Val s e)) :
    m.view.read Val (m.view.writes Val (h.unread x) L) = over x L := by
  rw [read_writes_over, h.read_unread]

/-- Stores that leave no index out do not show what was there before. -/
theorem over_of_cover [∀ e, Nonempty (Val e)] (x : s.Idx → Val e) (L : List (Piece Val s e)) (h : ∀ y, ∃ p ∈ L, y ∈ p.1.set) :
    over x L = canon L := by
  funext y
  revert h
  suffices ∀ L : List (Piece Val s e), (∃ p ∈ L, y ∈ p.1.set) → over x L y = canon L y from fun h => this L (h y)
  intro L
  induction L with
  | nil => rintro ⟨_, hm, _⟩; exact absurd hm List.not_mem_nil
  | cons p L ih =>
    rintro ⟨q, hq, hy⟩
    by_cases hp : y ∈ p.1.set
    · obtain ⟨r, w⟩ := p
      obtain ⟨z, rfl⟩ : ∃ z, r.emb z = y := r.exists_idx_of_mem hp
      rw [over_cons_emb, canon_cons_emb]
    · rcases List.mem_cons.mp hq with rfl | hq
      · exact absurd hy hp
      · rw [over_cons_of_not_mem _ p L hp, canon_cons_of_not_mem p L hp, ih ⟨q, hq, hy⟩]

end Cert.Over

end
-- ==== Proof.MixRun.lean ====
/- One grid point of the token mixer's gradient kernel: the contents its body leaves in every buffer it may write,
   as the list of its stores over the contents found there. -/
module

public import proofs.«01_k».proof.Proof.Gen.MixKernelIdeal.Skeleton
public import proofs.«01_k».proof.Proof.Gen.MixKernelIdeal.Frame
public import proofs.«01_k».proof.Proof.Over

@[expose] public section

set_option maxRecDepth 16384

noncomputable section

namespace Cert.MixKernelRun

open Cert.MixKernelIdeal Cert.MixKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Over

variable {F : FTy → Type} [FloatOps F]

local notation "𝕄" => MT nD τ sig Unit (Elt F) ℕ (UR sig nD τ) ℕ

/-- The blocks the body reads. -/
structure Ins (F : FTy → Type) where
  z : Vec F S128x5376 .f32
  kvp : Vec F S128x256 .f32
  dcat : Vec F S128x2048 .f32
  o : Vec F S128x1024 .f32
  sinks : Vec F S1x16 .f32
  lg : Vec F S1x1024 .f32
  lb : Vec F S1x1024 .f32
  w : Vec F S8x128x128 .f32
  bt : Vec F S128x8 .f32

/-- The contents of the buffers the body writes: its outputs' blocks and what it keeps from point to point. -/
structure St (F : FTy → Type) where
  dz : Vec F S128x5376 .bf16
  dsink : Vec F S1x16 .f32
  dlg : Vec F S1x1024 .f32
  dlb : Vec F S1x1024 .f32
  dw : Vec F S8x128x128 .f32
  db : Vec F S8x128 .f32
  pend : Vec F S128x5376 .bf16
  dkv : Vec F S256x256 .f32
  carry : Vec F S128x256 .f32
  sacc : Vec F S1x128 .f32
  bacc : Vec F S128x128 .f32

/-- The stores of one point into each of those buffers, the last first. -/
structure Stores (F : FTy → Type) where
  dz : List (View.Piece (Elt F) S128x5376 .bf16)
  dsink : List (View.Piece (Elt F) S1x16 .f32)
  dlg : List (View.Piece (Elt F) S1x1024 .f32)
  dlb : List (View.Piece (Elt F) S1x1024 .f32)
  dw : List (View.Piece (Elt F) S8x128x128 .f32)
  db : List (View.Piece (Elt F) S8x128 .f32)
  pend : List (View.Piece (Elt F) S128x5376 .bf16)
  dkv : List (View.Piece (Elt F) S256x256 .f32)
  carry : List (View.Piece (Elt F) S128x256 .f32)
  sacc : List (View.Piece (Elt F) S1x128 .f32)
  bacc : List (View.Piece (Elt F) S128x128 .f32)

/-- The contents once the stores are made. -/
def St.after (s : St F) (L : Stores F) : St F where
  dz := over s.dz L.dz
  dsink := over s.dsink L.dsink
  dlg := over s.dlg L.dlg
  dlb := over s.dlb L.dlb
  dw := over s.dw L.dw
  db := over s.db L.db
  pend := over s.pend L.pend
  dkv := over s.dkv L.dkv
  carry := over s.carry L.carry
  sacc := over s.sacc L.sacc
  bacc := over s.bacc L.bacc

/-- The two contents agree on what the body reads before it has written it. -/
structure St.Agree (s p : St F) : Prop where
  dlg : s.dlg = p.dlg
  dlb : s.dlb = p.dlb
  dw : s.dw = p.dw
  pend : s.pend = p.pend
  carry : s.carry = p.carry
  sacc : s.sacc = p.sacc
  bacc : s.bacc = p.bacc

/-- The three kinds of point: the first, those between, and the last, which has no block of its own. -/
inductive Case
  | first
  | between
  | last

/-- What the body's conditions say at a point of each kind. -/
def Case.At (i : grid0.Coords) : Case → Prop
  | .first => k0_cond1 i = 1#1 ∧ ¬(Scalar.cmpi .ne (Scalar.extui (Scalar.cmpi .eq (BitVec.ofNat 32 (i 0).val) 16#32)) 0#32) = 1#1 ∧ k0_cond3 i = 1#1 ∧ ¬k0_cond4 i = 1#1
  | .between => ¬k0_cond1 i = 1#1 ∧ ¬(Scalar.cmpi .ne (Scalar.extui (Scalar.cmpi .eq (BitVec.ofNat 32 (i 0).val) 16#32)) 0#32) = 1#1 ∧ k0_cond3 i = 1#1 ∧ ¬k0_cond4 i = 1#1
  | .last => ¬k0_cond1 i = 1#1 ∧ (Scalar.cmpi .ne (Scalar.extui (Scalar.cmpi .eq (BitVec.ofNat 32 (i 0).val) 16#32)) 0#32) = 1#1 ∧ ¬k0_cond3 i = 1#1 ∧ k0_cond4 i = 1#1

section

variable (c : Dev nD) (i : grid0.Coords)
  (arg1 : Memref sig .tc .vmem S128x5376 .f32) (harg1 : arg1.IsWhole)
  (arg2 : Memref sig .tc .vmem S128x256 .f32) (harg2 : arg2.IsWhole)
  (arg3 : Memref sig .tc .vmem S128x2048 .f32) (harg3 : arg3.IsWhole)
  (arg4 : Memref sig .tc .vmem S128x1024 .f32) (harg4 : arg4.IsWhole)
  (arg5 : Memref sig .tc .vmem S1x16 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S8x128x128 .f32) (harg8 : arg8.IsWhole)
  (arg9 : Memref sig .tc .vmem S128x8 .f32) (harg9 : arg9.IsWhole)
  (arg10 : Memref sig .tc .vmem S128x5376 .bf16) (harg10 : arg10.IsWhole)
  (arg11 : Memref sig .tc .vmem S1x16 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S8x128 .f32) (harg15 : arg15.IsWhole)
  (arg16 : Memref sig .tc .vmem S128x5376 .bf16) (harg16 : arg16.IsWhole)
  (arg17 : Memref sig .tc .vmem S256x256 .f32) (harg17 : arg17.IsWhole)
  (arg18 : Memref sig .tc .vmem S128x256 .f32) (harg18 : arg18.IsWhole)
  (arg19 : Memref sig .tc .vmem S1x128 .f32) (harg19 : arg19.IsWhole)
  (arg20 : Memref sig .tc .vmem S128x128 .f32) (harg20 : arg20.IsWhole)

/-- The memrefs of the blocks read and of the buffers written, at the contents `x` and `s`. -/
abbrev held (x : Ins F) (s : St F) : sProp 𝕄 :=
  iprop(owns (c : Thread nD τ) arg1 fullShare x.z
    ∗ owns (c : Thread nD τ) arg2 fullShare x.kvp
    ∗ owns (c : Thread nD τ) arg3 fullShare x.dcat
    ∗ owns (c : Thread nD τ) arg4 fullShare x.o
    ∗ owns (c : Thread nD τ) arg5 fullShare x.sinks
    ∗ owns (c : Thread nD τ) arg6 fullShare x.lg
    ∗ owns (c : Thread nD τ) arg7 fullShare x.lb
    ∗ owns (c : Thread nD τ) arg8 fullShare x.w
    ∗ owns (c : Thread nD τ) arg9 fullShare x.bt
    ∗ owns (c : Thread nD τ) arg10 fullShare s.dz
    ∗ owns (c : Thread nD τ) arg11 fullShare s.dsink
    ∗ owns (c : Thread nD τ) arg12 fullShare s.dlg
    ∗ owns (c : Thread nD τ) arg13 fullShare s.dlb
    ∗ owns (c : Thread nD τ) arg14 fullShare s.dw
    ∗ owns (c : Thread nD τ) arg15 fullShare s.db
    ∗ owns (c : Thread nD τ) arg16 fullShare s.pend
    ∗ owns (c : Thread nD τ) arg17 fullShare s.dkv
    ∗ owns (c : Thread nD τ) arg18 fullShare s.carry
    ∗ owns (c : Thread nD τ) arg19 fullShare s.sacc
    ∗ owns (c : Thread nD τ) arg20 fullShare s.bacc)

/-- From those contents the body runs to its end, which it reaches with the stores `L` made and the blocks read as they were. -/
abbrev Runs (x : Ins F) (s : St F) (L : Stores F) : Prop :=
  ∀ (E : Set ℕ) (K : PUnit → sProp 𝕄),
    iprop(held c arg1 arg2 arg3 arg4 arg5 arg6 arg7 arg8 arg9 arg10 arg11 arg12 arg13 arg14 arg15 arg16 arg17 arg18 arg19 arg20 x s ∗ (iprop(held c arg1 arg2 arg3 arg4 arg5 arg6 arg7 arg8 arg9 arg10 arg11 arg12 arg13 arg14 arg15 arg16 arg17 arg18 arg19 arg20 x (s.after L)) -∗ K ⟨⟩))
      ⊢ wp frame (wpE (defs₀ (F := F)) Variants.none c none) E
        (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K

set_option maxHeartbeats 51200000 in
/-- The stores of a point that finds `p` in the buffers it reads before it has written them. The first point may find
    anything: what it stores does not depend on it. -/
def run (κ : Case) (hκ : κ.At i) (x : Ins F) (p : St F) :
    { L : Stores F // ∀ s, (κ ≠ .first → s.Agree p) → Runs c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x s L } := by
  cases κ
  all_goals
    refine ⟨⟨?_, ?_, ?_, ?_, ?_, ?_, ?_, ?_, ?_, ?_, ?_⟩, fun ⟨dz, dsink, dlg, dlb, dw, db, pend, dkv, carry, sacc, bacc⟩ hs E K => ?run⟩
    case run =>
      have hc := hκ
      dsimp only [Case.At] at hc
      have hc0 := hc.1
      have hc1 := hc.2.1
      have hc2 := hc.2.2.1
      have hc3 := hc.2.2.2
      simp only [ne_eq, reduceCtorEq, not_false_eq_true, not_true_eq_false, false_imp_iff, true_imp_iff] at hs
      try
        obtain ⟨a1, a2, a3, a4, a5, a6, a7⟩ := hs
        dsimp only at a1 a2 a3 a4 a5 a6 a7
        subst a1 a2 a3 a4 a5 a6 a7
      dsimp only [St.after, held]
      simp only [cc0_mixer_bwd_eq_skeleton]; unfold cc0_mixer_bwd_skel
      simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
      unfold owns
      iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩, Hk⟩
      obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20
      sl_exec (disch := first | sl_exact hc0 | sl_exact hc1 | sl_exact hc2 | sl_exact hc3)
      sl_step
      iapply Hk
      isplitl [H1]
      · iexists _; isplitr; swap; · iexact H1
        ipureintro; exact harg1.read_unread _
      isplitl [H2]
      · iexists _; isplitr; swap; · iexact H2
        ipureintro; exact harg2.read_unread _
      isplitl [H3]
      · iexists _; isplitr; swap; · iexact H3
        ipureintro; exact harg3.read_unread _
      isplitl [H4]
      · iexists _; isplitr; swap; · iexact H4
        ipureintro; exact harg4.read_unread _
      isplitl [H5]
      · iexists _; isplitr; swap; · iexact H5
        ipureintro; exact harg5.read_unread _
      isplitl [H6]
      · iexists _; isplitr; swap; · iexact H6
        ipureintro; exact harg6.read_unread _
      isplitl [H7]
      · iexists _; isplitr; swap; · iexact H7
        ipureintro; exact harg7.read_unread _
      isplitl [H8]
      · iexists _; isplitr; swap; · iexact H8
        ipureintro; exact harg8.read_unread _
      isplitl [H9]
      · iexists _; isplitr; swap; · iexact H9
        ipureintro; exact harg9.read_unread _
      isplitl [H10]
      · iexists _; isplitr; swap; · iexact H10
        ipureintro; first | exact read_writes harg10 _ _ | exact read_writes harg10 _ []
      isplitl [H11]
      · iexists _; isplitr; swap; · iexact H11
        ipureintro; first | exact read_writes harg11 _ _ | exact read_writes harg11 _ []
      isplitl [H12]
      · iexists _; isplitr; swap; · iexact H12
        ipureintro; first | exact read_writes harg12 _ _ | exact read_writes harg12 _ []
      isplitl [H13]
      · iexists _; isplitr; swap; · iexact H13
        ipureintro; first | exact read_writes harg13 _ _ | exact read_writes harg13 _ []
      isplitl [H14]
      · iexists _; isplitr; swap; · iexact H14
        ipureintro; first | exact read_writes harg14 _ _ | exact read_writes harg14 _ []
      isplitl [H15]
      · iexists _; isplitr; swap; · iexact H15
        ipureintro; first | exact read_writes harg15 _ _ | exact read_writes harg15 _ []
      isplitl [H16]
      · iexists _; isplitr; swap; · iexact H16
        ipureintro; first | exact read_writes harg16 _ _ | exact read_writes harg16 _ []
      isplitl [H17]
      · iexists _; isplitr; swap; · iexact H17
        ipureintro; first | exact read_writes harg17 _ _ | exact read_writes harg17 _ []
      isplitl [H18]
      · iexists _; isplitr; swap; · iexact H18
        ipureintro; first | exact read_writes harg18 _ _ | exact read_writes harg18 _ []
      isplitl [H19]
      · iexists _; isplitr; swap; · iexact H19
        ipureintro; first | exact read_writes harg19 _ _ | exact read_writes harg19 _ []
      iexists _; isplitr; swap; · iexact H20
      ipureintro; first | exact read_writes harg20 _ _ | exact read_writes harg20 _ []

end

end Cert.MixKernelRun

end
-- ==== Proof.MixFrame.lean ====
/- The frame of the token mixer's gradient kernel: what each grid point leaves, and that the arguments end unchanged. -/
module

public import proofs.«01_k».proof.Proof.MixRun
public import Idealize.ShloMosaic.Lib.Pipeline.TableIdle
public import Idealize.ShloMosaic.Lib.Claim

@[expose] public section

set_option maxRecDepth 16384

noncomputable section

namespace Cert.MixKernelRun

open Cert.MixKernelIdeal Cert.MixKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Over

variable {F : FTy → Type} [FloatOps F]

local notation "𝕄" => MT nD τ sig Unit (Elt F) ℕ (UR sig nD τ) ℕ

/-! ## The kinds of points -/

instance (i : grid0.Coords) (κ : Case) : Decidable (κ.At i) := by cases κ <;> unfold Case.At <;> infer_instance

/-- The kind of point `t`. -/
def kind (t : Fin cfg0.N) : Case := if t.val = 0 then .first else if t.val < 16 then .between else .last

theorem kind_at : ∀ t : Fin cfg0.N, (kind t).At (grid0.coords t) :=
  (by decide +kernel : ∀ t : Fin grid0.N, (if t.val = 0 then Case.first else if t.val < 16 then .between else .last).At (grid0.coords t))

section

variable (c : Dev nD) (i : grid0.Coords)
  (arg1 : Memref sig .tc .vmem S128x5376 .f32) (harg1 : arg1.IsWhole)
  (arg2 : Memref sig .tc .vmem S128x256 .f32) (harg2 : arg2.IsWhole)
  (arg3 : Memref sig .tc .vmem S128x2048 .f32) (harg3 : arg3.IsWhole)
  (arg4 : Memref sig .tc .vmem S128x1024 .f32) (harg4 : arg4.IsWhole)
  (arg5 : Memref sig .tc .vmem S1x16 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S8x128x128 .f32) (harg8 : arg8.IsWhole)
  (arg9 : Memref sig .tc .vmem S128x8 .f32) (harg9 : arg9.IsWhole)
  (arg10 : Memref sig .tc .vmem S128x5376 .bf16) (harg10 : arg10.IsWhole)
  (arg11 : Memref sig .tc .vmem S1x16 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S8x128 .f32) (harg15 : arg15.IsWhole)
  (arg16 : Memref sig .tc .vmem S128x5376 .bf16) (harg16 : arg16.IsWhole)
  (arg17 : Memref sig .tc .vmem S256x256 .f32) (harg17 : arg17.IsWhole)
  (arg18 : Memref sig .tc .vmem S128x256 .f32) (harg18 : arg18.IsWhole)
  (arg19 : Memref sig .tc .vmem S1x128 .f32) (harg19 : arg19.IsWhole)
  (arg20 : Memref sig .tc .vmem S128x128 .f32) (harg20 : arg20.IsWhole)

/-- The first point stores the whole of everything it reads back later. -/
theorem first_whole (hκ : Case.first.At i) (x : Ins F) (p : St F) :
    let L := (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 .first hκ x p).1
    View.Piece.WholeMem L.dlg ∧ View.Piece.WholeMem L.dlb ∧ View.Piece.WholeMem L.dw ∧ View.Piece.WholeMem L.pend
      ∧ View.Piece.WholeMem L.carry ∧ View.Piece.WholeMem L.sacc ∧ View.Piece.WholeMem L.bacc := by
  refine ⟨?_, ?_, ?_, ?_, ?_, ?_, ?_⟩ <;> sl_whole_mem

/-- Every point stores the whole of its block of `dz`. -/
theorem dz_cover (κ : Case) (hκ : κ.At i) (x : Ins F) (p : St F) (y : S128x5376.Idx) :
    ∃ q ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 κ hκ x p).1.dz, y ∈ q.1.set := by
  cases κ <;> exact View.cover_of_tiledBy _ ![128, 256] (by sl_kernel_rfl) y

/-- The last point stores the whole of the two results kept for it, and nothing in the three that the others add to; -/
theorem last_stores (hκ : Case.last.At i) (x : Ins F) (p : St F) :
    let L := (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 .last hκ x p).1
    View.Piece.WholeMem L.dsink ∧ View.Piece.WholeMem L.db ∧ L.dlg = [] ∧ L.dlb = [] ∧ L.dw = [] := by
  refine ⟨?_, ?_, rfl, rfl, rfl⟩ <;> sl_whole_mem

/-- the others nothing in those two. -/
theorem others_store (κ : Case) (hκ : κ.At i) (x : Ins F) (p : St F) (h : κ ≠ .last) :
    let L := (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 κ hκ x p).1
    L.dsink = [] ∧ L.db = [] := by
  cases κ
  · exact ⟨rfl, rfl⟩
  · exact ⟨rfl, rfl⟩
  · exact absurd rfl h

end

/-! ## The contents point by point -/

abbrev m0 (t : Fin cfg0.N) : Memref sig .tc .vmem S128x5376 .f32 := win0_0.stage (cfg0.slots t 0)
abbrev w0 (t : Fin cfg0.N) : (m0 t).IsWhole := hstage0_0 ((cfg0.slots t 0).cast nbuf0_0)
abbrev m1 (t : Fin cfg0.N) : Memref sig .tc .vmem S128x256 .f32 := win0_1.stage (cfg0.slots t 1)
abbrev w1 (t : Fin cfg0.N) : (m1 t).IsWhole := hstage0_1 ((cfg0.slots t 1).cast nbuf0_1)
abbrev m2 (t : Fin cfg0.N) : Memref sig .tc .vmem S128x2048 .f32 := win0_2.stage (cfg0.slots t 2)
abbrev w2 (t : Fin cfg0.N) : (m2 t).IsWhole := hstage0_2 ((cfg0.slots t 2).cast nbuf0_2)
abbrev m3 (t : Fin cfg0.N) : Memref sig .tc .vmem S128x1024 .f32 := win0_3.stage (cfg0.slots t 3)
abbrev w3 (t : Fin cfg0.N) : (m3 t).IsWhole := hstage0_3 ((cfg0.slots t 3).cast nbuf0_3)
abbrev m4 (t : Fin cfg0.N) : Memref sig .tc .vmem S1x16 .f32 := win0_4.stage (cfg0.slots t 4)
abbrev w4 (t : Fin cfg0.N) : (m4 t).IsWhole := hstage0_4 ((cfg0.slots t 4).cast nbuf0_4)
abbrev m5 (t : Fin cfg0.N) : Memref sig .tc .vmem S1x1024 .f32 := win0_5.stage (cfg0.slots t 5)
abbrev w5 (t : Fin cfg0.N) : (m5 t).IsWhole := hstage0_5 ((cfg0.slots t 5).cast nbuf0_5)
abbrev m6 (t : Fin cfg0.N) : Memref sig .tc .vmem S1x1024 .f32 := win0_6.stage (cfg0.slots t 6)
abbrev w6 (t : Fin cfg0.N) : (m6 t).IsWhole := hstage0_6 ((cfg0.slots t 6).cast nbuf0_6)
abbrev m7 (t : Fin cfg0.N) : Memref sig .tc .vmem S8x128x128 .f32 := win0_7.stage (cfg0.slots t 7)
abbrev w7 (t : Fin cfg0.N) : (m7 t).IsWhole := hstage0_7 ((cfg0.slots t 7).cast nbuf0_7)
abbrev m8 (t : Fin cfg0.N) : Memref sig .tc .vmem S128x8 .f32 := win0_8.stage (cfg0.slots t 8)
abbrev w8 (t : Fin cfg0.N) : (m8 t).IsWhole := hstage0_8 ((cfg0.slots t 8).cast nbuf0_8)
abbrev m9 (t : Fin cfg0.N) : Memref sig .tc .vmem S128x5376 .bf16 := win0_9.stage (cfg0.slots t 9)
abbrev w9 (t : Fin cfg0.N) : (m9 t).IsWhole := hstage0_9 ((cfg0.slots t 9).cast nbuf0_9)
abbrev m10 (t : Fin cfg0.N) : Memref sig .tc .vmem S1x16 .f32 := win0_10.stage (cfg0.slots t 10)
abbrev w10 (t : Fin cfg0.N) : (m10 t).IsWhole := hstage0_10 ((cfg0.slots t 10).cast nbuf0_10)
abbrev m11 (t : Fin cfg0.N) : Memref sig .tc .vmem S1x1024 .f32 := win0_11.stage (cfg0.slots t 11)
abbrev w11 (t : Fin cfg0.N) : (m11 t).IsWhole := hstage0_11 ((cfg0.slots t 11).cast nbuf0_11)
abbrev m12 (t : Fin cfg0.N) : Memref sig .tc .vmem S1x1024 .f32 := win0_12.stage (cfg0.slots t 12)
abbrev w12 (t : Fin cfg0.N) : (m12 t).IsWhole := hstage0_12 ((cfg0.slots t 12).cast nbuf0_12)
abbrev m13 (t : Fin cfg0.N) : Memref sig .tc .vmem S8x128x128 .f32 := win0_13.stage (cfg0.slots t 13)
abbrev w13 (t : Fin cfg0.N) : (m13 t).IsWhole := hstage0_13 ((cfg0.slots t 13).cast nbuf0_13)
abbrev m14 (t : Fin cfg0.N) : Memref sig .tc .vmem S8x128 .f32 := win0_14.stage (cfg0.slots t 14)
abbrev w14 (t : Fin cfg0.N) : (m14 t).IsWhole := hstage0_14 ((cfg0.slots t 14).cast nbuf0_14)
abbrev s0 : Memref sig .tc .vmem S128x5376 .bf16 := Memref.whole cc0_scratch0
abbrev s1 : Memref sig .tc .vmem S256x256 .f32 := Memref.whole cc0_scratch1
abbrev s2 : Memref sig .tc .vmem S128x256 .f32 := Memref.whole cc0_scratch2
abbrev s3 : Memref sig .tc .vmem S1x128 .f32 := Memref.whole cc0_scratch3
abbrev s4 : Memref sig .tc .vmem S128x128 .f32 := Memref.whole cc0_scratch4

variable (m : (ℓ : Loc nD τ sig) → Buf (Elt F) ℓ) (ρ : Dev nD → PrngReg)

/-- The blocks point `t` reads. -/
def ins (c : Dev nD) (t : Fin cfg0.N) : Ins F where
  z := iblk m c 0 t
  kvp := iblk m c 1 t
  dcat := iblk m c 2 t
  o := iblk m c 3 t
  sinks := iblk m c 4 t
  lg := iblk m c 5 t
  lb := iblk m c 6 t
  w := iblk m c 7 t
  bt := iblk m c 8 t

/-- The stores of point `t` over the contents `p`. -/
def stores (c : Dev nD) (t : Fin cfg0.N) (p : St F) : Stores F :=
  (run c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t) s0 (Memref.isWhole_whole _) s1 (Memref.isWhole_whole _) s2 (Memref.isWhole_whole _) s3 (Memref.isWhole_whole _) s4 (Memref.isWhole_whole _) (kind t) (kind_at t) (ins m c t) p).1

/-- Contents of no account. -/
def St.none : St F := ⟨View.canon [], View.canon [], View.canon [], View.canon [], View.canon [], View.canon [], View.canon [], View.canon [], View.canon [], View.canon [], View.canon []⟩

/-- The contents before point `n`. -/
def stateAt (c : Dev nD) : ℕ → St F
  | 0 => St.none
  | n + 1 => if h : n < cfg0.N then (stateAt c n).after (stores m c ⟨n, h⟩ (stateAt c n)) else stateAt c n

theorem stateAt_succ (c : Dev nD) (t : Fin cfg0.N) :
    stateAt m c (t.val + 1) = (stateAt m c t.val).after (stores m c t (stateAt m c t.val)) := by
  conv_lhs => unfold stateAt
  exact dif_pos t.isLt

/-- What point `t` stores over the contents before it. -/
abbrev storesAt (c : Dev nD) (t : Fin cfg0.N) : Stores F := stores m c t (stateAt m c t.val)

theorem storesAt_of (c : Dev nD) (t : Fin cfg0.N) (κ : Case) (h : kind t = κ) : storesAt m c t
    = (run c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t) s0 (Memref.isWhole_whole _) s1 (Memref.isWhole_whole _) s2 (Memref.isWhole_whole _) s3 (Memref.isWhole_whole _) s4 (Memref.isWhole_whole _) κ (h ▸ kind_at t) (ins m c t) (stateAt m c t.val)).1 := by
  subst h; rfl

theorem runs (c : Dev nD) (t : Fin cfg0.N) (s : St F) (hs : t.val ≠ 0 → s.Agree (stateAt m c t.val)) :
    Runs c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t) s0 (Memref.isWhole_whole _) s1 (Memref.isWhole_whole _) s2 (Memref.isWhole_whole _) s3 (Memref.isWhole_whole _) s4 (Memref.isWhole_whole _) (ins m c t) s (storesAt m c t) :=
  (run c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t) s0 (Memref.isWhole_whole _) s1 (Memref.isWhole_whole _) s2 (Memref.isWhole_whole _) s3 (Memref.isWhole_whole _) s4 (Memref.isWhole_whole _) (kind t) (kind_at t) (ins m c t) (stateAt m c t.val)).2 s
    fun h => hs fun h0 => h (if_pos h0)

/-- What the body leaves at point `t` where the next one reads it. -/
theorem kept (c : Dev nD) (t : Fin cfg0.N) (s : St F) (hs : t.val ≠ 0 → s.Agree (stateAt m c t.val)) :
    (s.after (storesAt m c t)).Agree (stateAt m c (t.val + 1)) := by
  rw [stateAt_succ]
  by_cases h0 : t.val = 0
  · have hk : kind t = .first := if_pos h0
    have hw := first_whole c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t) s0 (Memref.isWhole_whole _) s1 (Memref.isWhole_whole _) s2 (Memref.isWhole_whole _) s3 (Memref.isWhole_whole _) s4 (Memref.isWhole_whole _) (hk ▸ kind_at t) (ins m c t) (stateAt m c t.val)
    rw [← storesAt_of m c t .first hk] at hw
    have hc {sh : Shape} {e : EltTy} (x y : sh.Idx → Elt F e) (L : List (View.Piece (Elt F) sh e)) (h : View.Piece.WholeMem L) :
        over x L = over y L :=
      (over_of_cover x L (View.cover_of_wholeMem L h)).trans (over_of_cover y L (View.cover_of_wholeMem L h)).symm
    exact ⟨hc _ _ _ hw.1, hc _ _ _ hw.2.1, hc _ _ _ hw.2.2.1, hc _ _ _ hw.2.2.2.1, hc _ _ _ hw.2.2.2.2.1, hc _ _ _ hw.2.2.2.2.2.1,
      hc _ _ _ hw.2.2.2.2.2.2⟩
  · have h := hs h0
    exact ⟨congrArg (over · _) h.dlg, congrArg (over · _) h.dlb, congrArg (over · _) h.dw, congrArg (over · _) h.pend,
      congrArg (over · _) h.carry, congrArg (over · _) h.sacc, congrArg (over · _) h.bacc⟩

theorem kept_dz (c : Dev nD) (t : Fin cfg0.N) (s : St F) : (s.after (storesAt m c t)).dz = View.canon (storesAt m c t).dz :=
  over_of_cover _ _ (dz_cover c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t) s0 (Memref.isWhole_whole _) s1 (Memref.isWhole_whole _) s2 (Memref.isWhole_whole _) s3 (Memref.isWhole_whole _) s4 (Memref.isWhole_whole _) (kind t) (kind_at t) (ins m c t) (stateAt m c t.val))

/-- At the last point what is stored in the two results kept for it, and in none of the three added to; -/
theorem at_last (c : Dev nD) (t : Fin cfg0.N) (h : t.val = 16) :
    View.Piece.WholeMem (storesAt m c t).dsink ∧ View.Piece.WholeMem (storesAt m c t).db
      ∧ (storesAt m c t).dlg = [] ∧ (storesAt m c t).dlb = [] ∧ (storesAt m c t).dw = [] := by
  have hk : kind t = .last := by unfold kind; rw [if_neg (by omega), if_neg (by omega)]
  rw [storesAt_of m c t .last hk]
  exact last_stores c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t) s0 (Memref.isWhole_whole _) s1 (Memref.isWhole_whole _) s2 (Memref.isWhole_whole _) s3 (Memref.isWhole_whole _) s4 (Memref.isWhole_whole _) (hk ▸ kind_at t) (ins m c t) (stateAt m c t.val)

/-- before it, nothing in those two. -/
theorem before_last (c : Dev nD) (t : Fin cfg0.N) (h : t.val ≠ 16) : (storesAt m c t).dsink = [] ∧ (storesAt m c t).db = [] :=
  others_store c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t) s0 (Memref.isWhole_whole _) s1 (Memref.isWhole_whole _) s2 (Memref.isWhole_whole _) s3 (Memref.isWhole_whole _) s4 (Memref.isWhole_whole _) (kind t) (kind_at t) (ins m c t) (stateAt m c t.val) (by
    have ht : t.val < 17 := Nat.lt_of_lt_of_eq t.isLt N_0
    unfold kind
    split
    · nofun
    · rw [if_pos (by omega)]; nofun)

/-! ## The data of the pipeline -/

/-- What the scratch buffers hold before point `n`: at the first anything, then what the point before left. -/
def scratchAt (c : Dev nD) (n : ℕ) : sProp 𝕄 :=
  iprop((∃ pend dkv carry sacc bacc, ⌜n ≠ 0 → pend = (stateAt m c n).pend ∧ carry = (stateAt m c n).carry ∧ sacc = (stateAt m c n).sacc ∧ bacc = (stateAt m c n).bacc⌝
      ∗ owns (c : Thread nD τ) s0 fullShare pend ∗ owns (c : Thread nD τ) s1 fullShare dkv ∗ owns (c : Thread nD τ) s2 fullShare carry
      ∗ owns (c : Thread nD τ) s3 fullShare sacc ∗ owns (c : Thread nD τ) s4 fullShare bacc) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => View.canon (storesAt m c t).dz
    | ⟨10, _⟩ => View.canon (storesAt m c t).dsink
    | ⟨11, _⟩ => (stateAt m c (t.val + 1)).dlg
    | ⟨12, _⟩ => (stateAt m c (t.val + 1)).dlb
    | ⟨13, _⟩ => (stateAt m c (t.val + 1)).dw
    | ⟨14, _⟩ => View.canon (storesAt m c t).db
  Φ t := scratchAt m c t.val
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = View.canon (storesAt m c t).dz := by dsimp only [dats]
theorem after10 (c : Dev nD) (t : Fin cfg0.N) : (dats m 0 c).after 10 t = View.canon (storesAt m c t).dsink := by dsimp only [dats]
theorem after11 (c : Dev nD) (t : Fin cfg0.N) : (dats m 0 c).after 11 t = (stateAt m c (t.val + 1)).dlg := by dsimp only [dats]
theorem after12 (c : Dev nD) (t : Fin cfg0.N) : (dats m 0 c).after 12 t = (stateAt m c (t.val + 1)).dlb := by dsimp only [dats]
theorem after13 (c : Dev nD) (t : Fin cfg0.N) : (dats m 0 c).after 13 t = (stateAt m c (t.val + 1)).dw := by dsimp only [dats]
theorem after14 (c : Dev nD) (t : Fin cfg0.N) : (dats m 0 c).after 14 t = View.canon (storesAt m c t).db := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

theorem idle_added : ∀ t : Fin cfg0.N, (t.val ≠ 16 → cfg0.idle 11 (grid0.coords t) = false ∧ cfg0.idle 12 (grid0.coords t) = false ∧ cfg0.idle 13 (grid0.coords t) = false)
    ∧ (t.val ≠ 0 → cfg0.fresh 11 t.val = false ∧ cfg0.fresh 12 t.val = false ∧ cfg0.fresh 13 t.val = false) :=
  (by decide +kernel : ∀ t : Fin grid0.N, _)

theorem idle_last : ∀ t : Fin cfg0.N, if t.val = 16 then cfg0.idle 10 (grid0.coords t) = false ∧ cfg0.idle 14 (grid0.coords t) = false
    else cfg0.idle 10 (grid0.coords t) = true ∧ cfg0.idle 14 (grid0.coords t) = true :=
  (by decide +kernel : ∀ t : Fin grid0.N, _)

theorem before11 (c : Dev nD) (t : Fin cfg0.N) (ht : t.val ≠ 0) (d) : (dats m 0 c).before 11 t d = (stateAt m c t.val).dlg := by
  rw [(dats m 0 c).before_out_traj 11 rfl (fun _ _ => rfl) (fun t h0 hi _ => ?_) t.val t rfl d, if_neg (by rw [((idle_added t).2 ht).1]; nofun), after11]
  · dsimp only
    rw [Nat.sub_add_cancel (Nat.pos_of_ne_zero ht)]
  · have h : t.val = 16 := by
      by_contra h
      exact absurd hi (by rw [show (cfg0.grid.coords t) = grid0.coords t from rfl, ((idle_added t).1 h).1]; nofun)
    rw [after11, after11, stateAt_succ]
    dsimp only
    rw [Nat.sub_add_cancel (Nat.pos_of_ne_zero h0)]
    exact (congrArg (over _) (at_last m c t h).2.2.1).trans (over_nil _)

theorem leaves11 (c : Dev nD) (t : Fin cfg0.N) :
    (dats m 0 c).leavesExact 11 t = owns (c : Thread nD τ) (m11 t) fullShare (stateAt m c (t.val + 1)).dlg := by
  unfold Dat.leavesExact
  by_cases h : t.val = 16
  · rw [show (cfg0.win 11).flush t = true from (flush0_11 t).mpr (by omega), after11]
    cases cfg0.idle 11 (cfg0.grid.coords t) <;> rfl
  · rw [show cfg0.idle 11 (cfg0.grid.coords t) = false from ((idle_added t).1 h).1, after11]

theorem before12 (c : Dev nD) (t : Fin cfg0.N) (ht : t.val ≠ 0) (d) : (dats m 0 c).before 12 t d = (stateAt m c t.val).dlb := by
  rw [(dats m 0 c).before_out_traj 12 rfl (fun _ _ => rfl) (fun t h0 hi _ => ?_) t.val t rfl d, if_neg (by rw [((idle_added t).2 ht).2.1]; nofun), after12]
  · dsimp only
    rw [Nat.sub_add_cancel (Nat.pos_of_ne_zero ht)]
  · have h : t.val = 16 := by
      by_contra h
      exact absurd hi (by rw [show (cfg0.grid.coords t) = grid0.coords t from rfl, ((idle_added t).1 h).2.1]; nofun)
    rw [after12, after12, stateAt_succ]
    dsimp only
    rw [Nat.sub_add_cancel (Nat.pos_of_ne_zero h0)]
    exact (congrArg (over _) (at_last m c t h).2.2.2.1).trans (over_nil _)

theorem leaves12 (c : Dev nD) (t : Fin cfg0.N) :
    (dats m 0 c).leavesExact 12 t = owns (c : Thread nD τ) (m12 t) fullShare (stateAt m c (t.val + 1)).dlb := by
  unfold Dat.leavesExact
  by_cases h : t.val = 16
  · rw [show (cfg0.win 12).flush t = true from (flush0_12 t).mpr (by omega), after12]
    cases cfg0.idle 12 (cfg0.grid.coords t) <;> rfl
  · rw [show cfg0.idle 12 (cfg0.grid.coords t) = false from ((idle_added t).1 h).2.1, after12]

theorem before13 (c : Dev nD) (t : Fin cfg0.N) (ht : t.val ≠ 0) (d) : (dats m 0 c).before 13 t d = (stateAt m c t.val).dw := by
  rw [(dats m 0 c).before_out_traj 13 rfl (fun _ _ => rfl) (fun t h0 hi _ => ?_) t.val t rfl d, if_neg (by rw [((idle_added t).2 ht).2.2]; nofun), after13]
  · dsimp only
    rw [Nat.sub_add_cancel (Nat.pos_of_ne_zero ht)]
  · have h : t.val = 16 := by
      by_contra h
      exact absurd hi (by rw [show (cfg0.grid.coords t) = grid0.coords t from rfl, ((idle_added t).1 h).2.2]; nofun)
    rw [after13, after13, stateAt_succ]
    dsimp only
    rw [Nat.sub_add_cancel (Nat.pos_of_ne_zero h0)]
    exact (congrArg (over _) (at_last m c t h).2.2.2.2).trans (over_nil _)

theorem leaves13 (c : Dev nD) (t : Fin cfg0.N) :
    (dats m 0 c).leavesExact 13 t = owns (c : Thread nD τ) (m13 t) fullShare (stateAt m c (t.val + 1)).dw := by
  unfold Dat.leavesExact
  by_cases h : t.val = 16
  · rw [show (cfg0.win 13).flush t = true from (flush0_13 t).mpr (by omega), after13]
    cases cfg0.idle 13 (cfg0.grid.coords t) <;> rfl
  · rw [show cfg0.idle 13 (cfg0.grid.coords t) = false from ((idle_added t).1 h).2.2, after13]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (m0 t) fullShare ((dats m 0 c).before 0 t d))
    ∗ (∃ d, owns (c : Thread nD τ) (m1 t) fullShare ((dats m 0 c).before 1 t d))
    ∗ (∃ d, owns (c : Thread nD τ) (m2 t) fullShare ((dats m 0 c).before 2 t d))
    ∗ (∃ d, owns (c : Thread nD τ) (m3 t) fullShare ((dats m 0 c).before 3 t d))
    ∗ (∃ d, owns (c : Thread nD τ) (m4 t) fullShare ((dats m 0 c).before 4 t d))
    ∗ (∃ d, owns (c : Thread nD τ) (m5 t) fullShare ((dats m 0 c).before 5 t d))
    ∗ (∃ d, owns (c : Thread nD τ) (m6 t) fullShare ((dats m 0 c).before 6 t d))
    ∗ (∃ d, owns (c : Thread nD τ) (m7 t) fullShare ((dats m 0 c).before 7 t d))
    ∗ (∃ d, owns (c : Thread nD τ) (m8 t) fullShare ((dats m 0 c).before 8 t d))
    ∗ (∃ d, owns (c : Thread nD τ) (m9 t) fullShare ((dats m 0 c).before 9 t d))
    ∗ (∃ d, owns (c : Thread nD τ) (m10 t) fullShare ((dats m 0 c).before 10 t d))
    ∗ (∃ d, owns (c : Thread nD τ) (m11 t) fullShare ((dats m 0 c).before 11 t d))
    ∗ (∃ d, owns (c : Thread nD τ) (m12 t) fullShare ((dats m 0 c).before 12 t d))
    ∗ (∃ d, owns (c : Thread nD τ) (m13 t) fullShare ((dats m 0 c).before 13 t d))
    ∗ (∃ d, owns (c : Thread nD τ) (m14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

theorem leaves_kept (c : Dev nD) (t : Fin cfg0.N) (s : St F) (d10 d14) (h10 : s.dsink = (dats m 0 c).before 10 t d10) (h14 : s.db = (dats m 0 c).before 14 t d14) :
    (owns (c : Thread nD τ) (m10 t) fullShare (s.after (storesAt m c t)).dsink ⊢ ((dats m 0 c).leavesExact 10 t : sProp 𝕄))
      ∧ (owns (c : Thread nD τ) (m14 t) fullShare (s.after (storesAt m c t)).db ⊢ ((dats m 0 c).leavesExact 14 t : sProp 𝕄)) := by
  have hi := idle_last t
  unfold Dat.leavesExact
  by_cases h : t.val = 16
  · rw [if_pos h] at hi
    rw [show cfg0.idle 10 (cfg0.grid.coords t) = false from hi.1, after10, after14]
    have hw := at_last m c t h
    rw [show (s.after (storesAt m c t)).dsink = _ from over_of_cover _ _ (View.cover_of_wholeMem _ hw.1),
      show (s.after (storesAt m c t)).db = _ from over_of_cover _ _ (View.cover_of_wholeMem _ hw.2.1)]
    exact ⟨.rfl, .rfl⟩
  · rw [if_neg h] at hi
    have ht : t.val < 17 := Nat.lt_of_lt_of_eq t.isLt N_0
    have f10 : (cfg0.win 10).flush t = false := by
      rw [← Bool.not_eq_true]; exact fun hf => h (by have := (flush0_10 t).mp hf; omega)
    have f14 : (cfg0.win 14).flush t = false := by
      rw [← Bool.not_eq_true]; exact fun hf => h (by have := (flush0_14 t).mp hf; omega)
    rw [show cfg0.idle 10 (cfg0.grid.coords t) = true from hi.1, f10, f14]
    have hw := before_last m c t h
    rw [show (s.after (storesAt m c t)).dsink = _ from (congrArg (over _) hw.1).trans ((over_nil _).trans h10),
      show (s.after (storesAt m c t)).db = _ from (congrArg (over _) hw.2).trans ((over_nil _).trans h14)]
    constructor
    · iintro H; iexists d10; iexact H
    · iintro H; iexists d14; iexact H

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, leaves11, leaves12, leaves13]
  rw [show (dats m 0 c).owesAt () t.succ = (dats m 0 c).owesAt () t.castSucc from rfl]
  rw [show (dats m 0 c).Φ t.castSucc = scratchAt m c t.val from rfl, show (dats m 0 c).Φ t.succ = scratchAt m c (t.val + 1) from rfl]
  rw [show (dats m 0 c).leavesExact 0 t = owns (c : Thread nD τ) (m0 t) fullShare (iblk m c 0 t) from by
    unfold Dat.leavesExact; rw [show cfg0.idle 0 (cfg0.grid.coords t) = false from rfl, after0]]
  rw [show (dats m 0 c).leavesExact 1 t = owns (c : Thread nD τ) (m1 t) fullShare (iblk m c 1 t) from by
    unfold Dat.leavesExact; rw [show cfg0.idle 1 (cfg0.grid.coords t) = false from rfl, after1]]
  rw [show (dats m 0 c).leavesExact 2 t = owns (c : Thread nD τ) (m2 t) fullShare (iblk m c 2 t) from by
    unfold Dat.leavesExact; rw [show cfg0.idle 2 (cfg0.grid.coords t) = false from rfl, after2]]
  rw [show (dats m 0 c).leavesExact 3 t = owns (c : Thread nD τ) (m3 t) fullShare (iblk m c 3 t) from by
    unfold Dat.leavesExact; rw [show cfg0.idle 3 (cfg0.grid.coords t) = false from rfl, after3]]
  rw [show (dats m 0 c).leavesExact 4 t = owns (c : Thread nD τ) (m4 t) fullShare (iblk m c 4 t) from by
    unfold Dat.leavesExact; rw [show cfg0.idle 4 (cfg0.grid.coords t) = false from rfl, after4]]
  rw [show (dats m 0 c).leavesExact 5 t = owns (c : Thread nD τ) (m5 t) fullShare (iblk m c 5 t) from by
    unfold Dat.leavesExact; rw [show cfg0.idle 5 (cfg0.grid.coords t) = false from rfl, after5]]
  rw [show (dats m 0 c).leavesExact 6 t = owns (c : Thread nD τ) (m6 t) fullShare (iblk m c 6 t) from by
    unfold Dat.leavesExact; rw [show cfg0.idle 6 (cfg0.grid.coords t) = false from rfl, after6]]
  rw [show (dats m 0 c).leavesExact 7 t = owns (c : Thread nD τ) (m7 t) fullShare (iblk m c 7 t) from by
    unfold Dat.leavesExact; rw [show cfg0.idle 7 (cfg0.grid.coords t) = false from rfl, after7]]
  rw [show (dats m 0 c).leavesExact 8 t = owns (c : Thread nD τ) (m8 t) fullShare (iblk m c 8 t) from by
    unfold Dat.leavesExact; rw [show cfg0.idle 8 (cfg0.grid.coords t) = false from rfl, after8]]
  rw [show (dats m 0 c).leavesExact 9 t = owns (c : Thread nD τ) (m9 t) fullShare (View.canon (storesAt m c t).dz) from by
    unfold Dat.leavesExact; rw [show cfg0.idle 9 (cfg0.grid.coords t) = false from rfl, after9]]
  unfold scratchAt
  iintro ⟨⟨⟨%pend, %dkv, %carry, %sacc, %bacc, %hS, HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hs : t.val ≠ 0 → (St.mk ((dats m 0 c).before 9 t d9) ((dats m 0 c).before 10 t d10) ((dats m 0 c).before 11 t d11) ((dats m 0 c).before 12 t d12)
      ((dats m 0 c).before 13 t d13) ((dats m 0 c).before 14 t d14) pend dkv carry sacc bacc).Agree (stateAt m c t.val) := fun h =>
    ⟨before11 m c t h d11, before12 m c t h d12, before13 m c t h d13, (hS h).1, (hS h).2.1, (hS h).2.2.1, (hS h).2.2.2⟩
  have hr := runs m c t _ hs
  have hk := kept m c t _ hs
  have hz := kept_dz m c t (St.mk ((dats m 0 c).before 9 t d9) ((dats m 0 c).before 10 t d10) ((dats m 0 c).before 11 t d11) ((dats m 0 c).before 12 t d12)
      ((dats m 0 c).before 13 t d13) ((dats m 0 c).before 14 t d14) pend dkv carry sacc bacc)
  have hl := leaves_kept m c t (St.mk ((dats m 0 c).before 9 t d9) ((dats m 0 c).before 10 t d10) ((dats m 0 c).before 11 t d11) ((dats m 0 c).before 12 t d12)
      ((dats m 0 c).before 13 t d13) ((dats m 0 c).before 14 t d14) pend dkv carry sacc bacc) d10 d14 rfl rfl
  unfold Runs at hr
  generalize St.after _ (storesAt m c t) = s' at hr hk hz hl
  rw [← hz, ← hk.dlg, ← hk.dlb, ← hk.dw, ← hk.pend, ← hk.carry, ← hk.sacc, ← hk.bacc]
  iapply hr
  unfold held
  dsimp only [ins]
  isplitl [H0 H1 H2 H3 H4 H5 H6 H7 H8 H9 H10 H11 H12 H13 H14 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    isplitl [HS3]; · iexact HS3
    iexact HS4
  iintro ⟨H0, H1, H2, H3, H4, H5, H6, H7, H8, H9, H10, H11, H12, H13, H14, HS0, HS1, HS2, HS3, HS4⟩
  isplitl [HS0 HS1 HS2 HS3 HS4 Hg]
  · isplitl [HS0 HS1 HS2 HS3 HS4]
    · iexists _, _, _, _, _
      isplitr; swap
      · isplitl [HS0]; · iexact HS0
        isplitl [HS1]; · iexact HS1
        isplitl [HS2]; · iexact HS2
        isplitl [HS3]; · iexact HS3
        iexact HS4
      ipureintro; exact fun _ => ⟨rfl, rfl, rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply hl.1; iexact H10
  isplitl [H11]; · iexact H11
  isplitl [H12]; · iexact H12
  isplitl [H13]; · iexact H13
  iapply hl.2; iexact H14

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem scratch_eq (c : Dev nD) :
    (Pipeline.ΦA spec0 c : sProp 𝕄)
      = iprop(iprop((∃ d, owns (c : Thread nD τ) s0 fullShare d) ∗ (∃ d, owns (c : Thread nD τ) s1 fullShare d) ∗ (∃ d, owns (c : Thread nD τ) s2 fullShare d)
        ∗ (∃ d, owns (c : Thread nD τ) s3 fullShare d) ∗ (∃ d, owns (c : Thread nD τ) s4 fullShare d)) ∗ (∃ r, prngReg c r)) := by
  unfold Pipeline.ΦA; rw [scopedRest0_eq]; simp only [s0, s1, s2, s3, s4, owns_whole]; try rfl

theorem hin (c : Dev nD) : Pipeline.ΦA spec0 c ⊢ (dats m 0 c).Φ 0 := by
  rw [show (dats m 0 c).Φ 0 = scratchAt m c 0 from rfl, scratch_eq]
  unfold scratchAt
  iintro ⟨⟨⟨%d0, HS0⟩, ⟨%d1, HS1⟩, ⟨%d2, HS2⟩, ⟨%d3, HS3⟩, ⟨%d4, HS4⟩⟩, Hg⟩
  isplitr [Hg]
  · iexists d0, d1, d2, d3, d4
    isplitr; swap
    · isplitl [HS0]; · iexact HS0
      isplitl [HS1]; · iexact HS1
      isplitl [HS2]; · iexact HS2
      isplitl [HS3]; · iexact HS3
      iexact HS4
    ipureintro; exact fun h => absurd rfl h
  iexact Hg

theorem hout (c : Dev nD) : (dats m 0 c).Φ (Fin.last cfg0.N) ⊢ Pipeline.ΦA spec0 c := by
  rw [show (dats m 0 c).Φ (Fin.last cfg0.N) = scratchAt m c (Fin.last cfg0.N).val from rfl, scratch_eq]
  unfold scratchAt
  iintro ⟨⟨%d0, %d1, %d2, %d3, %d4, %h, HS0, HS1, HS2, HS3, HS4⟩, Hg⟩
  isplitr [Hg]
  · isplitl [HS0]; · iexists _; iexact HS0
    isplitl [HS1]; · iexists _; iexact HS1
    isplitl [HS2]; · iexists _; iexact HS2
    isplitl [HS3]; · iexists _; iexact HS3
    iexists _; iexact HS4
  iexact Hg

set_option backward.isDefEq.respectTransparency.types false in
/-- The run of the whole program: its arrays end at what the data say, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.MixKernelRun

end
-- ==== Proof.MixHost.lean ====
/- What the lines before the mixer's backward kernel leave as the attention's saved output. -/
module

public import proofs.«01_k».proof.Proof.MixFrame
public import proofs.«01_k».proof.Proof.FwdRef
public import Idealize.ShloMosaic.Lib.Pipeline.ValueKit
public import Idealize.ShloMosaic.Lib.Pointwise

@[expose] public section

set_option maxRecDepth 16384

noncomputable section

namespace Cert.MixHost

open Cert.MixKernelIdeal Cert.MixKernelIdeal.Gen Idealize.ShloMosaic Idealize.ShloMosaic.TcCoe Idealize.SL.Sem

variable (m : (ℓ : Loc nD τ sig) → Buf (Elt Ideal) ℓ) (c : Dev nD)

/-- What the buffers hold after the first stretch of lines. -/
abbrev V1 : Valuation τ sig (Elt Ideal) := StableHlo.after hostOps0 fun b => m (c, b)

/-- After the choice of the visible scores. -/
abbrev V2 : Valuation τ sig (Elt Ideal) := StableHlo.after hostOps0_1 (V1 m c)

theorem V_eq (b : Ref sig .tc) : V m c b = StableHlo.after hostOps0_2 (V2 m c) b := by
  show StableHlo.after (hostOps0 ++ (hostOps0_1 ++ (hostOps0_2 ++ []))) _ _ = _
  rw [StableHlo.after_append, StableHlo.after_append, List.append_nil]

/-- The inputs of the call, as launched. -/
abbrev z : FVec Ideal S2048x5376 .f32 := m ((c : Thread nD τ).loc main_arg0)

/-- The sinks, as launched. -/
abbrev sk : FVec Ideal S1x16 .f32 := m ((c : Thread nD τ).loc main_arg2)

open Cert.FwdReferenceIdeal.Read

set_option maxHeartbeats 1600000 in
theorem V1_v8 : V1 m c (Proc.devRef .tc main_v8) = val_main_v132 (F := Ideal) (sk m c) := by
  after_results_simp
  rfl

set_option maxHeartbeats 1600000 in
theorem V1_v18 : V1 m c (Proc.devRef .tc main_v18) = val_main_v142 (F := Ideal) (z m c) := by
  after_results_simp
  rfl

set_option maxHeartbeats 1600000 in
theorem V1_v22 : V1 m c (Proc.devRef .tc main_v22) = val_main_v146 (F := Ideal) (z m c) := by
  after_results_simp
  rfl

set_option maxHeartbeats 1600000 in
theorem V1_v51 : V1 m c (Proc.devRef .tc main_v51) = val_main_v175 (F := Ideal) := by
  after_results_simp
  rfl

theorem V1_cst : V1 m c (Proc.devRef .tc main_cst_5) = val_main_cst_22 (F := Ideal) := by
  after_results_simp
  rfl

variable {m c}

/-- The visible scores, from the scores, the mask and its least value. -/
theorem step {W : Valuation τ sig (Elt Ideal)} (h22 : W (Proc.devRef .tc main_v22) = val_main_v146 (F := Ideal) (z m c))
    (h51 : W (Proc.devRef .tc main_v51) = val_main_v175 (F := Ideal)) (hc : W (Proc.devRef .tc main_cst_5) = val_main_cst_22 (F := Ideal)) :
    StableHlo.after hostOps0_1 W (Proc.devRef .tc main_v52) = val_main_v176 (F := Ideal) (z m c) := by
  after_results_simp
  rw [h22, h51, hc]
  rfl

/-- The scores with the sinks beside them. -/
theorem beside {W : Valuation τ sig (Elt Ideal)} (h8 : W (Proc.devRef .tc main_v8) = val_main_v132 (F := Ideal) (sk m c))
    (h52 : W (Proc.devRef .tc main_v52) = val_main_v176 (F := Ideal) (z m c)) :
    StableHlo.after (List.take 4 hostOps0_2) W (Proc.devRef .tc main_v56) = val_main_v180 (F := Ideal) (z m c) (sk m c) := by
  refine Eq.trans (b := concatenate S1x16x2x8x128x257 5 [⟨S1x16x2x8x128x256, W (Proc.devRef .tc main_v52)⟩, ⟨S1x16x2x8x128x1,
    broadcastInDim S1x16x2x8x128x1 ![0, 1, 2, 3, 4, 5] bcast_S1x1x2x8x1x1_S1x16x2x8x128x1_0_1_2_3_4_5
      (broadcastInDim S1x1x2x8x1x1 ![2, 3] bcast_S2x8_S1x1x2x8x1x1_2_3 (shapeCast S2x8 (W (Proc.devRef .tc main_v8)) shapeCasts_S16_S2x8))⟩]
    concatenates_S1x16x2x8x128x256_S1x16x2x8x128x1_S1x16x2x8x128x257_d5) ?_ ?_
  · dsimp only [List.take]
    after_results_simp
    refine congrArg₂ (fun a b => concatenate S1x16x2x8x128x257 5 [⟨S1x16x2x8x128x256, a⟩, ⟨S1x16x2x8x128x1, b⟩]
      concatenates_S1x16x2x8x128x256_S1x16x2x8x128x1_S1x16x2x8x128x257_d5) ?_ ?_
    · after_results_simp
    · after_results_simp
      rfl
  · rw [h8, h52]
    rfl

theorem beside_v18 {W : Valuation τ sig (Elt Ideal)} (h18 : W (Proc.devRef .tc main_v18) = val_main_v142 (F := Ideal) (z m c)) :
    StableHlo.after (List.take 4 hostOps0_2) W (Proc.devRef .tc main_v18) = val_main_v142 (F := Ideal) (z m c) := by
  refine Eq.trans ?_ h18
  dsimp only [List.take]
  after_results_simp

set_option maxHeartbeats 1600000 in
/-- The output, from the scores beside the sinks and from the values. -/
theorem rest {W : Valuation τ sig (Elt Ideal)} (h56 : W (Proc.devRef .tc main_v56) = val_main_v180 (F := Ideal) (z m c) (sk m c))
    (h18 : W (Proc.devRef .tc main_v18) = val_main_v142 (F := Ideal) (z m c)) :
    StableHlo.after (List.drop 4 hostOps0_2) W (Proc.devRef .tc main_v72) = val_main_v196 (F := Ideal) (z m c) (sk m c) := by
  dsimp only [List.drop]
  after_results_simp
  rw [h56, h18]
  rfl

/-- The output, from the visible scores, the values and the sinks. -/
theorem last {W : Valuation τ sig (Elt Ideal)} (h8 : W (Proc.devRef .tc main_v8) = val_main_v132 (F := Ideal) (sk m c))
    (h18 : W (Proc.devRef .tc main_v18) = val_main_v142 (F := Ideal) (z m c)) (h52 : W (Proc.devRef .tc main_v52) = val_main_v176 (F := Ideal) (z m c)) :
    StableHlo.after hostOps0_2 W (Proc.devRef .tc main_v72) = val_main_v196 (F := Ideal) (z m c) (sk m c) := by
  rw [← List.take_append_drop 4 hostOps0_2, StableHlo.after_append]
  exact rest (beside h8 h52) (beside_v18 h18)

theorem V2_v8 : V2 m c (Proc.devRef .tc main_v8) = val_main_v132 (F := Ideal) (sk m c) := by
  rw [← V1_v8]
  unfold V2
  generalize V1 m c = W
  after_results_simp

theorem V2_v18 : V2 m c (Proc.devRef .tc main_v18) = val_main_v142 (F := Ideal) (z m c) := by
  rw [← V1_v18]
  unfold V2
  generalize V1 m c = W
  after_results_simp

/-- The saved output is what the forward lines compute of the launched inputs and sinks. -/
theorem saved : V m c main_v72 = val_main_v196 (F := Ideal) (z m c) (sk m c) :=
  (V_eq m c _).trans (last V2_v8 V2_v18 (step (V1_v22 m c) (V1_v51 m c) (V1_cst m c)))

end Cert.MixHost

end
-- ==== Proof.MixHalf.lean ====
/- The attention's gradients for one key head, as the token mixer's gradient kernel computes them, on real arrays. -/
module

public import proofs.«01_k».proof.Proof.Gen.MixKernelIdeal.Skeleton
public import proofs.«01_k».proof.Proof.Gen.MixKernelIdeal.Frame
public import proofs.«01_k».proof.Proof.Tiles
public import proofs.«01_k».proof.Proof.Words
public import Idealize.ShloMosaic.Lib.Pipeline.ValueKit
public import Idealize.ShloMosaic.Lib.Pointwise

@[expose] public section

set_option maxRecDepth 16384

noncomputable section

namespace Cert.MixHalf

open Cert.MixKernelIdeal Cert.MixKernelIdeal.Gen Idealize.ShloMosaic Idealize.ShloMosaic.TcCoe
open Cert.Reals Cert.MixSpec Cert.Attn Cert.Tiles
open scoped BigOperators

/-- A sum over the columns, head by head. -/
theorem sum_gl {A : Type} [AddCommMonoid A] (f : Fin 1024 → A) : ∑ x, f x = ∑ g, ∑ r, f (gl g r) := by
  refine Eq.trans (Eq.symm ?_) (Fintype.sum_prod_type fun p : Fin 8 × Fin 128 => f (gl p.1 p.2))
  exact Fintype.sum_equiv ⟨fun p => gl p.1 p.2, fun t => (grp t, sub t), fun p => by simp, fun t => by simp⟩ _ _ fun p => rfl

section Terms

variable (v39 : IVec S256x1024 1) (kh vh : FVec Ideal S256x64 .bf16) (Q : Fin 8 → Vec Ideal S128x64 .f32) (w : Fin 8 → Vec Ideal S1x1 .f32)
  (T : FVec Ideal S1024x64 .bf16)

/-- The queries, one head below the other. -/
abbrev qs : FVec Ideal S1024x64 .bf16 := k0_pay11 (F := Ideal) (Q 0) (Q 1) (Q 2) (Q 3) (Q 4) (Q 5) (Q 6) (Q 7)

/-- The keys' exponentials. -/
abbrev ex : FVec Ideal S256x1024 .f32 :=
  k0_pay19 (F := Ideal) v39 kh (qs Q) (k0_pay12 (w 0)) (k0_pay13 (w 1)) (k0_pay14 (w 2)) (k0_pay15 (w 3)) (w 4) (w 5) (w 6) (w 7)

/-- The sinks' exponentials. -/
abbrev es : FVec Ideal S1x1024 .f32 :=
  k0_pay20 (F := Ideal) v39 kh (qs Q) (k0_pay12 (w 0)) (k0_pay13 (w 1)) (k0_pay14 (w 2)) (k0_pay15 (w 3)) (w 4) (w 5) (w 6) (w 7)

/-- The probabilities. -/
abbrev pt : FVec Ideal S256x1024 .f32 := k0_pay59 (F := Ideal) (ex v39 kh Q w) (es v39 kh Q w)

/-- The sinks' probabilities. -/
abbrev ps : FVec Ideal S1x1024 .f32 :=
  k0_pay23 (F := Ideal) v39 kh (qs Q) (k0_pay12 (w 0)) (k0_pay13 (w 1)) (k0_pay14 (w 2)) (k0_pay15 (w 3)) (w 4) (w 5) (w 6) (w 7)

/-- The gradients of the probabilities. -/
def dpt : FVec Ideal S256x1024 .f32 :=
  matmul dot_S256x64_S1024x64_S256x1024_1_1_0_0_n_n none vh T (constant (F := Ideal) S256x1024 .f32 0x00000000#32)

/-- Their averages. -/
def dl (p d : FVec Ideal S256x1024 .f32) : FVec Ideal S1x1024 .f32 :=
  shapeCast S1x1024 (multiReduction (F := Ideal) .add [0] S1024 (mulf p d) 0x00000000#32 reduces_S256x1024_S1024 (.inl rfl) rfl)
    shapeCasts_S1024_S1x1024

abbrev dlt : FVec Ideal S1x1024 .f32 := dl (pt v39 kh Q w) (dpt vh T)

/-- The gradients of the scores. -/
abbrev dst : FVec Ideal S256x1024 .bf16 := k0_pay27 (F := Ideal) (pt v39 kh Q w) (dpt vh T) (dlt v39 kh vh Q w T)

/-- The gradients of the sinks, query by query. -/
abbrev dskt : FVec Ideal S1x1024 .f32 := k0_pay28 (F := Ideal) (ps v39 kh Q w) (dlt v39 kh vh Q w T)

/-- The gradients of the queries, a column each. -/
abbrev dqt : FVec Ideal S64x1024 .f32 := k0_pay29 (F := Ideal) kh (pt v39 kh Q w) (dpt vh T) (dlt v39 kh vh Q w T)

/-- The gradients of the keys. -/
abbrev dkt : FVec Ideal S256x64 .f32 := k0_pay48 (F := Ideal) (qs Q) (dst v39 kh vh Q w T)

/-- The gradients of the values. -/
abbrev dvt : FVec Ideal S256x64 .f32 := k0_pay49 (F := Ideal) (pt v39 kh Q w) T

end Terms

variable {K V : Fin 256 → Fin 64 → ℝ} {q u : Fin 8 → Fin 128 → Fin 64 → ℝ} {σ : Fin 8 → ℝ} {M : Fin 128 → Fin 256 → Bool}
variable {v39 : IVec S256x1024 1} {kh vh : FVec Ideal S256x64 .bf16} {Q : Fin 8 → Vec Ideal S128x64 .f32} {w : Fin 8 → Vec Ideal S1x1 .f32}
  {T : FVec Ideal S1024x64 .bf16}

/-- What the gradients of one key head read: the visible keys, its keys and values, its eight query heads and their sinks, and the
    gradients of the output. -/
structure Half (K V : Fin 256 → Fin 64 → ℝ) (q u : Fin 8 → Fin 128 → Fin 64 → ℝ) (σ : Fin 8 → ℝ) (M : Fin 128 → Fin 256 → Bool)
    (v39 : IVec S256x1024 1) (kh vh : FVec Ideal S256x64 .bf16) (Q : Fin 8 → Vec Ideal S128x64 .f32) (w : Fin 8 → Vec Ideal S1x1 .f32)
    (T : FVec Ideal S1024x64 .bf16) : Prop where
  hM : ∀ s x, v39 (ix2 s x) = BitVec.ofBool (M (sub x) s)
  hK : ∀ s d, kh (ix2 s d) = (K s d : EReal)
  hV : ∀ s d, vh (ix2 s d) = (V s d : EReal)
  hQ : ∀ g r d, Q g (ix2 r d) = (q g r d : EReal)
  hw : ∀ g, w g (ix2 0 0) = (σ g : EReal)
  hT : ∀ x d, T (ix2 x d) = (u (grp x) (sub x) d : EReal)

/-- The scaled query of column `x`. -/
abbrev sq (q : Fin 8 → Fin 128 → Fin 64 → ℝ) (x : Fin 1024) (d : Fin 64) : ℝ := q (grp x) (sub x) d * (1 / 8)

theorem sq_gl (q : Fin 8 → Fin 128 → Fin 64 → ℝ) (g : Fin 8) (r : Fin 128) : sq q (gl g r) = fun d => q g r d * (1 / 8) := by
  funext d
  rw [sq, grp_gl, sub_gl]

variable (H : Half K V q u σ M v39 kh vh Q w T)
include H

theorem qs_at (x : Fin 1024) (d : Fin 64) : qs Q (ix2 x d) = (sq q x d : EReal) := by
  pointwise [k0_pay11]
  refine (congrArg (· * _) ((ladder (fun g r => Q g (ix2 r d)) x).trans (H.hQ _ _ d))).trans ?_
  rw [bits_eighth, ← EReal.coe_mul]

theorem sinks_at (x : Fin 1024) :
    k0_pay16 (F := Ideal) (k0_pay12 (w 0)) (k0_pay13 (w 1)) (k0_pay14 (w 2)) (k0_pay15 (w 3)) (w 4) (w 5) (w 6) (w 7) (ix2 0 x)
      = (σ (grp x) : EReal) := by
  pointwise [k0_pay16, k0_pay12, k0_pay13, k0_pay14, k0_pay15]
  exact (ladder (fun g _ => w g (ix2 0 0)) x).trans (H.hw _)

theorem sc_at (s : Fin 256) (x : Fin 1024) : k0_pay17 (F := Ideal) v39 kh (qs Q) (ix2 s x) = msc K (sq q x) (M (sub x)) s := by
  have e := fun d => qs_at H x d
  generalize qs Q = A at e
  pointwise [k0_pay17]
  simp only [H.hM, Words.select_ofBool, bits_bot, e, H.hK, ← EReal.coe_mul, coe_sum]
  rfl

theorem max_at (x : Fin 1024) :
    k0_pay18 (F := Ideal) v39 kh (qs Q) (k0_pay12 (w 0)) (k0_pay13 (w 1)) (k0_pay14 (w 2)) (k0_pay15 (w 3)) (w 4) (w 5) (w 6) (w 7) (ix2 0 x)
      = mx K (sq q x) (σ (grp x)) (M (sub x)) := by
  unfold k0_pay18
  dsimp only
  have e6 := fun s => sc_at H s x
  have e5 := sinks_at H x
  generalize k0_pay17 (F := Ideal) v39 kh (qs Q) = E at e6 ⊢
  generalize k0_pay16 (F := Ideal) _ _ _ _ _ _ _ _ = S at e5 ⊢
  refine congrArg₂ max (Eq.trans ?_ (congrArg (Finset.univ.fold max ⊥) (funext e6))) e5
  generalize hR : Finset.univ.fold max ⊥ (fun s => E (ix2 s x)) = R
  pointwise []
  rw [bits_bot]
  exact hR

theorem ex_at (s : Fin 256) (x : Fin 1024) :
    ex v39 kh Q w (ix2 s x) = Ideal.exp (msc K (sq q x) (M (sub x)) s - mx K (sq q x) (σ (grp x)) (M (sub x))) := by
  have e6 := sc_at H s x
  have e5 := max_at H x
  unfold ex k0_pay19
  generalize k0_pay17 (F := Ideal) v39 kh (qs Q) = E at e6 ⊢
  generalize k0_pay18 (F := Ideal) _ _ _ _ _ _ _ _ _ _ _ = S at e5 ⊢
  rw [← e6, ← e5]
  pointwise []

theorem es_at (x : Fin 1024) :
    es v39 kh Q w (ix2 0 x) = Ideal.exp ((σ (grp x) : EReal) - mx K (sq q x) (σ (grp x)) (M (sub x))) := by
  have e6 := sinks_at H x
  have e5 := max_at H x
  unfold es k0_pay20
  generalize k0_pay16 (F := Ideal) _ _ _ _ _ _ _ _ = E at e6 ⊢
  generalize k0_pay18 (F := Ideal) _ _ _ _ _ _ _ _ _ _ _ = S at e5 ⊢
  rw [← e6, ← e5]
  pointwise []

theorem pt_at (s : Fin 256) (x : Fin 1024) :
    pt v39 kh Q w (ix2 s x) = (pr K (sq q x) (σ (grp x)) (M (sub x)) s : EReal) := by
  have e6 := fun s => ex_at H s x
  have e5 := es_at H x
  unfold pt
  generalize ex v39 kh Q w = E at e6 ⊢
  generalize es v39 kh Q w = S at e5 ⊢
  pointwise [k0_pay59, k0_pay58]
  simp only [e6, e5, bits_one]
  exact pr_eq _ _ _ _ _

theorem ps_at (x : Fin 1024) : ps v39 kh Q w (ix2 0 x) = (prs K (sq q x) (σ (grp x)) (M (sub x)) : EReal) := by
  have e6 := fun s => ex_at H s x
  have e5 := es_at H x
  unfold ex at e6
  unfold es at e5
  unfold ps k0_pay23 k0_pay21
  dsimp only
  generalize k0_pay19 (F := Ideal) _ _ _ _ _ _ _ _ _ _ _ = E at e6 ⊢
  generalize k0_pay20 (F := Ideal) _ _ _ _ _ _ _ _ _ _ _ = S at e5 ⊢
  pointwise []
  simp only [e6, e5, bits_one]
  exact prs_eq _ _ _ _

omit H in
theorem dpt_at (hV : ∀ s d, vh (ix2 s d) = (V s d : EReal)) (hT : ∀ x d, T (ix2 x d) = (u (grp x) (sub x) d : EReal)) (s : Fin 256) (x : Fin 1024) :
    dpt vh T (ix2 s x) = (dp V (u (grp x) (sub x)) s : EReal) := by
  pointwise [dpt]
  simp only [hV, hT, ← EReal.coe_mul, coe_sum]
  rfl

theorem dlt_at (x : Fin 1024) : dlt v39 kh vh Q w T (ix2 0 x) = (del K V (sq q x) (u (grp x) (sub x)) (σ (grp x)) (M (sub x)) : EReal) := by
  have e6 := fun s => pt_at H s x
  have e5 := fun s => dpt_at (V := V) (u := u) H.hV H.hT s x
  unfold dlt
  generalize pt v39 kh Q w = E at e6 ⊢
  generalize dpt vh T = S at e5 ⊢
  pointwise [dl]
  simp only [e6, e5, ← EReal.coe_mul, coe_sum]
  rfl

theorem dst_at (s : Fin 256) (x : Fin 1024) :
    dst v39 kh vh Q w T (ix2 s x) = (ds K V (sq q x) (u (grp x) (sub x)) (σ (grp x)) (M (sub x)) s : EReal) := by
  have e6 := pt_at H s x
  have e5 := dpt_at (V := V) (u := u) H.hV H.hT s x
  have e4 := dlt_at H x
  unfold dst
  generalize dlt v39 kh vh Q w T = D at e4 ⊢
  generalize pt v39 kh Q w = E at e6 ⊢
  generalize dpt vh T = S at e5 ⊢
  pointwise [k0_pay27]
  rw [e6, e5, e4, ← EReal.coe_sub, ← EReal.coe_mul]
  rfl

theorem dskt_at (x : Fin 1024) :
    dskt v39 kh vh Q w T (ix2 0 x) = (dsk K V (sq q x) (u (grp x) (sub x)) (σ (grp x)) (M (sub x)) : EReal) := by
  have e6 := ps_at H x
  have e4 := dlt_at H x
  unfold dskt
  generalize dlt v39 kh vh Q w T = D at e4 ⊢
  generalize ps v39 kh Q w = E at e6 ⊢
  pointwise [k0_pay28]
  rw [e6, e4, zero_sub, ← EReal.coe_neg, ← EReal.coe_mul]
  exact congrArg Real.toEReal (neg_mul _ _)

theorem dqt_at (d : Fin 64) (x : Fin 1024) : dqt v39 kh vh Q w T (ix2 d x)
    = (((∑ s, K s d * ds K V (sq q x) (u (grp x) (sub x)) (σ (grp x)) (M (sub x)) s) * (1 / 8) : ℝ) : EReal) := by
  have e := fun s => dst_at H s x
  unfold dst at e
  unfold dqt k0_pay29
  generalize k0_pay27 (F := Ideal) _ _ _ = A at e ⊢
  pointwise []
  simp only [e, H.hK, ← EReal.coe_mul, coe_sum, bits_eighth]

theorem dkt_at (s : Fin 256) (d : Fin 64) : dkt v39 kh vh Q w T (ix2 s d)
    = ((∑ g, ∑ r, ds K V (fun d => q g r d * (1 / 8)) (u g r) (σ g) (M r) s * (q g r d * (1 / 8)) : ℝ) : EReal) := by
  have e := fun x => dst_at H s x
  have e' := fun x => qs_at H x d
  unfold dkt
  generalize dst v39 kh vh Q w T = A at e ⊢
  generalize qs Q = B at e' ⊢
  pointwise [k0_pay48]
  simp only [e, e', ← EReal.coe_mul, coe_sum]
  refine congrArg Real.toEReal ((sum_gl _).trans ?_)
  simp only [grp_gl, sub_gl, sq_gl, sq]

theorem dvt_at (s : Fin 256) (d : Fin 64) : dvt v39 kh Q w T (ix2 s d)
    = ((∑ g, ∑ r, pr K (fun d => q g r d * (1 / 8)) (σ g) (M r) s * u g r d : ℝ) : EReal) := by
  have e := fun x => pt_at H s x
  have e' := fun x => H.hT x d
  unfold dvt
  generalize pt v39 kh Q w = A at e ⊢
  pointwise [k0_pay49]
  simp only [e, e', ← EReal.coe_mul, coe_sum]
  refine congrArg Real.toEReal ((sum_gl _).trans ?_)
  simp only [grp_gl, sub_gl, sq_gl, sq]

end Cert.MixHalf

end
-- ==== Proof.MixGateK.lean ====
/- The gating's gradients for one block of rows, as the token mixer's gradient kernel computes them, on real arrays. -/
module

public import proofs.«01_k».proof.Proof.MixHalf

@[expose] public section

set_option maxRecDepth 16384

noncomputable section

namespace Cert.MixGateK

open Cert.MixKernelIdeal Cert.MixKernelIdeal.Gen Idealize.ShloMosaic Idealize.ShloMosaic.TcCoe
open Cert.Reals Cert.MixSpec Cert.Attn Cert.Tiles
open scoped BigOperators

section Terms

variable (x u s d : Vec Ideal S128x1024 .f32) (lg lb : Vec Ideal S1x1024 .f32) (w : Fin 8 → Vec Ideal S1x128x128 .f32) (b : Fin 8 → Vec Ideal S128x1 .f32)

/-- The normalised rows, scaled and shifted. -/
abbrev vnt : FVec Ideal S128x1024 .bf16 := k0_pay88 (F := Ideal) x lg lb

/-- The weights of group `g` on and below the diagonal. -/
abbrev twt (g : Fin 8) : FVec Ideal S128x128 .bf16 := k0_pay89 (F := Ideal) k0_pay2 (w g)

/-- The mixed rows. -/
abbrev mixt : FVec Ideal S128x1024 .f32 :=
  k0_pay100 (F := Ideal) (vnt x lg lb) (twt w 2) (twt w 3) (twt w 4) (twt w 5) (twt w 6) (twt w 7)
    (k0_pay98 (vnt x lg lb) (twt w 0) (b 0)) (k0_pay99 (vnt x lg lb) (twt w 1)) (b 1) (b 2) (b 3) (b 4) (b 5) (b 6) (b 7)

/-- The gradient of the mixed rows. -/
abbrev dmt : FVec Ideal S128x1024 .f32 := k0_pay105 (F := Ideal) u s d

/-- The same, as the products read it. -/
abbrev dmb : FVec Ideal S128x1024 .bf16 := k0_pay106 (F := Ideal) u s d

/-- The gradient of the normalised rows. -/
abbrev dvnt : FVec Ideal S128x1024 .f32 :=
  k0_pay135 (F := Ideal) (twt w 7) (dmb u s d) (k0_pay109 (twt w 0) (dmb u s d)) (k0_pay112 (twt w 1) (dmb u s d)) (k0_pay118 (twt w 2) (dmb u s d))
    (k0_pay122 (twt w 3) (dmb u s d)) (k0_pay125 (twt w 4) (dmb u s d)) (k0_pay129 (twt w 5) (dmb u s d)) (k0_pay132 (twt w 6) (dmb u s d))

/-- The gradient of the weights of group `g`, added to `a`. -/
def dwn (a : Vec Ideal S1x128x128 .f32) : Fin 8 → FVec Ideal S1x128x128 .f32
  | 0 => k0_pay107 (F := Ideal) k0_pay2 (vnt x lg lb) u s d a
  | 1 => k0_pay110 (F := Ideal) k0_pay2 (vnt x lg lb) (dmb u s d) a
  | 2 => k0_pay116 (F := Ideal) k0_pay2 (k0_pay113 a) (k0_pay114 (dmb u s d)) (k0_pay115 (vnt x lg lb))
  | 3 => k0_pay119 (F := Ideal) k0_pay2 (vnt x lg lb) (dmb u s d) a
  | 4 => k0_pay123 (F := Ideal) k0_pay2 (vnt x lg lb) (dmb u s d) a
  | 5 => k0_pay127 (F := Ideal) (k0_pay126 k0_pay2 (vnt x lg lb) (dmb u s d) a)
  | 6 => k0_pay130 (F := Ideal) k0_pay2 (vnt x lg lb) (dmb u s d) a
  | 7 => k0_pay133 (F := Ideal) k0_pay2 (vnt x lg lb) (dmb u s d) a

/-- The gradient of the shifts of group `g`, added to `a`. -/
def dbn (a : Vec Ideal S128x1 .f32) : Fin 8 → FVec Ideal S128x1 .f32
  | 0 => k0_pay108 (F := Ideal) (dmt u s d) a
  | 1 => k0_pay111 (F := Ideal) (dmt u s d) a
  | 2 => k0_pay117 (F := Ideal) (dmt u s d) a
  | 3 => k0_pay121 (F := Ideal) (k0_pay120 (dmt u s d) a)
  | 4 => k0_pay124 (F := Ideal) (dmt u s d) a
  | 5 => k0_pay128 (F := Ideal) (dmt u s d) a
  | 6 => k0_pay131 (F := Ideal) (dmt u s d) a
  | 7 => k0_pay134 (F := Ideal) (dmt u s d) a

end Terms

variable {I : Data} {n : Fin 16} {x u s d : Vec Ideal S128x1024 .f32} {lg lb : Vec Ideal S1x1024 .f32} {w : Fin 8 → Vec Ideal S1x128x128 .f32}
  {b : Fin 8 → Vec Ideal S128x1 .f32}

/-- What the gating's gradients of one block read: its rows, the gradient of its result, the normalisation's scale and shift, the
    weights and the shifts. -/
structure Gate (I : Data) (n : Fin 16) (x u s d : Vec Ideal S128x1024 .f32) (lg lb : Vec Ideal S1x1024 .f32)
    (w : Fin 8 → Vec Ideal S1x128x128 .f32) (b : Fin 8 → Vec Ideal S128x1 .f32) : Prop where
  hx : ∀ r c, x (ix2 r c) = (vs I (tok n r) c : EReal)
  hu : ∀ r c, u (ix2 r c) = (uu I (tok n r) c : EReal)
  hs : ∀ r c, s (ix2 r c) = (gs I (tok n r) c : EReal)
  hd : ∀ r c, d (ix2 r c) = (dc I (tok n r) c : EReal)
  hg : ∀ c, lg (ix2 0 c) = (I.lg c : EReal)
  hb : ∀ c, lb (ix2 0 c) = (I.lb c : EReal)
  hw : ∀ g i k, w g (ix3 0 i k) = (I.w g i k : EReal)
  hβ : ∀ g i, b g (ix2 i 0) = (I.b g i : EReal)

variable (H : Gate I n x u s d lg lb w b)
include H

theorem dev_at (r : Fin 128) (c : Fin 1024) : k0_pay85 (F := Ideal) x (ix2 r c) = ((vs I (tok n r) c - LnRow.mean (vs I (tok n r)) : ℝ) : EReal) := by
  pointwise [k0_pay85]
  simp only [H.hx, coe_sum, bits_1024]
  rw [coe_div _ _ (by norm_num), ← EReal.coe_sub]
  rfl

theorem root_at (r : Fin 128) : k0_pay86 (F := Ideal) x (ix2 r 0) = (LnRow.r (vs I (tok n r)) : EReal) := by
  have e := fun c => dev_at H r c
  unfold k0_pay86
  generalize k0_pay85 (F := Ideal) x = A at e ⊢
  pointwise []
  simp only [e, ← EReal.coe_mul, coe_sum, bits_1024, bits_eps]
  rw [coe_div _ _ (by norm_num), ← EReal.coe_add]
  exact coe_rsqrt _ (LnRow.vr_pos (vs I (tok n r)))

theorem hat_at (r : Fin 128) (c : Fin 1024) : k0_pay87 (F := Ideal) x (ix2 r c) = (LnRow.hat (vs I (tok n r)) c : EReal) := by
  have e := dev_at H r c
  have e' := root_at H r
  unfold k0_pay87
  generalize k0_pay85 (F := Ideal) x = A at e ⊢
  generalize k0_pay86 (F := Ideal) x = B at e' ⊢
  pointwise []
  rw [e, e', ← EReal.coe_mul]
  rfl

theorem vn_at (r : Fin 128) (c : Fin 1024) : vnt x lg lb (ix2 r c) = (vn I (tok n r) c : EReal) := by
  have e := hat_at H r c
  unfold vnt k0_pay88
  generalize k0_pay87 (F := Ideal) x = A at e ⊢
  pointwise []
  rw [e, H.hg, H.hb, ← EReal.coe_mul, ← EReal.coe_add]
  rfl

theorem tw_at (g : Fin 8) (i k : Fin 128) : twt w g (ix2 i k) = (tw I g i k : EReal) := by
  pointwise [k0_pay89, k0_pay2]
  rw [H.hw, WordCmp.cmpi_sge_ofNat (by omega) (by omega), Words.select_ofBool]
  unfold tw
  by_cases h : k.val ≤ i.val
  · rw [if_pos h, if_pos (decide_eq_true h)]
  · rw [if_neg h, if_neg (by simpa using h)]
    rfl

theorem mix_at (r : Fin 128) (c : Fin 1024) : mixt x lg lb w b (ix2 r c) = (mixed I (tok n r) c : EReal) := by
  have hV := vn_at H
  have hT := tw_at H
  unfold mixt
  generalize vnt x lg lb = V at hV ⊢
  generalize twt w = T at hT ⊢
  have e : (∑ x, T (grp c) (ix2 r x) * V (ix2 x c)) + b (grp c) (ix2 r 0) = (mixed I (tok n r) c : EReal) := by
    simp only [hV, hT, H.hβ, ← EReal.coe_mul, coe_sum]
    rw [mixed, row_tok, blk_tok, ← EReal.coe_add]
  pointwise [k0_pay100, k0_pay98, k0_pay99]
  exact (wide (fun g k => (∑ x, T g (ix2 r x) * V (ix2 x k)) + b g (ix2 r 0)) c).trans e

theorem dg_at (r : Fin 128) (c : Fin 1024) : k0_pay102 (F := Ideal) s d (ix2 r c) = (dgated I (tok n r) c : EReal) := by
  pointwise [k0_pay102, k0_pay101]
  rw [H.hs, H.hd, coe_logistic, ← EReal.coe_mul, ← EReal.coe_mul]
  rfl

theorem dm_at (r : Fin 128) (c : Fin 1024) : dmt u s d (ix2 r c) = (dmixed I (tok n r) c : EReal) := by
  have e := dg_at H r c
  unfold dmt k0_pay105
  generalize k0_pay102 (F := Ideal) s d = A at e ⊢
  pointwise []
  rw [e, H.hu, ← EReal.coe_mul]
  rfl

theorem dmb_at (r : Fin 128) (c : Fin 1024) : dmb u s d (ix2 r c) = (dmixed I (tok n r) c : EReal) := by
  have e := dm_at H r c
  unfold dmt at e
  unfold dmb k0_pay106
  generalize k0_pay105 (F := Ideal) u s d = A at e ⊢
  pointwise []
  exact e

theorem du_at (r : Fin 128) (c : Fin 1024) : k0_pay103 (F := Ideal) (mixt x lg lb w b) s d (ix2 r c) = (du I (tok n r) c : EReal) := by
  have e := dg_at H r c
  have e' := mix_at H r c
  unfold k0_pay103
  generalize mixt x lg lb w b = B at e' ⊢
  generalize k0_pay102 (F := Ideal) s d = A at e ⊢
  pointwise []
  rw [e, e', ← EReal.coe_mul]
  rfl

theorem dgs_at (r : Fin 128) (c : Fin 1024) : k0_pay104 (F := Ideal) (mixt x lg lb w b) u s d (ix2 r c) = (dgs I (tok n r) c : EReal) := by
  have e' := mix_at H r c
  generalize mixt x lg lb w b = B at e' ⊢
  pointwise [k0_pay104, k0_pay101]
  rw [e', H.hu, H.hs, H.hd, coe_logistic, ← EReal.coe_one]
  simp only [← EReal.coe_mul, ← EReal.coe_add, ← EReal.coe_sub]
  rfl

theorem dvn_at (r : Fin 128) (c : Fin 1024) : dvnt u s d w (ix2 r c) = (dvn I (tok n r) c : EReal) := by
  have hV := dmb_at H
  have hT := tw_at H
  unfold dvnt
  generalize dmb u s d = V at hV ⊢
  generalize twt w = T at hT ⊢
  have e : (∑ x, T (grp c) (ix2 x r) * V (ix2 x c)) = (dvn I (tok n r) c : EReal) := by
    simp only [hV, hT, ← EReal.coe_mul, coe_sum]
    rw [dvn, row_tok, blk_tok]
  pointwise [k0_pay135, k0_pay109, k0_pay112, k0_pay118, k0_pay122, k0_pay125, k0_pay129, k0_pay132]
  exact (wide (fun g k => ∑ x, T g (ix2 x r) * V (ix2 x k)) c).trans e

theorem dlg_at (a : Vec Ideal S1x1024 .f32) (c : Fin 1024) {y : ℝ} (ha : a (ix2 0 c) = (y : EReal)) :
    k0_pay136 (F := Ideal) (k0_pay87 x) (twt w 7) (dmb u s d) (k0_pay109 (twt w 0) (dmb u s d)) (k0_pay112 (twt w 1) (dmb u s d))
      (k0_pay118 (twt w 2) (dmb u s d)) (k0_pay122 (twt w 3) (dmb u s d)) (k0_pay125 (twt w 4) (dmb u s d)) (k0_pay129 (twt w 5) (dmb u s d))
      (k0_pay132 (twt w 6) (dmb u s d)) a (ix2 0 c)
    = ((y + ∑ r, dvn I (tok n r) c * LnRow.hat (vs I (tok n r)) c : ℝ) : EReal) := by
  have e := fun r => dvn_at H r c
  have e' := fun r => hat_at H r c
  unfold dvnt at e
  unfold k0_pay136
  generalize k0_pay135 (F := Ideal) _ _ _ _ _ _ _ _ _ = A at e ⊢
  generalize k0_pay87 (F := Ideal) x = B at e' ⊢
  pointwise []
  simp only [ha, e, e', ← EReal.coe_mul, coe_sum, ← EReal.coe_add]

theorem dlb_at (a : Vec Ideal S1x1024 .f32) (c : Fin 1024) {y : ℝ} (ha : a (ix2 0 c) = (y : EReal)) :
    k0_pay137 (F := Ideal) (twt w 7) (dmb u s d) (k0_pay109 (twt w 0) (dmb u s d)) (k0_pay112 (twt w 1) (dmb u s d))
      (k0_pay118 (twt w 2) (dmb u s d)) (k0_pay122 (twt w 3) (dmb u s d)) (k0_pay125 (twt w 4) (dmb u s d)) (k0_pay129 (twt w 5) (dmb u s d))
      (k0_pay132 (twt w 6) (dmb u s d)) a (ix2 0 c)
    = ((y + ∑ r, dvn I (tok n r) c : ℝ) : EReal) := by
  have e := fun r => dvn_at H r c
  unfold dvnt at e
  unfold k0_pay137
  generalize k0_pay135 (F := Ideal) _ _ _ _ _ _ _ _ _ = A at e ⊢
  pointwise []
  simp only [ha, e, coe_sum, ← EReal.coe_add]

theorem dvs_at (r : Fin 128) (c : Fin 1024) :
    k0_pay146 (F := Ideal) (k0_pay86 x) (k0_pay87 x) lg (dvnt u s d w) (ix2 r c) = (dvs I (tok n r) c : EReal) := by
  have e := fun c => dvn_at H r c
  have e' := fun c => hat_at H r c
  have e1 := root_at H r
  generalize dvnt u s d w = A at e ⊢
  generalize k0_pay87 (F := Ideal) x = B at e' ⊢
  generalize k0_pay86 (F := Ideal) x = C at e1 ⊢
  pointwise [k0_pay146]
  simp only [e, e', e1, H.hg, ← EReal.coe_mul, coe_sum, bits_1024]
  rw [coe_div _ _ (by norm_num), coe_div _ _ (by norm_num)]
  simp only [← EReal.coe_mul, ← EReal.coe_sub]
  rfl

theorem dwn_at (a : Vec Ideal S1x128x128 .f32) (g : Fin 8) (i k : Fin 128) {y : ℝ} (ha : a (ix3 0 i k) = (y : EReal)) :
    dwn x u s d lg lb a g (ix3 0 i k) = ((y + dwp I n g i k : ℝ) : EReal) := by
  have hV := vn_at H
  have hD := dmb_at H
  have key : (a (ix3 0 i k) + if decide (k.val ≤ i.val) then ∑ c, dmb u s d (ix2 i (gl g c)) * vnt x lg lb (ix2 k (gl g c)) else 0 : EReal)
      = ((y + dwp I n g i k : ℝ) : EReal) := by
    simp only [ha, hV, hD, ← EReal.coe_mul, coe_sum]
    rw [EReal.coe_add, dwp]
    by_cases h : k.val ≤ i.val
    · rw [if_pos h, if_pos (decide_eq_true h)]
    · rw [if_neg h, if_neg (by simpa using h)]
      rfl
  refine Eq.trans ?_ key
  fin_cases g <;> unfold dwn <;> dsimp only
  all_goals
    unfold dmb vnt
    try unfold k0_pay107
    generalize k0_pay106 (F := Ideal) u s d = D
    generalize k0_pay88 (F := Ideal) x lg lb = V
    pointwise [k0_pay2, k0_pay110, k0_pay116, k0_pay113, k0_pay114, k0_pay115, k0_pay119, k0_pay123, k0_pay126, k0_pay127, k0_pay130, k0_pay133]
    rw [WordCmp.cmpi_sge_ofNat (by omega) (by omega), Words.select_ofBool]
    rfl

theorem dbn_at (a : Vec Ideal S128x1 .f32) (g : Fin 8) (i : Fin 128) {y : ℝ} (ha : a (ix2 i 0) = (y : EReal)) :
    dbn u s d a g (ix2 i 0) = ((y + ∑ c, dmixed I (tok n i) (gl g c) : ℝ) : EReal) := by
  have hD := fun c => dm_at H i c
  have key : (a (ix2 i 0) + ∑ c, dmt u s d (ix2 i (gl g c)) : EReal) = ((y + ∑ c, dmixed I (tok n i) (gl g c) : ℝ) : EReal) := by
    simp only [ha, hD, coe_sum, ← EReal.coe_add]
  refine Eq.trans ?_ key
  fin_cases g <;> unfold dbn <;> dsimp only
  all_goals
    generalize dmt u s d = D
    pointwise [k0_pay108, k0_pay111, k0_pay117, k0_pay121, k0_pay120, k0_pay124, k0_pay128, k0_pay131, k0_pay134]
    rfl

end Cert.MixGateK

end
-- ==== Proof.MixTiles.lean ====
/- What one point of the token mixer's gradient kernel reads, over the reals: its tiles, its keys and values, and what its gradients read. -/
module

public import proofs.«01_k».proof.Proof.MixFrame
public import proofs.«01_k».proof.Proof.MixGateK
public import Idealize.ShloMosaic.Lib.WholeRead
public import Idealize.ShloMosaic.Lib.VecWindow

@[expose] public section

set_option maxRecDepth 16384

noncomputable section

namespace Cert.MixPoint

open Cert.MixKernelIdeal Cert.MixKernelIdeal.Gen Idealize.ShloMosaic Idealize.ShloMosaic.TcCoe Cert.MixKernelRun
open Cert.Reals Cert.MixSpec Cert.Attn Cert.Tiles Cert.Over
open scoped BigOperators

/-- The blocks of one point are these reals. -/
structure Blk (I : Data) (n : Fin 16) (x : Ins Ideal) : Prop where
  hz : ∀ r l, x.z (ix2 r l) = (I.Z (tok n r) l : EReal)
  hp : ∀ (r : Fin 128) (l : Fin 256), x.kvp (ix2 r l) = (I.Z ⟨128 * (n.val - 1) + r.val, by omega⟩ ⟨1024 + l.val, by omega⟩ : EReal)
  hD : ∀ r l, x.dcat (ix2 r l) = (I.D (tok n r) l : EReal)
  ho : ∀ r h g d, x.o (ix2 r (hd h g d)) = (att I n h g r d : EReal)
  hk : ∀ h, x.sinks (ix2 0 h) = (I.sk h : EReal)
  hg : ∀ l, x.lg (ix2 0 l) = (I.lg l : EReal)
  hb : ∀ l, x.lb (ix2 0 l) = (I.lb l : EReal)
  hw : ∀ g i k, x.w (ix3 g i k) = (I.w g i k : EReal)
  hβ : ∀ g i, x.bt (ix2 i g) = (I.b g i : EReal)

variable (c : Dev nD) (i : grid0.Coords)
  (arg1 : Memref sig .tc .vmem S128x5376 .f32) (harg1 : arg1.IsWhole)
  (arg2 : Memref sig .tc .vmem S128x256 .f32) (harg2 : arg2.IsWhole)
  (arg3 : Memref sig .tc .vmem S128x2048 .f32) (harg3 : arg3.IsWhole)
  (arg4 : Memref sig .tc .vmem S128x1024 .f32) (harg4 : arg4.IsWhole)
  (arg5 : Memref sig .tc .vmem S1x16 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S8x128x128 .f32) (harg8 : arg8.IsWhole)
  (arg9 : Memref sig .tc .vmem S128x8 .f32) (harg9 : arg9.IsWhole)

/-- A tile read from a whole buffer. -/
abbrev rd {s : Shape} (m : Memref sig .tc .vmem s .f32) (h : m.IsWhole) (B : Vec Ideal s .f32) (R : Rect s) : R.shape.Idx → Elt Ideal .f32 :=
  View.readAt (Elt Ideal) m.view R.toLoadRect (h.unread B)

theorem rd_eq {s : Shape} (m : Memref sig .tc .vmem s .f32) (h : m.IsWhole) (B : Vec Ideal s .f32) (R : Rect s) : rd m h B R = View.ld B R := by
  rw [rd, View.readAt_eq_ld, h.read_unread]

/-- The lanes of query head `g` of key head `h`. -/
def qt (B : Vec Ideal S128x5376 .f32) (h : Fin 2) (g : Fin 8) : Vec Ideal S128x64 .f32 :=
  rd arg1 harg1 B (Rect.unit ![0, 512 * h.val + 64 * g.val] S128x64.size fun a => by
    match a with
    | ⟨0, _⟩ => exact Nat.le_refl 128
    | ⟨1, _⟩ => show 512 * h.val + 64 * g.val + 64 ≤ 5376; omega)

/-- The sink of query head `g` of key head `h`. -/
def sk (B : Vec Ideal S1x16 .f32) (h : Fin 2) (g : Fin 8) : Vec Ideal S1x1 .f32 :=
  rd arg5 harg5 B (Rect.unit ![0, 8 * h.val + g.val] S1x1.size fun a => by
    match a with
    | ⟨0, _⟩ => exact Nat.le_refl 1
    | ⟨1, _⟩ => show 8 * h.val + g.val + 1 ≤ 16; omega)

/-- The weights of group `g`. -/
def wt' (B : Vec Ideal S8x128x128 .f32) (g : Fin 8) : Vec Ideal S1x128x128 .f32 :=
  rd arg8 harg8 B (Rect.unit ![g.val, 0, 0] S1x128x128.size fun a => by
    match a with
    | ⟨0, _⟩ => show g.val + 1 ≤ 8; omega
    | ⟨1, _⟩ => exact Nat.le_refl 128
    | ⟨2, _⟩ => exact Nat.le_refl 128)

/-- The shifts of group `g`. -/
def bt (B : Vec Ideal S128x8 .f32) (g : Fin 8) : Vec Ideal S128x1 .f32 :=
  rd arg9 harg9 B (Rect.unit ![0, g.val] S128x1.size fun a => by
    match a with
    | ⟨0, _⟩ => exact Nat.le_refl 128
    | ⟨1, _⟩ => show g.val + 1 ≤ 8; omega)

/-- The 1024 lanes that begin at `o`. -/
abbrev part (B : Vec Ideal S128x5376 .f32) (o : ℕ) (h : ∀ a, ![0, o] a + S128x1024.size a ≤ S128x5376.size a) : Vec Ideal S128x1024 .f32 :=
  rd arg1 harg1 B (Rect.unit ![0, o] S128x1024.size h)

/-- The 1024 lanes of the result's gradient that begin at `o`. -/
abbrev dpart (B : Vec Ideal S128x2048 .f32) (o : ℕ) (h : ∀ a, ![0, o] a + S128x1024.size a ≤ S128x2048.size a) : Vec Ideal S128x1024 .f32 :=
  rd arg3 harg3 B (Rect.unit ![0, o] S128x1024.size h)

variable {I : Data} {n : Fin 16} {x : Ins Ideal} (H : Blk I n x)
include H

theorem qt_at (h : Fin 2) (g : Fin 8) (r : Fin 128) (d : Fin 64) :
    qt arg1 harg1 x.z h g (ix2 r d) = (I.Z (tok n r) (lane 0 (hd h g d)) : EReal) := by
  rw [← H.hz, qt, rd_eq]
  pointwise []
  exact congrArg _ (congrArg (ix2 r) (Fin.ext (by dsimp only [lane, hd]; omega)))

theorem sk_at (h : Fin 2) (g : Fin 8) : sk arg5 harg5 x.sinks h g (ix2 0 0) = (I.sk (qhead h g) : EReal) := by
  rw [← H.hk, sk, rd_eq]
  pointwise []
  rfl

theorem wt_at (g : Fin 8) (a b : Fin 128) : wt' arg8 harg8 x.w g (ix3 0 a b) = (I.w g a b : EReal) := by
  rw [← H.hw, wt', rd_eq]
  pointwise []

theorem bt_at (g : Fin 8) (a : Fin 128) : bt arg9 harg9 x.bt g (ix2 a 0) = (I.b g a : EReal) := by
  rw [← H.hβ, bt, rd_eq]
  pointwise []

theorem part_at (o : ℕ) (ho : o ≤ 4352) (h : ∀ a, ![0, o] a + S128x1024.size a ≤ S128x5376.size a) (r : Fin 128) (l : Fin 1024) :
    part arg1 harg1 x.z o h (ix2 r l) = (I.Z (tok n r) (lane o l) : EReal) := by
  rw [← H.hz, part, rd_eq]
  pointwise []
  rfl

theorem dpart_at (o : ℕ) (ho : o ≤ 1024) (h : ∀ a, ![0, o] a + S128x1024.size a ≤ S128x2048.size a) (r : Fin 128) (l : Fin 1024) :
    dpart arg3 harg3 x.dcat o h (ix2 r l) = (I.D (tok n r) ⟨o + l.val, by omega⟩ : EReal) := by
  rw [← H.hD, dpart, rd_eq]
  pointwise []

theorem keys_at (s : Fin 256) (l : Fin 128) : run.sl.r_79 c arg1 harg1 arg2 harg2 x (ix2 s l) = (I.Z (keyTok n s) ⟨1024 + l.val, by omega⟩ : EReal) := by
  have e1 := fun R => rd_eq arg1 harg1 x.z R
  have e2 := fun R => rd_eq arg2 harg2 x.kvp R
  unfold rd at e1 e2
  unfold run.sl.r_79
  rw [e1, e2]
  by_cases hs : s.val < 128
  · pointwise [k0_pay3]
    rw [dif_pos hs]
    refine (H.hp _ _).trans (coe_Z ?_ ?_)
    all_goals first | rfl | (dsimp only [keyTok, tok]; first | rw [dif_pos hs] | rw [dif_neg hs]) | (dsimp only; omega)
  · pointwise [k0_pay3]
    rw [dif_neg hs]
    refine (H.hz _ _).trans (coe_Z ?_ ?_)
    all_goals first | rfl | (dsimp only [keyTok, tok]; first | rw [dif_pos hs] | rw [dif_neg hs]) | (dsimp only; omega)

theorem vals_at (s : Fin 256) (l : Fin 128) : run.sl.r_80 c arg1 harg1 arg2 harg2 x (ix2 s l) = (I.Z (keyTok n s) ⟨1152 + l.val, by omega⟩ : EReal) := by
  have e1 := fun R => rd_eq arg1 harg1 x.z R
  have e2 := fun R => rd_eq arg2 harg2 x.kvp R
  unfold rd at e1 e2
  unfold run.sl.r_80
  rw [e1, e2]
  by_cases hs : s.val < 128
  · pointwise [k0_pay4]
    rw [dif_pos hs]
    refine (H.hp _ _).trans (coe_Z ?_ ?_)
    all_goals first | rfl | (dsimp only [keyTok, tok]; first | rw [dif_pos hs] | rw [dif_neg hs]) | (dsimp only; omega)
  · pointwise [k0_pay4]
    rw [dif_neg hs]
    refine (H.hz _ _).trans (coe_Z ?_ ?_)
    all_goals first | rfl | (dsimp only [keyTok, tok]; first | rw [dif_pos hs] | rw [dif_neg hs]) | (dsimp only; omega)

omit H in
theorem mask_at (hi : (i 0).val = n.val) (s : Fin 256) (x : Fin 1024) : run.sl.r_78 i (ix2 s x) = BitVec.ofBool (vis n (sub x) s) := by
  unfold run.sl.r_78
  rw [hi]
  pointwise [k0_pay1]
  have e : IntOp.ori (IntOp.cmpi .sge (BitVec.ofNat 32 s.val) 128#32) (Scalar.cmpi .sgt (BitVec.ofNat 32 n.val) 0#32) = _ :=
    (BitVec.or_comm _ _).trans (Words.there n.val (by omega) s)
  rw [Words.band' s x.val (by omega), e, Words.andi_ofBool]
  exact congrArg _ (Words.vis_eq n (sub x) s)

theorem dout_at (r : Fin 128) (h : Fin 2) (g : Fin 8) (d : Fin 64) :
    run.sl.r_85 c arg1 harg1 arg3 harg3 x (ix2 r (hd h g d)) = (dout I n h g r d : EReal) := by
  have e1 := part_at arg1 harg1 H 1280 (by omega) inb_S128x5376_S128x1024_0_1280 r (hd h g d)
  have e2 := dpart_at arg3 harg3 H 0 (by omega) inb_S128x2048_S128x1024_0_0 r (hd h g d)
  unfold run.sl.r_85 run.sl.r_82 run.sl.r_81 run.sl.r_83
  unfold part rd at e1
  unfold dpart rd at e2
  generalize View.readAt (Elt Ideal) arg1.view _ _ = A at e1 ⊢
  generalize View.readAt (Elt Ideal) arg3.view _ _ = B at e2 ⊢
  pointwise [k0_pay8, k0_pay5]
  rw [e1, e2, coe_logistic, ← EReal.coe_mul, ← EReal.coe_mul]
  refine congrArg Real.toEReal (congrArg₂ (· * ·) (congrArg _ (Fin.ext ?_)) rfl)
  simp

omit H in
set_option maxHeartbeats 3200000 in
theorem stack0 (A : Vec Ideal S128x1024 .f32) (a : Fin 1024) (d : Fin 64) : k0_pay24 (F := Ideal) A (ix2 a d) = A (ix2 (sub a) (hd 0 (grp a) d)) := by
  pointwise [k0_pay24]
  refine Eq.trans ?_ (ladder (fun g r => A (ix2 r (hd 0 g d))) a)
  split_ifs <;> refine congrArg A (congrArg (ix2 _) (Fin.ext ?_)) <;> simp [hd]

omit H in
set_option maxHeartbeats 3200000 in
theorem stack1 (A : Vec Ideal S128x1024 .f32) (a : Fin 1024) (d : Fin 64) : k0_pay60 (F := Ideal) A (ix2 a d) = A (ix2 (sub a) (hd 1 (grp a) d)) := by
  pointwise [k0_pay60]
  refine Eq.trans ?_ (ladder (fun g r => A (ix2 r (hd 1 g d))) a)
  split_ifs <;> refine congrArg A (congrArg (ix2 _) (Fin.ext ?_)) <;> simp [hd]

theorem dout0_at (a : Fin 1024) (d : Fin 64) :
    run.sl.r_95 c arg1 harg1 arg3 harg3 x (ix2 a d) = (dout I n 0 (grp a) (sub a) d : EReal) :=
  (stack0 _ a d).trans (dout_at c arg1 harg1 arg3 harg3 H _ 0 _ d)

theorem dout1_at (a : Fin 1024) (d : Fin 64) :
    run.sl.r_117 c arg1 harg1 arg3 harg3 x (ix2 a d) = (dout I n 1 (grp a) (sub a) d : EReal) := by
  exact (stack1 _ a d).trans (dout_at c arg1 harg1 arg3 harg3 H _ 1 _ d)

theorem half0 (hi : (i 0).val = n.val) : MixHalf.Half (keys I n 0) (vals I n 0) (fun g r d => I.Z (tok n r) (lane 0 (hd 0 g d))) (dout I n 0)
    (fun g => I.sk (qhead 0 g)) (vis n) (run.sl.r_78 i) (run.sl.r_86 c arg1 harg1 arg2 harg2 x) (run.sl.r_87 c arg1 harg1 arg2 harg2 x)
    (qt arg1 harg1 x.z 0) (sk arg5 harg5 x.sinks 0) (run.sl.r_95 c arg1 harg1 arg3 harg3 x) where
  hM := mask_at i hi
  hK s d := by
    have e := keys_at c arg1 harg1 arg2 harg2 H s ⟨d.val, by omega⟩
    unfold run.sl.r_86
    generalize run.sl.r_79 c arg1 harg1 arg2 harg2 x = A at e ⊢
    pointwise [k0_pay9]
    refine Eq.trans (congrArg A (congrArg (ix2 s) (Fin.ext ?_))) (e.trans (coe_Z rfl ?_))
    · simp
    · simp [kvLane]
  hV s d := by
    have e := vals_at c arg1 harg1 arg2 harg2 H s ⟨d.val, by omega⟩
    unfold run.sl.r_87
    generalize run.sl.r_80 c arg1 harg1 arg2 harg2 x = A at e ⊢
    pointwise [k0_pay10]
    refine Eq.trans (congrArg A (congrArg (ix2 s) (Fin.ext ?_))) (e.trans (coe_Z rfl ?_))
    · simp
    · simp [kvLane]
  hQ g r d := qt_at arg1 harg1 H 0 g r d
  hw g := sk_at arg5 harg5 H 0 g
  hT := dout0_at c arg1 harg1 arg3 harg3 H

theorem half1 (hi : (i 0).val = n.val) : MixHalf.Half (keys I n 1) (vals I n 1) (fun g r d => I.Z (tok n r) (lane 0 (hd 1 g d))) (dout I n 1)
    (fun g => I.sk (qhead 1 g)) (vis n) (run.sl.r_78 i) (run.sl.r_103 c arg1 harg1 arg2 harg2 x) (run.sl.r_104 c arg1 harg1 arg2 harg2 x)
    (qt arg1 harg1 x.z 1) (sk arg5 harg5 x.sinks 1) (run.sl.r_117 c arg1 harg1 arg3 harg3 x) where
  hM := mask_at i hi
  hK s d := by
    have e := keys_at c arg1 harg1 arg2 harg2 H s ⟨64 + d.val, by omega⟩
    unfold run.sl.r_103
    generalize run.sl.r_79 c arg1 harg1 arg2 harg2 x = A at e ⊢
    pointwise [k0_pay50]
    exact e.trans (coe_Z rfl (by simp [kvLane]))
  hV s d := by
    have e := vals_at c arg1 harg1 arg2 harg2 H s ⟨64 + d.val, by omega⟩
    unfold run.sl.r_104
    generalize run.sl.r_80 c arg1 harg1 arg2 harg2 x = A at e ⊢
    pointwise [k0_pay51]
    exact e.trans (coe_Z rfl (by simp [kvLane]))
  hQ g r d := qt_at arg1 harg1 H 1 g r d
  hw g := sk_at arg5 harg5 H 1 g
  hT := dout1_at c arg1 harg1 arg3 harg3 H

theorem gate : MixGateK.Gate I n (part arg1 harg1 x.z 3328 inb_S128x5376_S128x1024_0_3328) (part arg1 harg1 x.z 2304 inb_S128x5376_S128x1024_0_2304)
    (part arg1 harg1 x.z 4352 inb_S128x5376_S128x1024_0_4352) (dpart arg3 harg3 x.dcat 1024 inb_S128x2048_S128x1024_0_1024)
    (rd arg6 harg6 x.lg (Rect.unit ![0, 0] S1x1024.size inb_S1x1024_S1x1024_0_0)) (rd arg7 harg7 x.lb (Rect.unit ![0, 0] S1x1024.size inb_S1x1024_S1x1024_0_0))
    (wt' arg8 harg8 x.w) (bt arg9 harg9 x.bt) where
  hx r l := part_at arg1 harg1 H 3328 (by omega) _ r l
  hu r l := part_at arg1 harg1 H 2304 (by omega) _ r l
  hs r l := part_at arg1 harg1 H 4352 (by omega) _ r l
  hd r l := dpart_at arg3 harg3 H 1024 (by omega) _ r l
  hg l := by
    rw [← H.hg, rd_eq]
    pointwise []
  hb l := by
    rw [← H.hb, rd_eq]
    pointwise []
  hw g a b := wt_at arg8 harg8 H g a b
  hβ g a := bt_at arg9 harg9 H g a

end Cert.MixPoint

end
-- ==== Proof.MixBlocks.lean ====
/- The blocks that the token mixer's gradient kernel reads at each point. -/
module

public import proofs.«01_k».proof.Proof.MixHost
public import proofs.«01_k».proof.Proof.MixTiles
public import proofs.«01_k».proof.Proof.FwdKernel

@[expose] public section

set_option maxRecDepth 16384

noncomputable section

namespace Cert.MixBlocks

open Cert.MixKernelIdeal Cert.MixKernelIdeal.Gen Cert.MixKernelRun Idealize.ShloMosaic Idealize.ShloMosaic.TcCoe Idealize.SL.Sem
open Cert.Reals Cert.MixSpec

variable {m : (ℓ : Loc nD τ sig) → Buf (Elt Ideal) ℓ} {c : Dev nD} {I : Data}

theorem idx : ∀ t : Fin cfg0.N, win0_0.index t = ![min t.val 15, 0] ∧ win0_1.index t = ![min t.val 15 - 1, 4] ∧ win0_2.index t = ![min t.val 15, 0]
    ∧ win0_3.index t = ![min t.val 15, 0] ∧ win0_4.index t = ![0, 0] ∧ win0_5.index t = ![0, 0] ∧ win0_6.index t = ![0, 0]
    ∧ win0_7.index t = ![0, 0, 0] ∧ win0_8.index t = ![0, 0] ∧ win0_9.index t = ![t.val - 1, 0] ∧ win0_10.index t = ![0, 0]
    ∧ win0_11.index t = ![0, 0] ∧ win0_12.index t = ![0, 0] ∧ win0_13.index t = ![0, 0, 0] ∧ win0_14.index t = ![0, 0] :=
  (by decide +kernel : ∀ t : Fin grid0.N, _)

theorem coord : ∀ t : Fin cfg0.N, (grid0.coords t 0).val = t.val := (by decide +kernel : ∀ t : Fin grid0.N, _)

/-- The arguments of the run are these reals. -/
abbrev Reads (m : (ℓ : Loc nD τ sig) → Buf (Elt Ideal) ℓ) (c : Dev nD) (I : Data) : Prop :=
  MixSpec.Args I (m ((c : Thread nD τ).loc main_arg0)) (m ((c : Thread nD τ).loc main_arg2)) (m ((c : Thread nD τ).loc main_arg3))
    (m ((c : Thread nD τ).loc main_arg4)) (m ((c : Thread nD τ).loc main_arg5)) (m ((c : Thread nD τ).loc main_arg6))

/-- The gradient it reads is these reals. -/
abbrev ReadsD (m : (ℓ : Loc nD τ sig) → Buf (Elt Ideal) ℓ) (c : Dev nD) (I : Data) : Prop :=
  MixSpec.ArgD I (m ((c : Thread nD τ).loc main_arg1))

theorem blk_of {n : Fin 16} {x : Ins Ideal} {z : Vec Ideal S128x5376 .f32} {kvp : Vec Ideal S128x256 .f32} {dcat : Vec Ideal S128x2048 .f32}
    {o : Vec Ideal S128x1024 .f32} {sinks : Vec Ideal S1x16 .f32} {lg lb : Vec Ideal S1x1024 .f32} {w : Vec Ideal S8x128x128 .f32} {bt : Vec Ideal S128x8 .f32}
    (hz : ∀ r l, z (ix2 r l) = (I.Z (tok n r) l : EReal))
    (hp : ∀ (r : Fin 128) (l : Fin 256), kvp (ix2 r l) = (I.Z ⟨128 * (n.val - 1) + r.val, by omega⟩ ⟨1024 + l.val, by omega⟩ : EReal))
    (hD : ∀ r l, dcat (ix2 r l) = (I.D (tok n r) l : EReal)) (ho : ∀ r h g d, o (ix2 r (hd h g d)) = (att I n h g r d : EReal))
    (hk : ∀ h, sinks (ix2 0 h) = (I.sk h : EReal)) (hg : ∀ l, lg (ix2 0 l) = (I.lg l : EReal)) (hb : ∀ l, lb (ix2 0 l) = (I.lb l : EReal))
    (hw : ∀ g i k, w (ix3 g i k) = (I.w g i k : EReal)) (hβ : ∀ g i, bt (ix2 i g) = (I.b g i : EReal))
    (hx : x = ⟨z, kvp, dcat, o, sinks, lg, lb, w, bt⟩) : MixPoint.Blk I n x := by
  subst hx
  exact ⟨hz, hp, hD, ho, hk, hg, hb, hw, hβ⟩

variable (t : Fin cfg0.N)

theorem row4 (B : FVec Ideal S1x16 .f32) (l : Fin 16) : (win0_4.blk t).view.read (Elt Ideal) B (ix2 0 l) = B (ix2 0 l) := by
  blk_point [idx t]

theorem row5 (B : FVec Ideal S1x1024 .f32) (l : Fin 1024) : (win0_5.blk t).view.read (Elt Ideal) B (ix2 0 l) = B (ix2 0 l) := by
  blk_point [idx t]

theorem row6 (B : FVec Ideal S1x1024 .f32) (l : Fin 1024) : (win0_6.blk t).view.read (Elt Ideal) B (ix2 0 l) = B (ix2 0 l) := by
  blk_point [idx t]

theorem all7 (B : FVec Ideal S8x128x128 .f32) (g : Fin 8) (i k : Fin 128) : (win0_7.blk t).view.read (Elt Ideal) B (ix3 g i k) = B (ix3 g i k) := by
  blk_point [idx t]

theorem all8 (B : FVec Ideal S128x8 .f32) (i : Fin 128) (g : Fin 8) : (win0_8.blk t).view.read (Elt Ideal) B (ix2 i g) = B (ix2 i g) := by
  blk_point [idx t]

variable (ht : t.val < 16)

theorem rows0 (B : FVec Ideal S2048x5376 .f32) (r : Fin 128) (l : Fin 5376) :
    (win0_0.blk t).view.read (Elt Ideal) B (ix2 r l) = B (ix2 (tok ⟨t.val, ht⟩ r) l) := by
  have e : min t.val 15 = t.val := by omega
  blk_point [idx t, tok]

theorem rows1 (B : FVec Ideal S2048x5376 .f32) (r : Fin 128) (l : Fin 256) :
    (win0_1.blk t).view.read (Elt Ideal) B (ix2 r l) = B (ix2 ⟨128 * (t.val - 1) + r.val, by omega⟩ ⟨1024 + l.val, by omega⟩) := by
  have e : min t.val 15 = t.val := by omega
  blk_point [idx t]

theorem rows2 (B : FVec Ideal S2048x2048 .f32) (r : Fin 128) (l : Fin 2048) :
    (win0_2.blk t).view.read (Elt Ideal) B (ix2 r l) = B (ix2 (tok ⟨t.val, ht⟩ r) l) := by
  have e : min t.val 15 = t.val := by omega
  blk_point [idx t, tok]

theorem rows3 (B : FVec Ideal S2048x1024 .f32) (r : Fin 128) (l : Fin 1024) :
    (win0_3.blk t).view.read (Elt Ideal) B (ix2 r l) = B (ix2 (tok ⟨t.val, ht⟩ r) l) := by
  have e : min t.val 15 = t.val := by omega
  blk_point [idx t, tok]

/-- The weights as the kernel gets them. -/
theorem V_w : V m c main_v73 = shapeCast S8x128x128 (m ((c : Thread nD τ).loc main_arg5)) shapeCasts_S1x8x128x128_S8x128x128 := by
  rw [← V_main_arg5 m c, MixHost.V_eq, MixHost.V_eq]
  generalize MixHost.V2 m c = W
  after_results_simp
  rfl

/-- The shifts as the kernel gets them. -/
theorem V_b : V m c main_v75 = transpose S128x8 [1, 0] (shapeCast S8x128 (m ((c : Thread nD τ).loc main_arg6)) shapeCasts_S1x8x128_S8x128) transposes_S8x128_S128x8_1_0 := by
  rw [← V_main_arg6 m c, MixHost.V_eq, MixHost.V_eq]
  generalize MixHost.V2 m c = W
  after_results_simp
  rfl

theorem cast_w (B : FVec Ideal S1x8x128x128 .f32) (g : Fin 8) (i k : Fin 128) :
    shapeCast S8x128x128 B shapeCasts_S1x8x128x128_S8x128x128 (ix3 g i k) = B (ix4 0 g i k) := by
  pointwise []

theorem cast_b (B : FVec Ideal S1x8x128 .f32) (g : Fin 8) (i : Fin 128) :
    transpose S128x8 [1, 0] (shapeCast S8x128 B shapeCasts_S1x8x128_S8x128) transposes_S8x128_S128x8_1_0 (ix2 i g) = B (ix3 0 g i) := by
  pointwise []

variable (H : Reads m c I) (HD : ReadsD m c I)
include H HD

/-- The saved output is the attention's. -/
theorem saved_at (n : Fin 16) (r : Fin 128) (h : Fin 2) (g : Fin 8) (d : Fin 64) :
    V m c main_v72 (ix2 (tok n r) (hd h g d)) = (att I n h g r d : EReal) := by
  rw [MixHost.saved]
  have H' : FwdSpec.Args { I with b := fun _ _ => 0 } (fun _ _ => 0) (MixHost.z m c) (MixHost.sk m c) (m ((c : Thread nD τ).loc main_arg3))
      (m ((c : Thread nD τ).loc main_arg4)) (m ((c : Thread nD τ).loc main_arg5)) (fun _ => 0) :=
    ⟨⟨H.h0, H.h2, H.h3, H.h4, H.h5, fun _ _ => EReal.coe_zero.symm⟩, fun _ _ => rfl⟩
  exact FwdRef.v196 H' n r h g d

omit HD in
theorem z_at (r : Fin 128) (l : Fin 5376) : iblk m c 0 t (ix2 r l) = (I.Z (tok ⟨t.val, ht⟩ r) l : EReal) :=
  (rows0 t ht (V m c main_arg0) r l).trans ((congrFun (V_main_arg0 m c) _).trans (H.h0 _ _))

omit HD in
theorem p_at (r : Fin 128) (l : Fin 256) :
    iblk m c 1 t (ix2 r l) = (I.Z ⟨128 * (t.val - 1) + r.val, by omega⟩ ⟨1024 + l.val, by omega⟩ : EReal) :=
  (rows1 t ht (V m c main_arg0) r l).trans ((congrFun (V_main_arg0 m c) _).trans (H.h0 _ _))

omit H in
theorem d_at (r : Fin 128) (l : Fin 2048) : iblk m c 2 t (ix2 r l) = (I.D (tok ⟨t.val, ht⟩ r) l : EReal) :=
  (rows2 t ht (V m c main_arg1) r l).trans ((congrFun (V_main_arg1 m c) _).trans (HD _ _))

theorem o_at (r : Fin 128) (h : Fin 2) (g : Fin 8) (d : Fin 64) : iblk m c 3 t (ix2 r (hd h g d)) = (att I ⟨t.val, ht⟩ h g r d : EReal) :=
  (rows3 t ht (V m c main_v72) r (hd h g d)).trans (saved_at H HD _ r h g d)

omit HD in
theorem k_at (h : Fin 16) : iblk m c 4 t (ix2 0 h) = (I.sk h : EReal) :=
  (row4 t (V m c main_arg2) h).trans ((congrFun (V_main_arg2 m c) _).trans (H.h2 _))

omit HD in
theorem g_at (l : Fin 1024) : iblk m c 5 t (ix2 0 l) = (I.lg l : EReal) :=
  (row5 t (V m c main_arg3) l).trans ((congrFun (V_main_arg3 m c) _).trans (H.h3 _))

omit HD in
theorem b_at (l : Fin 1024) : iblk m c 6 t (ix2 0 l) = (I.lb l : EReal) :=
  (row6 t (V m c main_arg4) l).trans ((congrFun (V_main_arg4 m c) _).trans (H.h4 _))

omit HD in
theorem w_at (g : Fin 8) (i k : Fin 128) : iblk m c 7 t (ix3 g i k) = (I.w g i k : EReal) :=
  (all7 t (V m c main_v73) g i k).trans ((congrFun (V_w (m := m) (c := c)) _).trans ((cast_w _ g i k).trans (H.h5 _ _ _)))

omit HD in
theorem shifts_at (g : Fin 8) (i : Fin 128) : V m c main_v75 (ix2 i g) = (I.b g i : EReal) := by
  rw [V_b, cast_b]
  exact H.h6 g i

omit H HD in
theorem s_of (B : FVec Ideal S128x8 .f32) (hB : V m c main_v75 = B) (g : Fin 8) (i : Fin 128) : iblk m c 8 t (ix2 i g) = B (ix2 i g) := by
  unfold iblk
  exact (congrArg (fun B : FVec Ideal S128x8 .f32 => (win0_8.blk t).view.read (Elt Ideal) B (ix2 i g)) hB).trans (all8 t B i g)

omit HD in
theorem s_at (g : Fin 8) (i : Fin 128) : iblk m c 8 t (ix2 i g) = (I.b g i : EReal) := by
  rw [s_of t _ rfl g i]
  exact shifts_at H g i

/-- The blocks of one point. -/
theorem blocks : MixPoint.Blk I ⟨t.val, ht⟩ (ins m c t) :=
  blk_of (z_at t ht H) (p_at t ht H) (d_at t ht HD) (o_at t ht H HD) (k_at t H) (g_at t H) (b_at t H) (w_at t H) (s_at t H) rfl

end Cert.MixBlocks

end
-- ==== Proof.MixPend.lean ====
/- What one point of the token mixer's gradient kernel leaves in the rows it hands to the next point. -/
module

public import proofs.«01_k».proof.Proof.MixTiles

@[expose] public section

set_option maxRecDepth 16384

noncomputable section

namespace Cert.Over

open Idealize.ShloMosaic Idealize.ShloMosaic.View Cert.Reals

variable {e : EltTy} {Val : EltTy → Type}

/-- What a matrix's last store leaves at `(r, c)`: what was stored, where the store reaches; what lay there, where it does not. -/
theorem over_unit2 {R C o0 o1 s0 s1 : ℕ} {x : (⟨2, ![R, C]⟩ : Shape).Idx → Val e}
    {inb : ∀ a, (![o0, o1] : Fin 2 → ℕ) a + (![s0, s1] : Fin 2 → ℕ) a ≤ (⟨2, ![R, C]⟩ : Shape).size a}
    {w : (⟨2, ![s0, s1]⟩ : Shape).Idx → Val e} {L : List (Piece Val ⟨2, ![R, C]⟩ e)} {r : Fin R} {c : Fin C} {g : Val e}
    (hit : ∀ (a : Fin s0) (b : Fin s1), r.val = o0 + a.val → c.val = o1 + b.val → w (ix2 a b) = g)
    (miss : ¬ (o0 ≤ r.val ∧ r.val < o0 + s0 ∧ o1 ≤ c.val ∧ c.val < o1 + s1) → over x L (ix2 r c) = g) :
    over x (⟨Rect.unit (s := ⟨2, ![R, C]⟩) ![o0, o1] ![s0, s1] inb, w⟩ :: L) (ix2 r c) = g := by
  by_cases h : o0 ≤ r.val ∧ r.val < o0 + s0 ∧ o1 ≤ c.val ∧ c.val < o1 + s1
  · have e : ix2 r c = (Rect.unit (s := ⟨2, ![R, C]⟩) ![o0, o1] ![s0, s1] inb).emb (ix2 (⟨r.val - o0, by omega⟩ : Fin s0) (⟨c.val - o1, by omega⟩ : Fin s1)) := by
      refine (eq_ix2 _).trans ((congrArg₂ ix2 (Fin.ext ?_) (Fin.ext ?_)).trans (eq_ix2 _).symm)
      · show r.val = o0 + 1 * (r.val - o0)
        omega
      · show c.val = o1 + 1 * (c.val - o1)
        omega
    rw [e]
    refine (over_cons_emb x (Rect.unit (s := ⟨2, ![R, C]⟩) ![o0, o1] ![s0, s1] inb) w L _).trans (hit _ _ ?_ ?_) <;> (dsimp only; omega)
  · refine (over_cons_of_not_mem x _ L fun hm => h ?_).trans (miss h)
    have hm := (Rect.mem_set_unit (inb := inb)).1 hm
    exact ⟨(hm 0).1, (hm 0).2, (hm 1).1, (hm 1).2⟩

/-- The same for an array of three axes. -/
theorem over_unit3 {A R C p0 o0 o1 t0 s0 s1 : ℕ} {x : (⟨3, ![A, R, C]⟩ : Shape).Idx → Val e}
    {inb : ∀ a, (![p0, o0, o1] : Fin 3 → ℕ) a + (![t0, s0, s1] : Fin 3 → ℕ) a ≤ (⟨3, ![A, R, C]⟩ : Shape).size a}
    {w : (⟨3, ![t0, s0, s1]⟩ : Shape).Idx → Val e} {L : List (Piece Val ⟨3, ![A, R, C]⟩ e)} {q : Fin A} {r : Fin R} {c : Fin C} {g : Val e}
    (hit : ∀ (k : Fin t0) (a : Fin s0) (b : Fin s1), q.val = p0 + k.val → r.val = o0 + a.val → c.val = o1 + b.val → w (ix3 k a b) = g)
    (miss : ¬ (p0 ≤ q.val ∧ q.val < p0 + t0 ∧ o0 ≤ r.val ∧ r.val < o0 + s0 ∧ o1 ≤ c.val ∧ c.val < o1 + s1) → over x L (ix3 q r c) = g) :
    over x (⟨Rect.unit (s := ⟨3, ![A, R, C]⟩) ![p0, o0, o1] ![t0, s0, s1] inb, w⟩ :: L) (ix3 q r c) = g := by
  by_cases h : p0 ≤ q.val ∧ q.val < p0 + t0 ∧ o0 ≤ r.val ∧ r.val < o0 + s0 ∧ o1 ≤ c.val ∧ c.val < o1 + s1
  · have e : ix3 q r c = (Rect.unit (s := ⟨3, ![A, R, C]⟩) ![p0, o0, o1] ![t0, s0, s1] inb).emb
        (ix3 (⟨q.val - p0, by omega⟩ : Fin t0) (⟨r.val - o0, by omega⟩ : Fin s0) (⟨c.val - o1, by omega⟩ : Fin s1)) := by
      funext a
      refine Fin.ext ?_
      match a with
      | ⟨0, _⟩ =>
        show q.val = p0 + 1 * (q.val - p0)
        omega
      | ⟨1, _⟩ =>
        show r.val = o0 + 1 * (r.val - o0)
        omega
      | ⟨2, _⟩ =>
        show c.val = o1 + 1 * (c.val - o1)
        omega
    rw [e]
    refine (over_cons_emb x (Rect.unit (s := ⟨3, ![A, R, C]⟩) ![p0, o0, o1] ![t0, s0, s1] inb) w L _).trans (hit _ _ _ ?_ ?_ ?_) <;>
      (dsimp only; omega)
  · refine (over_cons_of_not_mem x _ L fun hm => h ?_).trans (miss h)
    have hm := (Rect.mem_set_unit (inb := inb)).1 hm
    exact ⟨(hm 0).1, (hm 0).2, (hm 1).1, (hm 1).2, (hm 2).1, (hm 2).2⟩

/-- The contents that a list of stores alone determines are the stores made over contents that are never seen. -/
theorem canon_eq_over [∀ e, Nonempty (Val e)] {s : Shape} (L : List (Piece Val s e)) : canon L = over (canon []) L := by
  induction L with
  | nil => rfl
  | cons p L ih =>
    funext y
    by_cases hp : y ∈ p.1.set
    · obtain ⟨r, w⟩ := p
      obtain ⟨z, rfl⟩ : ∃ z, r.emb z = y := r.exists_idx_of_mem hp
      rw [over_cons_emb, canon_cons_emb]
    · rw [over_cons_of_not_mem _ p L hp, canon_cons_of_not_mem p L hp, ih]

end Cert.Over

namespace Cert.MixPoint

open Cert.MixKernelIdeal Cert.MixKernelIdeal.Gen Idealize.ShloMosaic Idealize.ShloMosaic.TcCoe Cert.MixKernelRun
open Cert.Reals Cert.MixSpec Cert.Attn Cert.Tiles Cert.Over
open scoped BigOperators

section Lanes

variable {I : Data} {n : Fin 16}

/-- Eight heads' gradients, a tile of the lanes each. -/
theorem tiles_at (A : FVec Ideal S64x1024 .f32) (a : Fin 128) (b : Fin 64) :
    k0_pay35 (F := Ideal) A (ix2 a b) = A (ix2 b (gl 2 a)) ∧ k0_pay37 (F := Ideal) A (ix2 a b) = A (ix2 b (gl 3 a))
    ∧ k0_pay40 (F := Ideal) (k0_pay39 A) (ix2 a b) = A (ix2 b (gl 4 a)) ∧ k0_pay42 (F := Ideal) A (ix2 a b) = A (ix2 b (gl 5 a))
    ∧ k0_pay44 (F := Ideal) A (ix2 a b) = A (ix2 b (gl 6 a)) ∧ k0_pay47 (F := Ideal) A (ix2 a b) = A (ix2 b (gl 7 a)) := by
  refine ⟨?_, ?_, ?_, ?_, ?_, ?_⟩ <;> pointwise [k0_pay35, k0_pay37, k0_pay39, k0_pay40, k0_pay42, k0_pay44, k0_pay47] <;> rfl

theorem tiles_at' (A : FVec Ideal S64x1024 .f32) (a : Fin 128) (b : Fin 64) :
    k0_pay69 (F := Ideal) A (ix2 a b) = A (ix2 b (gl 1 a)) ∧ k0_pay71 (F := Ideal) A (ix2 a b) = A (ix2 b (gl 2 a))
    ∧ k0_pay73 (F := Ideal) A (ix2 a b) = A (ix2 b (gl 3 a)) ∧ k0_pay75 (F := Ideal) A (ix2 a b) = A (ix2 b (gl 4 a))
    ∧ k0_pay77 (F := Ideal) A (ix2 a b) = A (ix2 b (gl 5 a)) ∧ k0_pay80 (F := Ideal) A (ix2 a b) = A (ix2 b (gl 6 a))
    ∧ k0_pay82 (F := Ideal) A (ix2 a b) = A (ix2 b (gl 7 a)) := by
  refine ⟨?_, ?_, ?_, ?_, ?_, ?_, ?_⟩ <;> pointwise [k0_pay69, k0_pay71, k0_pay73, k0_pay75, k0_pay77, k0_pay80, k0_pay82] <;> rfl

theorem first_at (kh : FVec Ideal S256x64 .bf16) (p d : FVec Ideal S256x1024 .f32) (l : FVec Ideal S1x1024 .f32) (a : Fin 128) (b : Fin 64) :
    k0_pay31 (F := Ideal) kh p d l (ix2 a b) = k0_pay29 (F := Ideal) kh p d l (ix2 b (gl 0 a))
    ∧ k0_pay33 (F := Ideal) kh p d l (ix2 a b) = k0_pay29 (F := Ideal) kh p d l (ix2 b (gl 1 a)) := by
  unfold k0_pay31 k0_pay33
  generalize k0_pay29 (F := Ideal) kh p d l = A
  refine ⟨?_, ?_⟩ <;> pointwise []
  · exact congrArg A (congrArg (ix2 b) (Fin.ext (by simp [gl])))
  · rfl

/-- Where the lanes of the queries' gradients go. -/
theorem dz_q (h : Fin 2) (g : Fin 8) (a : Fin 128) (b : Fin 64) {r : Fin 128} {l : Fin 5376} {o : ℕ} (ho : o = 512 * h.val + 64 * g.val)
    (e0 : r.val = 0 + a.val) (e1 : l.val = o + b.val) : dz I (tok n r) l = dq I n h g a b := by
  obtain rfl : r = a := Fin.ext (by omega)
  have hh := h.isLt
  have hg := g.isLt
  unfold dz
  rw [dif_pos (by omega), blk_tok, row_tok]
  congr 1 <;> refine Fin.ext ?_ <;> dsimp only <;> omega

/-- Where the lanes of the gate's gradients go, -/
theorem dz_ga (a : Fin 128) (b : Fin 1024) {r : Fin 128} {l : Fin 5376} (e0 : r.val = 0 + a.val) (e1 : l.val = 1280 + b.val) :
    dz I (tok n r) l = dga I n ⟨b.val / 512, by omega⟩ ⟨b.val / 64 % 8, by omega⟩ a ⟨b.val % 64, by omega⟩ := by
  obtain rfl : r = a := Fin.ext (by omega)
  unfold dz
  rw [dif_neg (by omega), dif_neg (by omega), dif_neg (by omega), dif_pos (by omega), blk_tok, row_tok]
  congr 1 <;> refine Fin.ext ?_ <;> dsimp only <;> omega

/-- and those of the gating's three parts. -/
theorem dz_du (a : Fin 128) (b : Fin 1024) {r : Fin 128} {l : Fin 5376} (e0 : r.val = 0 + a.val) (e1 : l.val = 2304 + b.val) :
    dz I (tok n r) l = du I (tok n a) b := by
  obtain rfl : r = a := Fin.ext (by omega)
  unfold dz
  rw [dif_neg (by omega), dif_neg (by omega), dif_neg (by omega), dif_neg (by omega), dif_pos (by omega)]
  congr 1
  exact Fin.ext (by dsimp only; omega)

theorem dz_dvs (a : Fin 128) (b : Fin 1024) {r : Fin 128} {l : Fin 5376} (e0 : r.val = 0 + a.val) (e1 : l.val = 3328 + b.val) :
    dz I (tok n r) l = dvs I (tok n a) b := by
  obtain rfl : r = a := Fin.ext (by omega)
  unfold dz
  rw [dif_neg (by omega), dif_neg (by omega), dif_neg (by omega), dif_neg (by omega), dif_neg (by omega), dif_pos (by omega)]
  congr 1
  exact Fin.ext (by dsimp only; omega)

theorem dz_dgs (a : Fin 128) (b : Fin 1024) {r : Fin 128} {l : Fin 5376} (e0 : r.val = 0 + a.val) (e1 : l.val = 4352 + b.val) :
    dz I (tok n r) l = dgs I (tok n a) b := by
  obtain rfl : r = a := Fin.ext (by omega)
  unfold dz
  rw [dif_neg (by omega), dif_neg (by omega), dif_neg (by omega), dif_neg (by omega), dif_neg (by omega), dif_neg (by omega)]
  exact congrArg (dgs I (tok n r)) (Fin.ext (by dsimp only; omega))

end Lanes

variable (c : Dev nD) (i : grid0.Coords)
  (arg1 : Memref sig .tc .vmem S128x5376 .f32) (harg1 : arg1.IsWhole)
  (arg2 : Memref sig .tc .vmem S128x256 .f32) (harg2 : arg2.IsWhole)
  (arg3 : Memref sig .tc .vmem S128x2048 .f32) (harg3 : arg3.IsWhole)
  (arg4 : Memref sig .tc .vmem S128x1024 .f32) (harg4 : arg4.IsWhole)
  (arg5 : Memref sig .tc .vmem S1x16 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S8x128x128 .f32) (harg8 : arg8.IsWhole)
  (arg9 : Memref sig .tc .vmem S128x8 .f32) (harg9 : arg9.IsWhole)
  (arg10 : Memref sig .tc .vmem S128x5376 .bf16) (harg10 : arg10.IsWhole)
  (arg11 : Memref sig .tc .vmem S1x16 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S8x128 .f32) (harg15 : arg15.IsWhole)
  (arg16 : Memref sig .tc .vmem S128x5376 .bf16) (harg16 : arg16.IsWhole)
  (arg17 : Memref sig .tc .vmem S256x256 .f32) (harg17 : arg17.IsWhole)
  (arg18 : Memref sig .tc .vmem S128x256 .f32) (harg18 : arg18.IsWhole)
  (arg19 : Memref sig .tc .vmem S1x128 .f32) (harg19 : arg19.IsWhole)
  (arg20 : Memref sig .tc .vmem S128x128 .f32) (harg20 : arg20.IsWhole)
variable {I : Data} {n : Fin 16} {x : Ins Ideal} (H : Blk I n x) (hi : (i 0).val = n.val)
section

include H

/-- The gate's gradient. -/
theorem dga_at (r : Fin 128) (h : Fin 2) (g : Fin 8) (d : Fin 64) :
    run.sl.r_84 c arg1 harg1 arg3 harg3 arg4 harg4 x (ix2 r (hd h g d)) = (dga I n h g r d : EReal) := by
  have e1 := part_at arg1 harg1 H 1280 (by omega) inb_S128x5376_S128x1024_0_1280 r (hd h g d)
  have e2 := dpart_at arg3 harg3 H 0 (by omega) inb_S128x2048_S128x1024_0_0 r (hd h g d)
  have e3 := H.ho r h g d
  have e4 := fun R => rd_eq arg4 harg4 x.o R
  unfold rd at e4
  unfold run.sl.r_84
  rw [e4]
  unfold part rd at e1
  unfold dpart rd at e2
  generalize View.readAt (Elt Ideal) arg1.view _ _ = A at e1 ⊢
  generalize View.readAt (Elt Ideal) arg3.view _ _ = B at e2 ⊢
  generalize x.o = O at e3 ⊢
  pointwise [k0_pay6, k0_pay5]
  rw [e1, e2, e3, coe_logistic, ← EReal.coe_one]
  simp only [← EReal.coe_mul, ← EReal.coe_add, ← EReal.coe_sub]
  refine congrArg Real.toEReal (congrArg₂ (· * ·) (congrArg₂ (· * ·) (congrArg _ (Fin.ext ?_)) rfl) rfl)
  simp

include hi

theorem dq0_at (d : Fin 64) (a : Fin 1024) :
    run.sl.r_100 c i arg1 harg1 arg2 harg2 arg3 harg3 arg5 harg5 x (ix2 d a) = (dq I n 0 (grp a) (sub a) d : EReal) :=
  MixHalf.dqt_at (half0 c i arg1 harg1 arg2 harg2 arg3 harg3 arg5 harg5 H hi) d a

theorem dq1_at (d : Fin 64) (a : Fin 1024) :
    run.sl.r_120 c i arg1 harg1 arg2 harg2 arg3 harg3 arg5 harg5 x (ix2 d a) = (dq I n 1 (grp a) (sub a) d : EReal) :=
  MixHalf.dqt_at (half1 c i arg1 harg1 arg2 harg2 arg3 harg3 arg5 harg5 H hi) d a

end

theorem first_at' (a : Fin 128) (b : Fin 64) :
    run.sl.r_121 c i arg1 harg1 arg2 harg2 arg3 harg3 arg5 harg5 x (ix2 a b)
      = run.sl.r_120 c i arg1 harg1 arg2 harg2 arg3 harg3 arg5 harg5 x (ix2 b (gl 0 a)) := by
  unfold run.sl.r_121 run.sl.r_120 k0_pay67
  generalize k0_pay65 (F := Ideal) _ _ _ _ _ = A
  pointwise []
  exact congrArg A (congrArg (ix2 b) (Fin.ext (by simp [gl])))

section

include H hi

/-- A tile of the queries' gradients, once it is known which it is. -/
theorem q0_hit (g : Fin 8) (a : Fin 128) (b : Fin 64) {v : EReal} {r : Fin 128} {l : Fin 5376} {o : ℕ} (ho : o = 512 * (0 : Fin 2).val + 64 * g.val)
    (ev : v = run.sl.r_100 c i arg1 harg1 arg2 harg2 arg3 harg3 arg5 harg5 x (ix2 b (gl g a)))
    (e0 : r.val = 0 + a.val) (e1 : l.val = o + b.val) : v = (dz I (tok n r) l : EReal) := by
  rw [ev, dq0_at c i arg1 harg1 arg2 harg2 arg3 harg3 arg5 harg5 H hi, dz_q 0 g a b ho e0 e1, grp_gl, sub_gl]

theorem q1_hit (g : Fin 8) (a : Fin 128) (b : Fin 64) {v : EReal} {r : Fin 128} {l : Fin 5376} {o : ℕ} (ho : o = 512 * (1 : Fin 2).val + 64 * g.val)
    (ev : v = run.sl.r_120 c i arg1 harg1 arg2 harg2 arg3 harg3 arg5 harg5 x (ix2 b (gl g a)))
    (e0 : r.val = 0 + a.val) (e1 : l.val = o + b.val) : v = (dz I (tok n r) l : EReal) := by
  rw [ev, dq1_at c i arg1 harg1 arg2 harg2 arg3 harg3 arg5 harg5 H hi, dz_q 1 g a b ho e0 e1, grp_gl, sub_gl]

end

section

include H

theorem ga_hit (a : Fin 128) (b : Fin 1024) {r : Fin 128} {l : Fin 5376} (e0 : r.val = 0 + a.val) (e1 : l.val = 1280 + b.val) :
    k0_pay7 (F := Ideal) (run.sl.r_84 c arg1 harg1 arg3 harg3 arg4 harg4 x) (ix2 a b) = (dz I (tok n r) l : EReal) := by
  have e := dga_at c arg1 harg1 arg3 harg3 arg4 harg4 H a ⟨b.val / 512, by omega⟩ ⟨b.val / 64 % 8, by omega⟩ ⟨b.val % 64, by omega⟩
  have e' : hd ⟨b.val / 512, by omega⟩ ⟨b.val / 64 % 8, by omega⟩ ⟨b.val % 64, by omega⟩ = b := Fin.ext (by simp only [hd]; omega)
  rw [dz_ga a b e0 e1, ← e, e']
  generalize run.sl.r_84 c arg1 harg1 arg3 harg3 arg4 harg4 x = A
  pointwise [k0_pay7]

theorem du_hit (a : Fin 128) (b : Fin 1024) {r : Fin 128} {l : Fin 5376} (e0 : r.val = 0 + a.val) (e1 : l.val = 2304 + b.val) :
    k0_pay103 (F := Ideal) (run.sl.r_139 c arg1 harg1 arg6 harg6 arg7 harg7 arg8 harg8 arg9 harg9 x)
      (part arg1 harg1 x.z 4352 inb_S128x5376_S128x1024_0_4352) (dpart arg3 harg3 x.dcat 1024 inb_S128x2048_S128x1024_0_1024) (ix2 a b)
      = (dz I (tok n r) l : EReal) := by
  rw [dz_du a b e0 e1]
  exact MixGateK.du_at (gate arg1 harg1 arg3 harg3 arg6 harg6 arg7 harg7 arg8 harg8 arg9 harg9 H) a b

theorem dgs_hit (a : Fin 128) (b : Fin 1024) {r : Fin 128} {l : Fin 5376} (e0 : r.val = 0 + a.val) (e1 : l.val = 4352 + b.val) :
    k0_pay104 (F := Ideal) (run.sl.r_139 c arg1 harg1 arg6 harg6 arg7 harg7 arg8 harg8 arg9 harg9 x)
      (part arg1 harg1 x.z 2304 inb_S128x5376_S128x1024_0_2304)
      (part arg1 harg1 x.z 4352 inb_S128x5376_S128x1024_0_4352) (dpart arg3 harg3 x.dcat 1024 inb_S128x2048_S128x1024_0_1024) (ix2 a b)
      = (dz I (tok n r) l : EReal) := by
  rw [dz_dgs a b e0 e1]
  exact MixGateK.dgs_at (gate arg1 harg1 arg3 harg3 arg6 harg6 arg7 harg7 arg8 harg8 arg9 harg9 H) a b

include arg7 harg7 arg9 harg9 in
theorem dvs_hit (a : Fin 128) (b : Fin 1024) {r : Fin 128} {l : Fin 5376} (e0 : r.val = 0 + a.val) (e1 : l.val = 3328 + b.val) :
    k0_pay146 (F := Ideal) (run.sl.r_124 c arg1 harg1 x) (run.sl.r_125 c arg1 harg1 x) (run.sl.r_126 c arg6 harg6 x)
      (run.sl.r_154 c arg1 harg1 arg3 harg3 arg8 harg8 x) (ix2 a b) = (dz I (tok n r) l : EReal) := by
  rw [dz_dvs a b e0 e1]
  exact MixGateK.dvs_at (gate arg1 harg1 arg3 harg3 arg6 harg6 arg7 harg7 arg8 harg8 arg9 harg9 H) a b

include hi

/-- The rows handed on: those of the block's gradient, but for the lanes of the keys and values. -/
theorem pend_at (κ : Case) (hκ : κ.At i) (hk : κ ≠ .last) (p : St Ideal) (r : Fin 128) (l : Fin 5376) (hl : l.val < 1024 ∨ 1280 ≤ l.val) :
    over p.pend (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      κ hκ x p).1.pend (ix2 r l) = (dz I (tok n r) l : EReal) := by
  have t := fun A a b => tiles_at A a b
  have t' := fun A a b => tiles_at' A a b
  have f := fun kh q d m a b => first_at kh q d m a b
  have f' := fun a b => first_at' c i arg1 harg1 arg2 harg2 arg3 harg3 arg5 harg5 (x := x) a b
  cases κ
  case last => exact absurd rfl hk
  all_goals
    dsimp only [run]
    repeat' refine over_unit2 (R := 128) (C := 5376) (fun a b e0 e1 => ?_) fun m0 => ?_
    · exact dvs_hit c arg1 harg1 arg3 harg3 arg6 harg6 arg7 harg7 arg8 harg8 arg9 harg9 H a b e0 e1
    · exact dgs_hit c arg1 harg1 arg3 harg3 arg6 harg6 arg7 harg7 arg8 harg8 arg9 harg9 H a b e0 e1
    · exact du_hit c arg1 harg1 arg3 harg3 arg6 harg6 arg7 harg7 arg8 harg8 arg9 harg9 H a b e0 e1
    · exact q1_hit c i arg1 harg1 arg2 harg2 arg3 harg3 arg5 harg5 H hi 7 a b rfl (t' _ _ _).2.2.2.2.2.2 e0 e1
    · exact q1_hit c i arg1 harg1 arg2 harg2 arg3 harg3 arg5 harg5 H hi 6 a b rfl (t' _ _ _).2.2.2.2.2.1 e0 e1
    · exact q1_hit c i arg1 harg1 arg2 harg2 arg3 harg3 arg5 harg5 H hi 5 a b rfl (t' _ _ _).2.2.2.2.1 e0 e1
    · exact q1_hit c i arg1 harg1 arg2 harg2 arg3 harg3 arg5 harg5 H hi 4 a b rfl (t' _ _ _).2.2.2.1 e0 e1
    · exact q1_hit c i arg1 harg1 arg2 harg2 arg3 harg3 arg5 harg5 H hi 3 a b rfl (t' _ _ _).2.2.1 e0 e1
    · exact q1_hit c i arg1 harg1 arg2 harg2 arg3 harg3 arg5 harg5 H hi 2 a b rfl (t' _ _ _).2.1 e0 e1
    · exact q1_hit c i arg1 harg1 arg2 harg2 arg3 harg3 arg5 harg5 H hi 1 a b rfl (t' _ _ _).1 e0 e1
    · exact q1_hit c i arg1 harg1 arg2 harg2 arg3 harg3 arg5 harg5 H hi 0 a b rfl (f' a b) e0 e1
    · exact q0_hit c i arg1 harg1 arg2 harg2 arg3 harg3 arg5 harg5 H hi 7 a b rfl (t _ _ _).2.2.2.2.2 e0 e1
    · exact q0_hit c i arg1 harg1 arg2 harg2 arg3 harg3 arg5 harg5 H hi 6 a b rfl (t _ _ _).2.2.2.2.1 e0 e1
    · exact q0_hit c i arg1 harg1 arg2 harg2 arg3 harg3 arg5 harg5 H hi 5 a b rfl (t _ _ _).2.2.2.1 e0 e1
    · exact q0_hit c i arg1 harg1 arg2 harg2 arg3 harg3 arg5 harg5 H hi 4 a b rfl (t _ _ _).2.2.1 e0 e1
    · exact q0_hit c i arg1 harg1 arg2 harg2 arg3 harg3 arg5 harg5 H hi 3 a b rfl (t _ _ _).2.1 e0 e1
    · exact q0_hit c i arg1 harg1 arg2 harg2 arg3 harg3 arg5 harg5 H hi 2 a b rfl (t _ _ _).1 e0 e1
    · exact q0_hit c i arg1 harg1 arg2 harg2 arg3 harg3 arg5 harg5 H hi 1 a b rfl (f _ _ _ _ _ _).2 e0 e1
    · exact q0_hit c i arg1 harg1 arg2 harg2 arg3 harg3 arg5 harg5 H hi 0 a b rfl (f _ _ _ _ _ _).1 e0 e1
    · exact ga_hit c arg1 harg1 arg3 harg3 arg4 harg4 H a b e0 e1
    all_goals exfalso; omega

end

end Cert.MixPoint

end
-- ==== Proof.MixAcc.lean ====
/- What one point of the token mixer's gradient kernel adds to the gradients it accumulates. -/
module

public import proofs.«01_k».proof.Proof.MixPend

@[expose] public section

set_option maxRecDepth 16384

noncomputable section

namespace Cert.Over

open Idealize.ShloMosaic Idealize.ShloMosaic.View Cert.Reals

variable {sig : RefSig} {κ : Kind} {sp : Space} {e : EltTy} {Val : EltTy → Type} [∀ e, Nonempty (Val e)]

/-- What a row's last store of one cell leaves at `c`. -/
theorem over_cell {C o : ℕ} {x : (⟨2, ![1, C]⟩ : Shape).Idx → Val e}
    {inb : ∀ a, (![0, o] : Fin 2 → ℕ) a + (![1, 1] : Fin 2 → ℕ) a ≤ (⟨2, ![1, C]⟩ : Shape).size a}
    {w : (⟨2, ![1, 1]⟩ : Shape).Idx → Val e} {L : List (Piece Val ⟨2, ![1, C]⟩ e)} {c : Fin C} {g : Val e}
    (hit : c.val = o → w (ix2 0 0) = g) (miss : c.val ≠ o → over x L (ix2 0 c) = g) :
    over x (⟨Rect.unit (s := ⟨2, ![1, C]⟩) ![0, o] ![1, 1] inb, w⟩ :: L) (ix2 0 c) = g := by
  refine over_unit2 (fun a b e0 e1 => ?_) fun m => miss fun h => m ⟨by simp, by simp, by omega, by omega⟩
  obtain rfl : a = 0 := Subsingleton.elim _ _
  obtain rfl : b = 0 := Subsingleton.elim _ _
  exact hit (by simpa using e1)

/-- What a block of a matrix reads back after the stores `L`. -/
theorem readCov2 {R C o0 o1 s0 s1 : ℕ} (v : View sig κ sp ⟨2, ![R, C]⟩ e)
    {inb : ∀ a, (![o0, o1] : Fin 2 → ℕ) a + (![s0, s1] : Fin 2 → ℕ) a ≤ (⟨2, ![R, C]⟩ : Shape).size a}
    {L : List (Piece Val ⟨2, ![R, C]⟩ e)} (a : Fin s0) (b : Fin s1) {g : Val e}
    (h : ∀ (r : Fin R) (c : Fin C), r.val = o0 + a.val → c.val = o1 + b.val → over (canon []) L (ix2 r c) = g) :
    v.readCov L (Rect.unit (s := ⟨2, ![R, C]⟩) ![o0, o1] ![s0, s1] inb).toLoadRect (ix2 a b) = g := by
  rw [readCov_eq_canon', canon_eq_over]
  have h0 : o0 + s0 ≤ R := inb 0
  have h1 : o1 + s1 ≤ C := inb 1
  have e : ((Rect.unit (s := ⟨2, ![R, C]⟩) ![o0, o1] ![s0, s1] inb).toLoadRect.idx (ix2 a b) : (⟨2, ![R, C]⟩ : Shape).Idx)
      = ix2 (⟨o0 + a.val, by omega⟩ : Fin R) (⟨o1 + b.val, by omega⟩ : Fin C) :=
    (eq_ix2 _).trans (congrArg₂ ix2 (Fin.ext (by show o0 + 1 * a.val = _; dsimp only; omega)) (Fin.ext (by show o1 + 1 * b.val = _; dsimp only; omega)))
  exact (congrArg _ e).trans (h _ _ rfl rfl)

/-- The same for an array of three axes. -/
theorem readCov3 {A R C p0 o0 o1 t0 s0 s1 : ℕ} (v : View sig κ sp ⟨3, ![A, R, C]⟩ e)
    {inb : ∀ a, (![p0, o0, o1] : Fin 3 → ℕ) a + (![t0, s0, s1] : Fin 3 → ℕ) a ≤ (⟨3, ![A, R, C]⟩ : Shape).size a}
    {L : List (Piece Val ⟨3, ![A, R, C]⟩ e)} (k : Fin t0) (a : Fin s0) (b : Fin s1) {g : Val e}
    (h : ∀ (q : Fin A) (r : Fin R) (c : Fin C), q.val = p0 + k.val → r.val = o0 + a.val → c.val = o1 + b.val → over (canon []) L (ix3 q r c) = g) :
    v.readCov L (Rect.unit (s := ⟨3, ![A, R, C]⟩) ![p0, o0, o1] ![t0, s0, s1] inb).toLoadRect (ix3 k a b) = g := by
  rw [readCov_eq_canon', canon_eq_over]
  have hp : p0 + t0 ≤ A := inb 0
  have h0 : o0 + s0 ≤ R := inb 1
  have h1 : o1 + s1 ≤ C := inb 2
  have e : ((Rect.unit (s := ⟨3, ![A, R, C]⟩) ![p0, o0, o1] ![t0, s0, s1] inb).toLoadRect.idx (ix3 k a b) : (⟨3, ![A, R, C]⟩ : Shape).Idx)
      = ix3 (⟨p0 + k.val, by omega⟩ : Fin A) (⟨o0 + a.val, by omega⟩ : Fin R) (⟨o1 + b.val, by omega⟩ : Fin C) := by
    funext j
    refine Fin.ext ?_
    match j with
    | ⟨0, _⟩ =>
      show p0 + 1 * k.val = p0 + k.val
      omega
    | ⟨1, _⟩ =>
      show o0 + 1 * a.val = o0 + a.val
      omega
    | ⟨2, _⟩ =>
      show o1 + 1 * b.val = o1 + b.val
      omega
  exact (congrArg _ e).trans (h _ _ _ rfl rfl rfl)

end Cert.Over

namespace Cert.MixPoint

open Cert.MixKernelIdeal Cert.MixKernelIdeal.Gen Idealize.ShloMosaic Idealize.ShloMosaic.TcCoe Cert.MixKernelRun
open Cert.Reals Cert.MixSpec Cert.Attn Cert.Tiles Cert.Over
open scoped BigOperators

section Sums

/-- A sink's cell, with its queries' gradients added. -/
theorem add_at (A : FVec Ideal S1x1024 .f32) (v : FVec Ideal S1x1 .f32) :
    k0_pay34 (F := Ideal) A v (ix2 0 0) = v (ix2 0 0) + ∑ r, A (ix2 0 (gl 2 r)) ∧ k0_pay36 (F := Ideal) A v (ix2 0 0) = v (ix2 0 0) + ∑ r, A (ix2 0 (gl 3 r))
    ∧ k0_pay38 (F := Ideal) A v (ix2 0 0) = v (ix2 0 0) + ∑ r, A (ix2 0 (gl 4 r)) ∧ k0_pay41 (F := Ideal) A v (ix2 0 0) = v (ix2 0 0) + ∑ r, A (ix2 0 (gl 5 r))
    ∧ k0_pay43 (F := Ideal) A v (ix2 0 0) = v (ix2 0 0) + ∑ r, A (ix2 0 (gl 6 r))
    ∧ k0_pay46 (F := Ideal) v (k0_pay45 A) (ix2 0 0) = v (ix2 0 0) + ∑ r, A (ix2 0 (gl 7 r)) := by
  refine ⟨?_, ?_, ?_, ?_, ?_, ?_⟩ <;> pointwise [k0_pay34, k0_pay36, k0_pay38, k0_pay41, k0_pay43, k0_pay45, k0_pay46] <;> rfl

theorem add_at' (A : FVec Ideal S1x1024 .f32) (v : FVec Ideal S1x1 .f32) :
    k0_pay68 (F := Ideal) A v (ix2 0 0) = v (ix2 0 0) + ∑ r, A (ix2 0 (gl 1 r)) ∧ k0_pay70 (F := Ideal) A v (ix2 0 0) = v (ix2 0 0) + ∑ r, A (ix2 0 (gl 2 r))
    ∧ k0_pay72 (F := Ideal) A v (ix2 0 0) = v (ix2 0 0) + ∑ r, A (ix2 0 (gl 3 r)) ∧ k0_pay74 (F := Ideal) A v (ix2 0 0) = v (ix2 0 0) + ∑ r, A (ix2 0 (gl 4 r))
    ∧ k0_pay76 (F := Ideal) A v (ix2 0 0) = v (ix2 0 0) + ∑ r, A (ix2 0 (gl 5 r))
    ∧ k0_pay79 (F := Ideal) v (k0_pay78 A) (ix2 0 0) = v (ix2 0 0) + ∑ r, A (ix2 0 (gl 6 r))
    ∧ k0_pay81 (F := Ideal) A v (ix2 0 0) = v (ix2 0 0) + ∑ r, A (ix2 0 (gl 7 r)) := by
  refine ⟨?_, ?_, ?_, ?_, ?_, ?_, ?_⟩ <;> pointwise [k0_pay68, k0_pay70, k0_pay72, k0_pay74, k0_pay76, k0_pay78, k0_pay79, k0_pay81] <;> rfl

theorem add_first (p l : FVec Ideal S1x1024 .f32) (v : FVec Ideal S1x1 .f32) :
    k0_pay30 (F := Ideal) p l v (ix2 0 0) = v (ix2 0 0) + ∑ r, k0_pay28 (F := Ideal) p l (ix2 0 (gl 0 r))
    ∧ k0_pay32 (F := Ideal) p l v (ix2 0 0) = v (ix2 0 0) + ∑ r, k0_pay28 (F := Ideal) p l (ix2 0 (gl 1 r)) := by
  unfold k0_pay30 k0_pay32
  generalize k0_pay28 (F := Ideal) p l = A
  refine ⟨?_, ?_⟩ <;> pointwise []
  · exact congrArg _ (Finset.sum_congr rfl fun r _ => congrArg A (congrArg (ix2 0) (Fin.ext (by simp [gl]))))
  · rfl

theorem add_first' (T : FVec Ideal S128x1024 .bf16) (vh : FVec Ideal S256x64 .bf16) (ex : FVec Ideal S256x1024 .f32) (es : FVec Ideal S1x1024 .f32)
    (v : FVec Ideal S1x1 .f32) :
    k0_pay66 (F := Ideal) T vh ex es v (ix2 0 0) = v (ix2 0 0) + ∑ r, k0_pay64 (F := Ideal) T vh ex es (ix2 0 (gl 0 r)) := by
  unfold k0_pay66
  generalize k0_pay64 (F := Ideal) T vh ex es = A
  pointwise []
  exact congrArg _ (Finset.sum_congr rfl fun r _ => congrArg A (congrArg (ix2 0) (Fin.ext (by simp [gl]))))

theorem copy_at (v : FVec Ideal S128x256 .f32) (r : Fin 128) (e : Fin 256) : k0_pay148 (F := Ideal) v (ix2 r e) = v (ix2 r e) := by
  pointwise [k0_pay148]

/-- What the accumulators start from. -/
theorem zero_at : (∀ a b, k0_pay140 (F := Ideal) (ix2 a b) = ((0 : ℝ) : EReal)) ∧ (∀ a b, k0_pay141 (F := Ideal) (ix2 a b) = ((0 : ℝ) : EReal))
    ∧ (∀ a b, k0_pay142 (F := Ideal) (ix2 a b) = ((0 : ℝ) : EReal)) ∧ (∀ a b, k0_pay143 (F := Ideal) (ix2 a b) = ((0 : ℝ) : EReal))
    ∧ (∀ k a b, k0_pay144 (F := Ideal) (ix3 k a b) = ((0 : ℝ) : EReal)) ∧ ∀ a b, k0_pay145 (F := Ideal) (ix2 a b) = ((0 : ℝ) : EReal) := by
  refine ⟨?_, ?_, ?_, ?_, ?_, ?_⟩ <;> intros <;>
    pointwise [k0_pay140, k0_pay141, k0_pay142, k0_pay143, k0_pay144, k0_pay145] <;> rfl

end Sums

/-- The gradients of a block's 256 keys and values: two heads of keys, then two heads of values. -/
def kvs (I : Data) (n : Fin 16) (s : Fin 256) (e : Fin 256) : ℝ :=
  if h : e.val < 128 then dkp I n ⟨e.val / 64, by omega⟩ s ⟨e.val % 64, by omega⟩
  else dvp I n ⟨(e.val - 128) / 64, by omega⟩ s ⟨(e.val - 128) % 64, by omega⟩

theorem kvs_k {I : Data} {n : Fin 16} (h : Fin 2) {o : ℕ} {s : Fin 256} {e : Fin 256} (d : Fin 64) (ho : o = 64 * h.val) (he : e.val = o + d.val) :
    kvs I n s e = dkp I n h s d := by
  have hh := h.isLt
  unfold kvs
  rw [dif_pos (by omega)]
  congr 1 <;> exact Fin.ext (by dsimp only; omega)

theorem kvs_v {I : Data} {n : Fin 16} (h : Fin 2) {o : ℕ} {s : Fin 256} {e : Fin 256} (d : Fin 64) (ho : o = 128 + 64 * h.val) (he : e.val = o + d.val) :
    kvs I n s e = dvp I n h s d := by
  have hh := h.isLt
  unfold kvs
  rw [dif_neg (by omega)]
  congr 1 <;> exact Fin.ext (by dsimp only; omega)

variable (c : Dev nD) (i : grid0.Coords)
  (arg1 : Memref sig .tc .vmem S128x5376 .f32) (harg1 : arg1.IsWhole)
  (arg2 : Memref sig .tc .vmem S128x256 .f32) (harg2 : arg2.IsWhole)
  (arg3 : Memref sig .tc .vmem S128x2048 .f32) (harg3 : arg3.IsWhole)
  (arg4 : Memref sig .tc .vmem S128x1024 .f32) (harg4 : arg4.IsWhole)
  (arg5 : Memref sig .tc .vmem S1x16 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S8x128x128 .f32) (harg8 : arg8.IsWhole)
  (arg9 : Memref sig .tc .vmem S128x8 .f32) (harg9 : arg9.IsWhole)
  (arg10 : Memref sig .tc .vmem S128x5376 .bf16) (harg10 : arg10.IsWhole)
  (arg11 : Memref sig .tc .vmem S1x16 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S8x128 .f32) (harg15 : arg15.IsWhole)
  (arg16 : Memref sig .tc .vmem S128x5376 .bf16) (harg16 : arg16.IsWhole)
  (arg17 : Memref sig .tc .vmem S256x256 .f32) (harg17 : arg17.IsWhole)
  (arg18 : Memref sig .tc .vmem S128x256 .f32) (harg18 : arg18.IsWhole)
  (arg19 : Memref sig .tc .vmem S1x128 .f32) (harg19 : arg19.IsWhole)
  (arg20 : Memref sig .tc .vmem S128x128 .f32) (harg20 : arg20.IsWhole)

section Back

variable {R C A o0 o1 p0 s0 s1 t0 : ℕ} {e : EltTy}

/-- A tile of a matrix whose contents are known. -/
theorem rd2 (m : Memref sig .tc .vmem ⟨2, ![R, C]⟩ e) (h : m.IsWhole) (B : (⟨2, ![R, C]⟩ : Shape).Idx → Elt Ideal e)
    {inb : ∀ a, (![o0, o1] : Fin 2 → ℕ) a + (![s0, s1] : Fin 2 → ℕ) a ≤ (⟨2, ![R, C]⟩ : Shape).size a} (a : Fin s0) (b : Fin s1) {g : Elt Ideal e}
    (hg : ∀ (r : Fin R) (c : Fin C), r.val = o0 + a.val → c.val = o1 + b.val → B (ix2 r c) = g) :
    View.readAt (Elt Ideal) m.view (Rect.unit (s := ⟨2, ![R, C]⟩) ![o0, o1] ![s0, s1] inb).toLoadRect (h.unread B) (ix2 a b) = g := by
  have h0 : o0 + s0 ≤ R := inb 0
  have h1 : o1 + s1 ≤ C := inb 1
  have e : ((Rect.unit (s := ⟨2, ![R, C]⟩) ![o0, o1] ![s0, s1] inb).toLoadRect.idx (ix2 a b) : (⟨2, ![R, C]⟩ : Shape).Idx)
      = ix2 (⟨o0 + a.val, by omega⟩ : Fin R) (⟨o1 + b.val, by omega⟩ : Fin C) :=
    (eq_ix2 _).trans (congrArg₂ ix2 (Fin.ext (by show o0 + 1 * a.val = _; dsimp only; omega)) (Fin.ext (by show o1 + 1 * b.val = _; dsimp only; omega)))
  rw [View.readAt_eq_ld, h.read_unread]
  exact (congrArg B e).trans (hg _ _ rfl rfl)

theorem rd3 (m : Memref sig .tc .vmem ⟨3, ![A, R, C]⟩ e) (h : m.IsWhole) (B : (⟨3, ![A, R, C]⟩ : Shape).Idx → Elt Ideal e)
    {inb : ∀ a, (![p0, o0, o1] : Fin 3 → ℕ) a + (![t0, s0, s1] : Fin 3 → ℕ) a ≤ (⟨3, ![A, R, C]⟩ : Shape).size a}
    (k : Fin t0) (a : Fin s0) (b : Fin s1) {g : Elt Ideal e}
    (hg : ∀ (q : Fin A) (r : Fin R) (c : Fin C), q.val = p0 + k.val → r.val = o0 + a.val → c.val = o1 + b.val → B (ix3 q r c) = g) :
    View.readAt (Elt Ideal) m.view (Rect.unit (s := ⟨3, ![A, R, C]⟩) ![p0, o0, o1] ![t0, s0, s1] inb).toLoadRect (h.unread B) (ix3 k a b) = g := by
  have hp : p0 + t0 ≤ A := inb 0
  have h0 : o0 + s0 ≤ R := inb 1
  have h1 : o1 + s1 ≤ C := inb 2
  have e : ((Rect.unit (s := ⟨3, ![A, R, C]⟩) ![p0, o0, o1] ![t0, s0, s1] inb).toLoadRect.idx (ix3 k a b) : (⟨3, ![A, R, C]⟩ : Shape).Idx)
      = ix3 (⟨p0 + k.val, by omega⟩ : Fin A) (⟨o0 + a.val, by omega⟩ : Fin R) (⟨o1 + b.val, by omega⟩ : Fin C) := by
    funext j
    refine Fin.ext ?_
    match j with
    | ⟨0, _⟩ =>
      show p0 + 1 * k.val = p0 + k.val
      omega
    | ⟨1, _⟩ =>
      show o0 + 1 * a.val = o0 + a.val
      omega
    | ⟨2, _⟩ =>
      show o1 + 1 * b.val = o1 + b.val
      omega
  rw [View.readAt_eq_ld, h.read_unread]
  exact (congrArg B e).trans (hg _ _ _ rfl rfl rfl)

end Back

variable {I : Data} {n : Fin 16} {x : Ins Ideal} (H : Blk I n x) (hi : (i 0).val = n.val)
include H hi

/-- The gradients of the block's keys and values, read back. -/
theorem kv_at {o : ℕ} {inb : ∀ a, (![o, 0] : Fin 2 → ℕ) a + (![128, 256] : Fin 2 → ℕ) a ≤ (⟨2, ![256, 256]⟩ : Shape).size a}
    (a : Fin 128) (b : Fin 256) (s : Fin 256) (hs : s.val = o + a.val) :
    View.readCov arg17.view (run.sl.H17_4_1 c i arg1 harg1 arg2 harg2 arg3 harg3 arg5 harg5 x) (Rect.unit (s := ⟨2, ![256, 256]⟩) ![o, 0] ![128, 256] inb).toLoadRect (ix2 a b)
      = (kvs I n s b : EReal) := by
  have h0 := half0 c i arg1 harg1 arg2 harg2 arg3 harg3 arg5 harg5 H hi
  have h1 := half1 c i arg1 harg1 arg2 harg2 arg3 harg3 arg5 harg5 H hi
  refine readCov2 _ a b fun r c' er ec => ?_
  obtain rfl : s = r := Fin.ext (by omega)
  obtain rfl : c' = b := Fin.ext (by omega)
  repeat' refine over_unit2 (R := 256) (C := 256) (fun a b e0 e1 => ?_) fun m0 => ?_
  · obtain rfl : s = a := Fin.ext (by omega)
    rw [kvs_v 1 b rfl e1]
    exact MixHalf.dvt_at h1 s b
  · obtain rfl : s = a := Fin.ext (by omega)
    rw [kvs_k 1 b rfl e1]
    exact MixHalf.dkt_at h1 s b
  · obtain rfl : s = a := Fin.ext (by omega)
    rw [kvs_v 0 b rfl e1]
    exact MixHalf.dvt_at h0 s b
  · obtain rfl : s = a := Fin.ext (by omega)
    rw [kvs_k 0 b rfl e1]
    exact MixHalf.dkt_at h0 s b
  · exfalso; omega

/-- What is kept for the next point: the gradients of this block's own keys and values. -/
theorem carry_at (κ : Case) (hκ : κ.At i) (hk : κ ≠ .last) (p : St Ideal) (r : Fin 128) (e : Fin 256) :
    over p.carry (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      κ hκ x p).1.carry (ix2 r e) = (kvs I n ⟨128 + r.val, by omega⟩ e : EReal) := by
  cases κ
  case last => exact absurd rfl hk
  all_goals
    dsimp only [run]
    refine over_unit2 (R := 128) (C := 256) (fun a b e0 e1 => ?_) fun m0 => ?_
    · obtain rfl : r = a := Fin.ext (by omega)
      obtain rfl : e = b := Fin.ext (by omega)
      refine (copy_at _ r e).trans (kv_at c i arg1 harg1 arg2 harg2 arg3 harg3 arg5 harg5 arg17 H hi (inb := inb_S256x256_S128x256_128_0) r e _ rfl)
    · exfalso; omega

/-- A sink's gradient, with this block's queries' added. -/
theorem sink0_hit (g : Fin 8) {y : ℝ} {v w : EReal} {u : Fin 128} (hu : u.val = g.val)
    (ew : w = v + ∑ r, run.sl.r_99 c i arg1 harg1 arg2 harg2 arg3 harg3 arg5 harg5 x (ix2 0 (gl g r))) (ev : v = (y : EReal)) :
    w = ((y + ∑ r, dsn I n ⟨u.val / 8 % 2, Nat.mod_lt _ (by decide)⟩ ⟨u.val % 8, Nat.mod_lt _ (by decide)⟩ r : ℝ) : EReal) := by
  have h0 := half0 c i arg1 harg1 arg2 harg2 arg3 harg3 arg5 harg5 H hi
  have e : ∀ a, run.sl.r_99 c i arg1 harg1 arg2 harg2 arg3 harg3 arg5 harg5 x (ix2 0 a) = (dsn I n 0 (grp a) (sub a) : EReal) := fun a => MixHalf.dskt_at h0 a
  simp only [ew, ev, e, grp_gl, sub_gl, coe_sum, ← EReal.coe_add]
  refine congrArg Real.toEReal (congrArg _ (Finset.sum_congr rfl fun r _ => ?_))
  congr 1 <;> exact Fin.ext (by simp only [Fin.isValue, Fin.val_zero]; omega)

theorem sink1_hit (g : Fin 8) {y : ℝ} {v w : EReal} {u : Fin 128} (hu : u.val = 8 + g.val)
    (ew : w = v + ∑ r, run.sl.r_119 c i arg1 harg1 arg2 harg2 arg3 harg3 arg5 harg5 x (ix2 0 (gl g r))) (ev : v = (y : EReal)) :
    w = ((y + ∑ r, dsn I n ⟨u.val / 8 % 2, Nat.mod_lt _ (by decide)⟩ ⟨u.val % 8, Nat.mod_lt _ (by decide)⟩ r : ℝ) : EReal) := by
  have h1 := half1 c i arg1 harg1 arg2 harg2 arg3 harg3 arg5 harg5 H hi
  have e : ∀ a, run.sl.r_119 c i arg1 harg1 arg2 harg2 arg3 harg3 arg5 harg5 x (ix2 0 a) = (dsn I n 1 (grp a) (sub a) : EReal) := fun a => MixHalf.dskt_at h1 a
  simp only [ew, ev, e, grp_gl, sub_gl, coe_sum, ← EReal.coe_add]
  refine congrArg Real.toEReal (congrArg _ (Finset.sum_congr rfl fun r _ => ?_))
  congr 1 <;> exact Fin.ext (by simp only [Fin.isValue, Fin.val_one]; omega)

set_option maxHeartbeats 1600000 in
/-- The sinks' gradients so far. -/
theorem sink_at (κ : Case) (hκ : κ.At i) (hk : κ ≠ .last) (p : St Ideal) (u : Fin 128) (hu : u.val < 16) (y : ℝ) (hy0 : κ = .first → y = 0)
    (hy : κ ≠ .first → p.sacc (ix2 0 u) = (y : EReal)) :
    over p.sacc (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      κ hκ x p).1.sacc (ix2 0 u)
      = ((y + ∑ r, dsn I n ⟨u.val / 8 % 2, Nat.mod_lt _ (by decide)⟩ ⟨u.val % 8, Nat.mod_lt _ (by decide)⟩ r : ℝ) : EReal) := by
  have t := fun A v => add_at A v
  have t' := fun A v => add_at' A v
  have f := fun q m v => add_first q m v
  have f' := fun T vh ex es v => add_first' T vh ex es v
  cases κ
  case last => exact absurd rfl hk
  all_goals
    first | obtain rfl := hy0 rfl | have hy := hy fun h => by cases h
    dsimp only [run]
    refine over_cell (fun e1 => sink1_hit c i arg1 harg1 arg2 harg2 arg3 harg3 arg5 harg5 H hi 7 e1 (t' _ _).2.2.2.2.2.2 ?_) fun m0 => ?_; rotate_left
    refine over_cell (fun e1 => sink1_hit c i arg1 harg1 arg2 harg2 arg3 harg3 arg5 harg5 H hi 6 e1 (t' _ _).2.2.2.2.2.1 ?_) fun m0 => ?_; rotate_left
    refine over_cell (fun e1 => sink1_hit c i arg1 harg1 arg2 harg2 arg3 harg3 arg5 harg5 H hi 5 e1 (t' _ _).2.2.2.2.1 ?_) fun m0 => ?_; rotate_left
    refine over_cell (fun e1 => sink1_hit c i arg1 harg1 arg2 harg2 arg3 harg3 arg5 harg5 H hi 4 e1 (t' _ _).2.2.2.1 ?_) fun m0 => ?_; rotate_left
    refine over_cell (fun e1 => sink1_hit c i arg1 harg1 arg2 harg2 arg3 harg3 arg5 harg5 H hi 3 e1 (t' _ _).2.2.1 ?_) fun m0 => ?_; rotate_left
    refine over_cell (fun e1 => sink1_hit c i arg1 harg1 arg2 harg2 arg3 harg3 arg5 harg5 H hi 2 e1 (t' _ _).2.1 ?_) fun m0 => ?_; rotate_left
    refine over_cell (fun e1 => sink1_hit c i arg1 harg1 arg2 harg2 arg3 harg3 arg5 harg5 H hi 1 e1 (t' _ _).1 ?_) fun m0 => ?_; rotate_left
    refine over_cell (fun e1 => sink1_hit c i arg1 harg1 arg2 harg2 arg3 harg3 arg5 harg5 H hi 0 e1 (f' _ _ _ _ _) ?_) fun m0 => ?_; rotate_left
    refine over_cell (fun e1 => sink0_hit c i arg1 harg1 arg2 harg2 arg3 harg3 arg5 harg5 H hi 7 e1 (t _ _).2.2.2.2.2 ?_) fun m0 => ?_; rotate_left
    refine over_cell (fun e1 => sink0_hit c i arg1 harg1 arg2 harg2 arg3 harg3 arg5 harg5 H hi 6 e1 (t _ _).2.2.2.2.1 ?_) fun m0 => ?_; rotate_left
    refine over_cell (fun e1 => sink0_hit c i arg1 harg1 arg2 harg2 arg3 harg3 arg5 harg5 H hi 5 e1 (t _ _).2.2.2.1 ?_) fun m0 => ?_; rotate_left
    refine over_cell (fun e1 => sink0_hit c i arg1 harg1 arg2 harg2 arg3 harg3 arg5 harg5 H hi 4 e1 (t _ _).2.2.1 ?_) fun m0 => ?_; rotate_left
    refine over_cell (fun e1 => sink0_hit c i arg1 harg1 arg2 harg2 arg3 harg3 arg5 harg5 H hi 3 e1 (t _ _).2.1 ?_) fun m0 => ?_; rotate_left
    refine over_cell (fun e1 => sink0_hit c i arg1 harg1 arg2 harg2 arg3 harg3 arg5 harg5 H hi 2 e1 (t _ _).1 ?_) fun m0 => ?_; rotate_left
    refine over_cell (fun e1 => sink0_hit c i arg1 harg1 arg2 harg2 arg3 harg3 arg5 harg5 H hi 1 e1 (f _ _ _).2 ?_) fun m0 => ?_; rotate_left
    refine over_cell (fun e1 => sink0_hit c i arg1 harg1 arg2 harg2 arg3 harg3 arg5 harg5 H hi 0 e1 (f _ _ _).1 ?_) fun m0 => ?_; rotate_left
    · exfalso; omega
  all_goals
    first
    | refine rd2 arg19 harg19 p.sacc 0 0 fun r c' er ec => ?_
      obtain rfl : r = 0 := Subsingleton.elim _ _
      obtain rfl : c' = u := Fin.ext (by rw [ec]; simpa using e1.symm)
      exact hy
    | refine readCov2 arg19.view 0 0 fun r c' er ec => ?_
      obtain rfl : r = 0 := Subsingleton.elim _ _
      have ec' : c'.val = u.val := by rw [ec]; simpa using e1.symm
      repeat' refine over_cell (fun e1 => ?_) fun m0 => ?_
      rotate_right
      · refine over_unit2 (fun a b e0 e1 => ?_) fun m0 => ?_
        · exact zero_at.1 a b
        · exfalso; omega
      all_goals exfalso; omega

set_option maxHeartbeats 1600000 in
/-- The gradients of the shifts so far. -/
theorem shift_at (κ : Case) (hκ : κ.At i) (hk : κ ≠ .last) (p : St Ideal) (r : Fin 128) (u : Fin 128) (hu : u.val < 8) (y : ℝ) (hy0 : κ = .first → y = 0)
    (hy : κ ≠ .first → p.bacc (ix2 r u) = (y : EReal)) :
    over p.bacc (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      κ hκ x p).1.bacc (ix2 r u)
      = ((y + ∑ k, dmixed I (tok n r) (gl ⟨u.val % 8, Nat.mod_lt _ (by decide)⟩ k) : ℝ) : EReal) := by
  have t : ∀ (g : Fin 8) {v : Vec Ideal S128x1 .f32} {w : EReal} {a : Fin 128} {b : Fin 1}, r.val = 0 + a.val → u.val = g.val + b.val →
      w = MixGateK.dbn (part arg1 harg1 x.z 2304 inb_S128x5376_S128x1024_0_2304) (part arg1 harg1 x.z 4352 inb_S128x5376_S128x1024_0_4352)
        (dpart arg3 harg3 x.dcat 1024 inb_S128x2048_S128x1024_0_1024) v g (ix2 a b) → v (ix2 a b) = (y : EReal) →
      w = ((y + ∑ k, dmixed I (tok n r) (gl ⟨u.val % 8, Nat.mod_lt _ (by decide)⟩ k) : ℝ) : EReal) := by
    intro g v w a b e0 e1 hw hv
    obtain rfl : r = a := Fin.ext (by omega)
    obtain rfl : b = 0 := Subsingleton.elim _ _
    obtain rfl : g = ⟨u.val % 8, Nat.mod_lt _ (by decide)⟩ := Fin.ext (by simp at e1 ⊢; omega)
    exact hw.trans (MixGateK.dbn_at (gate arg1 harg1 arg3 harg3 arg6 harg6 arg7 harg7 arg8 harg8 arg9 harg9 H) v _ r hv)
  cases κ
  case last => exact absurd rfl hk
  all_goals
    first | obtain rfl := hy0 rfl | have hy := hy fun h => by cases h
    dsimp only [run]
    refine over_unit2 (R := 128) (C := 128) (fun a b e0 e1 => t 7 e0 e1 rfl ?_) fun m0 => ?_; rotate_left
    refine over_unit2 (R := 128) (C := 128) (fun a b e0 e1 => t 6 e0 e1 rfl ?_) fun m0 => ?_; rotate_left
    refine over_unit2 (R := 128) (C := 128) (fun a b e0 e1 => t 5 e0 e1 rfl ?_) fun m0 => ?_; rotate_left
    refine over_unit2 (R := 128) (C := 128) (fun a b e0 e1 => t 4 e0 e1 rfl ?_) fun m0 => ?_; rotate_left
    refine over_unit2 (R := 128) (C := 128) (fun a b e0 e1 => t 3 e0 e1 rfl ?_) fun m0 => ?_; rotate_left
    refine over_unit2 (R := 128) (C := 128) (fun a b e0 e1 => t 2 e0 e1 rfl ?_) fun m0 => ?_; rotate_left
    refine over_unit2 (R := 128) (C := 128) (fun a b e0 e1 => t 1 e0 e1 rfl ?_) fun m0 => ?_; rotate_left
    refine over_unit2 (R := 128) (C := 128) (fun a b e0 e1 => t 0 e0 e1 rfl ?_) fun m0 => ?_; rotate_left
    · exfalso; omega
  all_goals
    first
    | refine rd2 arg20 harg20 p.bacc a b fun r' c' er ec => ?_
      obtain rfl : r' = r := Fin.ext (by omega)
      obtain rfl : c' = u := Fin.ext (by omega)
      exact hy
    | refine readCov2 arg20.view a b fun r' c' er ec => ?_
      repeat' refine over_unit2 (R := 128) (C := 128) (fun a' b' e0' e1' => ?_) fun m0 => ?_
      all_goals first | exact zero_at.2.1 _ _ | (exfalso; omega)

set_option maxHeartbeats 1600000 in
/-- The gradients of the weights so far. -/
theorem weight_at (κ : Case) (hκ : κ.At i) (hk : κ ≠ .last) (p : St Ideal) (g : Fin 8) (r k : Fin 128) (y : ℝ) (hy0 : κ = .first → y = 0)
    (hy : κ ≠ .first → p.dw (ix3 g r k) = (y : EReal)) :
    over p.dw (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      κ hκ x p).1.dw (ix3 g r k) = ((y + dwp I n g r k : ℝ) : EReal) := by
  have t : ∀ (g' : Fin 8) {v : Vec Ideal S1x128x128 .f32} {w : EReal} {q : Fin 1} {a b : Fin 128}, g.val = g'.val + q.val → r.val = 0 + a.val → k.val = 0 + b.val →
      w = MixGateK.dwn (part arg1 harg1 x.z 3328 inb_S128x5376_S128x1024_0_3328) (part arg1 harg1 x.z 2304 inb_S128x5376_S128x1024_0_2304)
        (part arg1 harg1 x.z 4352 inb_S128x5376_S128x1024_0_4352) (dpart arg3 harg3 x.dcat 1024 inb_S128x2048_S128x1024_0_1024)
        (rd arg6 harg6 x.lg (Rect.unit ![0, 0] S1x1024.size inb_S1x1024_S1x1024_0_0)) (rd arg7 harg7 x.lb (Rect.unit ![0, 0] S1x1024.size inb_S1x1024_S1x1024_0_0))
        v g' (ix3 q a b) → v (ix3 q a b) = (y : EReal) → w = ((y + dwp I n g r k : ℝ) : EReal) := by
    intro g' v w q a b e e0 e1 hw hv
    obtain rfl : r = a := Fin.ext (by omega)
    obtain rfl : k = b := Fin.ext (by omega)
    obtain rfl : q = 0 := Subsingleton.elim _ _
    obtain rfl : g' = g := Fin.ext (by simp at e; omega)
    exact hw.trans (MixGateK.dwn_at (gate arg1 harg1 arg3 harg3 arg6 harg6 arg7 harg7 arg8 harg8 arg9 harg9 H) v _ r k hv)
  cases κ
  case last => exact absurd rfl hk
  all_goals
    first | obtain rfl := hy0 rfl | have hy := hy fun h => by cases h
    dsimp only [run]
    refine over_unit3 (A := 8) (R := 128) (C := 128) (fun q a b e e0 e1 => t 7 e e0 e1 rfl ?_) fun m0 => ?_; rotate_left
    refine over_unit3 (A := 8) (R := 128) (C := 128) (fun q a b e e0 e1 => t 6 e e0 e1 rfl ?_) fun m0 => ?_; rotate_left
    refine over_unit3 (A := 8) (R := 128) (C := 128) (fun q a b e e0 e1 => t 5 e e0 e1 rfl ?_) fun m0 => ?_; rotate_left
    refine over_unit3 (A := 8) (R := 128) (C := 128) (fun q a b e e0 e1 => t 4 e e0 e1 rfl ?_) fun m0 => ?_; rotate_left
    refine over_unit3 (A := 8) (R := 128) (C := 128) (fun q a b e e0 e1 => t 3 e e0 e1 rfl ?_) fun m0 => ?_; rotate_left
    refine over_unit3 (A := 8) (R := 128) (C := 128) (fun q a b e e0 e1 => t 2 e e0 e1 rfl ?_) fun m0 => ?_; rotate_left
    refine over_unit3 (A := 8) (R := 128) (C := 128) (fun q a b e e0 e1 => t 1 e e0 e1 rfl ?_) fun m0 => ?_; rotate_left
    refine over_unit3 (A := 8) (R := 128) (C := 128) (fun q a b e e0 e1 => t 0 e e0 e1 rfl ?_) fun m0 => ?_; rotate_left
    · exfalso; omega
  all_goals
    first
    | refine rd3 arg14 harg14 p.dw q a b fun q' r' c' eq er ec => ?_
      obtain rfl : q' = g := Fin.ext (by omega)
      obtain rfl : r' = r := Fin.ext (by omega)
      obtain rfl : c' = k := Fin.ext (by omega)
      exact hy
    | refine readCov3 arg14.view q a b fun q' r' c' eq er ec => ?_
      repeat' refine over_unit3 (A := 8) (R := 128) (C := 128) (fun k' a' b' e' e0' e1' => ?_) fun m0 => ?_
      all_goals first | exact zero_at.2.2.2.2.1 _ _ _ | (exfalso; omega)

/-- The gradients of the normalisation's scale so far. -/
theorem scale_at (κ : Case) (hκ : κ.At i) (hk : κ ≠ .last) (p : St Ideal) (l : Fin 1024) (y : ℝ) (hy0 : κ = .first → y = 0)
    (hy : κ ≠ .first → p.dlg (ix2 0 l) = (y : EReal)) :
    over p.dlg (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      κ hκ x p).1.dlg (ix2 0 l) = ((y + ∑ r, dvn I (tok n r) l * LnRow.hat (vs I (tok n r)) l : ℝ) : EReal) := by
  cases κ
  case last => exact absurd rfl hk
  all_goals
    first | obtain rfl := hy0 rfl | have hy := hy fun h => by cases h
    dsimp only [run]
    refine over_unit2 (R := 1) (C := 1024) (fun a b e0 e1 => ?_) fun m0 => ?_
    rotate_left
    · exfalso; omega
    obtain rfl : a = 0 := Subsingleton.elim _ _
    obtain rfl : l = b := Fin.ext (by omega)
    refine MixGateK.dlg_at (gate arg1 harg1 arg3 harg3 arg6 harg6 arg7 harg7 arg8 harg8 arg9 harg9 H) _ l ?_
  · refine readCov2 arg12.view 0 l fun r' c' er ec => ?_
    repeat' refine over_unit2 (R := 1) (C := 1024) (fun a' b' e0' e1' => ?_) fun m0 => ?_
    all_goals first | exact zero_at.2.2.1 _ _ | (exfalso; omega)
  · refine rd2 arg12 harg12 p.dlg 0 l fun r' c' er ec => ?_
    obtain rfl : r' = 0 := Subsingleton.elim _ _
    obtain rfl : c' = l := Fin.ext (by omega)
    exact hy

/-- The gradients of the normalisation's shift so far. -/
theorem offset_at (κ : Case) (hκ : κ.At i) (hk : κ ≠ .last) (p : St Ideal) (l : Fin 1024) (y : ℝ) (hy0 : κ = .first → y = 0)
    (hy : κ ≠ .first → p.dlb (ix2 0 l) = (y : EReal)) :
    over p.dlb (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      κ hκ x p).1.dlb (ix2 0 l) = ((y + ∑ r, dvn I (tok n r) l : ℝ) : EReal) := by
  cases κ
  case last => exact absurd rfl hk
  all_goals
    first | obtain rfl := hy0 rfl | have hy := hy fun h => by cases h
    dsimp only [run]
    refine over_unit2 (R := 1) (C := 1024) (fun a b e0 e1 => ?_) fun m0 => ?_
    rotate_left
    · exfalso; omega
    obtain rfl : a = 0 := Subsingleton.elim _ _
    obtain rfl : l = b := Fin.ext (by omega)
    refine MixGateK.dlb_at (gate arg1 harg1 arg3 harg3 arg6 harg6 arg7 harg7 arg8 harg8 arg9 harg9 H) _ l ?_
  · refine readCov2 arg13.view 0 l fun r' c' er ec => ?_
    repeat' refine over_unit2 (R := 1) (C := 1024) (fun a' b' e0' e1' => ?_) fun m0 => ?_
    all_goals first | exact zero_at.2.2.2.1 _ _ | (exfalso; omega)
  · refine rd2 arg13 harg13 p.dlb 0 l fun r' c' er ec => ?_
    obtain rfl : r' = 0 := Subsingleton.elim _ _
    obtain rfl : c' = l := Fin.ext (by omega)
    exact hy

end Cert.MixPoint

end
-- ==== Proof.MixLast.lean ====
/- What a point of the token mixer's gradient kernel stores of the block before it, and what the last point does. -/
module

public import proofs.«01_k».proof.Proof.MixAcc

@[expose] public section

set_option maxRecDepth 16384

noncomputable section

namespace Cert.MixPoint

open Cert.MixKernelIdeal Cert.MixKernelIdeal.Gen Cert.MixKernelRun
open Idealize.ShloMosaic Idealize.ShloMosaic.TcCoe Idealize.ShloMosaic.Tactic
open Cert.Reals Cert.Attn Cert.MixSpec Cert.Tiles Cert.Over

theorem sum_two (a b : Vec Ideal S128x256 .f32) {u v : ℝ} (r : Fin 128) (e : Fin 256) (ha : a (ix2 r e) = (u : EReal)) (hb : b (ix2 r e) = (v : EReal)) :
    k0_pay147 (F := Ideal) a b (ix2 r e) = ((u + v : ℝ) : EReal) := by
  refine Eq.trans (b := a (ix2 r e) + b (ix2 r e)) rfl ?_
  rw [ha, hb, EReal.coe_add]

theorem turned (a : Vec Ideal S128x128 .f32) (g : Fin 8) (r : Fin 128) : k0_pay149 (F := Ideal) a (ix2 g r) = a (ix2 r ⟨g.val, by omega⟩) := by
  pointwise [k0_pay149]

variable (c : Dev nD) (i : grid0.Coords)
  (arg1 : Memref sig .tc .vmem S128x5376 .f32) (harg1 : arg1.IsWhole)
  (arg2 : Memref sig .tc .vmem S128x256 .f32) (harg2 : arg2.IsWhole)
  (arg3 : Memref sig .tc .vmem S128x2048 .f32) (harg3 : arg3.IsWhole)
  (arg4 : Memref sig .tc .vmem S128x1024 .f32) (harg4 : arg4.IsWhole)
  (arg5 : Memref sig .tc .vmem S1x16 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S8x128x128 .f32) (harg8 : arg8.IsWhole)
  (arg9 : Memref sig .tc .vmem S128x8 .f32) (harg9 : arg9.IsWhole)
  (arg10 : Memref sig .tc .vmem S128x5376 .bf16) (harg10 : arg10.IsWhole)
  (arg11 : Memref sig .tc .vmem S1x16 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S8x128x128 .f32) (harg14 : arg14.IsWhole)
  (arg15 : Memref sig .tc .vmem S8x128 .f32) (harg15 : arg15.IsWhole)
  (arg16 : Memref sig .tc .vmem S128x5376 .bf16) (harg16 : arg16.IsWhole)
  (arg17 : Memref sig .tc .vmem S256x256 .f32) (harg17 : arg17.IsWhole)
  (arg18 : Memref sig .tc .vmem S128x256 .f32) (harg18 : arg18.IsWhole)
  (arg19 : Memref sig .tc .vmem S1x128 .f32) (harg19 : arg19.IsWhole)
  (arg20 : Memref sig .tc .vmem S128x128 .f32) (harg20 : arg20.IsWhole)

section

/-- The lanes that the block's own point wrote. -/
theorem dz_own_between (hκ : Case.between.At i) (x : Ins Ideal) (p : St Ideal) (r : Fin 128) (l : Fin 5376) (hl : l.val < 1024 ∨ 1280 ≤ l.val) :
    View.canon (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      .between hκ x p).1.dz (ix2 r l) = p.pend (ix2 r l) := by
  rw [canon_eq_over]
  dsimp only [run]
  refine over_unit2 (R := 128) (C := 5376) (fun a b e0 e1 => ?_) fun m0 => ?_
  · exfalso; omega
  refine over_unit2 (R := 128) (C := 5376) (fun a b e0 e1 => ?_) fun m1 => ?_
  · exact rd2 arg16 harg16 p.pend a b fun r' c' h0 h1 => congrArg₂ (fun a b => p.pend (ix2 a b)) (Fin.ext (by omega)) (Fin.ext (by omega))
  refine over_unit2 (R := 128) (C := 5376) (fun a b e0 e1 => ?_) fun m2 => ?_
  · exact rd2 arg16 harg16 p.pend a b fun r' c' h0 h1 => congrArg₂ (fun a b => p.pend (ix2 a b)) (Fin.ext (by omega)) (Fin.ext (by omega))
  · exfalso; omega

theorem dz_own_last (hκ : Case.last.At i) (x : Ins Ideal) (p : St Ideal) (r : Fin 128) (l : Fin 5376) (hl : l.val < 1024 ∨ 1280 ≤ l.val) :
    View.canon (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      .last hκ x p).1.dz (ix2 r l) = p.pend (ix2 r l) := by
  rw [canon_eq_over]
  dsimp only [run]
  refine over_unit2 (R := 128) (C := 5376) (fun a b e0 e1 => ?_) fun m0 => ?_
  · exfalso; omega
  refine over_unit2 (R := 128) (C := 5376) (fun a b e0 e1 => ?_) fun m1 => ?_
  · exact rd2 arg16 harg16 p.pend a b fun r' c' h0 h1 => congrArg₂ (fun a b => p.pend (ix2 a b)) (Fin.ext (by omega)) (Fin.ext (by omega))
  refine over_unit2 (R := 128) (C := 5376) (fun a b e0 e1 => ?_) fun m2 => ?_
  · exact rd2 arg16 harg16 p.pend a b fun r' c' h0 h1 => congrArg₂ (fun a b => p.pend (ix2 a b)) (Fin.ext (by omega)) (Fin.ext (by omega))
  · exfalso; omega

/-- The lanes of the keys' and values' gradients: what was kept, and after the last block nothing more. -/
theorem dz_kv_last (hκ : Case.last.At i) (x : Ins Ideal) (p : St Ideal) (r : Fin 128) (l : Fin 5376) (e : Fin 256) (hl : l.val = 1024 + e.val)
    {u : ℝ} (hu : p.carry (ix2 r e) = (u : EReal)) :
    View.canon (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      .last hκ x p).1.dz (ix2 r l) = ((u + 0 : ℝ) : EReal) := by
  rw [canon_eq_over]
  dsimp only [run]
  refine over_unit2 (R := 128) (C := 5376) (fun a b e0 e1 => ?_) fun m0 => by exfalso; omega
  obtain rfl : r = a := Fin.ext (by omega)
  obtain rfl : e = b := Fin.ext (by omega)
  refine sum_two _ _ r e (rd2 arg18 harg18 p.carry r e fun r' c' h0 h1 => Eq.trans (congrArg₂ (fun a b => p.carry (ix2 a b)) (Fin.ext (by omega)) (Fin.ext (by omega))) hu) ?_
  refine readCov2 _ r e fun r' c' h0 h1 => ?_
  refine over_unit2 (R := 256) (C := 256) (fun a b e0 e1 => zero_at.2.2.2.2.2 _ _) fun m1 => by exfalso; omega

/-- The last point hands on what was added to: the sinks' gradients, -/
theorem sink_last (hκ : Case.last.At i) (x : Ins Ideal) (p : St Ideal) (u : Fin 16) :
    View.canon (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      .last hκ x p).1.dsink (ix2 0 u) = p.sacc (ix2 0 ⟨u.val, by omega⟩) := by
  rw [canon_eq_over]
  dsimp only [run]
  refine over_unit2 (R := 1) (C := 16) (fun a b e0 e1 => ?_) fun m0 => by exfalso; simp at m0
  exact rd2 arg19 harg19 p.sacc a b fun r' c' h0 h1 => congrArg₂ (fun a b => p.sacc (ix2 a b)) (Subsingleton.elim _ _) (Fin.ext (by show c'.val = u.val; omega))

/-- and the shifts', turned. -/
theorem shift_last (hκ : Case.last.At i) (x : Ins Ideal) (p : St Ideal) (g : Fin 8) (r : Fin 128) :
    View.canon (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      .last hκ x p).1.db (ix2 g r) = p.bacc (ix2 r ⟨g.val, by omega⟩) := by
  rw [canon_eq_over]
  dsimp only [run]
  refine over_unit2 (R := 8) (C := 128) (fun a b e0 e1 => ?_) fun m0 => by exfalso; omega
  obtain rfl : g = a := Fin.ext (by omega)
  obtain rfl : r = b := Fin.ext (by omega)
  refine (turned _ g r).trans ?_
  exact rd2 arg20 harg20 p.bacc r _ fun r' c' h0 h1 => congrArg₂ (fun a b => p.bacc (ix2 a b)) (Fin.ext (by omega)) (Fin.ext (by simp at h1; omega))

end

variable {I : Data} {n : Fin 16} {x : Ins Ideal} (H : Blk I n x) (hi : (i 0).val = n.val)
include H hi

/-- What was kept, and what this block adds. -/
theorem dz_kv_between (hκ : Case.between.At i) (p : St Ideal) (r : Fin 128) (l : Fin 5376) (e : Fin 256) (hl : l.val = 1024 + e.val)
    {u : ℝ} (hu : p.carry (ix2 r e) = (u : EReal)) :
    View.canon (run c i arg1 harg1 arg2 harg2 arg3 harg3 arg4 harg4 arg5 harg5 arg6 harg6 arg7 harg7 arg8 harg8 arg9 harg9
      arg10 harg10 arg11 harg11 arg12 harg12 arg13 harg13 arg14 harg14 arg15 harg15 arg16 harg16 arg17 harg17 arg18 harg18 arg19 harg19 arg20 harg20
      .between hκ x p).1.dz (ix2 r l) = ((u + kvs I n ⟨r.val, by omega⟩ e : ℝ) : EReal) := by
  rw [canon_eq_over]
  dsimp only [run]
  refine over_unit2 (R := 128) (C := 5376) (fun a b e0 e1 => ?_) fun m0 => by exfalso; omega
  obtain rfl : r = a := Fin.ext (by omega)
  obtain rfl : e = b := Fin.ext (by omega)
  refine sum_two _ _ r e (rd2 arg18 harg18 p.carry r e fun r' c' h0 h1 => Eq.trans (congrArg₂ (fun a b => p.carry (ix2 a b)) (Fin.ext (by omega)) (Fin.ext (by omega))) hu) ?_
  exact kv_at c i arg1 harg1 arg2 harg2 arg3 harg3 arg5 harg5 arg17 H hi (inb := inb_S256x256_S128x256_0_0) r e _ (Nat.zero_add _).symm

end Cert.MixPoint

end
-- ==== Proof.MixState.lean ====
/- What the token mixer's gradient kernel holds between its points, and what it leaves in its result arrays, on real arguments. -/
module

public import proofs.«01_k».proof.Proof.MixBlocks
public import proofs.«01_k».proof.Proof.MixLast

@[expose] public section

set_option maxRecDepth 16384

noncomputable section

namespace Cert.MixState

open Cert.MixKernelIdeal Cert.MixKernelIdeal.Gen Cert.MixKernelRun Idealize.ShloMosaic Idealize.ShloMosaic.TcCoe Idealize.SL.Sem
open Idealize.ShloMosaic.Pipeline (Dat)
open Cert.Reals Cert.MixSpec Cert.Over Cert.MixPoint Cert.MixBlocks

/-! ## Sums over the blocks done -/

/-- The sum over the first `n` blocks. -/
def upto (f : Fin 16 → ℝ) (n : ℕ) : ℝ := ∑ k : Fin 16, if k.val < n then f k else 0

theorem upto_zero (f : Fin 16 → ℝ) : upto f 0 = 0 := Finset.sum_eq_zero fun k _ => if_neg (Nat.not_lt_zero _)

theorem upto_succ (f : Fin 16 → ℝ) (n : Fin 16) : upto f (n.val + 1) = upto f n.val + f n := by
  unfold upto
  rw [← Finset.sum_ite_eq Finset.univ n f |>.trans (if_pos (Finset.mem_univ n)), ← Finset.sum_add_distrib]
  refine Finset.sum_congr rfl fun k _ => ?_
  by_cases h : k.val < n.val
  · rw [if_pos h, if_pos (by omega), if_neg (fun e => by subst e; omega), add_zero]
  · by_cases h' : n = k
    · subst h'; rw [if_neg h, if_pos (by omega), if_pos rfl, zero_add]
    · rw [if_neg h, if_neg (fun e => h' (Fin.ext (by omega))), if_neg h', add_zero]

theorem upto_all (f : Fin 16 → ℝ) : upto f 16 = ∑ k, f k := Finset.sum_congr rfl fun k _ => if_pos k.isLt

/-- A block's gradients of keys and values: what it adds itself, and what the next one does. -/
theorem dz_kv {I : Data} (q : Fin 16) (r : Fin 128) (l : Fin 5376) (e : Fin 256) (hl : l.val = 1024 + e.val) :
    dz I (tok q r) l = kvs I q ⟨128 + r.val, by omega⟩ e + if h : q.val + 1 < 16 then kvs I ⟨q.val + 1, h⟩ ⟨r.val, by omega⟩ e else 0 := by
  obtain ⟨e, he⟩ := e
  obtain ⟨l, hl'⟩ := l
  dsimp only at hl
  subst hl
  unfold dz
  rw [dif_neg (by dsimp only; omega), blk_tok, row_tok]
  simp only [Nat.add_sub_cancel_left]
  by_cases h : e < 128
  · rw [dif_pos h]
    unfold dk ofNext kvs
    simp only [dif_pos h]
  · rw [dif_neg h, dif_pos (by omega)]
    unfold dv ofNext kvs
    simp only [dif_neg h]

variable {m : (ℓ : Loc nD τ sig) → Buf (Elt Ideal) ℓ} {c : Dev nD} {I : Data}

/-! ## Between the points -/

/-- What is held once block `q` is done. -/
structure Done (I : Data) (q : Fin 16) (p : St Ideal) : Prop where
  pend : ∀ (r : Fin 128) (l : Fin 5376), l.val < 1024 ∨ 1280 ≤ l.val → p.pend (ix2 r l) = (dz I (tok q r) l : EReal)
  carry : ∀ (r : Fin 128) (e : Fin 256), p.carry (ix2 r e) = (kvs I q ⟨128 + r.val, by omega⟩ e : EReal)
  sacc : ∀ u : Fin 128, u.val < 16 → p.sacc (ix2 0 u)
    = (upto (fun n => ∑ r, dsn I n ⟨u.val / 8 % 2, Nat.mod_lt _ (by decide)⟩ ⟨u.val % 8, Nat.mod_lt _ (by decide)⟩ r) (q.val + 1) : EReal)
  bacc : ∀ r u : Fin 128, u.val < 8 → p.bacc (ix2 r u)
    = (upto (fun n => ∑ k, dmixed I (tok n r) (gl ⟨u.val % 8, Nat.mod_lt _ (by decide)⟩ k)) (q.val + 1) : EReal)
  dw : ∀ (g : Fin 8) (r k : Fin 128), p.dw (ix3 g r k) = (upto (fun n => dwp I n g r k) (q.val + 1) : EReal)
  dlg : ∀ l : Fin 1024, p.dlg (ix2 0 l) = (upto (fun n => ∑ r, dvn I (tok n r) l * LnRow.hat (vs I (tok n r)) l) (q.val + 1) : EReal)
  dlb : ∀ l : Fin 1024, p.dlb (ix2 0 l) = (upto (fun n => ∑ r, dvn I (tok n r) l) (q.val + 1) : EReal)

theorem kind_ne_last (t : Fin cfg0.N) (ht : t.val < 16) : kind t ≠ .last := by
  unfold kind
  split
  · nofun
  · nofun

theorem kind_first (t : Fin cfg0.N) (h : kind t = .first) : t.val = 0 := by
  unfold kind at h
  split at h
  · assumption
  · split at h <;> cases h

theorem kind_not_first (t : Fin cfg0.N) (h : kind t ≠ .first) : t.val ≠ 0 := fun e => h (by unfold kind; rw [if_pos e])

variable (H : Reads m c I) (HD : ReadsD m c I)
include H HD

/-- A point before the last one does its block. -/
theorem step (t : Fin cfg0.N) (ht : t.val < 16) (hp : ∀ q : Fin 16, q.val + 1 = t.val → Done I q (stateAt m c t.val)) :
    Done I ⟨t.val, ht⟩ (stateAt m c (t.val + 1)) := by
  have B := blocks t ht H HD
  have hk := kind_ne_last t ht
  have h0 : ∀ f : Fin 16 → ℝ, kind t = .first → upto f t.val = 0 := fun f h => by rw [kind_first t h]; exact upto_zero f
  have hq : kind t ≠ .first → ∃ q : Fin 16, q.val + 1 = t.val := fun h => ⟨⟨t.val - 1, by omega⟩, Nat.sub_add_cancel (Nat.pos_of_ne_zero (kind_not_first t h))⟩
  have hs : ∀ f : Fin 16 → ℝ, upto f t.val + f ⟨t.val, ht⟩ = upto f (t.val + 1) := fun f => (upto_succ f ⟨t.val, ht⟩).symm
  rw [stateAt_succ]
  refine ⟨fun r l hl => ?_, fun r e => ?_, fun u hu => ?_, fun r u hu => ?_, fun g r k => ?_, fun l => ?_, fun l => ?_⟩
  · exact pend_at c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
      B (coord t) (kind t) (kind_at t) hk (stateAt m c t.val) r l hl
  · exact carry_at c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
      B (coord t) (kind t) (kind_at t) hk (stateAt m c t.val) r e
  · refine (sink_at c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
      B (coord t) (kind t) (kind_at t) hk (stateAt m c t.val) u hu (upto _ t.val) (h0 _) fun h => ?_).trans
      (congrArg Real.toEReal (hs fun n => ∑ r, dsn I n ⟨u.val / 8 % 2, Nat.mod_lt _ (by decide)⟩ ⟨u.val % 8, Nat.mod_lt _ (by decide)⟩ r))
    obtain ⟨q, e⟩ := hq h
    rw [← e]
    exact (e ▸ hp q e).sacc u hu
  · refine (shift_at c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
      B (coord t) (kind t) (kind_at t) hk (stateAt m c t.val) r u hu (upto _ t.val) (h0 _) fun h => ?_).trans
      (congrArg Real.toEReal (hs fun n => ∑ k, dmixed I (tok n r) (gl ⟨u.val % 8, Nat.mod_lt _ (by decide)⟩ k)))
    obtain ⟨q, e⟩ := hq h
    rw [← e]
    exact (e ▸ hp q e).bacc r u hu
  · refine (weight_at c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
      B (coord t) (kind t) (kind_at t) hk (stateAt m c t.val) g r k (upto _ t.val) (h0 _) fun h => ?_).trans (congrArg Real.toEReal (hs fun n => dwp I n g r k))
    obtain ⟨q, e⟩ := hq h
    rw [← e]
    exact (e ▸ hp q e).dw g r k
  · refine (scale_at c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
      B (coord t) (kind t) (kind_at t) hk (stateAt m c t.val) l (upto _ t.val) (h0 _) fun h => ?_).trans
      (congrArg Real.toEReal (hs fun n => ∑ r, dvn I (tok n r) l * LnRow.hat (vs I (tok n r)) l))
    obtain ⟨q, e⟩ := hq h
    rw [← e]
    exact (e ▸ hp q e).dlg l
  · refine (offset_at c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
      B (coord t) (kind t) (kind_at t) hk (stateAt m c t.val) l (upto _ t.val) (h0 _) fun h => ?_).trans
      (congrArg Real.toEReal (hs fun n => ∑ r, dvn I (tok n r) l))
    obtain ⟨q, e⟩ := hq h
    rw [← e]
    exact (e ▸ hp q e).dlb l

theorem done (n : ℕ) : ∀ q : Fin 16, q.val + 1 = n → Done I q (stateAt m c n) := by
  induction n with
  | zero => exact fun q e => absurd e (Nat.succ_ne_zero _)
  | succ k ih =>
    intro q e
    have hk : k < 16 := by have := q.isLt; omega
    obtain rfl : q = ⟨k, hk⟩ := Fin.ext (by dsimp only; omega)
    exact step H HD ⟨k, by rw [show cfg0.N = 17 from N_0]; omega⟩ hk ih

/-! ## The results -/

/-- What point `t` writes of the block before it. -/
theorem dz_at (t : Fin cfg0.N) (q : Fin 16) (hq : q.val + 1 = t.val) (r : Fin 128) (l : Fin 5376) :
    View.canon (storesAt m c t).dz (ix2 r l) = (dz I (tok q r) l : EReal) := by
  have D := done H HD t.val q hq
  by_cases ht : t.val < 16
  · rw [storesAt_of m c t .between (by unfold kind; rw [if_neg (by omega), if_pos ht])]
    by_cases hl : l.val < 1024 ∨ 1280 ≤ l.val
    · exact (dz_own_between c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
        _ (ins m c t) (stateAt m c t.val) r l hl).trans (D.pend r l hl)
    · have hl' : l.val = 1024 + (⟨l.val - 1024, by omega⟩ : Fin 256).val := by dsimp only; omega
      refine (dz_kv_between c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
        (blocks t ht H HD) (coord t) _ (stateAt m c t.val) r l _ hl' (D.carry r _)).trans (congrArg Real.toEReal ?_)
      rw [dz_kv q r l _ hl', dif_pos (by omega)]
      exact congrArg (fun q => _ + kvs I q _ _) (Fin.ext hq.symm)
  · rw [storesAt_of m c t .last (by unfold kind; rw [if_neg (by omega), if_neg ht])]
    by_cases hl : l.val < 1024 ∨ 1280 ≤ l.val
    · exact (dz_own_last c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
        _ (ins m c t) (stateAt m c t.val) r l hl).trans (D.pend r l hl)
    · have hl' : l.val = 1024 + (⟨l.val - 1024, by omega⟩ : Fin 256).val := by dsimp only; omega
      refine (dz_kv_last c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
        _ (ins m c t) (stateAt m c t.val) r l _ hl' (D.carry r _)).trans (congrArg Real.toEReal ?_)
      rw [dz_kv q r l _ hl', dif_neg (by have := t.isLt; omega)]

theorem last_done (t : Fin cfg0.N) (ht : t.val = 16) : Done I 15 (stateAt m c t.val) := done H HD t.val 15 ht.symm

omit H HD in
theorem kind_last (t : Fin cfg0.N) (ht : t.val = 16) : kind t = .last := by unfold kind; rw [if_neg (by omega), if_neg (by omega)]

theorem dsink_at (t : Fin cfg0.N) (ht : t.val = 16) (u : Fin 16) :
    View.canon (storesAt m c t).dsink (ix2 0 u) = (dsink I ⟨u.val / 8, by omega⟩ ⟨u.val % 8, by omega⟩ : EReal) := by
  rw [storesAt_of m c t .last (kind_last t ht)]
  refine (sink_last c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
    _ (ins m c t) (stateAt m c t.val) u).trans (((last_done H HD t ht).sacc ⟨u.val, by omega⟩ u.isLt).trans (congrArg Real.toEReal ((upto_all _).trans ?_)))
  unfold dsink
  have e : (⟨u.val / 8 % 2, Nat.mod_lt _ (by decide)⟩ : Fin 2) = ⟨u.val / 8, by omega⟩ := Fin.ext (by dsimp only; omega)
  exact congrArg (fun h => ∑ n, ∑ r, dsn I n h _ r) e

theorem db_at (t : Fin cfg0.N) (ht : t.val = 16) (g : Fin 8) (r : Fin 128) : View.canon (storesAt m c t).db (ix2 g r) = (db I g r : EReal) := by
  rw [storesAt_of m c t .last (kind_last t ht)]
  refine (shift_last c (grid0.coords t) (m0 t) (w0 t) (m1 t) (w1 t) (m2 t) (w2 t) (m3 t) (w3 t) (m4 t) (w4 t) (m5 t) (w5 t) (m6 t) (w6 t) (m7 t) (w7 t) (m8 t) (w8 t) (m9 t) (w9 t) (m10 t) (w10 t) (m11 t) (w11 t) (m12 t) (w12 t) (m13 t) (w13 t) (m14 t) (w14 t)
        s0 (Memref.isWhole_whole _) s1 (Memref.isWhole_whole _) s2 (Memref.isWhole_whole _) s3 (Memref.isWhole_whole _) s4 (Memref.isWhole_whole _)
    _ (ins m c t) (stateAt m c t.val) g r).trans (((last_done H HD t ht).bacc r ⟨g.val, by omega⟩ g.isLt).trans (congrArg Real.toEReal ((upto_all _).trans ?_)))
  unfold db
  have e : (⟨g.val % 8, Nat.mod_lt _ (by decide)⟩ : Fin 8) = g := Fin.ext (by dsimp only; omega)
  exact congrArg (fun g => ∑ n, ∑ k, dmixed I (tok n r) (gl g k)) e

theorem dlg_at (t : Fin cfg0.N) (ht : t.val = 16) (l : Fin 1024) : (stateAt m c (t.val + 1)).dlg (ix2 0 l) = (dlg I l : EReal) := by
  rw [stateAt_succ]
  refine (congrFun ((congrArg (over (stateAt m c t.val).dlg) (at_last m c t ht).2.2.1).trans (over_nil _)) _).trans ?_
  exact ((last_done H HD t ht).dlg l).trans (congrArg Real.toEReal (upto_all _))

theorem dlb_at (t : Fin cfg0.N) (ht : t.val = 16) (l : Fin 1024) : (stateAt m c (t.val + 1)).dlb (ix2 0 l) = (dlb I l : EReal) := by
  rw [stateAt_succ]
  refine (congrFun ((congrArg (over (stateAt m c t.val).dlb) (at_last m c t ht).2.2.2.1).trans (over_nil _)) _).trans ?_
  exact ((last_done H HD t ht).dlb l).trans (congrArg Real.toEReal (upto_all _))

theorem dw_at (t : Fin cfg0.N) (ht : t.val = 16) (g : Fin 8) (r k : Fin 128) : (stateAt m c (t.val + 1)).dw (ix3 g r k) = (dw I g r k : EReal) := by
  rw [stateAt_succ]
  refine (congrFun ((congrArg (over (stateAt m c t.val).dw) (at_last m c t ht).2.2.2.2).trans (over_nil _)) _).trans ?_
  exact ((last_done H HD t ht).dw g r k).trans (congrArg Real.toEReal (upto_all _))

omit H HD in
theorem flush9 : ∀ t : Fin cfg0.N, (cfg0.win 9).flush t = true → t.val ≠ 0 := (by decide +kernel : ∀ t : Fin grid0.N, win0_9.flush t = true → t.val ≠ 0)

omit H HD in
/-- The last point. -/
abbrev tl : Fin cfg0.N := ⟨16, by rw [show cfg0.N = 17 from N_0]; omega⟩

theorem final9 : (dats m 0 c).arrAt 9 cfg0.N = fun x => (dz I (x 0) (x 1) : EReal) := by
  refine (dats m 0 c).arrAt_eq_of_covers 9 _ (by decide +kernel) fun t ht y => ?_
  have h1 := flush9 t ht
  have h2 : t.val < 17 := Nat.lt_of_lt_of_eq t.isLt N_0
  blk_simp
  have e : (win0_9.blk t).view.emb y = ix2 (tok ⟨t.val - 1, by omega⟩ (y 0)) (y 1) := by blk_ext [idx t, tok]
  rw [after9, e, eq_ix2 y]
  exact dz_at H HD t ⟨t.val - 1, by omega⟩ (Nat.sub_add_cancel (Nat.pos_of_ne_zero h1)) (y 0) (y 1)

theorem final10 : (dats m 0 c).arrAt 10 cfg0.N = fun x => (dsink I ⟨(x 1).val / 8, by have h : (x 1).val < 16 := (x 1).isLt; omega⟩ ⟨(x 1).val % 8, by omega⟩ : EReal) := by
  refine (dats m 0 c).arrAt_eq_of_after_last 10 tl (by decide +kernel) _ fun y => ?_
  blk_simp
  rw [after10, show y = ix2 0 (y 1) from (eq_ix2 y).trans (congrArg (fun a => ix2 a (y 1)) (Subsingleton.elim _ _))]
  exact dsink_at H HD tl rfl (y 1)

theorem final11 : (dats m 0 c).arrAt 11 cfg0.N = fun x => (dlg I (x 1) : EReal) := by
  refine (dats m 0 c).arrAt_eq_of_after_last 11 tl (by decide +kernel) _ fun y => ?_
  blk_simp
  rw [after11, show y = ix2 0 (y 1) from (eq_ix2 y).trans (congrArg (fun a => ix2 a (y 1)) (Subsingleton.elim _ _))]
  exact dlg_at H HD tl rfl (y 1)

theorem final12 : (dats m 0 c).arrAt 12 cfg0.N = fun x => (dlb I (x 1) : EReal) := by
  refine (dats m 0 c).arrAt_eq_of_after_last 12 tl (by decide +kernel) _ fun y => ?_
  blk_simp
  rw [after12, show y = ix2 0 (y 1) from (eq_ix2 y).trans (congrArg (fun a => ix2 a (y 1)) (Subsingleton.elim _ _))]
  exact dlb_at H HD tl rfl (y 1)

theorem final13 : (dats m 0 c).arrAt 13 cfg0.N = fun x => (dw I (x 0) (x 1) (x 2) : EReal) := by
  refine (dats m 0 c).arrAt_eq_of_after_last 13 tl (by decide +kernel) _ fun y => ?_
  blk_simp
  rw [after13, eq_ix3 y]
  exact dw_at H HD tl rfl (y 0) (y 1) (y 2)

theorem final14 : (dats m 0 c).arrAt 14 cfg0.N = fun x => (db I (x 0) (x 1) : EReal) := by
  refine (dats m 0 c).arrAt_eq_of_after_last 14 tl (by decide +kernel) _ fun y => ?_
  blk_simp
  rw [after14, eq_ix2 y]
  exact db_at H HD tl rfl (y 0) (y 1)

end Cert.MixState

end
-- ==== Proof.MixClaim.lean ====
/- The mixer's backward kernel leaves what its reference computes. -/
module

public import proofs.«01_k».proof.Defs
public import proofs.«01_k».proof.Proof.Gen.MixReferenceIdeal.Run
public import proofs.«01_k».proof.Proof.Gen.Pre_mix_finite
public import proofs.«01_k».proof.Proof.Finite
public import proofs.«01_k».proof.Proof.MixBackAttn
public import proofs.«01_k».proof.Proof.MixState
public import Idealize.ShloMosaic.Lib.Claim

@[expose] public section

set_option maxRecDepth 16384

noncomputable section

namespace Cert.MixClaim

open Idealize.ShloMosaic Idealize.ShloMosaic.TcCoe Idealize.SL.Sem

/-- Arguments that pass the finiteness test are reals. -/
theorem args (x0 : FVec Ideal ⟨2, ![2048, 5376]⟩ .f32) (x1 : FVec Ideal ⟨2, ![2048, 2048]⟩ .f32) (x2 : FVec Ideal ⟨2, ![1, 16]⟩ .f32)
    (x3 x4 : FVec Ideal ⟨2, ![1, 1024]⟩ .f32) (x5 : FVec Ideal ⟨4, ![1, 8, 128, 128]⟩ .f32) (x6 : FVec Ideal ⟨3, ![1, 8, 128]⟩ .f32)
    (h : Cert.Pre_mix_finite.fn (F := Ideal) x0 x1 x2 x3 x4 x5 x6 = fun _ => 1#1) :
    ∃ I, MixSpec.Args I x0 x2 x3 x4 x5 x6 ∧ MixSpec.ArgD I x1 := by
  have h := congrFun h ix0
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  choose z hz using Finite.exists_reals x0 _ Finite.bits_inf _ _ _ _ _ h0
  choose d hd using Finite.exists_reals x1 _ Finite.bits_inf _ _ _ _ _ h1
  choose s hs using Finite.exists_reals x2 _ Finite.bits_inf _ _ _ _ _ h2
  choose n hn using Finite.exists_reals x3 _ Finite.bits_inf _ _ _ _ _ h3
  choose l hl using Finite.exists_reals x4 _ Finite.bits_inf _ _ _ _ _ h4
  choose w hw using Finite.exists_reals x5 _ Finite.bits_inf _ _ _ _ _ h5
  choose b hb using Finite.exists_reals x6 _ Finite.bits_inf _ _ _ _ _ h6
  exact ⟨⟨fun t c => z (ix2 t c), fun t c => d (ix2 t c), fun k => s (ix2 0 k), fun c => n (ix2 0 c), fun c => l (ix2 0 c), fun g i k => w (ix4 0 g i k), fun g i => b (ix3 0 g i)⟩,
    ⟨fun t c => hz _, fun k => hs _, fun c => hn _, fun c => hl _, fun g i k => hw _, fun g i => hb _⟩, fun t c => hd _⟩

/-- An index into one row is that row at a column. -/
theorem one_row {n : ℕ} (x : Shape.Idx ⟨2, ![1, n]⟩) : x = ix2 0 (x 1) :=
  (eq_ix2 x).trans (congrArg (fun a => ix2 a (x 1)) (Subsingleton.elim _ _))

set_option maxHeartbeats 3200000 in
theorem algebraic : Cert.algebraic_MixKernelIdeal_MixReferenceIdeal_pre_mix_finite := by
  pair_intro
  · run_from Cert.MixKernelRun.run_main m g
    · exact MixKernelIdeal.Gen.V_main_arg5 m c
    · exact MixKernelIdeal.Gen.V_main_arg6 m c
  · run_from Cert.MixReferenceIdeal.Value.run m' g'
    all_goals
      obtain ⟨e0, e1, e2, e3, e4, e5, e6⟩ := hagree c
      obtain ⟨I, H, D⟩ := args _ _ _ _ _ _ _ (hpre c)
      have H' := H
      have D' := D
      rw [← e0, ← e2, ← e3, ← e4, ← e5, ← e6] at H'
      rw [← e1] at D'
    · rw [MixReferenceIdeal.Read.val_main_v262_eq]
      refine Eq.trans (funext fun x => ?_) (MixState.final9 H D).symm
      exact (congrArg _ (eq_ix2 x)).trans (MixRef.v262 H' D' _ _)
    · rw [MixReferenceIdeal.Read.val_main_v256_eq]
      refine Eq.trans (funext fun x => ?_) (MixState.final10 H D).symm
      exact (congrArg _ (one_row x)).trans (MixRef.v256 H' D' _)
    · rw [MixReferenceIdeal.Read.val_main_v204_eq]
      refine Eq.trans (funext fun x => ?_) (MixState.final11 H D).symm
      exact (congrArg _ (one_row x)).trans (MixRef.v204 H' D' _)
    · rw [MixReferenceIdeal.Read.val_main_v203_eq]
      refine Eq.trans (funext fun x => ?_) (MixState.final12 H D).symm
      exact (congrArg _ (one_row x)).trans (MixRef.v203 H' D' _)
    · rw [MixReferenceIdeal.Read.val_main_v263_eq]
      refine Eq.trans (funext fun x => ?_) (MixState.final13 H D).symm
      exact (congrArg _ (eq_ix3 x)).trans (MixRef.v263 H' D' _ _ _)
    · rw [MixReferenceIdeal.Read.val_main_v264_eq]
      refine Eq.trans (funext fun x => ?_) (MixState.final14 H D).symm
      exact (congrArg _ (eq_ix2 x)).trans (MixRef.v264 H' D' _ _)

end Cert.MixClaim

end
-- ==== Proof.MixFrames.lean ====
/- The frames of the mixer's gradient: the kernel on words takes the run of the kernel on reals, whose text is the same. -/
module

public import proofs.«01_k».proof.Defs
public import proofs.«01_k».proof.Proof.MixFrame
public import proofs.«01_k».proof.Proof.Gen.MixKernel
public import proofs.«01_k».proof.Proof.Gen.MixReferenceIdeal.Run
public import proofs.«01_k».proof.Proof.Gen.FwdReferenceIdeal.Run

@[expose] public section

noncomputable section

namespace Cert.MixFrames

open Idealize.ShloMosaic Idealize.SL.Sem

theorem kernel : Cert.quiescent_MixKernel := by
  intro m g _
  have h := Cert.MixKernelRun.frame (F := Bits) m g
  refine Eq.mp ?_ h
  sl_kernel_rfl

theorem ideal : Cert.quiescent_MixKernelIdeal := fun m g _ => Cert.MixKernelRun.frame m g

/-- The reference's run leaves its arguments unchanged; the counters because it declares no semaphore. -/
theorem reference : Cert.quiescent_MixReferenceIdeal := by
  intro m g _
  exact (θ_run Cert.MixReferenceIdeal.defs _ _).mono
    (fun r h => ⟨fun c => (h c).2.2.2.2.2.2, Idealize.ShloMosaic.sem_eq_zero_of_no_sems (by decide) r.2⟩) (Cert.MixReferenceIdeal.Value.run m g)

/-- The reference's run leaves its arguments unchanged; the counters because it declares no semaphore. -/
theorem forward_reference : Cert.quiescent_FwdReferenceIdeal := by
  intro m g _
  exact (θ_run Cert.FwdReferenceIdeal.defs _ _).mono
    (fun r h => ⟨fun c => (h c).2.2, Idealize.ShloMosaic.sem_eq_zero_of_no_sems (by decide) r.2⟩) (Cert.FwdReferenceIdeal.Value.run m g)

end Cert.MixFrames

end
-- ==== Proof.CotClaim.lean ====
/- The gradient of the concatenated branches: the product of the cotangent with the output weight, transposed, block of rows by block of rows. -/
module

public import proofs.«01_k».proof.Defs
public import proofs.«01_k».proof.Proof.Gen.CotKernelIdeal.Frame
public import proofs.«01_k».proof.Proof.Gen.CotReferenceIdeal.Run
public import proofs.«01_k».proof.Proof.Gen.CotReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.CotClaim

open Idealize.ShloMosaic Idealize.ShloMosaic.TcCoe Idealize.SL.Sem

/-- The rows of `dy` times the rows of the weight. -/
def prod (dy : FVec Ideal ⟨2, ![2048, 2048]⟩ .bf16) (w : FVec Ideal ⟨3, ![1, 2048, 2048]⟩ .f32) : FVec Ideal ⟨2, ![2048, 2048]⟩ .f32 :=
  fun x => ∑ k, dy (ix2 (x 0) k) * w (ix3 0 (x 1) k)

theorem reference (dy : FVec Ideal ⟨2, ![2048, 2048]⟩ .bf16) (w : FVec Ideal ⟨3, ![1, 2048, 2048]⟩ .f32) :
    Cert.CotReferenceIdeal.Read.val_main_v4 (F := Ideal) dy w = prod dy w := by
  funext x
  rw [eq_ix2 x]
  pointwise [Cert.CotReferenceIdeal.Read.val_main_v4, Cert.CotReferenceIdeal.Read.val_main_v3, Cert.CotReferenceIdeal.Read.val_main_v1]
  rfl

section Kernel

open Cert.CotKernelIdeal Cert.CotKernelIdeal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The row of the arrays that row `i` of point `t`'s blocks is. -/
def row (t : Fin cfg0.N) (i : Fin 256) : Fin 2048 := ⟨t.val * 256 + i.val, by have h : t.val < 8 := t.isLt; omega⟩

theorem blk0 (t : Fin cfg0.N) (i : Fin 256) (k : Fin 2048) : iblk m c 0 t (ix2 i k) = m ((c : Thread nD τ).loc main_arg0) (ix2 (row t i) k) := by
  rw [row]; blk_point [iblk, V, idx t]

theorem blk1 (t : Fin cfg0.N) (j k : Fin 2048) : iblk m c 1 t (ix2 j k) = m ((c : Thread nD τ).loc main_arg1) (ix3 0 j k) := by
  blk_point [iblk, V, idx t]

theorem pay (t : Fin cfg0.N) (i : Fin 256) (j : Fin 2048) :
    k0_pay1 (F := Ideal) (iblk m c 0 t) (iblk m c 1 t) (ix2 i j)
      = prod (m ((c : Thread nD τ).loc main_arg0)) (m ((c : Thread nD τ).loc main_arg1)) (ix2 (row t i) j) := by
  pointwise [k0_pay1]
  simp only [blk0, blk1]
  rfl

theorem out (t : Fin cfg0.N) (y : S256x2048.Idx) :
    outsAt0 m c t y = prod (m ((c : Thread nD τ).loc main_arg0)) (m ((c : Thread nD τ).loc main_arg1)) (ix2 (row t (y 0)) (y 1)) := by
  rw [eq_ix2 y]
  unfold outsAt0
  frame_out
  exact pay m c t _ _

theorem final : (dats m 0 c).arrAt 2 cfg0.N = prod (m ((c : Thread nD τ).loc main_arg0)) (m ((c : Thread nD τ).loc main_arg1)) := by
  refine (dats m 0 c).arrAt_eq_of_covers 2 _ (by decide +kernel) fun t _ y => ?_
  blk_simp
  have e : (win0_2.blk t).view.emb y = ix2 (row t (y 0)) (y 1) := by blk_ext [idx t, row]
  rw [after0_2, out, e]
  rfl

end Kernel

theorem algebraic : Cert.algebraic_CotKernelIdeal_CotReferenceIdeal := by
  pair_intro
  · run_from Cert.CotKernelIdeal.Gen.run_main m g
  · run_from Cert.CotReferenceIdeal.Value.run m' g'
    exact ((CotReferenceIdeal.Read.val_main_v4_eq _ _).trans (reference _ _)).trans (final m c).symm

end Cert.CotClaim

end
-- ==== Proof.WgtClaim.lean ====
/- One device's share of the gradient of the output weight: the branches, transposed, times the cotangent, block of rows by block of rows. -/
module

public import proofs.«01_k».proof.Defs
public import proofs.«01_k».proof.Proof.Gen.WgtKernelIdeal.Frame
public import proofs.«01_k».proof.Proof.Gen.WgtReferenceIdeal.Run
public import proofs.«01_k».proof.Proof.Gen.WgtReferenceIdeal.Read
public import Idealize.ShloMosaic.Lib.Pipeline.ValueKit
public import Idealize.ShloMosaic.Lib.Pointwise
public import Idealize.ShloMosaic.Lib.Claim

@[expose] public section

set_option maxRecDepth 16384

noncomputable section

namespace Cert.WgtClaim

open Idealize.ShloMosaic Idealize.ShloMosaic.TcCoe Idealize.SL.Sem

/-- The sum over the tokens of the branches times the cotangent. -/
def outer (cat dy : FVec Ideal ⟨2, ![2048, 2048]⟩ .bf16) : FVec Ideal ⟨2, ![2048, 2048]⟩ .bf16 :=
  fun x => ∑ t, cat (ix2 t (x 0)) * dy (ix2 t (x 1))

section Reference

open Cert.WgtReferenceIdeal.Read

theorem reference (cat dy : FVec Ideal ⟨2, ![2048, 2048]⟩ .bf16) : val_main_v9 (F := Ideal) cat dy = outer cat dy := by
  funext x
  rw [eq_ix2 x]
  pointwise [val_main_v9, val_main_v8, val_main_v7, val_main_v6, val_main_v5, val_main_v4, val_main_v1]
  exact Finset.sum_congr rfl fun _ _ => mul_comm _ _

end Reference

section Kernel

open Cert.WgtKernelIdeal Cert.WgtKernelIdeal.Gen

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] :=
  (by decide +kernel : ∀ t : Fin grid0.N, _)

/-- The row of the result that row `i` of point `t`'s block is. -/
def row (t : Fin cfg0.N) (i : Fin 512) : Fin 2048 := ⟨t.val * 512 + i.val, by have h : t.val < 4 := t.isLt; omega⟩

theorem blk0 (t : Fin cfg0.N) (k : Fin 2048) (i : Fin 512) : iblk m c 0 t (ix2 k i) = m ((c : Thread nD τ).loc main_arg0) (ix2 k (row t i)) := by
  rw [row]; blk_point [iblk, V, idx t]

theorem blk1 (t : Fin cfg0.N) (k j : Fin 2048) : iblk m c 1 t (ix2 k j) = m ((c : Thread nD τ).loc main_arg1) (ix2 k j) := by
  blk_point [iblk, V, idx t]

theorem pay (t : Fin cfg0.N) (i : Fin 512) (j : Fin 2048) :
    k0_pay1 (F := Ideal) (iblk m c 0 t) (iblk m c 1 t) (ix2 i j)
      = outer (m ((c : Thread nD τ).loc main_arg0)) (m ((c : Thread nD τ).loc main_arg1)) (ix2 (row t i) j) := by
  pointwise [k0_pay1]
  simp only [blk0, blk1]
  rfl

theorem final : (dats m 0 c).arrAt 2 cfg0.N = outer (m ((c : Thread nD τ).loc main_arg0)) (m ((c : Thread nD τ).loc main_arg1)) := by
  refine (dats m 0 c).arrAt_eq_of_covers 2 _ (by decide +kernel) fun t _ y => ?_
  blk_simp
  have e : (win0_2.blk t).view.emb y = ix2 (row t (y 0)) (y 1) := by blk_ext [idx t, row]
  rw [after0_2, e]
  refine Eq.trans ?_ (pay m c t _ _)
  rw [eq_ix2 y]
  frame_out
  rfl

end Kernel

theorem algebraic : Cert.algebraic_WgtKernelIdeal_WgtReferenceIdeal := by
  pair_intro
  · run_from Cert.WgtKernelIdeal.Gen.run_main m g
  · run_from Cert.WgtReferenceIdeal.Value.run m' g'
    exact ((WgtReferenceIdeal.Read.val_main_v9_eq _ _).trans (reference _ _)).trans (final m c).symm

end Cert.WgtClaim

end
-- ==== Proof.OddClaim.lean ====
/- The half of the input projection that is computed while the other half's shift runs: the odd tiles of columns, in place. -/
module

public import proofs.«01_k».proof.Defs
public import proofs.«01_k».proof.Proof.Gen.OddKernelIdeal.Frame
public import proofs.«01_k».proof.Proof.Gen.OddReferenceIdeal.Run
public import proofs.«01_k».proof.Proof.Gen.OddReferenceIdeal.Read
public import Idealize.ShloMosaic.Lib.Pipeline.ValueKit
public import Idealize.ShloMosaic.Lib.Pipeline.ValueKit.Partial
public import Idealize.ShloMosaic.Lib.Pointwise
public import Idealize.ShloMosaic.Lib.Claim

@[expose] public section

set_option maxRecDepth 16384

noncomputable section

namespace Cert.OddClaim

open Idealize.ShloMosaic Idealize.ShloMosaic.TcCoe Idealize.SL.Sem

abbrev Acts : Type := FVec Ideal ⟨2, ![2048, 2048]⟩ .bf16
abbrev Wt : Type := FVec Ideal ⟨3, ![1, 2048, 5376]⟩ .f32
abbrev Out : Type := FVec Ideal ⟨2, ![2048, 5376]⟩ .f32

/-- An entry of the projection. -/
def prod (h : Acts) (w : Wt) : Out := fun x => ∑ k, h (ix2 (x 0) k) * w (ix3 0 k (x 1))

/-- The projection in the odd tiles of 768 columns, and in the others what was there. -/
def mixed (h : Acts) (w : Wt) (z : Out) : Out := fun x => if (x 1).val / 768 % 2 = 1 then prod h w x else z x

section Reference

open Cert.OddReferenceIdeal Cert.OddReferenceIdeal.Read

theorem odd_at (a : Fin 7) : IntOp.cmpi .eq (IntOp.andi (BitVec.ofNat 32 a.val) 1#32) 1#32 = if a.val % 2 = 1 then 1#1 else 0#1 := by
  revert a; decide

theorem mask (i : S7.Idx) : val_main_v4 (F := Ideal) i = if (i 0).val % 2 = 1 then 1#1 else 0#1 := by
  rw [val_main_v4_apply, val_main_v2_apply, val_main_v0_apply, val_main_v1_apply, val_main_v3_apply, val_main_c_apply, val_main_c_0_apply]
  exact odd_at (i 0)

theorem prod_eq (h : Acts) (w : Wt) : val_main_v8 (F := Ideal) h w = prod h w := by
  funext x
  rw [eq_ix2 x]
  pointwise [val_main_v8, val_main_v7, val_main_v6]
  rfl

theorem reference (h : Acts) (w : Wt) (z : Out) : val_main_v12 (F := Ideal) h w z = mixed h w z := by
  funext x
  have h0 : (x 0).val < 2048 := (x 0).isLt
  have h1 : (x 1).val < 5376 := (x 1).isLt
  have e : idx_main_v9 (idx_main_v12 x) = x := by
    funext a
    match a with
    | ⟨0, _⟩ => exact Fin.ext (by show _ / 5376 = (x 0).val; simp only [idx_main_v12]; omega)
    | ⟨1, _⟩ => exact Fin.ext (by show _ % 5376 = (x 1).val; simp only [idx_main_v12]; omega)
  have e' : idx_main_v10 (idx_main_v12 x) = x := e
  have p : ((x 0).val * 5376 + (x 1).val) / 768 % 7 = (x 1).val / 768 := by omega
  rw [val_main_v12_apply, val_main_v11_apply, val_main_call0_v0_apply, val_main_v5_apply, mask, val_main_v9_apply, val_main_v10_apply, e, e', prod_eq, mixed]
  show Scalar.select (if ((x 0).val * 5376 + (x 1).val) / 768 % 7 % 2 = 1 then 1#1 else 0#1) _ _ = _
  rw [p]
  split <;> rfl

end Reference

section Kernel

open Cert.OddKernelIdeal Cert.OddKernelIdeal.Gen

variable (m : (ℓ : Loc nD τ sig) → Buf (Elt Ideal) ℓ) (c : Dev nD)

theorem idx : ∀ t : Fin cfg0.N, win0_0.index t = ![t.val / 3, 0] ∧ win0_1.index t = ![t.val % 3 * 2 + 1, 0]
    ∧ win0_2.index t = ![t.val / 3, t.val % 3 * 2 + 1] :=
  (by decide +kernel : ∀ t : Fin grid0.N, _)

/-- The row of the result that row `i` of point `t`'s block is. -/
def row (t : Fin cfg0.N) (i : Fin 1024) : Fin 2048 := ⟨t.val / 3 * 1024 + i.val, by have h : t.val < 6 := t.isLt; omega⟩

/-- The column of the result that column `j` of point `t`'s block is. -/
def col (t : Fin cfg0.N) (j : Fin 768) : Fin 5376 := ⟨(t.val % 3 * 2 + 1) * 768 + j.val, by have h : t.val < 6 := t.isLt; omega⟩

theorem blk0 (t : Fin cfg0.N) (i : Fin 1024) (k : Fin 2048) : iblk m c 0 t (ix2 i k) = m ((c : Thread nD τ).loc main_arg0) (ix2 (row t i) k) := by
  rw [row]; blk_point [iblk, V, idx t]

theorem blk1 (t : Fin cfg0.N) (j : Fin 768) (k : Fin 2048) : iblk m c 1 t (ix2 j k) = m ((c : Thread nD τ).loc main_arg1) (ix3 0 k (col t j)) := by
  rw [col]; blk_point [iblk, V, idx t]

theorem pay (t : Fin cfg0.N) (i : Fin 1024) (j : Fin 768) :
    k0_pay1 (F := Ideal) (iblk m c 0 t) (iblk m c 1 t) (ix2 i j)
      = prod (m ((c : Thread nD τ).loc main_arg0)) (m ((c : Thread nD τ).loc main_arg1)) (ix2 (row t i) (col t j)) := by
  pointwise [k0_pay1]
  simp only [blk0, blk1]
  rfl

theorem entry : V m c main_v4 = m ((c : Thread nD τ).loc main_arg2) := by
  show StableHlo.after hostOps0 _ _ = _
  after_results_simp
  rfl

theorem final : (dats m 0 c).arrAt 2 cfg0.N
    = mixed (m ((c : Thread nD τ).loc main_arg0)) (m ((c : Thread nD τ).loc main_arg1)) (m ((c : Thread nD τ).loc main_arg2)) := by
  refine ((dats m 0 c).arrAt_eq_of_coversWhere 2 (prod (m ((c : Thread nD τ).loc main_arg0)) (m ((c : Thread nD τ).loc main_arg1)))
    (P := fun i : S2048x5376.Idx => (i 1).val / 768 % 2 = 1) (fun β => β (1 : Fin 2) % 2 = 1) (by decide +kernel) (fun t _ y => ?_) (fun j => Iff.rfl)).trans ?_
  · blk_simp
    have e : (win0_2.blk t).view.emb y = ix2 (row t (y 0)) (col t (y 1)) := by blk_ext [idx t, row, col]
    rw [after0_2, e]
    refine Eq.trans ?_ (pay m c t _ _)
    rw [eq_ix2 y]
    unfold outsAt0
    frame_out
    rfl
  · funext x
    rw [mixed, ← entry m c]
    rfl

end Kernel

theorem algebraic : Cert.algebraic_OddKernelIdeal_OddReferenceIdeal := by
  pair_intro
  · run_from Cert.OddKernelIdeal.Gen.run_main m g
  · run_from Cert.OddReferenceIdeal.Value.run m' g'
    exact ((OddReferenceIdeal.Read.val_main_v12_eq _ _ _).trans (reference _ _ _)).trans (final m c).symm

end Cert.OddClaim

end
-- ==== Proof.Adam.lean ====
/- One entry of the optimiser's step: the two moments of a gradient and the change of the weight. -/
module

public import Idealize.ShloMosaic.Lib.Pointwise

@[expose] public section

noncomputable section

namespace Cert.Adam

open Idealize.ShloMosaic

/-- The first moment: 0.9 of the old one and 0.1 of the gradient. -/
def mom (g m : Ideal .f32) : Ideal .f32 :=
  Scalar.ofBits (F := Ideal) .f32 0x3F666666#32 * m + Scalar.ofBits (F := Ideal) .f32 0x3DCCCCCD#32 * g

/-- The second moment: 0.999 of the old one and 0.001 of the gradient's square. -/
def sq (g v : Ideal .f32) : Ideal .f32 :=
  Scalar.ofBits (F := Ideal) .f32 0x3F7FBE77#32 * v + Scalar.ofBits (F := Ideal) .f32 0x3A83126F#32 * (g * g)

/-- The change of the weight `w`, at the tenth step: minus the rate times the corrected first moment over the root of the corrected
    second one, with the decay of the weight. -/
def delta (w g m v : Ideal .f32) : Ideal .f32 :=
  Scalar.ofBits (F := Ideal) .f32 0xBA83126F#32
    * (FloatOps.divf (FloatOps.divf (mom g m) (Scalar.ofBits (F := Ideal) .f32 0x3F26BD02#32))
        (FloatOps.sqrt (FloatOps.divf (sq g v) (Scalar.ofBits (F := Ideal) .f32 0x3C231ACC#32)) + Scalar.ofBits (F := Ideal) .f32 0x322BCC77#32)
      + Scalar.ofBits (F := Ideal) .f32 0x3C23D70A#32 * w)

end Cert.Adam

end
-- ==== Proof.RowsClaim.lean ====
/- The optimiser's step of the output weight, on one device's rows of it. -/
module

public import proofs.«01_k».proof.Defs
public import proofs.«01_k».proof.Proof.Gen.RowsKernelIdeal.Frame
public import proofs.«01_k».proof.Proof.Gen.RowsReferenceIdeal.Run
public import proofs.«01_k».proof.Proof.Gen.RowsReferenceIdeal.Read
public import proofs.«01_k».proof.Proof.Adam
public import Idealize.ShloMosaic.Lib.Pipeline.ValueKit
public import Idealize.ShloMosaic.Lib.Pointwise
public import Idealize.ShloMosaic.Lib.Claim

@[expose] public section

set_option maxRecDepth 16384

noncomputable section

namespace Cert.RowsClaim

open Idealize.ShloMosaic Idealize.ShloMosaic.TcCoe Idealize.SL.Sem

/-- The rows of a weight, or of one of its moments, as they are given. -/
abbrev Old : Type := FVec Ideal ⟨3, ![1, 512, 2048]⟩ .f32

/-- The rows as they are computed. -/
abbrev New : Type := FVec Ideal ⟨2, ![512, 2048]⟩ .f32

def moms (g : New) (m : Old) : New := fun x => Adam.mom (g x) (m (ix3 0 (x 0) (x 1)))
def sqs (g : New) (v : Old) : New := fun x => Adam.sq (g x) (v (ix3 0 (x 0) (x 1)))
def deltas (w : Old) (g : New) (m v : Old) : New :=
  fun x => Adam.delta (w (ix3 0 (x 0) (x 1))) (g x) (m (ix3 0 (x 0) (x 1))) (v (ix3 0 (x 0) (x 1)))

section Reference

open Cert.RowsReferenceIdeal.Read

theorem moms_eq (g : New) (m : Old) : val_main_v26 (F := Ideal) g m = moms g m := by
  funext x
  rw [eq_ix2 x]
  pointwise [val_main_v26, val_main_v5, val_main_v4, val_main_v3, val_main_v2, val_main_v1, val_main_v0, val_main_cst_0, val_main_cst]
  rfl

theorem sqs_eq (g : New) (v : Old) : val_main_v27 (F := Ideal) g v = sqs g v := by
  funext x
  rw [eq_ix2 x]
  pointwise [val_main_v27, val_main_v11, val_main_v10, val_main_v9, val_main_v8, val_main_v7, val_main_v6, val_main_v0, val_main_cst_1, val_main_cst_2]
  rfl

theorem deltas_eq (w : Old) (g : New) (m v : Old) : val_main_v25 (F := Ideal) w g m v = deltas w g m v := by
  funext x
  rw [eq_ix2 x]
  pointwise [val_main_v25, val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  rfl

end Reference

section Kernel

open Cert.RowsKernelIdeal Cert.RowsKernelIdeal.Gen

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The row that row `i` of point `t`'s blocks is. -/
def row (t : Fin cfg0.N) (i : Fin 256) : Fin 512 := ⟨t.val * 256 + i.val, by have h : t.val < 2 := t.isLt; omega⟩

theorem blk0 (t : Fin cfg0.N) (i : Fin 256) (j : Fin 2048) : iblk m c 0 t (ix2 i j) = m ((c : Thread nD τ).loc main_arg0) (ix3 0 (row t i) j) := by
  rw [row]; blk_point [iblk, V, idx t]

theorem blk1 (t : Fin cfg0.N) (i : Fin 256) (j : Fin 2048) : iblk m c 1 t (ix2 i j) = m ((c : Thread nD τ).loc main_arg1) (ix2 (row t i) j) := by
  rw [row]; blk_point [iblk, V, idx t]

theorem blk2 (t : Fin cfg0.N) (i : Fin 256) (j : Fin 2048) : iblk m c 2 t (ix2 i j) = m ((c : Thread nD τ).loc main_arg2) (ix3 0 (row t i) j) := by
  rw [row]; blk_point [iblk, V, idx t]

theorem blk3 (t : Fin cfg0.N) (i : Fin 256) (j : Fin 2048) : iblk m c 3 t (ix2 i j) = m ((c : Thread nD τ).loc main_arg3) (ix3 0 (row t i) j) := by
  rw [row]; blk_point [iblk, V, idx t]

theorem pay_moms (t : Fin cfg0.N) (i : Fin 256) (j : Fin 2048) :
    k0_pay1 (F := Ideal) (iblk m c 1 t) (iblk m c 2 t) (ix2 i j)
      = moms (m ((c : Thread nD τ).loc main_arg1)) (m ((c : Thread nD τ).loc main_arg2)) (ix2 (row t i) j) := by
  pointwise [k0_pay1]
  simp only [blk1, blk2]
  rfl

theorem pay_sqs (t : Fin cfg0.N) (i : Fin 256) (j : Fin 2048) :
    k0_pay2 (F := Ideal) (iblk m c 1 t) (iblk m c 3 t) (ix2 i j)
      = sqs (m ((c : Thread nD τ).loc main_arg1)) (m ((c : Thread nD τ).loc main_arg3)) (ix2 (row t i) j) := by
  pointwise [k0_pay2]
  simp only [blk1, blk3]
  rfl

theorem pay_deltas (t : Fin cfg0.N) (i : Fin 256) (j : Fin 2048) :
    k0_pay3 (F := Ideal) (iblk m c 1 t) (iblk m c 0 t) (iblk m c 2 t) (iblk m c 3 t) (ix2 i j)
      = deltas (m ((c : Thread nD τ).loc main_arg0)) (m ((c : Thread nD τ).loc main_arg1)) (m ((c : Thread nD τ).loc main_arg2))
          (m ((c : Thread nD τ).loc main_arg3)) (ix2 (row t i) j) := by
  pointwise [k0_pay3, k0_pay2, k0_pay1]
  simp only [blk0, blk1, blk2, blk3]
  rfl

theorem final4 : (dats m 0 c).arrAt 4 cfg0.N = m ((c : Thread nD τ).loc main_arg1) := by
  refine (dats m 0 c).arrAt_eq_of_covers 4 _ (by decide +kernel) fun t _ y => ?_
  blk_simp
  have e : (win0_4.blk t).view.emb y = ix2 (row t (y 0)) (y 1) := by blk_ext [idx t, row]
  rw [after0_4, e]
  refine Eq.trans ?_ (blk1 m c t _ _)
  rw [eq_ix2 y]
  unfold outsAt0
  frame_out
  rfl

theorem final5 : (dats m 0 c).arrAt 5 cfg0.N
    = deltas (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  have e : (win0_5.blk t).view.emb y = ix2 (row t (y 0)) (y 1) := by blk_ext [idx t, row]
  rw [after0_5, e]
  refine Eq.trans ?_ (pay_deltas m c t _ _)
  rw [eq_ix2 y]
  unfold outsAt0
  frame_out
  rfl

theorem final6 : (dats m 0 c).arrAt 6 cfg0.N = moms (m ((c : Thread nD τ).loc main_arg1)) (m ((c : Thread nD τ).loc main_arg2)) := by
  refine (dats m 0 c).arrAt_eq_of_covers 6 _ (by decide +kernel) fun t _ y => ?_
  blk_simp
  have e : (win0_6.blk t).view.emb y = ix2 (row t (y 0)) (y 1) := by blk_ext [idx t, row]
  rw [after0_6, e]
  refine Eq.trans ?_ (pay_moms m c t _ _)
  rw [eq_ix2 y]
  unfold outsAt0
  frame_out
  rfl

theorem final7 : (dats m 0 c).arrAt 7 cfg0.N = sqs (m ((c : Thread nD τ).loc main_arg1)) (m ((c : Thread nD τ).loc main_arg3)) := by
  refine (dats m 0 c).arrAt_eq_of_covers 7 _ (by decide +kernel) fun t _ y => ?_
  blk_simp
  have e : (win0_7.blk t).view.emb y = ix2 (row t (y 0)) (y 1) := by blk_ext [idx t, row]
  rw [after0_7, e]
  refine Eq.trans ?_ (pay_sqs m c t _ _)
  rw [eq_ix2 y]
  unfold outsAt0
  frame_out
  rfl

end Kernel

theorem algebraic : Cert.algebraic_RowsKernelIdeal_RowsReferenceIdeal := by
  pair_intro
  · run_from Cert.RowsKernelIdeal.Gen.run_main m g
  · run_from Cert.RowsReferenceIdeal.Value.run m' g'
    · exact (final4 m c).symm
    · exact ((RowsReferenceIdeal.Read.val_main_v25_eq _ _ _ _).trans (deltas_eq _ _ _ _)).trans (final5 m c).symm
    · exact ((RowsReferenceIdeal.Read.val_main_v26_eq _ _).trans (moms_eq _ _)).trans (final6 m c).symm
    · exact ((RowsReferenceIdeal.Read.val_main_v27_eq _ _).trans (sqs_eq _ _)).trans (final7 m c).symm

end Cert.RowsClaim

end
-- ==== Proof.AdaClaim.lean ====
/- The modulation weight: its gradient from the condition and the cotangent of the modulation, and the optimiser's step with it. -/
module

public import proofs.«01_k».proof.Defs
public import proofs.«01_k».proof.Proof.Gen.AdaKernelIdeal.Frame
public import proofs.«01_k».proof.Proof.Gen.AdaReferenceIdeal.Run
public import proofs.«01_k».proof.Proof.Gen.AdaReferenceIdeal.Read
public import proofs.«01_k».proof.Proof.Adam
public import Idealize.ShloMosaic.Lib.Pipeline.ValueKit
public import Idealize.ShloMosaic.Lib.Pointwise
public import Idealize.ShloMosaic.Lib.Claim

@[expose] public section

set_option maxRecDepth 16384

noncomputable section

namespace Cert.AdaClaim

open Idealize.ShloMosaic Idealize.ShloMosaic.TcCoe Idealize.SL.Sem

/-- The weight, or one of its moments, as it is given. -/
abbrev Old : Type := FVec Ideal ⟨3, ![1, 2048, 1536]⟩ .f32

/-- The weight's shape in the results. -/
abbrev New : Type := FVec Ideal ⟨2, ![2048, 1536]⟩ .f32

abbrev Cond : Type := FVec Ideal ⟨2, ![8, 2048]⟩ .f32
abbrev Mod : Type := FVec Ideal ⟨2, ![8, 1536]⟩ .f32

/-- An entry of the condition, times its logistic function. -/
def silu (x : Ideal .f32) : Ideal .f32 := x * Ideal.div 1 (1 + Ideal.exp (-x))

/-- The gradient: over the examples, the activated condition times the cotangent of the modulation. -/
def grads (cond : Cond) (d : Mod) : New := fun x => ∑ b, silu (cond (ix2 b (x 0))) * d (ix2 b (x 1))
def moms (cond : Cond) (d : Mod) (m : Old) : New := fun x => Adam.mom (grads cond d x) (m (ix3 0 (x 0) (x 1)))
def sqs (cond : Cond) (d : Mod) (v : Old) : New := fun x => Adam.sq (grads cond d x) (v (ix3 0 (x 0) (x 1)))
def deltas (cond : Cond) (d : Mod) (w m v : Old) : New :=
  fun x => Adam.delta (w (ix3 0 (x 0) (x 1))) (grads cond d x) (m (ix3 0 (x 0) (x 1))) (v (ix3 0 (x 0) (x 1)))

theorem ext {p q : New} (h : ∀ (i : Fin 2048) (j : Fin 1536), p (ix2 i j) = q (ix2 i j)) : p = q := by
  funext x
  rw [eq_ix2 x]
  exact h _ _

section Reference

open Cert.AdaReferenceIdeal.Read

theorem silu_at (cond : Cond) (x : Fin 8) (y : Fin 2048) : val_main_v0 (F := Ideal) cond (ix2 x y) = silu (cond (ix2 x y)) := by
  pointwise [val_main_v0, val_main_call0_v5, val_main_call0_v4, val_main_call0_v3, val_main_call0_v2, val_main_call0_v1, val_main_call0_v0,
    val_main_call0_cst, val_main_call0_cst_0]
  rfl

theorem grad_at (cond : Cond) (d : Mod) (i : Fin 2048) (j : Fin 1536) : val_main_v5 (F := Ideal) cond d (ix3 0 i j) = grads cond d (ix2 i j) := by
  pointwise [val_main_v5, val_main_v4, val_main_v3]
  exact Finset.sum_congr rfl fun b _ => (congrArg (d (ix2 b j) * ·) (silu_at cond b i)).trans (mul_comm _ _)

theorem grads_eq (cond : Cond) (d : Mod) : val_main_v30 (F := Ideal) cond d = grads cond d := by
  refine ext fun i j => ?_
  pointwise [val_main_v30]
  exact grad_at cond d i j

theorem moms_eq (cond : Cond) (d : Mod) (m : Old) : val_main_v32 (F := Ideal) cond d m = moms cond d m := by
  refine ext fun i j => ?_
  pointwise [val_main_v32, val_main_v10, val_main_v9, val_main_v8, val_main_v7, val_main_v6, val_main_cst_0, val_main_cst]
  rw [grad_at]
  rfl

theorem sqs_eq (cond : Cond) (d : Mod) (v : Old) : val_main_v33 (F := Ideal) cond d v = sqs cond d v := by
  refine ext fun i j => ?_
  pointwise [val_main_v33, val_main_v16, val_main_v15, val_main_v14, val_main_v13, val_main_v12, val_main_v11, val_main_cst_1, val_main_cst_2]
  rw [grad_at]
  rfl

theorem deltas_eq (cond : Cond) (d : Mod) (w m v : Old) : val_main_v31 (F := Ideal) cond d w m v = deltas cond d w m v := by
  refine ext fun i j => ?_
  pointwise [val_main_v31, val_main_v29, val_main_v28, val_main_v27, val_main_v26, val_main_v25, val_main_v24, val_main_v23, val_main_v22, val_main_v21,
    val_main_v20, val_main_v19, val_main_v18, val_main_v17, val_main_v16, val_main_v15, val_main_v14, val_main_v13, val_main_v12, val_main_v11,
    val_main_v10, val_main_v9, val_main_v8, val_main_v7, val_main_v6, val_main_cst, val_main_cst_0, val_main_cst_1, val_main_cst_2,
    val_main_cst_3, val_main_cst_4, val_main_cst_5, val_main_cst_6, val_main_cst_7]
  rw [grad_at]
  rfl

end Reference

section Kernel

open Cert.AdaKernelIdeal Cert.AdaKernelIdeal.Gen

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] :=
  (by decide +kernel : ∀ t : Fin grid0.N, _)

/-- The row that row `i` of point `t`'s blocks is. -/
def row (t : Fin cfg0.N) (i : Fin 256) : Fin 2048 := ⟨t.val * 256 + i.val, by have h : t.val < 8 := t.isLt; omega⟩

/-- The host's lines before the call: the activation of the condition, and the weight and its moments without their leading axis. -/
theorem V_eq (b : Ref sig .tc) : V m c b = StableHlo.after hostOps0_1 (StableHlo.after hostOps0 fun b => m (c, b)) b := by
  show StableHlo.after (hostOps0 ++ (hostOps0_1 ++ [])) _ _ = _
  rw [StableHlo.after_append, List.append_nil]

theorem V_cond : V m c main_v0 = AdaReferenceIdeal.Read.val_main_v0 (F := Ideal) (m ((c : Thread nD τ).loc main_arg0)) := by
  rw [V_eq]
  after_results_simp
  rfl

theorem V_w : V m c main_v1 = shapeCast S2048x1536 (m ((c : Thread nD τ).loc main_arg2)) shapeCasts_S1x2048x1536_S2048x1536 := by
  rw [← V_main_arg2 m c, V_eq, V_eq]
  after_results_simp
  rfl

theorem V_m : V m c main_v2 = shapeCast S2048x1536 (m ((c : Thread nD τ).loc main_arg3)) shapeCasts_S1x2048x1536_S2048x1536 := by
  rw [← V_main_arg3 m c, V_eq, V_eq]
  after_results_simp
  rfl

theorem V_v : V m c main_v3 = shapeCast S2048x1536 (m ((c : Thread nD τ).loc main_arg4)) shapeCasts_S1x2048x1536_S2048x1536 := by
  rw [← V_main_arg4 m c, V_eq, V_eq]
  after_results_simp
  rfl

theorem cast_at (B : Old) (i : Fin 2048) (j : Fin 1536) :
    shapeCast S2048x1536 B shapeCasts_S1x2048x1536_S2048x1536 (ix2 i j) = B (ix3 0 i j) := by
  pointwise

theorem blk0 (t : Fin cfg0.N) (b : Fin 8) (i : Fin 256) : iblk m c 0 t (ix2 b i) = silu (m ((c : Thread nD τ).loc main_arg0) (ix2 b (row t i))) := by
  have e : (win0_0.blk t).view.emb (ix2 b i) = ix2 b (row t i) := by blk_ext [idx t, row]
  show V m c main_v0 ((win0_0.blk t).view.emb (ix2 b i)) = _
  rw [V_cond, e]
  exact silu_at _ b _

theorem blk1 (t : Fin cfg0.N) (b : Fin 8) (j : Fin 1536) : iblk m c 1 t (ix2 b j) = m ((c : Thread nD τ).loc main_arg1) (ix2 b j) := by
  rw [← V_main_arg1 m c]; blk_point [iblk, idx t]

theorem blk2 (t : Fin cfg0.N) (i : Fin 256) (j : Fin 1536) : iblk m c 2 t (ix2 i j) = m ((c : Thread nD τ).loc main_arg2) (ix3 0 (row t i) j) := by
  have e : (win0_2.blk t).view.emb (ix2 i j) = ix2 (row t i) j := by blk_ext [idx t, row]
  show V m c main_v1 ((win0_2.blk t).view.emb (ix2 i j)) = _
  rw [V_w, e]
  exact cast_at _ _ _

theorem blk3 (t : Fin cfg0.N) (i : Fin 256) (j : Fin 1536) : iblk m c 3 t (ix2 i j) = m ((c : Thread nD τ).loc main_arg3) (ix3 0 (row t i) j) := by
  have e : (win0_3.blk t).view.emb (ix2 i j) = ix2 (row t i) j := by blk_ext [idx t, row]
  show V m c main_v2 ((win0_3.blk t).view.emb (ix2 i j)) = _
  rw [V_m, e]
  exact cast_at _ _ _

theorem blk4 (t : Fin cfg0.N) (i : Fin 256) (j : Fin 1536) : iblk m c 4 t (ix2 i j) = m ((c : Thread nD τ).loc main_arg4) (ix3 0 (row t i) j) := by
  have e : (win0_4.blk t).view.emb (ix2 i j) = ix2 (row t i) j := by blk_ext [idx t, row]
  show V m c main_v3 ((win0_4.blk t).view.emb (ix2 i j)) = _
  rw [V_v, e]
  exact cast_at _ _ _

theorem pay_grads (t : Fin cfg0.N) (i : Fin 256) (j : Fin 1536) :
    k0_pay1 (F := Ideal) (iblk m c 0 t) (iblk m c 1 t) (ix2 i j)
      = grads (m ((c : Thread nD τ).loc main_arg0)) (m ((c : Thread nD τ).loc main_arg1)) (ix2 (row t i) j) := by
  pointwise [k0_pay1]
  simp only [blk0, blk1]
  rfl

theorem pay_moms (t : Fin cfg0.N) (i : Fin 256) (j : Fin 1536) :
    k0_pay2 (F := Ideal) (iblk m c 0 t) (iblk m c 1 t) (iblk m c 3 t) (ix2 i j)
      = moms (m ((c : Thread nD τ).loc main_arg0)) (m ((c : Thread nD τ).loc main_arg1)) (m ((c : Thread nD τ).loc main_arg3)) (ix2 (row t i) j) := by
  pointwise [k0_pay2]
  rw [pay_grads, blk3]
  rfl

theorem pay_sqs (t : Fin cfg0.N) (i : Fin 256) (j : Fin 1536) :
    k0_pay3 (F := Ideal) (iblk m c 0 t) (iblk m c 1 t) (iblk m c 4 t) (ix2 i j)
      = sqs (m ((c : Thread nD τ).loc main_arg0)) (m ((c : Thread nD τ).loc main_arg1)) (m ((c : Thread nD τ).loc main_arg4)) (ix2 (row t i) j) := by
  pointwise [k0_pay3]
  rw [pay_grads, blk4]
  rfl

theorem pay_deltas (t : Fin cfg0.N) (i : Fin 256) (j : Fin 1536) :
    k0_pay4 (F := Ideal) (iblk m c 0 t) (iblk m c 1 t) (iblk m c 2 t) (iblk m c 3 t) (iblk m c 4 t) (ix2 i j)
      = deltas (m ((c : Thread nD τ).loc main_arg0)) (m ((c : Thread nD τ).loc main_arg1)) (m ((c : Thread nD τ).loc main_arg2))
          (m ((c : Thread nD τ).loc main_arg3)) (m ((c : Thread nD τ).loc main_arg4)) (ix2 (row t i) j) := by
  pointwise [k0_pay4]
  rw [pay_moms, pay_sqs, blk2]
  rfl

theorem final5 : (dats m 0 c).arrAt 5 cfg0.N
    = grads (m ((c : Thread nD τ).loc main_arg0)) (m ((c : Thread nD τ).loc main_arg1)) := by
  refine (dats m 0 c).arrAt_eq_of_covers 5 _ (by decide +kernel) fun t _ y => ?_
  blk_simp
  have e : (win0_5.blk t).view.emb y = ix2 (row t (y 0)) (y 1) := by blk_ext [idx t, row]
  rw [after0_5, e]
  refine Eq.trans ?_ (pay_grads m c t _ _)
  rw [eq_ix2 y]
  frame_out
  rfl

theorem final6 : (dats m 0 c).arrAt 6 cfg0.N
    = deltas (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  have e : (win0_6.blk t).view.emb y = ix2 (row t (y 0)) (y 1) := by blk_ext [idx t, row]
  rw [after0_6, e]
  refine Eq.trans ?_ (pay_deltas m c t _ _)
  rw [eq_ix2 y]
  frame_out
  rfl

theorem final7 : (dats m 0 c).arrAt 7 cfg0.N
    = moms (m ((c : Thread nD τ).loc main_arg0)) (m ((c : Thread nD τ).loc main_arg1)) (m ((c : Thread nD τ).loc main_arg3)) := by
  refine (dats m 0 c).arrAt_eq_of_covers 7 _ (by decide +kernel) fun t _ y => ?_
  blk_simp
  have e : (win0_7.blk t).view.emb y = ix2 (row t (y 0)) (y 1) := by blk_ext [idx t, row]
  rw [after0_7, e]
  refine Eq.trans ?_ (pay_moms m c t _ _)
  rw [eq_ix2 y]
  frame_out
  rfl

theorem final8 : (dats m 0 c).arrAt 8 cfg0.N
    = sqs (m ((c : Thread nD τ).loc main_arg0)) (m ((c : Thread nD τ).loc main_arg1)) (m ((c : Thread nD τ).loc main_arg4)) := by
  refine (dats m 0 c).arrAt_eq_of_covers 8 _ (by decide +kernel) fun t _ y => ?_
  blk_simp
  have e : (win0_8.blk t).view.emb y = ix2 (row t (y 0)) (y 1) := by blk_ext [idx t, row]
  rw [after0_8, e]
  refine Eq.trans ?_ (pay_sqs m c t _ _)
  rw [eq_ix2 y]
  frame_out
  rfl

end Kernel

theorem algebraic : Cert.algebraic_AdaKernelIdeal_AdaReferenceIdeal := by
  pair_intro
  · run_from Cert.AdaKernelIdeal.Gen.run_main m g
    · exact AdaKernelIdeal.Gen.V_main_arg0 m c
    · exact AdaKernelIdeal.Gen.V_main_arg2 m c
    · exact AdaKernelIdeal.Gen.V_main_arg3 m c
    · exact AdaKernelIdeal.Gen.V_main_arg4 m c
  · run_from Cert.AdaReferenceIdeal.Value.run m' g'
    · exact ((AdaReferenceIdeal.Read.val_main_v30_eq _ _).trans (grads_eq _ _)).trans (final5 m c).symm
    · exact ((AdaReferenceIdeal.Read.val_main_v31_eq _ _ _ _ _).trans (deltas_eq _ _ _ _ _)).trans (final6 m c).symm
    · exact ((AdaReferenceIdeal.Read.val_main_v32_eq _ _ _).trans (moms_eq _ _ _)).trans (final7 m c).symm
    · exact ((AdaReferenceIdeal.Read.val_main_v33_eq _ _ _).trans (sqs_eq _ _ _)).trans (final8 m c).symm

end Cert.AdaClaim

end
-- ==== Proof.ModRun.lean ====
/- The kernel of the modulation, the norm and the inputs' projection at its one grid point: the contents its body
   leaves in the buffers it writes, those left in HBM included. -/
module

public import proofs.«01_k».proof.Proof.Gen.ModKernelIdeal.Skeleton
public import proofs.«01_k».proof.Proof.Gen.ModKernelIdeal.Frame
public import Idealize.ShloMosaic.Lib.Pipeline.FrameSuffixV

@[expose] public section

set_option maxRecDepth 16384

noncomputable section

namespace Cert.ModKernelRun

open Cert.ModKernelIdeal Cert.ModKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev sc0 : Memref sig .tc .vmem S2048x1536 .f32 := Memref.whole cc0_scratch0
abbrev sc1 : Memref sig .tc .vmem S8x1x2048 .f32 := Memref.whole cc0_scratch1
abbrev sc2 : Memref sig .tc .vmem S8x1x1536 .f32 := Memref.whole cc0_scratch2
abbrev sc3 : Memref sig .tc .vmem S4x1x1536 .f32 := Memref.whole cc0_scratch3
abbrev sc4 : Memref sig .tc .vmem S2048x2048 .bf16 := Memref.whole cc0_scratch4
abbrev sc5 : Memref sig .tc .vmem S2x256x2048 .f32 := Memref.whole cc0_scratch5
abbrev sc6 : Memref sig .tc .vmem S768x2048 .bf16 := Memref.whole cc0_scratch6
abbrev sc7 : Memref sig .tc .vmem S2x512x768 .f32 := Memref.whole cc0_scratch7
/-- The buffers left in HBM: three read, two written. -/
abbrev fullM : Memref sig .tc .hbm S5376x2048 .bf16 := Memref.whole main_v11_0
abbrev adaM : Memref sig .tc .hbm S2048x1536 .f32 := Memref.whole main_v10
abbrev xM : Memref sig .tc .hbm S2048x2048 .f32 := Memref.whole main_arg0
abbrev hM : Memref sig .tc .hbm S2048x2048 .bf16 := Memref.whole main_v11_3
abbrev zM : Memref sig .tc .hbm S2048x5376 .f32 := Memref.whole main_v11_4

/-- The contents of a buffer, and the buffer whole at contents. -/
abbrev Cts (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Cts (F := F) c M) : sProp 𝕄 :=
  M.view.loc (c : Thread nD τ) ↦{fullShare} f

/-- A scratch buffer held by its elements at contents. -/
abbrev hd (c : Dev nD) {sp : Space} {S : Shape} {e : EltTy} (M : Memref sig .tc sp S e) (f : Cts (F := F) c M) : sProp 𝕄 :=
  M.view.loc (c : Thread nD τ) ↦[M.view.set]{fullShare} f

/-- What the body leaves: the stores into the two staged results, and the contents of the two results left in HBM. -/
structure Left (F : FTy → Type) (c : Dev nD) where
  mod : List (View.Piece (Elt F) S1x6144 .f32)
  cact : List (View.Piece (Elt F) S8x2048 .f32)
  h : Cts (F := F) c hM
  z : Cts (F := F) c zM

set_option maxHeartbeats 51200000 in
/-- The body's run. -/
noncomputable def run (c : Dev nD)
    (cs : Vec F S8x1x2048 .f32) (parts : Vec F S4x1x1536 .f32) (b : Vec F S1x6144 .f32) (g : Vec F S1x2048 .f32)
    (ffull : Cts (F := F) c fullM) (fada : Cts (F := F) c adaM) (fx : Cts (F := F) c xM) (fh : Cts (F := F) c hM) (fz : Cts (F := F) c zM)
    (fs4 : Cts (F := F) c sc4) (fs5 : Cts (F := F) c sc5) (fs7 : Cts (F := F) c sc7)
    (arg1 : Memref sig .tc .vmem S8x1x2048 .f32) (harg1 : arg1.IsWhole) (arg2 : Memref sig .tc .vmem S4x1x1536 .f32) (harg2 : arg2.IsWhole)
    (arg4 : Memref sig .tc .vmem S1x6144 .f32) (harg4 : arg4.IsWhole) (arg6 : Memref sig .tc .vmem S1x2048 .f32) (harg6 : arg6.IsWhole)
    (arg8 : Memref sig .tc .vmem S1x6144 .f32) (harg8 : arg8.IsWhole) (arg9 : Memref sig .tc .vmem S8x2048 .f32) (harg9 : arg9.IsWhole) :
    { L : Left F c //
      ∀ (W : Waits sig Unit) (K : PUnit → sProp 𝕄),
        iprop(owns (c : Thread nD τ) arg1 fullShare cs ∗ owns (c : Thread nD τ) arg2 fullShare parts
            ∗ owns (c : Thread nD τ) arg4 fullShare b ∗ owns (c : Thread nD τ) arg6 fullShare g
            ∗ (∃ d, owns (c : Thread nD τ) arg8 fullShare d) ∗ (∃ d, owns (c : Thread nD τ) arg9 fullShare d)
            ∗ (∃ d, owns (c : Thread nD τ) sc0 fullShare d)
            ∗ (∃ d, owns (c : Thread nD τ) sc1 fullShare d)
            ∗ (∃ d, owns (c : Thread nD τ) sc2 fullShare d)
            ∗ (∃ d, owns (c : Thread nD τ) sc3 fullShare d)
            ∗ hd c sc4 fs4
            ∗ hd c sc5 fs5
            ∗ (∃ d, owns (c : Thread nD τ) sc6 fullShare d)
            ∗ hd c sc7 fs7
            ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0
            ∗ pt c fullM ffull ∗ pt c adaM fada ∗ pt c xM fx ∗ pt c hM fh ∗ pt c zM fz
            ∗ owes (c : Thread nD τ) 0 W
            ∗ (iprop(owns (c : Thread nD τ) arg1 fullShare cs ∗ owns (c : Thread nD τ) arg2 fullShare parts
            ∗ owns (c : Thread nD τ) arg4 fullShare b ∗ owns (c : Thread nD τ) arg6 fullShare g
            ∗ (∃ f, arg8.view.loc (c : Thread nD τ) ↦[arg8.view.set]{fullShare} arg8.view.writes (Elt F) f L.mod)
            ∗ (∃ f, arg9.view.loc (c : Thread nD τ) ↦[arg9.view.set]{fullShare} arg9.view.writes (Elt F) f L.cact)
            ∗ (∃ d, owns (c : Thread nD τ) sc0 fullShare d)
            ∗ (∃ d, owns (c : Thread nD τ) sc1 fullShare d)
            ∗ (∃ d, owns (c : Thread nD τ) sc2 fullShare d)
            ∗ (∃ d, owns (c : Thread nD τ) sc3 fullShare d)
            ∗ (∃ d, owns (c : Thread nD τ) sc4 fullShare d)
            ∗ (∃ d, owns (c : Thread nD τ) sc5 fullShare d)
            ∗ (∃ d, owns (c : Thread nD τ) sc6 fullShare d)
            ∗ (∃ d, owns (c : Thread nD τ) sc7 fullShare d)
            ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0
            ∗ pt c fullM ffull ∗ pt c adaM fada ∗ pt c xM fx ∗ pt c hM L.h ∗ pt c zM L.z
            ∗ (∃ W', owes (c : Thread nD τ) 0 W')) -∗ K ⟨⟩))
          ⊢ wp frame (wpE (defs₀ (F := F)) Variants.none c none) Set.univ
              (cc0_w_in_gather_modulate_project fullM (Memref.isWhole_whole _) arg1 harg1 arg2 harg2 adaM (Memref.isWhole_whole _) arg4 harg4 xM (Memref.isWhole_whole _) arg6 harg6 fullM (Memref.isWhole_whole _)
                arg8 harg8 arg9 harg9 hM (Memref.isWhole_whole _) zM (Memref.isWhole_whole _)
                sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _)
                cc0_scratch8 cc0_scratch9 cc0_scratch10 cc0_scratch11 cc0_scratch12) K } := by
  refine ⟨⟨?_, ?_, ?_, ?_⟩, fun W K => ?run⟩
  case run =>
    simp only [cc0_w_in_gather_modulate_project_eq_skeleton]; unfold cc0_w_in_gather_modulate_project_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f1, %hf1, H1⟩, ⟨%f2, %hf2, H2⟩, ⟨%f4, %hf4, H4⟩, ⟨%f6, %hf6, H6⟩, ⟨%d8, %f8, -, H8⟩, ⟨%d9, %f9, -, H9⟩,
      ⟨%ds0, %fs0, -, HS0⟩, ⟨%ds1, %fs1, -, HS1⟩, ⟨%ds2, %fs2, -, HS2⟩, ⟨%ds3, %fs3, -, HS3⟩, HS4, HS5, ⟨%ds6, %fs6, -, HS6⟩, HS7,
      Hq6, Hq7, Hq8, Hq9, Hq10, Hq11, Hq12, Hfull, Hada, Hx, Hh, Hz, HW, Hk⟩
    obtain rfl := harg1.eq_unread hf1
    obtain rfl := harg2.eq_unread hf2
    obtain rfl := harg4.eq_unread hf4
    obtain rfl := harg6.eq_unread hf6
    set_option sl_exec.dmaWindow true in
    set_option sl_exec.dmaWindowSet true in
    set_option sl_exec.lendShare "HS4" in
    sl_exec
    sl_step
    iapply Hk
    isplitl [H1]; · iexists _; isplitr; swap; · iexact H1
                    ipureintro; exact hf1
    isplitl [H2]; · iexists _; isplitr; swap; · iexact H2
                    ipureintro; exact hf2
    isplitl [H4]; · iexists _; isplitr; swap; · iexact H4
                    ipureintro; exact hf4
    isplitl [H6]; · iexists _; isplitr; swap; · iexact H6
                    ipureintro; exact hf6
    isplitl [H8]; · iexists _; iexact H8
    isplitl [H9]; · iexists _; iexact H9
    isplitl [HS0]; · iexists _, _; isplitr; swap; · iexact HS0
                     ipureintro; rfl
    isplitl [HS1]; · iexists _, _; isplitr; swap; · iexact HS1
                     ipureintro; rfl
    isplitl [HS2]; · iexists _, _; isplitr; swap; · iexact HS2
                     ipureintro; rfl
    isplitl [HS3]; · iexists _, _; isplitr; swap; · iexact HS3
                     ipureintro; rfl
    isplitl [HS4]; · iexists _, _; isplitr; swap; · iexact HS4
                     ipureintro; rfl
    isplitl [HS5]; · iexists _, _; isplitr; swap; · iexact HS5
                     ipureintro; rfl
    isplitl [HS6]; · iexists _, _; isplitr; swap; · iexact HS6
                     ipureintro; rfl
    isplitl [HS7]; · iexists _, _; isplitr; swap; · iexact HS7
                     ipureintro; rfl
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hfull]; · iexact Hfull
    isplitl [Hada]; · iexact Hada
    isplitl [Hx]; · iexact Hx
    isplitl [Hh]; · iexact Hh
    isplitl [Hz]; · iexact Hz
    iexists _; iexact HW

end Cert.ModKernelRun

end
-- ==== Proof.ModVal.lean ====
/- The values the kernel of the modulation, the norm and the inputs' projection leaves: its scratch buffers taken out. -/
module

public import proofs.«01_k».proof.Proof.ModRun
public import Idealize.ShloMosaic.Lib.ViewIndex

@[expose] public section

set_option maxRecDepth 16384

noncomputable section

namespace Cert.ModKernelRun

open Cert.ModKernelIdeal Cert.ModKernelIdeal.Gen
open Idealize.ShloMosaic Idealize.ShloMosaic.TcCoe Idealize.ShloMosaic.Tactic

section Slots

variable {sig : RefSig} {κ : Kind} {sp : Space} {s s' : Shape} {e : EltTy} {Val : EltTy → Type}

/-- A box read back after a write through the box under another shape is what was written. -/
theorem readAt_write_same (v : View sig κ sp s e) (R : Rect s) (hn : s'.numel = R.shape.numel) (g : v.ty.Contents Val) (d : s'.Idx → Val e) :
    v.readAt Val R.toLoadRect (((v.slice R).reshape s' hn).write Val g d Finset.univ) = fun x => d ((Shape.reshapeEquiv hn).symm x) := by
  funext x
  obtain ⟨y, rfl⟩ := (Shape.reshapeEquiv hn).surjective x
  rw [Equiv.symm_apply_apply]
  exact View.read_write_reshape (v.slice R) hn g d y

/-- A write through a box leaves what another box reads, if the two have no element in common. -/
theorem readAt_write_other (v : View sig κ sp s e) (R R' : Rect s) (hn : s'.numel = R.shape.numel) (g : v.ty.Contents Val) (d : s'.Idx → Val e)
    (h : Disjoint R'.toLoadRect.set R.toLoadRect.set) :
    v.readAt Val R'.toLoadRect (((v.slice R).reshape s' hn).write Val g d Finset.univ) = v.readAt Val R'.toLoadRect g :=
  View.readAt_congr fun i hi => View.write_of_not_mem (v := (v.slice R).reshape s' hn) g d Finset.univ fun hm => by
    rw [View.setOn_univ, View.set_reshape, View.set_slice] at hm
    exact (Finset.disjoint_left.mp ((Finset.disjoint_map v.emb).mpr h)) hi hm

/-- A box under another shape, read after the box was stored into, is what was stored. -/
theorem read_writes_same (v : View sig κ sp s e) (R : Rect s) (hn : s'.numel = R.shape.numel) (g : v.ty.Contents Val) (w : R.shape.Idx → Val e)
    (L : List (View.Piece Val s e)) :
    ((v.slice R).reshape s' hn).read Val (v.writes Val g (⟨R, w⟩ :: L)) = fun x => w (Shape.reshapeEquiv hn x) := by
  funext x
  exact View.read_writes_cons_emb v g R w L _

/-- A load of the whole after a store of the whole. -/
theorem readCov_whole [∀ e, Nonempty (Val e)] (v : View sig κ sp s e) (off : Fin s.rank → ℕ) (inb : ∀ a, off a + s.size a ≤ s.size a)
    (h0 : ∀ a, off a = 0) (d : s.Idx → Val e) (L : List (View.Piece Val s e)) :
    v.readCov (⟨Rect.whole s, d⟩ :: L) (Rect.unit off s.size inb).toLoadRect = d := by
  rw [View.readCov_eq_canon']
  funext y
  refine (congrArg _ ?_).trans (View.canon_cons_emb (Rect.whole s) d L y)
  funext a
  refine Fin.ext ?_
  show off a + 1 * (y a).val = 0 + 1 * (y a).val
  rw [h0]

end Slots

variable {F : FTy → Type} [FloatOps F]

theorem inb256 (k : Fin 8) (a : Fin 2) : (![256 * k.val, 0] : Fin 2 → ℕ) a + S256x2048.size a ≤ S2048x2048.size a :=
  match a with
  | ⟨0, _⟩ => by
    show 256 * k.val + 256 ≤ 2048
    omega
  | ⟨1, _⟩ => by
    show 0 + 2048 ≤ 2048
    omega

theorem inb512 (k : Fin 4) (a : Fin 2) : (![512 * k.val, 0] : Fin 2 → ℕ) a + S512x2048.size a ≤ S2048x2048.size a :=
  match a with
  | ⟨0, _⟩ => by
    show 512 * k.val + 512 ≤ 2048
    omega
  | ⟨1, _⟩ => by
    show 0 + 2048 ≤ 2048
    omega

theorem inb768 (u : Fin 4) (a : Fin 2) : (![1536 * u.val, 0] : Fin 2 → ℕ) a + S768x2048.size a ≤ S5376x2048.size a :=
  match a with
  | ⟨0, _⟩ => by
    show 1536 * u.val + 768 ≤ 5376
    omega
  | ⟨1, _⟩ => by
    show 0 + 2048 ≤ 2048
    omega

theorem inbZ (u k : Fin 4) (a : Fin 2) : (![512 * k.val, 1536 * u.val] : Fin 2 → ℕ) a + S512x768.size a ≤ S2048x5376.size a :=
  match a with
  | ⟨0, _⟩ => by
    show 512 * k.val + 512 ≤ 2048
    omega
  | ⟨1, _⟩ => by
    show 1536 * u.val + 768 ≤ 5376
    omega

/-- A chunk of rows as the slot of the buffer it is copied into holds it. -/
def slot (d : S256x2048.Idx → Elt F .f32) : Vec F S1x256x2048 .f32 :=
  fun x => d ((Shape.reshapeEquiv squeezes_S1x256x2048_S256x2048.numel_eq).symm x)

/-- The rows `256 k` to `256 k + 255` of the sequence. -/
def xChunk (c : Dev nD) (fx : Cts (F := F) c xM) (k : Fin 8) : S256x2048.Idx → Elt F .f32 :=
  View.read (Elt F) (xM.view.slice (Rect.unit ![256 * k.val, 0] S256x2048.size (inb256 k))) fx

theorem slots (c : Dev nD) (fx : Cts (F := F) c xM) (fs5 : Cts (F := F) c sc5) :
    run.sl.v179 c fx fs5 = slot (xChunk c fx 0)
      ∧ run.sl.v218 c fx fs5 = slot (xChunk c fx 1)
      ∧ run.sl.v257 c fx fs5 = slot (xChunk c fx 2)
      ∧ run.sl.v296 c fx fs5 = slot (xChunk c fx 3)
      ∧ run.sl.v335 c fx fs5 = slot (xChunk c fx 4)
      ∧ run.sl.v374 c fx fs5 = slot (xChunk c fx 5)
      ∧ run.sl.v413 c fx fs5 = slot (xChunk c fx 6)
      ∧ run.sl.v447 c fx fs5 = slot (xChunk c fx 7) := by
  refine ⟨?_, ?_, ?_, ?_, ?_, ?_, ?_, ?_⟩
  · unfold run.sl.v179
    rw [readAt_write_other _ _ _ _ _ _ (LoadRect.disjoint_of_separated _ _ 0 (by decide)), readAt_write_same]; rfl
  · unfold run.sl.v218
    rw [readAt_write_other _ _ _ _ _ _ (LoadRect.disjoint_of_separated _ _ 0 (by decide)), readAt_write_same]; rfl
  · unfold run.sl.v257
    rw [readAt_write_other _ _ _ _ _ _ (LoadRect.disjoint_of_separated _ _ 0 (by decide)), readAt_write_same]; rfl
  · unfold run.sl.v296
    rw [readAt_write_other _ _ _ _ _ _ (LoadRect.disjoint_of_separated _ _ 0 (by decide)), readAt_write_same]; rfl
  · unfold run.sl.v335
    rw [readAt_write_other _ _ _ _ _ _ (LoadRect.disjoint_of_separated _ _ 0 (by decide)), readAt_write_same]; rfl
  · unfold run.sl.v374
    rw [readAt_write_other _ _ _ _ _ _ (LoadRect.disjoint_of_separated _ _ 0 (by decide)), readAt_write_same]; rfl
  · unfold run.sl.v413
    rw [readAt_write_other _ _ _ _ _ _ (LoadRect.disjoint_of_separated _ _ 0 (by decide)), readAt_write_same]; rfl
  · unfold run.sl.v447
    rw [readAt_write_same]; rfl

section Named

variable (c : Dev nD)
  (cs : Vec F S8x1x2048 .f32) (parts : Vec F S4x1x1536 .f32) (b : Vec F S1x6144 .f32) (g : Vec F S1x2048 .f32)
  (ffull : Cts (F := F) c fullM) (fada : Cts (F := F) c adaM) (fx : Cts (F := F) c xM) (fh : Cts (F := F) c hM) (fz : Cts (F := F) c zM)
  (fs4 : Cts (F := F) c sc4) (fs5 : Cts (F := F) c sc5) (fs7 : Cts (F := F) c sc7)
  (arg1 : Memref sig .tc .vmem S8x1x2048 .f32) (harg1 : arg1.IsWhole) (arg2 : Memref sig .tc .vmem S4x1x1536 .f32) (harg2 : arg2.IsWhole)
  (arg4 : Memref sig .tc .vmem S1x6144 .f32) (harg4 : arg4.IsWhole) (arg6 : Memref sig .tc .vmem S1x2048 .f32) (harg6 : arg6.IsWhole)
  (arg8 : Memref sig .tc .vmem S1x6144 .f32) (harg8 : arg8.IsWhole) (arg9 : Memref sig .tc .vmem S8x2048 .f32) (harg9 : arg9.IsWhole)

/-- The store of the modulated rows `256 k` to `256 k + 255`. -/
def hPiece (k : Fin 8) : View.Piece (Elt F) S2048x2048 .bf16 :=
  ⟨Rect.unit ![256 * k.val, 0] S256x2048.size (inb256 k),
    k0_pay30 (slot (xChunk c fx k))
      (View.readAt (Elt F) arg6.view (Rect.unit ![0, 0] S1x2048.size inb_S1x2048_S1x2048_0_0).toLoadRect (harg6.unread g))
      (run.sl.v194 c cs parts b fada arg1 harg1 arg2 harg2 arg4 harg4 arg8 arg9)
      (run.sl.v200 c cs parts b fada arg1 harg1 arg2 harg2 arg4 harg4 arg8 arg9)⟩

def hPieces : List (View.Piece (Elt F) S2048x2048 .bf16) := [7, 6, 5, 4, 3, 2, 1, 0].map (hPiece c cs parts b g fada fx arg1 harg1 arg2 harg2 arg4 harg4 arg6 harg6 arg8 arg9)

theorem hPieces_eq :
    run.sl.HS4_8 c cs parts b g fada fx fs5 arg1 harg1 arg2 harg2 arg4 harg4 arg6 harg6 arg8 arg9 = hPieces c cs parts b g fada fx arg1 harg1 arg2 harg2 arg4 harg4 arg6 harg6 arg8 arg9 := by
  obtain ⟨e0, e1, e2, e3, e4, e5, e6, e7⟩ := slots c fx fs5
  unfold run.sl.HS4_8 run.sl.r_5 run.sl.r_6 run.sl.r_7 run.sl.r_8 run.sl.r_9 run.sl.r_10 run.sl.r_11
  rw [e0, e1, e2, e3, e4, e5, e6, e7]
  rfl

/-- The modulated sequence. -/
def hAll : S2048x2048.Idx → Elt F .bf16 := View.canon (hPieces c cs parts b g fada fx arg1 harg1 arg2 harg2 arg4 harg4 arg6 harg6 arg8 arg9)

theorem hPieces_cover (y : S2048x2048.Idx) : ∃ p ∈ hPieces c cs parts b g fada fx arg1 harg1 arg2 harg2 arg4 harg4 arg6 harg6 arg8 arg9, y ∈ p.1.set :=
  View.cover_of_tiledL _ ![256, 2048] (by sl_kernel_rfl) y

theorem h_eq : run.sl.dma129 c cs parts b g fada fx fs4 fs5 arg1 harg1 arg2 harg2 arg4 harg4 arg6 harg6 arg8 arg9 = hAll c cs parts b g fada fx arg1 harg1 arg2 harg2 arg4 harg4 arg6 harg6 arg8 arg9 := by
  unfold run.sl.dma129
  rw [hPieces_eq]
  exact View.read_writes_eq_canon _ _ _ (hPieces_cover c cs parts b g fada fx arg1 harg1 arg2 harg2 arg4 harg4 arg6 harg6 arg8 arg9)

/-- The rows `512 k` to `512 k + 511` of it. -/
def hRows (k : Fin 4) : Vec F S512x2048 .bf16 :=
  fun y => hAll c cs parts b g fada fx arg1 harg1 arg2 harg2 arg4 harg4 arg6 harg6 arg8 arg9 ((Rect.unit (s := S2048x2048) ![512 * k.val, 0] S512x2048.size (inb512 k)).toLoadRect.idx y)

theorem hRows_eq :
    run.sl.v479 c cs parts b g fada fx fs5 arg1 harg1 arg2 harg2 arg4 harg4 arg6 harg6 arg8 arg9 = hRows c cs parts b g fada fx arg1 harg1 arg2 harg2 arg4 harg4 arg6 harg6 arg8 arg9 0
      ∧ run.sl.v490 c cs parts b g fada fx fs5 arg1 harg1 arg2 harg2 arg4 harg4 arg6 harg6 arg8 arg9 = hRows c cs parts b g fada fx arg1 harg1 arg2 harg2 arg4 harg4 arg6 harg6 arg8 arg9 1
      ∧ run.sl.v506 c cs parts b g fada fx fs5 arg1 harg1 arg2 harg2 arg4 harg4 arg6 harg6 arg8 arg9 = hRows c cs parts b g fada fx arg1 harg1 arg2 harg2 arg4 harg4 arg6 harg6 arg8 arg9 2
      ∧ run.sl.v522 c cs parts b g fada fx fs5 arg1 harg1 arg2 harg2 arg4 harg4 arg6 harg6 arg8 arg9 = hRows c cs parts b g fada fx arg1 harg1 arg2 harg2 arg4 harg4 arg6 harg6 arg8 arg9 3 := by
  refine ⟨?_, ?_, ?_, ?_⟩
  · unfold run.sl.v479; rw [View.readCov_eq_canon', hPieces_eq]; rfl
  · unfold run.sl.v490; rw [View.readCov_eq_canon', hPieces_eq]; rfl
  · unfold run.sl.v506; rw [View.readCov_eq_canon', hPieces_eq]; rfl
  · unfold run.sl.v522; rw [View.readCov_eq_canon', hPieces_eq]; rfl

/-- The rows `1536 u` to `1536 u + 767` of the transposed weights. -/
def wTile (u : Fin 4) : Vec F S768x2048 .bf16 :=
  View.read (Elt F) (fullM.view.slice (Rect.unit ![1536 * u.val, 0] S768x2048.size (inb768 u))) ffull

theorem wTile_eq :
    run.sl.v480 c ffull = wTile c ffull 0
      ∧ run.sl.v547 c ffull = wTile c ffull 2
      ∧ run.sl.v614 c ffull = wTile c ffull 1
      ∧ run.sl.v681 c ffull = wTile c ffull 3 := by
  refine ⟨?_, ?_, ?_, ?_⟩
  · unfold run.sl.v480; exact readCov_whole _ _ _ (by decide) _ _
  · unfold run.sl.v547; exact readCov_whole _ _ _ (by decide) _ _
  · unfold run.sl.v614; exact readCov_whole _ _ _ (by decide) _ _
  · unfold run.sl.v681; exact readCov_whole _ _ _ (by decide) _ _

/-- The product of 512 modulated rows and a tile's weights. -/
def zBlock (u k : Fin 4) : S512x768.Idx → Elt F .f32 :=
  fun y => k0_pay44 (hRows c cs parts b g fada fx arg1 harg1 arg2 harg2 arg4 harg4 arg6 harg6 arg8 arg9 k) (wTile c ffull u) (Shape.reshapeEquiv squeezes_S1x512x768_S512x768.numel_eq y)

/-- The store of the tile of the projection at the rows `512 k` and the columns `1536 u`. -/
def zPiece (u k : Fin 4) : View.Piece (Elt F) S2048x5376 .f32 :=
  ⟨Rect.unit ![512 * k.val, 1536 * u.val] S512x768.size (inbZ u k), zBlock c cs parts b g ffull fada fx arg1 harg1 arg2 harg2 arg4 harg4 arg6 harg6 arg8 arg9 u k⟩

def zPieces : List (View.Piece (Elt F) S2048x5376 .f32) :=
  [3, 1, 2, 0].flatMap fun u => [3, 2, 1, 0].map (zPiece c cs parts b g ffull fada fx arg1 harg1 arg2 harg2 arg4 harg4 arg6 harg6 arg8 arg9 u)

/-- What the body leaves does not depend on what the scratch buffers held. -/
theorem left_h :
    (run c cs parts b g ffull fada fx fh fz fs4 fs5 fs7 arg1 harg1 arg2 harg2 arg4 harg4 arg6 harg6 arg8 harg8 arg9 harg9).1.h
      = View.write (Elt F) hM.view fh (hAll c cs parts b g fada fx arg1 harg1 arg2 harg2 arg4 harg4 arg6 harg6 arg8 arg9) Finset.univ :=
  congrArg (fun d => View.write (Elt F) hM.view fh d Finset.univ) (h_eq c cs parts b g fada fx fs4 fs5 arg1 harg1 arg2 harg2 arg4 harg4 arg6 harg6 arg8 arg9)

end Named

end Cert.ModKernelRun

end
-- ==== Proof.ModZ.lean ====
/- The projection's tiles, each as the buffer it goes through holds it when it is copied out. -/
module

public import proofs.«01_k».proof.Proof.ModVal

@[expose] public section

set_option maxRecDepth 16384

noncomputable section

namespace Cert.ModKernelRun

open Cert.ModKernelIdeal Cert.ModKernelIdeal.Gen
open Idealize.ShloMosaic Idealize.ShloMosaic.TcCoe Idealize.ShloMosaic.Tactic

variable {F : FTy → Type} [FloatOps F]

variable (c : Dev nD)
  (cs : Vec F S8x1x2048 .f32) (parts : Vec F S4x1x1536 .f32) (b : Vec F S1x6144 .f32) (g : Vec F S1x2048 .f32)
  (ffull : Cts (F := F) c fullM) (fada : Cts (F := F) c adaM) (fx : Cts (F := F) c xM) (fh : Cts (F := F) c hM) (fz : Cts (F := F) c zM)
  (fs4 : Cts (F := F) c sc4) (fs5 : Cts (F := F) c sc5) (fs7 : Cts (F := F) c sc7)
  (arg1 : Memref sig .tc .vmem S8x1x2048 .f32) (harg1 : arg1.IsWhole) (arg2 : Memref sig .tc .vmem S4x1x1536 .f32) (harg2 : arg2.IsWhole)
  (arg4 : Memref sig .tc .vmem S1x6144 .f32) (harg4 : arg4.IsWhole) (arg6 : Memref sig .tc .vmem S1x2048 .f32) (harg6 : arg6.IsWhole)
  (arg8 : Memref sig .tc .vmem S1x6144 .f32) (harg8 : arg8.IsWhole) (arg9 : Memref sig .tc .vmem S8x2048 .f32) (harg9 : arg9.IsWhole)

set_option maxHeartbeats 1600000 in
theorem z_reads :
    run.sl.dma133 c cs parts b g ffull fada fx fs5 fs7 arg1 harg1 arg2 harg2 arg4 harg4 arg6 harg6 arg8 arg9 = zBlock c cs parts b g ffull fada fx arg1 harg1 arg2 harg2 arg4 harg4 arg6 harg6 arg8 arg9 0 0
      ∧ run.sl.dma137 c cs parts b g ffull fada fx fs5 fs7 arg1 harg1 arg2 harg2 arg4 harg4 arg6 harg6 arg8 arg9 = zBlock c cs parts b g ffull fada fx arg1 harg1 arg2 harg2 arg4 harg4 arg6 harg6 arg8 arg9 0 1
      ∧ run.sl.dma141 c cs parts b g ffull fada fx fs5 fs7 arg1 harg1 arg2 harg2 arg4 harg4 arg6 harg6 arg8 arg9 = zBlock c cs parts b g ffull fada fx arg1 harg1 arg2 harg2 arg4 harg4 arg6 harg6 arg8 arg9 0 2
      ∧ run.sl.dma145 c cs parts b g ffull fada fx fs5 fs7 arg1 harg1 arg2 harg2 arg4 harg4 arg6 harg6 arg8 arg9 = zBlock c cs parts b g ffull fada fx arg1 harg1 arg2 harg2 arg4 harg4 arg6 harg6 arg8 arg9 0 3
      ∧ run.sl.dma149 c cs parts b g ffull fada fx fs5 fs7 arg1 harg1 arg2 harg2 arg4 harg4 arg6 harg6 arg8 arg9 = zBlock c cs parts b g ffull fada fx arg1 harg1 arg2 harg2 arg4 harg4 arg6 harg6 arg8 arg9 2 0
      ∧ run.sl.dma153 c cs parts b g ffull fada fx fs5 fs7 arg1 harg1 arg2 harg2 arg4 harg4 arg6 harg6 arg8 arg9 = zBlock c cs parts b g ffull fada fx arg1 harg1 arg2 harg2 arg4 harg4 arg6 harg6 arg8 arg9 2 1
      ∧ run.sl.dma157 c cs parts b g ffull fada fx fs5 fs7 arg1 harg1 arg2 harg2 arg4 harg4 arg6 harg6 arg8 arg9 = zBlock c cs parts b g ffull fada fx arg1 harg1 arg2 harg2 arg4 harg4 arg6 harg6 arg8 arg9 2 2
      ∧ run.sl.dma161 c cs parts b g ffull fada fx fs5 fs7 arg1 harg1 arg2 harg2 arg4 harg4 arg6 harg6 arg8 arg9 = zBlock c cs parts b g ffull fada fx arg1 harg1 arg2 harg2 arg4 harg4 arg6 harg6 arg8 arg9 2 3
      ∧ run.sl.dma165 c cs parts b g ffull fada fx fs5 fs7 arg1 harg1 arg2 harg2 arg4 harg4 arg6 harg6 arg8 arg9 = zBlock c cs parts b g ffull fada fx arg1 harg1 arg2 harg2 arg4 harg4 arg6 harg6 arg8 arg9 1 0
      ∧ run.sl.dma169 c cs parts b g ffull fada fx fs5 fs7 arg1 harg1 arg2 harg2 arg4 harg4 arg6 harg6 arg8 arg9 = zBlock c cs parts b g ffull fada fx arg1 harg1 arg2 harg2 arg4 harg4 arg6 harg6 arg8 arg9 1 1
      ∧ run.sl.dma173 c cs parts b g ffull fada fx fs5 fs7 arg1 harg1 arg2 harg2 arg4 harg4 arg6 harg6 arg8 arg9 = zBlock c cs parts b g ffull fada fx arg1 harg1 arg2 harg2 arg4 harg4 arg6 harg6 arg8 arg9 1 2
      ∧ run.sl.dma177 c cs parts b g ffull fada fx fs5 fs7 arg1 harg1 arg2 harg2 arg4 harg4 arg6 harg6 arg8 arg9 = zBlock c cs parts b g ffull fada fx arg1 harg1 arg2 harg2 arg4 harg4 arg6 harg6 arg8 arg9 1 3
      ∧ run.sl.dma181 c cs parts b g ffull fada fx fs5 fs7 arg1 harg1 arg2 harg2 arg4 harg4 arg6 harg6 arg8 arg9 = zBlock c cs parts b g ffull fada fx arg1 harg1 arg2 harg2 arg4 harg4 arg6 harg6 arg8 arg9 3 0
      ∧ run.sl.dma185 c cs parts b g ffull fada fx fs5 fs7 arg1 harg1 arg2 harg2 arg4 harg4 arg6 harg6 arg8 arg9 = zBlock c cs parts b g ffull fada fx arg1 harg1 arg2 harg2 arg4 harg4 arg6 harg6 arg8 arg9 3 1
      ∧ run.sl.dma189 c cs parts b g ffull fada fx fs5 fs7 arg1 harg1 arg2 harg2 arg4 harg4 arg6 harg6 arg8 arg9 = zBlock c cs parts b g ffull fada fx arg1 harg1 arg2 harg2 arg4 harg4 arg6 harg6 arg8 arg9 3 2
      ∧ run.sl.dma193 c cs parts b g ffull fada fx fs5 fs7 arg1 harg1 arg2 harg2 arg4 harg4 arg6 harg6 arg8 arg9 = zBlock c cs parts b g ffull fada fx arg1 harg1 arg2 harg2 arg4 harg4 arg6 harg6 arg8 arg9 3 3 := by
  obtain ⟨a0, a1, a2, a3⟩ := hRows_eq c cs parts b g fada fx fs5 arg1 harg1 arg2 harg2 arg4 harg4 arg6 harg6 arg8 arg9
  obtain ⟨w0, w2, w1, w3⟩ := wTile_eq c ffull
  refine ⟨?_, ?_, ?_, ?_, ?_, ?_, ?_, ?_, ?_, ?_, ?_, ?_, ?_, ?_, ?_, ?_⟩
  · unfold run.sl.dma133 run.sl.HS7_1
    rw [a0, w0]
    exact read_writes_same sc7.view (Rect.unit ![0, 0, 0] S1x512x768.size inb_S2x512x768_S1x512x768_0_0_0) squeezes_S1x512x768_S512x768.numel_eq fs7 _ _
  · unfold run.sl.dma137 run.sl.HS7_2
    rw [a1, w0]
    exact read_writes_same sc7.view (Rect.unit ![1, 0, 0] S1x512x768.size inb_S2x512x768_S1x512x768_1_0_0) squeezes_S1x512x768_S512x768.numel_eq fs7 _ _
  · unfold run.sl.dma141 run.sl.HS7_3
    rw [a2, w0]
    exact read_writes_same sc7.view (Rect.unit ![0, 0, 0] S1x512x768.size inb_S2x512x768_S1x512x768_0_0_0) squeezes_S1x512x768_S512x768.numel_eq fs7 _ _
  · unfold run.sl.dma145 run.sl.HS7_4
    rw [a3, w0]
    exact read_writes_same sc7.view (Rect.unit ![1, 0, 0] S1x512x768.size inb_S2x512x768_S1x512x768_1_0_0) squeezes_S1x512x768_S512x768.numel_eq fs7 _ _
  · unfold run.sl.dma149 run.sl.HS7_5
    rw [a0, w2]
    exact read_writes_same sc7.view (Rect.unit ![0, 0, 0] S1x512x768.size inb_S2x512x768_S1x512x768_0_0_0) squeezes_S1x512x768_S512x768.numel_eq fs7 _ _
  · unfold run.sl.dma153 run.sl.HS7_6
    rw [a1, w2]
    exact read_writes_same sc7.view (Rect.unit ![1, 0, 0] S1x512x768.size inb_S2x512x768_S1x512x768_1_0_0) squeezes_S1x512x768_S512x768.numel_eq fs7 _ _
  · unfold run.sl.dma157 run.sl.HS7_7
    rw [a2, w2]
    exact read_writes_same sc7.view (Rect.unit ![0, 0, 0] S1x512x768.size inb_S2x512x768_S1x512x768_0_0_0) squeezes_S1x512x768_S512x768.numel_eq fs7 _ _
  · unfold run.sl.dma161 run.sl.HS7_8
    rw [a3, w2]
    exact read_writes_same sc7.view (Rect.unit ![1, 0, 0] S1x512x768.size inb_S2x512x768_S1x512x768_1_0_0) squeezes_S1x512x768_S512x768.numel_eq fs7 _ _
  · unfold run.sl.dma165 run.sl.HS7_9
    rw [a0, w1]
    exact read_writes_same sc7.view (Rect.unit ![0, 0, 0] S1x512x768.size inb_S2x512x768_S1x512x768_0_0_0) squeezes_S1x512x768_S512x768.numel_eq fs7 _ _
  · unfold run.sl.dma169 run.sl.HS7_10
    rw [a1, w1]
    exact read_writes_same sc7.view (Rect.unit ![1, 0, 0] S1x512x768.size inb_S2x512x768_S1x512x768_1_0_0) squeezes_S1x512x768_S512x768.numel_eq fs7 _ _
  · unfold run.sl.dma173 run.sl.HS7_11
    rw [a2, w1]
    exact read_writes_same sc7.view (Rect.unit ![0, 0, 0] S1x512x768.size inb_S2x512x768_S1x512x768_0_0_0) squeezes_S1x512x768_S512x768.numel_eq fs7 _ _
  · unfold run.sl.dma177 run.sl.HS7_12
    rw [a3, w1]
    exact read_writes_same sc7.view (Rect.unit ![1, 0, 0] S1x512x768.size inb_S2x512x768_S1x512x768_1_0_0) squeezes_S1x512x768_S512x768.numel_eq fs7 _ _
  · unfold run.sl.dma181 run.sl.HS7_13 run.sl.r_12
    rw [a0, w3]
    exact read_writes_same sc7.view (Rect.unit ![0, 0, 0] S1x512x768.size inb_S2x512x768_S1x512x768_0_0_0) squeezes_S1x512x768_S512x768.numel_eq fs7 _ _
  · unfold run.sl.dma185 run.sl.HS7_14
    rw [a1, w3]
    exact read_writes_same sc7.view (Rect.unit ![1, 0, 0] S1x512x768.size inb_S2x512x768_S1x512x768_1_0_0) squeezes_S1x512x768_S512x768.numel_eq fs7 _ _
  · unfold run.sl.dma189 run.sl.HS7_15 run.sl.r_13
    rw [a2, w3]
    exact read_writes_same sc7.view (Rect.unit ![0, 0, 0] S1x512x768.size inb_S2x512x768_S1x512x768_0_0_0) squeezes_S1x512x768_S512x768.numel_eq fs7 _ _
  · unfold run.sl.dma193 run.sl.HS7_16
    rw [a3, w3]
    exact read_writes_same sc7.view (Rect.unit ![1, 0, 0] S1x512x768.size inb_S2x512x768_S1x512x768_1_0_0) squeezes_S1x512x768_S512x768.numel_eq fs7 _ _

set_option maxHeartbeats 1600000 in
/-- What the body leaves does not depend on what the scratch buffers held. -/
theorem left_z :
    (run c cs parts b g ffull fada fx fh fz fs4 fs5 fs7 arg1 harg1 arg2 harg2 arg4 harg4 arg6 harg6 arg8 harg8 arg9 harg9).1.z
      = zM.view.writes (Elt F) fz (zPieces c cs parts b g ffull fada fx arg1 harg1 arg2 harg2 arg4 harg4 arg6 harg6 arg8 arg9) := by
  obtain ⟨z00, z01, z02, z03, z20, z21, z22, z23, z10, z11, z12, z13, z30, z31, z32, z33⟩ := z_reads c cs parts b g ffull fada fx fs5 fs7 arg1 harg1 arg2 harg2 arg4 harg4 arg6 harg6 arg8 arg9
  show zM.view.writes (Elt F) fz [⟨Rect.unit ![1536, 4608] S512x768.size (inbZ 3 3), run.sl.dma193 c cs parts b g ffull fada fx fs5 fs7 arg1 harg1 arg2 harg2 arg4 harg4 arg6 harg6 arg8 arg9⟩, ⟨Rect.unit ![1024, 4608] S512x768.size (inbZ 3 2), run.sl.dma189 c cs parts b g ffull fada fx fs5 fs7 arg1 harg1 arg2 harg2 arg4 harg4 arg6 harg6 arg8 arg9⟩, ⟨Rect.unit ![512, 4608] S512x768.size (inbZ 3 1), run.sl.dma185 c cs parts b g ffull fada fx fs5 fs7 arg1 harg1 arg2 harg2 arg4 harg4 arg6 harg6 arg8 arg9⟩, ⟨Rect.unit ![0, 4608] S512x768.size (inbZ 3 0), run.sl.dma181 c cs parts b g ffull fada fx fs5 fs7 arg1 harg1 arg2 harg2 arg4 harg4 arg6 harg6 arg8 arg9⟩, ⟨Rect.unit ![1536, 1536] S512x768.size (inbZ 1 3), run.sl.dma177 c cs parts b g ffull fada fx fs5 fs7 arg1 harg1 arg2 harg2 arg4 harg4 arg6 harg6 arg8 arg9⟩, ⟨Rect.unit ![1024, 1536] S512x768.size (inbZ 1 2), run.sl.dma173 c cs parts b g ffull fada fx fs5 fs7 arg1 harg1 arg2 harg2 arg4 harg4 arg6 harg6 arg8 arg9⟩, ⟨Rect.unit ![512, 1536] S512x768.size (inbZ 1 1), run.sl.dma169 c cs parts b g ffull fada fx fs5 fs7 arg1 harg1 arg2 harg2 arg4 harg4 arg6 harg6 arg8 arg9⟩, ⟨Rect.unit ![0, 1536] S512x768.size (inbZ 1 0), run.sl.dma165 c cs parts b g ffull fada fx fs5 fs7 arg1 harg1 arg2 harg2 arg4 harg4 arg6 harg6 arg8 arg9⟩, ⟨Rect.unit ![1536, 3072] S512x768.size (inbZ 2 3), run.sl.dma161 c cs parts b g ffull fada fx fs5 fs7 arg1 harg1 arg2 harg2 arg4 harg4 arg6 harg6 arg8 arg9⟩, ⟨Rect.unit ![1024, 3072] S512x768.size (inbZ 2 2), run.sl.dma157 c cs parts b g ffull fada fx fs5 fs7 arg1 harg1 arg2 harg2 arg4 harg4 arg6 harg6 arg8 arg9⟩, ⟨Rect.unit ![512, 3072] S512x768.size (inbZ 2 1), run.sl.dma153 c cs parts b g ffull fada fx fs5 fs7 arg1 harg1 arg2 harg2 arg4 harg4 arg6 harg6 arg8 arg9⟩, ⟨Rect.unit ![0, 3072] S512x768.size (inbZ 2 0), run.sl.dma149 c cs parts b g ffull fada fx fs5 fs7 arg1 harg1 arg2 harg2 arg4 harg4 arg6 harg6 arg8 arg9⟩, ⟨Rect.unit ![1536, 0] S512x768.size (inbZ 0 3), run.sl.dma145 c cs parts b g ffull fada fx fs5 fs7 arg1 harg1 arg2 harg2 arg4 harg4 arg6 harg6 arg8 arg9⟩, ⟨Rect.unit ![1024, 0] S512x768.size (inbZ 0 2), run.sl.dma141 c cs parts b g ffull fada fx fs5 fs7 arg1 harg1 arg2 harg2 arg4 harg4 arg6 harg6 arg8 arg9⟩, ⟨Rect.unit ![512, 0] S512x768.size (inbZ 0 1), run.sl.dma137 c cs parts b g ffull fada fx fs5 fs7 arg1 harg1 arg2 harg2 arg4 harg4 arg6 harg6 arg8 arg9⟩, ⟨Rect.unit ![0, 0] S512x768.size (inbZ 0 0), run.sl.dma133 c cs parts b g ffull fada fx fs5 fs7 arg1 harg1 arg2 harg2 arg4 harg4 arg6 harg6 arg8 arg9⟩] = _
  rw [z00, z01, z02, z03, z20, z21, z22, z23, z10, z11, z12, z13, z30, z31, z32, z33]
  rfl

end Cert.ModKernelRun

end
-- ==== Proof.ModRef.lean ====
/- The modulation, the norm and the inputs' projection: the values both programs compute, and the reference's lines as them. -/
module

public import proofs.«01_k».proof.Proof.Gen.ModReferenceIdeal.Read
public import Idealize.ShloMosaic.Lib.Pointwise

@[expose] public section

set_option maxRecDepth 16384

noncomputable section

namespace Cert.ModRef

open Cert.ModReferenceIdeal Cert.ModReferenceIdeal.Gen Cert.ModReferenceIdeal.Read
open Idealize.ShloMosaic Idealize.ShloMosaic.TcCoe Idealize.SL.Sem

abbrev Seq : Type := FVec Ideal ⟨2, ![2048, 2048]⟩ .f32
abbrev Cond : Type := FVec Ideal ⟨2, ![8, 2048]⟩ .f32
abbrev Gain : Type := FVec Ideal ⟨2, ![1, 2048]⟩ .f32
abbrev Ada : Type := FVec Ideal ⟨3, ![1, 2048, 6144]⟩ .f32
abbrev Bias : Type := FVec Ideal ⟨2, ![1, 6144]⟩ .f32
abbrev Proj : Type := FVec Ideal ⟨3, ![1, 2048, 5376]⟩ .f32

/-- An entry of the condition, times its logistic function. -/
def silu (v : Ideal .f32) : Ideal .f32 := v * Ideal.div 1 (1 + Ideal.exp (-v))

/-- The modulation of the first example. -/
def mod (cond : Cond) (w : Ada) (b : Bias) (j : Fin 6144) : Ideal .f32 :=
  (∑ k, silu (cond (ix2 0 k)) * w (ix3 0 k j)) + b (ix2 0 j)

/-- A row scaled to mean square one, then by the gain and by one more than the scale, and shifted. -/
def norm (x : Fin 2048 → Ideal .f32) (g scale shift : Ideal .f32) (j : Fin 2048) : Ideal .f32 :=
  x j * Ideal.rsqrt (Ideal.div (∑ k, x k * x k) (Ideal.ofBits .f32 0x45000000#32) + Ideal.ofBits .f32 0x358637BD#32) * g
    * (1 + scale) + shift

/-- The column of the modulation that scales column `j` of the sequence, and the one that shifts it. -/
def scaleCol (j : Fin 2048) : Fin 6144 := ⟨2048 + j.val, by omega⟩
def shiftCol (j : Fin 2048) : Fin 6144 := ⟨j.val, by omega⟩

def modulated (x : Seq) (cond : Cond) (g : Gain) (w : Ada) (b : Bias) (i j : Fin 2048) : Ideal .f32 :=
  norm (fun k => x (ix2 i k)) (g (ix2 0 j)) (mod cond w b (scaleCol j)) (mod cond w b (shiftCol j)) j

/-- Column `j` of piece `s` of the modulation, of which every device computes one. -/
def pieceCol (s : Fin 4) (j : Fin 1536) : Fin 6144 := ⟨s.val * 1536 + j.val, by omega⟩

/-- Column `q` of the even tile `2 u` of the projection. -/
def evenCol (u : Fin 4) (q : Fin 768) : Fin 5376 := ⟨2 * u.val * 768 + q.val, by omega⟩

def projected (x : Seq) (cond : Cond) (g : Gain) (w : Ada) (b : Bias) (p : Proj) (i : Fin 2048) (u : Fin 4) (q : Fin 768) : Ideal .f32 :=
  ∑ k, modulated x cond g w b i k * p (ix3 0 k (evenCol u q))

variable (x : Seq) (cond : Cond) (g : Gain) (w : Ada) (b : Bias) (p : Proj)

theorem silu_at (i : Fin 8) (j : Fin 2048) : val_main_v0 (F := Ideal) cond (ix2 i j) = silu (cond (ix2 i j)) := by
  pointwise [val_main_v0, val_main_call0_v5, val_main_call0_v4, val_main_call0_v3, val_main_call0_v2, val_main_call0_v1, val_main_call0_v0,
    val_main_call0_cst, val_main_call0_cst_0]
  rfl

theorem mod_at (j : Fin 6144) : val_main_v7 (F := Ideal) cond w b (ix2 0 j) = mod cond w b j := by
  pointwise [val_main_v7, val_main_v6, val_main_v5, val_main_v4, val_main_v3, val_main_v2, val_main_v1]
  simp only [silu_at]
  rfl

theorem scale_at (j : Fin 2048) : val_main_v9 (F := Ideal) cond w b (ix2 0 j) = mod cond w b (scaleCol j) := by
  rw [← mod_at]
  pointwise [val_main_v9]
  rfl

theorem shift_at (j : Fin 2048) : val_main_v8 (F := Ideal) cond w b (ix2 0 j) = mod cond w b (shiftCol j) := by
  rw [← mod_at]
  pointwise [val_main_v8]
  rfl

theorem modulated_at (i j : Fin 2048) : val_main_v30 (F := Ideal) x cond g w b (ix2 i j) = modulated x cond g w b i j := by
  pointwise [val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13, val_main_v12,
    val_main_v11, val_main_cst, val_main_cst_0, val_main_cst_1, val_main_cst_2]
  rw [scale_at, shift_at]
  rfl

theorem rounded_at (i j : Fin 2048) : val_main_v33 (F := Ideal) x cond g w b (ix2 i j) = modulated x cond g w b i j := by
  rw [← modulated_at]
  pointwise [val_main_v33]

theorem projected_at (i : Fin 2048) (u : Fin 4) (q : Fin 768) :
    val_main_v35 (F := Ideal) x cond g w b p (ix3 i u q) = projected x cond g w b p i u q := by
  pointwise [val_main_v35, val_main_v34, val_main_v32, val_main_v31]
  simp only [modulated_at]
  rfl

end Cert.ModRef

end
-- ==== Proof.ModPoint.lean ====
/- The entries of what the kernel of the modulation and the inputs' projection stores. -/
module

public import proofs.«01_k».proof.Proof.ModZ
public import proofs.«01_k».proof.Proof.ModRef
public import proofs.«01_k».proof.Proof.Over
public import Idealize.ShloMosaic.Lib.Pipeline.ValueKit
public import Idealize.ShloMosaic.Lib.Pointwise

@[expose] public section

set_option maxRecDepth 16384

noncomputable section

namespace Cert.ModPoint

open Cert.ModKernelIdeal Cert.ModKernelIdeal.Gen Cert.ModKernelRun Cert.Over
open Idealize.ShloMosaic Idealize.ShloMosaic.TcCoe Idealize.SL.Sem

section Stores

variable {sig : RefSig} {κ : Kind} {sp : Space} {s : Shape} {e : EltTy} {Val : EltTy → Type}

/-- Stores that all agree with one function leave it wherever one of them reaches. -/
theorem over_at {x H : s.Idx → Val e} {L : List (View.Piece Val s e)} {y : s.Idx} (hc : ∃ p ∈ L, y ∈ p.1.set)
    (h : ∀ p ∈ L, ∀ z, p.2 z = H (p.1.emb z)) : over x L y = H y := by
  induction L with
  | nil =>
    obtain ⟨_, hm, _⟩ := hc
    exact absurd hm List.not_mem_nil
  | cons p L ih =>
    by_cases hp : y ∈ p.1.set
    · obtain ⟨r, w⟩ := p
      obtain ⟨z, rfl⟩ : ∃ z, r.emb z = y := r.exists_idx_of_mem hp
      rw [over_cons_emb]
      exact h ⟨r, w⟩ List.mem_cons_self z
    · rw [over_cons_of_not_mem _ p L hp]
      obtain ⟨q, hq, hy⟩ := hc
      rcases List.mem_cons.mp hq with rfl | hq
      · exact absurd hy hp
      · exact ih ⟨q, hq, hy⟩ fun p hp => h p (List.mem_cons_of_mem _ hp)

theorem canon_at [∀ e, Nonempty (Val e)] {H : s.Idx → Val e} {L : List (View.Piece Val s e)} (hc : ∀ y : s.Idx, ∃ p ∈ L, y ∈ p.1.set)
    (h : ∀ p ∈ L, ∀ z, p.2 z = H (p.1.emb z)) : View.canon L = H := by
  rw [← over_of_cover H L hc]
  exact funext fun y => over_at (hc y) h

/-- A load from a whole buffer. -/
theorem readAt_unread {m : Memref sig κ sp s e} (h : m.IsWhole) (x : s.Idx → Val e) (R : LoadRect s) :
    m.view.readAt Val R (h.unread x) = fun y => x (R.idx y) :=
  funext fun y => congrFun (h.read_unread x) (R.idx y)

/-- The index a box's entry is at. -/
theorem idx2 {R C o0 o1 s0 s1 : ℕ} {inb : ∀ a, (![o0, o1] : Fin 2 → ℕ) a + (![s0, s1] : Fin 2 → ℕ) a ≤ (⟨2, ![R, C]⟩ : Shape).size a}
    (a : Fin s0) (b : Fin s1) (r : Fin R) (q : Fin C) (hr : r.val = o0 + a.val) (hq : q.val = o1 + b.val) :
    (Rect.unit (s := ⟨2, ![R, C]⟩) ![o0, o1] ![s0, s1] inb).toLoadRect.idx (ix2 a b) = (ix2 r q : (⟨2, ![R, C]⟩ : Shape).Idx) :=
  (eq_ix2 _).trans (congrArg₂ ix2 (Fin.ext (by show o0 + 1 * a.val = _; omega)) (Fin.ext (by show o1 + 1 * b.val = _; omega)))

theorem idx3 {A R C p0 o0 o1 t0 s0 s1 : ℕ}
    {inb : ∀ a, (![p0, o0, o1] : Fin 3 → ℕ) a + (![t0, s0, s1] : Fin 3 → ℕ) a ≤ (⟨3, ![A, R, C]⟩ : Shape).size a}
    (k : Fin t0) (a : Fin s0) (b : Fin s1) (w : Fin A) (r : Fin R) (q : Fin C) (hw : w.val = p0 + k.val) (hr : r.val = o0 + a.val)
    (hq : q.val = o1 + b.val) :
    (Rect.unit (s := ⟨3, ![A, R, C]⟩) ![p0, o0, o1] ![t0, s0, s1] inb).toLoadRect.idx (ix3 k a b) = (ix3 w r q : (⟨3, ![A, R, C]⟩ : Shape).Idx) := by
  funext j
  refine Fin.ext ?_
  match j with
  | ⟨0, _⟩ =>
    show p0 + 1 * k.val = w.val
    omega
  | ⟨1, _⟩ =>
    show o0 + 1 * a.val = r.val
    omega
  | ⟨2, _⟩ =>
    show o1 + 1 * b.val = q.val
    omega

end Stores

/-- A sum over the sequence's columns, by chunks. -/
theorem sum_chunks (f : Fin 2048 → EReal) : ∑ k, f k = ∑ q : Fin 8, ∑ r : Fin 256, f ⟨256 * q.val + r.val, by omega⟩ := by
  refine Eq.trans ?_ (Fintype.sum_prod_type fun x : Fin 8 × Fin 256 => f ⟨256 * x.1.val + x.2.val, by omega⟩)
  refine (Fintype.sum_equiv finProdFinEquiv (fun x : Fin 8 × Fin 256 => f ⟨256 * x.1.val + x.2.val, by omega⟩) f fun x => congrArg f (Fin.ext ?_)).symm
  show 256 * x.1.val + x.2.val = x.2.val + 256 * x.1.val
  omega

section Payloads

theorem silu_pay (v : FVec Ideal S1x1x2048 .f32) (j : Fin 2048) : k0_pay2 (F := Ideal) v (ix2 0 j) = ModRef.silu (v (ix3 0 0 j)) := by
  pointwise [k0_pay2]
  rfl

/-- The product of the activation and the shard, over the eight chunks. -/
theorem acc_pay (a0 a1 a2 a3 a4 a5 a6 a7 : FVec Ideal S8x256 .f32) (w0 w1 w2 w3 w4 w5 w6 w7 : FVec Ideal S256x1536 .f32) (i : Fin 8) (j : Fin 1536) :
    k0_pay14 (F := Ideal) (k0_pay12 k0_pay10 (k0_pay11 a0) w0 a1 w1 a2 w2 a3 w3 a4 w4) (k0_pay13 a5) w5 a6 w6 a7 w7 (ix2 i j)
      = (∑ k, a0 (ix2 i k) * w0 (ix2 k j)) + (∑ k, a1 (ix2 i k) * w1 (ix2 k j)) + (∑ k, a2 (ix2 i k) * w2 (ix2 k j))
        + (∑ k, a3 (ix2 i k) * w3 (ix2 k j)) + (∑ k, a4 (ix2 i k) * w4 (ix2 k j)) + (∑ k, a5 (ix2 i k) * w5 (ix2 k j))
        + (∑ k, a6 (ix2 i k) * w6 (ix2 k j)) + (∑ k, a7 (ix2 i k) * w7 (ix2 k j)) := by
  pointwise [k0_pay14, k0_pay12, k0_pay11, k0_pay13, k0_pay10]

theorem row_pay (r0 : FVec Ideal S8x1536 .f32) (a5 a6 a7 : FVec Ideal S8x256 .f32) (w5 w6 w7 : FVec Ideal S256x1536 .f32) (j : Fin 1536) :
    k0_pay15 (F := Ideal) r0 a5 w5 a6 w6 a7 w7 (ix3 0 0 j) = k0_pay14 (F := Ideal) r0 a5 w5 a6 w6 a7 w7 (ix2 0 j) := by
  unfold k0_pay15
  generalize k0_pay14 (F := Ideal) r0 a5 w5 a6 w6 a7 w7 = A
  pointwise

theorem copy_pay (v : FVec Ideal S1x1x1536 .f32) (j : Fin 1536) : k0_pay25 (F := Ideal) v (ix3 0 0 j) = v (ix3 0 0 j) := by
  pointwise [k0_pay25]

theorem bias_pay (v : FVec Ideal S1x1x1536 .f32) (b : FVec Ideal S1x1536 .f32) (j : Fin 1536) :
    k0_pay26 (F := Ideal) v b (ix2 0 j) = v (ix3 0 0 j) + b (ix2 0 j) := by
  pointwise [k0_pay26]

theorem norm_pay (x : FVec Ideal S1x256x2048 .f32) (g s1 s0 : FVec Ideal S1x2048 .f32) (i : Fin 256) (j : Fin 2048) :
    k0_pay30 (F := Ideal) x g s1 s0 (ix2 i j) = ModRef.norm (fun k => x (ix3 0 i k)) (g (ix2 0 j)) (s1 (ix2 0 j)) (s0 (ix2 0 j)) j := by
  pointwise [k0_pay30]
  rfl

theorem proj_pay (h : FVec Ideal S512x2048 .bf16) (w : FVec Ideal S768x2048 .bf16) (i : Fin 512) (j : Fin 768) :
    k0_pay44 (F := Ideal) h w (ix3 0 i j) = ∑ k, h (ix2 i k) * w (ix2 j k) := by
  pointwise [k0_pay44]

end Payloads

end Cert.ModPoint

end
-- ==== Proof.ModEntries.lean ====
/- The entries of what the kernel of the modulation and the inputs' projection leaves, from what it is given. -/
module

public import proofs.«01_k».proof.Proof.ModPoint
public import Idealize.ShloMosaic.Lib.Pipeline.ReadBack

@[expose] public section

set_option maxRecDepth 16384

noncomputable section

namespace Cert.ModPoint

open Cert.ModKernelIdeal Cert.ModKernelIdeal.Gen Cert.ModKernelRun Cert.Over
open Idealize.ShloMosaic Idealize.ShloMosaic.TcCoe Idealize.SL.Sem

variable (c : Dev nD)
  (cs : Vec Ideal S8x1x2048 .f32) (parts : Vec Ideal S4x1x1536 .f32) (b : Vec Ideal S1x6144 .f32) (g : Vec Ideal S1x2048 .f32)
  (ffull : Cts (F := Ideal) c fullM) (fada : Cts (F := Ideal) c adaM) (fx : Cts (F := Ideal) c xM) (fh : Cts (F := Ideal) c hM) (fz : Cts (F := Ideal) c zM)
  (fs4 : Cts (F := Ideal) c sc4) (fs5 : Cts (F := Ideal) c sc5) (fs7 : Cts (F := Ideal) c sc7)
  (arg1 : Memref sig .tc .vmem S8x1x2048 .f32) (harg1 : arg1.IsWhole) (arg2 : Memref sig .tc .vmem S4x1x1536 .f32) (harg2 : arg2.IsWhole)
  (arg4 : Memref sig .tc .vmem S1x6144 .f32) (harg4 : arg4.IsWhole) (arg6 : Memref sig .tc .vmem S1x2048 .f32) (harg6 : arg6.IsWhole)
  (arg8 : Memref sig .tc .vmem S1x6144 .f32) (harg8 : arg8.IsWhole) (arg9 : Memref sig .tc .vmem S8x2048 .f32) (harg9 : arg9.IsWhole)

/-! ## The activation of the conditions -/

theorem conds_pay (v : FVec Ideal S8x1x2048 .f32) (z : S8x1x2048.Idx) : k0_pay1 (F := Ideal) v z = v z := by
  rw [eq_ix3 z]
  pointwise [k0_pay1]

theorem conds_left : View.canon (run.sl.HS1_1 (F := Ideal) c cs arg1 harg1) = cs := by
  refine canon_at (View.cover_of_tiledL _ ![8, 1, 2048] (by sl_kernel_rfl)) (List.forall_mem_cons.2 ⟨fun z => ?_, fun _ h => absurd h List.not_mem_nil⟩)
  exact (conds_pay _ z).trans (congrFun (readAt_unread harg1 cs _) z)

theorem cond_read (k : Fin 8) (inb) (j : Fin 2048) :
    sc1.view.readCov (run.sl.HS1_1 (F := Ideal) c cs arg1 harg1) (Rect.unit (s := S8x1x2048) ![k.val, 0, 0] S1x1x2048.size inb).toLoadRect (ix3 0 0 j) = cs (ix3 k 0 j) := by
  rw [View.readCov_eq_canon', conds_left]
  exact congrArg cs (idx3 0 0 j k 0 j (by simp) (by simp) (by simp))

theorem rows (j : Fin 2048) :
    run.sl.v10 (F := Ideal) c cs arg1 harg1 (ix3 0 0 j) = cs (ix3 0 0 j)
      ∧ run.sl.v15 (F := Ideal) c cs arg1 harg1 (ix3 0 0 j) = cs (ix3 1 0 j)
      ∧ run.sl.v20 (F := Ideal) c cs arg1 harg1 (ix3 0 0 j) = cs (ix3 2 0 j)
      ∧ run.sl.v25 (F := Ideal) c cs arg1 harg1 (ix3 0 0 j) = cs (ix3 3 0 j)
      ∧ run.sl.v30 (F := Ideal) c cs arg1 harg1 (ix3 0 0 j) = cs (ix3 4 0 j)
      ∧ run.sl.v35 (F := Ideal) c cs arg1 harg1 (ix3 0 0 j) = cs (ix3 5 0 j)
      ∧ run.sl.v40 (F := Ideal) c cs arg1 harg1 (ix3 0 0 j) = cs (ix3 6 0 j)
      ∧ run.sl.v45 (F := Ideal) c cs arg1 harg1 (ix3 0 0 j) = cs (ix3 7 0 j) := by
  unfold run.sl.v10 run.sl.v15 run.sl.v20 run.sl.v25 run.sl.v30 run.sl.v35 run.sl.v40 run.sl.v45
  exact ⟨cond_read c cs arg1 harg1 0 inb_S8x1x2048_S1x1x2048_0_0_0 j, cond_read c cs arg1 harg1 1 inb_S8x1x2048_S1x1x2048_1_0_0 j, cond_read c cs arg1 harg1 2 inb_S8x1x2048_S1x1x2048_2_0_0 j, cond_read c cs arg1 harg1 3 inb_S8x1x2048_S1x1x2048_3_0_0 j, cond_read c cs arg1 harg1 4 inb_S8x1x2048_S1x1x2048_4_0_0 j, cond_read c cs arg1 harg1 5 inb_S8x1x2048_S1x1x2048_5_0_0 j, cond_read c cs arg1 harg1 6 inb_S8x1x2048_S1x1x2048_6_0_0 j, cond_read c cs arg1 harg1 7 inb_S8x1x2048_S1x1x2048_7_0_0 j⟩

/-- The conditions, activated. -/
def act : S8x2048.Idx → Ideal .f32 := fun y => ModRef.silu (cs (ix3 (y 0) 0 (y 1)))

theorem silu_piece (k : Fin 8) (inb) (v : FVec Ideal S1x1x2048 .f32) (hv : ∀ j, v (ix3 0 0 j) = cs (ix3 k 0 j))
    (z : (Rect.unit (s := S8x2048) ![k.val, 0] S1x2048.size inb).shape.Idx) :
    k0_pay2 (F := Ideal) v z = act cs ((Rect.unit (s := S8x2048) ![k.val, 0] S1x2048.size inb).emb z) := by
  obtain ⟨a, j, rfl⟩ : ∃ (a : Fin 1) (j : Fin 2048), z = ix2 a j := ⟨z 0, z 1, eq_ix2 z⟩
  obtain rfl : a = 0 := Subsingleton.elim _ _
  refine (silu_pay v j).trans ?_
  rw [hv]
  exact (congrArg (act cs) (idx2 0 j k j (by simp) (by simp))).symm

theorem acts_left : View.canon (run.sl.H9_8 (F := Ideal) c cs arg1 harg1) = act cs := by
  refine canon_at (View.cover_of_tiledL _ ![1, 2048] (by sl_kernel_rfl)) ?_
  unfold run.sl.H9_8
  exact List.forall_mem_cons.2 ⟨silu_piece cs 7 inb_S8x2048_S1x2048_7_0 _ fun j => (rows c cs arg1 harg1 j).2.2.2.2.2.2.2, List.forall_mem_cons.2 ⟨silu_piece cs 6 inb_S8x2048_S1x2048_6_0 _ fun j => (rows c cs arg1 harg1 j).2.2.2.2.2.2.1, List.forall_mem_cons.2 ⟨silu_piece cs 5 inb_S8x2048_S1x2048_5_0 _ fun j => (rows c cs arg1 harg1 j).2.2.2.2.2.1, List.forall_mem_cons.2 ⟨silu_piece cs 4 inb_S8x2048_S1x2048_4_0 _ fun j => (rows c cs arg1 harg1 j).2.2.2.2.1, List.forall_mem_cons.2 ⟨silu_piece cs 3 inb_S8x2048_S1x2048_3_0 _ fun j => (rows c cs arg1 harg1 j).2.2.2.1, List.forall_mem_cons.2 ⟨silu_piece cs 2 inb_S8x2048_S1x2048_2_0 _ fun j => (rows c cs arg1 harg1 j).2.2.1, List.forall_mem_cons.2 ⟨silu_piece cs 1 inb_S8x2048_S1x2048_1_0 _ fun j => (rows c cs arg1 harg1 j).2.1, List.forall_mem_cons.2 ⟨silu_piece cs 0 inb_S8x2048_S1x2048_0_0 _ fun j => (rows c cs arg1 harg1 j).1, fun _ h => absurd h List.not_mem_nil⟩⟩⟩⟩⟩⟩⟩⟩

theorem act_read (q : Fin 8) (o : ℕ) (ho : o = 256 * q.val) (inb) :
    arg9.view.readCov (run.sl.H9_8 (F := Ideal) c cs arg1 harg1) (Rect.unit (s := S8x2048) ![0, o] S8x256.size inb).toLoadRect
      = fun y : S8x256.Idx => act cs (ix2 (y 0) ⟨256 * q.val + (y 1).val, by have h : (y 1).val < 256 := (y 1).isLt; omega⟩) := by
  subst ho
  rw [View.readCov_eq_canon', acts_left]
  funext y
  refine congrArg (act cs) ?_
  rw [eq_ix2 y]
  exact idx2 _ _ _ _ (by simp) rfl

/-! ## The modulation -/

/-- A store of the whole. -/
theorem canon_whole {s : Shape} {e : EltTy} {Val : EltTy → Type} [∀ e, Nonempty (Val e)] (A : s.Idx → Val e) (L : List (View.Piece Val s e)) :
    View.canon (⟨Rect.whole s, A⟩ :: L) = A :=
  funext fun y => (congrArg (View.canon (⟨Rect.whole s, A⟩ :: L)) (funext fun a => Fin.ext (by
    show (y a).val = 0 + 1 * (y a).val
    omega))).trans (View.canon_cons_emb (Rect.whole s) A L y)

theorem shard_read (A : S2048x1536.Idx → Ideal .f32) (q : Fin 8) (o : ℕ) (ho : o = 256 * q.val) (inb) :
    sc0.view.readCov (Val := Elt Ideal) [⟨Rect.whole S2048x1536, A⟩] (Rect.unit (s := S2048x1536) ![o, 0] S256x1536.size inb).toLoadRect
      = fun y : S256x1536.Idx => A (ix2 ⟨256 * q.val + (y 0).val, by have h : (y 0).val < 256 := (y 0).isLt; omega⟩ (y 1)) := by
  subst ho
  rw [View.readCov_eq_canon', canon_whole]
  funext y
  refine congrArg A ?_
  rw [eq_ix2 y]
  exact idx2 _ _ _ _ rfl (by simp)

/-- The first device's piece of the modulation, without its bias. -/
def own (A : FVec Ideal S2048x1536 .f32) (j : Fin 1536) : Ideal .f32 := ∑ k, ModRef.silu (cs (ix3 0 0 k)) * A (ix2 k j)

theorem own_at (j : Fin 1536) : run.sl.v144 (F := Ideal) c cs fada arg1 harg1 arg9 (ix3 0 0 j) = own cs (View.read (Elt Ideal) adaM.view fada) j := by
  unfold run.sl.v144 run.sl.HS2_8
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_skip _ _ _ _ _ (by decide)]
  rw [View.readCov_cons_toLoadRect, row_pay]
  unfold run.sl.r_1 run.sl.r run.sl.r_2
  rw [acc_pay]
  unfold run.sl.v51 run.sl.v58 run.sl.v65 run.sl.v72 run.sl.v79 run.sl.v86 run.sl.v93 run.sl.v100 run.sl.v54 run.sl.v61 run.sl.v68 run.sl.v75 run.sl.v82 run.sl.v89 run.sl.v96 run.sl.v103 run.sl.dma3
  rw [act_read c cs arg1 harg1 arg9 0 0 rfl, act_read c cs arg1 harg1 arg9 1 256 rfl, act_read c cs arg1 harg1 arg9 2 512 rfl, act_read c cs arg1 harg1 arg9 3 768 rfl, act_read c cs arg1 harg1 arg9 4 1024 rfl, act_read c cs arg1 harg1 arg9 5 1280 rfl, act_read c cs arg1 harg1 arg9 6 1536 rfl, act_read c cs arg1 harg1 arg9 7 1792 rfl,
    shard_read _ 0 0 rfl, shard_read _ 1 256 rfl, shard_read _ 2 512 rfl, shard_read _ 3 768 rfl, shard_read _ 4 1024 rfl, shard_read _ 5 1280 rfl, shard_read _ 6 1536 rfl, shard_read _ 7 1792 rfl]
  unfold own
  rw [sum_chunks]
  simp only [Fin.sum_univ_eight]
  rfl

section Modulation

variable (M : Fin 6144 → Ideal .f32) (h0 : ∀ j, own cs (View.read (Elt Ideal) adaM.view fada) j = M (ModRef.pieceCol 0 j))
  (hM : ∀ s j, parts (ix3 s 0 j) = M (ModRef.pieceCol s j))
include h0 hM

omit h0 hM in
theorem whole_mem (y : S4x1x1536.Idx) : y ∈ (Rect.unit (s := S4x1x1536) ![0, 0, 0] S4x1x1536.size inb_S4x1x1536_S4x1x1536_0_0_0).set := by
  have h := (Rect.unit (s := S4x1x1536) ![0, 0, 0] S4x1x1536.size inb_S4x1x1536_S4x1x1536_0_0_0).toLoadRect.idx_mem (ix3 (y 0) (y 1) (y 2))
  exact Eq.mp (congrArg (fun z => z ∈ (Rect.unit (s := S4x1x1536) ![0, 0, 0] S4x1x1536.size inb_S4x1x1536_S4x1x1536_0_0_0).set)
    ((idx3 (y 0) (y 1) (y 2) (y 0) (y 1) (y 2) (by simp) (by simp) (by simp)).trans (eq_ix3 y).symm)) h

omit h0 hM in
/-- The pieces in their buffer: all of them, and over the first one the first device's own. -/
theorem two_left (f : S1x1x1536.Idx → Ideal .f32) (w : S4x1x1536.Idx → Ideal .f32) (hf : ∀ j, f (ix3 0 0 j) = M (ModRef.pieceCol 0 j))
    (hw : ∀ s j, w (ix3 s 0 j) = M (ModRef.pieceCol s j)) :
    View.canon (Val := Elt Ideal) (e := .f32) [⟨Rect.unit (s := S4x1x1536) ![0, 0, 0] S1x1x1536.size inb_S4x1x1536_S1x1x1536_0_0_0, f⟩,
        ⟨Rect.unit (s := S4x1x1536) ![0, 0, 0] S4x1x1536.size inb_S4x1x1536_S4x1x1536_0_0_0, w⟩]
      = fun y : S4x1x1536.Idx => M (ModRef.pieceCol (y 0) (y 2)) := by
  refine canon_at (fun y => ⟨_, List.mem_cons_of_mem _ List.mem_cons_self, whole_mem y⟩) ?_
  refine List.forall_mem_cons.2 ⟨fun z => ?_, List.forall_mem_cons.2 ⟨fun z => ?_, fun _ h => absurd h List.not_mem_nil⟩⟩
  · obtain ⟨a, b', j, rfl⟩ : ∃ (a : Fin 1) (b' : Fin 1) (j : Fin 1536), z = ix3 a b' j := ⟨z 0, z 1, z 2, eq_ix3 z⟩
    obtain rfl : a = 0 := Subsingleton.elim _ _
    obtain rfl : b' = 0 := Subsingleton.elim _ _
    exact (hf j).trans (congrArg (fun y : S4x1x1536.Idx => M (ModRef.pieceCol (y 0) (y 2))) (idx3 (inb := inb_S4x1x1536_S1x1x1536_0_0_0) 0 0 j 0 0 j rfl rfl (by simp))).symm
  · obtain ⟨s, a, j, rfl⟩ : ∃ (s : Fin 4) (a : Fin 1) (j : Fin 1536), z = ix3 s a j := ⟨z 0, z 1, z 2, eq_ix3 z⟩
    obtain rfl : a = 0 := Subsingleton.elim _ _
    exact (hw s j).trans (congrArg (fun y : S4x1x1536.Idx => M (ModRef.pieceCol (y 0) (y 2)))
      (idx3 (inb := inb_S4x1x1536_S4x1x1536_0_0_0) s (0 : Fin 1) j s (0 : Fin 1) j (by simp) (by simp) (by simp))).symm

omit h0 hM in
theorem parts_pay (v : FVec Ideal S4x1x1536 .f32) (s : Fin 4) (j : Fin 1536) : k0_pay24 (F := Ideal) v (ix3 s 0 j) = v (ix3 s 0 j) := by
  pointwise [k0_pay24]

theorem parts_left (s : Fin 4) (inb) (j : Fin 1536) :
    sc3.view.readCov (run.sl.HS3_2 (F := Ideal) c cs parts fada arg1 harg1 arg2 harg2 arg9) (Rect.unit (s := S4x1x1536) ![s.val, 0, 0] S1x1x1536.size inb).toLoadRect (ix3 0 0 j)
      = M (ModRef.pieceCol s j) := by
  unfold run.sl.HS3_2
  rw [View.readCov_eq_canon']
  have e : (Rect.unit (s := S4x1x1536) ![s.val, 0, 0] S1x1x1536.size inb).toLoadRect.idx (ix3 (0 : Fin 1) (0 : Fin 1) j) = (ix3 s (0 : Fin 1) j : S4x1x1536.Idx) :=
    idx3 (0 : Fin 1) (0 : Fin 1) j s (0 : Fin 1) j rfl rfl (by simp)
  refine (congrArg (View.canon _) e).trans ?_
  refine congrFun (two_left M _ _ (fun j => ?_) (fun s j => ?_)) (ix3 s (0 : Fin 1) j)
  · exact (copy_pay _ j).trans ((own_at c cs fada arg1 harg1 arg9 j).trans (h0 j))
  · have e := idx3 (inb := inb_S4x1x1536_S4x1x1536_0_0_0) s (0 : Fin 1) j s (0 : Fin 1) j (by simp) (by simp) (by simp)
    exact (parts_pay _ s j).trans ((congrFun (readAt_unread harg2 parts _) _).trans ((congrArg parts e).trans (hM s j)))

/-- The modulation. -/
def modv (M : Fin 6144 → Ideal .f32) (b : FVec Ideal S1x6144 .f32) : S1x6144.Idx → Ideal .f32 := fun y => M (y 1) + b (ix2 0 (y 1))

omit h0 hM in
theorem bias_piece (s : Fin 4) (o : ℕ) (ho : o = s.val * 1536) (inb inb') (v : FVec Ideal S1x1x1536 .f32) (hv : ∀ j, v (ix3 0 0 j) = M (ModRef.pieceCol s j))
    (z : (Rect.unit (s := S1x6144) ![0, o] S1x1536.size inb).shape.Idx) :
    k0_pay26 (F := Ideal) v (View.readAt (Elt Ideal) arg4.view (Rect.unit (s := S1x6144) ![0, o] S1x1536.size inb').toLoadRect (harg4.unread b)) z
      = modv M b ((Rect.unit (s := S1x6144) ![0, o] S1x1536.size inb).emb z) := by
  subst ho
  obtain ⟨a, j, rfl⟩ : ∃ (a : Fin 1) (j : Fin 1536), z = ix2 a j := ⟨z 0, z 1, eq_ix2 z⟩
  obtain rfl : a = 0 := Subsingleton.elim _ _
  refine (bias_pay v _ j).trans ?_
  rw [hv, readAt_unread]
  have e := idx2 (inb := inb) (0 : Fin 1) j (0 : Fin 1) (ModRef.pieceCol s j) (by simp) rfl
  exact (congrArg₂ (· + ·) rfl (congrArg b e)).trans (congrArg (modv M b) e).symm

theorem mods_left : View.canon (run.sl.H8_4 (F := Ideal) c cs parts b fada arg1 harg1 arg2 harg2 arg4 harg4 arg9) = modv M b := by
  refine canon_at (View.cover_of_tiledL _ ![1, 1536] (by sl_kernel_rfl)) ?_
  unfold run.sl.H8_4
  exact List.forall_mem_cons.2 ⟨bias_piece b arg4 harg4 M 3 4608 rfl inb_S1x6144_S1x1536_0_4608 inb_S1x6144_S1x1536_0_4608 _ (parts_left c cs parts fada arg1 harg1 arg2 harg2 arg9 M h0 hM 3 inb_S4x1x1536_S1x1x1536_3_0_0), List.forall_mem_cons.2 ⟨bias_piece b arg4 harg4 M 2 3072 rfl inb_S1x6144_S1x1536_0_3072 inb_S1x6144_S1x1536_0_3072 _ (parts_left c cs parts fada arg1 harg1 arg2 harg2 arg9 M h0 hM 2 inb_S4x1x1536_S1x1x1536_2_0_0), List.forall_mem_cons.2 ⟨bias_piece b arg4 harg4 M 1 1536 rfl inb_S1x6144_S1x1536_0_1536 inb_S1x6144_S1x1536_0_1536 _ (parts_left c cs parts fada arg1 harg1 arg2 harg2 arg9 M h0 hM 1 inb_S4x1x1536_S1x1x1536_1_0_0), List.forall_mem_cons.2 ⟨bias_piece b arg4 harg4 M 0 0 rfl inb_S1x6144_S1x1536_0_0 inb_S1x6144_S1x1536_0_0 _ (parts_left c cs parts fada arg1 harg1 arg2 harg2 arg9 M h0 hM 0 inb_S4x1x1536_S1x1x1536_0_0_0), fun _ h => absurd h List.not_mem_nil⟩⟩⟩⟩

theorem mod_read (o : ℕ) (inb) (j : Fin 2048) (q : Fin 6144) (hq : q.val = o + j.val) :
    arg8.view.readCov (run.sl.H8_4 (F := Ideal) c cs parts b fada arg1 harg1 arg2 harg2 arg4 harg4 arg9) (Rect.unit (s := S1x6144) ![0, o] S1x2048.size inb).toLoadRect (ix2 0 j)
      = M q + b (ix2 0 q) := by
  rw [View.readCov_eq_canon', mods_left c cs parts b fada arg1 harg1 arg2 harg2 arg4 harg4 arg9 M h0 hM]
  exact congrArg (modv M b) (idx2 0 j 0 q rfl hq)

/-! ## The modulated sequence and its projection -/

/-- The modulated sequence. -/
def hv (M : Fin 6144 → Ideal .f32) (b : FVec Ideal S1x6144 .f32) (g : FVec Ideal S1x2048 .f32) (X : FVec Ideal S2048x2048 .f32) : S2048x2048.Idx → Ideal .bf16 :=
  fun y => ModRef.norm (fun k => X (ix2 (y 0) k)) (g (ix2 0 (y 1))) (modv M b (ix2 0 (ModRef.scaleCol (y 1)))) (modv M b (ix2 0 (ModRef.shiftCol (y 1)))) (y 1)

theorem h_left : hAll (F := Ideal) c cs parts b g fada fx arg1 harg1 arg2 harg2 arg4 harg4 arg6 harg6 arg8 arg9 = hv M b g (View.read (Elt Ideal) xM.view fx) := by
  unfold hAll
  refine canon_at (hPieces_cover c cs parts b g fada fx arg1 harg1 arg2 harg2 arg4 harg4 arg6 harg6 arg8 arg9) ?_
  unfold hPieces
  refine List.forall_mem_map.2 fun k _ z => ?_
  obtain ⟨i, j, rfl⟩ : ∃ (i : Fin 256) (j : Fin 2048), z = ix2 i j := ⟨z 0, z 1, eq_ix2 z⟩
  have e : ∀ q : Fin 2048, (Rect.unit (s := S2048x2048) ![256 * k.val, 0] S256x2048.size (inb256 k)).toLoadRect.idx (ix2 i q)
      = (ix2 ⟨256 * k.val + i.val, by omega⟩ q : S2048x2048.Idx) := fun q => idx2 _ _ _ _ rfl (by simp)
  refine (norm_pay _ _ _ _ i j).trans ?_
  refine Eq.trans ?_ (congrArg (hv M b g (View.read (Elt Ideal) xM.view fx)) (e j)).symm
  unfold run.sl.v194 run.sl.v200
  rw [mod_read c cs parts b fada arg1 harg1 arg2 harg2 arg4 harg4 arg8 arg9 M h0 hM 2048 _ j (ModRef.scaleCol j) rfl,
    mod_read c cs parts b fada arg1 harg1 arg2 harg2 arg4 harg4 arg8 arg9 M h0 hM 0 _ j (ModRef.shiftCol j) (by simp [ModRef.shiftCol]), readAt_unread]
  have ex : (fun q => slot (xChunk (F := Ideal) c fx k) (ix3 0 i q)) = fun q => View.read (Elt Ideal) xM.view fx (ix2 ⟨256 * k.val + i.val, by omega⟩ q) := by
    funext q
    refine Eq.trans ?_ (congrArg (View.read (Elt Ideal) xM.view fx) (e q))
    refine congrArg (xChunk (F := Ideal) c fx k) ?_
    rw [Equiv.symm_apply_eq]
    exact (Shape.reshapeEquiv_eq_of_rowMajor _ (by
      rw [Shape.rowMajor_val_three, Shape.rowMajor_val_two]
      show (0 * 256 + i.val) * 2048 + q.val = i.val * 2048 + q.val
      omega)).symm
  rw [ex]
  exact congrArg (fun G => ModRef.norm _ G _ _ j) (congrArg g (idx2 (0 : Fin 1) j 0 j rfl (by simp)))

end Modulation

end Cert.ModPoint

end
-- ==== Proof.ModFrame.lean ====
/- The launch of the kernel of the modulation, the norm and the inputs' projection: what it leaves in every buffer. -/
module

public import proofs.«01_k».proof.Proof.ModZ

@[expose] public section

set_option maxRecDepth 16384

noncomputable section

namespace Cert.ModKernelRun

open Cert.ModKernelIdeal Cert.ModKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers and cells the body holds besides the windows -/

abbrev osem0 : Fin 7 → SemLoc sig := fun j =>
  (![SemLoc.dma 6, SemLoc.dma 7, SemLoc.dma 8, SemLoc.dma 9, SemLoc.dma 10, SemLoc.dma 11, SemLoc.dma 12] : Fin 7 → SemLoc sig) j
theorem ownSemFacts0 : Pipeline.OwnSemFacts spec0 osem0 := by decide

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0) := by
  rw [Pipeline.ownSems0_eq_of_list c osem0 [0, 1, 2, 3, 4, 5, 6] (by decide) (by decide)]; rfl

/-- The buffers the body's copies read, and those they write. -/
def H0 : Finset (Ref sig .tc) := {main_v11_0, main_v10, main_arg0}
def R0 : Finset (Ref sig .tc) := {main_v11_3, main_v11_4}
theorem H0_sub : H0 ⊆ Pipeline.restRefs sig spec0 := by decide
theorem R0_sub : R0 ⊆ Pipeline.restRefs sig spec0 \ H0 := by decide

theorem hbmPts0_eq (c : Dev nD) (V : (b : Ref sig .tc) → Buf (Elt F) ((c : Thread nD τ).loc b)) :
    (bigSep H0 (fun b => ((c : Thread nD τ).loc b) ↦{fullShare} V b) : sProp 𝕄)
      = iprop(pt c fullM (V main_v11_0) ∗ pt c adaM (V main_v10) ∗ pt c xM (V main_arg0)) := by
  rw [BI.bigSep_eq_bigSepL_of_eq [main_v11_0, main_v10, main_arg0] (by decide) (by decide)]; rfl

theorem resPts0_eq (c : Dev nD) (G : (b : Ref sig .tc) → Buf (Elt F) ((c : Thread nD τ).loc b)) :
    (bigSep R0 (fun b => ((c : Thread nD τ).loc b) ↦{fullShare} G b) : sProp 𝕄)
      = iprop(pt c hM (G main_v11_3) ∗ pt c zM (G main_v11_4)) := by
  rw [BI.bigSep_eq_bigSepL_of_eq [main_v11_3, main_v11_4] (by decide) (by decide)]; rfl

theorem PhiDRV0_eq (V G : (c : Dev nD) → (b : Ref sig .tc) → Buf (Elt F) ((c : Thread nD τ).loc b)) (c : Dev nD) :
    (Pipeline.ΦDRV osem0 spec0 H0 R0 V G c : sProp 𝕄)
      = iprop(iprop((∃ d, owns (c : Thread nD τ) sc0 fullShare d)
          ∗ (∃ d, owns (c : Thread nD τ) sc1 fullShare d)
          ∗ (∃ d, owns (c : Thread nD τ) sc2 fullShare d)
          ∗ (∃ d, owns (c : Thread nD τ) sc3 fullShare d)
          ∗ (∃ d, owns (c : Thread nD τ) sc4 fullShare d)
          ∗ (∃ d, owns (c : Thread nD τ) sc5 fullShare d)
          ∗ (∃ d, owns (c : Thread nD τ) sc6 fullShare d)
          ∗ (∃ d, owns (c : Thread nD τ) sc7 fullShare d))
          ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0)
          ∗ iprop(pt c fullM (V c main_v11_0) ∗ pt c adaM (V c main_v10) ∗ pt c xM (V c main_arg0))
          ∗ iprop(pt c hM (G c main_v11_3) ∗ pt c zM (G c main_v11_4))) := by
  unfold Pipeline.ΦDRV
  rw [scopedRest0_eq, ownSems00_eq, hbmPts0_eq, resPts0_eq]
  simp only [sc0, sc1, sc2, sc3, sc4, sc5, sc6, sc7, owns_whole]; try rfl

theorem owns_hd (c : Dev nD) {sp : Space} {S : Shape} {e : EltTy} (M : Memref sig .tc sp S e) (d : S.Idx → Elt F e) :
    (owns (c : Thread nD τ) M fullShare d : sProp 𝕄) ⊢ iprop(∃ f, hd c M f) := by
  unfold owns
  iintro ⟨%f, -, H⟩
  iexists f
  iexact H

/-! ## What it leaves -/

/-- The modulated sequence, the stores of the projection, and those of the modulation and of its input. -/
abbrev hAt (c : Dev nD) (t : Fin cfg0.N) : S2048x2048.Idx → Elt F .bf16 :=
  hAll c (iblk m c 0 t) (iblk m c 1 t) (iblk m c 2 t) (iblk m c 3 t) (V m c main_v10) (V m c main_arg0) (st0_0 t) (hstage0_0 0) (st0_1 t) (hstage0_1 0) (st0_2 t) (hstage0_2 0) (st0_3 t) (hstage0_3 0) (st0_4 t) (st0_5 t)
abbrev zAt (c : Dev nD) (t : Fin cfg0.N) : List (View.Piece (Elt F) S2048x5376 .f32) :=
  zPieces c (iblk m c 0 t) (iblk m c 1 t) (iblk m c 2 t) (iblk m c 3 t) (V m c main_v11_0) (V m c main_v10) (V m c main_arg0) (st0_0 t) (hstage0_0 0) (st0_1 t) (hstage0_1 0) (st0_2 t) (hstage0_2 0) (st0_3 t) (hstage0_3 0) (st0_4 t) (st0_5 t)
abbrev modAt (c : Dev nD) (t : Fin cfg0.N) : List (View.Piece (Elt F) S1x6144 .f32) :=
  run.sl.H8_4 c (iblk m c 0 t) (iblk m c 1 t) (iblk m c 2 t) (V m c main_v10) (st0_0 t) (hstage0_0 0) (st0_1 t) (hstage0_1 0) (st0_2 t) (hstage0_2 0) (st0_5 t)
abbrev cactAt (c : Dev nD) (t : Fin cfg0.N) : List (View.Piece (Elt F) S8x2048 .f32) :=
  run.sl.H9_8 c (iblk m c 0 t) (st0_0 t) (hstage0_0 0)

theorem modAt_cover (c : Dev nD) (t : Fin cfg0.N) (y : S1x6144.Idx) : ∃ p ∈ modAt m c t, y ∈ p.1.set :=
  View.cover_of_tiledL _ ![1, 1536] (by sl_kernel_rfl) y
theorem cactAt_cover (c : Dev nD) (t : Fin cfg0.N) (y : S8x2048.Idx) : ∃ p ∈ cactAt m c t, y ∈ p.1.set :=
  View.cover_of_tiledL _ ![1, 2048] (by sl_kernel_rfl) y

/-- The two results left in HBM. -/
def hLeft (c : Dev nD) : Cts (F := F) c hM := View.write (Elt F) hM.view (V m c main_v11_3) (hAt m c t0_0) Finset.univ
def zLeft (c : Dev nD) : Cts (F := F) c zM := zM.view.writes (Elt F) (V m c main_v11_4) (zAt m c t0_0)

def G (c : Dev nD) : (b : Ref sig .tc) → Buf (Elt F) ((c : Thread nD τ).loc b) :=
  Function.update (Function.update (V m c) main_v11_3 (hLeft m c)) main_v11_4 (zLeft m c)

theorem G_z (c : Dev nD) : G m c main_v11_4 = zLeft m c := Function.update_self ..
theorem G_h (c : Dev nD) : G m c main_v11_3 = hLeft m c :=
  (Function.update_of_ne (show main_v11_3 ≠ main_v11_4 by decide) ..).trans (Function.update_self ..)

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => View.canon (modAt m c t)
    | ⟨5, _⟩ => View.canon (cactAt m c t)
  Φ i := if i.val = 0 then Pipeline.ΦDRV osem0 spec0 H0 R0 (V m) (V m) c else Pipeline.ΦDRV osem0 spec0 H0 R0 (V m) (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = View.canon (modAt m c t) := by dsimp only [dats]
theorem after0_5 (c : Dev nD) (t : Fin cfg0.N) : (dats m 0 c).after 5 t = View.canon (cactAt m c t) := by dsimp only [dats]

theorem Phi_first (c : Dev nD) (i : Fin (cfg0.N + 1)) (h : i.val = 0) : (dats m 0 c).Φ i = Pipeline.ΦDRV osem0 spec0 H0 R0 (V m) (V m) c := by
  dsimp only [dats]; exact if_pos h
theorem Phi_last (c : Dev nD) (i : Fin (cfg0.N + 1)) (h : i.val ≠ 0) : (dats m 0 c).Φ i = Pipeline.ΦDRV osem0 spec0 H0 R0 (V m) (G m) c := by
  dsimp only [dats]; exact if_neg h

/-- A window the body only reads holds its block. -/
theorem before0 (c : Dev nD) (t : Fin cfg0.N) :
    (∀ d, (dats m 0 c).before 0 t d = iblk m c 0 t) ∧ (∀ d, (dats m 0 c).before 1 t d = iblk m c 1 t)
      ∧ (∀ d, (dats m 0 c).before 2 t d = iblk m c 2 t) ∧ (∀ d, (dats m 0 c).before 3 t d = iblk m c 3 t) := by
  refine ⟨fun d => ?_, fun d => ?_, fun d => ?_, fun d => ?_⟩
  all_goals
    refine ((dats m 0 c).before_in_eq_fetched _ rfl (fun _ => rfl) (fun _ _ _ => rfl) (fun t => ?_) t d).trans ?_
    · first | rw [after0_0] | rw [after0_1] | rw [after0_2] | rw [after0_3]
      unfold Dat.blockOf iblk; rw [A_eq]; try rfl
    · unfold Dat.fetched Dat.blockOf iblk; rw [A_eq]; try rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  obtain rfl := fin_N0 t
  generalize ht : t0_0 = t
  obtain ⟨b0, b1, b2, b3⟩ := before0 m c t
  unfold bodyPre bodyPost bodyAt0
  rw [Phi_first m c t.castSucc (by subst ht; rfl), Phi_last m c t.succ (Nat.succ_ne_zero _), PhiDRV0_eq, PhiDRV0_eq, G_h, G_z,
    after0_0, after0_1, after0_2, after0_3, after0_4, after0_5]
  simp only [b0, b1, b2, b3]
  unfold Dat.owesAt Pipeline.owesWithin
  rw [show (dats m 0 c).owed t.castSucc = 0 from rfl, show (dats m 0 c).owed t.succ = 0 from rfl]
  iintro ⟨⟨⟨HS0, HS1, HS2, HS3, ⟨%d4, HS4⟩, ⟨%d5, HS5⟩, HS6, ⟨%d7, HS7⟩⟩, ⟨Hq6, Hq7, Hq8, Hq9, Hq10, Hq11, Hq12⟩, ⟨Hfull, Hada, Hx⟩, ⟨Hh, Hz⟩⟩, ⟨%W, -, HW⟩,
    ⟨%e0, H0⟩, ⟨%e1, H1⟩, ⟨%e2, H2⟩, ⟨%e3, H3⟩, ⟨%e4, H4⟩, ⟨%e5, H5⟩⟩
  ihave HS4' := (owns_hd c sc4 d4) $$ HS4
  icases HS4' with ⟨%f4, HS4⟩
  ihave HS5' := (owns_hd c sc5 d5) $$ HS5
  icases HS5' with ⟨%f5, HS5⟩
  ihave HS7' := (owns_hd c sc7 d7) $$ HS7
  icases HS7' with ⟨%f7, HS7⟩
  iapply ((run c (iblk m c 0 t) (iblk m c 1 t) (iblk m c 2 t) (iblk m c 3 t) (V m c main_v11_0) (V m c main_v10) (V m c main_arg0) (V m c main_v11_3) (V m c main_v11_4) f4 f5 f7
    (st0_0 t) (hstage0_0 0) (st0_1 t) (hstage0_1 0) (st0_2 t) (hstage0_2 0) (st0_3 t) (hstage0_3 0) (st0_4 t) (hstage0_4 0) (st0_5 t) (hstage0_5 0)).2 W _)
  isplitl [H0]; · iexact H0
  isplitl [H1]; · iexact H1
  isplitl [H2]; · iexact H2
  isplitl [H3]; · iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hfull]; · iexact Hfull
  isplitl [Hada]; · iexact Hada
  isplitl [Hx]; · iexact Hx
  isplitl [Hh]; · iexact Hh
  isplitl [Hz]; · iexact Hz
  isplitl [HW]; · iexact HW
  iintro ⟨H0, H1, H2, H3, ⟨%g4, H4⟩, ⟨%g5, H5⟩, HS0, HS1, HS2, HS3, HS4, HS5, HS6, HS7, Hq6, Hq7, Hq8, Hq9, Hq10, Hq11, Hq12, Hfull, Hada, Hx, Hh, Hz, ⟨%W', HW'⟩⟩
  ihave Hh' := (Entails.of_eq (congrArg (pt c hM) (left_h c (iblk m c 0 t) (iblk m c 1 t) (iblk m c 2 t) (iblk m c 3 t) (V m c main_v11_0) (V m c main_v10) (V m c main_arg0) (V m c main_v11_3) (V m c main_v11_4) f4 f5 f7
    (st0_0 t) (hstage0_0 0) (st0_1 t) (hstage0_1 0) (st0_2 t) (hstage0_2 0) (st0_3 t) (hstage0_3 0) (st0_4 t) (hstage0_4 0) (st0_5 t) (hstage0_5 0)))) $$ Hh
  ihave Hz' := (Entails.of_eq (congrArg (pt c zM) (left_z c (iblk m c 0 t) (iblk m c 1 t) (iblk m c 2 t) (iblk m c 3 t) (V m c main_v11_0) (V m c main_v10) (V m c main_arg0) (V m c main_v11_3) (V m c main_v11_4) f4 f5 f7
    (st0_0 t) (hstage0_0 0) (st0_1 t) (hstage0_1 0) (st0_2 t) (hstage0_2 0) (st0_3 t) (hstage0_3 0) (st0_4 t) (hstage0_4 0) (st0_5 t) (hstage0_5 0)))) $$ Hz
  isplitl [HS0 HS1 HS2 HS3 HS4 HS5 HS6 HS7 Hq6 Hq7 Hq8 Hq9 Hq10 Hq11 Hq12 Hfull Hada Hx Hh' Hz']
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [Hq6 Hq7 Hq8 Hq9 Hq10 Hq11 Hq12]
    · isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      iexact Hq12
    isplitl [Hfull Hada Hx]
    · isplitl [Hfull]; · iexact Hfull
      isplitl [Hada]; · iexact Hada
      iexact Hx
    subst ht
    isplitl [Hh']; · iexact Hh'
    iexact Hz'
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]
  · unfold owns; iexists _; isplitr
    swap; · iexact H4
    ipureintro; exact View.read_writes_eq_canon _ _ _ (modAt_cover m c t)
  unfold owns; iexists _; isplitr
  swap; · iexact H5
  ipureintro; exact View.read_writes_eq_canon _ _ _ (cactAt_cover m c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2] [hostOps1] (by simp only [List.Forall]; exact ⟨hostOps0_sub, hostOps0_1_sub, hostOps0_2_sub⟩)
    (by simp only [List.Forall]; exact ⟨hostOps0_fresh, hostOps0_1_fresh, hostOps0_2_fresh⟩) main_chain

/-- A buffer after the lines behind the region. -/
abbrev Wend (c : Dev nD) (b : Ref sig .tc) : Buf (Elt F) ((c : Thread nD τ).loc b) :=
  StableHlo.after ([hostOps1] : List (List (HloOp τ sig (Elt F)))).flatten
    (Pipeline.withArrays spec0 c (Pipeline.withR (V0 m c) R0 c (G m c)) fun w => (dats m 0 c).arrAt w cfg0.N) (Proc.devRef .tc b)

set_option backward.isDefEq.respectTransparency.types false in
theorem run_main : θ_run defs (onTc (τ := τ) (main (F := F))) (s₀ m ρ) (fun r =>
    (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = Wend m c b) ∧ r.2.sem = fun _ => 0) :=
  Pipeline.θ_run_frame_dmaR_aroundV (Q' := _) (hQ' := fun _ h => ⟨fun c => h.1 c, h.2⟩) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := A_eq m)
    (hin := fun c => Entails.of_eq (Phi_first m c 0 rfl).symm) (hout := fun c => Entails.of_eq (Phi_last m c (Fin.last _) (by decide)))

/-- A buffer that neither the region nor the lines behind it write. -/
theorem Wend_of (c : Dev nD) (b : Ref sig .tc) (hR : b ∉ R0) (hw : ∀ w, Pipeline.arrRef spec0 w ≠ b)
    (h1 : b ≠ main_v12) (h2 : b ≠ main_v13) : Wend m c b = V m c b := by
  unfold Wend
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.nullary_writes, StableHlo.unary_writes, StableHlo.binary_writes, StableHlo.ternary_writes, StableHlo.quaternary_writes, StableHlo.reshape_writes, StableHlo.binaryIndexed_writes, Finset.mem_singleton]
      exact ⟨StableHlo.devRef_ne_of_ne h1, StableHlo.devRef_ne_of_ne h2⟩)),
    Pipeline.withArrays_of_ne _ c _ _ b hw, Pipeline.withR_of_not_mem _ _ _ _ b hR]

/-- The arguments end as they were. -/
theorem kept (c : Dev nD) (mem : (ℓ : Loc nD τ sig) → Buf (Elt F) ℓ)
    (h : (∀ w, mem ((spec0 w).arr.view.loc (c.tc : Thread nD τ)) = (dats m 0 c).arrAt w cfg0.N)
      ∧ ∀ b ∈ Pipeline.restRefs sig spec0, mem ((c.tc : Thread nD τ).loc b) = Wend m c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5) :=
  ⟨(h.2 main_arg0 (Pipeline.mem_restRefs_of main_arg0 (by decide) (by decide))).trans ((Wend_of m c main_arg0 (by decide) (by decide) (by decide) (by decide)).trans (V_main_arg0 m c)),
    (h.2 main_arg1 (Pipeline.mem_restRefs_of main_arg1 (by decide) (by decide))).trans ((Wend_of m c main_arg1 (by decide) (by decide) (by decide) (by decide)).trans (V_main_arg1 m c)),
    (h.1 3).trans (((dats m 0 c).arrAt_in 3 rfl _).trans ((A_eq m c 3).trans (V_main_arg2 m c))),
    (h.2 main_arg3 (Pipeline.mem_restRefs_of main_arg3 (by decide) (by decide))).trans ((Wend_of m c main_arg3 (by decide) (by decide) (by decide) (by decide)).trans (V_main_arg3 m c)),
    (h.1 2).trans (((dats m 0 c).arrAt_in 2 rfl _).trans ((A_eq m c 2).trans (V_main_arg4 m c))),
    (h.2 main_arg5 (Pipeline.mem_restRefs_of main_arg5 (by decide) (by decide))).trans ((Wend_of m c main_arg5 (by decide) (by decide) (by decide) (by decide)).trans (V_main_arg5 m c))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => kept m c r.2.mem (h.1 c), h.2⟩)
    (run_main m ρ)

end Cert.ModKernelRun

end
-- ==== Proof.ModHost.lean ====
/- What the lines before the kernel of the modulation and the inputs' projection leave as its arguments. -/
module

public import proofs.«01_k».proof.Proof.ModFrame
public import proofs.«01_k».proof.Proof.ModRef
public import Idealize.ShloMosaic.Lib.Pipeline.ValueKit
public import Idealize.ShloMosaic.Lib.Pointwise

@[expose] public section

set_option maxRecDepth 16384

noncomputable section

namespace Cert.ModHost

open Cert.ModKernelIdeal Cert.ModKernelIdeal.Gen Idealize.ShloMosaic Idealize.ShloMosaic.TcCoe Idealize.SL.Sem
open Cert.ModRef (Seq Cond Gain Ada Bias Proj)

variable (m : (ℓ : Loc nD τ sig) → Buf (Elt Ideal) ℓ) (c : Dev nD)

/-- The arguments, as launched. -/
abbrev x : Seq := m ((c : Thread nD τ).loc main_arg0)
abbrev cond : Cond := m ((c : Thread nD τ).loc main_arg1)
abbrev g : Gain := m ((c : Thread nD τ).loc main_arg2)
abbrev w : Ada := m ((c : Thread nD τ).loc main_arg3)
abbrev b : Bias := m ((c : Thread nD τ).loc main_arg4)
abbrev p : Proj := m ((c : Thread nD τ).loc main_arg5)

/-- What the buffers hold after the activation of the first example's condition. -/
abbrev V1 : Valuation τ sig (Elt Ideal) := StableHlo.after hostOps0_1 (StableHlo.after hostOps0 fun b => m (c, b))

theorem V_eq (r : Ref sig .tc) : V m c r = StableHlo.after hostOps0_2 (V1 m c) r := by
  show StableHlo.after (hostOps0 ++ (hostOps0_1 ++ (hostOps0_2 ++ []))) _ _ = _
  rw [StableHlo.after_append, StableHlo.after_append, List.append_nil]

theorem V1_act (k : Fin 2048) : V1 m c (Proc.devRef .tc main_v1) (ix2 0 k) = ModRef.silu (cond m c (ix2 0 k)) := by
  refine Eq.trans (congrFun (g := mulf (F := Ideal) (extractStridedSlice S1x2048 ![0, 0] (cond m c) slices_S8x2048_S1x2048_0_0)
    (Host.divf (broadcastInDim S1x2048 ![] bcast_S_S1x2048 (constant S_ .f32 0x3F800000#32))
      (addf (broadcastInDim S1x2048 ![] bcast_S_S1x2048 (constant S_ .f32 0x3F800000#32))
        (Host.exp (Host.negf (extractStridedSlice S1x2048 ![0, 0] (cond m c) slices_S8x2048_S1x2048_0_0)))))) ?_ _) ?_
  · after_results_simp
    rfl
  · pointwise
    rfl

theorem V1_cond : V1 m c (Proc.devRef .tc main_arg1) = cond m c := by after_results_simp
theorem V1_w : V1 m c (Proc.devRef .tc main_arg3) = w m c := by after_results_simp
theorem V1_p : V1 m c (Proc.devRef .tc main_arg5) = p m c := by after_results_simp

theorem V_cond (i : Fin 8) (k : Fin 2048) : V m c main_v8 (ix3 i 0 k) = cond m c (ix2 i k) := by
  refine Eq.trans (congrFun (g := shapeCast S8x1x2048 (cond m c) shapeCasts_S8x2048_S8x1x2048) ?_ _) ?_
  · rw [V_eq, ← V1_cond]
    after_results_simp
    rfl
  · pointwise

theorem pieces_at (a : FVec Ideal S1x2048 .f32) (B : Ada) (s : Fin 4) (j : Fin 1536) :
    shapeCast S4x1x1536 (Host.dotGeneral (F := Ideal) (φ₁ := .f32) (φ₂ := .f32) dot_S1x2048_S2048x6144_S1x6144_1_0_0_1_n_n none a
      (shapeCast S2048x6144 B shapeCasts_S1x2048x6144_S2048x6144)) shapeCasts_S1x6144_S4x1x1536 (ix3 s 0 j)
      = ∑ k, a (ix2 0 k) * B (ix3 0 k (ModRef.pieceCol s j)) := by
  pointwise
  rfl

theorem V_parts (s : Fin 4) (j : Fin 1536) :
    V m c main_v4 (ix3 s 0 j) = ∑ k, ModRef.silu (cond m c (ix2 0 k)) * w m c (ix3 0 k (ModRef.pieceCol s j)) := by
  refine Eq.trans (congrFun (g := shapeCast S4x1x1536 (Host.dotGeneral (F := Ideal) (φ₁ := .f32) (φ₂ := .f32) dot_S1x2048_S2048x6144_S1x6144_1_0_0_1_n_n none (V1 m c (Proc.devRef .tc main_v1))
    (shapeCast S2048x6144 (w m c) shapeCasts_S1x2048x6144_S2048x6144)) shapeCasts_S1x6144_S4x1x1536) ?_ _) ?_
  · rw [V_eq, ← V1_w]
    after_results_simp
    rfl
  · exact (pieces_at _ _ s j).trans (Finset.sum_congr rfl fun k _ => congrArg (· * _) (V1_act m c k))

theorem V_ada (k : Fin 2048) (j : Fin 1536) : V m c main_v10 (ix2 k j) = w m c (ix3 0 k (ModRef.pieceCol 0 j)) := by
  refine Eq.trans (congrFun (g := shapeCast S2048x1536 (extractStridedSlice S1x2048x1536 ![0, 0, 0] (w m c) slices_S1x2048x6144_S1x2048x1536_0_0_0)
    shapeCasts_S1x2048x1536_S2048x1536) ?_ _) ?_
  · rw [V_eq, ← V1_w]
    after_results_simp
    rfl
  · pointwise
    exact congrArg (w m c) (congrArg (ix3 0 k) (Fin.ext (by simp [ModRef.pieceCol])))

theorem V_full (j : Fin 5376) (k : Fin 2048) : V m c main_v11_0 (ix2 j k) = p m c (ix3 0 k j) := by
  refine Eq.trans (congrFun (g := truncf (F := Ideal) .bf16 (transpose S5376x2048 [1, 0] (shapeCast S2048x5376 (p m c) shapeCasts_S1x2048x5376_S2048x5376)
    transposes_S2048x5376_S5376x2048_1_0) bitsLt_bf16_f32) ?_ _) ?_
  · rw [V_eq, ← V1_p]
    after_results_simp
    rfl
  · pointwise

end Cert.ModHost

end
-- ==== Proof.ModOut.lean ====
/- The entries of the projection the kernel stores, and of every buffer it leaves. -/
module

public import proofs.«01_k».proof.Proof.ModEntries
public import proofs.«01_k».proof.Proof.ModFrame
public import proofs.«01_k».proof.Proof.ModHost
public import Idealize.ShloMosaic.Lib.Pipeline.ValueKit

@[expose] public section

set_option maxRecDepth 16384

noncomputable section

namespace Cert.ModPoint

open Cert.ModKernelIdeal Cert.ModKernelIdeal.Gen Cert.ModKernelRun Cert.Over
open Idealize.ShloMosaic Idealize.ShloMosaic.TcCoe Idealize.SL.Sem

section Projection

variable (c : Dev nD)
  (cs : Vec Ideal S8x1x2048 .f32) (parts : Vec Ideal S4x1x1536 .f32) (b : Vec Ideal S1x6144 .f32) (g : Vec Ideal S1x2048 .f32)
  (ffull : Cts (F := Ideal) c fullM) (fada : Cts (F := Ideal) c adaM) (fx : Cts (F := Ideal) c xM) (fh : Cts (F := Ideal) c hM) (fz : Cts (F := Ideal) c zM)
  (fs4 : Cts (F := Ideal) c sc4) (fs5 : Cts (F := Ideal) c sc5) (fs7 : Cts (F := Ideal) c sc7)
  (arg1 : Memref sig .tc .vmem S8x1x2048 .f32) (harg1 : arg1.IsWhole) (arg2 : Memref sig .tc .vmem S4x1x1536 .f32) (harg2 : arg2.IsWhole)
  (arg4 : Memref sig .tc .vmem S1x6144 .f32) (harg4 : arg4.IsWhole) (arg6 : Memref sig .tc .vmem S1x2048 .f32) (harg6 : arg6.IsWhole)
  (arg8 : Memref sig .tc .vmem S1x6144 .f32) (harg8 : arg8.IsWhole) (arg9 : Memref sig .tc .vmem S8x2048 .f32) (harg9 : arg9.IsWhole)
  (ffull : Cts (F := Ideal) c fullM)

theorem hRows_at (k : Fin 4) (i : Fin 512) (q : Fin 2048) :
    hRows (F := Ideal) c cs parts b g fada fx arg1 harg1 arg2 harg2 arg4 harg4 arg6 harg6 arg8 arg9 k (ix2 i q) = hAll (F := Ideal) c cs parts b g fada fx arg1 harg1 arg2 harg2 arg4 harg4 arg6 harg6 arg8 arg9 (ix2 ⟨512 * k.val + i.val, by omega⟩ q) := by
  unfold hRows
  exact congrArg (hAll (F := Ideal) c cs parts b g fada fx arg1 harg1 arg2 harg2 arg4 harg4 arg6 harg6 arg8 arg9) (idx2 i q ⟨512 * k.val + i.val, by omega⟩ q rfl (by simp))

theorem wTile_at (u : Fin 4) (j : Fin 768) (q : Fin 2048) :
    wTile (F := Ideal) c ffull u (ix2 j q) = View.read (Elt Ideal) fullM.view ffull (ix2 ⟨1536 * u.val + j.val, by omega⟩ q) := by
  have e : (Rect.unit (s := S5376x2048) ![1536 * u.val, 0] S768x2048.size (inb768 u)).toLoadRect.idx (ix2 j q)
      = (ix2 ⟨1536 * u.val + j.val, by omega⟩ q : S5376x2048.Idx) := idx2 _ _ _ _ rfl (by simp)
  exact congrArg (View.read (Elt Ideal) fullM.view ffull) e

/-- The projection of the modulated sequence `h` by the transposed weights `w`. -/
def projv (h : S2048x2048.Idx → Ideal .bf16) (w : S5376x2048.Idx → Ideal .bf16) : S2048x5376.Idx → Ideal .f32 :=
  fun y => ∑ q, h (ix2 (y 0) q) * w (ix2 (y 1) q)

theorem z_piece (u k : Fin 4) (z : S512x768.Idx) :
    zBlock (F := Ideal) c cs parts b g ffull fada fx arg1 harg1 arg2 harg2 arg4 harg4 arg6 harg6 arg8 arg9 u k z
      = projv (hAll (F := Ideal) c cs parts b g fada fx arg1 harg1 arg2 harg2 arg4 harg4 arg6 harg6 arg8 arg9) (View.read (Elt Ideal) fullM.view ffull)
        ((Rect.unit (s := S2048x5376) ![512 * k.val, 1536 * u.val] S512x768.size (inbZ u k)).emb z) := by
  obtain ⟨i, j, rfl⟩ : ∃ (i : Fin 512) (j : Fin 768), z = ix2 i j := ⟨z 0, z 1, eq_ix2 z⟩
  have e : (Rect.unit (s := S2048x5376) ![512 * k.val, 1536 * u.val] S512x768.size (inbZ u k)).toLoadRect.idx (ix2 i j)
      = (ix2 ⟨512 * k.val + i.val, by omega⟩ ⟨1536 * u.val + j.val, by omega⟩ : S2048x5376.Idx) := idx2 _ _ _ _ rfl rfl
  have r : Shape.reshapeEquiv squeezes_S1x512x768_S512x768.numel_eq (ix2 i j : S512x768.Idx) = (ix3 0 i j : S1x512x768.Idx) :=
    Shape.reshapeEquiv_eq_of_rowMajor _ (by
      rw [Shape.rowMajor_val_three, Shape.rowMajor_val_two]
      show (0 * 512 + i.val) * 768 + j.val = i.val * 768 + j.val
      omega)
  refine Eq.trans ?_ (congrArg (projv (hAll (F := Ideal) c cs parts b g fada fx arg1 harg1 arg2 harg2 arg4 harg4 arg6 harg6 arg8 arg9) (View.read (Elt Ideal) fullM.view ffull)) e).symm
  unfold zBlock
  rw [r, proj_pay]
  refine Finset.sum_congr rfl fun q _ => ?_
  rw [hRows_at, wTile_at]
  rfl

theorem z_at (fz : Cts (F := Ideal) c zM) (i : Fin 2048) (u : Fin 4) (q : Fin 768) :
    View.read (Elt Ideal) zM.view (zM.view.writes (Elt Ideal) fz (zPieces (F := Ideal) c cs parts b g ffull fada fx arg1 harg1 arg2 harg2 arg4 harg4 arg6 harg6 arg8 arg9)) (ix2 i (ModRef.evenCol u q))
      = projv (hAll (F := Ideal) c cs parts b g fada fx arg1 harg1 arg2 harg2 arg4 harg4 arg6 harg6 arg8 arg9) (View.read (Elt Ideal) fullM.view ffull) (ix2 i (ModRef.evenCol u q)) := by
  rw [read_writes_over]
  refine over_at ⟨zPiece (F := Ideal) c cs parts b g ffull fada fx arg1 harg1 arg2 harg2 arg4 harg4 arg6 harg6 arg8 arg9 u ⟨i.val / 512, by omega⟩, ?_, ?_⟩ ?_
  · unfold zPieces
    refine List.mem_flatMap.2 ⟨u, ?_, List.mem_map.2 ⟨_, ?_, rfl⟩⟩
    · revert u; decide
    · generalize (⟨i.val / 512, by omega⟩ : Fin 4) = k
      revert k; decide
  · have e : (Rect.unit (s := S2048x5376) ![512 * (i.val / 512), 1536 * u.val] S512x768.size (inbZ u ⟨i.val / 512, by omega⟩)).toLoadRect.idx
        (ix2 (⟨i.val % 512, by omega⟩ : Fin 512) q) = (ix2 i (ModRef.evenCol u q) : S2048x5376.Idx) :=
      idx2 _ _ _ _ (by show i.val = 512 * (i.val / 512) + i.val % 512; omega) (by show 2 * u.val * 768 + q.val = 1536 * u.val + q.val; omega)
    exact Eq.mp (congrArg (fun y => y ∈ (Rect.unit (s := S2048x5376) ![512 * (i.val / 512), 1536 * u.val] S512x768.size (inbZ u ⟨i.val / 512, by omega⟩)).set) e)
      ((Rect.unit (s := S2048x5376) ![512 * (i.val / 512), 1536 * u.val] S512x768.size (inbZ u ⟨i.val / 512, by omega⟩)).toLoadRect.idx_mem _)
  · intro p hp z
    unfold zPieces at hp
    obtain ⟨u', -, hp⟩ := List.mem_flatMap.1 hp
    obtain ⟨k', -, rfl⟩ := List.mem_map.1 hp
    exact z_piece c cs parts b g fada fx arg1 harg1 arg2 harg2 arg4 harg4 arg6 harg6 arg8 arg9 ffull u' k' z

end Projection

/-! ## What the launch leaves -/

section Left

variable (m : (ℓ : Loc nD τ sig) → Buf (Elt Ideal) ℓ) (c : Dev nD)

/-- Every window is its whole array. -/
theorem idx : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ ∀ a, win0_5.index t a = 0 := by decide +kernel

theorem blk0 (t : Fin cfg0.N) (i : Fin 8) (k : Fin 2048) : iblk m c 0 t (ix3 i 0 k) = ModHost.cond m c (ix2 i k) := by
  refine Eq.trans ?_ (ModHost.V_cond m c i k)
  blk_point [iblk, idx t]

theorem blk1 (t : Fin cfg0.N) (s : Fin 4) (j : Fin 1536) :
    iblk m c 1 t (ix3 s 0 j) = ∑ k, ModRef.silu (ModHost.cond m c (ix2 0 k)) * ModHost.w m c (ix3 0 k (ModRef.pieceCol s j)) := by
  refine Eq.trans ?_ (ModHost.V_parts m c s j)
  blk_point [iblk, idx t]

theorem blk2 (t : Fin cfg0.N) (j : Fin 6144) : iblk m c 2 t (ix2 0 j) = ModHost.b m c (ix2 0 j) := by
  refine Eq.trans ?_ (congrFun (V_main_arg4 m c) _)
  blk_point [iblk, idx t]

theorem blk3 (t : Fin cfg0.N) (j : Fin 2048) : iblk m c 3 t (ix2 0 j) = ModHost.g m c (ix2 0 j) := by
  refine Eq.trans ?_ (congrFun (V_main_arg2 m c) _)
  blk_point [iblk, idx t]

/-- The modulation of the first example, without its bias. -/
def M (j : Fin 6144) : Ideal .f32 := ∑ k, ModRef.silu (ModHost.cond m c (ix2 0 k)) * ModHost.w m c (ix3 0 k j)

theorem own_eq (t : Fin cfg0.N) (j : Fin 1536) : own (iblk m c 0 t) (View.read (Elt Ideal) adaM.view (V m c main_v10)) j = M m c (ModRef.pieceCol 0 j) := by
  unfold own M
  refine Finset.sum_congr rfl fun k _ => ?_
  rw [blk0]
  exact congrArg (ModRef.silu (ModHost.cond m c (ix2 0 k)) * ·) (ModHost.V_ada m c k j)

theorem modv_eq (t : Fin cfg0.N) (j : Fin 6144) : modv (M m c) (iblk m c 2 t) (ix2 0 j) = ModRef.mod (ModHost.cond m c) (ModHost.w m c) (ModHost.b m c) j := by
  show M m c j + iblk m c 2 t (ix2 0 j) = _
  rw [blk2]
  rfl

theorem mod_left (t : Fin cfg0.N) : View.canon (modAt m c t) = fun y => ModRef.mod (ModHost.cond m c) (ModHost.w m c) (ModHost.b m c) (y 1) := by
  refine (mods_left c (iblk m c 0 t) (iblk m c 1 t) (iblk m c 2 t) (V m c main_v10) (st0_0 t) (hstage0_0 0) (st0_1 t) (hstage0_1 0) (st0_2 t) (hstage0_2 0) (st0_5 t)
    (M m c) (own_eq m c t) (blk1 m c t)).trans (funext fun y => ?_)
  exact modv_eq m c t (y 1)

theorem cact_left (t : Fin cfg0.N) : View.canon (cactAt m c t) = fun y => ModRef.silu (ModHost.cond m c (ix2 (y 0) (y 1))) := by
  refine (acts_left c (iblk m c 0 t) (st0_0 t) (hstage0_0 0)).trans (funext fun y => ?_)
  exact congrArg ModRef.silu (blk0 m c t (y 0) (y 1))

theorem h_left_at (t : Fin cfg0.N) (i j : Fin 2048) : hAt m c t (ix2 i j)
    = ModRef.modulated (ModHost.x m c) (ModHost.cond m c) (ModHost.g m c) (ModHost.w m c) (ModHost.b m c) i j := by
  refine (congrFun (h_left c (iblk m c 0 t) (iblk m c 1 t) (iblk m c 2 t) (iblk m c 3 t) (V m c main_v10) (V m c main_arg0) (st0_0 t) (hstage0_0 0) (st0_1 t) (hstage0_1 0) (st0_2 t) (hstage0_2 0) (st0_3 t) (hstage0_3 0) (st0_4 t) (st0_5 t)
    (M m c) (own_eq m c t) (blk1 m c t)) _).trans ?_
  show ModRef.norm (fun k => V m c main_arg0 (ix2 i k)) (iblk m c 3 t (ix2 0 j)) (modv (M m c) (iblk m c 2 t) (ix2 0 (ModRef.scaleCol j)))
    (modv (M m c) (iblk m c 2 t) (ix2 0 (ModRef.shiftCol j))) j = _
  rw [modv_eq, modv_eq, blk3, V_main_arg0]
  rfl

theorem z_left_at (i : Fin 2048) (u : Fin 4) (q : Fin 768) : View.read (Elt Ideal) zM.view (zLeft m c) (ix2 i (ModRef.evenCol u q))
    = ModRef.projected (ModHost.x m c) (ModHost.cond m c) (ModHost.g m c) (ModHost.w m c) (ModHost.b m c) (ModHost.p m c) i u q := by
  unfold zLeft
  rw [z_at]
  refine Finset.sum_congr rfl fun k _ => ?_
  exact congrArg₂ (· * ·) (h_left_at m c t0_0 i k) (ModHost.V_full m c (ModRef.evenCol u q) k)

/-! ## The results -/

theorem final4 : (dats m 0 c).arrAt 4 cfg0.N = fun y => ModRef.mod (ModHost.cond m c) (ModHost.w m c) (ModHost.b m c) (y 1) := by
  refine (dats m 0 c).arrAt_eq_of_covers 4 _ (by decide +kernel) fun t _ y => ?_
  blk_simp
  have e : (win0_4.blk t).view.emb y = ix2 (y 0) (y 1) := by blk_ext [idx t]
  rw [after0_4, mod_left, e]
  rfl

theorem final5 : (dats m 0 c).arrAt 5 cfg0.N = fun y => ModRef.silu (ModHost.cond m c (ix2 (y 0) (y 1))) := by
  refine (dats m 0 c).arrAt_eq_of_covers 5 _ (by decide +kernel) fun t _ y => ?_
  blk_simp
  have e : (win0_5.blk t).view.emb y = ix2 (y 0) (y 1) := by blk_ext [idx t]
  rw [after0_5, cact_left, e]
  rfl

end Left

end Cert.ModPoint

end
-- ==== Proof.ModClaim.lean ====
/- The call of the modulation, the norm and the inputs' projection leaves what its reference computes; its frames. -/
module

public import proofs.«01_k».proof.Defs
public import proofs.«01_k».proof.Proof.ModOut
public import proofs.«01_k».proof.Proof.Gen.ModKernel
public import proofs.«01_k».proof.Proof.Gen.ModReferenceIdeal.Run
public import Idealize.ShloMosaic.Lib.Claim

@[expose] public section

set_option maxRecDepth 16384

noncomputable section

namespace Cert.ModClaim

open Cert.ModKernelIdeal Cert.ModKernelIdeal.Gen Cert.ModKernelRun Cert.ModPoint
open Idealize.ShloMosaic Idealize.ShloMosaic.TcCoe Idealize.SL.Sem

section Kernel

variable (m : (ℓ : Loc nD τ sig) → Buf (Elt Ideal) ℓ) (c : Dev nD)

/-- The modulated sequence is left as the launch leaves it. -/
theorem final_h : Wend m c main_v11_3
    = fun y => ModRef.modulated (ModHost.x m c) (ModHost.cond m c) (ModHost.g m c) (ModHost.w m c) (ModHost.b m c) (y 0) (y 1) := by
  have e : Wend m c main_v11_3 = hLeft m c := by
    unfold Wend
    rw [StableHlo.after_of_forall_not_mem (b := Proc.devRef .tc main_v11_3) _ _ (List.forall_iff_forall_mem.mp (by
        simp only [hostOps1, List.flatten_cons, List.flatten_nil, List.append_nil, List.cons_append, List.nil_append, List.Forall,
          StableHlo.unary_writes, StableHlo.reshape_writes, Finset.mem_singleton]
        exact ⟨StableHlo.devRef_ne_of_ne (by decide), StableHlo.devRef_ne_of_ne (by decide)⟩)),
      Pipeline.withArrays_of_ne _ c _ _ main_v11_3 (by decide), Pipeline.withR_of_mem _ _ _ _ main_v11_3 (by decide), G_h]
  rw [e]
  funext y
  unfold hLeft
  refine (congrFun (View.read_write_univ (v := hM.view) (V m c main_v11_3) (hAt m c t0_0)) y).trans ?_
  rw [eq_ix2 y]
  exact h_left_at m c t0_0 (y 0) (y 1)

/-- Every second tile of the columns. -/
abbrev everySecond (A : FVec Ideal S2048x5376 .f32) : FVec Ideal S2048x4x768 .f32 :=
  Host.slice S2048x4x768 ![0, 0, 0] ![1, 2, 1] (shapeCast S2048x7x768 A shapeCasts_S2048x5376_S2048x7x768) slicesBy_S2048x7x768_S2048x4x768_0s1_0s2_0s1

theorem everySecond_at (A : FVec Ideal S2048x5376 .f32) (i : Fin 2048) (u : Fin 4) (q : Fin 768) :
    everySecond A (ix3 i u q) = A (ix2 i (ModRef.evenCol u q)) := by
  pointwise
  rfl

/-- The lines behind the launch keep every second tile of the projection. -/
theorem tiles (W : Valuation τ sig (Elt Ideal)) :
    StableHlo.after hostOps1 W (Proc.devRef .tc main_v13) = everySecond (W (Proc.devRef .tc main_v11_4)) := by
  after_results_simp
  rfl

theorem kept_tiles : Wend m c main_v13 = everySecond (zLeft m c) := by
  refine (tiles (Pipeline.withArrays spec0 c (Pipeline.withR (V0 m c) R0 c (G m c)) fun w => (dats m 0 c).arrAt w cfg0.N)).trans ?_
  rw [Pipeline.withArrays_of_ne _ c _ _ main_v11_4 (by decide), Pipeline.withR_of_mem _ _ _ _ main_v11_4 (by decide), G_z]

/-- The kept tiles of the projection. -/
def projections (y : S2048x4x768.Idx) : Ideal .f32 :=
  ModRef.projected (ModHost.x m c) (ModHost.cond m c) (ModHost.g m c) (ModHost.w m c) (ModHost.b m c) (ModHost.p m c) (y 0) (y 1) (y 2)

theorem z_read (f : Cts (F := Ideal) c zM) : View.read (Elt Ideal) zM.view f = (f : FVec Ideal S2048x5376 .f32) := rfl

theorem kept_at (i : Fin 2048) (u : Fin 4) (q : Fin 768) : everySecond (zLeft m c) (ix3 i u q)
    = ModRef.projected (ModHost.x m c) (ModHost.cond m c) (ModHost.g m c) (ModHost.w m c) (ModHost.b m c) (ModHost.p m c) i u q := by
  refine (everySecond_at _ i u q).trans ?_
  rw [← z_left_at m c i u q, z_read]

theorem projections_eq : everySecond (zLeft m c) = projections m c := by
  generalize hz : everySecond (zLeft m c) = A
  funext y
  obtain ⟨i, u, q, rfl⟩ : ∃ (i : Fin 2048) (u : Fin 4) (q : Fin 768), y = ix3 i u q := ⟨y 0, y 1, y 2, eq_ix3 y⟩
  rw [← hz, kept_at]
  rfl

theorem final_z : Wend m c main_v13 = projections m c := (kept_tiles m c).trans (projections_eq m c)

end Kernel

/-! ## The reference's results -/

theorem modulation (cond : ModRef.Cond) (w : ModRef.Ada) (b : ModRef.Bias) :
    ModReferenceIdeal.Read.val_main_v7 (F := Ideal) cond w b = fun y => ModRef.mod cond w b (y 1) := by
  funext y
  obtain ⟨i, j, rfl⟩ : ∃ (i : Fin 1) (j : Fin 6144), y = ix2 i j := ⟨y 0, y 1, eq_ix2 y⟩
  obtain rfl : i = 0 := Subsingleton.elim _ _
  exact ModRef.mod_at cond w b j

theorem activation (cond : ModRef.Cond) : ModReferenceIdeal.Read.val_main_v0 (F := Ideal) cond = fun y => ModRef.silu (cond (ix2 (y 0) (y 1))) := by
  funext y
  obtain ⟨i, j, rfl⟩ : ∃ (i : Fin 8) (j : Fin 2048), y = ix2 i j := ⟨y 0, y 1, eq_ix2 y⟩
  exact ModRef.silu_at cond i j

theorem sequence (x : ModRef.Seq) (cond : ModRef.Cond) (g : ModRef.Gain) (w : ModRef.Ada) (b : ModRef.Bias) :
    ModReferenceIdeal.Read.val_main_v33 (F := Ideal) x cond g w b = fun y => ModRef.modulated x cond g w b (y 0) (y 1) := by
  funext y
  obtain ⟨i, j, rfl⟩ : ∃ (i : Fin 2048) (j : Fin 2048), y = ix2 i j := ⟨y 0, y 1, eq_ix2 y⟩
  exact ModRef.rounded_at x cond g w b i j

theorem projection (m : (ℓ : Loc nD τ sig) → Buf (Elt Ideal) ℓ) (c : Dev nD) :
    ModReferenceIdeal.Read.val_main_v35 (F := Ideal) (ModHost.x m c) (ModHost.cond m c) (ModHost.g m c) (ModHost.w m c) (ModHost.b m c) (ModHost.p m c)
      = projections m c := by
  funext y
  obtain ⟨i, u, q, rfl⟩ : ∃ (i : Fin 2048) (u : Fin 4) (q : Fin 768), y = ix3 i u q := ⟨y 0, y 1, y 2, eq_ix3 y⟩
  exact ModRef.projected_at _ _ _ _ _ _ i u q

theorem algebraic : Cert.algebraic_ModKernelIdeal_ModReferenceIdeal := by
  pair_intro
  · run_from Cert.ModKernelRun.run_main m g
    · exact (hc.1 c).1 4
    · exact (hc.1 c).1 5
    · exact (hc.1 c).2 main_v11_3 (Pipeline.mem_restRefs_of main_v11_3 (by decide) (by decide))
    · exact (hc.1 c).2 main_v13 (Pipeline.mem_restRefs_of main_v13 (by decide) (by decide))
    · exact (kept m c r.2.mem (hc.1 c)).1
    · exact (kept m c r.2.mem (hc.1 c)).2.1
    · exact (kept m c r.2.mem (hc.1 c)).2.2.1
    · exact (kept m c r.2.mem (hc.1 c)).2.2.2.1
    · exact (kept m c r.2.mem (hc.1 c)).2.2.2.2.1
    · exact (kept m c r.2.mem (hc.1 c)).2.2.2.2.2
  · run_from Cert.ModReferenceIdeal.Value.run m' g'
    · exact ((ModReferenceIdeal.Read.val_main_v7_eq _ _ _).trans (modulation _ _ _)).trans (final4 m c).symm
    · exact ((ModReferenceIdeal.Read.val_main_v0_eq _).trans (activation _)).trans (final5 m c).symm
    · exact ((ModReferenceIdeal.Read.val_main_v33_eq _ _ _ _ _).trans (sequence _ _ _ _ _)).trans (final_h m c).symm
    · exact ((ModReferenceIdeal.Read.val_main_v35_eq _ _ _ _ _ _).trans (projection m c)).trans (final_z m c).symm

theorem kernel : Cert.quiescent_ModKernel := by
  intro m g _
  have h := Cert.ModKernelRun.frame (F := Bits) m g
  refine Eq.mp ?_ h
  sl_kernel_rfl

theorem ideal : Cert.quiescent_ModKernelIdeal := fun m g _ => Cert.ModKernelRun.frame m g

/-- The reference's run leaves its arguments unchanged; the counters because it declares no semaphore. -/
theorem reference : Cert.quiescent_ModReferenceIdeal := by
  intro m g _
  exact (θ_run Cert.ModReferenceIdeal.defs _ _).mono
    (fun r h => ⟨fun c => (h c).2.2.2.2, Idealize.ShloMosaic.sem_eq_zero_of_no_sems (by decide) r.2⟩) (Cert.ModReferenceIdeal.Value.run m g)

end Cert.ModClaim

end
-- ==== Proof.lean ====
/- The certificate: each program's frame, and of each pair that kernel and reference compute the same. -/
module

public import proofs.«01_k».proof.Defs
public import proofs.«01_k».proof.Proof.LossClaim
public import proofs.«01_k».proof.Proof.InpClaim
public import proofs.«01_k».proof.Proof.FwdClaim
public import proofs.«01_k».proof.Proof.MixClaim
public import proofs.«01_k».proof.Proof.MixFrames
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.InpKernel
public import proofs.«01_k».proof.Proof.Gen.InpKernel.Skeleton
public import proofs.«01_k».proof.Proof.Gen.InpKernel.Launch
public import proofs.«01_k».proof.Proof.Gen.InpKernel.Points
public import proofs.«01_k».proof.Proof.Gen.InpKernel.Frame
public import proofs.«01_k».proof.Proof.Gen.InpKernelIdeal
public import proofs.«01_k».proof.Proof.Gen.InpKernelIdeal.Skeleton
public import proofs.«01_k».proof.Proof.Gen.InpKernelIdeal.Launch
public import proofs.«01_k».proof.Proof.Gen.InpKernelIdeal.Points
public import proofs.«01_k».proof.Proof.Gen.InpKernelIdeal.Frame
public import proofs.«01_k».proof.Proof.Gen.InpReferenceIdeal
public import proofs.«01_k».proof.Proof.Gen.Pre_loss_finite
public import proofs.«01_k».proof.Proof.Gen.Pre_inp_finite
public import proofs.«01_k».proof.Proof.Gen.Pre_mix_finite
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.InpKernelIdeal.Value
public import proofs.«01_k».proof.Proof.Gen.InpReferenceIdeal.Run
public import proofs.«01_k».proof.Proof.Gen.InpReferenceIdeal.Read
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.FwdKernel
public import proofs.«01_k».proof.Proof.Gen.FwdKernel.Skeleton
public import proofs.«01_k».proof.Proof.Gen.FwdKernel.Launch
public import proofs.«01_k».proof.Proof.Gen.FwdKernel.Points
public import proofs.«01_k».proof.Proof.Gen.FwdKernel.Frame
public import proofs.«01_k».proof.Proof.Gen.FwdKernelIdeal
public import proofs.«01_k».proof.Proof.Gen.FwdKernelIdeal.Skeleton
public import proofs.«01_k».proof.Proof.Gen.FwdKernelIdeal.Launch
public import proofs.«01_k».proof.Proof.Gen.FwdKernelIdeal.Points
public import proofs.«01_k».proof.Proof.Gen.FwdKernelIdeal.Frame
public import proofs.«01_k».proof.Proof.Gen.FwdReferenceIdeal
public import proofs.«01_k».proof.Proof.Gen.FwdReferenceIdeal.Run
public import proofs.«01_k».proof.Proof.Gen.FwdReferenceIdeal.Read
public import proofs.«01_k».proof.Proof.Gen.Pre_fwd_finite
public import proofs.«01_k».proof.Proof.CotClaim
public import proofs.«01_k».proof.Proof.Gen.CotKernel
public import proofs.«01_k».proof.Proof.Gen.CotKernel.Skeleton
public import proofs.«01_k».proof.Proof.Gen.CotKernel.Launch
public import proofs.«01_k».proof.Proof.Gen.CotKernel.Points
public import proofs.«01_k».proof.Proof.Gen.CotKernel.Frame
public import proofs.«01_k».proof.Proof.Gen.CotKernelIdeal
public import proofs.«01_k».proof.Proof.Gen.CotKernelIdeal.Skeleton
public import proofs.«01_k».proof.Proof.Gen.CotKernelIdeal.Launch
public import proofs.«01_k».proof.Proof.Gen.CotKernelIdeal.Points
public import proofs.«01_k».proof.Proof.Gen.CotKernelIdeal.Frame
public import proofs.«01_k».proof.Proof.Gen.CotReferenceIdeal
public import proofs.«01_k».proof.Proof.Gen.CotReferenceIdeal.Run
public import proofs.«01_k».proof.Proof.WgtClaim
public import proofs.«01_k».proof.Proof.Gen.WgtKernel
public import proofs.«01_k».proof.Proof.Gen.WgtKernel.Skeleton
public import proofs.«01_k».proof.Proof.Gen.WgtKernel.Launch
public import proofs.«01_k».proof.Proof.Gen.WgtKernel.Points
public import proofs.«01_k».proof.Proof.Gen.WgtKernel.Frame
public import proofs.«01_k».proof.Proof.Gen.WgtKernelIdeal
public import proofs.«01_k».proof.Proof.Gen.WgtKernelIdeal.Skeleton
public import proofs.«01_k».proof.Proof.Gen.WgtKernelIdeal.Launch
public import proofs.«01_k».proof.Proof.Gen.WgtKernelIdeal.Points
public import proofs.«01_k».proof.Proof.Gen.WgtKernelIdeal.Frame
public import proofs.«01_k».proof.Proof.Gen.WgtReferenceIdeal
public import proofs.«01_k».proof.Proof.Gen.WgtReferenceIdeal.Run
public import proofs.«01_k».proof.Proof.OddClaim
public import proofs.«01_k».proof.Proof.Gen.OddKernel
public import proofs.«01_k».proof.Proof.Gen.OddKernel.Skeleton
public import proofs.«01_k».proof.Proof.Gen.OddKernel.Launch
public import proofs.«01_k».proof.Proof.Gen.OddKernel.Points
public import proofs.«01_k».proof.Proof.Gen.OddKernel.Frame
public import proofs.«01_k».proof.Proof.Gen.OddKernelIdeal
public import proofs.«01_k».proof.Proof.Gen.OddKernelIdeal.Skeleton
public import proofs.«01_k».proof.Proof.Gen.OddKernelIdeal.Launch
public import proofs.«01_k».proof.Proof.Gen.OddKernelIdeal.Points
public import proofs.«01_k».proof.Proof.Gen.OddKernelIdeal.Frame
public import proofs.«01_k».proof.Proof.Gen.OddReferenceIdeal
public import proofs.«01_k».proof.Proof.Gen.OddReferenceIdeal.Run
public import proofs.«01_k».proof.Proof.RowsClaim
public import proofs.«01_k».proof.Proof.Gen.RowsKernel
public import proofs.«01_k».proof.Proof.Gen.RowsKernel.Skeleton
public import proofs.«01_k».proof.Proof.Gen.RowsKernel.Launch
public import proofs.«01_k».proof.Proof.Gen.RowsKernel.Points
public import proofs.«01_k».proof.Proof.Gen.RowsKernel.Frame
public import proofs.«01_k».proof.Proof.Gen.RowsKernelIdeal
public import proofs.«01_k».proof.Proof.Gen.RowsKernelIdeal.Skeleton
public import proofs.«01_k».proof.Proof.Gen.RowsKernelIdeal.Launch
public import proofs.«01_k».proof.Proof.Gen.RowsKernelIdeal.Points
public import proofs.«01_k».proof.Proof.Gen.RowsKernelIdeal.Frame
public import proofs.«01_k».proof.Proof.Gen.RowsReferenceIdeal
public import proofs.«01_k».proof.Proof.Gen.RowsReferenceIdeal.Run
public import proofs.«01_k».proof.Proof.AdaClaim
public import proofs.«01_k».proof.Proof.Gen.AdaKernel
public import proofs.«01_k».proof.Proof.Gen.AdaKernel.Skeleton
public import proofs.«01_k».proof.Proof.Gen.AdaKernel.Launch
public import proofs.«01_k».proof.Proof.Gen.AdaKernel.Points
public import proofs.«01_k».proof.Proof.Gen.AdaKernel.Frame
public import proofs.«01_k».proof.Proof.Gen.AdaKernelIdeal
public import proofs.«01_k».proof.Proof.Gen.AdaKernelIdeal.Skeleton
public import proofs.«01_k».proof.Proof.Gen.AdaKernelIdeal.Launch
public import proofs.«01_k».proof.Proof.Gen.AdaKernelIdeal.Points
public import proofs.«01_k».proof.Proof.Gen.AdaKernelIdeal.Frame
public import proofs.«01_k».proof.Proof.Gen.AdaReferenceIdeal
public import proofs.«01_k».proof.Proof.Gen.AdaReferenceIdeal.Run
public import proofs.«01_k».proof.Proof.ModClaim
public import proofs.«01_k».proof.Proof.Gen.ModKernel
public import proofs.«01_k».proof.Proof.Gen.ModKernelIdeal
public import proofs.«01_k».proof.Proof.Gen.ModReferenceIdeal
public import Idealize.ShloMosaic.Adequacy
public import Idealize.ShloMosaic.Init

@[expose] public section

noncomputable section

namespace Cert.Proof

open Idealize.ShloMosaic Idealize.SL.Sem Cert.LossKernel

/-- The reference's run leaves its arguments unchanged; the counters because it declares no semaphore. -/
theorem loss_reference : Cert.quiescent_LossReferenceIdeal := by
  intro m g _
  exact (θ_run Cert.LossReferenceIdeal.defs _ _).mono (fun r h => ⟨fun c => (h c).2.2.2.2.2, Idealize.ShloMosaic.sem_eq_zero_of_no_sems (by decide) r.2⟩)
    (Cert.LossReferenceIdeal.Value.run m g)

/-- The reference's run leaves its arguments unchanged; the counters because it declares no semaphore. -/
theorem inp_reference : Cert.quiescent_InpReferenceIdeal := by
  intro m g _
  exact (θ_run Cert.InpReferenceIdeal.defs _ _).mono (fun r h => ⟨fun c => (h c).2.2.2.2, Idealize.ShloMosaic.sem_eq_zero_of_no_sems (by decide) r.2⟩)
    (Cert.InpReferenceIdeal.Value.run m g)

/-- The reference's run leaves its arguments unchanged; the counters because it declares no semaphore. -/
theorem cot_reference : Cert.quiescent_CotReferenceIdeal := by
  intro m g _
  exact (θ_run Cert.CotReferenceIdeal.defs _ _).mono (fun r h => ⟨fun c => (h c).2, Idealize.ShloMosaic.sem_eq_zero_of_no_sems (by decide) r.2⟩)
    (Cert.CotReferenceIdeal.Value.run m g)

/-- The reference's run leaves its arguments unchanged; the counters because it declares no semaphore. -/
theorem wgt_reference : Cert.quiescent_WgtReferenceIdeal := by
  intro m g _
  exact (θ_run Cert.WgtReferenceIdeal.defs _ _).mono (fun r h => ⟨fun c => (h c).2, Idealize.ShloMosaic.sem_eq_zero_of_no_sems (by decide) r.2⟩)
    (Cert.WgtReferenceIdeal.Value.run m g)

/-- The reference's run leaves its arguments unchanged; the counters because it declares no semaphore. -/
theorem odd_reference : Cert.quiescent_OddReferenceIdeal := by
  intro m g _
  exact (θ_run Cert.OddReferenceIdeal.defs _ _).mono (fun r h => ⟨fun c => (h c).2, Idealize.ShloMosaic.sem_eq_zero_of_no_sems (by decide) r.2⟩)
    (Cert.OddReferenceIdeal.Value.run m g)

/-- The reference's run leaves its arguments unchanged; the counters because it declares no semaphore. -/
theorem rows_reference : Cert.quiescent_RowsReferenceIdeal := by
  intro m g _
  exact (θ_run Cert.RowsReferenceIdeal.defs _ _).mono (fun r h => ⟨fun c => (h c).2.2.2.2, Idealize.ShloMosaic.sem_eq_zero_of_no_sems (by decide) r.2⟩)
    (Cert.RowsReferenceIdeal.Value.run m g)

/-- The reference's run leaves its arguments unchanged; the counters because it declares no semaphore. -/
theorem ada_reference : Cert.quiescent_AdaReferenceIdeal := by
  intro m g _
  exact (θ_run Cert.AdaReferenceIdeal.defs _ _).mono (fun r h => ⟨fun c => (h c).2.2.2.2, Idealize.ShloMosaic.sem_eq_zero_of_no_sems (by decide) r.2⟩)
    (Cert.AdaReferenceIdeal.Value.run m g)

/-- The claims of the ten pairs of programs. -/
theorem claim : Cert.Claim := ⟨Cert.LossKernel.Gen.facts, Cert.LossKernelIdeal.Gen.facts, Cert.LossReferenceIdeal.Gen.facts, Cert.InpKernel.Gen.facts, Cert.InpKernelIdeal.Gen.facts, Cert.InpReferenceIdeal.Gen.facts,
  Cert.MixKernel.Gen.facts, Cert.MixKernelIdeal.Gen.facts, Cert.MixReferenceIdeal.Gen.facts, Cert.FwdKernel.Gen.facts, Cert.FwdKernelIdeal.Gen.facts, Cert.FwdReferenceIdeal.Gen.facts,
  Cert.CotKernel.Gen.facts, Cert.CotKernelIdeal.Gen.facts, Cert.CotReferenceIdeal.Gen.facts,
  Cert.WgtKernel.Gen.facts, Cert.WgtKernelIdeal.Gen.facts, Cert.WgtReferenceIdeal.Gen.facts,
  Cert.OddKernel.Gen.facts, Cert.OddKernelIdeal.Gen.facts, Cert.OddReferenceIdeal.Gen.facts,
  Cert.RowsKernel.Gen.facts, Cert.RowsKernelIdeal.Gen.facts, Cert.RowsReferenceIdeal.Gen.facts,
  Cert.AdaKernel.Gen.facts, Cert.AdaKernelIdeal.Gen.facts, Cert.AdaReferenceIdeal.Gen.facts,
  Cert.ModKernel.Gen.facts, Cert.ModKernelIdeal.Gen.facts, Cert.ModReferenceIdeal.Gen.facts,
  Cert.Pre_loss_finite.Gen.facts, Cert.Pre_inp_finite.Gen.facts, Cert.Pre_mix_finite.Gen.facts, Cert.Pre_fwd_finite.Gen.facts,
  fun m g _ => Cert.LossKernel.Gen.frame m g, fun m g _ => Cert.LossKernelIdeal.Gen.frame m g, fun m g _ => Cert.LossKernelIdeal.Gen.frame m g,
  loss_reference, fun m g _ => loss_reference m g trivial,
  fun m g _ => Cert.InpKernel.Gen.frame m g, fun m g _ => Cert.InpKernelIdeal.Gen.frame m g, fun m g _ => Cert.InpKernelIdeal.Gen.frame m g,
  inp_reference, fun m g _ => inp_reference m g trivial,
  MixFrames.kernel, MixFrames.ideal, fun m g _ => MixFrames.ideal m g trivial, MixFrames.reference, fun m g _ => MixFrames.reference m g trivial,
  fun m g _ => Cert.FwdKernel.Gen.frame m g, fun m g _ => Cert.FwdKernelIdeal.Gen.frame m g, fun m g _ => Cert.FwdKernelIdeal.Gen.frame m g,
  MixFrames.forward_reference, fun m g _ => MixFrames.forward_reference m g trivial,
  fun m g _ => Cert.CotKernel.Gen.frame m g, fun m g _ => Cert.CotKernelIdeal.Gen.frame m g, cot_reference,
  fun m g _ => Cert.WgtKernel.Gen.frame m g, fun m g _ => Cert.WgtKernelIdeal.Gen.frame m g, wgt_reference,
  fun m g _ => Cert.OddKernel.Gen.frame m g, fun m g _ => Cert.OddKernelIdeal.Gen.frame m g, odd_reference,
  fun m g _ => Cert.RowsKernel.Gen.frame m g, fun m g _ => Cert.RowsKernelIdeal.Gen.frame m g, rows_reference,
  fun m g _ => Cert.AdaKernel.Gen.frame m g, fun m g _ => Cert.AdaKernelIdeal.Gen.frame m g, ada_reference,
  ModClaim.kernel, ModClaim.ideal, ModClaim.reference,
  trivial, LossClaim.algebraic, trivial, InpClaim.algebraic, trivial, MixClaim.algebraic, trivial, FwdClaim.algebraic,
  trivial, CotClaim.algebraic, trivial, WgtClaim.algebraic, trivial, OddClaim.algebraic, trivial, RowsClaim.algebraic, trivial, AdaClaim.algebraic,
  trivial, ModClaim.algebraic⟩

end Cert.Proof

end
